-- ==== Defs.lean ====
def Pre_Attn (m : (ℓ : Loc Cert.Attn.nD Cert.Attn.τ Cert.Attn.sig) → Buf (Elt Bits) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_MoeSample (m : (ℓ : Loc Cert.MoeSample.nD Cert.MoeSample.τ Cert.MoeSample.sig) → Buf (Elt Bits) ℓ) : Prop :=
  True

def Pre_MoeSampleIdeal (m : (ℓ : Loc Cert.MoeSampleIdeal.nD Cert.MoeSampleIdeal.τ Cert.MoeSampleIdeal.sig) → Buf (Elt Ideal) ℓ) : Prop :=
  True

def Pre_MoeSampleRefIdeal (m : (ℓ : Loc Cert.MoeSampleRefIdeal.nD Cert.MoeSampleRefIdeal.τ Cert.MoeSampleRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleRefIdeal (m : (ℓ : Loc Cert.InProjSampleRefIdeal.nD Cert.InProjSampleRefIdeal.τ Cert.InProjSampleRefIdeal.sig) → Buf (Elt Ideal) ℓ) : Prop :=
  True

def Pre_InKey (m : (ℓ : Loc Cert.InKey.nD Cert.InKey.τ Cert.InKey.sig) → Buf (Elt Bits) ℓ) : Prop :=
  True

def Pre_InKeyIdeal (m : (ℓ : Loc Cert.InKeyIdeal.nD Cert.InKeyIdeal.τ Cert.InKeyIdeal.sig) → Buf (Elt Ideal) ℓ) : Prop :=
  True

def Pre_InKeyIdeal_finite_inputs [hPre_finite_inputs : Cert.Pre_finite_inputs.Facts] (m : (ℓ : Loc Cert.InKeyIdeal.nD Cert.InKeyIdeal.τ Cert.InKeyIdeal.sig) → Buf (Elt Ideal) ℓ) : Prop :=
  ∀ c : Dev Cert.InKeyIdeal.nD,
    (Cert.Pre_finite_inputs.fn (F := Ideal) (m ((c.tc : Thread Cert.InKeyIdeal.nD Cert.InKeyIdeal.τ).loc Cert.InKeyIdeal.main_arg0)) (m ((c.tc : Thread Cert.InKeyIdeal.nD Cert.InKeyIdeal.τ).loc Cert.InKeyIdeal.main_arg1)) (m ((c.tc : Thread Cert.InKeyIdeal.nD Cert.InKeyIdeal.τ).loc Cert.InKeyIdeal.main_arg2)) (m ((c.tc : Thread Cert.InKeyIdeal.nD Cert.InKeyIdeal.τ).loc Cert.InKeyIdeal.main_arg3)) (m ((c.tc : Thread Cert.InKeyIdeal.nD Cert.InKeyIdeal.τ).loc Cert.InKeyIdeal.main_arg4)) (m ((c.tc : Thread Cert.InKeyIdeal.nD Cert.InKeyIdeal.τ).loc Cert.InKeyIdeal.main_arg5))).1 = (fun _ => 1#1)
    ∧ (Cert.Pre_finite_inputs.fn (F := Ideal) (m ((c.tc : Thread Cert.InKeyIdeal.nD Cert.InKeyIdeal.τ).loc Cert.InKeyIdeal.main_arg0)) (m ((c.tc : Thread Cert.InKeyIdeal.nD Cert.InKeyIdeal.τ).loc Cert.InKeyIdeal.main_arg1)) (m ((c.tc : Thread Cert.InKeyIdeal.nD Cert.InKeyIdeal.τ).loc Cert.InKeyIdeal.main_arg2)) (m ((c.tc : Thread Cert.InKeyIdeal.nD Cert.InKeyIdeal.τ).loc Cert.InKeyIdeal.main_arg3)) (m ((c.tc : Thread Cert.InKeyIdeal.nD Cert.InKeyIdeal.τ).loc Cert.InKeyIdeal.main_arg4)) (m ((c.tc : Thread Cert.InKeyIdeal.nD Cert.InKeyIdeal.τ).loc Cert.InKeyIdeal.main_arg5))).2.1 = (fun _ => 1#1)
    ∧ (Cert.Pre_finite_inputs.fn (F := Ideal) (m ((c.tc : Thread Cert.InKeyIdeal.nD Cert.InKeyIdeal.τ).loc Cert.InKeyIdeal.main_arg0)) (m ((c.tc : Thread Cert.InKeyIdeal.nD Cert.InKeyIdeal.τ).loc Cert.InKeyIdeal.main_arg1)) (m ((c.tc : Thread Cert.InKeyIdeal.nD Cert.InKeyIdeal.τ).loc Cert.InKeyIdeal.main_arg2)) (m ((c.tc : Thread Cert.InKeyIdeal.nD Cert.InKeyIdeal.τ).loc Cert.InKeyIdeal.main_arg3)) (m ((c.tc : Thread Cert.InKeyIdeal.nD Cert.InKeyIdeal.τ).loc Cert.InKeyIdeal.main_arg4)) (m ((c.tc : Thread Cert.InKeyIdeal.nD Cert.InKeyIdeal.τ).loc Cert.InKeyIdeal.main_arg5))).2.2.1 = (fun _ => 1#1)
    ∧ (Cert.Pre_finite_inputs.fn (F := Ideal) (m ((c.tc : Thread Cert.InKeyIdeal.nD Cert.InKeyIdeal.τ).loc Cert.InKeyIdeal.main_arg0)) (m ((c.tc : Thread Cert.InKeyIdeal.nD Cert.InKeyIdeal.τ).loc Cert.InKeyIdeal.main_arg1)) (m ((c.tc : Thread Cert.InKeyIdeal.nD Cert.InKeyIdeal.τ).loc Cert.InKeyIdeal.main_arg2)) (m ((c.tc : Thread Cert.InKeyIdeal.nD Cert.InKeyIdeal.τ).loc Cert.InKeyIdeal.main_arg3)) (m ((c.tc : Thread Cert.InKeyIdeal.nD Cert.InKeyIdeal.τ).loc Cert.InKeyIdeal.main_arg4)) (m ((c.tc : Thread Cert.InKeyIdeal.nD Cert.InKeyIdeal.τ).loc Cert.InKeyIdeal.main_arg5))).2.2.2 = (fun _ => 1#1)

def Pre_InKeyRefIdeal (m : (ℓ : Loc Cert.InKeyRefIdeal.nD Cert.InKeyRefIdeal.τ Cert.InKeyRefIdeal.sig) → Buf (Elt Ideal) ℓ) : Prop :=
  True

def Pre_InKeyRefIdeal_finite_inputs [hPre_finite_inputs : Cert.Pre_finite_inputs.Facts] (m : (ℓ : Loc Cert.InKeyRefIdeal.nD Cert.InKeyRefIdeal.τ Cert.InKeyRefIdeal.sig) → Buf (Elt Ideal) ℓ) : Prop :=
  ∀ c : Dev Cert.InKeyRefIdeal.nD,
    (Cert.Pre_finite_inputs.fn (F := Ideal) (m ((c.tc : Thread Cert.InKeyRefIdeal.nD Cert.InKeyRefIdeal.τ).loc Cert.InKeyRefIdeal.main_arg0)) (m ((c.tc : Thread Cert.InKeyRefIdeal.nD Cert.InKeyRefIdeal.τ).loc Cert.InKeyRefIdeal.main_arg1)) (m ((c.tc : Thread Cert.InKeyRefIdeal.nD Cert.InKeyRefIdeal.τ).loc Cert.InKeyRefIdeal.main_arg2)) (m ((c.tc : Thread Cert.InKeyRefIdeal.nD Cert.InKeyRefIdeal.τ).loc Cert.InKeyRefIdeal.main_arg3)) (m ((c.tc : Thread Cert.InKeyRefIdeal.nD Cert.InKeyRefIdeal.τ).loc Cert.InKeyRefIdeal.main_arg4)) (m ((c.tc : Thread Cert.InKeyRefIdeal.nD Cert.InKeyRefIdeal.τ).loc Cert.InKeyRefIdeal.main_arg5))).1 = (fun _ => 1#1)
    ∧ (Cert.Pre_finite_inputs.fn (F := Ideal) (m ((c.tc : Thread Cert.InKeyRefIdeal.nD Cert.InKeyRefIdeal.τ).loc Cert.InKeyRefIdeal.main_arg0)) (m ((c.tc : Thread Cert.InKeyRefIdeal.nD Cert.InKeyRefIdeal.τ).loc Cert.InKeyRefIdeal.main_arg1)) (m ((c.tc : Thread Cert.InKeyRefIdeal.nD Cert.InKeyRefIdeal.τ).loc Cert.InKeyRefIdeal.main_arg2)) (m ((c.tc : Thread Cert.InKeyRefIdeal.nD Cert.InKeyRefIdeal.τ).loc Cert.InKeyRefIdeal.main_arg3)) (m ((c.tc : Thread Cert.InKeyRefIdeal.nD Cert.InKeyRefIdeal.τ).loc Cert.InKeyRefIdeal.main_arg4)) (m ((c.tc : Thread Cert.InKeyRefIdeal.nD Cert.InKeyRefIdeal.τ).loc Cert.InKeyRefIdeal.main_arg5))).2.1 = (fun _ => 1#1)
    ∧ (Cert.Pre_finite_inputs.fn (F := Ideal) (m ((c.tc : Thread Cert.InKeyRefIdeal.nD Cert.InKeyRefIdeal.τ).loc Cert.InKeyRefIdeal.main_arg0)) (m ((c.tc : Thread Cert.InKeyRefIdeal.nD Cert.InKeyRefIdeal.τ).loc Cert.InKeyRefIdeal.main_arg1)) (m ((c.tc : Thread Cert.InKeyRefIdeal.nD Cert.InKeyRefIdeal.τ).loc Cert.InKeyRefIdeal.main_arg2)) (m ((c.tc : Thread Cert.InKeyRefIdeal.nD Cert.InKeyRefIdeal.τ).loc Cert.InKeyRefIdeal.main_arg3)) (m ((c.tc : Thread Cert.InKeyRefIdeal.nD Cert.InKeyRefIdeal.τ).loc Cert.InKeyRefIdeal.main_arg4)) (m ((c.tc : Thread Cert.InKeyRefIdeal.nD Cert.InKeyRefIdeal.τ).loc Cert.InKeyRefIdeal.main_arg5))).2.2.1 = (fun _ => 1#1)
    ∧ (Cert.Pre_finite_inputs.fn (F := Ideal) (m ((c.tc : Thread Cert.InKeyRefIdeal.nD Cert.InKeyRefIdeal.τ).loc Cert.InKeyRefIdeal.main_arg0)) (m ((c.tc : Thread Cert.InKeyRefIdeal.nD Cert.InKeyRefIdeal.τ).loc Cert.InKeyRefIdeal.main_arg1)) (m ((c.tc : Thread Cert.InKeyRefIdeal.nD Cert.InKeyRefIdeal.τ).loc Cert.InKeyRefIdeal.main_arg2)) (m ((c.tc : Thread Cert.InKeyRefIdeal.nD Cert.InKeyRefIdeal.τ).loc Cert.InKeyRefIdeal.main_arg3)) (m ((c.tc : Thread Cert.InKeyRefIdeal.nD Cert.InKeyRefIdeal.τ).loc Cert.InKeyRefIdeal.main_arg4)) (m ((c.tc : Thread Cert.InKeyRefIdeal.nD Cert.InKeyRefIdeal.τ).loc Cert.InKeyRefIdeal.main_arg5))).2.2.2 = (fun _ => 1#1)

def Pre_InKeySample (m : (ℓ : Loc Cert.InKeySample.nD Cert.InKeySample.τ Cert.InKeySample.sig) → Buf (Elt Bits) ℓ) : Prop :=
  True

def Pre_InKeySampleIdeal (m : (ℓ : Loc Cert.InKeySampleIdeal.nD Cert.InKeySampleIdeal.τ Cert.InKeySampleIdeal.sig) → Buf (Elt Ideal) ℓ) : Prop :=
  True

def Pre_InKeySampleIdeal_finite_sample_inputs [hPre_finite_sample_inputs : Cert.Pre_finite_sample_inputs.Facts] (m : (ℓ : Loc Cert.InKeySampleIdeal.nD Cert.InKeySampleIdeal.τ Cert.InKeySampleIdeal.sig) → Buf (Elt Ideal) ℓ) : Prop :=
  ∀ c : Dev Cert.InKeySampleIdeal.nD,
    (Cert.Pre_finite_sample_inputs.fn (F := Ideal) (m ((c.tc : Thread Cert.InKeySampleIdeal.nD Cert.InKeySampleIdeal.τ).loc Cert.InKeySampleIdeal.main_arg0)) (m ((c.tc : Thread Cert.InKeySampleIdeal.nD Cert.InKeySampleIdeal.τ).loc Cert.InKeySampleIdeal.main_arg1)) (m ((c.tc : Thread Cert.InKeySampleIdeal.nD Cert.InKeySampleIdeal.τ).loc Cert.InKeySampleIdeal.main_arg2)) (m ((c.tc : Thread Cert.InKeySampleIdeal.nD Cert.InKeySampleIdeal.τ).loc Cert.InKeySampleIdeal.main_arg3)) (m ((c.tc : Thread Cert.InKeySampleIdeal.nD Cert.InKeySampleIdeal.τ).loc Cert.InKeySampleIdeal.main_arg4)) (m ((c.tc : Thread Cert.InKeySampleIdeal.nD Cert.InKeySampleIdeal.τ).loc Cert.InKeySampleIdeal.main_arg5))).1 = (fun _ => 1#1)
    ∧ (Cert.Pre_finite_sample_inputs.fn (F := Ideal) (m ((c.tc : Thread Cert.InKeySampleIdeal.nD Cert.InKeySampleIdeal.τ).loc Cert.InKeySampleIdeal.main_arg0)) (m ((c.tc : Thread Cert.InKeySampleIdeal.nD Cert.InKeySampleIdeal.τ).loc Cert.InKeySampleIdeal.main_arg1)) (m ((c.tc : Thread Cert.InKeySampleIdeal.nD Cert.InKeySampleIdeal.τ).loc Cert.InKeySampleIdeal.main_arg2)) (m ((c.tc : Thread Cert.InKeySampleIdeal.nD Cert.InKeySampleIdeal.τ).loc Cert.InKeySampleIdeal.main_arg3)) (m ((c.tc : Thread Cert.InKeySampleIdeal.nD Cert.InKeySampleIdeal.τ).loc Cert.InKeySampleIdeal.main_arg4)) (m ((c.tc : Thread Cert.InKeySampleIdeal.nD Cert.InKeySampleIdeal.τ).loc Cert.InKeySampleIdeal.main_arg5))).2.1 = (fun _ => 1#1)
    ∧ (Cert.Pre_finite_sample_inputs.fn (F := Ideal) (m ((c.tc : Thread Cert.InKeySampleIdeal.nD Cert.InKeySampleIdeal.τ).loc Cert.InKeySampleIdeal.main_arg0)) (m ((c.tc : Thread Cert.InKeySampleIdeal.nD Cert.InKeySampleIdeal.τ).loc Cert.InKeySampleIdeal.main_arg1)) (m ((c.tc : Thread Cert.InKeySampleIdeal.nD Cert.InKeySampleIdeal.τ).loc Cert.InKeySampleIdeal.main_arg2)) (m ((c.tc : Thread Cert.InKeySampleIdeal.nD Cert.InKeySampleIdeal.τ).loc Cert.InKeySampleIdeal.main_arg3)) (m ((c.tc : Thread Cert.InKeySampleIdeal.nD Cert.InKeySampleIdeal.τ).loc Cert.InKeySampleIdeal.main_arg4)) (m ((c.tc : Thread Cert.InKeySampleIdeal.nD Cert.InKeySampleIdeal.τ).loc Cert.InKeySampleIdeal.main_arg5))).2.2.1 = (fun _ => 1#1)
    ∧ (Cert.Pre_finite_sample_inputs.fn (F := Ideal) (m ((c.tc : Thread Cert.InKeySampleIdeal.nD Cert.InKeySampleIdeal.τ).loc Cert.InKeySampleIdeal.main_arg0)) (m ((c.tc : Thread Cert.InKeySampleIdeal.nD Cert.InKeySampleIdeal.τ).loc Cert.InKeySampleIdeal.main_arg1)) (m ((c.tc : Thread Cert.InKeySampleIdeal.nD Cert.InKeySampleIdeal.τ).loc Cert.InKeySampleIdeal.main_arg2)) (m ((c.tc : Thread Cert.InKeySampleIdeal.nD Cert.InKeySampleIdeal.τ).loc Cert.InKeySampleIdeal.main_arg3)) (m ((c.tc : Thread Cert.InKeySampleIdeal.nD Cert.InKeySampleIdeal.τ).loc Cert.InKeySampleIdeal.main_arg4)) (m ((c.tc : Thread Cert.InKeySampleIdeal.nD Cert.InKeySampleIdeal.τ).loc Cert.InKeySampleIdeal.main_arg5))).2.2.2 = (fun _ => 1#1)

def Pre_InKeySampleRefIdeal (m : (ℓ : Loc Cert.InKeySampleRefIdeal.nD Cert.InKeySampleRefIdeal.τ Cert.InKeySampleRefIdeal.sig) → Buf (Elt Ideal) ℓ) : Prop :=
  True

def Pre_InKeySampleRefIdeal_finite_sample_inputs [hPre_finite_sample_inputs : Cert.Pre_finite_sample_inputs.Facts] (m : (ℓ : Loc Cert.InKeySampleRefIdeal.nD Cert.InKeySampleRefIdeal.τ Cert.InKeySampleRefIdeal.sig) → Buf (Elt Ideal) ℓ) : Prop :=
  ∀ c : Dev Cert.InKeySampleRefIdeal.nD,
    (Cert.Pre_finite_sample_inputs.fn (F := Ideal) (m ((c.tc : Thread Cert.InKeySampleRefIdeal.nD Cert.InKeySampleRefIdeal.τ).loc Cert.InKeySampleRefIdeal.main_arg0)) (m ((c.tc : Thread Cert.InKeySampleRefIdeal.nD Cert.InKeySampleRefIdeal.τ).loc Cert.InKeySampleRefIdeal.main_arg1)) (m ((c.tc : Thread Cert.InKeySampleRefIdeal.nD Cert.InKeySampleRefIdeal.τ).loc Cert.InKeySampleRefIdeal.main_arg2)) (m ((c.tc : Thread Cert.InKeySampleRefIdeal.nD Cert.InKeySampleRefIdeal.τ).loc Cert.InKeySampleRefIdeal.main_arg3)) (m ((c.tc : Thread Cert.InKeySampleRefIdeal.nD Cert.InKeySampleRefIdeal.τ).loc Cert.InKeySampleRefIdeal.main_arg4)) (m ((c.tc : Thread Cert.InKeySampleRefIdeal.nD Cert.InKeySampleRefIdeal.τ).loc Cert.InKeySampleRefIdeal.main_arg5))).1 = (fun _ => 1#1)
    ∧ (Cert.Pre_finite_sample_inputs.fn (F := Ideal) (m ((c.tc : Thread Cert.InKeySampleRefIdeal.nD Cert.InKeySampleRefIdeal.τ).loc Cert.InKeySampleRefIdeal.main_arg0)) (m ((c.tc : Thread Cert.InKeySampleRefIdeal.nD Cert.InKeySampleRefIdeal.τ).loc Cert.InKeySampleRefIdeal.main_arg1)) (m ((c.tc : Thread Cert.InKeySampleRefIdeal.nD Cert.InKeySampleRefIdeal.τ).loc Cert.InKeySampleRefIdeal.main_arg2)) (m ((c.tc : Thread Cert.InKeySampleRefIdeal.nD Cert.InKeySampleRefIdeal.τ).loc Cert.InKeySampleRefIdeal.main_arg3)) (m ((c.tc : Thread Cert.InKeySampleRefIdeal.nD Cert.InKeySampleRefIdeal.τ).loc Cert.InKeySampleRefIdeal.main_arg4)) (m ((c.tc : Thread Cert.InKeySampleRefIdeal.nD Cert.InKeySampleRefIdeal.τ).loc Cert.InKeySampleRefIdeal.main_arg5))).2.1 = (fun _ => 1#1)
    ∧ (Cert.Pre_finite_sample_inputs.fn (F := Ideal) (m ((c.tc : Thread Cert.InKeySampleRefIdeal.nD Cert.InKeySampleRefIdeal.τ).loc Cert.InKeySampleRefIdeal.main_arg0)) (m ((c.tc : Thread Cert.InKeySampleRefIdeal.nD Cert.InKeySampleRefIdeal.τ).loc Cert.InKeySampleRefIdeal.main_arg1)) (m ((c.tc : Thread Cert.InKeySampleRefIdeal.nD Cert.InKeySampleRefIdeal.τ).loc Cert.InKeySampleRefIdeal.main_arg2)) (m ((c.tc : Thread Cert.InKeySampleRefIdeal.nD Cert.InKeySampleRefIdeal.τ).loc Cert.InKeySampleRefIdeal.main_arg3)) (m ((c.tc : Thread Cert.InKeySampleRefIdeal.nD Cert.InKeySampleRefIdeal.τ).loc Cert.InKeySampleRefIdeal.main_arg4)) (m ((c.tc : Thread Cert.InKeySampleRefIdeal.nD Cert.InKeySampleRefIdeal.τ).loc Cert.InKeySampleRefIdeal.main_arg5))).2.2.1 = (fun _ => 1#1)
    ∧ (Cert.Pre_finite_sample_inputs.fn (F := Ideal) (m ((c.tc : Thread Cert.InKeySampleRefIdeal.nD Cert.InKeySampleRefIdeal.τ).loc Cert.InKeySampleRefIdeal.main_arg0)) (m ((c.tc : Thread Cert.InKeySampleRefIdeal.nD Cert.InKeySampleRefIdeal.τ).loc Cert.InKeySampleRefIdeal.main_arg1)) (m ((c.tc : Thread Cert.InKeySampleRefIdeal.nD Cert.InKeySampleRefIdeal.τ).loc Cert.InKeySampleRefIdeal.main_arg2)) (m ((c.tc : Thread Cert.InKeySampleRefIdeal.nD Cert.InKeySampleRefIdeal.τ).loc Cert.InKeySampleRefIdeal.main_arg3)) (m ((c.tc : Thread Cert.InKeySampleRefIdeal.nD Cert.InKeySampleRefIdeal.τ).loc Cert.InKeySampleRefIdeal.main_arg4)) (m ((c.tc : Thread Cert.InKeySampleRefIdeal.nD Cert.InKeySampleRefIdeal.τ).loc Cert.InKeySampleRefIdeal.main_arg5))).2.2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PostSample (m : (ℓ : Loc Cert.PostSample.nD Cert.PostSample.τ Cert.PostSample.sig) → Buf (Elt Bits) ℓ) : Prop :=
  True

def Pre_PostSampleIdeal (m : (ℓ : Loc Cert.PostSampleIdeal.nD Cert.PostSampleIdeal.τ Cert.PostSampleIdeal.sig) → Buf (Elt Ideal) ℓ) : Prop :=
  True

def Pre_PostSampleRefIdeal (m : (ℓ : Loc Cert.PostSampleRefIdeal.nD Cert.PostSampleRefIdeal.τ Cert.PostSampleRefIdeal.sig) → Buf (Elt Ideal) ℓ) : Prop :=
  True

def Pre_InQuery (m : (ℓ : Loc Cert.InQuery.nD Cert.InQuery.τ Cert.InQuery.sig) → Buf (Elt Bits) ℓ) : Prop :=
  True

def Pre_InQueryIdeal (m : (ℓ : Loc Cert.InQueryIdeal.nD Cert.InQueryIdeal.τ Cert.InQueryIdeal.sig) → Buf (Elt Ideal) ℓ) : Prop :=
  True

def Pre_InQueryIdeal_finite_inputs [hPre_finite_inputs : Cert.Pre_finite_inputs.Facts] (m : (ℓ : Loc Cert.InQueryIdeal.nD Cert.InQueryIdeal.τ Cert.InQueryIdeal.sig) → Buf (Elt Ideal) ℓ) : Prop :=
  ∀ c : Dev Cert.InQueryIdeal.nD,
    (Cert.Pre_finite_inputs.fn (F := Ideal) (m ((c.tc : Thread Cert.InQueryIdeal.nD Cert.InQueryIdeal.τ).loc Cert.InQueryIdeal.main_arg0)) (m ((c.tc : Thread Cert.InQueryIdeal.nD Cert.InQueryIdeal.τ).loc Cert.InQueryIdeal.main_arg1)) (m ((c.tc : Thread Cert.InQueryIdeal.nD Cert.InQueryIdeal.τ).loc Cert.InQueryIdeal.main_arg2)) (m ((c.tc : Thread Cert.InQueryIdeal.nD Cert.InQueryIdeal.τ).loc Cert.InQueryIdeal.main_arg3)) (m ((c.tc : Thread Cert.InQueryIdeal.nD Cert.InQueryIdeal.τ).loc Cert.InQueryIdeal.main_arg4)) (m ((c.tc : Thread Cert.InQueryIdeal.nD Cert.InQueryIdeal.τ).loc Cert.InQueryIdeal.main_arg5))).1 = (fun _ => 1#1)
    ∧ (Cert.Pre_finite_inputs.fn (F := Ideal) (m ((c.tc : Thread Cert.InQueryIdeal.nD Cert.InQueryIdeal.τ).loc Cert.InQueryIdeal.main_arg0)) (m ((c.tc : Thread Cert.InQueryIdeal.nD Cert.InQueryIdeal.τ).loc Cert.InQueryIdeal.main_arg1)) (m ((c.tc : Thread Cert.InQueryIdeal.nD Cert.InQueryIdeal.τ).loc Cert.InQueryIdeal.main_arg2)) (m ((c.tc : Thread Cert.InQueryIdeal.nD Cert.InQueryIdeal.τ).loc Cert.InQueryIdeal.main_arg3)) (m ((c.tc : Thread Cert.InQueryIdeal.nD Cert.InQueryIdeal.τ).loc Cert.InQueryIdeal.main_arg4)) (m ((c.tc : Thread Cert.InQueryIdeal.nD Cert.InQueryIdeal.τ).loc Cert.InQueryIdeal.main_arg5))).2.1 = (fun _ => 1#1)
    ∧ (Cert.Pre_finite_inputs.fn (F := Ideal) (m ((c.tc : Thread Cert.InQueryIdeal.nD Cert.InQueryIdeal.τ).loc Cert.InQueryIdeal.main_arg0)) (m ((c.tc : Thread Cert.InQueryIdeal.nD Cert.InQueryIdeal.τ).loc Cert.InQueryIdeal.main_arg1)) (m ((c.tc : Thread Cert.InQueryIdeal.nD Cert.InQueryIdeal.τ).loc Cert.InQueryIdeal.main_arg2)) (m ((c.tc : Thread Cert.InQueryIdeal.nD Cert.InQueryIdeal.τ).loc Cert.InQueryIdeal.main_arg3)) (m ((c.tc : Thread Cert.InQueryIdeal.nD Cert.InQueryIdeal.τ).loc Cert.InQueryIdeal.main_arg4)) (m ((c.tc : Thread Cert.InQueryIdeal.nD Cert.InQueryIdeal.τ).loc Cert.InQueryIdeal.main_arg5))).2.2.1 = (fun _ => 1#1)
    ∧ (Cert.Pre_finite_inputs.fn (F := Ideal) (m ((c.tc : Thread Cert.InQueryIdeal.nD Cert.InQueryIdeal.τ).loc Cert.InQueryIdeal.main_arg0)) (m ((c.tc : Thread Cert.InQueryIdeal.nD Cert.InQueryIdeal.τ).loc Cert.InQueryIdeal.main_arg1)) (m ((c.tc : Thread Cert.InQueryIdeal.nD Cert.InQueryIdeal.τ).loc Cert.InQueryIdeal.main_arg2)) (m ((c.tc : Thread Cert.InQueryIdeal.nD Cert.InQueryIdeal.τ).loc Cert.InQueryIdeal.main_arg3)) (m ((c.tc : Thread Cert.InQueryIdeal.nD Cert.InQueryIdeal.τ).loc Cert.InQueryIdeal.main_arg4)) (m ((c.tc : Thread Cert.InQueryIdeal.nD Cert.InQueryIdeal.τ).loc Cert.InQueryIdeal.main_arg5))).2.2.2 = (fun _ => 1#1)

def Pre_InQueryRefIdeal (m : (ℓ : Loc Cert.InQueryRefIdeal.nD Cert.InQueryRefIdeal.τ Cert.InQueryRefIdeal.sig) → Buf (Elt Ideal) ℓ) : Prop :=
  True

def Pre_InQueryRefIdeal_finite_inputs [hPre_finite_inputs : Cert.Pre_finite_inputs.Facts] (m : (ℓ : Loc Cert.InQueryRefIdeal.nD Cert.InQueryRefIdeal.τ Cert.InQueryRefIdeal.sig) → Buf (Elt Ideal) ℓ) : Prop :=
  ∀ c : Dev Cert.InQueryRefIdeal.nD,
    (Cert.Pre_finite_inputs.fn (F := Ideal) (m ((c.tc : Thread Cert.InQueryRefIdeal.nD Cert.InQueryRefIdeal.τ).loc Cert.InQueryRefIdeal.main_arg0)) (m ((c.tc : Thread Cert.InQueryRefIdeal.nD Cert.InQueryRefIdeal.τ).loc Cert.InQueryRefIdeal.main_arg1)) (m ((c.tc : Thread Cert.InQueryRefIdeal.nD Cert.InQueryRefIdeal.τ).loc Cert.InQueryRefIdeal.main_arg2)) (m ((c.tc : Thread Cert.InQueryRefIdeal.nD Cert.InQueryRefIdeal.τ).loc Cert.InQueryRefIdeal.main_arg3)) (m ((c.tc : Thread Cert.InQueryRefIdeal.nD Cert.InQueryRefIdeal.τ).loc Cert.InQueryRefIdeal.main_arg4)) (m ((c.tc : Thread Cert.InQueryRefIdeal.nD Cert.InQueryRefIdeal.τ).loc Cert.InQueryRefIdeal.main_arg5))).1 = (fun _ => 1#1)
    ∧ (Cert.Pre_finite_inputs.fn (F := Ideal) (m ((c.tc : Thread Cert.InQueryRefIdeal.nD Cert.InQueryRefIdeal.τ).loc Cert.InQueryRefIdeal.main_arg0)) (m ((c.tc : Thread Cert.InQueryRefIdeal.nD Cert.InQueryRefIdeal.τ).loc Cert.InQueryRefIdeal.main_arg1)) (m ((c.tc : Thread Cert.InQueryRefIdeal.nD Cert.InQueryRefIdeal.τ).loc Cert.InQueryRefIdeal.main_arg2)) (m ((c.tc : Thread Cert.InQueryRefIdeal.nD Cert.InQueryRefIdeal.τ).loc Cert.InQueryRefIdeal.main_arg3)) (m ((c.tc : Thread Cert.InQueryRefIdeal.nD Cert.InQueryRefIdeal.τ).loc Cert.InQueryRefIdeal.main_arg4)) (m ((c.tc : Thread Cert.InQueryRefIdeal.nD Cert.InQueryRefIdeal.τ).loc Cert.InQueryRefIdeal.main_arg5))).2.1 = (fun _ => 1#1)
    ∧ (Cert.Pre_finite_inputs.fn (F := Ideal) (m ((c.tc : Thread Cert.InQueryRefIdeal.nD Cert.InQueryRefIdeal.τ).loc Cert.InQueryRefIdeal.main_arg0)) (m ((c.tc : Thread Cert.InQueryRefIdeal.nD Cert.InQueryRefIdeal.τ).loc Cert.InQueryRefIdeal.main_arg1)) (m ((c.tc : Thread Cert.InQueryRefIdeal.nD Cert.InQueryRefIdeal.τ).loc Cert.InQueryRefIdeal.main_arg2)) (m ((c.tc : Thread Cert.InQueryRefIdeal.nD Cert.InQueryRefIdeal.τ).loc Cert.InQueryRefIdeal.main_arg3)) (m ((c.tc : Thread Cert.InQueryRefIdeal.nD Cert.InQueryRefIdeal.τ).loc Cert.InQueryRefIdeal.main_arg4)) (m ((c.tc : Thread Cert.InQueryRefIdeal.nD Cert.InQueryRefIdeal.τ).loc Cert.InQueryRefIdeal.main_arg5))).2.2.1 = (fun _ => 1#1)
    ∧ (Cert.Pre_finite_inputs.fn (F := Ideal) (m ((c.tc : Thread Cert.InQueryRefIdeal.nD Cert.InQueryRefIdeal.τ).loc Cert.InQueryRefIdeal.main_arg0)) (m ((c.tc : Thread Cert.InQueryRefIdeal.nD Cert.InQueryRefIdeal.τ).loc Cert.InQueryRefIdeal.main_arg1)) (m ((c.tc : Thread Cert.InQueryRefIdeal.nD Cert.InQueryRefIdeal.τ).loc Cert.InQueryRefIdeal.main_arg2)) (m ((c.tc : Thread Cert.InQueryRefIdeal.nD Cert.InQueryRefIdeal.τ).loc Cert.InQueryRefIdeal.main_arg3)) (m ((c.tc : Thread Cert.InQueryRefIdeal.nD Cert.InQueryRefIdeal.τ).loc Cert.InQueryRefIdeal.main_arg4)) (m ((c.tc : Thread Cert.InQueryRefIdeal.nD Cert.InQueryRefIdeal.τ).loc Cert.InQueryRefIdeal.main_arg5))).2.2.2 = (fun _ => 1#1)

def Pre_InIndex (m : (ℓ : Loc Cert.InIndex.nD Cert.InIndex.τ Cert.InIndex.sig) → Buf (Elt Bits) ℓ) : Prop :=
  True

def Pre_InIndexIdeal (m : (ℓ : Loc Cert.InIndexIdeal.nD Cert.InIndexIdeal.τ Cert.InIndexIdeal.sig) → Buf (Elt Ideal) ℓ) : Prop :=
  True

def Pre_InIndexRefIdeal (m : (ℓ : Loc Cert.InIndexRefIdeal.nD Cert.InIndexRefIdeal.τ Cert.InIndexRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeSample [hMoeSample : Cert.MoeSample.Facts] : Prop :=
  ∀ (m : (ℓ : Loc Cert.MoeSample.nD Cert.MoeSample.τ Cert.MoeSample.sig) → Buf (Elt Bits) ℓ) (g : Dev Cert.MoeSample.nD → PrngReg), Pre_MoeSample m →
    θ_run (Cert.MoeSample.defs (F := Bits)) (onTc (τ := Cert.MoeSample.τ) (Cert.MoeSample.main (F := Bits))) ⟨m, fun _ => 0, g⟩ (fun r => (∀ c : Dev Cert.MoeSample.nD,
      r.2.mem ((c.tc : Thread Cert.MoeSample.nD Cert.MoeSample.τ).loc Cert.MoeSample.main_arg0) = m ((c.tc : Thread Cert.MoeSample.nD Cert.MoeSample.τ).loc Cert.MoeSample.main_arg0)
      ∧ r.2.mem ((c.tc : Thread Cert.MoeSample.nD Cert.MoeSample.τ).loc Cert.MoeSample.main_arg1) = m ((c.tc : Thread Cert.MoeSample.nD Cert.MoeSample.τ).loc Cert.MoeSample.main_arg1)
      ∧ r.2.mem ((c.tc : Thread Cert.MoeSample.nD Cert.MoeSample.τ).loc Cert.MoeSample.main_arg2) = m ((c.tc : Thread Cert.MoeSample.nD Cert.MoeSample.τ).loc Cert.MoeSample.main_arg2)
      ∧ r.2.mem ((c.tc : Thread Cert.MoeSample.nD Cert.MoeSample.τ).loc Cert.MoeSample.main_arg3) = m ((c.tc : Thread Cert.MoeSample.nD Cert.MoeSample.τ).loc Cert.MoeSample.main_arg3)
      ∧ r.2.mem ((c.tc : Thread Cert.MoeSample.nD Cert.MoeSample.τ).loc Cert.MoeSample.main_arg4) = m ((c.tc : Thread Cert.MoeSample.nD Cert.MoeSample.τ).loc Cert.MoeSample.main_arg4)
      ∧ r.2.mem ((c.tc : Thread Cert.MoeSample.nD Cert.MoeSample.τ).loc Cert.MoeSample.main_arg5) = m ((c.tc : Thread Cert.MoeSample.nD Cert.MoeSample.τ).loc Cert.MoeSample.main_arg5)
      ∧ r.2.mem ((c.tc : Thread Cert.MoeSample.nD Cert.MoeSample.τ).loc Cert.MoeSample.main_arg6) = m ((c.tc : Thread Cert.MoeSample.nD Cert.MoeSample.τ).loc Cert.MoeSample.main_arg6))
      ∧ r.2.sem = fun _ => 0)

def quiescent_MoeSampleIdeal [hMoeSampleIdeal : Cert.MoeSampleIdeal.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg), Pre_MoeSampleIdeal m →
    θ_run (Cert.MoeSampleIdeal.defs (F := Ideal)) (onTc (τ := Cert.MoeSampleIdeal.τ) (Cert.MoeSampleIdeal.main (F := Ideal))) ⟨m, fun _ => 0, g⟩ (fun r => (∀ c : Dev Cert.MoeSampleIdeal.nD,
      r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
      ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
      ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
      ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
      ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
      ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
      ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6))
      ∧ r.2.sem = fun _ => 0)

def quiescent_MoeSampleRefIdeal [hMoeSampleRefIdeal : Cert.MoeSampleRefIdeal.Facts] : Prop :=
  ∀ (m : (ℓ : Loc Cert.MoeSampleRefIdeal.nD Cert.MoeSampleRefIdeal.τ Cert.MoeSampleRefIdeal.sig) → Buf (Elt Ideal) ℓ) (g : Dev Cert.MoeSampleRefIdeal.nD → PrngReg), Pre_MoeSampleRefIdeal m →
    θ_run (Cert.MoeSampleRefIdeal.defs (F := Ideal)) (onTc (τ := Cert.MoeSampleRefIdeal.τ) (Cert.MoeSampleRefIdeal.main (F := Ideal))) ⟨m, fun _ => 0, g⟩ (fun r => (∀ c : Dev Cert.MoeSampleRefIdeal.nD,
      r.2.mem ((c.tc : Thread Cert.MoeSampleRefIdeal.nD Cert.MoeSampleRefIdeal.τ).loc Cert.MoeSampleRefIdeal.main_arg0) = m ((c.tc : Thread Cert.MoeSampleRefIdeal.nD Cert.MoeSampleRefIdeal.τ).loc Cert.MoeSampleRefIdeal.main_arg0)
      ∧ r.2.mem ((c.tc : Thread Cert.MoeSampleRefIdeal.nD Cert.MoeSampleRefIdeal.τ).loc Cert.MoeSampleRefIdeal.main_arg1) = m ((c.tc : Thread Cert.MoeSampleRefIdeal.nD Cert.MoeSampleRefIdeal.τ).loc Cert.MoeSampleRefIdeal.main_arg1)
      ∧ r.2.mem ((c.tc : Thread Cert.MoeSampleRefIdeal.nD Cert.MoeSampleRefIdeal.τ).loc Cert.MoeSampleRefIdeal.main_arg2) = m ((c.tc : Thread Cert.MoeSampleRefIdeal.nD Cert.MoeSampleRefIdeal.τ).loc Cert.MoeSampleRefIdeal.main_arg2)
      ∧ r.2.mem ((c.tc : Thread Cert.MoeSampleRefIdeal.nD Cert.MoeSampleRefIdeal.τ).loc Cert.MoeSampleRefIdeal.main_arg3) = m ((c.tc : Thread Cert.MoeSampleRefIdeal.nD Cert.MoeSampleRefIdeal.τ).loc Cert.MoeSampleRefIdeal.main_arg3)
      ∧ r.2.mem ((c.tc : Thread Cert.MoeSampleRefIdeal.nD Cert.MoeSampleRefIdeal.τ).loc Cert.MoeSampleRefIdeal.main_arg4) = m ((c.tc : Thread Cert.MoeSampleRefIdeal.nD Cert.MoeSampleRefIdeal.τ).loc Cert.MoeSampleRefIdeal.main_arg4)
      ∧ r.2.mem ((c.tc : Thread Cert.MoeSampleRefIdeal.nD Cert.MoeSampleRefIdeal.τ).loc Cert.MoeSampleRefIdeal.main_arg5) = m ((c.tc : Thread Cert.MoeSampleRefIdeal.nD Cert.MoeSampleRefIdeal.τ).loc Cert.MoeSampleRefIdeal.main_arg5)
      ∧ r.2.mem ((c.tc : Thread Cert.MoeSampleRefIdeal.nD Cert.MoeSampleRefIdeal.τ).loc Cert.MoeSampleRefIdeal.main_arg6) = m ((c.tc : Thread Cert.MoeSampleRefIdeal.nD Cert.MoeSampleRefIdeal.τ).loc Cert.MoeSampleRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2)
      ∧ r.2.mem ((c.tc : Thread Cert.InProjSample.nD Cert.InProjSample.τ).loc Cert.InProjSample.main_arg3) = m ((c.tc : Thread Cert.InProjSample.nD Cert.InProjSample.τ).loc Cert.InProjSample.main_arg3)
      ∧ r.2.mem ((c.tc : Thread Cert.InProjSample.nD Cert.InProjSample.τ).loc Cert.InProjSample.main_arg4) = m ((c.tc : Thread Cert.InProjSample.nD Cert.InProjSample.τ).loc Cert.InProjSample.main_arg4)
      ∧ r.2.mem ((c.tc : Thread Cert.InProjSample.nD Cert.InProjSample.τ).loc Cert.InProjSample.main_arg5) = m ((c.tc : Thread Cert.InProjSample.nD Cert.InProjSample.τ).loc Cert.InProjSample.main_arg5))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
      ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3)
      ∧ r.2.mem ((c.tc : Thread Cert.InProjSampleIdeal.nD Cert.InProjSampleIdeal.τ).loc Cert.InProjSampleIdeal.main_arg4) = m ((c.tc : Thread Cert.InProjSampleIdeal.nD Cert.InProjSampleIdeal.τ).loc Cert.InProjSampleIdeal.main_arg4)
      ∧ r.2.mem ((c.tc : Thread Cert.InProjSampleIdeal.nD Cert.InProjSampleIdeal.τ).loc Cert.InProjSampleIdeal.main_arg5) = m ((c.tc : Thread Cert.InProjSampleIdeal.nD Cert.InProjSampleIdeal.τ).loc Cert.InProjSampleIdeal.main_arg5))
      ∧ r.2.sem = fun _ => 0)

def quiescent_InProjSampleRefIdeal [hInProjSampleRefIdeal : Cert.InProjSampleRefIdeal.Facts] : Prop :=
  ∀ (m : (ℓ : Loc Cert.InProjSampleRefIdeal.nD Cert.InProjSampleRefIdeal.τ Cert.InProjSampleRefIdeal.sig) → Buf (Elt Ideal) ℓ) (g : Dev Cert.InProjSampleRefIdeal.nD → PrngReg), Pre_InProjSampleRefIdeal m →
    θ_run (Cert.InProjSampleRefIdeal.defs (F := Ideal)) (onTc (τ := Cert.InProjSampleRefIdeal.τ) (Cert.InProjSampleRefIdeal.main (F := Ideal))) ⟨m, fun _ => 0, g⟩ (fun r => (∀ c : Dev Cert.InProjSampleRefIdeal.nD,
      r.2.mem ((c.tc : Thread Cert.InProjSampleRefIdeal.nD Cert.InProjSampleRefIdeal.τ).loc Cert.InProjSampleRefIdeal.main_arg0) = m ((c.tc : Thread Cert.InProjSampleRefIdeal.nD Cert.InProjSampleRefIdeal.τ).loc Cert.InProjSampleRefIdeal.main_arg0)
      ∧ r.2.mem ((c.tc : Thread Cert.InProjSampleRefIdeal.nD Cert.InProjSampleRefIdeal.τ).loc Cert.InProjSampleRefIdeal.main_arg1) = m ((c.tc : Thread Cert.InProjSampleRefIdeal.nD Cert.InProjSampleRefIdeal.τ).loc Cert.InProjSampleRefIdeal.main_arg1)
      ∧ r.2.mem ((c.tc : Thread Cert.InProjSampleRefIdeal.nD Cert.InProjSampleRefIdeal.τ).loc Cert.InProjSampleRefIdeal.main_arg2) = m ((c.tc : Thread Cert.InProjSampleRefIdeal.nD Cert.InProjSampleRefIdeal.τ).loc Cert.InProjSampleRefIdeal.main_arg2)
      ∧ r.2.mem ((c.tc : Thread Cert.InProjSampleRefIdeal.nD Cert.InProjSampleRefIdeal.τ).loc Cert.InProjSampleRefIdeal.main_arg3) = m ((c.tc : Thread Cert.InProjSampleRefIdeal.nD Cert.InProjSampleRefIdeal.τ).loc Cert.InProjSampleRefIdeal.main_arg3)
      ∧ r.2.mem ((c.tc : Thread Cert.InProjSampleRefIdeal.nD Cert.InProjSampleRefIdeal.τ).loc Cert.InProjSampleRefIdeal.main_arg4) = m ((c.tc : Thread Cert.InProjSampleRefIdeal.nD Cert.InProjSampleRefIdeal.τ).loc Cert.InProjSampleRefIdeal.main_arg4)
      ∧ r.2.mem ((c.tc : Thread Cert.InProjSampleRefIdeal.nD Cert.InProjSampleRefIdeal.τ).loc Cert.InProjSampleRefIdeal.main_arg5) = m ((c.tc : Thread Cert.InProjSampleRefIdeal.nD Cert.InProjSampleRefIdeal.τ).loc Cert.InProjSampleRefIdeal.main_arg5))
      ∧ r.2.sem = fun _ => 0)

def quiescent_InKey [hInKey : Cert.InKey.Facts] : Prop :=
  ∀ (m : (ℓ : Loc Cert.InKey.nD Cert.InKey.τ Cert.InKey.sig) → Buf (Elt Bits) ℓ) (g : Dev Cert.InKey.nD → PrngReg), Pre_InKey m →
    θ_run (Cert.InKey.defs (F := Bits)) (onTc (τ := Cert.InKey.τ) (Cert.InKey.main (F := Bits))) ⟨m, fun _ => 0, g⟩ (fun r => (∀ c : Dev Cert.InKey.nD,
      r.2.mem ((c.tc : Thread Cert.InKey.nD Cert.InKey.τ).loc Cert.InKey.main_arg0) = m ((c.tc : Thread Cert.InKey.nD Cert.InKey.τ).loc Cert.InKey.main_arg0)
      ∧ r.2.mem ((c.tc : Thread Cert.InKey.nD Cert.InKey.τ).loc Cert.InKey.main_arg1) = m ((c.tc : Thread Cert.InKey.nD Cert.InKey.τ).loc Cert.InKey.main_arg1)
      ∧ r.2.mem ((c.tc : Thread Cert.InKey.nD Cert.InKey.τ).loc Cert.InKey.main_arg2) = m ((c.tc : Thread Cert.InKey.nD Cert.InKey.τ).loc Cert.InKey.main_arg2)
      ∧ r.2.mem ((c.tc : Thread Cert.InKey.nD Cert.InKey.τ).loc Cert.InKey.main_arg3) = m ((c.tc : Thread Cert.InKey.nD Cert.InKey.τ).loc Cert.InKey.main_arg3)
      ∧ r.2.mem ((c.tc : Thread Cert.InKey.nD Cert.InKey.τ).loc Cert.InKey.main_arg4) = m ((c.tc : Thread Cert.InKey.nD Cert.InKey.τ).loc Cert.InKey.main_arg4)
      ∧ r.2.mem ((c.tc : Thread Cert.InKey.nD Cert.InKey.τ).loc Cert.InKey.main_arg5) = m ((c.tc : Thread Cert.InKey.nD Cert.InKey.τ).loc Cert.InKey.main_arg5))
      ∧ r.2.sem = fun _ => 0)

def quiescent_InKeyIdeal [hInKeyIdeal : Cert.InKeyIdeal.Facts] : Prop :=
  ∀ (m : (ℓ : Loc Cert.InKeyIdeal.nD Cert.InKeyIdeal.τ Cert.InKeyIdeal.sig) → Buf (Elt Ideal) ℓ) (g : Dev Cert.InKeyIdeal.nD → PrngReg), Pre_InKeyIdeal m →
    θ_run (Cert.InKeyIdeal.defs (F := Ideal)) (onTc (τ := Cert.InKeyIdeal.τ) (Cert.InKeyIdeal.main (F := Ideal))) ⟨m, fun _ => 0, g⟩ (fun r => (∀ c : Dev Cert.InKeyIdeal.nD,
      r.2.mem ((c.tc : Thread Cert.InKeyIdeal.nD Cert.InKeyIdeal.τ).loc Cert.InKeyIdeal.main_arg0) = m ((c.tc : Thread Cert.InKeyIdeal.nD Cert.InKeyIdeal.τ).loc Cert.InKeyIdeal.main_arg0)
      ∧ r.2.mem ((c.tc : Thread Cert.InKeyIdeal.nD Cert.InKeyIdeal.τ).loc Cert.InKeyIdeal.main_arg1) = m ((c.tc : Thread Cert.InKeyIdeal.nD Cert.InKeyIdeal.τ).loc Cert.InKeyIdeal.main_arg1)
      ∧ r.2.mem ((c.tc : Thread Cert.InKeyIdeal.nD Cert.InKeyIdeal.τ).loc Cert.InKeyIdeal.main_arg2) = m ((c.tc : Thread Cert.InKeyIdeal.nD Cert.InKeyIdeal.τ).loc Cert.InKeyIdeal.main_arg2)
      ∧ r.2.mem ((c.tc : Thread Cert.InKeyIdeal.nD Cert.InKeyIdeal.τ).loc Cert.InKeyIdeal.main_arg3) = m ((c.tc : Thread Cert.InKeyIdeal.nD Cert.InKeyIdeal.τ).loc Cert.InKeyIdeal.main_arg3)
      ∧ r.2.mem ((c.tc : Thread Cert.InKeyIdeal.nD Cert.InKeyIdeal.τ).loc Cert.InKeyIdeal.main_arg4) = m ((c.tc : Thread Cert.InKeyIdeal.nD Cert.InKeyIdeal.τ).loc Cert.InKeyIdeal.main_arg4)
      ∧ r.2.mem ((c.tc : Thread Cert.InKeyIdeal.nD Cert.InKeyIdeal.τ).loc Cert.InKeyIdeal.main_arg5) = m ((c.tc : Thread Cert.InKeyIdeal.nD Cert.InKeyIdeal.τ).loc Cert.InKeyIdeal.main_arg5))
      ∧ r.2.sem = fun _ => 0)

def quiescent_InKeyIdeal_pre_finite_inputs [hInKeyIdeal : Cert.InKeyIdeal.Facts] [hPre_finite_inputs : Cert.Pre_finite_inputs.Facts] : Prop :=
  ∀ (m : (ℓ : Loc Cert.InKeyIdeal.nD Cert.InKeyIdeal.τ Cert.InKeyIdeal.sig) → Buf (Elt Ideal) ℓ) (g : Dev Cert.InKeyIdeal.nD → PrngReg), Pre_InKeyIdeal_finite_inputs m →
    θ_run (Cert.InKeyIdeal.defs (F := Ideal)) (onTc (τ := Cert.InKeyIdeal.τ) (Cert.InKeyIdeal.main (F := Ideal))) ⟨m, fun _ => 0, g⟩ (fun r => (∀ c : Dev Cert.InKeyIdeal.nD,
      r.2.mem ((c.tc : Thread Cert.InKeyIdeal.nD Cert.InKeyIdeal.τ).loc Cert.InKeyIdeal.main_arg0) = m ((c.tc : Thread Cert.InKeyIdeal.nD Cert.InKeyIdeal.τ).loc Cert.InKeyIdeal.main_arg0)
      ∧ r.2.mem ((c.tc : Thread Cert.InKeyIdeal.nD Cert.InKeyIdeal.τ).loc Cert.InKeyIdeal.main_arg1) = m ((c.tc : Thread Cert.InKeyIdeal.nD Cert.InKeyIdeal.τ).loc Cert.InKeyIdeal.main_arg1)
      ∧ r.2.mem ((c.tc : Thread Cert.InKeyIdeal.nD Cert.InKeyIdeal.τ).loc Cert.InKeyIdeal.main_arg2) = m ((c.tc : Thread Cert.InKeyIdeal.nD Cert.InKeyIdeal.τ).loc Cert.InKeyIdeal.main_arg2)
      ∧ r.2.mem ((c.tc : Thread Cert.InKeyIdeal.nD Cert.InKeyIdeal.τ).loc Cert.InKeyIdeal.main_arg3) = m ((c.tc : Thread Cert.InKeyIdeal.nD Cert.InKeyIdeal.τ).loc Cert.InKeyIdeal.main_arg3)
      ∧ r.2.mem ((c.tc : Thread Cert.InKeyIdeal.nD Cert.InKeyIdeal.τ).loc Cert.InKeyIdeal.main_arg4) = m ((c.tc : Thread Cert.InKeyIdeal.nD Cert.InKeyIdeal.τ).loc Cert.InKeyIdeal.main_arg4)
      ∧ r.2.mem ((c.tc : Thread Cert.InKeyIdeal.nD Cert.InKeyIdeal.τ).loc Cert.InKeyIdeal.main_arg5) = m ((c.tc : Thread Cert.InKeyIdeal.nD Cert.InKeyIdeal.τ).loc Cert.InKeyIdeal.main_arg5))
      ∧ r.2.sem = fun _ => 0)

def quiescent_InKeyRefIdeal [hInKeyRefIdeal : Cert.InKeyRefIdeal.Facts] : Prop :=
  ∀ (m : (ℓ : Loc Cert.InKeyRefIdeal.nD Cert.InKeyRefIdeal.τ Cert.InKeyRefIdeal.sig) → Buf (Elt Ideal) ℓ) (g : Dev Cert.InKeyRefIdeal.nD → PrngReg), Pre_InKeyRefIdeal m →
    θ_run (Cert.InKeyRefIdeal.defs (F := Ideal)) (onTc (τ := Cert.InKeyRefIdeal.τ) (Cert.InKeyRefIdeal.main (F := Ideal))) ⟨m, fun _ => 0, g⟩ (fun r => (∀ c : Dev Cert.InKeyRefIdeal.nD,
      r.2.mem ((c.tc : Thread Cert.InKeyRefIdeal.nD Cert.InKeyRefIdeal.τ).loc Cert.InKeyRefIdeal.main_arg0) = m ((c.tc : Thread Cert.InKeyRefIdeal.nD Cert.InKeyRefIdeal.τ).loc Cert.InKeyRefIdeal.main_arg0)
      ∧ r.2.mem ((c.tc : Thread Cert.InKeyRefIdeal.nD Cert.InKeyRefIdeal.τ).loc Cert.InKeyRefIdeal.main_arg1) = m ((c.tc : Thread Cert.InKeyRefIdeal.nD Cert.InKeyRefIdeal.τ).loc Cert.InKeyRefIdeal.main_arg1)
      ∧ r.2.mem ((c.tc : Thread Cert.InKeyRefIdeal.nD Cert.InKeyRefIdeal.τ).loc Cert.InKeyRefIdeal.main_arg2) = m ((c.tc : Thread Cert.InKeyRefIdeal.nD Cert.InKeyRefIdeal.τ).loc Cert.InKeyRefIdeal.main_arg2)
      ∧ r.2.mem ((c.tc : Thread Cert.InKeyRefIdeal.nD Cert.InKeyRefIdeal.τ).loc Cert.InKeyRefIdeal.main_arg3) = m ((c.tc : Thread Cert.InKeyRefIdeal.nD Cert.InKeyRefIdeal.τ).loc Cert.InKeyRefIdeal.main_arg3)
      ∧ r.2.mem ((c.tc : Thread Cert.InKeyRefIdeal.nD Cert.InKeyRefIdeal.τ).loc Cert.InKeyRefIdeal.main_arg4) = m ((c.tc : Thread Cert.InKeyRefIdeal.nD Cert.InKeyRefIdeal.τ).loc Cert.InKeyRefIdeal.main_arg4)
      ∧ r.2.mem ((c.tc : Thread Cert.InKeyRefIdeal.nD Cert.InKeyRefIdeal.τ).loc Cert.InKeyRefIdeal.main_arg5) = m ((c.tc : Thread Cert.InKeyRefIdeal.nD Cert.InKeyRefIdeal.τ).loc Cert.InKeyRefIdeal.main_arg5))
      ∧ r.2.sem = fun _ => 0)

def quiescent_InKeyRefIdeal_pre_finite_inputs [hInKeyRefIdeal : Cert.InKeyRefIdeal.Facts] [hPre_finite_inputs : Cert.Pre_finite_inputs.Facts] : Prop :=
  ∀ (m : (ℓ : Loc Cert.InKeyRefIdeal.nD Cert.InKeyRefIdeal.τ Cert.InKeyRefIdeal.sig) → Buf (Elt Ideal) ℓ) (g : Dev Cert.InKeyRefIdeal.nD → PrngReg), Pre_InKeyRefIdeal_finite_inputs m →
    θ_run (Cert.InKeyRefIdeal.defs (F := Ideal)) (onTc (τ := Cert.InKeyRefIdeal.τ) (Cert.InKeyRefIdeal.main (F := Ideal))) ⟨m, fun _ => 0, g⟩ (fun r => (∀ c : Dev Cert.InKeyRefIdeal.nD,
      r.2.mem ((c.tc : Thread Cert.InKeyRefIdeal.nD Cert.InKeyRefIdeal.τ).loc Cert.InKeyRefIdeal.main_arg0) = m ((c.tc : Thread Cert.InKeyRefIdeal.nD Cert.InKeyRefIdeal.τ).loc Cert.InKeyRefIdeal.main_arg0)
      ∧ r.2.mem ((c.tc : Thread Cert.InKeyRefIdeal.nD Cert.InKeyRefIdeal.τ).loc Cert.InKeyRefIdeal.main_arg1) = m ((c.tc : Thread Cert.InKeyRefIdeal.nD Cert.InKeyRefIdeal.τ).loc Cert.InKeyRefIdeal.main_arg1)
      ∧ r.2.mem ((c.tc : Thread Cert.InKeyRefIdeal.nD Cert.InKeyRefIdeal.τ).loc Cert.InKeyRefIdeal.main_arg2) = m ((c.tc : Thread Cert.InKeyRefIdeal.nD Cert.InKeyRefIdeal.τ).loc Cert.InKeyRefIdeal.main_arg2)
      ∧ r.2.mem ((c.tc : Thread Cert.InKeyRefIdeal.nD Cert.InKeyRefIdeal.τ).loc Cert.InKeyRefIdeal.main_arg3) = m ((c.tc : Thread Cert.InKeyRefIdeal.nD Cert.InKeyRefIdeal.τ).loc Cert.InKeyRefIdeal.main_arg3)
      ∧ r.2.mem ((c.tc : Thread Cert.InKeyRefIdeal.nD Cert.InKeyRefIdeal.τ).loc Cert.InKeyRefIdeal.main_arg4) = m ((c.tc : Thread Cert.InKeyRefIdeal.nD Cert.InKeyRefIdeal.τ).loc Cert.InKeyRefIdeal.main_arg4)
      ∧ r.2.mem ((c.tc : Thread Cert.InKeyRefIdeal.nD Cert.InKeyRefIdeal.τ).loc Cert.InKeyRefIdeal.main_arg5) = m ((c.tc : Thread Cert.InKeyRefIdeal.nD Cert.InKeyRefIdeal.τ).loc Cert.InKeyRefIdeal.main_arg5))
      ∧ r.2.sem = fun _ => 0)

def quiescent_InKeySample [hInKeySample : Cert.InKeySample.Facts] : Prop :=
  ∀ (m : (ℓ : Loc Cert.InKeySample.nD Cert.InKeySample.τ Cert.InKeySample.sig) → Buf (Elt Bits) ℓ) (g : Dev Cert.InKeySample.nD → PrngReg), Pre_InKeySample m →
    θ_run (Cert.InKeySample.defs (F := Bits)) (onTc (τ := Cert.InKeySample.τ) (Cert.InKeySample.main (F := Bits))) ⟨m, fun _ => 0, g⟩ (fun r => (∀ c : Dev Cert.InKeySample.nD,
      r.2.mem ((c.tc : Thread Cert.InKeySample.nD Cert.InKeySample.τ).loc Cert.InKeySample.main_arg0) = m ((c.tc : Thread Cert.InKeySample.nD Cert.InKeySample.τ).loc Cert.InKeySample.main_arg0)
      ∧ r.2.mem ((c.tc : Thread Cert.InKeySample.nD Cert.InKeySample.τ).loc Cert.InKeySample.main_arg1) = m ((c.tc : Thread Cert.InKeySample.nD Cert.InKeySample.τ).loc Cert.InKeySample.main_arg1)
      ∧ r.2.mem ((c.tc : Thread Cert.InKeySample.nD Cert.InKeySample.τ).loc Cert.InKeySample.main_arg2) = m ((c.tc : Thread Cert.InKeySample.nD Cert.InKeySample.τ).loc Cert.InKeySample.main_arg2)
      ∧ r.2.mem ((c.tc : Thread Cert.InKeySample.nD Cert.InKeySample.τ).loc Cert.InKeySample.main_arg3) = m ((c.tc : Thread Cert.InKeySample.nD Cert.InKeySample.τ).loc Cert.InKeySample.main_arg3)
      ∧ r.2.mem ((c.tc : Thread Cert.InKeySample.nD Cert.InKeySample.τ).loc Cert.InKeySample.main_arg4) = m ((c.tc : Thread Cert.InKeySample.nD Cert.InKeySample.τ).loc Cert.InKeySample.main_arg4)
      ∧ r.2.mem ((c.tc : Thread Cert.InKeySample.nD Cert.InKeySample.τ).loc Cert.InKeySample.main_arg5) = m ((c.tc : Thread Cert.InKeySample.nD Cert.InKeySample.τ).loc Cert.InKeySample.main_arg5))
      ∧ r.2.sem = fun _ => 0)

def quiescent_InKeySampleIdeal [hInKeySampleIdeal : Cert.InKeySampleIdeal.Facts] : Prop :=
  ∀ (m : (ℓ : Loc Cert.InKeySampleIdeal.nD Cert.InKeySampleIdeal.τ Cert.InKeySampleIdeal.sig) → Buf (Elt Ideal) ℓ) (g : Dev Cert.InKeySampleIdeal.nD → PrngReg), Pre_InKeySampleIdeal m →
    θ_run (Cert.InKeySampleIdeal.defs (F := Ideal)) (onTc (τ := Cert.InKeySampleIdeal.τ) (Cert.InKeySampleIdeal.main (F := Ideal))) ⟨m, fun _ => 0, g⟩ (fun r => (∀ c : Dev Cert.InKeySampleIdeal.nD,
      r.2.mem ((c.tc : Thread Cert.InKeySampleIdeal.nD Cert.InKeySampleIdeal.τ).loc Cert.InKeySampleIdeal.main_arg0) = m ((c.tc : Thread Cert.InKeySampleIdeal.nD Cert.InKeySampleIdeal.τ).loc Cert.InKeySampleIdeal.main_arg0)
      ∧ r.2.mem ((c.tc : Thread Cert.InKeySampleIdeal.nD Cert.InKeySampleIdeal.τ).loc Cert.InKeySampleIdeal.main_arg1) = m ((c.tc : Thread Cert.InKeySampleIdeal.nD Cert.InKeySampleIdeal.τ).loc Cert.InKeySampleIdeal.main_arg1)
      ∧ r.2.mem ((c.tc : Thread Cert.InKeySampleIdeal.nD Cert.InKeySampleIdeal.τ).loc Cert.InKeySampleIdeal.main_arg2) = m ((c.tc : Thread Cert.InKeySampleIdeal.nD Cert.InKeySampleIdeal.τ).loc Cert.InKeySampleIdeal.main_arg2)
      ∧ r.2.mem ((c.tc : Thread Cert.InKeySampleIdeal.nD Cert.InKeySampleIdeal.τ).loc Cert.InKeySampleIdeal.main_arg3) = m ((c.tc : Thread Cert.InKeySampleIdeal.nD Cert.InKeySampleIdeal.τ).loc Cert.InKeySampleIdeal.main_arg3)
      ∧ r.2.mem ((c.tc : Thread Cert.InKeySampleIdeal.nD Cert.InKeySampleIdeal.τ).loc Cert.InKeySampleIdeal.main_arg4) = m ((c.tc : Thread Cert.InKeySampleIdeal.nD Cert.InKeySampleIdeal.τ).loc Cert.InKeySampleIdeal.main_arg4)
      ∧ r.2.mem ((c.tc : Thread Cert.InKeySampleIdeal.nD Cert.InKeySampleIdeal.τ).loc Cert.InKeySampleIdeal.main_arg5) = m ((c.tc : Thread Cert.InKeySampleIdeal.nD Cert.InKeySampleIdeal.τ).loc Cert.InKeySampleIdeal.main_arg5))
      ∧ r.2.sem = fun _ => 0)

def quiescent_InKeySampleIdeal_pre_finite_sample_inputs [hInKeySampleIdeal : Cert.InKeySampleIdeal.Facts] [hPre_finite_sample_inputs : Cert.Pre_finite_sample_inputs.Facts] : Prop :=
  ∀ (m : (ℓ : Loc Cert.InKeySampleIdeal.nD Cert.InKeySampleIdeal.τ Cert.InKeySampleIdeal.sig) → Buf (Elt Ideal) ℓ) (g : Dev Cert.InKeySampleIdeal.nD → PrngReg), Pre_InKeySampleIdeal_finite_sample_inputs m →
    θ_run (Cert.InKeySampleIdeal.defs (F := Ideal)) (onTc (τ := Cert.InKeySampleIdeal.τ) (Cert.InKeySampleIdeal.main (F := Ideal))) ⟨m, fun _ => 0, g⟩ (fun r => (∀ c : Dev Cert.InKeySampleIdeal.nD,
      r.2.mem ((c.tc : Thread Cert.InKeySampleIdeal.nD Cert.InKeySampleIdeal.τ).loc Cert.InKeySampleIdeal.main_arg0) = m ((c.tc : Thread Cert.InKeySampleIdeal.nD Cert.InKeySampleIdeal.τ).loc Cert.InKeySampleIdeal.main_arg0)
      ∧ r.2.mem ((c.tc : Thread Cert.InKeySampleIdeal.nD Cert.InKeySampleIdeal.τ).loc Cert.InKeySampleIdeal.main_arg1) = m ((c.tc : Thread Cert.InKeySampleIdeal.nD Cert.InKeySampleIdeal.τ).loc Cert.InKeySampleIdeal.main_arg1)
      ∧ r.2.mem ((c.tc : Thread Cert.InKeySampleIdeal.nD Cert.InKeySampleIdeal.τ).loc Cert.InKeySampleIdeal.main_arg2) = m ((c.tc : Thread Cert.InKeySampleIdeal.nD Cert.InKeySampleIdeal.τ).loc Cert.InKeySampleIdeal.main_arg2)
      ∧ r.2.mem ((c.tc : Thread Cert.InKeySampleIdeal.nD Cert.InKeySampleIdeal.τ).loc Cert.InKeySampleIdeal.main_arg3) = m ((c.tc : Thread Cert.InKeySampleIdeal.nD Cert.InKeySampleIdeal.τ).loc Cert.InKeySampleIdeal.main_arg3)
      ∧ r.2.mem ((c.tc : Thread Cert.InKeySampleIdeal.nD Cert.InKeySampleIdeal.τ).loc Cert.InKeySampleIdeal.main_arg4) = m ((c.tc : Thread Cert.InKeySampleIdeal.nD Cert.InKeySampleIdeal.τ).loc Cert.InKeySampleIdeal.main_arg4)
      ∧ r.2.mem ((c.tc : Thread Cert.InKeySampleIdeal.nD Cert.InKeySampleIdeal.τ).loc Cert.InKeySampleIdeal.main_arg5) = m ((c.tc : Thread Cert.InKeySampleIdeal.nD Cert.InKeySampleIdeal.τ).loc Cert.InKeySampleIdeal.main_arg5))
      ∧ r.2.sem = fun _ => 0)

def quiescent_InKeySampleRefIdeal [hInKeySampleRefIdeal : Cert.InKeySampleRefIdeal.Facts] : Prop :=
  ∀ (m : (ℓ : Loc Cert.InKeySampleRefIdeal.nD Cert.InKeySampleRefIdeal.τ Cert.InKeySampleRefIdeal.sig) → Buf (Elt Ideal) ℓ) (g : Dev Cert.InKeySampleRefIdeal.nD → PrngReg), Pre_InKeySampleRefIdeal m →
    θ_run (Cert.InKeySampleRefIdeal.defs (F := Ideal)) (onTc (τ := Cert.InKeySampleRefIdeal.τ) (Cert.InKeySampleRefIdeal.main (F := Ideal))) ⟨m, fun _ => 0, g⟩ (fun r => (∀ c : Dev Cert.InKeySampleRefIdeal.nD,
      r.2.mem ((c.tc : Thread Cert.InKeySampleRefIdeal.nD Cert.InKeySampleRefIdeal.τ).loc Cert.InKeySampleRefIdeal.main_arg0) = m ((c.tc : Thread Cert.InKeySampleRefIdeal.nD Cert.InKeySampleRefIdeal.τ).loc Cert.InKeySampleRefIdeal.main_arg0)
      ∧ r.2.mem ((c.tc : Thread Cert.InKeySampleRefIdeal.nD Cert.InKeySampleRefIdeal.τ).loc Cert.InKeySampleRefIdeal.main_arg1) = m ((c.tc : Thread Cert.InKeySampleRefIdeal.nD Cert.InKeySampleRefIdeal.τ).loc Cert.InKeySampleRefIdeal.main_arg1)
      ∧ r.2.mem ((c.tc : Thread Cert.InKeySampleRefIdeal.nD Cert.InKeySampleRefIdeal.τ).loc Cert.InKeySampleRefIdeal.main_arg2) = m ((c.tc : Thread Cert.InKeySampleRefIdeal.nD Cert.InKeySampleRefIdeal.τ).loc Cert.InKeySampleRefIdeal.main_arg2)
      ∧ r.2.mem ((c.tc : Thread Cert.InKeySampleRefIdeal.nD Cert.InKeySampleRefIdeal.τ).loc Cert.InKeySampleRefIdeal.main_arg3) = m ((c.tc : Thread Cert.InKeySampleRefIdeal.nD Cert.InKeySampleRefIdeal.τ).loc Cert.InKeySampleRefIdeal.main_arg3)
      ∧ r.2.mem ((c.tc : Thread Cert.InKeySampleRefIdeal.nD Cert.InKeySampleRefIdeal.τ).loc Cert.InKeySampleRefIdeal.main_arg4) = m ((c.tc : Thread Cert.InKeySampleRefIdeal.nD Cert.InKeySampleRefIdeal.τ).loc Cert.InKeySampleRefIdeal.main_arg4)
      ∧ r.2.mem ((c.tc : Thread Cert.InKeySampleRefIdeal.nD Cert.InKeySampleRefIdeal.τ).loc Cert.InKeySampleRefIdeal.main_arg5) = m ((c.tc : Thread Cert.InKeySampleRefIdeal.nD Cert.InKeySampleRefIdeal.τ).loc Cert.InKeySampleRefIdeal.main_arg5))
      ∧ r.2.sem = fun _ => 0)

def quiescent_InKeySampleRefIdeal_pre_finite_sample_inputs [hInKeySampleRefIdeal : Cert.InKeySampleRefIdeal.Facts] [hPre_finite_sample_inputs : Cert.Pre_finite_sample_inputs.Facts] : Prop :=
  ∀ (m : (ℓ : Loc Cert.InKeySampleRefIdeal.nD Cert.InKeySampleRefIdeal.τ Cert.InKeySampleRefIdeal.sig) → Buf (Elt Ideal) ℓ) (g : Dev Cert.InKeySampleRefIdeal.nD → PrngReg), Pre_InKeySampleRefIdeal_finite_sample_inputs m →
    θ_run (Cert.InKeySampleRefIdeal.defs (F := Ideal)) (onTc (τ := Cert.InKeySampleRefIdeal.τ) (Cert.InKeySampleRefIdeal.main (F := Ideal))) ⟨m, fun _ => 0, g⟩ (fun r => (∀ c : Dev Cert.InKeySampleRefIdeal.nD,
      r.2.mem ((c.tc : Thread Cert.InKeySampleRefIdeal.nD Cert.InKeySampleRefIdeal.τ).loc Cert.InKeySampleRefIdeal.main_arg0) = m ((c.tc : Thread Cert.InKeySampleRefIdeal.nD Cert.InKeySampleRefIdeal.τ).loc Cert.InKeySampleRefIdeal.main_arg0)
      ∧ r.2.mem ((c.tc : Thread Cert.InKeySampleRefIdeal.nD Cert.InKeySampleRefIdeal.τ).loc Cert.InKeySampleRefIdeal.main_arg1) = m ((c.tc : Thread Cert.InKeySampleRefIdeal.nD Cert.InKeySampleRefIdeal.τ).loc Cert.InKeySampleRefIdeal.main_arg1)
      ∧ r.2.mem ((c.tc : Thread Cert.InKeySampleRefIdeal.nD Cert.InKeySampleRefIdeal.τ).loc Cert.InKeySampleRefIdeal.main_arg2) = m ((c.tc : Thread Cert.InKeySampleRefIdeal.nD Cert.InKeySampleRefIdeal.τ).loc Cert.InKeySampleRefIdeal.main_arg2)
      ∧ r.2.mem ((c.tc : Thread Cert.InKeySampleRefIdeal.nD Cert.InKeySampleRefIdeal.τ).loc Cert.InKeySampleRefIdeal.main_arg3) = m ((c.tc : Thread Cert.InKeySampleRefIdeal.nD Cert.InKeySampleRefIdeal.τ).loc Cert.InKeySampleRefIdeal.main_arg3)
      ∧ r.2.mem ((c.tc : Thread Cert.InKeySampleRefIdeal.nD Cert.InKeySampleRefIdeal.τ).loc Cert.InKeySampleRefIdeal.main_arg4) = m ((c.tc : Thread Cert.InKeySampleRefIdeal.nD Cert.InKeySampleRefIdeal.τ).loc Cert.InKeySampleRefIdeal.main_arg4)
      ∧ r.2.mem ((c.tc : Thread Cert.InKeySampleRefIdeal.nD Cert.InKeySampleRefIdeal.τ).loc Cert.InKeySampleRefIdeal.main_arg5) = m ((c.tc : Thread Cert.InKeySampleRefIdeal.nD Cert.InKeySampleRefIdeal.τ).loc Cert.InKeySampleRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_PostSample [hPostSample : Cert.PostSample.Facts] : Prop :=
  ∀ (m : (ℓ : Loc Cert.PostSample.nD Cert.PostSample.τ Cert.PostSample.sig) → Buf (Elt Bits) ℓ) (g : Dev Cert.PostSample.nD → PrngReg), Pre_PostSample m →
    θ_run (Cert.PostSample.defs (F := Bits)) (onTc (τ := Cert.PostSample.τ) (Cert.PostSample.main (F := Bits))) ⟨m, fun _ => 0, g⟩ (fun r => (∀ c : Dev Cert.PostSample.nD,
      r.2.mem ((c.tc : Thread Cert.PostSample.nD Cert.PostSample.τ).loc Cert.PostSample.main_arg0) = m ((c.tc : Thread Cert.PostSample.nD Cert.PostSample.τ).loc Cert.PostSample.main_arg0)
      ∧ r.2.mem ((c.tc : Thread Cert.PostSample.nD Cert.PostSample.τ).loc Cert.PostSample.main_arg1) = m ((c.tc : Thread Cert.PostSample.nD Cert.PostSample.τ).loc Cert.PostSample.main_arg1)
      ∧ r.2.mem ((c.tc : Thread Cert.PostSample.nD Cert.PostSample.τ).loc Cert.PostSample.main_arg2) = m ((c.tc : Thread Cert.PostSample.nD Cert.PostSample.τ).loc Cert.PostSample.main_arg2)
      ∧ r.2.mem ((c.tc : Thread Cert.PostSample.nD Cert.PostSample.τ).loc Cert.PostSample.main_arg3) = m ((c.tc : Thread Cert.PostSample.nD Cert.PostSample.τ).loc Cert.PostSample.main_arg3)
      ∧ r.2.mem ((c.tc : Thread Cert.PostSample.nD Cert.PostSample.τ).loc Cert.PostSample.main_arg4) = m ((c.tc : Thread Cert.PostSample.nD Cert.PostSample.τ).loc Cert.PostSample.main_arg4)
      ∧ r.2.mem ((c.tc : Thread Cert.PostSample.nD Cert.PostSample.τ).loc Cert.PostSample.main_arg5) = m ((c.tc : Thread Cert.PostSample.nD Cert.PostSample.τ).loc Cert.PostSample.main_arg5)
      ∧ r.2.mem ((c.tc : Thread Cert.PostSample.nD Cert.PostSample.τ).loc Cert.PostSample.main_arg6) = m ((c.tc : Thread Cert.PostSample.nD Cert.PostSample.τ).loc Cert.PostSample.main_arg6)
      ∧ r.2.mem ((c.tc : Thread Cert.PostSample.nD Cert.PostSample.τ).loc Cert.PostSample.main_arg7) = m ((c.tc : Thread Cert.PostSample.nD Cert.PostSample.τ).loc Cert.PostSample.main_arg7)
      ∧ r.2.mem ((c.tc : Thread Cert.PostSample.nD Cert.PostSample.τ).loc Cert.PostSample.main_arg8) = m ((c.tc : Thread Cert.PostSample.nD Cert.PostSample.τ).loc Cert.PostSample.main_arg8)
      ∧ r.2.mem ((c.tc : Thread Cert.PostSample.nD Cert.PostSample.τ).loc Cert.PostSample.main_arg9) = m ((c.tc : Thread Cert.PostSample.nD Cert.PostSample.τ).loc Cert.PostSample.main_arg9))
      ∧ r.2.sem = fun _ => 0)

def quiescent_PostSampleIdeal [hPostSampleIdeal : Cert.PostSampleIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg), Pre_PostSampleIdeal m →
    θ_run (Cert.PostSampleIdeal.defs (F := Ideal)) (onTc (τ := Cert.PostSampleIdeal.τ) (Cert.PostSampleIdeal.main (F := Ideal))) ⟨m, fun _ => 0, g⟩ (fun r => (∀ c : Dev Cert.PostSampleIdeal.nD,
      r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
      ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
      ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
      ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
      ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
      ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
      ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
      ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
      ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8)
      ∧ r.2.mem ((c.tc : Thread Cert.PostSampleIdeal.nD Cert.PostSampleIdeal.τ).loc Cert.PostSampleIdeal.main_arg9) = m ((c.tc : Thread Cert.PostSampleIdeal.nD Cert.PostSampleIdeal.τ).loc Cert.PostSampleIdeal.main_arg9))
      ∧ r.2.sem = fun _ => 0)

def quiescent_PostSampleRefIdeal [hPostSampleRefIdeal : Cert.PostSampleRefIdeal.Facts] : Prop :=
  ∀ (m : (ℓ : Loc Cert.PostSampleRefIdeal.nD Cert.PostSampleRefIdeal.τ Cert.PostSampleRefIdeal.sig) → Buf (Elt Ideal) ℓ) (g : Dev Cert.PostSampleRefIdeal.nD → PrngReg), Pre_PostSampleRefIdeal m →
    θ_run (Cert.PostSampleRefIdeal.defs (F := Ideal)) (onTc (τ := Cert.PostSampleRefIdeal.τ) (Cert.PostSampleRefIdeal.main (F := Ideal))) ⟨m, fun _ => 0, g⟩ (fun r => (∀ c : Dev Cert.PostSampleRefIdeal.nD,
      r.2.mem ((c.tc : Thread Cert.PostSampleRefIdeal.nD Cert.PostSampleRefIdeal.τ).loc Cert.PostSampleRefIdeal.main_arg0) = m ((c.tc : Thread Cert.PostSampleRefIdeal.nD Cert.PostSampleRefIdeal.τ).loc Cert.PostSampleRefIdeal.main_arg0)
      ∧ r.2.mem ((c.tc : Thread Cert.PostSampleRefIdeal.nD Cert.PostSampleRefIdeal.τ).loc Cert.PostSampleRefIdeal.main_arg1) = m ((c.tc : Thread Cert.PostSampleRefIdeal.nD Cert.PostSampleRefIdeal.τ).loc Cert.PostSampleRefIdeal.main_arg1)
      ∧ r.2.mem ((c.tc : Thread Cert.PostSampleRefIdeal.nD Cert.PostSampleRefIdeal.τ).loc Cert.PostSampleRefIdeal.main_arg2) = m ((c.tc : Thread Cert.PostSampleRefIdeal.nD Cert.PostSampleRefIdeal.τ).loc Cert.PostSampleRefIdeal.main_arg2)
      ∧ r.2.mem ((c.tc : Thread Cert.PostSampleRefIdeal.nD Cert.PostSampleRefIdeal.τ).loc Cert.PostSampleRefIdeal.main_arg3) = m ((c.tc : Thread Cert.PostSampleRefIdeal.nD Cert.PostSampleRefIdeal.τ).loc Cert.PostSampleRefIdeal.main_arg3)
      ∧ r.2.mem ((c.tc : Thread Cert.PostSampleRefIdeal.nD Cert.PostSampleRefIdeal.τ).loc Cert.PostSampleRefIdeal.main_arg4) = m ((c.tc : Thread Cert.PostSampleRefIdeal.nD Cert.PostSampleRefIdeal.τ).loc Cert.PostSampleRefIdeal.main_arg4)
      ∧ r.2.mem ((c.tc : Thread Cert.PostSampleRefIdeal.nD Cert.PostSampleRefIdeal.τ).loc Cert.PostSampleRefIdeal.main_arg5) = m ((c.tc : Thread Cert.PostSampleRefIdeal.nD Cert.PostSampleRefIdeal.τ).loc Cert.PostSampleRefIdeal.main_arg5)
      ∧ r.2.mem ((c.tc : Thread Cert.PostSampleRefIdeal.nD Cert.PostSampleRefIdeal.τ).loc Cert.PostSampleRefIdeal.main_arg6) = m ((c.tc : Thread Cert.PostSampleRefIdeal.nD Cert.PostSampleRefIdeal.τ).loc Cert.PostSampleRefIdeal.main_arg6)
      ∧ r.2.mem ((c.tc : Thread Cert.PostSampleRefIdeal.nD Cert.PostSampleRefIdeal.τ).loc Cert.PostSampleRefIdeal.main_arg7) = m ((c.tc : Thread Cert.PostSampleRefIdeal.nD Cert.PostSampleRefIdeal.τ).loc Cert.PostSampleRefIdeal.main_arg7)
      ∧ r.2.mem ((c.tc : Thread Cert.PostSampleRefIdeal.nD Cert.PostSampleRefIdeal.τ).loc Cert.PostSampleRefIdeal.main_arg8) = m ((c.tc : Thread Cert.PostSampleRefIdeal.nD Cert.PostSampleRefIdeal.τ).loc Cert.PostSampleRefIdeal.main_arg8)
      ∧ r.2.mem ((c.tc : Thread Cert.PostSampleRefIdeal.nD Cert.PostSampleRefIdeal.τ).loc Cert.PostSampleRefIdeal.main_arg9) = m ((c.tc : Thread Cert.PostSampleRefIdeal.nD Cert.PostSampleRefIdeal.τ).loc Cert.PostSampleRefIdeal.main_arg9))
      ∧ r.2.sem = fun _ => 0)

def quiescent_InQuery [hInQuery : Cert.InQuery.Facts] : Prop :=
  ∀ (m : (ℓ : Loc Cert.InQuery.nD Cert.InQuery.τ Cert.InQuery.sig) → Buf (Elt Bits) ℓ) (g : Dev Cert.InQuery.nD → PrngReg), Pre_InQuery m →
    θ_run (Cert.InQuery.defs (F := Bits)) (onTc (τ := Cert.InQuery.τ) (Cert.InQuery.main (F := Bits))) ⟨m, fun _ => 0, g⟩ (fun r => (∀ c : Dev Cert.InQuery.nD,
      r.2.mem ((c.tc : Thread Cert.InQuery.nD Cert.InQuery.τ).loc Cert.InQuery.main_arg0) = m ((c.tc : Thread Cert.InQuery.nD Cert.InQuery.τ).loc Cert.InQuery.main_arg0)
      ∧ r.2.mem ((c.tc : Thread Cert.InQuery.nD Cert.InQuery.τ).loc Cert.InQuery.main_arg1) = m ((c.tc : Thread Cert.InQuery.nD Cert.InQuery.τ).loc Cert.InQuery.main_arg1)
      ∧ r.2.mem ((c.tc : Thread Cert.InQuery.nD Cert.InQuery.τ).loc Cert.InQuery.main_arg2) = m ((c.tc : Thread Cert.InQuery.nD Cert.InQuery.τ).loc Cert.InQuery.main_arg2)
      ∧ r.2.mem ((c.tc : Thread Cert.InQuery.nD Cert.InQuery.τ).loc Cert.InQuery.main_arg3) = m ((c.tc : Thread Cert.InQuery.nD Cert.InQuery.τ).loc Cert.InQuery.main_arg3)
      ∧ r.2.mem ((c.tc : Thread Cert.InQuery.nD Cert.InQuery.τ).loc Cert.InQuery.main_arg4) = m ((c.tc : Thread Cert.InQuery.nD Cert.InQuery.τ).loc Cert.InQuery.main_arg4)
      ∧ r.2.mem ((c.tc : Thread Cert.InQuery.nD Cert.InQuery.τ).loc Cert.InQuery.main_arg5) = m ((c.tc : Thread Cert.InQuery.nD Cert.InQuery.τ).loc Cert.InQuery.main_arg5))
      ∧ r.2.sem = fun _ => 0)

def quiescent_InQueryIdeal [hInQueryIdeal : Cert.InQueryIdeal.Facts] : Prop :=
  ∀ (m : (ℓ : Loc Cert.InQueryIdeal.nD Cert.InQueryIdeal.τ Cert.InQueryIdeal.sig) → Buf (Elt Ideal) ℓ) (g : Dev Cert.InQueryIdeal.nD → PrngReg), Pre_InQueryIdeal m →
    θ_run (Cert.InQueryIdeal.defs (F := Ideal)) (onTc (τ := Cert.InQueryIdeal.τ) (Cert.InQueryIdeal.main (F := Ideal))) ⟨m, fun _ => 0, g⟩ (fun r => (∀ c : Dev Cert.InQueryIdeal.nD,
      r.2.mem ((c.tc : Thread Cert.InQueryIdeal.nD Cert.InQueryIdeal.τ).loc Cert.InQueryIdeal.main_arg0) = m ((c.tc : Thread Cert.InQueryIdeal.nD Cert.InQueryIdeal.τ).loc Cert.InQueryIdeal.main_arg0)
      ∧ r.2.mem ((c.tc : Thread Cert.InQueryIdeal.nD Cert.InQueryIdeal.τ).loc Cert.InQueryIdeal.main_arg1) = m ((c.tc : Thread Cert.InQueryIdeal.nD Cert.InQueryIdeal.τ).loc Cert.InQueryIdeal.main_arg1)
      ∧ r.2.mem ((c.tc : Thread Cert.InQueryIdeal.nD Cert.InQueryIdeal.τ).loc Cert.InQueryIdeal.main_arg2) = m ((c.tc : Thread Cert.InQueryIdeal.nD Cert.InQueryIdeal.τ).loc Cert.InQueryIdeal.main_arg2)
      ∧ r.2.mem ((c.tc : Thread Cert.InQueryIdeal.nD Cert.InQueryIdeal.τ).loc Cert.InQueryIdeal.main_arg3) = m ((c.tc : Thread Cert.InQueryIdeal.nD Cert.InQueryIdeal.τ).loc Cert.InQueryIdeal.main_arg3)
      ∧ r.2.mem ((c.tc : Thread Cert.InQueryIdeal.nD Cert.InQueryIdeal.τ).loc Cert.InQueryIdeal.main_arg4) = m ((c.tc : Thread Cert.InQueryIdeal.nD Cert.InQueryIdeal.τ).loc Cert.InQueryIdeal.main_arg4)
      ∧ r.2.mem ((c.tc : Thread Cert.InQueryIdeal.nD Cert.InQueryIdeal.τ).loc Cert.InQueryIdeal.main_arg5) = m ((c.tc : Thread Cert.InQueryIdeal.nD Cert.InQueryIdeal.τ).loc Cert.InQueryIdeal.main_arg5))
      ∧ r.2.sem = fun _ => 0)

def quiescent_InQueryIdeal_pre_finite_inputs [hInQueryIdeal : Cert.InQueryIdeal.Facts] [hPre_finite_inputs : Cert.Pre_finite_inputs.Facts] : Prop :=
  ∀ (m : (ℓ : Loc Cert.InQueryIdeal.nD Cert.InQueryIdeal.τ Cert.InQueryIdeal.sig) → Buf (Elt Ideal) ℓ) (g : Dev Cert.InQueryIdeal.nD → PrngReg), Pre_InQueryIdeal_finite_inputs m →
    θ_run (Cert.InQueryIdeal.defs (F := Ideal)) (onTc (τ := Cert.InQueryIdeal.τ) (Cert.InQueryIdeal.main (F := Ideal))) ⟨m, fun _ => 0, g⟩ (fun r => (∀ c : Dev Cert.InQueryIdeal.nD,
      r.2.mem ((c.tc : Thread Cert.InQueryIdeal.nD Cert.InQueryIdeal.τ).loc Cert.InQueryIdeal.main_arg0) = m ((c.tc : Thread Cert.InQueryIdeal.nD Cert.InQueryIdeal.τ).loc Cert.InQueryIdeal.main_arg0)
      ∧ r.2.mem ((c.tc : Thread Cert.InQueryIdeal.nD Cert.InQueryIdeal.τ).loc Cert.InQueryIdeal.main_arg1) = m ((c.tc : Thread Cert.InQueryIdeal.nD Cert.InQueryIdeal.τ).loc Cert.InQueryIdeal.main_arg1)
      ∧ r.2.mem ((c.tc : Thread Cert.InQueryIdeal.nD Cert.InQueryIdeal.τ).loc Cert.InQueryIdeal.main_arg2) = m ((c.tc : Thread Cert.InQueryIdeal.nD Cert.InQueryIdeal.τ).loc Cert.InQueryIdeal.main_arg2)
      ∧ r.2.mem ((c.tc : Thread Cert.InQueryIdeal.nD Cert.InQueryIdeal.τ).loc Cert.InQueryIdeal.main_arg3) = m ((c.tc : Thread Cert.InQueryIdeal.nD Cert.InQueryIdeal.τ).loc Cert.InQueryIdeal.main_arg3)
      ∧ r.2.mem ((c.tc : Thread Cert.InQueryIdeal.nD Cert.InQueryIdeal.τ).loc Cert.InQueryIdeal.main_arg4) = m ((c.tc : Thread Cert.InQueryIdeal.nD Cert.InQueryIdeal.τ).loc Cert.InQueryIdeal.main_arg4)
      ∧ r.2.mem ((c.tc : Thread Cert.InQueryIdeal.nD Cert.InQueryIdeal.τ).loc Cert.InQueryIdeal.main_arg5) = m ((c.tc : Thread Cert.InQueryIdeal.nD Cert.InQueryIdeal.τ).loc Cert.InQueryIdeal.main_arg5))
      ∧ r.2.sem = fun _ => 0)

def quiescent_InQueryRefIdeal [hInQueryRefIdeal : Cert.InQueryRefIdeal.Facts] : Prop :=
  ∀ (m : (ℓ : Loc Cert.InQueryRefIdeal.nD Cert.InQueryRefIdeal.τ Cert.InQueryRefIdeal.sig) → Buf (Elt Ideal) ℓ) (g : Dev Cert.InQueryRefIdeal.nD → PrngReg), Pre_InQueryRefIdeal m →
    θ_run (Cert.InQueryRefIdeal.defs (F := Ideal)) (onTc (τ := Cert.InQueryRefIdeal.τ) (Cert.InQueryRefIdeal.main (F := Ideal))) ⟨m, fun _ => 0, g⟩ (fun r => (∀ c : Dev Cert.InQueryRefIdeal.nD,
      r.2.mem ((c.tc : Thread Cert.InQueryRefIdeal.nD Cert.InQueryRefIdeal.τ).loc Cert.InQueryRefIdeal.main_arg0) = m ((c.tc : Thread Cert.InQueryRefIdeal.nD Cert.InQueryRefIdeal.τ).loc Cert.InQueryRefIdeal.main_arg0)
      ∧ r.2.mem ((c.tc : Thread Cert.InQueryRefIdeal.nD Cert.InQueryRefIdeal.τ).loc Cert.InQueryRefIdeal.main_arg1) = m ((c.tc : Thread Cert.InQueryRefIdeal.nD Cert.InQueryRefIdeal.τ).loc Cert.InQueryRefIdeal.main_arg1)
      ∧ r.2.mem ((c.tc : Thread Cert.InQueryRefIdeal.nD Cert.InQueryRefIdeal.τ).loc Cert.InQueryRefIdeal.main_arg2) = m ((c.tc : Thread Cert.InQueryRefIdeal.nD Cert.InQueryRefIdeal.τ).loc Cert.InQueryRefIdeal.main_arg2)
      ∧ r.2.mem ((c.tc : Thread Cert.InQueryRefIdeal.nD Cert.InQueryRefIdeal.τ).loc Cert.InQueryRefIdeal.main_arg3) = m ((c.tc : Thread Cert.InQueryRefIdeal.nD Cert.InQueryRefIdeal.τ).loc Cert.InQueryRefIdeal.main_arg3)
      ∧ r.2.mem ((c.tc : Thread Cert.InQueryRefIdeal.nD Cert.InQueryRefIdeal.τ).loc Cert.InQueryRefIdeal.main_arg4) = m ((c.tc : Thread Cert.InQueryRefIdeal.nD Cert.InQueryRefIdeal.τ).loc Cert.InQueryRefIdeal.main_arg4)
      ∧ r.2.mem ((c.tc : Thread Cert.InQueryRefIdeal.nD Cert.InQueryRefIdeal.τ).loc Cert.InQueryRefIdeal.main_arg5) = m ((c.tc : Thread Cert.InQueryRefIdeal.nD Cert.InQueryRefIdeal.τ).loc Cert.InQueryRefIdeal.main_arg5))
      ∧ r.2.sem = fun _ => 0)

def quiescent_InQueryRefIdeal_pre_finite_inputs [hInQueryRefIdeal : Cert.InQueryRefIdeal.Facts] [hPre_finite_inputs : Cert.Pre_finite_inputs.Facts] : Prop :=
  ∀ (m : (ℓ : Loc Cert.InQueryRefIdeal.nD Cert.InQueryRefIdeal.τ Cert.InQueryRefIdeal.sig) → Buf (Elt Ideal) ℓ) (g : Dev Cert.InQueryRefIdeal.nD → PrngReg), Pre_InQueryRefIdeal_finite_inputs m →
    θ_run (Cert.InQueryRefIdeal.defs (F := Ideal)) (onTc (τ := Cert.InQueryRefIdeal.τ) (Cert.InQueryRefIdeal.main (F := Ideal))) ⟨m, fun _ => 0, g⟩ (fun r => (∀ c : Dev Cert.InQueryRefIdeal.nD,
      r.2.mem ((c.tc : Thread Cert.InQueryRefIdeal.nD Cert.InQueryRefIdeal.τ).loc Cert.InQueryRefIdeal.main_arg0) = m ((c.tc : Thread Cert.InQueryRefIdeal.nD Cert.InQueryRefIdeal.τ).loc Cert.InQueryRefIdeal.main_arg0)
      ∧ r.2.mem ((c.tc : Thread Cert.InQueryRefIdeal.nD Cert.InQueryRefIdeal.τ).loc Cert.InQueryRefIdeal.main_arg1) = m ((c.tc : Thread Cert.InQueryRefIdeal.nD Cert.InQueryRefIdeal.τ).loc Cert.InQueryRefIdeal.main_arg1)
      ∧ r.2.mem ((c.tc : Thread Cert.InQueryRefIdeal.nD Cert.InQueryRefIdeal.τ).loc Cert.InQueryRefIdeal.main_arg2) = m ((c.tc : Thread Cert.InQueryRefIdeal.nD Cert.InQueryRefIdeal.τ).loc Cert.InQueryRefIdeal.main_arg2)
      ∧ r.2.mem ((c.tc : Thread Cert.InQueryRefIdeal.nD Cert.InQueryRefIdeal.τ).loc Cert.InQueryRefIdeal.main_arg3) = m ((c.tc : Thread Cert.InQueryRefIdeal.nD Cert.InQueryRefIdeal.τ).loc Cert.InQueryRefIdeal.main_arg3)
      ∧ r.2.mem ((c.tc : Thread Cert.InQueryRefIdeal.nD Cert.InQueryRefIdeal.τ).loc Cert.InQueryRefIdeal.main_arg4) = m ((c.tc : Thread Cert.InQueryRefIdeal.nD Cert.InQueryRefIdeal.τ).loc Cert.InQueryRefIdeal.main_arg4)
      ∧ r.2.mem ((c.tc : Thread Cert.InQueryRefIdeal.nD Cert.InQueryRefIdeal.τ).loc Cert.InQueryRefIdeal.main_arg5) = m ((c.tc : Thread Cert.InQueryRefIdeal.nD Cert.InQueryRefIdeal.τ).loc Cert.InQueryRefIdeal.main_arg5))
      ∧ r.2.sem = fun _ => 0)

def quiescent_InIndex [hInIndex : Cert.InIndex.Facts] : Prop :=
  ∀ (m : (ℓ : Loc Cert.InIndex.nD Cert.InIndex.τ Cert.InIndex.sig) → Buf (Elt Bits) ℓ) (g : Dev Cert.InIndex.nD → PrngReg), Pre_InIndex m →
    θ_run (Cert.InIndex.defs (F := Bits)) (onTc (τ := Cert.InIndex.τ) (Cert.InIndex.main (F := Bits))) ⟨m, fun _ => 0, g⟩ (fun r => (∀ c : Dev Cert.InIndex.nD,
      r.2.mem ((c.tc : Thread Cert.InIndex.nD Cert.InIndex.τ).loc Cert.InIndex.main_arg0) = m ((c.tc : Thread Cert.InIndex.nD Cert.InIndex.τ).loc Cert.InIndex.main_arg0)
      ∧ r.2.mem ((c.tc : Thread Cert.InIndex.nD Cert.InIndex.τ).loc Cert.InIndex.main_arg1) = m ((c.tc : Thread Cert.InIndex.nD Cert.InIndex.τ).loc Cert.InIndex.main_arg1)
      ∧ r.2.mem ((c.tc : Thread Cert.InIndex.nD Cert.InIndex.τ).loc Cert.InIndex.main_arg2) = m ((c.tc : Thread Cert.InIndex.nD Cert.InIndex.τ).loc Cert.InIndex.main_arg2)
      ∧ r.2.mem ((c.tc : Thread Cert.InIndex.nD Cert.InIndex.τ).loc Cert.InIndex.main_arg3) = m ((c.tc : Thread Cert.InIndex.nD Cert.InIndex.τ).loc Cert.InIndex.main_arg3)
      ∧ r.2.mem ((c.tc : Thread Cert.InIndex.nD Cert.InIndex.τ).loc Cert.InIndex.main_arg4) = m ((c.tc : Thread Cert.InIndex.nD Cert.InIndex.τ).loc Cert.InIndex.main_arg4)
      ∧ r.2.mem ((c.tc : Thread Cert.InIndex.nD Cert.InIndex.τ).loc Cert.InIndex.main_arg5) = m ((c.tc : Thread Cert.InIndex.nD Cert.InIndex.τ).loc Cert.InIndex.main_arg5))
      ∧ r.2.sem = fun _ => 0)

def quiescent_InIndexIdeal [hInIndexIdeal : Cert.InIndexIdeal.Facts] : Prop :=
  ∀ (m : (ℓ : Loc Cert.InIndexIdeal.nD Cert.InIndexIdeal.τ Cert.InIndexIdeal.sig) → Buf (Elt Ideal) ℓ) (g : Dev Cert.InIndexIdeal.nD → PrngReg), Pre_InIndexIdeal m →
    θ_run (Cert.InIndexIdeal.defs (F := Ideal)) (onTc (τ := Cert.InIndexIdeal.τ) (Cert.InIndexIdeal.main (F := Ideal))) ⟨m, fun _ => 0, g⟩ (fun r => (∀ c : Dev Cert.InIndexIdeal.nD,
      r.2.mem ((c.tc : Thread Cert.InIndexIdeal.nD Cert.InIndexIdeal.τ).loc Cert.InIndexIdeal.main_arg0) = m ((c.tc : Thread Cert.InIndexIdeal.nD Cert.InIndexIdeal.τ).loc Cert.InIndexIdeal.main_arg0)
      ∧ r.2.mem ((c.tc : Thread Cert.InIndexIdeal.nD Cert.InIndexIdeal.τ).loc Cert.InIndexIdeal.main_arg1) = m ((c.tc : Thread Cert.InIndexIdeal.nD Cert.InIndexIdeal.τ).loc Cert.InIndexIdeal.main_arg1)
      ∧ r.2.mem ((c.tc : Thread Cert.InIndexIdeal.nD Cert.InIndexIdeal.τ).loc Cert.InIndexIdeal.main_arg2) = m ((c.tc : Thread Cert.InIndexIdeal.nD Cert.InIndexIdeal.τ).loc Cert.InIndexIdeal.main_arg2)
      ∧ r.2.mem ((c.tc : Thread Cert.InIndexIdeal.nD Cert.InIndexIdeal.τ).loc Cert.InIndexIdeal.main_arg3) = m ((c.tc : Thread Cert.InIndexIdeal.nD Cert.InIndexIdeal.τ).loc Cert.InIndexIdeal.main_arg3)
      ∧ r.2.mem ((c.tc : Thread Cert.InIndexIdeal.nD Cert.InIndexIdeal.τ).loc Cert.InIndexIdeal.main_arg4) = m ((c.tc : Thread Cert.InIndexIdeal.nD Cert.InIndexIdeal.τ).loc Cert.InIndexIdeal.main_arg4)
      ∧ r.2.mem ((c.tc : Thread Cert.InIndexIdeal.nD Cert.InIndexIdeal.τ).loc Cert.InIndexIdeal.main_arg5) = m ((c.tc : Thread Cert.InIndexIdeal.nD Cert.InIndexIdeal.τ).loc Cert.InIndexIdeal.main_arg5))
      ∧ r.2.sem = fun _ => 0)

def quiescent_InIndexRefIdeal [hInIndexRefIdeal : Cert.InIndexRefIdeal.Facts] : Prop :=
  ∀ (m : (ℓ : Loc Cert.InIndexRefIdeal.nD Cert.InIndexRefIdeal.τ Cert.InIndexRefIdeal.sig) → Buf (Elt Ideal) ℓ) (g : Dev Cert.InIndexRefIdeal.nD → PrngReg), Pre_InIndexRefIdeal m →
    θ_run (Cert.InIndexRefIdeal.defs (F := Ideal)) (onTc (τ := Cert.InIndexRefIdeal.τ) (Cert.InIndexRefIdeal.main (F := Ideal))) ⟨m, fun _ => 0, g⟩ (fun r => (∀ c : Dev Cert.InIndexRefIdeal.nD,
      r.2.mem ((c.tc : Thread Cert.InIndexRefIdeal.nD Cert.InIndexRefIdeal.τ).loc Cert.InIndexRefIdeal.main_arg0) = m ((c.tc : Thread Cert.InIndexRefIdeal.nD Cert.InIndexRefIdeal.τ).loc Cert.InIndexRefIdeal.main_arg0)
      ∧ r.2.mem ((c.tc : Thread Cert.InIndexRefIdeal.nD Cert.InIndexRefIdeal.τ).loc Cert.InIndexRefIdeal.main_arg1) = m ((c.tc : Thread Cert.InIndexRefIdeal.nD Cert.InIndexRefIdeal.τ).loc Cert.InIndexRefIdeal.main_arg1)
      ∧ r.2.mem ((c.tc : Thread Cert.InIndexRefIdeal.nD Cert.InIndexRefIdeal.τ).loc Cert.InIndexRefIdeal.main_arg2) = m ((c.tc : Thread Cert.InIndexRefIdeal.nD Cert.InIndexRefIdeal.τ).loc Cert.InIndexRefIdeal.main_arg2)
      ∧ r.2.mem ((c.tc : Thread Cert.InIndexRefIdeal.nD Cert.InIndexRefIdeal.τ).loc Cert.InIndexRefIdeal.main_arg3) = m ((c.tc : Thread Cert.InIndexRefIdeal.nD Cert.InIndexRefIdeal.τ).loc Cert.InIndexRefIdeal.main_arg3)
      ∧ r.2.mem ((c.tc : Thread Cert.InIndexRefIdeal.nD Cert.InIndexRefIdeal.τ).loc Cert.InIndexRefIdeal.main_arg4) = m ((c.tc : Thread Cert.InIndexRefIdeal.nD Cert.InIndexRefIdeal.τ).loc Cert.InIndexRefIdeal.main_arg4)
      ∧ r.2.mem ((c.tc : Thread Cert.InIndexRefIdeal.nD Cert.InIndexRefIdeal.τ).loc Cert.InIndexRefIdeal.main_arg5) = m ((c.tc : Thread Cert.InIndexRefIdeal.nD Cert.InIndexRefIdeal.τ).loc Cert.InIndexRefIdeal.main_arg5))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v7)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v7) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v18) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_MoeSample_MoeSampleIdeal : Prop :=
  True

def algebraic_MoeSampleIdeal_MoeSampleRefIdeal [hMoeSampleIdeal : Cert.MoeSampleIdeal.Facts] [hMoeSampleRefIdeal : Cert.MoeSampleRefIdeal.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg)
    (m' : (ℓ : Loc Cert.MoeSampleRefIdeal.nD Cert.MoeSampleRefIdeal.τ Cert.MoeSampleRefIdeal.sig) → Buf (Elt Ideal) ℓ) (g' : Dev Cert.MoeSampleRefIdeal.nD → PrngReg), Pre_MoeSampleIdeal m →
    (∀ c : Dev Cert.MoeSampleIdeal.nD,
      m' ((c.tc : Thread Cert.MoeSampleRefIdeal.nD Cert.MoeSampleRefIdeal.τ).loc Cert.MoeSampleRefIdeal.main_arg0) = m ((c.tc : Thread Cert.MoeSampleIdeal.nD Cert.MoeSampleIdeal.τ).loc Cert.MoeSampleIdeal.main_arg0)
      ∧ m' ((c.tc : Thread Cert.MoeSampleRefIdeal.nD Cert.MoeSampleRefIdeal.τ).loc Cert.MoeSampleRefIdeal.main_arg1) = m ((c.tc : Thread Cert.MoeSampleIdeal.nD Cert.MoeSampleIdeal.τ).loc Cert.MoeSampleIdeal.main_arg1)
      ∧ m' ((c.tc : Thread Cert.MoeSampleRefIdeal.nD Cert.MoeSampleRefIdeal.τ).loc Cert.MoeSampleRefIdeal.main_arg2) = m ((c.tc : Thread Cert.MoeSampleIdeal.nD Cert.MoeSampleIdeal.τ).loc Cert.MoeSampleIdeal.main_arg2)
      ∧ m' ((c.tc : Thread Cert.MoeSampleRefIdeal.nD Cert.MoeSampleRefIdeal.τ).loc Cert.MoeSampleRefIdeal.main_arg3) = m ((c.tc : Thread Cert.MoeSampleIdeal.nD Cert.MoeSampleIdeal.τ).loc Cert.MoeSampleIdeal.main_arg3)
      ∧ m' ((c.tc : Thread Cert.MoeSampleRefIdeal.nD Cert.MoeSampleRefIdeal.τ).loc Cert.MoeSampleRefIdeal.main_arg4) = m ((c.tc : Thread Cert.MoeSampleIdeal.nD Cert.MoeSampleIdeal.τ).loc Cert.MoeSampleIdeal.main_arg4)
      ∧ m' ((c.tc : Thread Cert.MoeSampleRefIdeal.nD Cert.MoeSampleRefIdeal.τ).loc Cert.MoeSampleRefIdeal.main_arg5) = m ((c.tc : Thread Cert.MoeSampleIdeal.nD Cert.MoeSampleIdeal.τ).loc Cert.MoeSampleIdeal.main_arg5)
      ∧ m' ((c.tc : Thread Cert.MoeSampleRefIdeal.nD Cert.MoeSampleRefIdeal.τ).loc Cert.MoeSampleRefIdeal.main_arg6) = m ((c.tc : Thread Cert.MoeSampleIdeal.nD Cert.MoeSampleIdeal.τ).loc Cert.MoeSampleIdeal.main_arg6)) →
    ∃ (v0 : (c : Dev Cert.MoeSampleIdeal.nD) → Buf (Elt Ideal) ((c.tc : Thread Cert.MoeSampleIdeal.nD Cert.MoeSampleIdeal.τ).loc Cert.MoeSampleIdeal.main_v7)),
      θ_run (Cert.MoeSampleIdeal.defs (F := Ideal)) (onTc (τ := Cert.MoeSampleIdeal.τ) (Cert.MoeSampleIdeal.main (F := Ideal))) ⟨m, fun _ => 0, g⟩ (fun r => ∀ c : Dev Cert.MoeSampleIdeal.nD,
          r.2.mem ((c.tc : Thread Cert.MoeSampleIdeal.nD Cert.MoeSampleIdeal.τ).loc Cert.MoeSampleIdeal.main_v7) = v0 c
          ∧ r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
          ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
          ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
          ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
          ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
          ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
          ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6))
      ∧ θ_run (Cert.MoeSampleRefIdeal.defs (F := Ideal)) (onTc (τ := Cert.MoeSampleRefIdeal.τ) (Cert.MoeSampleRefIdeal.main (F := Ideal))) ⟨m', fun _ => 0, g'⟩ (fun r => ∀ c : Dev Cert.MoeSampleRefIdeal.nD,
          r.2.mem ((c.tc : Thread Cert.MoeSampleRefIdeal.nD Cert.MoeSampleRefIdeal.τ).loc Cert.MoeSampleRefIdeal.main_v18) = v0 c
          ∧ r.2.mem ((c.tc : Thread Cert.MoeSampleRefIdeal.nD Cert.MoeSampleRefIdeal.τ).loc Cert.MoeSampleRefIdeal.main_arg0) = m' ((c.tc : Thread Cert.MoeSampleRefIdeal.nD Cert.MoeSampleRefIdeal.τ).loc Cert.MoeSampleRefIdeal.main_arg0)
          ∧ r.2.mem ((c.tc : Thread Cert.MoeSampleRefIdeal.nD Cert.MoeSampleRefIdeal.τ).loc Cert.MoeSampleRefIdeal.main_arg1) = m' ((c.tc : Thread Cert.MoeSampleRefIdeal.nD Cert.MoeSampleRefIdeal.τ).loc Cert.MoeSampleRefIdeal.main_arg1)
          ∧ r.2.mem ((c.tc : Thread Cert.MoeSampleRefIdeal.nD Cert.MoeSampleRefIdeal.τ).loc Cert.MoeSampleRefIdeal.main_arg2) = m' ((c.tc : Thread Cert.MoeSampleRefIdeal.nD Cert.MoeSampleRefIdeal.τ).loc Cert.MoeSampleRefIdeal.main_arg2)
          ∧ r.2.mem ((c.tc : Thread Cert.MoeSampleRefIdeal.nD Cert.MoeSampleRefIdeal.τ).loc Cert.MoeSampleRefIdeal.main_arg3) = m' ((c.tc : Thread Cert.MoeSampleRefIdeal.nD Cert.MoeSampleRefIdeal.τ).loc Cert.MoeSampleRefIdeal.main_arg3)
          ∧ r.2.mem ((c.tc : Thread Cert.MoeSampleRefIdeal.nD Cert.MoeSampleRefIdeal.τ).loc Cert.MoeSampleRefIdeal.main_arg4) = m' ((c.tc : Thread Cert.MoeSampleRefIdeal.nD Cert.MoeSampleRefIdeal.τ).loc Cert.MoeSampleRefIdeal.main_arg4)
          ∧ r.2.mem ((c.tc : Thread Cert.MoeSampleRefIdeal.nD Cert.MoeSampleRefIdeal.τ).loc Cert.MoeSampleRefIdeal.main_arg5) = m' ((c.tc : Thread Cert.MoeSampleRefIdeal.nD Cert.MoeSampleRefIdeal.τ).loc Cert.MoeSampleRefIdeal.main_arg5)
          ∧ r.2.mem ((c.tc : Thread Cert.MoeSampleRefIdeal.nD Cert.MoeSampleRefIdeal.τ).loc Cert.MoeSampleRefIdeal.main_arg6) = m' ((c.tc : Thread Cert.MoeSampleRefIdeal.nD Cert.MoeSampleRefIdeal.τ).loc Cert.MoeSampleRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v55_3)) (v1 : (c : Dev Cert.InProjIdeal.nD) → Buf (Elt Ideal) ((c.tc : Thread Cert.InProjIdeal.nD Cert.InProjIdeal.τ).loc Cert.InProjIdeal.main_v55_6)) (v2 : (c : Dev Cert.InProjIdeal.nD) → Buf (Elt Ideal) ((c.tc : Thread Cert.InProjIdeal.nD Cert.InProjIdeal.τ).loc Cert.InProjIdeal.main_v55_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v55_3) = v0 c
          ∧ r.2.mem ((c.tc : Thread Cert.InProjIdeal.nD Cert.InProjIdeal.τ).loc Cert.InProjIdeal.main_v55_6) = v1 c
          ∧ r.2.mem ((c.tc : Thread Cert.InProjIdeal.nD Cert.InProjIdeal.τ).loc Cert.InProjIdeal.main_v55_8) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v29) = v0 c
          ∧ r.2.mem ((c.tc : Thread Cert.InProjRefIdeal.nD Cert.InProjRefIdeal.τ).loc Cert.InProjRefIdeal.main_v75) = v1 c
          ∧ r.2.mem ((c.tc : Thread Cert.InProjRefIdeal.nD Cert.InProjRefIdeal.τ).loc Cert.InProjRefIdeal.main_v82) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_InProjSample_InProjSampleIdeal : Prop :=
  True

def algebraic_InProjSampleIdeal_InProjSampleRefIdeal [hInProjSampleIdeal : Cert.InProjSampleIdeal.Facts] [hInProjSampleRefIdeal : Cert.InProjSampleRefIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleRefIdeal.nD Cert.InProjSampleRefIdeal.τ Cert.InProjSampleRefIdeal.sig) → Buf (Elt Ideal) ℓ) (g' : Dev Cert.InProjSampleRefIdeal.nD → PrngReg), Pre_InProjSampleIdeal m →
    (∀ c : Dev Cert.InProjSampleIdeal.nD,
      m' ((c.tc : Thread Cert.InProjSampleRefIdeal.nD Cert.InProjSampleRefIdeal.τ).loc Cert.InProjSampleRefIdeal.main_arg0) = m ((c.tc : Thread Cert.InProjSampleIdeal.nD Cert.InProjSampleIdeal.τ).loc Cert.InProjSampleIdeal.main_arg0)
      ∧ m' ((c.tc : Thread Cert.InProjSampleRefIdeal.nD Cert.InProjSampleRefIdeal.τ).loc Cert.InProjSampleRefIdeal.main_arg1) = m ((c.tc : Thread Cert.InProjSampleIdeal.nD Cert.InProjSampleIdeal.τ).loc Cert.InProjSampleIdeal.main_arg1)
      ∧ m' ((c.tc : Thread Cert.InProjSampleRefIdeal.nD Cert.InProjSampleRefIdeal.τ).loc Cert.InProjSampleRefIdeal.main_arg2) = m ((c.tc : Thread Cert.InProjSampleIdeal.nD Cert.InProjSampleIdeal.τ).loc Cert.InProjSampleIdeal.main_arg2)
      ∧ m' ((c.tc : Thread Cert.InProjSampleRefIdeal.nD Cert.InProjSampleRefIdeal.τ).loc Cert.InProjSampleRefIdeal.main_arg3) = m ((c.tc : Thread Cert.InProjSampleIdeal.nD Cert.InProjSampleIdeal.τ).loc Cert.InProjSampleIdeal.main_arg3)
      ∧ m' ((c.tc : Thread Cert.InProjSampleRefIdeal.nD Cert.InProjSampleRefIdeal.τ).loc Cert.InProjSampleRefIdeal.main_arg4) = m ((c.tc : Thread Cert.InProjSampleIdeal.nD Cert.InProjSampleIdeal.τ).loc Cert.InProjSampleIdeal.main_arg4)
      ∧ m' ((c.tc : Thread Cert.InProjSampleRefIdeal.nD Cert.InProjSampleRefIdeal.τ).loc Cert.InProjSampleRefIdeal.main_arg5) = m ((c.tc : Thread Cert.InProjSampleIdeal.nD Cert.InProjSampleIdeal.τ).loc Cert.InProjSampleIdeal.main_arg5)) →
    ∃ (v0 : (c : Dev Cert.InProjSampleIdeal.nD) → Buf (Elt Ideal) ((c.tc : Thread Cert.InProjSampleIdeal.nD Cert.InProjSampleIdeal.τ).loc Cert.InProjSampleIdeal.main_v57_3)) (v1 : (c : Dev Cert.InProjSampleIdeal.nD) → Buf (Elt Ideal) ((c.tc : Thread Cert.InProjSampleIdeal.nD Cert.InProjSampleIdeal.τ).loc Cert.InProjSampleIdeal.main_v57_6)) (v2 : (c : Dev Cert.InProjSampleIdeal.nD) → Buf (Elt Ideal) ((c.tc : Thread Cert.InProjSampleIdeal.nD Cert.InProjSampleIdeal.τ).loc Cert.InProjSampleIdeal.main_v57_8)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v57_3) = v0 c
          ∧ r.2.mem ((c.tc : Thread Cert.InProjSampleIdeal.nD Cert.InProjSampleIdeal.τ).loc Cert.InProjSampleIdeal.main_v57_6) = v1 c
          ∧ r.2.mem ((c.tc : Thread Cert.InProjSampleIdeal.nD Cert.InProjSampleIdeal.τ).loc Cert.InProjSampleIdeal.main_v57_8) = v2 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
          ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3)
          ∧ r.2.mem ((c.tc : Thread Cert.InProjSampleIdeal.nD Cert.InProjSampleIdeal.τ).loc Cert.InProjSampleIdeal.main_arg4) = m ((c.tc : Thread Cert.InProjSampleIdeal.nD Cert.InProjSampleIdeal.τ).loc Cert.InProjSampleIdeal.main_arg4)
          ∧ r.2.mem ((c.tc : Thread Cert.InProjSampleIdeal.nD Cert.InProjSampleIdeal.τ).loc Cert.InProjSampleIdeal.main_arg5) = m ((c.tc : Thread Cert.InProjSampleIdeal.nD Cert.InProjSampleIdeal.τ).loc Cert.InProjSampleIdeal.main_arg5))
      ∧ θ_run (Cert.InProjSampleRefIdeal.defs (F := Ideal)) (onTc (τ := Cert.InProjSampleRefIdeal.τ) (Cert.InProjSampleRefIdeal.main (F := Ideal))) ⟨m', fun _ => 0, g'⟩ (fun r => ∀ c : Dev Cert.InProjSampleRefIdeal.nD,
          r.2.mem ((c.tc : Thread Cert.InProjSampleRefIdeal.nD Cert.InProjSampleRefIdeal.τ).loc Cert.InProjSampleRefIdeal.main_v31) = v0 c
          ∧ r.2.mem ((c.tc : Thread Cert.InProjSampleRefIdeal.nD Cert.InProjSampleRefIdeal.τ).loc Cert.InProjSampleRefIdeal.main_v77) = v1 c
          ∧ r.2.mem ((c.tc : Thread Cert.InProjSampleRefIdeal.nD Cert.InProjSampleRefIdeal.τ).loc Cert.InProjSampleRefIdeal.main_v84) = v2 c
          ∧ r.2.mem ((c.tc : Thread Cert.InProjSampleRefIdeal.nD Cert.InProjSampleRefIdeal.τ).loc Cert.InProjSampleRefIdeal.main_arg0) = m' ((c.tc : Thread Cert.InProjSampleRefIdeal.nD Cert.InProjSampleRefIdeal.τ).loc Cert.InProjSampleRefIdeal.main_arg0)
          ∧ r.2.mem ((c.tc : Thread Cert.InProjSampleRefIdeal.nD Cert.InProjSampleRefIdeal.τ).loc Cert.InProjSampleRefIdeal.main_arg1) = m' ((c.tc : Thread Cert.InProjSampleRefIdeal.nD Cert.InProjSampleRefIdeal.τ).loc Cert.InProjSampleRefIdeal.main_arg1)
          ∧ r.2.mem ((c.tc : Thread Cert.InProjSampleRefIdeal.nD Cert.InProjSampleRefIdeal.τ).loc Cert.InProjSampleRefIdeal.main_arg2) = m' ((c.tc : Thread Cert.InProjSampleRefIdeal.nD Cert.InProjSampleRefIdeal.τ).loc Cert.InProjSampleRefIdeal.main_arg2)
          ∧ r.2.mem ((c.tc : Thread Cert.InProjSampleRefIdeal.nD Cert.InProjSampleRefIdeal.τ).loc Cert.InProjSampleRefIdeal.main_arg3) = m' ((c.tc : Thread Cert.InProjSampleRefIdeal.nD Cert.InProjSampleRefIdeal.τ).loc Cert.InProjSampleRefIdeal.main_arg3)
          ∧ r.2.mem ((c.tc : Thread Cert.InProjSampleRefIdeal.nD Cert.InProjSampleRefIdeal.τ).loc Cert.InProjSampleRefIdeal.main_arg4) = m' ((c.tc : Thread Cert.InProjSampleRefIdeal.nD Cert.InProjSampleRefIdeal.τ).loc Cert.InProjSampleRefIdeal.main_arg4)
          ∧ r.2.mem ((c.tc : Thread Cert.InProjSampleRefIdeal.nD Cert.InProjSampleRefIdeal.τ).loc Cert.InProjSampleRefIdeal.main_arg5) = m' ((c.tc : Thread Cert.InProjSampleRefIdeal.nD Cert.InProjSampleRefIdeal.τ).loc Cert.InProjSampleRefIdeal.main_arg5))

def preserves_InKey_InKeyIdeal : Prop :=
  True

def algebraic_InKeyIdeal_InKeyRefIdeal_pre_finite_inputs [hInKeyIdeal : Cert.InKeyIdeal.Facts] [hInKeyRefIdeal : Cert.InKeyRefIdeal.Facts] [hPre_finite_inputs : Cert.Pre_finite_inputs.Facts] : Prop :=
  ∀ (m : (ℓ : Loc Cert.InKeyIdeal.nD Cert.InKeyIdeal.τ Cert.InKeyIdeal.sig) → Buf (Elt Ideal) ℓ) (g : Dev Cert.InKeyIdeal.nD → PrngReg)
    (m' : (ℓ : Loc Cert.InKeyRefIdeal.nD Cert.InKeyRefIdeal.τ Cert.InKeyRefIdeal.sig) → Buf (Elt Ideal) ℓ) (g' : Dev Cert.InKeyRefIdeal.nD → PrngReg), Pre_InKeyIdeal_finite_inputs m →
    (∀ c : Dev Cert.InKeyIdeal.nD,
      m' ((c.tc : Thread Cert.InKeyRefIdeal.nD Cert.InKeyRefIdeal.τ).loc Cert.InKeyRefIdeal.main_arg0) = m ((c.tc : Thread Cert.InKeyIdeal.nD Cert.InKeyIdeal.τ).loc Cert.InKeyIdeal.main_arg0)
      ∧ m' ((c.tc : Thread Cert.InKeyRefIdeal.nD Cert.InKeyRefIdeal.τ).loc Cert.InKeyRefIdeal.main_arg1) = m ((c.tc : Thread Cert.InKeyIdeal.nD Cert.InKeyIdeal.τ).loc Cert.InKeyIdeal.main_arg1)
      ∧ m' ((c.tc : Thread Cert.InKeyRefIdeal.nD Cert.InKeyRefIdeal.τ).loc Cert.InKeyRefIdeal.main_arg2) = m ((c.tc : Thread Cert.InKeyIdeal.nD Cert.InKeyIdeal.τ).loc Cert.InKeyIdeal.main_arg2)
      ∧ m' ((c.tc : Thread Cert.InKeyRefIdeal.nD Cert.InKeyRefIdeal.τ).loc Cert.InKeyRefIdeal.main_arg3) = m ((c.tc : Thread Cert.InKeyIdeal.nD Cert.InKeyIdeal.τ).loc Cert.InKeyIdeal.main_arg3)
      ∧ m' ((c.tc : Thread Cert.InKeyRefIdeal.nD Cert.InKeyRefIdeal.τ).loc Cert.InKeyRefIdeal.main_arg4) = m ((c.tc : Thread Cert.InKeyIdeal.nD Cert.InKeyIdeal.τ).loc Cert.InKeyIdeal.main_arg4)
      ∧ m' ((c.tc : Thread Cert.InKeyRefIdeal.nD Cert.InKeyRefIdeal.τ).loc Cert.InKeyRefIdeal.main_arg5) = m ((c.tc : Thread Cert.InKeyIdeal.nD Cert.InKeyIdeal.τ).loc Cert.InKeyIdeal.main_arg5)) →
    ∃ (v0 : (c : Dev Cert.InKeyIdeal.nD) → Buf (Elt Ideal) ((c.tc : Thread Cert.InKeyIdeal.nD Cert.InKeyIdeal.τ).loc Cert.InKeyIdeal.main_v55_2)),
      θ_run (Cert.InKeyIdeal.defs (F := Ideal)) (onTc (τ := Cert.InKeyIdeal.τ) (Cert.InKeyIdeal.main (F := Ideal))) ⟨m, fun _ => 0, g⟩ (fun r => ∀ c : Dev Cert.InKeyIdeal.nD,
          r.2.mem ((c.tc : Thread Cert.InKeyIdeal.nD Cert.InKeyIdeal.τ).loc Cert.InKeyIdeal.main_v55_2) = v0 c
          ∧ r.2.mem ((c.tc : Thread Cert.InKeyIdeal.nD Cert.InKeyIdeal.τ).loc Cert.InKeyIdeal.main_arg0) = m ((c.tc : Thread Cert.InKeyIdeal.nD Cert.InKeyIdeal.τ).loc Cert.InKeyIdeal.main_arg0)
          ∧ r.2.mem ((c.tc : Thread Cert.InKeyIdeal.nD Cert.InKeyIdeal.τ).loc Cert.InKeyIdeal.main_arg1) = m ((c.tc : Thread Cert.InKeyIdeal.nD Cert.InKeyIdeal.τ).loc Cert.InKeyIdeal.main_arg1)
          ∧ r.2.mem ((c.tc : Thread Cert.InKeyIdeal.nD Cert.InKeyIdeal.τ).loc Cert.InKeyIdeal.main_arg2) = m ((c.tc : Thread Cert.InKeyIdeal.nD Cert.InKeyIdeal.τ).loc Cert.InKeyIdeal.main_arg2)
          ∧ r.2.mem ((c.tc : Thread Cert.InKeyIdeal.nD Cert.InKeyIdeal.τ).loc Cert.InKeyIdeal.main_arg3) = m ((c.tc : Thread Cert.InKeyIdeal.nD Cert.InKeyIdeal.τ).loc Cert.InKeyIdeal.main_arg3)
          ∧ r.2.mem ((c.tc : Thread Cert.InKeyIdeal.nD Cert.InKeyIdeal.τ).loc Cert.InKeyIdeal.main_arg4) = m ((c.tc : Thread Cert.InKeyIdeal.nD Cert.InKeyIdeal.τ).loc Cert.InKeyIdeal.main_arg4)
          ∧ r.2.mem ((c.tc : Thread Cert.InKeyIdeal.nD Cert.InKeyIdeal.τ).loc Cert.InKeyIdeal.main_arg5) = m ((c.tc : Thread Cert.InKeyIdeal.nD Cert.InKeyIdeal.τ).loc Cert.InKeyIdeal.main_arg5))
      ∧ θ_run (Cert.InKeyRefIdeal.defs (F := Ideal)) (onTc (τ := Cert.InKeyRefIdeal.τ) (Cert.InKeyRefIdeal.main (F := Ideal))) ⟨m', fun _ => 0, g'⟩ (fun r => ∀ c : Dev Cert.InKeyRefIdeal.nD,
          r.2.mem ((c.tc : Thread Cert.InKeyRefIdeal.nD Cert.InKeyRefIdeal.τ).loc Cert.InKeyRefIdeal.main_v76) = v0 c
          ∧ r.2.mem ((c.tc : Thread Cert.InKeyRefIdeal.nD Cert.InKeyRefIdeal.τ).loc Cert.InKeyRefIdeal.main_arg0) = m' ((c.tc : Thread Cert.InKeyRefIdeal.nD Cert.InKeyRefIdeal.τ).loc Cert.InKeyRefIdeal.main_arg0)
          ∧ r.2.mem ((c.tc : Thread Cert.InKeyRefIdeal.nD Cert.InKeyRefIdeal.τ).loc Cert.InKeyRefIdeal.main_arg1) = m' ((c.tc : Thread Cert.InKeyRefIdeal.nD Cert.InKeyRefIdeal.τ).loc Cert.InKeyRefIdeal.main_arg1)
          ∧ r.2.mem ((c.tc : Thread Cert.InKeyRefIdeal.nD Cert.InKeyRefIdeal.τ).loc Cert.InKeyRefIdeal.main_arg2) = m' ((c.tc : Thread Cert.InKeyRefIdeal.nD Cert.InKeyRefIdeal.τ).loc Cert.InKeyRefIdeal.main_arg2)
          ∧ r.2.mem ((c.tc : Thread Cert.InKeyRefIdeal.nD Cert.InKeyRefIdeal.τ).loc Cert.InKeyRefIdeal.main_arg3) = m' ((c.tc : Thread Cert.InKeyRefIdeal.nD Cert.InKeyRefIdeal.τ).loc Cert.InKeyRefIdeal.main_arg3)
          ∧ r.2.mem ((c.tc : Thread Cert.InKeyRefIdeal.nD Cert.InKeyRefIdeal.τ).loc Cert.InKeyRefIdeal.main_arg4) = m' ((c.tc : Thread Cert.InKeyRefIdeal.nD Cert.InKeyRefIdeal.τ).loc Cert.InKeyRefIdeal.main_arg4)
          ∧ r.2.mem ((c.tc : Thread Cert.InKeyRefIdeal.nD Cert.InKeyRefIdeal.τ).loc Cert.InKeyRefIdeal.main_arg5) = m' ((c.tc : Thread Cert.InKeyRefIdeal.nD Cert.InKeyRefIdeal.τ).loc Cert.InKeyRefIdeal.main_arg5))

def preserves_InKeySample_InKeySampleIdeal : Prop :=
  True

def algebraic_InKeySampleIdeal_InKeySampleRefIdeal_pre_finite_sample_inputs [hInKeySampleIdeal : Cert.InKeySampleIdeal.Facts] [hInKeySampleRefIdeal : Cert.InKeySampleRefIdeal.Facts] [hPre_finite_sample_inputs : Cert.Pre_finite_sample_inputs.Facts] : Prop :=
  ∀ (m : (ℓ : Loc Cert.InKeySampleIdeal.nD Cert.InKeySampleIdeal.τ Cert.InKeySampleIdeal.sig) → Buf (Elt Ideal) ℓ) (g : Dev Cert.InKeySampleIdeal.nD → PrngReg)
    (m' : (ℓ : Loc Cert.InKeySampleRefIdeal.nD Cert.InKeySampleRefIdeal.τ Cert.InKeySampleRefIdeal.sig) → Buf (Elt Ideal) ℓ) (g' : Dev Cert.InKeySampleRefIdeal.nD → PrngReg), Pre_InKeySampleIdeal_finite_sample_inputs m →
    (∀ c : Dev Cert.InKeySampleIdeal.nD,
      m' ((c.tc : Thread Cert.InKeySampleRefIdeal.nD Cert.InKeySampleRefIdeal.τ).loc Cert.InKeySampleRefIdeal.main_arg0) = m ((c.tc : Thread Cert.InKeySampleIdeal.nD Cert.InKeySampleIdeal.τ).loc Cert.InKeySampleIdeal.main_arg0)
      ∧ m' ((c.tc : Thread Cert.InKeySampleRefIdeal.nD Cert.InKeySampleRefIdeal.τ).loc Cert.InKeySampleRefIdeal.main_arg1) = m ((c.tc : Thread Cert.InKeySampleIdeal.nD Cert.InKeySampleIdeal.τ).loc Cert.InKeySampleIdeal.main_arg1)
      ∧ m' ((c.tc : Thread Cert.InKeySampleRefIdeal.nD Cert.InKeySampleRefIdeal.τ).loc Cert.InKeySampleRefIdeal.main_arg2) = m ((c.tc : Thread Cert.InKeySampleIdeal.nD Cert.InKeySampleIdeal.τ).loc Cert.InKeySampleIdeal.main_arg2)
      ∧ m' ((c.tc : Thread Cert.InKeySampleRefIdeal.nD Cert.InKeySampleRefIdeal.τ).loc Cert.InKeySampleRefIdeal.main_arg3) = m ((c.tc : Thread Cert.InKeySampleIdeal.nD Cert.InKeySampleIdeal.τ).loc Cert.InKeySampleIdeal.main_arg3)
      ∧ m' ((c.tc : Thread Cert.InKeySampleRefIdeal.nD Cert.InKeySampleRefIdeal.τ).loc Cert.InKeySampleRefIdeal.main_arg4) = m ((c.tc : Thread Cert.InKeySampleIdeal.nD Cert.InKeySampleIdeal.τ).loc Cert.InKeySampleIdeal.main_arg4)
      ∧ m' ((c.tc : Thread Cert.InKeySampleRefIdeal.nD Cert.InKeySampleRefIdeal.τ).loc Cert.InKeySampleRefIdeal.main_arg5) = m ((c.tc : Thread Cert.InKeySampleIdeal.nD Cert.InKeySampleIdeal.τ).loc Cert.InKeySampleIdeal.main_arg5)) →
    ∃ (v0 : (c : Dev Cert.InKeySampleIdeal.nD) → Buf (Elt Ideal) ((c.tc : Thread Cert.InKeySampleIdeal.nD Cert.InKeySampleIdeal.τ).loc Cert.InKeySampleIdeal.main_v57_2)),
      θ_run (Cert.InKeySampleIdeal.defs (F := Ideal)) (onTc (τ := Cert.InKeySampleIdeal.τ) (Cert.InKeySampleIdeal.main (F := Ideal))) ⟨m, fun _ => 0, g⟩ (fun r => ∀ c : Dev Cert.InKeySampleIdeal.nD,
          r.2.mem ((c.tc : Thread Cert.InKeySampleIdeal.nD Cert.InKeySampleIdeal.τ).loc Cert.InKeySampleIdeal.main_v57_2) = v0 c
          ∧ r.2.mem ((c.tc : Thread Cert.InKeySampleIdeal.nD Cert.InKeySampleIdeal.τ).loc Cert.InKeySampleIdeal.main_arg0) = m ((c.tc : Thread Cert.InKeySampleIdeal.nD Cert.InKeySampleIdeal.τ).loc Cert.InKeySampleIdeal.main_arg0)
          ∧ r.2.mem ((c.tc : Thread Cert.InKeySampleIdeal.nD Cert.InKeySampleIdeal.τ).loc Cert.InKeySampleIdeal.main_arg1) = m ((c.tc : Thread Cert.InKeySampleIdeal.nD Cert.InKeySampleIdeal.τ).loc Cert.InKeySampleIdeal.main_arg1)
          ∧ r.2.mem ((c.tc : Thread Cert.InKeySampleIdeal.nD Cert.InKeySampleIdeal.τ).loc Cert.InKeySampleIdeal.main_arg2) = m ((c.tc : Thread Cert.InKeySampleIdeal.nD Cert.InKeySampleIdeal.τ).loc Cert.InKeySampleIdeal.main_arg2)
          ∧ r.2.mem ((c.tc : Thread Cert.InKeySampleIdeal.nD Cert.InKeySampleIdeal.τ).loc Cert.InKeySampleIdeal.main_arg3) = m ((c.tc : Thread Cert.InKeySampleIdeal.nD Cert.InKeySampleIdeal.τ).loc Cert.InKeySampleIdeal.main_arg3)
          ∧ r.2.mem ((c.tc : Thread Cert.InKeySampleIdeal.nD Cert.InKeySampleIdeal.τ).loc Cert.InKeySampleIdeal.main_arg4) = m ((c.tc : Thread Cert.InKeySampleIdeal.nD Cert.InKeySampleIdeal.τ).loc Cert.InKeySampleIdeal.main_arg4)
          ∧ r.2.mem ((c.tc : Thread Cert.InKeySampleIdeal.nD Cert.InKeySampleIdeal.τ).loc Cert.InKeySampleIdeal.main_arg5) = m ((c.tc : Thread Cert.InKeySampleIdeal.nD Cert.InKeySampleIdeal.τ).loc Cert.InKeySampleIdeal.main_arg5))
      ∧ θ_run (Cert.InKeySampleRefIdeal.defs (F := Ideal)) (onTc (τ := Cert.InKeySampleRefIdeal.τ) (Cert.InKeySampleRefIdeal.main (F := Ideal))) ⟨m', fun _ => 0, g'⟩ (fun r => ∀ c : Dev Cert.InKeySampleRefIdeal.nD,
          r.2.mem ((c.tc : Thread Cert.InKeySampleRefIdeal.nD Cert.InKeySampleRefIdeal.τ).loc Cert.InKeySampleRefIdeal.main_v78) = v0 c
          ∧ r.2.mem ((c.tc : Thread Cert.InKeySampleRefIdeal.nD Cert.InKeySampleRefIdeal.τ).loc Cert.InKeySampleRefIdeal.main_arg0) = m' ((c.tc : Thread Cert.InKeySampleRefIdeal.nD Cert.InKeySampleRefIdeal.τ).loc Cert.InKeySampleRefIdeal.main_arg0)
          ∧ r.2.mem ((c.tc : Thread Cert.InKeySampleRefIdeal.nD Cert.InKeySampleRefIdeal.τ).loc Cert.InKeySampleRefIdeal.main_arg1) = m' ((c.tc : Thread Cert.InKeySampleRefIdeal.nD Cert.InKeySampleRefIdeal.τ).loc Cert.InKeySampleRefIdeal.main_arg1)
          ∧ r.2.mem ((c.tc : Thread Cert.InKeySampleRefIdeal.nD Cert.InKeySampleRefIdeal.τ).loc Cert.InKeySampleRefIdeal.main_arg2) = m' ((c.tc : Thread Cert.InKeySampleRefIdeal.nD Cert.InKeySampleRefIdeal.τ).loc Cert.InKeySampleRefIdeal.main_arg2)
          ∧ r.2.mem ((c.tc : Thread Cert.InKeySampleRefIdeal.nD Cert.InKeySampleRefIdeal.τ).loc Cert.InKeySampleRefIdeal.main_arg3) = m' ((c.tc : Thread Cert.InKeySampleRefIdeal.nD Cert.InKeySampleRefIdeal.τ).loc Cert.InKeySampleRefIdeal.main_arg3)
          ∧ r.2.mem ((c.tc : Thread Cert.InKeySampleRefIdeal.nD Cert.InKeySampleRefIdeal.τ).loc Cert.InKeySampleRefIdeal.main_arg4) = m' ((c.tc : Thread Cert.InKeySampleRefIdeal.nD Cert.InKeySampleRefIdeal.τ).loc Cert.InKeySampleRefIdeal.main_arg4)
          ∧ r.2.mem ((c.tc : Thread Cert.InKeySampleRefIdeal.nD Cert.InKeySampleRefIdeal.τ).loc Cert.InKeySampleRefIdeal.main_arg5) = m' ((c.tc : Thread Cert.InKeySampleRefIdeal.nD Cert.InKeySampleRefIdeal.τ).loc Cert.InKeySampleRefIdeal.main_arg5))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v12_0)) (v1 : (c : Dev Cert.PostIdeal.nD) → Buf (Elt Ideal) ((c.tc : Thread Cert.PostIdeal.nD Cert.PostIdeal.τ).loc Cert.PostIdeal.main_v12_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v12_0) = v0 c
          ∧ r.2.mem ((c.tc : Thread Cert.PostIdeal.nD Cert.PostIdeal.τ).loc Cert.PostIdeal.main_v12_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v10) = v0 c
          ∧ r.2.mem ((c.tc : Thread Cert.PostRefIdeal.nD Cert.PostRefIdeal.τ).loc Cert.PostRefIdeal.main_v30) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def preserves_PostSample_PostSampleIdeal : Prop :=
  True

def algebraic_PostSampleIdeal_PostSampleRefIdeal [hPostSampleIdeal : Cert.PostSampleIdeal.Facts] [hPostSampleRefIdeal : Cert.PostSampleRefIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg)
    (m' : (ℓ : Loc Cert.PostSampleRefIdeal.nD Cert.PostSampleRefIdeal.τ Cert.PostSampleRefIdeal.sig) → Buf (Elt Ideal) ℓ) (g' : Dev Cert.PostSampleRefIdeal.nD → PrngReg), Pre_PostSampleIdeal m →
    (∀ c : Dev Cert.PostSampleIdeal.nD,
      m' ((c.tc : Thread Cert.PostSampleRefIdeal.nD Cert.PostSampleRefIdeal.τ).loc Cert.PostSampleRefIdeal.main_arg0) = m ((c.tc : Thread Cert.PostSampleIdeal.nD Cert.PostSampleIdeal.τ).loc Cert.PostSampleIdeal.main_arg0)
      ∧ m' ((c.tc : Thread Cert.PostSampleRefIdeal.nD Cert.PostSampleRefIdeal.τ).loc Cert.PostSampleRefIdeal.main_arg1) = m ((c.tc : Thread Cert.PostSampleIdeal.nD Cert.PostSampleIdeal.τ).loc Cert.PostSampleIdeal.main_arg1)
      ∧ m' ((c.tc : Thread Cert.PostSampleRefIdeal.nD Cert.PostSampleRefIdeal.τ).loc Cert.PostSampleRefIdeal.main_arg2) = m ((c.tc : Thread Cert.PostSampleIdeal.nD Cert.PostSampleIdeal.τ).loc Cert.PostSampleIdeal.main_arg2)
      ∧ m' ((c.tc : Thread Cert.PostSampleRefIdeal.nD Cert.PostSampleRefIdeal.τ).loc Cert.PostSampleRefIdeal.main_arg3) = m ((c.tc : Thread Cert.PostSampleIdeal.nD Cert.PostSampleIdeal.τ).loc Cert.PostSampleIdeal.main_arg3)
      ∧ m' ((c.tc : Thread Cert.PostSampleRefIdeal.nD Cert.PostSampleRefIdeal.τ).loc Cert.PostSampleRefIdeal.main_arg4) = m ((c.tc : Thread Cert.PostSampleIdeal.nD Cert.PostSampleIdeal.τ).loc Cert.PostSampleIdeal.main_arg4)
      ∧ m' ((c.tc : Thread Cert.PostSampleRefIdeal.nD Cert.PostSampleRefIdeal.τ).loc Cert.PostSampleRefIdeal.main_arg5) = m ((c.tc : Thread Cert.PostSampleIdeal.nD Cert.PostSampleIdeal.τ).loc Cert.PostSampleIdeal.main_arg5)
      ∧ m' ((c.tc : Thread Cert.PostSampleRefIdeal.nD Cert.PostSampleRefIdeal.τ).loc Cert.PostSampleRefIdeal.main_arg6) = m ((c.tc : Thread Cert.PostSampleIdeal.nD Cert.PostSampleIdeal.τ).loc Cert.PostSampleIdeal.main_arg6)
      ∧ m' ((c.tc : Thread Cert.PostSampleRefIdeal.nD Cert.PostSampleRefIdeal.τ).loc Cert.PostSampleRefIdeal.main_arg7) = m ((c.tc : Thread Cert.PostSampleIdeal.nD Cert.PostSampleIdeal.τ).loc Cert.PostSampleIdeal.main_arg7)
      ∧ m' ((c.tc : Thread Cert.PostSampleRefIdeal.nD Cert.PostSampleRefIdeal.τ).loc Cert.PostSampleRefIdeal.main_arg8) = m ((c.tc : Thread Cert.PostSampleIdeal.nD Cert.PostSampleIdeal.τ).loc Cert.PostSampleIdeal.main_arg8)
      ∧ m' ((c.tc : Thread Cert.PostSampleRefIdeal.nD Cert.PostSampleRefIdeal.τ).loc Cert.PostSampleRefIdeal.main_arg9) = m ((c.tc : Thread Cert.PostSampleIdeal.nD Cert.PostSampleIdeal.τ).loc Cert.PostSampleIdeal.main_arg9)) →
    ∃ (v0 : (c : Dev Cert.PostSampleIdeal.nD) → Buf (Elt Ideal) ((c.tc : Thread Cert.PostSampleIdeal.nD Cert.PostSampleIdeal.τ).loc Cert.PostSampleIdeal.main_v12_0)) (v1 : (c : Dev Cert.PostSampleIdeal.nD) → Buf (Elt Ideal) ((c.tc : Thread Cert.PostSampleIdeal.nD Cert.PostSampleIdeal.τ).loc Cert.PostSampleIdeal.main_v12_1)),
      θ_run (Cert.PostSampleIdeal.defs (F := Ideal)) (onTc (τ := Cert.PostSampleIdeal.τ) (Cert.PostSampleIdeal.main (F := Ideal))) ⟨m, fun _ => 0, g⟩ (fun r => ∀ c : Dev Cert.PostSampleIdeal.nD,
          r.2.mem ((c.tc : Thread Cert.PostSampleIdeal.nD Cert.PostSampleIdeal.τ).loc Cert.PostSampleIdeal.main_v12_0) = v0 c
          ∧ r.2.mem ((c.tc : Thread Cert.PostSampleIdeal.nD Cert.PostSampleIdeal.τ).loc Cert.PostSampleIdeal.main_v12_1) = v1 c
          ∧ r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
          ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
          ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
          ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
          ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
          ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
          ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
          ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
          ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8)
          ∧ r.2.mem ((c.tc : Thread Cert.PostSampleIdeal.nD Cert.PostSampleIdeal.τ).loc Cert.PostSampleIdeal.main_arg9) = m ((c.tc : Thread Cert.PostSampleIdeal.nD Cert.PostSampleIdeal.τ).loc Cert.PostSampleIdeal.main_arg9))
      ∧ θ_run (Cert.PostSampleRefIdeal.defs (F := Ideal)) (onTc (τ := Cert.PostSampleRefIdeal.τ) (Cert.PostSampleRefIdeal.main (F := Ideal))) ⟨m', fun _ => 0, g'⟩ (fun r => ∀ c : Dev Cert.PostSampleRefIdeal.nD,
          r.2.mem ((c.tc : Thread Cert.PostSampleRefIdeal.nD Cert.PostSampleRefIdeal.τ).loc Cert.PostSampleRefIdeal.main_v10) = v0 c
          ∧ r.2.mem ((c.tc : Thread Cert.PostSampleRefIdeal.nD Cert.PostSampleRefIdeal.τ).loc Cert.PostSampleRefIdeal.main_v30) = v1 c
          ∧ r.2.mem ((c.tc : Thread Cert.PostSampleRefIdeal.nD Cert.PostSampleRefIdeal.τ).loc Cert.PostSampleRefIdeal.main_arg0) = m' ((c.tc : Thread Cert.PostSampleRefIdeal.nD Cert.PostSampleRefIdeal.τ).loc Cert.PostSampleRefIdeal.main_arg0)
          ∧ r.2.mem ((c.tc : Thread Cert.PostSampleRefIdeal.nD Cert.PostSampleRefIdeal.τ).loc Cert.PostSampleRefIdeal.main_arg1) = m' ((c.tc : Thread Cert.PostSampleRefIdeal.nD Cert.PostSampleRefIdeal.τ).loc Cert.PostSampleRefIdeal.main_arg1)
          ∧ r.2.mem ((c.tc : Thread Cert.PostSampleRefIdeal.nD Cert.PostSampleRefIdeal.τ).loc Cert.PostSampleRefIdeal.main_arg2) = m' ((c.tc : Thread Cert.PostSampleRefIdeal.nD Cert.PostSampleRefIdeal.τ).loc Cert.PostSampleRefIdeal.main_arg2)
          ∧ r.2.mem ((c.tc : Thread Cert.PostSampleRefIdeal.nD Cert.PostSampleRefIdeal.τ).loc Cert.PostSampleRefIdeal.main_arg3) = m' ((c.tc : Thread Cert.PostSampleRefIdeal.nD Cert.PostSampleRefIdeal.τ).loc Cert.PostSampleRefIdeal.main_arg3)
          ∧ r.2.mem ((c.tc : Thread Cert.PostSampleRefIdeal.nD Cert.PostSampleRefIdeal.τ).loc Cert.PostSampleRefIdeal.main_arg4) = m' ((c.tc : Thread Cert.PostSampleRefIdeal.nD Cert.PostSampleRefIdeal.τ).loc Cert.PostSampleRefIdeal.main_arg4)
          ∧ r.2.mem ((c.tc : Thread Cert.PostSampleRefIdeal.nD Cert.PostSampleRefIdeal.τ).loc Cert.PostSampleRefIdeal.main_arg5) = m' ((c.tc : Thread Cert.PostSampleRefIdeal.nD Cert.PostSampleRefIdeal.τ).loc Cert.PostSampleRefIdeal.main_arg5)
          ∧ r.2.mem ((c.tc : Thread Cert.PostSampleRefIdeal.nD Cert.PostSampleRefIdeal.τ).loc Cert.PostSampleRefIdeal.main_arg6) = m' ((c.tc : Thread Cert.PostSampleRefIdeal.nD Cert.PostSampleRefIdeal.τ).loc Cert.PostSampleRefIdeal.main_arg6)
          ∧ r.2.mem ((c.tc : Thread Cert.PostSampleRefIdeal.nD Cert.PostSampleRefIdeal.τ).loc Cert.PostSampleRefIdeal.main_arg7) = m' ((c.tc : Thread Cert.PostSampleRefIdeal.nD Cert.PostSampleRefIdeal.τ).loc Cert.PostSampleRefIdeal.main_arg7)
          ∧ r.2.mem ((c.tc : Thread Cert.PostSampleRefIdeal.nD Cert.PostSampleRefIdeal.τ).loc Cert.PostSampleRefIdeal.main_arg8) = m' ((c.tc : Thread Cert.PostSampleRefIdeal.nD Cert.PostSampleRefIdeal.τ).loc Cert.PostSampleRefIdeal.main_arg8)
          ∧ r.2.mem ((c.tc : Thread Cert.PostSampleRefIdeal.nD Cert.PostSampleRefIdeal.τ).loc Cert.PostSampleRefIdeal.main_arg9) = m' ((c.tc : Thread Cert.PostSampleRefIdeal.nD Cert.PostSampleRefIdeal.τ).loc Cert.PostSampleRefIdeal.main_arg9))

def preserves_InQuery_InQueryIdeal : Prop :=
  True

def algebraic_InQueryIdeal_InQueryRefIdeal_pre_finite_inputs [hInQueryIdeal : Cert.InQueryIdeal.Facts] [hInQueryRefIdeal : Cert.InQueryRefIdeal.Facts] [hPre_finite_inputs : Cert.Pre_finite_inputs.Facts] : Prop :=
  ∀ (m : (ℓ : Loc Cert.InQueryIdeal.nD Cert.InQueryIdeal.τ Cert.InQueryIdeal.sig) → Buf (Elt Ideal) ℓ) (g : Dev Cert.InQueryIdeal.nD → PrngReg)
    (m' : (ℓ : Loc Cert.InQueryRefIdeal.nD Cert.InQueryRefIdeal.τ Cert.InQueryRefIdeal.sig) → Buf (Elt Ideal) ℓ) (g' : Dev Cert.InQueryRefIdeal.nD → PrngReg), Pre_InQueryIdeal_finite_inputs m →
    (∀ c : Dev Cert.InQueryIdeal.nD,
      m' ((c.tc : Thread Cert.InQueryRefIdeal.nD Cert.InQueryRefIdeal.τ).loc Cert.InQueryRefIdeal.main_arg0) = m ((c.tc : Thread Cert.InQueryIdeal.nD Cert.InQueryIdeal.τ).loc Cert.InQueryIdeal.main_arg0)
      ∧ m' ((c.tc : Thread Cert.InQueryRefIdeal.nD Cert.InQueryRefIdeal.τ).loc Cert.InQueryRefIdeal.main_arg1) = m ((c.tc : Thread Cert.InQueryIdeal.nD Cert.InQueryIdeal.τ).loc Cert.InQueryIdeal.main_arg1)
      ∧ m' ((c.tc : Thread Cert.InQueryRefIdeal.nD Cert.InQueryRefIdeal.τ).loc Cert.InQueryRefIdeal.main_arg2) = m ((c.tc : Thread Cert.InQueryIdeal.nD Cert.InQueryIdeal.τ).loc Cert.InQueryIdeal.main_arg2)
      ∧ m' ((c.tc : Thread Cert.InQueryRefIdeal.nD Cert.InQueryRefIdeal.τ).loc Cert.InQueryRefIdeal.main_arg3) = m ((c.tc : Thread Cert.InQueryIdeal.nD Cert.InQueryIdeal.τ).loc Cert.InQueryIdeal.main_arg3)
      ∧ m' ((c.tc : Thread Cert.InQueryRefIdeal.nD Cert.InQueryRefIdeal.τ).loc Cert.InQueryRefIdeal.main_arg4) = m ((c.tc : Thread Cert.InQueryIdeal.nD Cert.InQueryIdeal.τ).loc Cert.InQueryIdeal.main_arg4)
      ∧ m' ((c.tc : Thread Cert.InQueryRefIdeal.nD Cert.InQueryRefIdeal.τ).loc Cert.InQueryRefIdeal.main_arg5) = m ((c.tc : Thread Cert.InQueryIdeal.nD Cert.InQueryIdeal.τ).loc Cert.InQueryIdeal.main_arg5)) →
    ∃ (v0 : (c : Dev Cert.InQueryIdeal.nD) → Buf (Elt Ideal) ((c.tc : Thread Cert.InQueryIdeal.nD Cert.InQueryIdeal.τ).loc Cert.InQueryIdeal.main_v55_0)),
      θ_run (Cert.InQueryIdeal.defs (F := Ideal)) (onTc (τ := Cert.InQueryIdeal.τ) (Cert.InQueryIdeal.main (F := Ideal))) ⟨m, fun _ => 0, g⟩ (fun r => ∀ c : Dev Cert.InQueryIdeal.nD,
          r.2.mem ((c.tc : Thread Cert.InQueryIdeal.nD Cert.InQueryIdeal.τ).loc Cert.InQueryIdeal.main_v55_0) = v0 c
          ∧ r.2.mem ((c.tc : Thread Cert.InQueryIdeal.nD Cert.InQueryIdeal.τ).loc Cert.InQueryIdeal.main_arg0) = m ((c.tc : Thread Cert.InQueryIdeal.nD Cert.InQueryIdeal.τ).loc Cert.InQueryIdeal.main_arg0)
          ∧ r.2.mem ((c.tc : Thread Cert.InQueryIdeal.nD Cert.InQueryIdeal.τ).loc Cert.InQueryIdeal.main_arg1) = m ((c.tc : Thread Cert.InQueryIdeal.nD Cert.InQueryIdeal.τ).loc Cert.InQueryIdeal.main_arg1)
          ∧ r.2.mem ((c.tc : Thread Cert.InQueryIdeal.nD Cert.InQueryIdeal.τ).loc Cert.InQueryIdeal.main_arg2) = m ((c.tc : Thread Cert.InQueryIdeal.nD Cert.InQueryIdeal.τ).loc Cert.InQueryIdeal.main_arg2)
          ∧ r.2.mem ((c.tc : Thread Cert.InQueryIdeal.nD Cert.InQueryIdeal.τ).loc Cert.InQueryIdeal.main_arg3) = m ((c.tc : Thread Cert.InQueryIdeal.nD Cert.InQueryIdeal.τ).loc Cert.InQueryIdeal.main_arg3)
          ∧ r.2.mem ((c.tc : Thread Cert.InQueryIdeal.nD Cert.InQueryIdeal.τ).loc Cert.InQueryIdeal.main_arg4) = m ((c.tc : Thread Cert.InQueryIdeal.nD Cert.InQueryIdeal.τ).loc Cert.InQueryIdeal.main_arg4)
          ∧ r.2.mem ((c.tc : Thread Cert.InQueryIdeal.nD Cert.InQueryIdeal.τ).loc Cert.InQueryIdeal.main_arg5) = m ((c.tc : Thread Cert.InQueryIdeal.nD Cert.InQueryIdeal.τ).loc Cert.InQueryIdeal.main_arg5))
      ∧ θ_run (Cert.InQueryRefIdeal.defs (F := Ideal)) (onTc (τ := Cert.InQueryRefIdeal.τ) (Cert.InQueryRefIdeal.main (F := Ideal))) ⟨m', fun _ => 0, g'⟩ (fun r => ∀ c : Dev Cert.InQueryRefIdeal.nD,
          r.2.mem ((c.tc : Thread Cert.InQueryRefIdeal.nD Cert.InQueryRefIdeal.τ).loc Cert.InQueryRefIdeal.main_v79) = v0 c
          ∧ r.2.mem ((c.tc : Thread Cert.InQueryRefIdeal.nD Cert.InQueryRefIdeal.τ).loc Cert.InQueryRefIdeal.main_arg0) = m' ((c.tc : Thread Cert.InQueryRefIdeal.nD Cert.InQueryRefIdeal.τ).loc Cert.InQueryRefIdeal.main_arg0)
          ∧ r.2.mem ((c.tc : Thread Cert.InQueryRefIdeal.nD Cert.InQueryRefIdeal.τ).loc Cert.InQueryRefIdeal.main_arg1) = m' ((c.tc : Thread Cert.InQueryRefIdeal.nD Cert.InQueryRefIdeal.τ).loc Cert.InQueryRefIdeal.main_arg1)
          ∧ r.2.mem ((c.tc : Thread Cert.InQueryRefIdeal.nD Cert.InQueryRefIdeal.τ).loc Cert.InQueryRefIdeal.main_arg2) = m' ((c.tc : Thread Cert.InQueryRefIdeal.nD Cert.InQueryRefIdeal.τ).loc Cert.InQueryRefIdeal.main_arg2)
          ∧ r.2.mem ((c.tc : Thread Cert.InQueryRefIdeal.nD Cert.InQueryRefIdeal.τ).loc Cert.InQueryRefIdeal.main_arg3) = m' ((c.tc : Thread Cert.InQueryRefIdeal.nD Cert.InQueryRefIdeal.τ).loc Cert.InQueryRefIdeal.main_arg3)
          ∧ r.2.mem ((c.tc : Thread Cert.InQueryRefIdeal.nD Cert.InQueryRefIdeal.τ).loc Cert.InQueryRefIdeal.main_arg4) = m' ((c.tc : Thread Cert.InQueryRefIdeal.nD Cert.InQueryRefIdeal.τ).loc Cert.InQueryRefIdeal.main_arg4)
          ∧ r.2.mem ((c.tc : Thread Cert.InQueryRefIdeal.nD Cert.InQueryRefIdeal.τ).loc Cert.InQueryRefIdeal.main_arg5) = m' ((c.tc : Thread Cert.InQueryRefIdeal.nD Cert.InQueryRefIdeal.τ).loc Cert.InQueryRefIdeal.main_arg5))

def preserves_InIndex_InIndexIdeal : Prop :=
  True

def algebraic_InIndexIdeal_InIndexRefIdeal [hInIndexIdeal : Cert.InIndexIdeal.Facts] [hInIndexRefIdeal : Cert.InIndexRefIdeal.Facts] : Prop :=
  ∀ (m : (ℓ : Loc Cert.InIndexIdeal.nD Cert.InIndexIdeal.τ Cert.InIndexIdeal.sig) → Buf (Elt Ideal) ℓ) (g : Dev Cert.InIndexIdeal.nD → PrngReg)
    (m' : (ℓ : Loc Cert.InIndexRefIdeal.nD Cert.InIndexRefIdeal.τ Cert.InIndexRefIdeal.sig) → Buf (Elt Ideal) ℓ) (g' : Dev Cert.InIndexRefIdeal.nD → PrngReg), Pre_InIndexIdeal m →
    (∀ c : Dev Cert.InIndexIdeal.nD,
      m' ((c.tc : Thread Cert.InIndexRefIdeal.nD Cert.InIndexRefIdeal.τ).loc Cert.InIndexRefIdeal.main_arg0) = m ((c.tc : Thread Cert.InIndexIdeal.nD Cert.InIndexIdeal.τ).loc Cert.InIndexIdeal.main_arg0)
      ∧ m' ((c.tc : Thread Cert.InIndexRefIdeal.nD Cert.InIndexRefIdeal.τ).loc Cert.InIndexRefIdeal.main_arg1) = m ((c.tc : Thread Cert.InIndexIdeal.nD Cert.InIndexIdeal.τ).loc Cert.InIndexIdeal.main_arg1)
      ∧ m' ((c.tc : Thread Cert.InIndexRefIdeal.nD Cert.InIndexRefIdeal.τ).loc Cert.InIndexRefIdeal.main_arg2) = m ((c.tc : Thread Cert.InIndexIdeal.nD Cert.InIndexIdeal.τ).loc Cert.InIndexIdeal.main_arg2)
      ∧ m' ((c.tc : Thread Cert.InIndexRefIdeal.nD Cert.InIndexRefIdeal.τ).loc Cert.InIndexRefIdeal.main_arg3) = m ((c.tc : Thread Cert.InIndexIdeal.nD Cert.InIndexIdeal.τ).loc Cert.InIndexIdeal.main_arg3)
      ∧ m' ((c.tc : Thread Cert.InIndexRefIdeal.nD Cert.InIndexRefIdeal.τ).loc Cert.InIndexRefIdeal.main_arg4) = m ((c.tc : Thread Cert.InIndexIdeal.nD Cert.InIndexIdeal.τ).loc Cert.InIndexIdeal.main_arg4)
      ∧ m' ((c.tc : Thread Cert.InIndexRefIdeal.nD Cert.InIndexRefIdeal.τ).loc Cert.InIndexRefIdeal.main_arg5) = m ((c.tc : Thread Cert.InIndexIdeal.nD Cert.InIndexIdeal.τ).loc Cert.InIndexIdeal.main_arg5)) →
    ∃ (v0 : (c : Dev Cert.InIndexIdeal.nD) → Buf (Elt Ideal) ((c.tc : Thread Cert.InIndexIdeal.nD Cert.InIndexIdeal.τ).loc Cert.InIndexIdeal.main_v55_1)),
      θ_run (Cert.InIndexIdeal.defs (F := Ideal)) (onTc (τ := Cert.InIndexIdeal.τ) (Cert.InIndexIdeal.main (F := Ideal))) ⟨m, fun _ => 0, g⟩ (fun r => ∀ c : Dev Cert.InIndexIdeal.nD,
          r.2.mem ((c.tc : Thread Cert.InIndexIdeal.nD Cert.InIndexIdeal.τ).loc Cert.InIndexIdeal.main_v55_1) = v0 c
          ∧ r.2.mem ((c.tc : Thread Cert.InIndexIdeal.nD Cert.InIndexIdeal.τ).loc Cert.InIndexIdeal.main_arg0) = m ((c.tc : Thread Cert.InIndexIdeal.nD Cert.InIndexIdeal.τ).loc Cert.InIndexIdeal.main_arg0)
          ∧ r.2.mem ((c.tc : Thread Cert.InIndexIdeal.nD Cert.InIndexIdeal.τ).loc Cert.InIndexIdeal.main_arg1) = m ((c.tc : Thread Cert.InIndexIdeal.nD Cert.InIndexIdeal.τ).loc Cert.InIndexIdeal.main_arg1)
          ∧ r.2.mem ((c.tc : Thread Cert.InIndexIdeal.nD Cert.InIndexIdeal.τ).loc Cert.InIndexIdeal.main_arg2) = m ((c.tc : Thread Cert.InIndexIdeal.nD Cert.InIndexIdeal.τ).loc Cert.InIndexIdeal.main_arg2)
          ∧ r.2.mem ((c.tc : Thread Cert.InIndexIdeal.nD Cert.InIndexIdeal.τ).loc Cert.InIndexIdeal.main_arg3) = m ((c.tc : Thread Cert.InIndexIdeal.nD Cert.InIndexIdeal.τ).loc Cert.InIndexIdeal.main_arg3)
          ∧ r.2.mem ((c.tc : Thread Cert.InIndexIdeal.nD Cert.InIndexIdeal.τ).loc Cert.InIndexIdeal.main_arg4) = m ((c.tc : Thread Cert.InIndexIdeal.nD Cert.InIndexIdeal.τ).loc Cert.InIndexIdeal.main_arg4)
          ∧ r.2.mem ((c.tc : Thread Cert.InIndexIdeal.nD Cert.InIndexIdeal.τ).loc Cert.InIndexIdeal.main_arg5) = m ((c.tc : Thread Cert.InIndexIdeal.nD Cert.InIndexIdeal.τ).loc Cert.InIndexIdeal.main_arg5))
      ∧ θ_run (Cert.InIndexRefIdeal.defs (F := Ideal)) (onTc (τ := Cert.InIndexRefIdeal.τ) (Cert.InIndexRefIdeal.main (F := Ideal))) ⟨m', fun _ => 0, g'⟩ (fun r => ∀ c : Dev Cert.InIndexRefIdeal.nD,
          r.2.mem ((c.tc : Thread Cert.InIndexRefIdeal.nD Cert.InIndexRefIdeal.τ).loc Cert.InIndexRefIdeal.main_v64) = v0 c
          ∧ r.2.mem ((c.tc : Thread Cert.InIndexRefIdeal.nD Cert.InIndexRefIdeal.τ).loc Cert.InIndexRefIdeal.main_arg0) = m' ((c.tc : Thread Cert.InIndexRefIdeal.nD Cert.InIndexRefIdeal.τ).loc Cert.InIndexRefIdeal.main_arg0)
          ∧ r.2.mem ((c.tc : Thread Cert.InIndexRefIdeal.nD Cert.InIndexRefIdeal.τ).loc Cert.InIndexRefIdeal.main_arg1) = m' ((c.tc : Thread Cert.InIndexRefIdeal.nD Cert.InIndexRefIdeal.τ).loc Cert.InIndexRefIdeal.main_arg1)
          ∧ r.2.mem ((c.tc : Thread Cert.InIndexRefIdeal.nD Cert.InIndexRefIdeal.τ).loc Cert.InIndexRefIdeal.main_arg2) = m' ((c.tc : Thread Cert.InIndexRefIdeal.nD Cert.InIndexRefIdeal.τ).loc Cert.InIndexRefIdeal.main_arg2)
          ∧ r.2.mem ((c.tc : Thread Cert.InIndexRefIdeal.nD Cert.InIndexRefIdeal.τ).loc Cert.InIndexRefIdeal.main_arg3) = m' ((c.tc : Thread Cert.InIndexRefIdeal.nD Cert.InIndexRefIdeal.τ).loc Cert.InIndexRefIdeal.main_arg3)
          ∧ r.2.mem ((c.tc : Thread Cert.InIndexRefIdeal.nD Cert.InIndexRefIdeal.τ).loc Cert.InIndexRefIdeal.main_arg4) = m' ((c.tc : Thread Cert.InIndexRefIdeal.nD Cert.InIndexRefIdeal.τ).loc Cert.InIndexRefIdeal.main_arg4)
          ∧ r.2.mem ((c.tc : Thread Cert.InIndexRefIdeal.nD Cert.InIndexRefIdeal.τ).loc Cert.InIndexRefIdeal.main_arg5) = m' ((c.tc : Thread Cert.InIndexRefIdeal.nD Cert.InIndexRefIdeal.τ).loc Cert.InIndexRefIdeal.main_arg5))

def Claim : Prop :=
  ∃ (hAttn : Cert.Attn.Facts) (hMoe : Cert.Moe.Facts) (hMoeIdeal : Cert.MoeIdeal.Facts) (hMoeRefIdeal : Cert.MoeRefIdeal.Facts) (hMoeSample : Cert.MoeSample.Facts) (hMoeSampleIdeal : Cert.MoeSampleIdeal.Facts) (hMoeSampleRefIdeal : Cert.MoeSampleRefIdeal.Facts) (hInProj : Cert.InProj.Facts) (hInProjIdeal : Cert.InProjIdeal.Facts) (hInProjRefIdeal : Cert.InProjRefIdeal.Facts) (hInProjSample : Cert.InProjSample.Facts) (hInProjSampleIdeal : Cert.InProjSampleIdeal.Facts) (hInProjSampleRefIdeal : Cert.InProjSampleRefIdeal.Facts) (hInKey : Cert.InKey.Facts) (hInKeyIdeal : Cert.InKeyIdeal.Facts) (hInKeyRefIdeal : Cert.InKeyRefIdeal.Facts) (hInKeySample : Cert.InKeySample.Facts) (hInKeySampleIdeal : Cert.InKeySampleIdeal.Facts) (hInKeySampleRefIdeal : Cert.InKeySampleRefIdeal.Facts) (hPost : Cert.Post.Facts) (hPostIdeal : Cert.PostIdeal.Facts) (hPostRefIdeal : Cert.PostRefIdeal.Facts) (hPostSample : Cert.PostSample.Facts) (hPostSampleIdeal : Cert.PostSampleIdeal.Facts) (hPostSampleRefIdeal : Cert.PostSampleRefIdeal.Facts) (hInQuery : Cert.InQuery.Facts) (hInQueryIdeal : Cert.InQueryIdeal.Facts) (hInQueryRefIdeal : Cert.InQueryRefIdeal.Facts) (hInIndex : Cert.InIndex.Facts) (hInIndexIdeal : Cert.InIndexIdeal.Facts) (hInIndexRefIdeal : Cert.InIndexRefIdeal.Facts) (hPre_finite_inputs : Cert.Pre_finite_inputs.Facts) (hPre_finite_sample_inputs : Cert.Pre_finite_sample_inputs.Facts),
    quiescent_Attn (hAttn := hAttn)
    ∧ quiescent_Moe (hMoe := hMoe)
    ∧ quiescent_MoeIdeal (hMoeIdeal := hMoeIdeal)
    ∧ quiescent_MoeRefIdeal (hMoeRefIdeal := hMoeRefIdeal)
    ∧ quiescent_MoeSample (hMoeSample := hMoeSample)
    ∧ quiescent_MoeSampleIdeal (hMoeSampleIdeal := hMoeSampleIdeal)
    ∧ quiescent_MoeSampleRefIdeal (hMoeSampleRefIdeal := hMoeSampleRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjSample (hInProjSample := hInProjSample)
    ∧ quiescent_InProjSampleIdeal (hInProjSampleIdeal := hInProjSampleIdeal)
    ∧ quiescent_InProjSampleRefIdeal (hInProjSampleRefIdeal := hInProjSampleRefIdeal)
    ∧ quiescent_InKey (hInKey := hInKey)
    ∧ quiescent_InKeyIdeal (hInKeyIdeal := hInKeyIdeal)
    ∧ quiescent_InKeyIdeal_pre_finite_inputs (hInKeyIdeal := hInKeyIdeal) (hPre_finite_inputs := hPre_finite_inputs)
    ∧ quiescent_InKeyRefIdeal (hInKeyRefIdeal := hInKeyRefIdeal)
    ∧ quiescent_InKeyRefIdeal_pre_finite_inputs (hInKeyRefIdeal := hInKeyRefIdeal) (hPre_finite_inputs := hPre_finite_inputs)
    ∧ quiescent_InKeySample (hInKeySample := hInKeySample)
    ∧ quiescent_InKeySampleIdeal (hInKeySampleIdeal := hInKeySampleIdeal)
    ∧ quiescent_InKeySampleIdeal_pre_finite_sample_inputs (hInKeySampleIdeal := hInKeySampleIdeal) (hPre_finite_sample_inputs := hPre_finite_sample_inputs)
    ∧ quiescent_InKeySampleRefIdeal (hInKeySampleRefIdeal := hInKeySampleRefIdeal)
    ∧ quiescent_InKeySampleRefIdeal_pre_finite_sample_inputs (hInKeySampleRefIdeal := hInKeySampleRefIdeal) (hPre_finite_sample_inputs := hPre_finite_sample_inputs)
    ∧ quiescent_Post (hPost := hPost)
    ∧ quiescent_PostIdeal (hPostIdeal := hPostIdeal)
    ∧ quiescent_PostRefIdeal (hPostRefIdeal := hPostRefIdeal)
    ∧ quiescent_PostSample (hPostSample := hPostSample)
    ∧ quiescent_PostSampleIdeal (hPostSampleIdeal := hPostSampleIdeal)
    ∧ quiescent_PostSampleRefIdeal (hPostSampleRefIdeal := hPostSampleRefIdeal)
    ∧ quiescent_InQuery (hInQuery := hInQuery)
    ∧ quiescent_InQueryIdeal (hInQueryIdeal := hInQueryIdeal)
    ∧ quiescent_InQueryIdeal_pre_finite_inputs (hInQueryIdeal := hInQueryIdeal) (hPre_finite_inputs := hPre_finite_inputs)
    ∧ quiescent_InQueryRefIdeal (hInQueryRefIdeal := hInQueryRefIdeal)
    ∧ quiescent_InQueryRefIdeal_pre_finite_inputs (hInQueryRefIdeal := hInQueryRefIdeal) (hPre_finite_inputs := hPre_finite_inputs)
    ∧ quiescent_InIndex (hInIndex := hInIndex)
    ∧ quiescent_InIndexIdeal (hInIndexIdeal := hInIndexIdeal)
    ∧ quiescent_InIndexRefIdeal (hInIndexRefIdeal := hInIndexRefIdeal)
    ∧ preserves_Moe_MoeIdeal
    ∧ algebraic_MoeIdeal_MoeRefIdeal (hMoeIdeal := hMoeIdeal) (hMoeRefIdeal := hMoeRefIdeal)
    ∧ preserves_MoeSample_MoeSampleIdeal
    ∧ algebraic_MoeSampleIdeal_MoeSampleRefIdeal (hMoeSampleIdeal := hMoeSampleIdeal) (hMoeSampleRefIdeal := hMoeSampleRefIdeal)
    ∧ preserves_InProj_InProjIdeal
    ∧ algebraic_InProjIdeal_InProjRefIdeal (hInProjIdeal := hInProjIdeal) (hInProjRefIdeal := hInProjRefIdeal)
    ∧ preserves_InProjSample_InProjSampleIdeal
    ∧ algebraic_InProjSampleIdeal_InProjSampleRefIdeal (hInProjSampleIdeal := hInProjSampleIdeal) (hInProjSampleRefIdeal := hInProjSampleRefIdeal)
    ∧ preserves_InKey_InKeyIdeal
    ∧ algebraic_InKeyIdeal_InKeyRefIdeal_pre_finite_inputs (hInKeyIdeal := hInKeyIdeal) (hInKeyRefIdeal := hInKeyRefIdeal) (hPre_finite_inputs := hPre_finite_inputs)
    ∧ preserves_InKeySample_InKeySampleIdeal
    ∧ algebraic_InKeySampleIdeal_InKeySampleRefIdeal_pre_finite_sample_inputs (hInKeySampleIdeal := hInKeySampleIdeal) (hInKeySampleRefIdeal := hInKeySampleRefIdeal) (hPre_finite_sample_inputs := hPre_finite_sample_inputs)
    ∧ preserves_Post_PostIdeal
    ∧ algebraic_PostIdeal_PostRefIdeal (hPostIdeal := hPostIdeal) (hPostRefIdeal := hPostRefIdeal)
    ∧ preserves_PostSample_PostSampleIdeal
    ∧ algebraic_PostSampleIdeal_PostSampleRefIdeal (hPostSampleIdeal := hPostSampleIdeal) (hPostSampleRefIdeal := hPostSampleRefIdeal)
    ∧ preserves_InQuery_InQueryIdeal
    ∧ algebraic_InQueryIdeal_InQueryRefIdeal_pre_finite_inputs (hInQueryIdeal := hInQueryIdeal) (hInQueryRefIdeal := hInQueryRefIdeal) (hPre_finite_inputs := hPre_finite_inputs)
    ∧ preserves_InIndex_InIndexIdeal
    ∧ algebraic_InIndexIdeal_InIndexRefIdeal (hInIndexIdeal := hInIndexIdeal) (hInIndexRefIdeal := hInIndexRefIdeal)
-- ==== Pre_finite_inputs.lean ====
abbrev S4x4096x1024 : Shape := ⟨3, ![4, 4096, 1024]⟩
abbrev S4x1x6144 : Shape := ⟨3, ![4, 1, 6144]⟩
abbrev S1024 : Shape := ⟨1, ![1024]⟩
abbrev S1024x2376 : Shape := ⟨2, ![1024, 2376]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)
  bcast_S_S4x1x6144 : S_.BroadcastsInDim S4x1x6144 (![] : Fin 0 → Fin S4x1x6144.rank)
  bcast_S_S1024 : S_.BroadcastsInDim S1024 (![] : Fin 0 → Fin S1024.rank)
  bcast_S_S1024x2376 : S_.BroadcastsInDim S1024x2376 (![] : Fin 0 → Fin S1024x2376.rank)

variable [Facts]

def fn {F : FTy → Type} [FloatOps F] (main_arg0 : FVec F S4x4096x1024 .f32) (main_arg1 : FVec F S4x1x6144 .f32) (main_arg2 : FVec F S1024 .f32) (main_arg3 : FVec F S1024x2376 .f32) (main_arg4 : FVec F S64 .f32) (main_arg5 : FVec F S64 .f32) : IVec S4x4096x1024 1 × IVec S4x1x6144 1 × IVec S1024 1 × IVec S1024x2376 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S4x1x6144 .f32 := Host.absf main_arg1
  let main_cst_0 : FVec F S_ .f32 := constant S_ .f32 0x7F800000#32
  let main_v4 : FVec F S4x1x6144 .f32 := broadcastInDim S4x1x6144 ![] bcast_S_S4x1x6144 main_cst_0
  let main_v5 : IVec S4x1x6144 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2376 .f32 := Host.absf main_arg3
  let main_cst_2 : FVec F S_ .f32 := constant S_ .f32 0x7F800000#32
  let main_v10 : FVec F S1024x2376 .f32 := broadcastInDim S1024x2376 ![] bcast_S_S1024x2376 main_cst_2
  let main_v11 : IVec S1024x2376 1 := cmpf .olt main_v9 main_v10
  (main_v2, main_v5, main_v8, main_v11)
-- ==== Pre_finite_sample_inputs.lean ====
abbrev S32x64x1024 : Shape := ⟨3, ![32, 64, 1024]⟩
abbrev S32x1x6144 : Shape := ⟨3, ![32, 1, 6144]⟩
abbrev S1024 : Shape := ⟨1, ![1024]⟩
abbrev S1024x2376 : Shape := ⟨2, ![1024, 2376]⟩
abbrev S64 : Shape := ⟨1, ![64]⟩
abbrev S_ : Shape := ⟨0, ![]⟩

class Facts : Prop where
  bcast_S_S32x64x1024 : S_.BroadcastsInDim S32x64x1024 (![] : Fin 0 → Fin S32x64x1024.rank)
  bcast_S_S32x1x6144 : S_.BroadcastsInDim S32x1x6144 (![] : Fin 0 → Fin S32x1x6144.rank)
  bcast_S_S1024 : S_.BroadcastsInDim S1024 (![] : Fin 0 → Fin S1024.rank)
  bcast_S_S1024x2376 : S_.BroadcastsInDim S1024x2376 (![] : Fin 0 → Fin S1024x2376.rank)

variable [Facts]

def fn {F : FTy → Type} [FloatOps F] (main_arg0 : FVec F S32x64x1024 .f32) (main_arg1 : FVec F S32x1x6144 .f32) (main_arg2 : FVec F S1024 .f32) (main_arg3 : FVec F S1024x2376 .f32) (main_arg4 : FVec F S64 .f32) (main_arg5 : FVec F S64 .f32) : IVec S32x64x1024 1 × IVec S32x1x6144 1 × IVec S1024 1 × IVec S1024x2376 1 :=
  let main_v0 : FVec F S32x64x1024 .f32 := Host.absf main_arg0
  let main_cst : FVec F S_ .f32 := constant S_ .f32 0x7F800000#32
  let main_v1 : FVec F S32x64x1024 .f32 := broadcastInDim S32x64x1024 ![] bcast_S_S32x64x1024 main_cst
  let main_v2 : IVec S32x64x1024 1 := cmpf .olt main_v0 main_v1
  let main_v3 : FVec F S32x1x6144 .f32 := Host.absf main_arg1
  let main_cst_0 : FVec F S_ .f32 := constant S_ .f32 0x7F800000#32
  let main_v4 : FVec F S32x1x6144 .f32 := broadcastInDim S32x1x6144 ![] bcast_S_S32x1x6144 main_cst_0
  let main_v5 : IVec S32x1x6144 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2376 .f32 := Host.absf main_arg3
  let main_cst_2 : FVec F S_ .f32 := constant S_ .f32 0x7F800000#32
  let main_v10 : FVec F S1024x2376 .f32 := broadcastInDim S1024x2376 ![] bcast_S_S1024x2376 main_cst_2
  let main_v11 : IVec S1024x2376 1 := cmpf .olt main_v9 main_v10
  (main_v2, main_v5, main_v8, main_v11)
-- ==== Attn.lean ====
abbrev S4x4096x512 : Shape := ⟨3, ![4, 4096, 512]⟩
abbrev S4x4096x128 : Shape := ⟨3, ![4, 4096, 128]⟩
abbrev S128x128 : Shape := ⟨2, ![128, 128]⟩
abbrev S1x512x512 : Shape := ⟨3, ![1, 512, 512]⟩
abbrev S1x512x128 : Shape := ⟨3, ![1, 512, 128]⟩
abbrev S1x4096x128 : Shape := ⟨3, ![1, 4096, 128]⟩
abbrev S32x512x128 : Shape := ⟨3, ![32, 512, 128]⟩
abbrev S2x2048x128 : Shape := ⟨3, ![2, 2048, 128]⟩
abbrev S8x128 : Shape := ⟨2, ![8, 128]⟩
abbrev S3x512x128 : Shape := ⟨3, ![3, 512, 128]⟩
abbrev S512x128 : Shape := ⟨2, ![512, 128]⟩
abbrev S4096x128 : Shape := ⟨2, ![4096, 128]⟩
abbrev S512x8 : Shape := ⟨2, ![512, 8]⟩
abbrev S512x1 : Shape := ⟨2, ![512, 1]⟩
abbrev S1x256x128 : Shape := ⟨3, ![1, 256, 128]⟩
abbrev S256x128 : Shape := ⟨2, ![256, 128]⟩
abbrev S4096x256 : Shape := ⟨2, ![4096, 256]⟩
abbrev S1x8x128 : Shape := ⟨3, ![1, 8, 128]⟩
abbrev S1x128x128 : Shape := ⟨3, ![1, 128, 128]⟩
abbrev S896x128 : Shape := ⟨2, ![896, 128]⟩
abbrev S384x128 : Shape := ⟨2, ![384, 128]⟩
abbrev S128x1 : Shape := ⟨2, ![128, 1]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S2048x128 : Shape := ⟨2, ![2048, 128]⟩
abbrev S128 : Shape := ⟨1, ![128]⟩
abbrev S1x128 : Shape := ⟨2, ![1, 128]⟩
abbrev S1x2048x128 : Shape := ⟨3, ![1, 2048, 128]⟩
abbrev S2048x256 : Shape := ⟨2, ![2048, 256]⟩
abbrev S2048 : Shape := ⟨1, ![2048]⟩
abbrev S2048x1 : Shape := ⟨2, ![2048, 1]⟩
abbrev S512x256 : Shape := ⟨2, ![512, 256]⟩
abbrev S512x64 : Shape := ⟨2, ![512, 64]⟩
abbrev S512x512 : Shape := ⟨2, ![512, 512]⟩

abbrev nBuf : Space → Nat
  | .hbm => 8
  | .vmem => 21
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x128, .f32⟩
  | .hbm, ⟨3, _⟩ => ⟨S4x4096x128, .bf16⟩
  | .hbm, ⟨4, _⟩ => ⟨S4x4096x128, .bf16⟩
  | .hbm, ⟨5, _⟩ => ⟨S4x4096x128, .bf16⟩
  | .hbm, ⟨6, _⟩ => ⟨S128x128, .bf16⟩
  | .hbm, ⟨7, _⟩ => ⟨S4x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x128, .f32⟩
  | .local _ .vmem, ⟨5, _⟩ => ⟨S1x512x128, .f32⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S128x128, .bf16⟩
  | .local _ .vmem, ⟨13, _⟩ => ⟨S1x512x512, .bf16⟩
  | .local _ .vmem, ⟨14, _⟩ => ⟨S1x512x512, .bf16⟩
  | .local _ .vmem, ⟨15, _⟩ => ⟨S32x512x128, .f32⟩
  | .local _ .vmem, ⟨16, _⟩ => ⟨S2x2048x128, .f32⟩
  | .local _ .vmem, ⟨17, _⟩ => ⟨S2x2048x128, .f32⟩
  | .local _ .vmem, ⟨18, _⟩ => ⟨S8x128, .f32⟩
  | .local _ .vmem, ⟨19, _⟩ => ⟨S3x512x128, .f32⟩
  | .local _ .vmem, ⟨20, _⟩ => ⟨S32x512x128, .i32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![4, 8], ![false, false]⟩

@[reducible] def k0_t1_loop (i : grid0.Coords) : Scf.Loop 32 :=
  let c0_i32_35 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32 : BitVec 32 := 2#32
  let v90 : BitVec 32 := Scalar.shrui v4 c2_i32
  let v91 : BitVec 32 := Scalar.subi v90 c0_i32_35
  let c1_i32_36 : BitVec 32 := 1#32
  let v93 : BitVec 32 := Scalar.divsi v91 c1_i32_36
  let v94 : BitVec 32 := Scalar.muli v93 c1_i32_36
  let v95 : BitVec 32 := Scalar.addi c0_i32_35 v94
  let c1_i32_37 : BitVec 32 := 1#32
  ⟨c0_i32_35, v95, c1_i32_37⟩
def k0_mult1 (i : grid0.Coords) (k0_t1 : Fin (k0_t1_loop i).trips) : BitVec 32 :=
  let c4_i32_1619 : BitVec 32 := 4#32
  let c0_i32_35 : BitVec 32 := 0#32
  let c1_i32_37 : BitVec 32 := 1#32
  let arg16 : BitVec 32 := Scf.iv c0_i32_35 c1_i32_37 k0_t1
  let v5377 : BitVec 32 := Scalar.muli c4_i32_1619 arg16
  let c0_i32_1620 : BitVec 32 := 0#32
  let v5378 : BitVec 32 := Scalar.addi v5377 c0_i32_1620
  let c256_i32_1621 : BitVec 32 := 256#32
  let v5379 : BitVec 32 := Scalar.muli v5378 c256_i32_1621
  v5379
def k0_off1 (i : grid0.Coords) (k0_t1 : Fin (k0_t1_loop i).trips) (c0_i32_1620 : BitVec 32) : Fin 3 → Nat :=
  let c0_1622 : Index := 0#32
  let c4_i32_1619 : BitVec 32 := 4#32
  let c0_i32_35 : BitVec 32 := 0#32
  let c1_i32_37 : BitVec 32 := 1#32
  let arg16 : BitVec 32 := Scf.iv c0_i32_35 c1_i32_37 k0_t1
  let v5377 : BitVec 32 := Scalar.muli c4_i32_1619 arg16
  let v5378 : BitVec 32 := Scalar.addi v5377 c0_i32_1620
  let c256_i32_1621 : BitVec 32 := 256#32
  let v5379 : BitVec 32 := Scalar.muli v5378 c256_i32_1621
  let v5380 : BitVec 32 := v5379
  let v5381 : Index := Scalar.indexCast v5380
  let c0_1623 : Index := 0#32
  ![0, v5381.toNat, 0]
def k0_off2 (i : grid0.Coords) (k0_t1 : Fin (k0_t1_loop i).trips) (c0_i32_1620 : BitVec 32) (c0_i32_1643 : BitVec 32) : Fin 3 → Nat :=
  let c4_i32_1619 : BitVec 32 := 4#32
  let c0_i32_35 : BitVec 32 := 0#32
  let c1_i32_37 : BitVec 32 := 1#32
  let arg16 : BitVec 32 := Scf.iv c0_i32_35 c1_i32_37 k0_t1
  let v5377 : BitVec 32 := Scalar.muli c4_i32_1619 arg16
  let v5378 : BitVec 32 := Scalar.addi v5377 c0_i32_1620
  let c2_i32_1642 : BitVec 32 := 2#32
  let v5444 : BitVec 32 := Scalar.muli v5378 c2_i32_1642
  let v5445 : BitVec 32 := Scalar.addi v5444 c0_i32_1643
  let v5446 : Index := Scalar.indexCast v5445
  let c0_1644 : Index := 0#32
  let c0_1645 : Index := 0#32
  ![v5446.toNat, 0, 0]
def k0_mult2 (i : grid0.Coords) (k0_t1 : Fin (k0_t1_loop i).trips) : BitVec 32 :=
  let c4_i32_1619 : BitVec 32 := 4#32
  let c0_i32_35 : BitVec 32 := 0#32
  let c1_i32_37 : BitVec 32 := 1#32
  let arg16 : BitVec 32 := Scf.iv c0_i32_35 c1_i32_37 k0_t1
  let v5377 : BitVec 32 := Scalar.muli c4_i32_1619 arg16
  let c1_i32_1666 : BitVec 32 := 1#32
  let v5515 : BitVec 32 := Scalar.addi v5377 c1_i32_1666
  let c256_i32_1667 : BitVec 32 := 256#32
  let v5516 : BitVec 32 := Scalar.muli v5515 c256_i32_1667
  v5516
def k0_mult3 (i : grid0.Coords) (k0_t1 : Fin (k0_t1_loop i).trips) : BitVec 32 :=
  let c4_i32_1619 : BitVec 32 := 4#32
  let c0_i32_35 : BitVec 32 := 0#32
  let c1_i32_37 : BitVec 32 := 1#32
  let arg16 : BitVec 32 := Scf.iv c0_i32_35 c1_i32_37 k0_t1
  let v5377 : BitVec 32 := Scalar.muli c4_i32_1619 arg16
  let c2_i32_1713 : BitVec 32 := 2#32
  let v5652 : BitVec 32 := Scalar.addi v5377 c2_i32_1713
  let c256_i32_1714 : BitVec 32 := 256#32
  let v5653 : BitVec 32 := Scalar.muli v5652 c256_i32_1714
  v5653
def k0_mult4 (i : grid0.Coords) (k0_t1 : Fin (k0_t1_loop i).trips) : BitVec 32 :=
  let c4_i32_1619 : BitVec 32 := 4#32
  let c0_i32_35 : BitVec 32 := 0#32
  let c1_i32_37 : BitVec 32 := 1#32
  let arg16 : BitVec 32 := Scf.iv c0_i32_35 c1_i32_37 k0_t1
  let v5377 : BitVec 32 := Scalar.muli c4_i32_1619 arg16
  let c3_i32_1760 : BitVec 32 := 3#32
  let v5789 : BitVec 32 := Scalar.addi v5377 c3_i32_1760
  let c256_i32_1761 : BitVec 32 := 256#32
  let v5790 : BitVec 32 := Scalar.muli v5789 c256_i32_1761
  v5790
@[reducible] def k0_t2_loop (i : grid0.Coords) : Scf.Loop 32 :=
  let c0_i32_35 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32 : BitVec 32 := 2#32
  let v90 : BitVec 32 := Scalar.shrui v4 c2_i32
  let v91 : BitVec 32 := Scalar.subi v90 c0_i32_35
  let c1_i32_36 : BitVec 32 := 1#32
  let v93 : BitVec 32 := Scalar.divsi v91 c1_i32_36
  let v94 : BitVec 32 := Scalar.muli v93 c1_i32_36
  let v95 : BitVec 32 := Scalar.addi c0_i32_35 v94
  let v92 : BitVec 32 := Scalar.addi c0_i32_35 v91
  let c1_i32_38 : BitVec 32 := 1#32
  ⟨v95, v92, c1_i32_38⟩
def k0_mult5 (i : grid0.Coords) (k0_t2 : Fin (k0_t2_loop i).trips) : BitVec 32 :=
  let c4_i32_1619 : BitVec 32 := 4#32
  let c0_i32_35 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32 : BitVec 32 := 2#32
  let v90 : BitVec 32 := Scalar.shrui v4 c2_i32
  let v91 : BitVec 32 := Scalar.subi v90 c0_i32_35
  let c1_i32_36 : BitVec 32 := 1#32
  let v93 : BitVec 32 := Scalar.divsi v91 c1_i32_36
  let v94 : BitVec 32 := Scalar.muli v93 c1_i32_36
  let v95 : BitVec 32 := Scalar.addi c0_i32_35 v94
  let c1_i32_38 : BitVec 32 := 1#32
  let arg16 : BitVec 32 := Scf.iv v95 c1_i32_38 k0_t2
  let v5377 : BitVec 32 := Scalar.muli c4_i32_1619 arg16
  let c0_i32_1620 : BitVec 32 := 0#32
  let v5378 : BitVec 32 := Scalar.addi v5377 c0_i32_1620
  let c256_i32_1621 : BitVec 32 := 256#32
  let v5379 : BitVec 32 := Scalar.muli v5378 c256_i32_1621
  v5379
def k0_off3 (i : grid0.Coords) (k0_t2 : Fin (k0_t2_loop i).trips) (c0_i32_1620 : BitVec 32) : Fin 3 → Nat :=
  let c0_1622 : Index := 0#32
  let c4_i32_1619 : BitVec 32 := 4#32
  let c0_i32_35 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32 : BitVec 32 := 2#32
  let v90 : BitVec 32 := Scalar.shrui v4 c2_i32
  let v91 : BitVec 32 := Scalar.subi v90 c0_i32_35
  let c1_i32_36 : BitVec 32 := 1#32
  let v93 : BitVec 32 := Scalar.divsi v91 c1_i32_36
  let v94 : BitVec 32 := Scalar.muli v93 c1_i32_36
  let v95 : BitVec 32 := Scalar.addi c0_i32_35 v94
  let c1_i32_38 : BitVec 32 := 1#32
  let arg16 : BitVec 32 := Scf.iv v95 c1_i32_38 k0_t2
  let v5377 : BitVec 32 := Scalar.muli c4_i32_1619 arg16
  let v5378 : BitVec 32 := Scalar.addi v5377 c0_i32_1620
  let c256_i32_1621 : BitVec 32 := 256#32
  let v5379 : BitVec 32 := Scalar.muli v5378 c256_i32_1621
  let v5380 : BitVec 32 := v5379
  let v5381 : Index := Scalar.indexCast v5380
  let c0_1623 : Index := 0#32
  ![0, v5381.toNat, 0]
def k0_off4 (i : grid0.Coords) (k0_t2 : Fin (k0_t2_loop i).trips) (c0_i32_1620 : BitVec 32) (c0_i32_1643 : BitVec 32) : Fin 3 → Nat :=
  let c4_i32_1619 : BitVec 32 := 4#32
  let c0_i32_35 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32 : BitVec 32 := 2#32
  let v90 : BitVec 32 := Scalar.shrui v4 c2_i32
  let v91 : BitVec 32 := Scalar.subi v90 c0_i32_35
  let c1_i32_36 : BitVec 32 := 1#32
  let v93 : BitVec 32 := Scalar.divsi v91 c1_i32_36
  let v94 : BitVec 32 := Scalar.muli v93 c1_i32_36
  let v95 : BitVec 32 := Scalar.addi c0_i32_35 v94
  let c1_i32_38 : BitVec 32 := 1#32
  let arg16 : BitVec 32 := Scf.iv v95 c1_i32_38 k0_t2
  let v5377 : BitVec 32 := Scalar.muli c4_i32_1619 arg16
  let v5378 : BitVec 32 := Scalar.addi v5377 c0_i32_1620
  let c2_i32_1642 : BitVec 32 := 2#32
  let v5444 : BitVec 32 := Scalar.muli v5378 c2_i32_1642
  let v5445 : BitVec 32 := Scalar.addi v5444 c0_i32_1643
  let v5446 : Index := Scalar.indexCast v5445
  let c0_1644 : Index := 0#32
  let c0_1645 : Index := 0#32
  ![v5446.toNat, 0, 0]
def k0_mult6 (i : grid0.Coords) (k0_t2 : Fin (k0_t2_loop i).trips) : BitVec 32 :=
  let c4_i32_1619 : BitVec 32 := 4#32
  let c0_i32_35 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32 : BitVec 32 := 2#32
  let v90 : BitVec 32 := Scalar.shrui v4 c2_i32
  let v91 : BitVec 32 := Scalar.subi v90 c0_i32_35
  let c1_i32_36 : BitVec 32 := 1#32
  let v93 : BitVec 32 := Scalar.divsi v91 c1_i32_36
  let v94 : BitVec 32 := Scalar.muli v93 c1_i32_36
  let v95 : BitVec 32 := Scalar.addi c0_i32_35 v94
  let c1_i32_38 : BitVec 32 := 1#32
  let arg16 : BitVec 32 := Scf.iv v95 c1_i32_38 k0_t2
  let v5377 : BitVec 32 := Scalar.muli c4_i32_1619 arg16
  let c1_i32_1666 : BitVec 32 := 1#32
  let v5515 : BitVec 32 := Scalar.addi v5377 c1_i32_1666
  let c256_i32_1667 : BitVec 32 := 256#32
  let v5516 : BitVec 32 := Scalar.muli v5515 c256_i32_1667
  v5516
def k0_mult7 (i : grid0.Coords) (k0_t2 : Fin (k0_t2_loop i).trips) : BitVec 32 :=
  let c4_i32_1619 : BitVec 32 := 4#32
  let c0_i32_35 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32 : BitVec 32 := 2#32
  let v90 : BitVec 32 := Scalar.shrui v4 c2_i32
  let v91 : BitVec 32 := Scalar.subi v90 c0_i32_35
  let c1_i32_36 : BitVec 32 := 1#32
  let v93 : BitVec 32 := Scalar.divsi v91 c1_i32_36
  let v94 : BitVec 32 := Scalar.muli v93 c1_i32_36
  let v95 : BitVec 32 := Scalar.addi c0_i32_35 v94
  let c1_i32_38 : BitVec 32 := 1#32
  let arg16 : BitVec 32 := Scf.iv v95 c1_i32_38 k0_t2
  let v5377 : BitVec 32 := Scalar.muli c4_i32_1619 arg16
  let c2_i32_1713 : BitVec 32 := 2#32
  let v5652 : BitVec 32 := Scalar.addi v5377 c2_i32_1713
  let c256_i32_1714 : BitVec 32 := 256#32
  let v5653 : BitVec 32 := Scalar.muli v5652 c256_i32_1714
  v5653
def k0_mult8 (i : grid0.Coords) (k0_t2 : Fin (k0_t2_loop i).trips) : BitVec 32 :=
  let c4_i32_1619 : BitVec 32 := 4#32
  let c0_i32_35 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32 : BitVec 32 := 2#32
  let v90 : BitVec 32 := Scalar.shrui v4 c2_i32
  let v91 : BitVec 32 := Scalar.subi v90 c0_i32_35
  let c1_i32_36 : BitVec 32 := 1#32
  let v93 : BitVec 32 := Scalar.divsi v91 c1_i32_36
  let v94 : BitVec 32 := Scalar.muli v93 c1_i32_36
  let v95 : BitVec 32 := Scalar.addi c0_i32_35 v94
  let c1_i32_38 : BitVec 32 := 1#32
  let arg16 : BitVec 32 := Scf.iv v95 c1_i32_38 k0_t2
  let v5377 : BitVec 32 := Scalar.muli c4_i32_1619 arg16
  let c3_i32_1760 : BitVec 32 := 3#32
  let v5789 : BitVec 32 := Scalar.addi v5377 c3_i32_1760
  let c256_i32_1761 : BitVec 32 := 256#32
  let v5790 : BitVec 32 := Scalar.muli v5789 c256_i32_1761
  v5790
def k0_cond1 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_39 : BitVec 32 := 2#32
  let v97 : BitVec 32 := Scalar.andi v4 c2_i32_39
  let c2_i32_40 : BitVec 32 := 2#32
  let v98 : BitVec 1 := Scalar.cmpi .eq v97 c2_i32_40
  let v99 : BitVec 32 := Scalar.extui v98
  let c0_i32_41 : BitVec 32 := 0#32
  let v100 : BitVec 1 := Scalar.cmpi .ne v99 c0_i32_41
  v100

def k0_mult9 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32 : BitVec 32 := 4294967292#32
  let v96 : BitVec 32 := Scalar.andi v4 c_m4_i32
  let c0_i32_1619 : BitVec 32 := 0#32
  let v5377 : BitVec 32 := Scalar.addi v96 c0_i32_1619
  let c256_i32_1620 : BitVec 32 := 256#32
  let v5378 : BitVec 32 := Scalar.muli v5377 c256_i32_1620
  v5378
def k0_off5 (i : grid0.Coords) (c0_i32_1619 : BitVec 32) : Fin 3 → Nat :=
  let c0_1621 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32 : BitVec 32 := 4294967292#32
  let v96 : BitVec 32 := Scalar.andi v4 c_m4_i32
  let v5377 : BitVec 32 := Scalar.addi v96 c0_i32_1619
  let c256_i32_1620 : BitVec 32 := 256#32
  let v5378 : BitVec 32 := Scalar.muli v5377 c256_i32_1620
  let v5379 : BitVec 32 := v5378
  let v5380 : Index := Scalar.indexCast v5379
  let c0_1622 : Index := 0#32
  ![0, v5380.toNat, 0]
def k0_off6 (i : grid0.Coords) (c0_i32_1619 : BitVec 32) (c0_i32_1642 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32 : BitVec 32 := 4294967292#32
  let v96 : BitVec 32 := Scalar.andi v4 c_m4_i32
  let v5377 : BitVec 32 := Scalar.addi v96 c0_i32_1619
  let c2_i32_1641 : BitVec 32 := 2#32
  let v5443 : BitVec 32 := Scalar.muli v5377 c2_i32_1641
  let v5444 : BitVec 32 := Scalar.addi v5443 c0_i32_1642
  let v5445 : Index := Scalar.indexCast v5444
  let c0_1643 : Index := 0#32
  let c0_1644 : Index := 0#32
  ![v5445.toNat, 0, 0]
def k0_mult10 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32 : BitVec 32 := 4294967292#32
  let v96 : BitVec 32 := Scalar.andi v4 c_m4_i32
  let c1_i32_1665 : BitVec 32 := 1#32
  let v5514 : BitVec 32 := Scalar.addi v96 c1_i32_1665
  let c256_i32_1666 : BitVec 32 := 256#32
  let v5515 : BitVec 32 := Scalar.muli v5514 c256_i32_1666
  v5515
def k0_cond2 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_42 : BitVec 32 := 1#32
  let v102 : BitVec 32 := Scalar.andi v4 c1_i32_42
  let c1_i32_43 : BitVec 32 := 1#32
  let v103 : BitVec 1 := Scalar.cmpi .eq v102 c1_i32_43
  let v104 : BitVec 32 := Scalar.extui v103
  let c0_i32_44 : BitVec 32 := 0#32
  let v105 : BitVec 1 := Scalar.cmpi .ne v104 c0_i32_44
  v105

def k0_mult11 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32 : BitVec 32 := 4294967294#32
  let v101 : BitVec 32 := Scalar.andi v4 c_m2_i32
  let c0_i32_1619 : BitVec 32 := 0#32
  let v5377 : BitVec 32 := Scalar.addi v101 c0_i32_1619
  let c256_i32_1620 : BitVec 32 := 256#32
  let v5378 : BitVec 32 := Scalar.muli v5377 c256_i32_1620
  v5378
def k0_off7 (i : grid0.Coords) : Fin 3 → Nat :=
  let c0_1621 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32 : BitVec 32 := 4294967294#32
  let v101 : BitVec 32 := Scalar.andi v4 c_m2_i32
  let c0_i32_1619 : BitVec 32 := 0#32
  let v5377 : BitVec 32 := Scalar.addi v101 c0_i32_1619
  let c256_i32_1620 : BitVec 32 := 256#32
  let v5378 : BitVec 32 := Scalar.muli v5377 c256_i32_1620
  let v5379 : BitVec 32 := v5378
  let v5380 : Index := Scalar.indexCast v5379
  let c0_1622 : Index := 0#32
  ![0, v5380.toNat, 0]
def k0_off8 (i : grid0.Coords) (c0_i32_1642 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32 : BitVec 32 := 4294967294#32
  let v101 : BitVec 32 := Scalar.andi v4 c_m2_i32
  let c0_i32_1619 : BitVec 32 := 0#32
  let v5377 : BitVec 32 := Scalar.addi v101 c0_i32_1619
  let c2_i32_1641 : BitVec 32 := 2#32
  let v5443 : BitVec 32 := Scalar.muli v5377 c2_i32_1641
  let v5444 : BitVec 32 := Scalar.addi v5443 c0_i32_1642
  let v5445 : Index := Scalar.indexCast v5444
  let c0_1643 : Index := 0#32
  let c0_1644 : Index := 0#32
  ![v5445.toNat, 0, 0]
@[reducible] def k0_t3_loop (i : grid0.Coords) : Scf.Loop 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_45 : BitVec 32 := 2#32
  let v106 : BitVec 32 := Scalar.muli v4 c2_i32_45
  let c32_i32 : BitVec 32 := 32#32
  let v107 : BitVec 32 := Scalar.subi c32_i32 v106
  let c1_i32_47 : BitVec 32 := 1#32
  let v109 : BitVec 32 := Scalar.divsi v107 c1_i32_47
  let v110 : BitVec 32 := Scalar.muli v109 c1_i32_47
  let v111 : BitVec 32 := Scalar.addi v106 v110
  let c1_i32_48 : BitVec 32 := 1#32
  ⟨v106, v111, c1_i32_48⟩
def k0_off9 (i : grid0.Coords) (k0_t3 : Fin (k0_t3_loop i).trips) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_45 : BitVec 32 := 2#32
  let v106 : BitVec 32 := Scalar.muli v4 c2_i32_45
  let c1_i32_48 : BitVec 32 := 1#32
  let arg16 : BitVec 32 := Scf.iv v106 c1_i32_48 k0_t3
  let v5378 : Index := Scalar.indexCast arg16
  let c0_1620 : Index := 0#32
  let c0_1621 : Index := 0#32
  ![v5378.toNat, 0, 0]
@[reducible] def k0_t4_loop (i : grid0.Coords) : Scf.Loop 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_45 : BitVec 32 := 2#32
  let v106 : BitVec 32 := Scalar.muli v4 c2_i32_45
  let c32_i32 : BitVec 32 := 32#32
  let v107 : BitVec 32 := Scalar.subi c32_i32 v106
  let c1_i32_47 : BitVec 32 := 1#32
  let v109 : BitVec 32 := Scalar.divsi v107 c1_i32_47
  let v110 : BitVec 32 := Scalar.muli v109 c1_i32_47
  let v111 : BitVec 32 := Scalar.addi v106 v110
  let v108 : BitVec 32 := Scalar.addi v106 v107
  let c1_i32_49 : BitVec 32 := 1#32
  ⟨v111, v108, c1_i32_49⟩
def k0_off10 (i : grid0.Coords) (k0_t4 : Fin (k0_t4_loop i).trips) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_45 : BitVec 32 := 2#32
  let v106 : BitVec 32 := Scalar.muli v4 c2_i32_45
  let c32_i32 : BitVec 32 := 32#32
  let v107 : BitVec 32 := Scalar.subi c32_i32 v106
  let c1_i32_47 : BitVec 32 := 1#32
  let v109 : BitVec 32 := Scalar.divsi v107 c1_i32_47
  let v110 : BitVec 32 := Scalar.muli v109 c1_i32_47
  let v111 : BitVec 32 := Scalar.addi v106 v110
  let c1_i32_49 : BitVec 32 := 1#32
  let arg16 : BitVec 32 := Scf.iv v111 c1_i32_49 k0_t4
  let v5378 : Index := Scalar.indexCast arg16
  let c0_1620 : Index := 0#32
  let c0_1621 : Index := 0#32
  ![v5378.toNat, 0, 0]
@[reducible] def k0_t5_loop : Scf.Loop 32 :=
  let c0_i32_50 : BitVec 32 := 0#32
  let c64_i32_51 : BitVec 32 := 64#32
  let v112 : BitVec 32 := Scalar.addi c0_i32_50 c64_i32_51
  let c1_i32_52 : BitVec 32 := 1#32
  ⟨c0_i32_50, v112, c1_i32_52⟩
def k0_mult12 (k0_t5 : Fin k0_t5_loop.trips) : BitVec 32 :=
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  v5377
def k0_off11 (k0_t5 : Fin k0_t5_loop.trips) : Fin 3 → Nat :=
  let c0_1620 : Index := 0#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5379 : Index := Scalar.indexCast v5378
  let c0_1621 : Index := 0#32
  ![0, v5379.toNat, 0]
def k0_off12 (k0_t5 : Fin k0_t5_loop.trips) : Fin 3 → Nat :=
  let c1_1623 : Index := 1#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5388 : Index := Scalar.indexCast v5378
  let c0_1624 : Index := 0#32
  ![1, v5388.toNat, 0]
def k0_off13 (k0_t5 : Fin k0_t5_loop.trips) : Fin 3 → Nat :=
  let c2_1627 : Index := 2#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5397 : Index := Scalar.indexCast v5378
  let c0_1628 : Index := 0#32
  ![2, v5397.toNat, 0]
def k0_off14 (k0_t5 : Fin k0_t5_loop.trips) : Fin 3 → Nat :=
  let c3_1631 : Index := 3#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5406 : Index := Scalar.indexCast v5378
  let c0_1632 : Index := 0#32
  ![3, v5406.toNat, 0]
def k0_off15 (k0_t5 : Fin k0_t5_loop.trips) : Fin 3 → Nat :=
  let c4_1635 : Index := 4#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5415 : Index := Scalar.indexCast v5378
  let c0_1636 : Index := 0#32
  ![4, v5415.toNat, 0]
def k0_off16 (k0_t5 : Fin k0_t5_loop.trips) : Fin 3 → Nat :=
  let c5_1639 : Index := 5#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5424 : Index := Scalar.indexCast v5378
  let c0_1640 : Index := 0#32
  ![5, v5424.toNat, 0]
def k0_off17 (k0_t5 : Fin k0_t5_loop.trips) : Fin 3 → Nat :=
  let c6_1643 : Index := 6#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5433 : Index := Scalar.indexCast v5378
  let c0_1644 : Index := 0#32
  ![6, v5433.toNat, 0]
def k0_off18 (k0_t5 : Fin k0_t5_loop.trips) : Fin 3 → Nat :=
  let c7_1647 : Index := 7#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5442 : Index := Scalar.indexCast v5378
  let c0_1648 : Index := 0#32
  ![7, v5442.toNat, 0]
def k0_off19 (k0_t5 : Fin k0_t5_loop.trips) : Fin 3 → Nat :=
  let c8_1651 : Index := 8#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5451 : Index := Scalar.indexCast v5378
  let c0_1652 : Index := 0#32
  ![8, v5451.toNat, 0]
def k0_off20 (k0_t5 : Fin k0_t5_loop.trips) : Fin 3 → Nat :=
  let c9_1655 : Index := 9#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5460 : Index := Scalar.indexCast v5378
  let c0_1656 : Index := 0#32
  ![9, v5460.toNat, 0]
def k0_off21 (k0_t5 : Fin k0_t5_loop.trips) : Fin 3 → Nat :=
  let c10_1659 : Index := 10#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5469 : Index := Scalar.indexCast v5378
  let c0_1660 : Index := 0#32
  ![10, v5469.toNat, 0]
def k0_off22 (k0_t5 : Fin k0_t5_loop.trips) : Fin 3 → Nat :=
  let c11_1663 : Index := 11#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5478 : Index := Scalar.indexCast v5378
  let c0_1664 : Index := 0#32
  ![11, v5478.toNat, 0]
def k0_off23 (k0_t5 : Fin k0_t5_loop.trips) : Fin 3 → Nat :=
  let c12_1667 : Index := 12#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5487 : Index := Scalar.indexCast v5378
  let c0_1668 : Index := 0#32
  ![12, v5487.toNat, 0]
def k0_off24 (k0_t5 : Fin k0_t5_loop.trips) : Fin 3 → Nat :=
  let c13_1671 : Index := 13#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5496 : Index := Scalar.indexCast v5378
  let c0_1672 : Index := 0#32
  ![13, v5496.toNat, 0]
def k0_off25 (k0_t5 : Fin k0_t5_loop.trips) : Fin 3 → Nat :=
  let c14_1675 : Index := 14#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5505 : Index := Scalar.indexCast v5378
  let c0_1676 : Index := 0#32
  ![14, v5505.toNat, 0]
def k0_off26 (k0_t5 : Fin k0_t5_loop.trips) : Fin 3 → Nat :=
  let c15_1679 : Index := 15#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5514 : Index := Scalar.indexCast v5378
  let c0_1680 : Index := 0#32
  ![15, v5514.toNat, 0]
def k0_off27 (k0_t5 : Fin k0_t5_loop.trips) : Fin 3 → Nat :=
  let c16_1683 : Index := 16#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5523 : Index := Scalar.indexCast v5378
  let c0_1684 : Index := 0#32
  ![16, v5523.toNat, 0]
def k0_off28 (k0_t5 : Fin k0_t5_loop.trips) : Fin 3 → Nat :=
  let c17_1687 : Index := 17#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5532 : Index := Scalar.indexCast v5378
  let c0_1688 : Index := 0#32
  ![17, v5532.toNat, 0]
def k0_off29 (k0_t5 : Fin k0_t5_loop.trips) : Fin 3 → Nat :=
  let c18_1691 : Index := 18#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5541 : Index := Scalar.indexCast v5378
  let c0_1692 : Index := 0#32
  ![18, v5541.toNat, 0]
def k0_off30 (k0_t5 : Fin k0_t5_loop.trips) : Fin 3 → Nat :=
  let c19_1695 : Index := 19#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5550 : Index := Scalar.indexCast v5378
  let c0_1696 : Index := 0#32
  ![19, v5550.toNat, 0]
def k0_off31 (k0_t5 : Fin k0_t5_loop.trips) : Fin 3 → Nat :=
  let c20_1699 : Index := 20#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5559 : Index := Scalar.indexCast v5378
  let c0_1700 : Index := 0#32
  ![20, v5559.toNat, 0]
def k0_off32 (k0_t5 : Fin k0_t5_loop.trips) : Fin 3 → Nat :=
  let c21_1703 : Index := 21#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5568 : Index := Scalar.indexCast v5378
  let c0_1704 : Index := 0#32
  ![21, v5568.toNat, 0]
def k0_off33 (k0_t5 : Fin k0_t5_loop.trips) : Fin 3 → Nat :=
  let c22_1707 : Index := 22#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5577 : Index := Scalar.indexCast v5378
  let c0_1708 : Index := 0#32
  ![22, v5577.toNat, 0]
def k0_off34 (k0_t5 : Fin k0_t5_loop.trips) : Fin 3 → Nat :=
  let c23_1711 : Index := 23#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5586 : Index := Scalar.indexCast v5378
  let c0_1712 : Index := 0#32
  ![23, v5586.toNat, 0]
def k0_off35 (k0_t5 : Fin k0_t5_loop.trips) : Fin 3 → Nat :=
  let c24_1715 : Index := 24#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5595 : Index := Scalar.indexCast v5378
  let c0_1716 : Index := 0#32
  ![24, v5595.toNat, 0]
def k0_off36 (k0_t5 : Fin k0_t5_loop.trips) : Fin 3 → Nat :=
  let c25_1719 : Index := 25#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5604 : Index := Scalar.indexCast v5378
  let c0_1720 : Index := 0#32
  ![25, v5604.toNat, 0]
def k0_off37 (k0_t5 : Fin k0_t5_loop.trips) : Fin 3 → Nat :=
  let c26_1723 : Index := 26#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5613 : Index := Scalar.indexCast v5378
  let c0_1724 : Index := 0#32
  ![26, v5613.toNat, 0]
def k0_off38 (k0_t5 : Fin k0_t5_loop.trips) : Fin 3 → Nat :=
  let c27_1727 : Index := 27#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5622 : Index := Scalar.indexCast v5378
  let c0_1728 : Index := 0#32
  ![27, v5622.toNat, 0]
def k0_off39 (k0_t5 : Fin k0_t5_loop.trips) : Fin 3 → Nat :=
  let c28_1731 : Index := 28#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5631 : Index := Scalar.indexCast v5378
  let c0_1732 : Index := 0#32
  ![28, v5631.toNat, 0]
def k0_off40 (k0_t5 : Fin k0_t5_loop.trips) : Fin 3 → Nat :=
  let c29_1735 : Index := 29#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5640 : Index := Scalar.indexCast v5378
  let c0_1736 : Index := 0#32
  ![29, v5640.toNat, 0]
def k0_off41 (k0_t5 : Fin k0_t5_loop.trips) : Fin 3 → Nat :=
  let c30_1739 : Index := 30#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5649 : Index := Scalar.indexCast v5378
  let c0_1740 : Index := 0#32
  ![30, v5649.toNat, 0]
def k0_off42 (k0_t5 : Fin k0_t5_loop.trips) : Fin 3 → Nat :=
  let c31_1743 : Index := 31#32
  let c0_i32_50 : BitVec 32 := 0#32
  let c1_i32_52 : BitVec 32 := 1#32
  let arg16 : BitVec 32 := Scf.iv c0_i32_50 c1_i32_52 k0_t5
  let c8_i32_1619 : BitVec 32 := 8#32
  let v5377 : BitVec 32 := Scalar.muli arg16 c8_i32_1619
  let v5378 : BitVec 32 := v5377
  let v5658 : Index := Scalar.indexCast v5378
  let c0_1744 : Index := 0#32
  ![31, v5658.toNat, 0]
@[reducible] def k0_t6_loop (i : grid0.Coords) : Scf.Loop 32 :=
  let c0_i32_1421 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1420 : BitVec 32 := 2#32
  let v5015 : BitVec 32 := Scalar.shrui v4 c2_i32_1420
  let v5016 : BitVec 32 := Scalar.subi v5015 c0_i32_1421
  let c1_i32_1422 : BitVec 32 := 1#32
  let v5018 : BitVec 32 := Scalar.divsi v5016 c1_i32_1422
  let v5019 : BitVec 32 := Scalar.muli v5018 c1_i32_1422
  let v5020 : BitVec 32 := Scalar.addi c0_i32_1421 v5019
  let c1_i32_1423 : BitVec 32 := 1#32
  ⟨c0_i32_1421, v5020, c1_i32_1423⟩
def k0_off43 (i : grid0.Coords) (k0_t6 : Fin (k0_t6_loop i).trips) (c0_i32_1620 : BitVec 32) (c0_i32_1622 : BitVec 32) : Fin 3 → Nat :=
  let c4_i32_1619 : BitVec 32 := 4#32
  let c0_i32_1421 : BitVec 32 := 0#32
  let c1_i32_1423 : BitVec 32 := 1#32
  let arg16 : BitVec 32 := Scf.iv c0_i32_1421 c1_i32_1423 k0_t6
  let v5377 : BitVec 32 := Scalar.muli c4_i32_1619 arg16
  let v5378 : BitVec 32 := Scalar.addi v5377 c0_i32_1620
  let c2_i32_1621 : BitVec 32 := 2#32
  let v5379 : BitVec 32 := Scalar.muli v5378 c2_i32_1621
  let v5380 : BitVec 32 := Scalar.addi v5379 c0_i32_1622
  let v5381 : Index := Scalar.indexCast v5380
  let c0_1623 : Index := 0#32
  let c0_1624 : Index := 0#32
  ![v5381.toNat, 0, 0]
@[reducible] def k0_t7_loop (i : grid0.Coords) : Scf.Loop 32 :=
  let c0_i32_1421 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1420 : BitVec 32 := 2#32
  let v5015 : BitVec 32 := Scalar.shrui v4 c2_i32_1420
  let v5016 : BitVec 32 := Scalar.subi v5015 c0_i32_1421
  let c1_i32_1422 : BitVec 32 := 1#32
  let v5018 : BitVec 32 := Scalar.divsi v5016 c1_i32_1422
  let v5019 : BitVec 32 := Scalar.muli v5018 c1_i32_1422
  let v5020 : BitVec 32 := Scalar.addi c0_i32_1421 v5019
  let v5017 : BitVec 32 := Scalar.addi c0_i32_1421 v5016
  let c1_i32_1424 : BitVec 32 := 1#32
  ⟨v5020, v5017, c1_i32_1424⟩
def k0_off44 (i : grid0.Coords) (k0_t7 : Fin (k0_t7_loop i).trips) (c0_i32_1620 : BitVec 32) (c0_i32_1622 : BitVec 32) : Fin 3 → Nat :=
  let c4_i32_1619 : BitVec 32 := 4#32
  let c0_i32_1421 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1420 : BitVec 32 := 2#32
  let v5015 : BitVec 32 := Scalar.shrui v4 c2_i32_1420
  let v5016 : BitVec 32 := Scalar.subi v5015 c0_i32_1421
  let c1_i32_1422 : BitVec 32 := 1#32
  let v5018 : BitVec 32 := Scalar.divsi v5016 c1_i32_1422
  let v5019 : BitVec 32 := Scalar.muli v5018 c1_i32_1422
  let v5020 : BitVec 32 := Scalar.addi c0_i32_1421 v5019
  let c1_i32_1424 : BitVec 32 := 1#32
  let arg16 : BitVec 32 := Scf.iv v5020 c1_i32_1424 k0_t7
  let v5377 : BitVec 32 := Scalar.muli c4_i32_1619 arg16
  let v5378 : BitVec 32 := Scalar.addi v5377 c0_i32_1620
  let c2_i32_1621 : BitVec 32 := 2#32
  let v5379 : BitVec 32 := Scalar.muli v5378 c2_i32_1621
  let v5380 : BitVec 32 := Scalar.addi v5379 c0_i32_1622
  let v5381 : Index := Scalar.indexCast v5380
  let c0_1623 : Index := 0#32
  let c0_1624 : Index := 0#32
  ![v5381.toNat, 0, 0]
def k0_cond3 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1426 : BitVec 32 := 2#32
  let v5024 : BitVec 32 := Scalar.andi v4 c2_i32_1426
  let c2_i32_1427 : BitVec 32 := 2#32
  let v5025 : BitVec 1 := Scalar.cmpi .eq v5024 c2_i32_1427
  let v5026 : BitVec 32 := Scalar.extui v5025
  let c0_i32_1428 : BitVec 32 := 0#32
  let v5027 : BitVec 1 := Scalar.cmpi .ne v5026 c0_i32_1428
  v5027

def k0_off45 (i : grid0.Coords) (c0_i32_1619 : BitVec 32) (c0_i32_1621 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1425 : BitVec 32 := 4294967292#32
  let v5023 : BitVec 32 := Scalar.andi v4 c_m4_i32_1425
  let v5377 : BitVec 32 := Scalar.addi v5023 c0_i32_1619
  let c2_i32_1620 : BitVec 32 := 2#32
  let v5378 : BitVec 32 := Scalar.muli v5377 c2_i32_1620
  let v5379 : BitVec 32 := Scalar.addi v5378 c0_i32_1621
  let v5380 : Index := Scalar.indexCast v5379
  let c0_1622 : Index := 0#32
  let c0_1623 : Index := 0#32
  ![v5380.toNat, 0, 0]
def k0_cond4 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1430 : BitVec 32 := 1#32
  let v5030 : BitVec 32 := Scalar.andi v4 c1_i32_1430
  let c1_i32_1431 : BitVec 32 := 1#32
  let v5031 : BitVec 1 := Scalar.cmpi .eq v5030 c1_i32_1431
  let v5032 : BitVec 32 := Scalar.extui v5031
  let c0_i32_1432 : BitVec 32 := 0#32
  let v5033 : BitVec 1 := Scalar.cmpi .ne v5032 c0_i32_1432
  v5033

def k0_off46 (i : grid0.Coords) (c0_i32_1621 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1429 : BitVec 32 := 4294967294#32
  let v5029 : BitVec 32 := Scalar.andi v4 c_m2_i32_1429
  let c0_i32_1619 : BitVec 32 := 0#32
  let v5377 : BitVec 32 := Scalar.addi v5029 c0_i32_1619
  let c2_i32_1620 : BitVec 32 := 2#32
  let v5378 : BitVec 32 := Scalar.muli v5377 c2_i32_1620
  let v5379 : BitVec 32 := Scalar.addi v5378 c0_i32_1621
  let v5380 : Index := Scalar.indexCast v5379
  let c0_1622 : Index := 0#32
  let c0_1623 : Index := 0#32
  ![v5380.toNat, 0, 0]
@[reducible] def k0_t8_loop (i : grid0.Coords) : Scf.Loop 32 :=
  let c0_i32_1435 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1434 : BitVec 32 := 2#32
  let v5039 : BitVec 32 := Scalar.shrui v4 c2_i32_1434
  let v5040 : BitVec 32 := Scalar.subi v5039 c0_i32_1435
  let c1_i32_1436 : BitVec 32 := 1#32
  let v5042 : BitVec 32 := Scalar.divsi v5040 c1_i32_1436
  let v5043 : BitVec 32 := Scalar.muli v5042 c1_i32_1436
  let v5044 : BitVec 32 := Scalar.addi c0_i32_1435 v5043
  let c1_i32_1437 : BitVec 32 := 1#32
  ⟨c0_i32_1435, v5044, c1_i32_1437⟩
def k0_off47 (i : grid0.Coords) (k0_t8 : Fin (k0_t8_loop i).trips) (c0_i32_1620 : BitVec 32) (c0_i32_1622 : BitVec 32) : Fin 3 → Nat :=
  let c4_i32_1619 : BitVec 32 := 4#32
  let c0_i32_1435 : BitVec 32 := 0#32
  let c1_i32_1437 : BitVec 32 := 1#32
  let arg16 : BitVec 32 := Scf.iv c0_i32_1435 c1_i32_1437 k0_t8
  let v5377 : BitVec 32 := Scalar.muli c4_i32_1619 arg16
  let v5378 : BitVec 32 := Scalar.addi v5377 c0_i32_1620
  let c2_i32_1621 : BitVec 32 := 2#32
  let v5379 : BitVec 32 := Scalar.muli v5378 c2_i32_1621
  let v5380 : BitVec 32 := Scalar.addi v5379 c0_i32_1622
  let v5381 : Index := Scalar.indexCast v5380
  let c128_1623 : Index := 128#32
  let c0_1624 : Index := 0#32
  ![v5381.toNat, 128, 0]
@[reducible] def k0_t9_loop (i : grid0.Coords) : Scf.Loop 32 :=
  let c0_i32_1435 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1434 : BitVec 32 := 2#32
  let v5039 : BitVec 32 := Scalar.shrui v4 c2_i32_1434
  let v5040 : BitVec 32 := Scalar.subi v5039 c0_i32_1435
  let c1_i32_1436 : BitVec 32 := 1#32
  let v5042 : BitVec 32 := Scalar.divsi v5040 c1_i32_1436
  let v5043 : BitVec 32 := Scalar.muli v5042 c1_i32_1436
  let v5044 : BitVec 32 := Scalar.addi c0_i32_1435 v5043
  let v5041 : BitVec 32 := Scalar.addi c0_i32_1435 v5040
  let c1_i32_1438 : BitVec 32 := 1#32
  ⟨v5044, v5041, c1_i32_1438⟩
def k0_off48 (i : grid0.Coords) (k0_t9 : Fin (k0_t9_loop i).trips) (c0_i32_1620 : BitVec 32) (c0_i32_1622 : BitVec 32) : Fin 3 → Nat :=
  let c4_i32_1619 : BitVec 32 := 4#32
  let c0_i32_1435 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1434 : BitVec 32 := 2#32
  let v5039 : BitVec 32 := Scalar.shrui v4 c2_i32_1434
  let v5040 : BitVec 32 := Scalar.subi v5039 c0_i32_1435
  let c1_i32_1436 : BitVec 32 := 1#32
  let v5042 : BitVec 32 := Scalar.divsi v5040 c1_i32_1436
  let v5043 : BitVec 32 := Scalar.muli v5042 c1_i32_1436
  let v5044 : BitVec 32 := Scalar.addi c0_i32_1435 v5043
  let c1_i32_1438 : BitVec 32 := 1#32
  let arg16 : BitVec 32 := Scf.iv v5044 c1_i32_1438 k0_t9
  let v5377 : BitVec 32 := Scalar.muli c4_i32_1619 arg16
  let v5378 : BitVec 32 := Scalar.addi v5377 c0_i32_1620
  let c2_i32_1621 : BitVec 32 := 2#32
  let v5379 : BitVec 32 := Scalar.muli v5378 c2_i32_1621
  let v5380 : BitVec 32 := Scalar.addi v5379 c0_i32_1622
  let v5381 : Index := Scalar.indexCast v5380
  let c128_1623 : Index := 128#32
  let c0_1624 : Index := 0#32
  ![v5381.toNat, 128, 0]
def k0_cond5 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1440 : BitVec 32 := 2#32
  let v5048 : BitVec 32 := Scalar.andi v4 c2_i32_1440
  let c2_i32_1441 : BitVec 32 := 2#32
  let v5049 : BitVec 1 := Scalar.cmpi .eq v5048 c2_i32_1441
  let v5050 : BitVec 32 := Scalar.extui v5049
  let c0_i32_1442 : BitVec 32 := 0#32
  let v5051 : BitVec 1 := Scalar.cmpi .ne v5050 c0_i32_1442
  v5051

def k0_off49 (i : grid0.Coords) (c0_i32_1619 : BitVec 32) (c0_i32_1621 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1439 : BitVec 32 := 4294967292#32
  let v5047 : BitVec 32 := Scalar.andi v4 c_m4_i32_1439
  let v5377 : BitVec 32 := Scalar.addi v5047 c0_i32_1619
  let c2_i32_1620 : BitVec 32 := 2#32
  let v5378 : BitVec 32 := Scalar.muli v5377 c2_i32_1620
  let v5379 : BitVec 32 := Scalar.addi v5378 c0_i32_1621
  let v5380 : Index := Scalar.indexCast v5379
  let c128_1622 : Index := 128#32
  let c0_1623 : Index := 0#32
  ![v5380.toNat, 128, 0]
def k0_cond6 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1444 : BitVec 32 := 1#32
  let v5054 : BitVec 32 := Scalar.andi v4 c1_i32_1444
  let c1_i32_1445 : BitVec 32 := 1#32
  let v5055 : BitVec 1 := Scalar.cmpi .eq v5054 c1_i32_1445
  let v5056 : BitVec 32 := Scalar.extui v5055
  let c0_i32_1446 : BitVec 32 := 0#32
  let v5057 : BitVec 1 := Scalar.cmpi .ne v5056 c0_i32_1446
  v5057

def k0_off50 (i : grid0.Coords) (c0_i32_1621 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1443 : BitVec 32 := 4294967294#32
  let v5053 : BitVec 32 := Scalar.andi v4 c_m2_i32_1443
  let c0_i32_1619 : BitVec 32 := 0#32
  let v5377 : BitVec 32 := Scalar.addi v5053 c0_i32_1619
  let c2_i32_1620 : BitVec 32 := 2#32
  let v5378 : BitVec 32 := Scalar.muli v5377 c2_i32_1620
  let v5379 : BitVec 32 := Scalar.addi v5378 c0_i32_1621
  let v5380 : Index := Scalar.indexCast v5379
  let c128_1622 : Index := 128#32
  let c0_1623 : Index := 0#32
  ![v5380.toNat, 128, 0]
@[reducible] def k0_t10_loop (i : grid0.Coords) : Scf.Loop 32 :=
  let c0_i32_1449 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1448 : BitVec 32 := 2#32
  let v5063 : BitVec 32 := Scalar.shrui v4 c2_i32_1448
  let v5064 : BitVec 32 := Scalar.subi v5063 c0_i32_1449
  let c1_i32_1450 : BitVec 32 := 1#32
  let v5066 : BitVec 32 := Scalar.divsi v5064 c1_i32_1450
  let v5067 : BitVec 32 := Scalar.muli v5066 c1_i32_1450
  let v5068 : BitVec 32 := Scalar.addi c0_i32_1449 v5067
  let c1_i32_1451 : BitVec 32 := 1#32
  ⟨c0_i32_1449, v5068, c1_i32_1451⟩
def k0_off51 (i : grid0.Coords) (k0_t10 : Fin (k0_t10_loop i).trips) (c0_i32_1620 : BitVec 32) (c0_i32_1622 : BitVec 32) : Fin 3 → Nat :=
  let c4_i32_1619 : BitVec 32 := 4#32
  let c0_i32_1449 : BitVec 32 := 0#32
  let c1_i32_1451 : BitVec 32 := 1#32
  let arg16 : BitVec 32 := Scf.iv c0_i32_1449 c1_i32_1451 k0_t10
  let v5377 : BitVec 32 := Scalar.muli c4_i32_1619 arg16
  let v5378 : BitVec 32 := Scalar.addi v5377 c0_i32_1620
  let c2_i32_1621 : BitVec 32 := 2#32
  let v5379 : BitVec 32 := Scalar.muli v5378 c2_i32_1621
  let v5380 : BitVec 32 := Scalar.addi v5379 c0_i32_1622
  let v5381 : Index := Scalar.indexCast v5380
  let c256_1623 : Index := 256#32
  let c0_1624 : Index := 0#32
  ![v5381.toNat, 256, 0]
@[reducible] def k0_t11_loop (i : grid0.Coords) : Scf.Loop 32 :=
  let c0_i32_1449 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1448 : BitVec 32 := 2#32
  let v5063 : BitVec 32 := Scalar.shrui v4 c2_i32_1448
  let v5064 : BitVec 32 := Scalar.subi v5063 c0_i32_1449
  let c1_i32_1450 : BitVec 32 := 1#32
  let v5066 : BitVec 32 := Scalar.divsi v5064 c1_i32_1450
  let v5067 : BitVec 32 := Scalar.muli v5066 c1_i32_1450
  let v5068 : BitVec 32 := Scalar.addi c0_i32_1449 v5067
  let v5065 : BitVec 32 := Scalar.addi c0_i32_1449 v5064
  let c1_i32_1452 : BitVec 32 := 1#32
  ⟨v5068, v5065, c1_i32_1452⟩
def k0_off52 (i : grid0.Coords) (k0_t11 : Fin (k0_t11_loop i).trips) (c0_i32_1620 : BitVec 32) (c0_i32_1622 : BitVec 32) : Fin 3 → Nat :=
  let c4_i32_1619 : BitVec 32 := 4#32
  let c0_i32_1449 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1448 : BitVec 32 := 2#32
  let v5063 : BitVec 32 := Scalar.shrui v4 c2_i32_1448
  let v5064 : BitVec 32 := Scalar.subi v5063 c0_i32_1449
  let c1_i32_1450 : BitVec 32 := 1#32
  let v5066 : BitVec 32 := Scalar.divsi v5064 c1_i32_1450
  let v5067 : BitVec 32 := Scalar.muli v5066 c1_i32_1450
  let v5068 : BitVec 32 := Scalar.addi c0_i32_1449 v5067
  let c1_i32_1452 : BitVec 32 := 1#32
  let arg16 : BitVec 32 := Scf.iv v5068 c1_i32_1452 k0_t11
  let v5377 : BitVec 32 := Scalar.muli c4_i32_1619 arg16
  let v5378 : BitVec 32 := Scalar.addi v5377 c0_i32_1620
  let c2_i32_1621 : BitVec 32 := 2#32
  let v5379 : BitVec 32 := Scalar.muli v5378 c2_i32_1621
  let v5380 : BitVec 32 := Scalar.addi v5379 c0_i32_1622
  let v5381 : Index := Scalar.indexCast v5380
  let c256_1623 : Index := 256#32
  let c0_1624 : Index := 0#32
  ![v5381.toNat, 256, 0]
def k0_cond7 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1454 : BitVec 32 := 2#32
  let v5072 : BitVec 32 := Scalar.andi v4 c2_i32_1454
  let c2_i32_1455 : BitVec 32 := 2#32
  let v5073 : BitVec 1 := Scalar.cmpi .eq v5072 c2_i32_1455
  let v5074 : BitVec 32 := Scalar.extui v5073
  let c0_i32_1456 : BitVec 32 := 0#32
  let v5075 : BitVec 1 := Scalar.cmpi .ne v5074 c0_i32_1456
  v5075

def k0_off53 (i : grid0.Coords) (c0_i32_1619 : BitVec 32) (c0_i32_1621 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1453 : BitVec 32 := 4294967292#32
  let v5071 : BitVec 32 := Scalar.andi v4 c_m4_i32_1453
  let v5377 : BitVec 32 := Scalar.addi v5071 c0_i32_1619
  let c2_i32_1620 : BitVec 32 := 2#32
  let v5378 : BitVec 32 := Scalar.muli v5377 c2_i32_1620
  let v5379 : BitVec 32 := Scalar.addi v5378 c0_i32_1621
  let v5380 : Index := Scalar.indexCast v5379
  let c256_1622 : Index := 256#32
  let c0_1623 : Index := 0#32
  ![v5380.toNat, 256, 0]
def k0_cond8 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1458 : BitVec 32 := 1#32
  let v5078 : BitVec 32 := Scalar.andi v4 c1_i32_1458
  let c1_i32_1459 : BitVec 32 := 1#32
  let v5079 : BitVec 1 := Scalar.cmpi .eq v5078 c1_i32_1459
  let v5080 : BitVec 32 := Scalar.extui v5079
  let c0_i32_1460 : BitVec 32 := 0#32
  let v5081 : BitVec 1 := Scalar.cmpi .ne v5080 c0_i32_1460
  v5081

def k0_off54 (i : grid0.Coords) (c0_i32_1621 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1457 : BitVec 32 := 4294967294#32
  let v5077 : BitVec 32 := Scalar.andi v4 c_m2_i32_1457
  let c0_i32_1619 : BitVec 32 := 0#32
  let v5377 : BitVec 32 := Scalar.addi v5077 c0_i32_1619
  let c2_i32_1620 : BitVec 32 := 2#32
  let v5378 : BitVec 32 := Scalar.muli v5377 c2_i32_1620
  let v5379 : BitVec 32 := Scalar.addi v5378 c0_i32_1621
  let v5380 : Index := Scalar.indexCast v5379
  let c256_1622 : Index := 256#32
  let c0_1623 : Index := 0#32
  ![v5380.toNat, 256, 0]
@[reducible] def k0_t12_loop (i : grid0.Coords) : Scf.Loop 32 :=
  let c0_i32_1463 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1462 : BitVec 32 := 2#32
  let v5087 : BitVec 32 := Scalar.shrui v4 c2_i32_1462
  let v5088 : BitVec 32 := Scalar.subi v5087 c0_i32_1463
  let c1_i32_1464 : BitVec 32 := 1#32
  let v5090 : BitVec 32 := Scalar.divsi v5088 c1_i32_1464
  let v5091 : BitVec 32 := Scalar.muli v5090 c1_i32_1464
  let v5092 : BitVec 32 := Scalar.addi c0_i32_1463 v5091
  let c1_i32_1465 : BitVec 32 := 1#32
  ⟨c0_i32_1463, v5092, c1_i32_1465⟩
def k0_off55 (i : grid0.Coords) (k0_t12 : Fin (k0_t12_loop i).trips) (c0_i32_1620 : BitVec 32) (c0_i32_1622 : BitVec 32) : Fin 3 → Nat :=
  let c4_i32_1619 : BitVec 32 := 4#32
  let c0_i32_1463 : BitVec 32 := 0#32
  let c1_i32_1465 : BitVec 32 := 1#32
  let arg16 : BitVec 32 := Scf.iv c0_i32_1463 c1_i32_1465 k0_t12
  let v5377 : BitVec 32 := Scalar.muli c4_i32_1619 arg16
  let v5378 : BitVec 32 := Scalar.addi v5377 c0_i32_1620
  let c2_i32_1621 : BitVec 32 := 2#32
  let v5379 : BitVec 32 := Scalar.muli v5378 c2_i32_1621
  let v5380 : BitVec 32 := Scalar.addi v5379 c0_i32_1622
  let v5381 : Index := Scalar.indexCast v5380
  let c384_1623 : Index := 384#32
  let c0_1624 : Index := 0#32
  ![v5381.toNat, 384, 0]
@[reducible] def k0_t13_loop (i : grid0.Coords) : Scf.Loop 32 :=
  let c0_i32_1463 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1462 : BitVec 32 := 2#32
  let v5087 : BitVec 32 := Scalar.shrui v4 c2_i32_1462
  let v5088 : BitVec 32 := Scalar.subi v5087 c0_i32_1463
  let c1_i32_1464 : BitVec 32 := 1#32
  let v5090 : BitVec 32 := Scalar.divsi v5088 c1_i32_1464
  let v5091 : BitVec 32 := Scalar.muli v5090 c1_i32_1464
  let v5092 : BitVec 32 := Scalar.addi c0_i32_1463 v5091
  let v5089 : BitVec 32 := Scalar.addi c0_i32_1463 v5088
  let c1_i32_1466 : BitVec 32 := 1#32
  ⟨v5092, v5089, c1_i32_1466⟩
def k0_off56 (i : grid0.Coords) (k0_t13 : Fin (k0_t13_loop i).trips) (c0_i32_1620 : BitVec 32) (c0_i32_1622 : BitVec 32) : Fin 3 → Nat :=
  let c4_i32_1619 : BitVec 32 := 4#32
  let c0_i32_1463 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1462 : BitVec 32 := 2#32
  let v5087 : BitVec 32 := Scalar.shrui v4 c2_i32_1462
  let v5088 : BitVec 32 := Scalar.subi v5087 c0_i32_1463
  let c1_i32_1464 : BitVec 32 := 1#32
  let v5090 : BitVec 32 := Scalar.divsi v5088 c1_i32_1464
  let v5091 : BitVec 32 := Scalar.muli v5090 c1_i32_1464
  let v5092 : BitVec 32 := Scalar.addi c0_i32_1463 v5091
  let c1_i32_1466 : BitVec 32 := 1#32
  let arg16 : BitVec 32 := Scf.iv v5092 c1_i32_1466 k0_t13
  let v5377 : BitVec 32 := Scalar.muli c4_i32_1619 arg16
  let v5378 : BitVec 32 := Scalar.addi v5377 c0_i32_1620
  let c2_i32_1621 : BitVec 32 := 2#32
  let v5379 : BitVec 32 := Scalar.muli v5378 c2_i32_1621
  let v5380 : BitVec 32 := Scalar.addi v5379 c0_i32_1622
  let v5381 : Index := Scalar.indexCast v5380
  let c384_1623 : Index := 384#32
  let c0_1624 : Index := 0#32
  ![v5381.toNat, 384, 0]
def k0_cond9 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1468 : BitVec 32 := 2#32
  let v5096 : BitVec 32 := Scalar.andi v4 c2_i32_1468
  let c2_i32_1469 : BitVec 32 := 2#32
  let v5097 : BitVec 1 := Scalar.cmpi .eq v5096 c2_i32_1469
  let v5098 : BitVec 32 := Scalar.extui v5097
  let c0_i32_1470 : BitVec 32 := 0#32
  let v5099 : BitVec 1 := Scalar.cmpi .ne v5098 c0_i32_1470
  v5099

def k0_off57 (i : grid0.Coords) (c0_i32_1619 : BitVec 32) (c0_i32_1621 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1467 : BitVec 32 := 4294967292#32
  let v5095 : BitVec 32 := Scalar.andi v4 c_m4_i32_1467
  let v5377 : BitVec 32 := Scalar.addi v5095 c0_i32_1619
  let c2_i32_1620 : BitVec 32 := 2#32
  let v5378 : BitVec 32 := Scalar.muli v5377 c2_i32_1620
  let v5379 : BitVec 32 := Scalar.addi v5378 c0_i32_1621
  let v5380 : Index := Scalar.indexCast v5379
  let c384_1622 : Index := 384#32
  let c0_1623 : Index := 0#32
  ![v5380.toNat, 384, 0]
def k0_cond10 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1472 : BitVec 32 := 1#32
  let v5102 : BitVec 32 := Scalar.andi v4 c1_i32_1472
  let c1_i32_1473 : BitVec 32 := 1#32
  let v5103 : BitVec 1 := Scalar.cmpi .eq v5102 c1_i32_1473
  let v5104 : BitVec 32 := Scalar.extui v5103
  let c0_i32_1474 : BitVec 32 := 0#32
  let v5105 : BitVec 1 := Scalar.cmpi .ne v5104 c0_i32_1474
  v5105

def k0_off58 (i : grid0.Coords) (c0_i32_1621 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1471 : BitVec 32 := 4294967294#32
  let v5101 : BitVec 32 := Scalar.andi v4 c_m2_i32_1471
  let c0_i32_1619 : BitVec 32 := 0#32
  let v5377 : BitVec 32 := Scalar.addi v5101 c0_i32_1619
  let c2_i32_1620 : BitVec 32 := 2#32
  let v5378 : BitVec 32 := Scalar.muli v5377 c2_i32_1620
  let v5379 : BitVec 32 := Scalar.addi v5378 c0_i32_1621
  let v5380 : Index := Scalar.indexCast v5379
  let c384_1622 : Index := 384#32
  let c0_1623 : Index := 0#32
  ![v5380.toNat, 384, 0]
@[reducible] def k0_t14_loop : Scf.Loop 32 :=
  let c0_i32_1620 : BitVec 32 := 0#32
  let c32_i32_1621 : BitVec 32 := 32#32
  let v5378 : BitVec 32 := Scalar.addi c0_i32_1620 c32_i32_1621
  let c1_i32_1622 : BitVec 32 := 1#32
  ⟨c0_i32_1620, v5378, c1_i32_1622⟩
@[reducible] def k0_t15_loop (i : grid0.Coords) : Scf.Loop 32 :=
  let c0_i32_1701 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1700 : BitVec 32 := 2#32
  let v5526 : BitVec 32 := Scalar.shrui v4 c2_i32_1700
  let v5527 : BitVec 32 := Scalar.subi v5526 c0_i32_1701
  let c1_i32_1702 : BitVec 32 := 1#32
  let v5529 : BitVec 32 := Scalar.divsi v5527 c1_i32_1702
  let v5530 : BitVec 32 := Scalar.muli v5529 c1_i32_1702
  let v5531 : BitVec 32 := Scalar.addi c0_i32_1701 v5530
  let c1_i32_1703 : BitVec 32 := 1#32
  ⟨c0_i32_1701, v5531, c1_i32_1703⟩
def k0_off59 (i : grid0.Coords) (k0_t15 : Fin (k0_t15_loop i).trips) (c0_i32_1760 : BitVec 32) (c0_i32_1762 : BitVec 32) : Fin 3 → Nat :=
  let c4_i32_1759 : BitVec 32 := 4#32
  let c0_i32_1701 : BitVec 32 := 0#32
  let c1_i32_1703 : BitVec 32 := 1#32
  let arg18 : BitVec 32 := Scf.iv c0_i32_1701 c1_i32_1703 k0_t15
  let v5630 : BitVec 32 := Scalar.muli c4_i32_1759 arg18
  let v5631 : BitVec 32 := Scalar.addi v5630 c0_i32_1760
  let c2_i32_1761 : BitVec 32 := 2#32
  let v5632 : BitVec 32 := Scalar.muli v5631 c2_i32_1761
  let v5633 : BitVec 32 := Scalar.addi v5632 c0_i32_1762
  let v5634 : Index := Scalar.indexCast v5633
  let c0_1763 : Index := 0#32
  let c0_1764 : Index := 0#32
  ![v5634.toNat, 0, 0]
@[reducible] def k0_t16_loop (i : grid0.Coords) : Scf.Loop 32 :=
  let c0_i32_1701 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1700 : BitVec 32 := 2#32
  let v5526 : BitVec 32 := Scalar.shrui v4 c2_i32_1700
  let v5527 : BitVec 32 := Scalar.subi v5526 c0_i32_1701
  let c1_i32_1702 : BitVec 32 := 1#32
  let v5529 : BitVec 32 := Scalar.divsi v5527 c1_i32_1702
  let v5530 : BitVec 32 := Scalar.muli v5529 c1_i32_1702
  let v5531 : BitVec 32 := Scalar.addi c0_i32_1701 v5530
  let v5528 : BitVec 32 := Scalar.addi c0_i32_1701 v5527
  let c1_i32_1704 : BitVec 32 := 1#32
  ⟨v5531, v5528, c1_i32_1704⟩
def k0_off60 (i : grid0.Coords) (k0_t16 : Fin (k0_t16_loop i).trips) (c0_i32_1760 : BitVec 32) (c0_i32_1762 : BitVec 32) : Fin 3 → Nat :=
  let c4_i32_1759 : BitVec 32 := 4#32
  let c0_i32_1701 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1700 : BitVec 32 := 2#32
  let v5526 : BitVec 32 := Scalar.shrui v4 c2_i32_1700
  let v5527 : BitVec 32 := Scalar.subi v5526 c0_i32_1701
  let c1_i32_1702 : BitVec 32 := 1#32
  let v5529 : BitVec 32 := Scalar.divsi v5527 c1_i32_1702
  let v5530 : BitVec 32 := Scalar.muli v5529 c1_i32_1702
  let v5531 : BitVec 32 := Scalar.addi c0_i32_1701 v5530
  let c1_i32_1704 : BitVec 32 := 1#32
  let arg18 : BitVec 32 := Scf.iv v5531 c1_i32_1704 k0_t16
  let v5630 : BitVec 32 := Scalar.muli c4_i32_1759 arg18
  let v5631 : BitVec 32 := Scalar.addi v5630 c0_i32_1760
  let c2_i32_1761 : BitVec 32 := 2#32
  let v5632 : BitVec 32 := Scalar.muli v5631 c2_i32_1761
  let v5633 : BitVec 32 := Scalar.addi v5632 c0_i32_1762
  let v5634 : Index := Scalar.indexCast v5633
  let c0_1763 : Index := 0#32
  let c0_1764 : Index := 0#32
  ![v5634.toNat, 0, 0]
def k0_cond12 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1706 : BitVec 32 := 2#32
  let v5535 : BitVec 32 := Scalar.andi v4 c2_i32_1706
  let c2_i32_1707 : BitVec 32 := 2#32
  let v5536 : BitVec 1 := Scalar.cmpi .eq v5535 c2_i32_1707
  let v5537 : BitVec 32 := Scalar.extui v5536
  let c0_i32_1708 : BitVec 32 := 0#32
  let v5538 : BitVec 1 := Scalar.cmpi .ne v5537 c0_i32_1708
  v5538

def k0_off61 (i : grid0.Coords) (c0_i32_1759 : BitVec 32) (c0_i32_1761 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1705 : BitVec 32 := 4294967292#32
  let v5534 : BitVec 32 := Scalar.andi v4 c_m4_i32_1705
  let v5630 : BitVec 32 := Scalar.addi v5534 c0_i32_1759
  let c2_i32_1760 : BitVec 32 := 2#32
  let v5631 : BitVec 32 := Scalar.muli v5630 c2_i32_1760
  let v5632 : BitVec 32 := Scalar.addi v5631 c0_i32_1761
  let v5633 : Index := Scalar.indexCast v5632
  let c0_1762 : Index := 0#32
  let c0_1763 : Index := 0#32
  ![v5633.toNat, 0, 0]
def k0_cond13 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1710 : BitVec 32 := 1#32
  let v5541 : BitVec 32 := Scalar.andi v4 c1_i32_1710
  let c1_i32_1711 : BitVec 32 := 1#32
  let v5542 : BitVec 1 := Scalar.cmpi .eq v5541 c1_i32_1711
  let v5543 : BitVec 32 := Scalar.extui v5542
  let c0_i32_1712 : BitVec 32 := 0#32
  let v5544 : BitVec 1 := Scalar.cmpi .ne v5543 c0_i32_1712
  v5544

def k0_off62 (i : grid0.Coords) (c0_i32_1761 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1709 : BitVec 32 := 4294967294#32
  let v5540 : BitVec 32 := Scalar.andi v4 c_m2_i32_1709
  let c0_i32_1759 : BitVec 32 := 0#32
  let v5630 : BitVec 32 := Scalar.addi v5540 c0_i32_1759
  let c2_i32_1760 : BitVec 32 := 2#32
  let v5631 : BitVec 32 := Scalar.muli v5630 c2_i32_1760
  let v5632 : BitVec 32 := Scalar.addi v5631 c0_i32_1761
  let v5633 : Index := Scalar.indexCast v5632
  let c0_1762 : Index := 0#32
  let c0_1763 : Index := 0#32
  ![v5633.toNat, 0, 0]
@[reducible] def k0_t17_loop (i : grid0.Coords) : Scf.Loop 32 :=
  let c0_i32_1715 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1714 : BitVec 32 := 2#32
  let v5550 : BitVec 32 := Scalar.shrui v4 c2_i32_1714
  let v5551 : BitVec 32 := Scalar.subi v5550 c0_i32_1715
  let c1_i32_1716 : BitVec 32 := 1#32
  let v5553 : BitVec 32 := Scalar.divsi v5551 c1_i32_1716
  let v5554 : BitVec 32 := Scalar.muli v5553 c1_i32_1716
  let v5555 : BitVec 32 := Scalar.addi c0_i32_1715 v5554
  let c1_i32_1717 : BitVec 32 := 1#32
  ⟨c0_i32_1715, v5555, c1_i32_1717⟩
def k0_off63 (i : grid0.Coords) (k0_t17 : Fin (k0_t17_loop i).trips) (c0_i32_1760 : BitVec 32) (c0_i32_1762 : BitVec 32) : Fin 3 → Nat :=
  let c4_i32_1759 : BitVec 32 := 4#32
  let c0_i32_1715 : BitVec 32 := 0#32
  let c1_i32_1717 : BitVec 32 := 1#32
  let arg18 : BitVec 32 := Scf.iv c0_i32_1715 c1_i32_1717 k0_t17
  let v5630 : BitVec 32 := Scalar.muli c4_i32_1759 arg18
  let v5631 : BitVec 32 := Scalar.addi v5630 c0_i32_1760
  let c2_i32_1761 : BitVec 32 := 2#32
  let v5632 : BitVec 32 := Scalar.muli v5631 c2_i32_1761
  let v5633 : BitVec 32 := Scalar.addi v5632 c0_i32_1762
  let v5634 : Index := Scalar.indexCast v5633
  let c128_1763 : Index := 128#32
  let c0_1764 : Index := 0#32
  ![v5634.toNat, 128, 0]
@[reducible] def k0_t18_loop (i : grid0.Coords) : Scf.Loop 32 :=
  let c0_i32_1715 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1714 : BitVec 32 := 2#32
  let v5550 : BitVec 32 := Scalar.shrui v4 c2_i32_1714
  let v5551 : BitVec 32 := Scalar.subi v5550 c0_i32_1715
  let c1_i32_1716 : BitVec 32 := 1#32
  let v5553 : BitVec 32 := Scalar.divsi v5551 c1_i32_1716
  let v5554 : BitVec 32 := Scalar.muli v5553 c1_i32_1716
  let v5555 : BitVec 32 := Scalar.addi c0_i32_1715 v5554
  let v5552 : BitVec 32 := Scalar.addi c0_i32_1715 v5551
  let c1_i32_1718 : BitVec 32 := 1#32
  ⟨v5555, v5552, c1_i32_1718⟩
def k0_off64 (i : grid0.Coords) (k0_t18 : Fin (k0_t18_loop i).trips) (c0_i32_1760 : BitVec 32) (c0_i32_1762 : BitVec 32) : Fin 3 → Nat :=
  let c4_i32_1759 : BitVec 32 := 4#32
  let c0_i32_1715 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1714 : BitVec 32 := 2#32
  let v5550 : BitVec 32 := Scalar.shrui v4 c2_i32_1714
  let v5551 : BitVec 32 := Scalar.subi v5550 c0_i32_1715
  let c1_i32_1716 : BitVec 32 := 1#32
  let v5553 : BitVec 32 := Scalar.divsi v5551 c1_i32_1716
  let v5554 : BitVec 32 := Scalar.muli v5553 c1_i32_1716
  let v5555 : BitVec 32 := Scalar.addi c0_i32_1715 v5554
  let c1_i32_1718 : BitVec 32 := 1#32
  let arg18 : BitVec 32 := Scf.iv v5555 c1_i32_1718 k0_t18
  let v5630 : BitVec 32 := Scalar.muli c4_i32_1759 arg18
  let v5631 : BitVec 32 := Scalar.addi v5630 c0_i32_1760
  let c2_i32_1761 : BitVec 32 := 2#32
  let v5632 : BitVec 32 := Scalar.muli v5631 c2_i32_1761
  let v5633 : BitVec 32 := Scalar.addi v5632 c0_i32_1762
  let v5634 : Index := Scalar.indexCast v5633
  let c128_1763 : Index := 128#32
  let c0_1764 : Index := 0#32
  ![v5634.toNat, 128, 0]
def k0_cond14 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1720 : BitVec 32 := 2#32
  let v5559 : BitVec 32 := Scalar.andi v4 c2_i32_1720
  let c2_i32_1721 : BitVec 32 := 2#32
  let v5560 : BitVec 1 := Scalar.cmpi .eq v5559 c2_i32_1721
  let v5561 : BitVec 32 := Scalar.extui v5560
  let c0_i32_1722 : BitVec 32 := 0#32
  let v5562 : BitVec 1 := Scalar.cmpi .ne v5561 c0_i32_1722
  v5562

def k0_off65 (i : grid0.Coords) (c0_i32_1759 : BitVec 32) (c0_i32_1761 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1719 : BitVec 32 := 4294967292#32
  let v5558 : BitVec 32 := Scalar.andi v4 c_m4_i32_1719
  let v5630 : BitVec 32 := Scalar.addi v5558 c0_i32_1759
  let c2_i32_1760 : BitVec 32 := 2#32
  let v5631 : BitVec 32 := Scalar.muli v5630 c2_i32_1760
  let v5632 : BitVec 32 := Scalar.addi v5631 c0_i32_1761
  let v5633 : Index := Scalar.indexCast v5632
  let c128_1762 : Index := 128#32
  let c0_1763 : Index := 0#32
  ![v5633.toNat, 128, 0]
def k0_cond15 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1724 : BitVec 32 := 1#32
  let v5565 : BitVec 32 := Scalar.andi v4 c1_i32_1724
  let c1_i32_1725 : BitVec 32 := 1#32
  let v5566 : BitVec 1 := Scalar.cmpi .eq v5565 c1_i32_1725
  let v5567 : BitVec 32 := Scalar.extui v5566
  let c0_i32_1726 : BitVec 32 := 0#32
  let v5568 : BitVec 1 := Scalar.cmpi .ne v5567 c0_i32_1726
  v5568

def k0_off66 (i : grid0.Coords) (c0_i32_1761 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1723 : BitVec 32 := 4294967294#32
  let v5564 : BitVec 32 := Scalar.andi v4 c_m2_i32_1723
  let c0_i32_1759 : BitVec 32 := 0#32
  let v5630 : BitVec 32 := Scalar.addi v5564 c0_i32_1759
  let c2_i32_1760 : BitVec 32 := 2#32
  let v5631 : BitVec 32 := Scalar.muli v5630 c2_i32_1760
  let v5632 : BitVec 32 := Scalar.addi v5631 c0_i32_1761
  let v5633 : Index := Scalar.indexCast v5632
  let c128_1762 : Index := 128#32
  let c0_1763 : Index := 0#32
  ![v5633.toNat, 128, 0]
@[reducible] def k0_t19_loop (i : grid0.Coords) : Scf.Loop 32 :=
  let c0_i32_1729 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1728 : BitVec 32 := 2#32
  let v5574 : BitVec 32 := Scalar.shrui v4 c2_i32_1728
  let v5575 : BitVec 32 := Scalar.subi v5574 c0_i32_1729
  let c1_i32_1730 : BitVec 32 := 1#32
  let v5577 : BitVec 32 := Scalar.divsi v5575 c1_i32_1730
  let v5578 : BitVec 32 := Scalar.muli v5577 c1_i32_1730
  let v5579 : BitVec 32 := Scalar.addi c0_i32_1729 v5578
  let c1_i32_1731 : BitVec 32 := 1#32
  ⟨c0_i32_1729, v5579, c1_i32_1731⟩
def k0_off67 (i : grid0.Coords) (k0_t19 : Fin (k0_t19_loop i).trips) (c0_i32_1760 : BitVec 32) (c0_i32_1762 : BitVec 32) : Fin 3 → Nat :=
  let c4_i32_1759 : BitVec 32 := 4#32
  let c0_i32_1729 : BitVec 32 := 0#32
  let c1_i32_1731 : BitVec 32 := 1#32
  let arg18 : BitVec 32 := Scf.iv c0_i32_1729 c1_i32_1731 k0_t19
  let v5630 : BitVec 32 := Scalar.muli c4_i32_1759 arg18
  let v5631 : BitVec 32 := Scalar.addi v5630 c0_i32_1760
  let c2_i32_1761 : BitVec 32 := 2#32
  let v5632 : BitVec 32 := Scalar.muli v5631 c2_i32_1761
  let v5633 : BitVec 32 := Scalar.addi v5632 c0_i32_1762
  let v5634 : Index := Scalar.indexCast v5633
  let c256_1763 : Index := 256#32
  let c0_1764 : Index := 0#32
  ![v5634.toNat, 256, 0]
@[reducible] def k0_t20_loop (i : grid0.Coords) : Scf.Loop 32 :=
  let c0_i32_1729 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1728 : BitVec 32 := 2#32
  let v5574 : BitVec 32 := Scalar.shrui v4 c2_i32_1728
  let v5575 : BitVec 32 := Scalar.subi v5574 c0_i32_1729
  let c1_i32_1730 : BitVec 32 := 1#32
  let v5577 : BitVec 32 := Scalar.divsi v5575 c1_i32_1730
  let v5578 : BitVec 32 := Scalar.muli v5577 c1_i32_1730
  let v5579 : BitVec 32 := Scalar.addi c0_i32_1729 v5578
  let v5576 : BitVec 32 := Scalar.addi c0_i32_1729 v5575
  let c1_i32_1732 : BitVec 32 := 1#32
  ⟨v5579, v5576, c1_i32_1732⟩
def k0_off68 (i : grid0.Coords) (k0_t20 : Fin (k0_t20_loop i).trips) (c0_i32_1760 : BitVec 32) (c0_i32_1762 : BitVec 32) : Fin 3 → Nat :=
  let c4_i32_1759 : BitVec 32 := 4#32
  let c0_i32_1729 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1728 : BitVec 32 := 2#32
  let v5574 : BitVec 32 := Scalar.shrui v4 c2_i32_1728
  let v5575 : BitVec 32 := Scalar.subi v5574 c0_i32_1729
  let c1_i32_1730 : BitVec 32 := 1#32
  let v5577 : BitVec 32 := Scalar.divsi v5575 c1_i32_1730
  let v5578 : BitVec 32 := Scalar.muli v5577 c1_i32_1730
  let v5579 : BitVec 32 := Scalar.addi c0_i32_1729 v5578
  let c1_i32_1732 : BitVec 32 := 1#32
  let arg18 : BitVec 32 := Scf.iv v5579 c1_i32_1732 k0_t20
  let v5630 : BitVec 32 := Scalar.muli c4_i32_1759 arg18
  let v5631 : BitVec 32 := Scalar.addi v5630 c0_i32_1760
  let c2_i32_1761 : BitVec 32 := 2#32
  let v5632 : BitVec 32 := Scalar.muli v5631 c2_i32_1761
  let v5633 : BitVec 32 := Scalar.addi v5632 c0_i32_1762
  let v5634 : Index := Scalar.indexCast v5633
  let c256_1763 : Index := 256#32
  let c0_1764 : Index := 0#32
  ![v5634.toNat, 256, 0]
def k0_cond16 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1734 : BitVec 32 := 2#32
  let v5583 : BitVec 32 := Scalar.andi v4 c2_i32_1734
  let c2_i32_1735 : BitVec 32 := 2#32
  let v5584 : BitVec 1 := Scalar.cmpi .eq v5583 c2_i32_1735
  let v5585 : BitVec 32 := Scalar.extui v5584
  let c0_i32_1736 : BitVec 32 := 0#32
  let v5586 : BitVec 1 := Scalar.cmpi .ne v5585 c0_i32_1736
  v5586

def k0_off69 (i : grid0.Coords) (c0_i32_1759 : BitVec 32) (c0_i32_1761 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1733 : BitVec 32 := 4294967292#32
  let v5582 : BitVec 32 := Scalar.andi v4 c_m4_i32_1733
  let v5630 : BitVec 32 := Scalar.addi v5582 c0_i32_1759
  let c2_i32_1760 : BitVec 32 := 2#32
  let v5631 : BitVec 32 := Scalar.muli v5630 c2_i32_1760
  let v5632 : BitVec 32 := Scalar.addi v5631 c0_i32_1761
  let v5633 : Index := Scalar.indexCast v5632
  let c256_1762 : Index := 256#32
  let c0_1763 : Index := 0#32
  ![v5633.toNat, 256, 0]
def k0_cond17 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1738 : BitVec 32 := 1#32
  let v5589 : BitVec 32 := Scalar.andi v4 c1_i32_1738
  let c1_i32_1739 : BitVec 32 := 1#32
  let v5590 : BitVec 1 := Scalar.cmpi .eq v5589 c1_i32_1739
  let v5591 : BitVec 32 := Scalar.extui v5590
  let c0_i32_1740 : BitVec 32 := 0#32
  let v5592 : BitVec 1 := Scalar.cmpi .ne v5591 c0_i32_1740
  v5592

def k0_off70 (i : grid0.Coords) (c0_i32_1761 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1737 : BitVec 32 := 4294967294#32
  let v5588 : BitVec 32 := Scalar.andi v4 c_m2_i32_1737
  let c0_i32_1759 : BitVec 32 := 0#32
  let v5630 : BitVec 32 := Scalar.addi v5588 c0_i32_1759
  let c2_i32_1760 : BitVec 32 := 2#32
  let v5631 : BitVec 32 := Scalar.muli v5630 c2_i32_1760
  let v5632 : BitVec 32 := Scalar.addi v5631 c0_i32_1761
  let v5633 : Index := Scalar.indexCast v5632
  let c256_1762 : Index := 256#32
  let c0_1763 : Index := 0#32
  ![v5633.toNat, 256, 0]
@[reducible] def k0_t21_loop (i : grid0.Coords) : Scf.Loop 32 :=
  let c0_i32_1743 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1742 : BitVec 32 := 2#32
  let v5598 : BitVec 32 := Scalar.shrui v4 c2_i32_1742
  let v5599 : BitVec 32 := Scalar.subi v5598 c0_i32_1743
  let c1_i32_1744 : BitVec 32 := 1#32
  let v5601 : BitVec 32 := Scalar.divsi v5599 c1_i32_1744
  let v5602 : BitVec 32 := Scalar.muli v5601 c1_i32_1744
  let v5603 : BitVec 32 := Scalar.addi c0_i32_1743 v5602
  let c1_i32_1745 : BitVec 32 := 1#32
  ⟨c0_i32_1743, v5603, c1_i32_1745⟩
def k0_off71 (i : grid0.Coords) (k0_t21 : Fin (k0_t21_loop i).trips) (c0_i32_1760 : BitVec 32) (c0_i32_1762 : BitVec 32) : Fin 3 → Nat :=
  let c4_i32_1759 : BitVec 32 := 4#32
  let c0_i32_1743 : BitVec 32 := 0#32
  let c1_i32_1745 : BitVec 32 := 1#32
  let arg18 : BitVec 32 := Scf.iv c0_i32_1743 c1_i32_1745 k0_t21
  let v5630 : BitVec 32 := Scalar.muli c4_i32_1759 arg18
  let v5631 : BitVec 32 := Scalar.addi v5630 c0_i32_1760
  let c2_i32_1761 : BitVec 32 := 2#32
  let v5632 : BitVec 32 := Scalar.muli v5631 c2_i32_1761
  let v5633 : BitVec 32 := Scalar.addi v5632 c0_i32_1762
  let v5634 : Index := Scalar.indexCast v5633
  let c384_1763 : Index := 384#32
  let c0_1764 : Index := 0#32
  ![v5634.toNat, 384, 0]
@[reducible] def k0_t22_loop (i : grid0.Coords) : Scf.Loop 32 :=
  let c0_i32_1743 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1742 : BitVec 32 := 2#32
  let v5598 : BitVec 32 := Scalar.shrui v4 c2_i32_1742
  let v5599 : BitVec 32 := Scalar.subi v5598 c0_i32_1743
  let c1_i32_1744 : BitVec 32 := 1#32
  let v5601 : BitVec 32 := Scalar.divsi v5599 c1_i32_1744
  let v5602 : BitVec 32 := Scalar.muli v5601 c1_i32_1744
  let v5603 : BitVec 32 := Scalar.addi c0_i32_1743 v5602
  let v5600 : BitVec 32 := Scalar.addi c0_i32_1743 v5599
  let c1_i32_1746 : BitVec 32 := 1#32
  ⟨v5603, v5600, c1_i32_1746⟩
def k0_off72 (i : grid0.Coords) (k0_t22 : Fin (k0_t22_loop i).trips) (c0_i32_1760 : BitVec 32) (c0_i32_1762 : BitVec 32) : Fin 3 → Nat :=
  let c4_i32_1759 : BitVec 32 := 4#32
  let c0_i32_1743 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1742 : BitVec 32 := 2#32
  let v5598 : BitVec 32 := Scalar.shrui v4 c2_i32_1742
  let v5599 : BitVec 32 := Scalar.subi v5598 c0_i32_1743
  let c1_i32_1744 : BitVec 32 := 1#32
  let v5601 : BitVec 32 := Scalar.divsi v5599 c1_i32_1744
  let v5602 : BitVec 32 := Scalar.muli v5601 c1_i32_1744
  let v5603 : BitVec 32 := Scalar.addi c0_i32_1743 v5602
  let c1_i32_1746 : BitVec 32 := 1#32
  let arg18 : BitVec 32 := Scf.iv v5603 c1_i32_1746 k0_t22
  let v5630 : BitVec 32 := Scalar.muli c4_i32_1759 arg18
  let v5631 : BitVec 32 := Scalar.addi v5630 c0_i32_1760
  let c2_i32_1761 : BitVec 32 := 2#32
  let v5632 : BitVec 32 := Scalar.muli v5631 c2_i32_1761
  let v5633 : BitVec 32 := Scalar.addi v5632 c0_i32_1762
  let v5634 : Index := Scalar.indexCast v5633
  let c384_1763 : Index := 384#32
  let c0_1764 : Index := 0#32
  ![v5634.toNat, 384, 0]
def k0_cond18 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1748 : BitVec 32 := 2#32
  let v5607 : BitVec 32 := Scalar.andi v4 c2_i32_1748
  let c2_i32_1749 : BitVec 32 := 2#32
  let v5608 : BitVec 1 := Scalar.cmpi .eq v5607 c2_i32_1749
  let v5609 : BitVec 32 := Scalar.extui v5608
  let c0_i32_1750 : BitVec 32 := 0#32
  let v5610 : BitVec 1 := Scalar.cmpi .ne v5609 c0_i32_1750
  v5610

def k0_off73 (i : grid0.Coords) (c0_i32_1759 : BitVec 32) (c0_i32_1761 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1747 : BitVec 32 := 4294967292#32
  let v5606 : BitVec 32 := Scalar.andi v4 c_m4_i32_1747
  let v5630 : BitVec 32 := Scalar.addi v5606 c0_i32_1759
  let c2_i32_1760 : BitVec 32 := 2#32
  let v5631 : BitVec 32 := Scalar.muli v5630 c2_i32_1760
  let v5632 : BitVec 32 := Scalar.addi v5631 c0_i32_1761
  let v5633 : Index := Scalar.indexCast v5632
  let c384_1762 : Index := 384#32
  let c0_1763 : Index := 0#32
  ![v5633.toNat, 384, 0]
def k0_cond19 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1752 : BitVec 32 := 1#32
  let v5613 : BitVec 32 := Scalar.andi v4 c1_i32_1752
  let c1_i32_1753 : BitVec 32 := 1#32
  let v5614 : BitVec 1 := Scalar.cmpi .eq v5613 c1_i32_1753
  let v5615 : BitVec 32 := Scalar.extui v5614
  let c0_i32_1754 : BitVec 32 := 0#32
  let v5616 : BitVec 1 := Scalar.cmpi .ne v5615 c0_i32_1754
  v5616

def k0_off74 (i : grid0.Coords) (c0_i32_1761 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1751 : BitVec 32 := 4294967294#32
  let v5612 : BitVec 32 := Scalar.andi v4 c_m2_i32_1751
  let c0_i32_1759 : BitVec 32 := 0#32
  let v5630 : BitVec 32 := Scalar.addi v5612 c0_i32_1759
  let c2_i32_1760 : BitVec 32 := 2#32
  let v5631 : BitVec 32 := Scalar.muli v5630 c2_i32_1760
  let v5632 : BitVec 32 := Scalar.addi v5631 c0_i32_1761
  let v5633 : Index := Scalar.indexCast v5632
  let c384_1762 : Index := 384#32
  let c0_1763 : Index := 0#32
  ![v5633.toNat, 384, 0]
@[reducible] def k0_t23_loop (i : grid0.Coords) : Scf.Loop 32 :=
  let c0_i32_1629 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1628 : BitVec 32 := 2#32
  let v5394 : BitVec 32 := Scalar.shrui v4 c2_i32_1628
  let v5395 : BitVec 32 := Scalar.subi v5394 c0_i32_1629
  let c1_i32_1630 : BitVec 32 := 1#32
  let v5397 : BitVec 32 := Scalar.divsi v5395 c1_i32_1630
  let v5398 : BitVec 32 := Scalar.muli v5397 c1_i32_1630
  let v5399 : BitVec 32 := Scalar.addi c0_i32_1629 v5398
  let c1_i32_1631 : BitVec 32 := 1#32
  ⟨c0_i32_1629, v5399, c1_i32_1631⟩
def k0_off75 (i : grid0.Coords) (k0_t23 : Fin (k0_t23_loop i).trips) (c0_i32_1697 : BitVec 32) (c0_i32_1699 : BitVec 32) : Fin 3 → Nat :=
  let c4_i32_1696 : BitVec 32 := 4#32
  let c0_i32_1629 : BitVec 32 := 0#32
  let c1_i32_1631 : BitVec 32 := 1#32
  let arg16 : BitVec 32 := Scf.iv c0_i32_1629 c1_i32_1631 k0_t23
  let v5512 : BitVec 32 := Scalar.muli c4_i32_1696 arg16
  let v5513 : BitVec 32 := Scalar.addi v5512 c0_i32_1697
  let c2_i32_1698 : BitVec 32 := 2#32
  let v5514 : BitVec 32 := Scalar.muli v5513 c2_i32_1698
  let v5515 : BitVec 32 := Scalar.addi v5514 c0_i32_1699
  let v5516 : Index := Scalar.indexCast v5515
  let c0_1700 : Index := 0#32
  let c0_1701 : Index := 0#32
  ![v5516.toNat, 0, 0]
@[reducible] def k0_t24_loop (i : grid0.Coords) : Scf.Loop 32 :=
  let c0_i32_1629 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1628 : BitVec 32 := 2#32
  let v5394 : BitVec 32 := Scalar.shrui v4 c2_i32_1628
  let v5395 : BitVec 32 := Scalar.subi v5394 c0_i32_1629
  let c1_i32_1630 : BitVec 32 := 1#32
  let v5397 : BitVec 32 := Scalar.divsi v5395 c1_i32_1630
  let v5398 : BitVec 32 := Scalar.muli v5397 c1_i32_1630
  let v5399 : BitVec 32 := Scalar.addi c0_i32_1629 v5398
  let v5396 : BitVec 32 := Scalar.addi c0_i32_1629 v5395
  let c1_i32_1632 : BitVec 32 := 1#32
  ⟨v5399, v5396, c1_i32_1632⟩
def k0_off76 (i : grid0.Coords) (k0_t24 : Fin (k0_t24_loop i).trips) (c0_i32_1697 : BitVec 32) (c0_i32_1699 : BitVec 32) : Fin 3 → Nat :=
  let c4_i32_1696 : BitVec 32 := 4#32
  let c0_i32_1629 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1628 : BitVec 32 := 2#32
  let v5394 : BitVec 32 := Scalar.shrui v4 c2_i32_1628
  let v5395 : BitVec 32 := Scalar.subi v5394 c0_i32_1629
  let c1_i32_1630 : BitVec 32 := 1#32
  let v5397 : BitVec 32 := Scalar.divsi v5395 c1_i32_1630
  let v5398 : BitVec 32 := Scalar.muli v5397 c1_i32_1630
  let v5399 : BitVec 32 := Scalar.addi c0_i32_1629 v5398
  let c1_i32_1632 : BitVec 32 := 1#32
  let arg16 : BitVec 32 := Scf.iv v5399 c1_i32_1632 k0_t24
  let v5512 : BitVec 32 := Scalar.muli c4_i32_1696 arg16
  let v5513 : BitVec 32 := Scalar.addi v5512 c0_i32_1697
  let c2_i32_1698 : BitVec 32 := 2#32
  let v5514 : BitVec 32 := Scalar.muli v5513 c2_i32_1698
  let v5515 : BitVec 32 := Scalar.addi v5514 c0_i32_1699
  let v5516 : Index := Scalar.indexCast v5515
  let c0_1700 : Index := 0#32
  let c0_1701 : Index := 0#32
  ![v5516.toNat, 0, 0]
def k0_cond20 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1634 : BitVec 32 := 2#32
  let v5403 : BitVec 32 := Scalar.andi v4 c2_i32_1634
  let c2_i32_1635 : BitVec 32 := 2#32
  let v5404 : BitVec 1 := Scalar.cmpi .eq v5403 c2_i32_1635
  let v5405 : BitVec 32 := Scalar.extui v5404
  let c0_i32_1636 : BitVec 32 := 0#32
  let v5406 : BitVec 1 := Scalar.cmpi .ne v5405 c0_i32_1636
  v5406

def k0_off77 (i : grid0.Coords) (c0_i32_1696 : BitVec 32) (c0_i32_1698 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1633 : BitVec 32 := 4294967292#32
  let v5402 : BitVec 32 := Scalar.andi v4 c_m4_i32_1633
  let v5512 : BitVec 32 := Scalar.addi v5402 c0_i32_1696
  let c2_i32_1697 : BitVec 32 := 2#32
  let v5513 : BitVec 32 := Scalar.muli v5512 c2_i32_1697
  let v5514 : BitVec 32 := Scalar.addi v5513 c0_i32_1698
  let v5515 : Index := Scalar.indexCast v5514
  let c0_1699 : Index := 0#32
  let c0_1700 : Index := 0#32
  ![v5515.toNat, 0, 0]
def k0_cond21 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1638 : BitVec 32 := 1#32
  let v5409 : BitVec 32 := Scalar.andi v4 c1_i32_1638
  let c1_i32_1639 : BitVec 32 := 1#32
  let v5410 : BitVec 1 := Scalar.cmpi .eq v5409 c1_i32_1639
  let v5411 : BitVec 32 := Scalar.extui v5410
  let c0_i32_1640 : BitVec 32 := 0#32
  let v5412 : BitVec 1 := Scalar.cmpi .ne v5411 c0_i32_1640
  v5412

def k0_off78 (i : grid0.Coords) (c0_i32_1698 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1637 : BitVec 32 := 4294967294#32
  let v5408 : BitVec 32 := Scalar.andi v4 c_m2_i32_1637
  let c0_i32_1696 : BitVec 32 := 0#32
  let v5512 : BitVec 32 := Scalar.addi v5408 c0_i32_1696
  let c2_i32_1697 : BitVec 32 := 2#32
  let v5513 : BitVec 32 := Scalar.muli v5512 c2_i32_1697
  let v5514 : BitVec 32 := Scalar.addi v5513 c0_i32_1698
  let v5515 : Index := Scalar.indexCast v5514
  let c0_1699 : Index := 0#32
  let c0_1700 : Index := 0#32
  ![v5515.toNat, 0, 0]
@[reducible] def k0_t25_loop (i : grid0.Coords) : Scf.Loop 32 :=
  let c0_i32_1643 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1642 : BitVec 32 := 2#32
  let v5418 : BitVec 32 := Scalar.shrui v4 c2_i32_1642
  let v5419 : BitVec 32 := Scalar.subi v5418 c0_i32_1643
  let c1_i32_1644 : BitVec 32 := 1#32
  let v5421 : BitVec 32 := Scalar.divsi v5419 c1_i32_1644
  let v5422 : BitVec 32 := Scalar.muli v5421 c1_i32_1644
  let v5423 : BitVec 32 := Scalar.addi c0_i32_1643 v5422
  let c1_i32_1645 : BitVec 32 := 1#32
  ⟨c0_i32_1643, v5423, c1_i32_1645⟩
def k0_off79 (i : grid0.Coords) (k0_t25 : Fin (k0_t25_loop i).trips) (c0_i32_1697 : BitVec 32) (c0_i32_1699 : BitVec 32) : Fin 3 → Nat :=
  let c4_i32_1696 : BitVec 32 := 4#32
  let c0_i32_1643 : BitVec 32 := 0#32
  let c1_i32_1645 : BitVec 32 := 1#32
  let arg16 : BitVec 32 := Scf.iv c0_i32_1643 c1_i32_1645 k0_t25
  let v5512 : BitVec 32 := Scalar.muli c4_i32_1696 arg16
  let v5513 : BitVec 32 := Scalar.addi v5512 c0_i32_1697
  let c2_i32_1698 : BitVec 32 := 2#32
  let v5514 : BitVec 32 := Scalar.muli v5513 c2_i32_1698
  let v5515 : BitVec 32 := Scalar.addi v5514 c0_i32_1699
  let v5516 : Index := Scalar.indexCast v5515
  let c128_1700 : Index := 128#32
  let c0_1701 : Index := 0#32
  ![v5516.toNat, 128, 0]
@[reducible] def k0_t26_loop (i : grid0.Coords) : Scf.Loop 32 :=
  let c0_i32_1643 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1642 : BitVec 32 := 2#32
  let v5418 : BitVec 32 := Scalar.shrui v4 c2_i32_1642
  let v5419 : BitVec 32 := Scalar.subi v5418 c0_i32_1643
  let c1_i32_1644 : BitVec 32 := 1#32
  let v5421 : BitVec 32 := Scalar.divsi v5419 c1_i32_1644
  let v5422 : BitVec 32 := Scalar.muli v5421 c1_i32_1644
  let v5423 : BitVec 32 := Scalar.addi c0_i32_1643 v5422
  let v5420 : BitVec 32 := Scalar.addi c0_i32_1643 v5419
  let c1_i32_1646 : BitVec 32 := 1#32
  ⟨v5423, v5420, c1_i32_1646⟩
def k0_off80 (i : grid0.Coords) (k0_t26 : Fin (k0_t26_loop i).trips) (c0_i32_1697 : BitVec 32) (c0_i32_1699 : BitVec 32) : Fin 3 → Nat :=
  let c4_i32_1696 : BitVec 32 := 4#32
  let c0_i32_1643 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1642 : BitVec 32 := 2#32
  let v5418 : BitVec 32 := Scalar.shrui v4 c2_i32_1642
  let v5419 : BitVec 32 := Scalar.subi v5418 c0_i32_1643
  let c1_i32_1644 : BitVec 32 := 1#32
  let v5421 : BitVec 32 := Scalar.divsi v5419 c1_i32_1644
  let v5422 : BitVec 32 := Scalar.muli v5421 c1_i32_1644
  let v5423 : BitVec 32 := Scalar.addi c0_i32_1643 v5422
  let c1_i32_1646 : BitVec 32 := 1#32
  let arg16 : BitVec 32 := Scf.iv v5423 c1_i32_1646 k0_t26
  let v5512 : BitVec 32 := Scalar.muli c4_i32_1696 arg16
  let v5513 : BitVec 32 := Scalar.addi v5512 c0_i32_1697
  let c2_i32_1698 : BitVec 32 := 2#32
  let v5514 : BitVec 32 := Scalar.muli v5513 c2_i32_1698
  let v5515 : BitVec 32 := Scalar.addi v5514 c0_i32_1699
  let v5516 : Index := Scalar.indexCast v5515
  let c128_1700 : Index := 128#32
  let c0_1701 : Index := 0#32
  ![v5516.toNat, 128, 0]
def k0_cond22 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1648 : BitVec 32 := 2#32
  let v5427 : BitVec 32 := Scalar.andi v4 c2_i32_1648
  let c2_i32_1649 : BitVec 32 := 2#32
  let v5428 : BitVec 1 := Scalar.cmpi .eq v5427 c2_i32_1649
  let v5429 : BitVec 32 := Scalar.extui v5428
  let c0_i32_1650 : BitVec 32 := 0#32
  let v5430 : BitVec 1 := Scalar.cmpi .ne v5429 c0_i32_1650
  v5430

def k0_off81 (i : grid0.Coords) (c0_i32_1696 : BitVec 32) (c0_i32_1698 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1647 : BitVec 32 := 4294967292#32
  let v5426 : BitVec 32 := Scalar.andi v4 c_m4_i32_1647
  let v5512 : BitVec 32 := Scalar.addi v5426 c0_i32_1696
  let c2_i32_1697 : BitVec 32 := 2#32
  let v5513 : BitVec 32 := Scalar.muli v5512 c2_i32_1697
  let v5514 : BitVec 32 := Scalar.addi v5513 c0_i32_1698
  let v5515 : Index := Scalar.indexCast v5514
  let c128_1699 : Index := 128#32
  let c0_1700 : Index := 0#32
  ![v5515.toNat, 128, 0]
def k0_cond23 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1652 : BitVec 32 := 1#32
  let v5433 : BitVec 32 := Scalar.andi v4 c1_i32_1652
  let c1_i32_1653 : BitVec 32 := 1#32
  let v5434 : BitVec 1 := Scalar.cmpi .eq v5433 c1_i32_1653
  let v5435 : BitVec 32 := Scalar.extui v5434
  let c0_i32_1654 : BitVec 32 := 0#32
  let v5436 : BitVec 1 := Scalar.cmpi .ne v5435 c0_i32_1654
  v5436

def k0_off82 (i : grid0.Coords) (c0_i32_1698 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1651 : BitVec 32 := 4294967294#32
  let v5432 : BitVec 32 := Scalar.andi v4 c_m2_i32_1651
  let c0_i32_1696 : BitVec 32 := 0#32
  let v5512 : BitVec 32 := Scalar.addi v5432 c0_i32_1696
  let c2_i32_1697 : BitVec 32 := 2#32
  let v5513 : BitVec 32 := Scalar.muli v5512 c2_i32_1697
  let v5514 : BitVec 32 := Scalar.addi v5513 c0_i32_1698
  let v5515 : Index := Scalar.indexCast v5514
  let c128_1699 : Index := 128#32
  let c0_1700 : Index := 0#32
  ![v5515.toNat, 128, 0]
@[reducible] def k0_t27_loop (i : grid0.Coords) : Scf.Loop 32 :=
  let c0_i32_1657 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1656 : BitVec 32 := 2#32
  let v5442 : BitVec 32 := Scalar.shrui v4 c2_i32_1656
  let v5443 : BitVec 32 := Scalar.subi v5442 c0_i32_1657
  let c1_i32_1658 : BitVec 32 := 1#32
  let v5445 : BitVec 32 := Scalar.divsi v5443 c1_i32_1658
  let v5446 : BitVec 32 := Scalar.muli v5445 c1_i32_1658
  let v5447 : BitVec 32 := Scalar.addi c0_i32_1657 v5446
  let c1_i32_1659 : BitVec 32 := 1#32
  ⟨c0_i32_1657, v5447, c1_i32_1659⟩
def k0_off83 (i : grid0.Coords) (k0_t27 : Fin (k0_t27_loop i).trips) (c0_i32_1697 : BitVec 32) (c0_i32_1699 : BitVec 32) : Fin 3 → Nat :=
  let c4_i32_1696 : BitVec 32 := 4#32
  let c0_i32_1657 : BitVec 32 := 0#32
  let c1_i32_1659 : BitVec 32 := 1#32
  let arg16 : BitVec 32 := Scf.iv c0_i32_1657 c1_i32_1659 k0_t27
  let v5512 : BitVec 32 := Scalar.muli c4_i32_1696 arg16
  let v5513 : BitVec 32 := Scalar.addi v5512 c0_i32_1697
  let c2_i32_1698 : BitVec 32 := 2#32
  let v5514 : BitVec 32 := Scalar.muli v5513 c2_i32_1698
  let v5515 : BitVec 32 := Scalar.addi v5514 c0_i32_1699
  let v5516 : Index := Scalar.indexCast v5515
  let c256_1700 : Index := 256#32
  let c0_1701 : Index := 0#32
  ![v5516.toNat, 256, 0]
@[reducible] def k0_t28_loop (i : grid0.Coords) : Scf.Loop 32 :=
  let c0_i32_1657 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1656 : BitVec 32 := 2#32
  let v5442 : BitVec 32 := Scalar.shrui v4 c2_i32_1656
  let v5443 : BitVec 32 := Scalar.subi v5442 c0_i32_1657
  let c1_i32_1658 : BitVec 32 := 1#32
  let v5445 : BitVec 32 := Scalar.divsi v5443 c1_i32_1658
  let v5446 : BitVec 32 := Scalar.muli v5445 c1_i32_1658
  let v5447 : BitVec 32 := Scalar.addi c0_i32_1657 v5446
  let v5444 : BitVec 32 := Scalar.addi c0_i32_1657 v5443
  let c1_i32_1660 : BitVec 32 := 1#32
  ⟨v5447, v5444, c1_i32_1660⟩
def k0_off84 (i : grid0.Coords) (k0_t28 : Fin (k0_t28_loop i).trips) (c0_i32_1697 : BitVec 32) (c0_i32_1699 : BitVec 32) : Fin 3 → Nat :=
  let c4_i32_1696 : BitVec 32 := 4#32
  let c0_i32_1657 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1656 : BitVec 32 := 2#32
  let v5442 : BitVec 32 := Scalar.shrui v4 c2_i32_1656
  let v5443 : BitVec 32 := Scalar.subi v5442 c0_i32_1657
  let c1_i32_1658 : BitVec 32 := 1#32
  let v5445 : BitVec 32 := Scalar.divsi v5443 c1_i32_1658
  let v5446 : BitVec 32 := Scalar.muli v5445 c1_i32_1658
  let v5447 : BitVec 32 := Scalar.addi c0_i32_1657 v5446
  let c1_i32_1660 : BitVec 32 := 1#32
  let arg16 : BitVec 32 := Scf.iv v5447 c1_i32_1660 k0_t28
  let v5512 : BitVec 32 := Scalar.muli c4_i32_1696 arg16
  let v5513 : BitVec 32 := Scalar.addi v5512 c0_i32_1697
  let c2_i32_1698 : BitVec 32 := 2#32
  let v5514 : BitVec 32 := Scalar.muli v5513 c2_i32_1698
  let v5515 : BitVec 32 := Scalar.addi v5514 c0_i32_1699
  let v5516 : Index := Scalar.indexCast v5515
  let c256_1700 : Index := 256#32
  let c0_1701 : Index := 0#32
  ![v5516.toNat, 256, 0]
def k0_cond24 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1662 : BitVec 32 := 2#32
  let v5451 : BitVec 32 := Scalar.andi v4 c2_i32_1662
  let c2_i32_1663 : BitVec 32 := 2#32
  let v5452 : BitVec 1 := Scalar.cmpi .eq v5451 c2_i32_1663
  let v5453 : BitVec 32 := Scalar.extui v5452
  let c0_i32_1664 : BitVec 32 := 0#32
  let v5454 : BitVec 1 := Scalar.cmpi .ne v5453 c0_i32_1664
  v5454

def k0_off85 (i : grid0.Coords) (c0_i32_1696 : BitVec 32) (c0_i32_1698 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1661 : BitVec 32 := 4294967292#32
  let v5450 : BitVec 32 := Scalar.andi v4 c_m4_i32_1661
  let v5512 : BitVec 32 := Scalar.addi v5450 c0_i32_1696
  let c2_i32_1697 : BitVec 32 := 2#32
  let v5513 : BitVec 32 := Scalar.muli v5512 c2_i32_1697
  let v5514 : BitVec 32 := Scalar.addi v5513 c0_i32_1698
  let v5515 : Index := Scalar.indexCast v5514
  let c256_1699 : Index := 256#32
  let c0_1700 : Index := 0#32
  ![v5515.toNat, 256, 0]
def k0_cond25 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1666 : BitVec 32 := 1#32
  let v5457 : BitVec 32 := Scalar.andi v4 c1_i32_1666
  let c1_i32_1667 : BitVec 32 := 1#32
  let v5458 : BitVec 1 := Scalar.cmpi .eq v5457 c1_i32_1667
  let v5459 : BitVec 32 := Scalar.extui v5458
  let c0_i32_1668 : BitVec 32 := 0#32
  let v5460 : BitVec 1 := Scalar.cmpi .ne v5459 c0_i32_1668
  v5460

def k0_off86 (i : grid0.Coords) (c0_i32_1698 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1665 : BitVec 32 := 4294967294#32
  let v5456 : BitVec 32 := Scalar.andi v4 c_m2_i32_1665
  let c0_i32_1696 : BitVec 32 := 0#32
  let v5512 : BitVec 32 := Scalar.addi v5456 c0_i32_1696
  let c2_i32_1697 : BitVec 32 := 2#32
  let v5513 : BitVec 32 := Scalar.muli v5512 c2_i32_1697
  let v5514 : BitVec 32 := Scalar.addi v5513 c0_i32_1698
  let v5515 : Index := Scalar.indexCast v5514
  let c256_1699 : Index := 256#32
  let c0_1700 : Index := 0#32
  ![v5515.toNat, 256, 0]
@[reducible] def k0_t29_loop (i : grid0.Coords) : Scf.Loop 32 :=
  let c0_i32_1671 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1670 : BitVec 32 := 2#32
  let v5466 : BitVec 32 := Scalar.shrui v4 c2_i32_1670
  let v5467 : BitVec 32 := Scalar.subi v5466 c0_i32_1671
  let c1_i32_1672 : BitVec 32 := 1#32
  let v5469 : BitVec 32 := Scalar.divsi v5467 c1_i32_1672
  let v5470 : BitVec 32 := Scalar.muli v5469 c1_i32_1672
  let v5471 : BitVec 32 := Scalar.addi c0_i32_1671 v5470
  let c1_i32_1673 : BitVec 32 := 1#32
  ⟨c0_i32_1671, v5471, c1_i32_1673⟩
def k0_off87 (i : grid0.Coords) (k0_t29 : Fin (k0_t29_loop i).trips) (c0_i32_1697 : BitVec 32) (c0_i32_1699 : BitVec 32) : Fin 3 → Nat :=
  let c4_i32_1696 : BitVec 32 := 4#32
  let c0_i32_1671 : BitVec 32 := 0#32
  let c1_i32_1673 : BitVec 32 := 1#32
  let arg16 : BitVec 32 := Scf.iv c0_i32_1671 c1_i32_1673 k0_t29
  let v5512 : BitVec 32 := Scalar.muli c4_i32_1696 arg16
  let v5513 : BitVec 32 := Scalar.addi v5512 c0_i32_1697
  let c2_i32_1698 : BitVec 32 := 2#32
  let v5514 : BitVec 32 := Scalar.muli v5513 c2_i32_1698
  let v5515 : BitVec 32 := Scalar.addi v5514 c0_i32_1699
  let v5516 : Index := Scalar.indexCast v5515
  let c384_1700 : Index := 384#32
  let c0_1701 : Index := 0#32
  ![v5516.toNat, 384, 0]
@[reducible] def k0_t30_loop (i : grid0.Coords) : Scf.Loop 32 :=
  let c0_i32_1671 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1670 : BitVec 32 := 2#32
  let v5466 : BitVec 32 := Scalar.shrui v4 c2_i32_1670
  let v5467 : BitVec 32 := Scalar.subi v5466 c0_i32_1671
  let c1_i32_1672 : BitVec 32 := 1#32
  let v5469 : BitVec 32 := Scalar.divsi v5467 c1_i32_1672
  let v5470 : BitVec 32 := Scalar.muli v5469 c1_i32_1672
  let v5471 : BitVec 32 := Scalar.addi c0_i32_1671 v5470
  let v5468 : BitVec 32 := Scalar.addi c0_i32_1671 v5467
  let c1_i32_1674 : BitVec 32 := 1#32
  ⟨v5471, v5468, c1_i32_1674⟩
def k0_off88 (i : grid0.Coords) (k0_t30 : Fin (k0_t30_loop i).trips) (c0_i32_1697 : BitVec 32) (c0_i32_1699 : BitVec 32) : Fin 3 → Nat :=
  let c4_i32_1696 : BitVec 32 := 4#32
  let c0_i32_1671 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1670 : BitVec 32 := 2#32
  let v5466 : BitVec 32 := Scalar.shrui v4 c2_i32_1670
  let v5467 : BitVec 32 := Scalar.subi v5466 c0_i32_1671
  let c1_i32_1672 : BitVec 32 := 1#32
  let v5469 : BitVec 32 := Scalar.divsi v5467 c1_i32_1672
  let v5470 : BitVec 32 := Scalar.muli v5469 c1_i32_1672
  let v5471 : BitVec 32 := Scalar.addi c0_i32_1671 v5470
  let c1_i32_1674 : BitVec 32 := 1#32
  let arg16 : BitVec 32 := Scf.iv v5471 c1_i32_1674 k0_t30
  let v5512 : BitVec 32 := Scalar.muli c4_i32_1696 arg16
  let v5513 : BitVec 32 := Scalar.addi v5512 c0_i32_1697
  let c2_i32_1698 : BitVec 32 := 2#32
  let v5514 : BitVec 32 := Scalar.muli v5513 c2_i32_1698
  let v5515 : BitVec 32 := Scalar.addi v5514 c0_i32_1699
  let v5516 : Index := Scalar.indexCast v5515
  let c384_1700 : Index := 384#32
  let c0_1701 : Index := 0#32
  ![v5516.toNat, 384, 0]
def k0_cond26 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1676 : BitVec 32 := 2#32
  let v5475 : BitVec 32 := Scalar.andi v4 c2_i32_1676
  let c2_i32_1677 : BitVec 32 := 2#32
  let v5476 : BitVec 1 := Scalar.cmpi .eq v5475 c2_i32_1677
  let v5477 : BitVec 32 := Scalar.extui v5476
  let c0_i32_1678 : BitVec 32 := 0#32
  let v5478 : BitVec 1 := Scalar.cmpi .ne v5477 c0_i32_1678
  v5478

def k0_off89 (i : grid0.Coords) (c0_i32_1696 : BitVec 32) (c0_i32_1698 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1675 : BitVec 32 := 4294967292#32
  let v5474 : BitVec 32 := Scalar.andi v4 c_m4_i32_1675
  let v5512 : BitVec 32 := Scalar.addi v5474 c0_i32_1696
  let c2_i32_1697 : BitVec 32 := 2#32
  let v5513 : BitVec 32 := Scalar.muli v5512 c2_i32_1697
  let v5514 : BitVec 32 := Scalar.addi v5513 c0_i32_1698
  let v5515 : Index := Scalar.indexCast v5514
  let c384_1699 : Index := 384#32
  let c0_1700 : Index := 0#32
  ![v5515.toNat, 384, 0]
def k0_cond27 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1680 : BitVec 32 := 1#32
  let v5481 : BitVec 32 := Scalar.andi v4 c1_i32_1680
  let c1_i32_1681 : BitVec 32 := 1#32
  let v5482 : BitVec 1 := Scalar.cmpi .eq v5481 c1_i32_1681
  let v5483 : BitVec 32 := Scalar.extui v5482
  let c0_i32_1682 : BitVec 32 := 0#32
  let v5484 : BitVec 1 := Scalar.cmpi .ne v5483 c0_i32_1682
  v5484

def k0_off90 (i : grid0.Coords) (c0_i32_1698 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1679 : BitVec 32 := 4294967294#32
  let v5480 : BitVec 32 := Scalar.andi v4 c_m2_i32_1679
  let c0_i32_1696 : BitVec 32 := 0#32
  let v5512 : BitVec 32 := Scalar.addi v5480 c0_i32_1696
  let c2_i32_1697 : BitVec 32 := 2#32
  let v5513 : BitVec 32 := Scalar.muli v5512 c2_i32_1697
  let v5514 : BitVec 32 := Scalar.addi v5513 c0_i32_1698
  let v5515 : Index := Scalar.indexCast v5514
  let c384_1699 : Index := 384#32
  let c0_1700 : Index := 0#32
  ![v5515.toNat, 384, 0]
@[reducible] def k0_t31_loop (i : grid0.Coords) : Scf.Loop 32 :=
  let c0_i32_1624 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1622 : BitVec 32 := 2#32
  let v5380 : BitVec 32 := Scalar.muli v4 c2_i32_1622
  let v5382 : BitVec 32 := Scalar.subi v5380 c0_i32_1624
  let c1_i32_1625 : BitVec 32 := 1#32
  let v5384 : BitVec 32 := Scalar.divsi v5382 c1_i32_1625
  let v5385 : BitVec 32 := Scalar.muli v5384 c1_i32_1625
  let v5386 : BitVec 32 := Scalar.addi c0_i32_1624 v5385
  let c1_i32_1626 : BitVec 32 := 1#32
  ⟨c0_i32_1624, v5386, c1_i32_1626⟩
def k0_off91 (i : grid0.Coords) (k0_t31 : Fin (k0_t31_loop i).trips) : Fin 3 → Nat :=
  let c0_i32_1624 : BitVec 32 := 0#32
  let c1_i32_1626 : BitVec 32 := 1#32
  let arg16 : BitVec 32 := Scf.iv c0_i32_1624 c1_i32_1626 k0_t31
  let v5389 : Index := Scalar.indexCast arg16
  let c0_1628 : Index := 0#32
  let c0_1629 : Index := 0#32
  ![v5389.toNat, 0, 0]
@[reducible] def k0_t32_loop (i : grid0.Coords) : Scf.Loop 32 :=
  let c0_i32_1624 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1622 : BitVec 32 := 2#32
  let v5380 : BitVec 32 := Scalar.muli v4 c2_i32_1622
  let v5382 : BitVec 32 := Scalar.subi v5380 c0_i32_1624
  let c1_i32_1625 : BitVec 32 := 1#32
  let v5384 : BitVec 32 := Scalar.divsi v5382 c1_i32_1625
  let v5385 : BitVec 32 := Scalar.muli v5384 c1_i32_1625
  let v5386 : BitVec 32 := Scalar.addi c0_i32_1624 v5385
  let v5383 : BitVec 32 := Scalar.addi c0_i32_1624 v5382
  let c1_i32_1627 : BitVec 32 := 1#32
  ⟨v5386, v5383, c1_i32_1627⟩
def k0_off92 (i : grid0.Coords) (k0_t32 : Fin (k0_t32_loop i).trips) : Fin 3 → Nat :=
  let c0_i32_1624 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1622 : BitVec 32 := 2#32
  let v5380 : BitVec 32 := Scalar.muli v4 c2_i32_1622
  let v5382 : BitVec 32 := Scalar.subi v5380 c0_i32_1624
  let c1_i32_1625 : BitVec 32 := 1#32
  let v5384 : BitVec 32 := Scalar.divsi v5382 c1_i32_1625
  let v5385 : BitVec 32 := Scalar.muli v5384 c1_i32_1625
  let v5386 : BitVec 32 := Scalar.addi c0_i32_1624 v5385
  let c1_i32_1627 : BitVec 32 := 1#32
  let arg16 : BitVec 32 := Scf.iv v5386 c1_i32_1627 k0_t32
  let v5389 : Index := Scalar.indexCast arg16
  let c0_1628 : Index := 0#32
  let c0_1629 : Index := 0#32
  ![v5389.toNat, 0, 0]
def k0_cond29 (i : grid0.Coords) : BitVec 1 :=
  let arg1 : BitVec 32 := BitVec.ofNat 32 (i 1).val
  let c0_i32_1560 : BitVec 32 := 0#32
  let v5252 : BitVec 1 := Scalar.cmpi .eq arg1 c0_i32_1560
  let v5253 : BitVec 32 := Scalar.extui v5252
  let c0_i32_1561 : BitVec 32 := 0#32
  let v5254 : BitVec 1 := Scalar.cmpi .ne v5253 c0_i32_1561
  v5254

@[reducible] def k0_t33_loop : Scf.Loop 32 :=
  let c0_i32_1620 : BitVec 32 := 0#32
  let c4_i32_1621 : BitVec 32 := 4#32
  let v5378 : BitVec 32 := Scalar.addi c0_i32_1620 c4_i32_1621
  let c1_i32_1622 : BitVec 32 := 1#32
  ⟨c0_i32_1620, v5378, c1_i32_1622⟩
def k0_mult13 (k0_t33 : Fin k0_t33_loop.trips) : BitVec 32 :=
  let c4_i32_1627 : BitVec 32 := 4#32
  let c0_i32_1620 : BitVec 32 := 0#32
  let c1_i32_1622 : BitVec 32 := 1#32
  let arg16 : BitVec 32 := Scf.iv c0_i32_1620 c1_i32_1622 k0_t33
  let v5387 : BitVec 32 := Scalar.muli c4_i32_1627 arg16
  let c0_i32_1628 : BitVec 32 := 0#32
  let v5388 : BitVec 32 := Scalar.addi v5387 c0_i32_1628
  let c256_i32_1629 : BitVec 32 := 256#32
  let v5389 : BitVec 32 := Scalar.muli v5388 c256_i32_1629
  v5389
def k0_off93 (k0_t33 : Fin k0_t33_loop.trips) (c0_i32_1628 : BitVec 32) : Fin 3 → Nat :=
  let c0_1630 : Index := 0#32
  let c4_i32_1627 : BitVec 32 := 4#32
  let c0_i32_1620 : BitVec 32 := 0#32
  let c1_i32_1622 : BitVec 32 := 1#32
  let arg16 : BitVec 32 := Scf.iv c0_i32_1620 c1_i32_1622 k0_t33
  let v5387 : BitVec 32 := Scalar.muli c4_i32_1627 arg16
  let v5388 : BitVec 32 := Scalar.addi v5387 c0_i32_1628
  let c256_i32_1629 : BitVec 32 := 256#32
  let v5389 : BitVec 32 := Scalar.muli v5388 c256_i32_1629
  let v5390 : BitVec 32 := v5389
  let v5391 : Index := Scalar.indexCast v5390
  let c0_1631 : Index := 0#32
  ![0, v5391.toNat, 0]
def k0_mult14 (k0_t33 : Fin k0_t33_loop.trips) : BitVec 32 :=
  let c4_i32_1627 : BitVec 32 := 4#32
  let c0_i32_1620 : BitVec 32 := 0#32
  let c1_i32_1622 : BitVec 32 := 1#32
  let arg16 : BitVec 32 := Scf.iv c0_i32_1620 c1_i32_1622 k0_t33
  let v5387 : BitVec 32 := Scalar.muli c4_i32_1627 arg16
  let c1_i32_1633 : BitVec 32 := 1#32
  let v5399 : BitVec 32 := Scalar.addi v5387 c1_i32_1633
  let c256_i32_1634 : BitVec 32 := 256#32
  let v5400 : BitVec 32 := Scalar.muli v5399 c256_i32_1634
  v5400
def k0_mult15 (k0_t33 : Fin k0_t33_loop.trips) : BitVec 32 :=
  let c4_i32_1627 : BitVec 32 := 4#32
  let c0_i32_1620 : BitVec 32 := 0#32
  let c1_i32_1622 : BitVec 32 := 1#32
  let arg16 : BitVec 32 := Scf.iv c0_i32_1620 c1_i32_1622 k0_t33
  let v5387 : BitVec 32 := Scalar.muli c4_i32_1627 arg16
  let c2_i32_1638 : BitVec 32 := 2#32
  let v5410 : BitVec 32 := Scalar.addi v5387 c2_i32_1638
  let c256_i32_1639 : BitVec 32 := 256#32
  let v5411 : BitVec 32 := Scalar.muli v5410 c256_i32_1639
  v5411
def k0_mult16 (k0_t33 : Fin k0_t33_loop.trips) : BitVec 32 :=
  let c4_i32_1627 : BitVec 32 := 4#32
  let c0_i32_1620 : BitVec 32 := 0#32
  let c1_i32_1622 : BitVec 32 := 1#32
  let arg16 : BitVec 32 := Scf.iv c0_i32_1620 c1_i32_1622 k0_t33
  let v5387 : BitVec 32 := Scalar.muli c4_i32_1627 arg16
  let c3_i32_1643 : BitVec 32 := 3#32
  let v5421 : BitVec 32 := Scalar.addi v5387 c3_i32_1643
  let c256_i32_1644 : BitVec 32 := 256#32
  let v5422 : BitVec 32 := Scalar.muli v5421 c256_i32_1644
  v5422
@[reducible] def k0_t34_loop (i : grid0.Coords) : Scf.Loop 32 :=
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let c1_i32_1627 : BitVec 32 := 1#32
  ⟨c0_i32_1625, v5386, c1_i32_1627⟩
def k0_off94 (i : grid0.Coords) (k0_t34 : Fin (k0_t34_loop i).trips) (c0_i32_1652 : BitVec 32) (c0_i32_1654 : BitVec 32) : Fin 3 → Nat :=
  let c4_i32_1651 : BitVec 32 := 4#32
  let c0_i32_1625 : BitVec 32 := 0#32
  let c1_i32_1627 : BitVec 32 := 1#32
  let arg16 : BitVec 32 := Scf.iv c0_i32_1625 c1_i32_1627 k0_t34
  let v5415 : BitVec 32 := Scalar.muli c4_i32_1651 arg16
  let v5416 : BitVec 32 := Scalar.addi v5415 c0_i32_1652
  let c2_i32_1653 : BitVec 32 := 2#32
  let v5417 : BitVec 32 := Scalar.muli v5416 c2_i32_1653
  let v5418 : BitVec 32 := Scalar.addi v5417 c0_i32_1654
  let v5419 : Index := Scalar.indexCast v5418
  let c0_1655 : Index := 0#32
  let c0_1656 : Index := 0#32
  ![v5419.toNat, 0, 0]
def k0_mult17 (i : grid0.Coords) (k0_t34 : Fin (k0_t34_loop i).trips) : BitVec 32 :=
  let c4_i32_1651 : BitVec 32 := 4#32
  let c0_i32_1625 : BitVec 32 := 0#32
  let c1_i32_1627 : BitVec 32 := 1#32
  let arg16 : BitVec 32 := Scf.iv c0_i32_1625 c1_i32_1627 k0_t34
  let v5415 : BitVec 32 := Scalar.muli c4_i32_1651 arg16
  let c0_i32_1652 : BitVec 32 := 0#32
  let v5416 : BitVec 32 := Scalar.addi v5415 c0_i32_1652
  let c256_i32_1665 : BitVec 32 := 256#32
  let v5435 : BitVec 32 := Scalar.muli v5416 c256_i32_1665
  v5435
def k0_off95 (i : grid0.Coords) (k0_t34 : Fin (k0_t34_loop i).trips) (c0_i32_1652 : BitVec 32) : Fin 3 → Nat :=
  let c0_1666 : Index := 0#32
  let c4_i32_1651 : BitVec 32 := 4#32
  let c0_i32_1625 : BitVec 32 := 0#32
  let c1_i32_1627 : BitVec 32 := 1#32
  let arg16 : BitVec 32 := Scf.iv c0_i32_1625 c1_i32_1627 k0_t34
  let v5415 : BitVec 32 := Scalar.muli c4_i32_1651 arg16
  let v5416 : BitVec 32 := Scalar.addi v5415 c0_i32_1652
  let c256_i32_1665 : BitVec 32 := 256#32
  let v5435 : BitVec 32 := Scalar.muli v5416 c256_i32_1665
  let v5436 : BitVec 32 := v5435
  let v5437 : Index := Scalar.indexCast v5436
  let c0_1667 : Index := 0#32
  ![0, v5437.toNat, 0]
def k0_mult18 (i : grid0.Coords) (k0_t34 : Fin (k0_t34_loop i).trips) : BitVec 32 :=
  let c4_i32_1651 : BitVec 32 := 4#32
  let c0_i32_1625 : BitVec 32 := 0#32
  let c1_i32_1627 : BitVec 32 := 1#32
  let arg16 : BitVec 32 := Scf.iv c0_i32_1625 c1_i32_1627 k0_t34
  let v5415 : BitVec 32 := Scalar.muli c4_i32_1651 arg16
  let c0_i32_1652 : BitVec 32 := 0#32
  let v5416 : BitVec 32 := Scalar.addi v5415 c0_i32_1652
  let c256_i32_1693 : BitVec 32 := 256#32
  let v5485 : BitVec 32 := Scalar.muli v5416 c256_i32_1693
  v5485
def k0_mult19 (i : grid0.Coords) (k0_t34 : Fin (k0_t34_loop i).trips) : BitVec 32 :=
  let c4_i32_1651 : BitVec 32 := 4#32
  let c0_i32_1625 : BitVec 32 := 0#32
  let c1_i32_1627 : BitVec 32 := 1#32
  let arg16 : BitVec 32 := Scf.iv c0_i32_1625 c1_i32_1627 k0_t34
  let v5415 : BitVec 32 := Scalar.muli c4_i32_1651 arg16
  let c1_i32_1721 : BitVec 32 := 1#32
  let v5535 : BitVec 32 := Scalar.addi v5415 c1_i32_1721
  let c256_i32_1734 : BitVec 32 := 256#32
  let v5554 : BitVec 32 := Scalar.muli v5535 c256_i32_1734
  v5554
def k0_mult20 (i : grid0.Coords) (k0_t34 : Fin (k0_t34_loop i).trips) : BitVec 32 :=
  let c4_i32_1651 : BitVec 32 := 4#32
  let c0_i32_1625 : BitVec 32 := 0#32
  let c1_i32_1627 : BitVec 32 := 1#32
  let arg16 : BitVec 32 := Scf.iv c0_i32_1625 c1_i32_1627 k0_t34
  let v5415 : BitVec 32 := Scalar.muli c4_i32_1651 arg16
  let c1_i32_1721 : BitVec 32 := 1#32
  let v5535 : BitVec 32 := Scalar.addi v5415 c1_i32_1721
  let c256_i32_1762 : BitVec 32 := 256#32
  let v5604 : BitVec 32 := Scalar.muli v5535 c256_i32_1762
  v5604
def k0_mult21 (i : grid0.Coords) (k0_t34 : Fin (k0_t34_loop i).trips) : BitVec 32 :=
  let c4_i32_1651 : BitVec 32 := 4#32
  let c0_i32_1625 : BitVec 32 := 0#32
  let c1_i32_1627 : BitVec 32 := 1#32
  let arg16 : BitVec 32 := Scf.iv c0_i32_1625 c1_i32_1627 k0_t34
  let v5415 : BitVec 32 := Scalar.muli c4_i32_1651 arg16
  let c2_i32_1790 : BitVec 32 := 2#32
  let v5654 : BitVec 32 := Scalar.addi v5415 c2_i32_1790
  let c256_i32_1803 : BitVec 32 := 256#32
  let v5673 : BitVec 32 := Scalar.muli v5654 c256_i32_1803
  v5673
def k0_mult22 (i : grid0.Coords) (k0_t34 : Fin (k0_t34_loop i).trips) : BitVec 32 :=
  let c4_i32_1651 : BitVec 32 := 4#32
  let c0_i32_1625 : BitVec 32 := 0#32
  let c1_i32_1627 : BitVec 32 := 1#32
  let arg16 : BitVec 32 := Scf.iv c0_i32_1625 c1_i32_1627 k0_t34
  let v5415 : BitVec 32 := Scalar.muli c4_i32_1651 arg16
  let c2_i32_1790 : BitVec 32 := 2#32
  let v5654 : BitVec 32 := Scalar.addi v5415 c2_i32_1790
  let c256_i32_1831 : BitVec 32 := 256#32
  let v5723 : BitVec 32 := Scalar.muli v5654 c256_i32_1831
  v5723
def k0_mult23 (i : grid0.Coords) (k0_t34 : Fin (k0_t34_loop i).trips) : BitVec 32 :=
  let c4_i32_1651 : BitVec 32 := 4#32
  let c0_i32_1625 : BitVec 32 := 0#32
  let c1_i32_1627 : BitVec 32 := 1#32
  let arg16 : BitVec 32 := Scf.iv c0_i32_1625 c1_i32_1627 k0_t34
  let v5415 : BitVec 32 := Scalar.muli c4_i32_1651 arg16
  let c3_i32_1859 : BitVec 32 := 3#32
  let v5773 : BitVec 32 := Scalar.addi v5415 c3_i32_1859
  let c256_i32_1872 : BitVec 32 := 256#32
  let v5792 : BitVec 32 := Scalar.muli v5773 c256_i32_1872
  v5792
def k0_mult24 (i : grid0.Coords) (k0_t34 : Fin (k0_t34_loop i).trips) : BitVec 32 :=
  let c4_i32_1651 : BitVec 32 := 4#32
  let c0_i32_1625 : BitVec 32 := 0#32
  let c1_i32_1627 : BitVec 32 := 1#32
  let arg16 : BitVec 32 := Scf.iv c0_i32_1625 c1_i32_1627 k0_t34
  let v5415 : BitVec 32 := Scalar.muli c4_i32_1651 arg16
  let c3_i32_1859 : BitVec 32 := 3#32
  let v5773 : BitVec 32 := Scalar.addi v5415 c3_i32_1859
  let c256_i32_1900 : BitVec 32 := 256#32
  let v5842 : BitVec 32 := Scalar.muli v5773 c256_i32_1900
  v5842
@[reducible] def k0_t35_loop (i : grid0.Coords) : Scf.Loop 32 :=
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let v5383 : BitVec 32 := Scalar.addi c0_i32_1625 v5382
  let c1_i32_1628 : BitVec 32 := 1#32
  ⟨v5386, v5383, c1_i32_1628⟩
def k0_off96 (i : grid0.Coords) (k0_t35 : Fin (k0_t35_loop i).trips) (c0_i32_1652 : BitVec 32) (c0_i32_1654 : BitVec 32) : Fin 3 → Nat :=
  let c4_i32_1651 : BitVec 32 := 4#32
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let c1_i32_1628 : BitVec 32 := 1#32
  let arg16 : BitVec 32 := Scf.iv v5386 c1_i32_1628 k0_t35
  let v5415 : BitVec 32 := Scalar.muli c4_i32_1651 arg16
  let v5416 : BitVec 32 := Scalar.addi v5415 c0_i32_1652
  let c2_i32_1653 : BitVec 32 := 2#32
  let v5417 : BitVec 32 := Scalar.muli v5416 c2_i32_1653
  let v5418 : BitVec 32 := Scalar.addi v5417 c0_i32_1654
  let v5419 : Index := Scalar.indexCast v5418
  let c0_1655 : Index := 0#32
  let c0_1656 : Index := 0#32
  ![v5419.toNat, 0, 0]
def k0_mult25 (i : grid0.Coords) (k0_t35 : Fin (k0_t35_loop i).trips) : BitVec 32 :=
  let c4_i32_1651 : BitVec 32 := 4#32
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let c1_i32_1628 : BitVec 32 := 1#32
  let arg16 : BitVec 32 := Scf.iv v5386 c1_i32_1628 k0_t35
  let v5415 : BitVec 32 := Scalar.muli c4_i32_1651 arg16
  let c0_i32_1652 : BitVec 32 := 0#32
  let v5416 : BitVec 32 := Scalar.addi v5415 c0_i32_1652
  let c256_i32_1665 : BitVec 32 := 256#32
  let v5435 : BitVec 32 := Scalar.muli v5416 c256_i32_1665
  v5435
def k0_off97 (i : grid0.Coords) (k0_t35 : Fin (k0_t35_loop i).trips) (c0_i32_1652 : BitVec 32) : Fin 3 → Nat :=
  let c0_1666 : Index := 0#32
  let c4_i32_1651 : BitVec 32 := 4#32
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let c1_i32_1628 : BitVec 32 := 1#32
  let arg16 : BitVec 32 := Scf.iv v5386 c1_i32_1628 k0_t35
  let v5415 : BitVec 32 := Scalar.muli c4_i32_1651 arg16
  let v5416 : BitVec 32 := Scalar.addi v5415 c0_i32_1652
  let c256_i32_1665 : BitVec 32 := 256#32
  let v5435 : BitVec 32 := Scalar.muli v5416 c256_i32_1665
  let v5436 : BitVec 32 := v5435
  let v5437 : Index := Scalar.indexCast v5436
  let c0_1667 : Index := 0#32
  ![0, v5437.toNat, 0]
def k0_mult26 (i : grid0.Coords) (k0_t35 : Fin (k0_t35_loop i).trips) : BitVec 32 :=
  let c4_i32_1651 : BitVec 32 := 4#32
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let c1_i32_1628 : BitVec 32 := 1#32
  let arg16 : BitVec 32 := Scf.iv v5386 c1_i32_1628 k0_t35
  let v5415 : BitVec 32 := Scalar.muli c4_i32_1651 arg16
  let c0_i32_1652 : BitVec 32 := 0#32
  let v5416 : BitVec 32 := Scalar.addi v5415 c0_i32_1652
  let c256_i32_1693 : BitVec 32 := 256#32
  let v5485 : BitVec 32 := Scalar.muli v5416 c256_i32_1693
  v5485
def k0_mult27 (i : grid0.Coords) (k0_t35 : Fin (k0_t35_loop i).trips) : BitVec 32 :=
  let c4_i32_1651 : BitVec 32 := 4#32
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let c1_i32_1628 : BitVec 32 := 1#32
  let arg16 : BitVec 32 := Scf.iv v5386 c1_i32_1628 k0_t35
  let v5415 : BitVec 32 := Scalar.muli c4_i32_1651 arg16
  let c1_i32_1721 : BitVec 32 := 1#32
  let v5535 : BitVec 32 := Scalar.addi v5415 c1_i32_1721
  let c256_i32_1734 : BitVec 32 := 256#32
  let v5554 : BitVec 32 := Scalar.muli v5535 c256_i32_1734
  v5554
def k0_mult28 (i : grid0.Coords) (k0_t35 : Fin (k0_t35_loop i).trips) : BitVec 32 :=
  let c4_i32_1651 : BitVec 32 := 4#32
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let c1_i32_1628 : BitVec 32 := 1#32
  let arg16 : BitVec 32 := Scf.iv v5386 c1_i32_1628 k0_t35
  let v5415 : BitVec 32 := Scalar.muli c4_i32_1651 arg16
  let c1_i32_1721 : BitVec 32 := 1#32
  let v5535 : BitVec 32 := Scalar.addi v5415 c1_i32_1721
  let c256_i32_1762 : BitVec 32 := 256#32
  let v5604 : BitVec 32 := Scalar.muli v5535 c256_i32_1762
  v5604
def k0_mult29 (i : grid0.Coords) (k0_t35 : Fin (k0_t35_loop i).trips) : BitVec 32 :=
  let c4_i32_1651 : BitVec 32 := 4#32
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let c1_i32_1628 : BitVec 32 := 1#32
  let arg16 : BitVec 32 := Scf.iv v5386 c1_i32_1628 k0_t35
  let v5415 : BitVec 32 := Scalar.muli c4_i32_1651 arg16
  let c2_i32_1790 : BitVec 32 := 2#32
  let v5654 : BitVec 32 := Scalar.addi v5415 c2_i32_1790
  let c256_i32_1803 : BitVec 32 := 256#32
  let v5673 : BitVec 32 := Scalar.muli v5654 c256_i32_1803
  v5673
def k0_mult30 (i : grid0.Coords) (k0_t35 : Fin (k0_t35_loop i).trips) : BitVec 32 :=
  let c4_i32_1651 : BitVec 32 := 4#32
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let c1_i32_1628 : BitVec 32 := 1#32
  let arg16 : BitVec 32 := Scf.iv v5386 c1_i32_1628 k0_t35
  let v5415 : BitVec 32 := Scalar.muli c4_i32_1651 arg16
  let c2_i32_1790 : BitVec 32 := 2#32
  let v5654 : BitVec 32 := Scalar.addi v5415 c2_i32_1790
  let c256_i32_1831 : BitVec 32 := 256#32
  let v5723 : BitVec 32 := Scalar.muli v5654 c256_i32_1831
  v5723
def k0_mult31 (i : grid0.Coords) (k0_t35 : Fin (k0_t35_loop i).trips) : BitVec 32 :=
  let c4_i32_1651 : BitVec 32 := 4#32
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let c1_i32_1628 : BitVec 32 := 1#32
  let arg16 : BitVec 32 := Scf.iv v5386 c1_i32_1628 k0_t35
  let v5415 : BitVec 32 := Scalar.muli c4_i32_1651 arg16
  let c3_i32_1859 : BitVec 32 := 3#32
  let v5773 : BitVec 32 := Scalar.addi v5415 c3_i32_1859
  let c256_i32_1872 : BitVec 32 := 256#32
  let v5792 : BitVec 32 := Scalar.muli v5773 c256_i32_1872
  v5792
def k0_mult32 (i : grid0.Coords) (k0_t35 : Fin (k0_t35_loop i).trips) : BitVec 32 :=
  let c4_i32_1651 : BitVec 32 := 4#32
  let c0_i32_1625 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1623 : BitVec 32 := 2#32
  let v5381 : BitVec 32 := Scalar.shrui v4 c2_i32_1623
  let v5382 : BitVec 32 := Scalar.subi v5381 c0_i32_1625
  let c1_i32_1626 : BitVec 32 := 1#32
  let v5384 : BitVec 32 := Scalar.divsi v5382 c1_i32_1626
  let v5385 : BitVec 32 := Scalar.muli v5384 c1_i32_1626
  let v5386 : BitVec 32 := Scalar.addi c0_i32_1625 v5385
  let c1_i32_1628 : BitVec 32 := 1#32
  let arg16 : BitVec 32 := Scf.iv v5386 c1_i32_1628 k0_t35
  let v5415 : BitVec 32 := Scalar.muli c4_i32_1651 arg16
  let c3_i32_1859 : BitVec 32 := 3#32
  let v5773 : BitVec 32 := Scalar.addi v5415 c3_i32_1859
  let c256_i32_1900 : BitVec 32 := 256#32
  let v5842 : BitVec 32 := Scalar.muli v5773 c256_i32_1900
  v5842
def k0_cond32 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1630 : BitVec 32 := 2#32
  let v5388 : BitVec 32 := Scalar.andi v4 c2_i32_1630
  let c2_i32_1631 : BitVec 32 := 2#32
  let v5389 : BitVec 1 := Scalar.cmpi .eq v5388 c2_i32_1631
  let v5390 : BitVec 32 := Scalar.extui v5389
  let c0_i32_1632 : BitVec 32 := 0#32
  let v5391 : BitVec 1 := Scalar.cmpi .ne v5390 c0_i32_1632
  v5391

def k0_off98 (i : grid0.Coords) (c0_i32_1651 : BitVec 32) (c0_i32_1653 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1629 : BitVec 32 := 4294967292#32
  let v5387 : BitVec 32 := Scalar.andi v4 c_m4_i32_1629
  let v5415 : BitVec 32 := Scalar.addi v5387 c0_i32_1651
  let c2_i32_1652 : BitVec 32 := 2#32
  let v5416 : BitVec 32 := Scalar.muli v5415 c2_i32_1652
  let v5417 : BitVec 32 := Scalar.addi v5416 c0_i32_1653
  let v5418 : Index := Scalar.indexCast v5417
  let c0_1654 : Index := 0#32
  let c0_1655 : Index := 0#32
  ![v5418.toNat, 0, 0]
def k0_mult33 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1629 : BitVec 32 := 4294967292#32
  let v5387 : BitVec 32 := Scalar.andi v4 c_m4_i32_1629
  let c0_i32_1651 : BitVec 32 := 0#32
  let v5415 : BitVec 32 := Scalar.addi v5387 c0_i32_1651
  let c256_i32_1664 : BitVec 32 := 256#32
  let v5434 : BitVec 32 := Scalar.muli v5415 c256_i32_1664
  v5434
def k0_off99 (i : grid0.Coords) (c0_i32_1651 : BitVec 32) : Fin 3 → Nat :=
  let c0_1665 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1629 : BitVec 32 := 4294967292#32
  let v5387 : BitVec 32 := Scalar.andi v4 c_m4_i32_1629
  let v5415 : BitVec 32 := Scalar.addi v5387 c0_i32_1651
  let c256_i32_1664 : BitVec 32 := 256#32
  let v5434 : BitVec 32 := Scalar.muli v5415 c256_i32_1664
  let v5435 : BitVec 32 := v5434
  let v5436 : Index := Scalar.indexCast v5435
  let c0_1666 : Index := 0#32
  ![0, v5436.toNat, 0]
def k0_mult34 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1629 : BitVec 32 := 4294967292#32
  let v5387 : BitVec 32 := Scalar.andi v4 c_m4_i32_1629
  let c0_i32_1651 : BitVec 32 := 0#32
  let v5415 : BitVec 32 := Scalar.addi v5387 c0_i32_1651
  let c256_i32_1692 : BitVec 32 := 256#32
  let v5484 : BitVec 32 := Scalar.muli v5415 c256_i32_1692
  v5484
def k0_mult35 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1629 : BitVec 32 := 4294967292#32
  let v5387 : BitVec 32 := Scalar.andi v4 c_m4_i32_1629
  let c1_i32_1720 : BitVec 32 := 1#32
  let v5534 : BitVec 32 := Scalar.addi v5387 c1_i32_1720
  let c256_i32_1733 : BitVec 32 := 256#32
  let v5553 : BitVec 32 := Scalar.muli v5534 c256_i32_1733
  v5553
def k0_mult36 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1629 : BitVec 32 := 4294967292#32
  let v5387 : BitVec 32 := Scalar.andi v4 c_m4_i32_1629
  let c1_i32_1720 : BitVec 32 := 1#32
  let v5534 : BitVec 32 := Scalar.addi v5387 c1_i32_1720
  let c256_i32_1761 : BitVec 32 := 256#32
  let v5603 : BitVec 32 := Scalar.muli v5534 c256_i32_1761
  v5603
def k0_cond33 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1634 : BitVec 32 := 1#32
  let v5393 : BitVec 32 := Scalar.andi v4 c1_i32_1634
  let c1_i32_1635 : BitVec 32 := 1#32
  let v5394 : BitVec 1 := Scalar.cmpi .eq v5393 c1_i32_1635
  let v5395 : BitVec 32 := Scalar.extui v5394
  let c0_i32_1636 : BitVec 32 := 0#32
  let v5396 : BitVec 1 := Scalar.cmpi .ne v5395 c0_i32_1636
  v5396

def k0_off100 (i : grid0.Coords) (c0_i32_1653 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1633 : BitVec 32 := 4294967294#32
  let v5392 : BitVec 32 := Scalar.andi v4 c_m2_i32_1633
  let c0_i32_1651 : BitVec 32 := 0#32
  let v5415 : BitVec 32 := Scalar.addi v5392 c0_i32_1651
  let c2_i32_1652 : BitVec 32 := 2#32
  let v5416 : BitVec 32 := Scalar.muli v5415 c2_i32_1652
  let v5417 : BitVec 32 := Scalar.addi v5416 c0_i32_1653
  let v5418 : Index := Scalar.indexCast v5417
  let c0_1654 : Index := 0#32
  let c0_1655 : Index := 0#32
  ![v5418.toNat, 0, 0]
def k0_mult37 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1633 : BitVec 32 := 4294967294#32
  let v5392 : BitVec 32 := Scalar.andi v4 c_m2_i32_1633
  let c0_i32_1651 : BitVec 32 := 0#32
  let v5415 : BitVec 32 := Scalar.addi v5392 c0_i32_1651
  let c256_i32_1664 : BitVec 32 := 256#32
  let v5434 : BitVec 32 := Scalar.muli v5415 c256_i32_1664
  v5434
def k0_off101 (i : grid0.Coords) : Fin 3 → Nat :=
  let c0_1665 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1633 : BitVec 32 := 4294967294#32
  let v5392 : BitVec 32 := Scalar.andi v4 c_m2_i32_1633
  let c0_i32_1651 : BitVec 32 := 0#32
  let v5415 : BitVec 32 := Scalar.addi v5392 c0_i32_1651
  let c256_i32_1664 : BitVec 32 := 256#32
  let v5434 : BitVec 32 := Scalar.muli v5415 c256_i32_1664
  let v5435 : BitVec 32 := v5434
  let v5436 : Index := Scalar.indexCast v5435
  let c0_1666 : Index := 0#32
  ![0, v5436.toNat, 0]
def k0_mult38 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1633 : BitVec 32 := 4294967294#32
  let v5392 : BitVec 32 := Scalar.andi v4 c_m2_i32_1633
  let c0_i32_1651 : BitVec 32 := 0#32
  let v5415 : BitVec 32 := Scalar.addi v5392 c0_i32_1651
  let c256_i32_1692 : BitVec 32 := 256#32
  let v5484 : BitVec 32 := Scalar.muli v5415 c256_i32_1692
  v5484
@[reducible] def k0_t36_loop (i : grid0.Coords) : Scf.Loop 32 :=
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1585 : BitVec 32 := 1#32
  ⟨c0_i32_1583, v5313, c1_i32_1585⟩
def k0_off102 (i : grid0.Coords) (k0_t36 : Fin (k0_t36_loop i).trips) (c0_i32_1620 : BitVec 32) (c0_i32_1622 : BitVec 32) : Fin 3 → Nat :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let v5378 : BitVec 32 := Scalar.addi v5377 c0_i32_1620
  let c2_i32_1621 : BitVec 32 := 2#32
  let v5379 : BitVec 32 := Scalar.muli v5378 c2_i32_1621
  let v5380 : BitVec 32 := Scalar.addi v5379 c0_i32_1622
  let v5381 : Index := Scalar.indexCast v5380
  let c0_1623 : Index := 0#32
  let c0_1624 : Index := 0#32
  ![v5381.toNat, 0, 0]
def k0_mult39 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c0_i32_1620 : BitVec 32 := 0#32
  let v5378 : BitVec 32 := Scalar.addi v5377 c0_i32_1620
  let c256_i32_1633 : BitVec 32 := 256#32
  let v5397 : BitVec 32 := Scalar.muli v5378 c256_i32_1633
  v5397
def k0_off103 (i : grid0.Coords) (k0_t36 : Fin (k0_t36_loop i).trips) (c0_i32_1620 : BitVec 32) : Fin 3 → Nat :=
  let c0_1634 : Index := 0#32
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let v5378 : BitVec 32 := Scalar.addi v5377 c0_i32_1620
  let c256_i32_1633 : BitVec 32 := 256#32
  let v5397 : BitVec 32 := Scalar.muli v5378 c256_i32_1633
  let v5398 : BitVec 32 := v5397
  let v5399 : Index := Scalar.indexCast v5398
  let c0_1635 : Index := 0#32
  ![0, v5399.toNat, 0]
def k0_mult40 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c0_i32_1620 : BitVec 32 := 0#32
  let v5378 : BitVec 32 := Scalar.addi v5377 c0_i32_1620
  let c256_i32_1649 : BitVec 32 := 256#32
  let v5452 : BitVec 32 := Scalar.muli v5378 c256_i32_1649
  v5452
def k0_mult41 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c0_i32_1620 : BitVec 32 := 0#32
  let v5378 : BitVec 32 := Scalar.addi v5377 c0_i32_1620
  let c256_i32_1660 : BitVec 32 := 256#32
  let v5466 : BitVec 32 := Scalar.muli v5378 c256_i32_1660
  v5466
def k0_mult42 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c0_i32_1620 : BitVec 32 := 0#32
  let v5378 : BitVec 32 := Scalar.addi v5377 c0_i32_1620
  let c256_i32_1676 : BitVec 32 := 256#32
  let v5521 : BitVec 32 := Scalar.muli v5378 c256_i32_1676
  v5521
def k0_mult43 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c1_i32_1687 : BitVec 32 := 1#32
  let v5535 : BitVec 32 := Scalar.addi v5377 c1_i32_1687
  let c256_i32_1700 : BitVec 32 := 256#32
  let v5554 : BitVec 32 := Scalar.muli v5535 c256_i32_1700
  v5554
def k0_mult44 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c1_i32_1687 : BitVec 32 := 1#32
  let v5535 : BitVec 32 := Scalar.addi v5377 c1_i32_1687
  let c256_i32_1716 : BitVec 32 := 256#32
  let v5609 : BitVec 32 := Scalar.muli v5535 c256_i32_1716
  v5609
def k0_mult45 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c1_i32_1687 : BitVec 32 := 1#32
  let v5535 : BitVec 32 := Scalar.addi v5377 c1_i32_1687
  let c256_i32_1727 : BitVec 32 := 256#32
  let v5623 : BitVec 32 := Scalar.muli v5535 c256_i32_1727
  v5623
def k0_mult46 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c1_i32_1687 : BitVec 32 := 1#32
  let v5535 : BitVec 32 := Scalar.addi v5377 c1_i32_1687
  let c256_i32_1743 : BitVec 32 := 256#32
  let v5678 : BitVec 32 := Scalar.muli v5535 c256_i32_1743
  v5678
def k0_mult47 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c2_i32_1754 : BitVec 32 := 2#32
  let v5692 : BitVec 32 := Scalar.addi v5377 c2_i32_1754
  let c256_i32_1767 : BitVec 32 := 256#32
  let v5711 : BitVec 32 := Scalar.muli v5692 c256_i32_1767
  v5711
def k0_mult48 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c2_i32_1754 : BitVec 32 := 2#32
  let v5692 : BitVec 32 := Scalar.addi v5377 c2_i32_1754
  let c256_i32_1783 : BitVec 32 := 256#32
  let v5766 : BitVec 32 := Scalar.muli v5692 c256_i32_1783
  v5766
def k0_mult49 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c2_i32_1754 : BitVec 32 := 2#32
  let v5692 : BitVec 32 := Scalar.addi v5377 c2_i32_1754
  let c256_i32_1794 : BitVec 32 := 256#32
  let v5780 : BitVec 32 := Scalar.muli v5692 c256_i32_1794
  v5780
def k0_mult50 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c2_i32_1754 : BitVec 32 := 2#32
  let v5692 : BitVec 32 := Scalar.addi v5377 c2_i32_1754
  let c256_i32_1810 : BitVec 32 := 256#32
  let v5835 : BitVec 32 := Scalar.muli v5692 c256_i32_1810
  v5835
def k0_mult51 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c3_i32_1821 : BitVec 32 := 3#32
  let v5849 : BitVec 32 := Scalar.addi v5377 c3_i32_1821
  let c256_i32_1834 : BitVec 32 := 256#32
  let v5868 : BitVec 32 := Scalar.muli v5849 c256_i32_1834
  v5868
def k0_mult52 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c3_i32_1821 : BitVec 32 := 3#32
  let v5849 : BitVec 32 := Scalar.addi v5377 c3_i32_1821
  let c256_i32_1850 : BitVec 32 := 256#32
  let v5923 : BitVec 32 := Scalar.muli v5849 c256_i32_1850
  v5923
def k0_mult53 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c3_i32_1821 : BitVec 32 := 3#32
  let v5849 : BitVec 32 := Scalar.addi v5377 c3_i32_1821
  let c256_i32_1861 : BitVec 32 := 256#32
  let v5937 : BitVec 32 := Scalar.muli v5849 c256_i32_1861
  v5937
def k0_mult54 (i : grid0.Coords) (k0_t36 : Fin (k0_t36_loop i).trips) : BitVec 32 :=
  let c4_i32_1619 : BitVec 32 := 4#32
  let c0_i32_1583 : BitVec 32 := 0#32
  let c1_i32_1585 : BitVec 32 := 1#32
  let arg16 : BitVec 32 := Scf.iv c0_i32_1583 c1_i32_1585 k0_t36
  let v5377 : BitVec 32 := Scalar.muli c4_i32_1619 arg16
  let c3_i32_1821 : BitVec 32 := 3#32
  let v5849 : BitVec 32 := Scalar.addi v5377 c3_i32_1821
  let c256_i32_1877 : BitVec 32 := 256#32
  let v5992 : BitVec 32 := Scalar.muli v5849 c256_i32_1877
  v5992
@[reducible] def k0_t37_loop (i : grid0.Coords) : Scf.Loop 32 :=
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let v5310 : BitVec 32 := Scalar.addi c0_i32_1583 v5309
  let c1_i32_1586 : BitVec 32 := 1#32
  ⟨v5313, v5310, c1_i32_1586⟩
def k0_off104 (i : grid0.Coords) (k0_t37 : Fin (k0_t37_loop i).trips) (c0_i32_1620 : BitVec 32) (c0_i32_1622 : BitVec 32) : Fin 3 → Nat :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let v5378 : BitVec 32 := Scalar.addi v5377 c0_i32_1620
  let c2_i32_1621 : BitVec 32 := 2#32
  let v5379 : BitVec 32 := Scalar.muli v5378 c2_i32_1621
  let v5380 : BitVec 32 := Scalar.addi v5379 c0_i32_1622
  let v5381 : Index := Scalar.indexCast v5380
  let c0_1623 : Index := 0#32
  let c0_1624 : Index := 0#32
  ![v5381.toNat, 0, 0]
def k0_mult55 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c0_i32_1620 : BitVec 32 := 0#32
  let v5378 : BitVec 32 := Scalar.addi v5377 c0_i32_1620
  let c256_i32_1633 : BitVec 32 := 256#32
  let v5397 : BitVec 32 := Scalar.muli v5378 c256_i32_1633
  v5397
def k0_off105 (i : grid0.Coords) (k0_t37 : Fin (k0_t37_loop i).trips) (c0_i32_1620 : BitVec 32) : Fin 3 → Nat :=
  let c0_1634 : Index := 0#32
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let v5378 : BitVec 32 := Scalar.addi v5377 c0_i32_1620
  let c256_i32_1633 : BitVec 32 := 256#32
  let v5397 : BitVec 32 := Scalar.muli v5378 c256_i32_1633
  let v5398 : BitVec 32 := v5397
  let v5399 : Index := Scalar.indexCast v5398
  let c0_1635 : Index := 0#32
  ![0, v5399.toNat, 0]
def k0_mult56 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c0_i32_1620 : BitVec 32 := 0#32
  let v5378 : BitVec 32 := Scalar.addi v5377 c0_i32_1620
  let c256_i32_1649 : BitVec 32 := 256#32
  let v5452 : BitVec 32 := Scalar.muli v5378 c256_i32_1649
  v5452
def k0_mult57 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c0_i32_1620 : BitVec 32 := 0#32
  let v5378 : BitVec 32 := Scalar.addi v5377 c0_i32_1620
  let c256_i32_1660 : BitVec 32 := 256#32
  let v5466 : BitVec 32 := Scalar.muli v5378 c256_i32_1660
  v5466
def k0_mult58 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c0_i32_1620 : BitVec 32 := 0#32
  let v5378 : BitVec 32 := Scalar.addi v5377 c0_i32_1620
  let c256_i32_1676 : BitVec 32 := 256#32
  let v5521 : BitVec 32 := Scalar.muli v5378 c256_i32_1676
  v5521
def k0_mult59 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c1_i32_1687 : BitVec 32 := 1#32
  let v5535 : BitVec 32 := Scalar.addi v5377 c1_i32_1687
  let c256_i32_1700 : BitVec 32 := 256#32
  let v5554 : BitVec 32 := Scalar.muli v5535 c256_i32_1700
  v5554
def k0_mult60 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c1_i32_1687 : BitVec 32 := 1#32
  let v5535 : BitVec 32 := Scalar.addi v5377 c1_i32_1687
  let c256_i32_1716 : BitVec 32 := 256#32
  let v5609 : BitVec 32 := Scalar.muli v5535 c256_i32_1716
  v5609
def k0_mult61 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c1_i32_1687 : BitVec 32 := 1#32
  let v5535 : BitVec 32 := Scalar.addi v5377 c1_i32_1687
  let c256_i32_1727 : BitVec 32 := 256#32
  let v5623 : BitVec 32 := Scalar.muli v5535 c256_i32_1727
  v5623
def k0_mult62 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c1_i32_1687 : BitVec 32 := 1#32
  let v5535 : BitVec 32 := Scalar.addi v5377 c1_i32_1687
  let c256_i32_1743 : BitVec 32 := 256#32
  let v5678 : BitVec 32 := Scalar.muli v5535 c256_i32_1743
  v5678
def k0_mult63 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c2_i32_1754 : BitVec 32 := 2#32
  let v5692 : BitVec 32 := Scalar.addi v5377 c2_i32_1754
  let c256_i32_1767 : BitVec 32 := 256#32
  let v5711 : BitVec 32 := Scalar.muli v5692 c256_i32_1767
  v5711
def k0_mult64 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c2_i32_1754 : BitVec 32 := 2#32
  let v5692 : BitVec 32 := Scalar.addi v5377 c2_i32_1754
  let c256_i32_1783 : BitVec 32 := 256#32
  let v5766 : BitVec 32 := Scalar.muli v5692 c256_i32_1783
  v5766
def k0_mult65 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c2_i32_1754 : BitVec 32 := 2#32
  let v5692 : BitVec 32 := Scalar.addi v5377 c2_i32_1754
  let c256_i32_1794 : BitVec 32 := 256#32
  let v5780 : BitVec 32 := Scalar.muli v5692 c256_i32_1794
  v5780
def k0_mult66 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c2_i32_1754 : BitVec 32 := 2#32
  let v5692 : BitVec 32 := Scalar.addi v5377 c2_i32_1754
  let c256_i32_1810 : BitVec 32 := 256#32
  let v5835 : BitVec 32 := Scalar.muli v5692 c256_i32_1810
  v5835
def k0_mult67 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c3_i32_1821 : BitVec 32 := 3#32
  let v5849 : BitVec 32 := Scalar.addi v5377 c3_i32_1821
  let c256_i32_1834 : BitVec 32 := 256#32
  let v5868 : BitVec 32 := Scalar.muli v5849 c256_i32_1834
  v5868
def k0_mult68 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c3_i32_1821 : BitVec 32 := 3#32
  let v5849 : BitVec 32 := Scalar.addi v5377 c3_i32_1821
  let c256_i32_1850 : BitVec 32 := 256#32
  let v5923 : BitVec 32 := Scalar.muli v5849 c256_i32_1850
  v5923
def k0_mult69 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c3_i32_1821 : BitVec 32 := 3#32
  let v5849 : BitVec 32 := Scalar.addi v5377 c3_i32_1821
  let c256_i32_1861 : BitVec 32 := 256#32
  let v5937 : BitVec 32 := Scalar.muli v5849 c256_i32_1861
  v5937
def k0_mult70 (i : grid0.Coords) (k0_t37 : Fin (k0_t37_loop i).trips) : BitVec 32 :=
  let c4_i32_1619 : BitVec 32 := 4#32
  let c0_i32_1583 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1581 : BitVec 32 := 2#32
  let v5308 : BitVec 32 := Scalar.shrui v4 c2_i32_1581
  let v5309 : BitVec 32 := Scalar.subi v5308 c0_i32_1583
  let c1_i32_1584 : BitVec 32 := 1#32
  let v5311 : BitVec 32 := Scalar.divsi v5309 c1_i32_1584
  let v5312 : BitVec 32 := Scalar.muli v5311 c1_i32_1584
  let v5313 : BitVec 32 := Scalar.addi c0_i32_1583 v5312
  let c1_i32_1586 : BitVec 32 := 1#32
  let arg16 : BitVec 32 := Scf.iv v5313 c1_i32_1586 k0_t37
  let v5377 : BitVec 32 := Scalar.muli c4_i32_1619 arg16
  let c3_i32_1821 : BitVec 32 := 3#32
  let v5849 : BitVec 32 := Scalar.addi v5377 c3_i32_1821
  let c256_i32_1877 : BitVec 32 := 256#32
  let v5992 : BitVec 32 := Scalar.muli v5849 c256_i32_1877
  v5992
def k0_cond34 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c2_i32_1588 : BitVec 32 := 2#32
  let v5315 : BitVec 32 := Scalar.andi v4 c2_i32_1588
  let c2_i32_1589 : BitVec 32 := 2#32
  let v5316 : BitVec 1 := Scalar.cmpi .eq v5315 c2_i32_1589
  let v5317 : BitVec 32 := Scalar.extui v5316
  let c0_i32_1590 : BitVec 32 := 0#32
  let v5318 : BitVec 1 := Scalar.cmpi .ne v5317 c0_i32_1590
  v5318

def k0_off106 (i : grid0.Coords) (c0_i32_1619 : BitVec 32) (c0_i32_1621 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1587 : BitVec 32 := 4294967292#32
  let v5314 : BitVec 32 := Scalar.andi v4 c_m4_i32_1587
  let v5377 : BitVec 32 := Scalar.addi v5314 c0_i32_1619
  let c2_i32_1620 : BitVec 32 := 2#32
  let v5378 : BitVec 32 := Scalar.muli v5377 c2_i32_1620
  let v5379 : BitVec 32 := Scalar.addi v5378 c0_i32_1621
  let v5380 : Index := Scalar.indexCast v5379
  let c0_1622 : Index := 0#32
  let c0_1623 : Index := 0#32
  ![v5380.toNat, 0, 0]
def k0_mult71 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1587 : BitVec 32 := 4294967292#32
  let v5314 : BitVec 32 := Scalar.andi v4 c_m4_i32_1587
  let c0_i32_1619 : BitVec 32 := 0#32
  let v5377 : BitVec 32 := Scalar.addi v5314 c0_i32_1619
  let c256_i32_1632 : BitVec 32 := 256#32
  let v5396 : BitVec 32 := Scalar.muli v5377 c256_i32_1632
  v5396
def k0_off107 (i : grid0.Coords) (c0_i32_1619 : BitVec 32) : Fin 3 → Nat :=
  let c0_1633 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1587 : BitVec 32 := 4294967292#32
  let v5314 : BitVec 32 := Scalar.andi v4 c_m4_i32_1587
  let v5377 : BitVec 32 := Scalar.addi v5314 c0_i32_1619
  let c256_i32_1632 : BitVec 32 := 256#32
  let v5396 : BitVec 32 := Scalar.muli v5377 c256_i32_1632
  let v5397 : BitVec 32 := v5396
  let v5398 : Index := Scalar.indexCast v5397
  let c0_1634 : Index := 0#32
  ![0, v5398.toNat, 0]
def k0_mult72 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1587 : BitVec 32 := 4294967292#32
  let v5314 : BitVec 32 := Scalar.andi v4 c_m4_i32_1587
  let c0_i32_1619 : BitVec 32 := 0#32
  let v5377 : BitVec 32 := Scalar.addi v5314 c0_i32_1619
  let c256_i32_1648 : BitVec 32 := 256#32
  let v5451 : BitVec 32 := Scalar.muli v5377 c256_i32_1648
  v5451
def k0_mult73 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1587 : BitVec 32 := 4294967292#32
  let v5314 : BitVec 32 := Scalar.andi v4 c_m4_i32_1587
  let c0_i32_1619 : BitVec 32 := 0#32
  let v5377 : BitVec 32 := Scalar.addi v5314 c0_i32_1619
  let c256_i32_1659 : BitVec 32 := 256#32
  let v5465 : BitVec 32 := Scalar.muli v5377 c256_i32_1659
  v5465
def k0_mult74 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1587 : BitVec 32 := 4294967292#32
  let v5314 : BitVec 32 := Scalar.andi v4 c_m4_i32_1587
  let c0_i32_1619 : BitVec 32 := 0#32
  let v5377 : BitVec 32 := Scalar.addi v5314 c0_i32_1619
  let c256_i32_1675 : BitVec 32 := 256#32
  let v5520 : BitVec 32 := Scalar.muli v5377 c256_i32_1675
  v5520
def k0_mult75 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1587 : BitVec 32 := 4294967292#32
  let v5314 : BitVec 32 := Scalar.andi v4 c_m4_i32_1587
  let c1_i32_1686 : BitVec 32 := 1#32
  let v5534 : BitVec 32 := Scalar.addi v5314 c1_i32_1686
  let c256_i32_1699 : BitVec 32 := 256#32
  let v5553 : BitVec 32 := Scalar.muli v5534 c256_i32_1699
  v5553
def k0_mult76 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1587 : BitVec 32 := 4294967292#32
  let v5314 : BitVec 32 := Scalar.andi v4 c_m4_i32_1587
  let c1_i32_1686 : BitVec 32 := 1#32
  let v5534 : BitVec 32 := Scalar.addi v5314 c1_i32_1686
  let c256_i32_1715 : BitVec 32 := 256#32
  let v5608 : BitVec 32 := Scalar.muli v5534 c256_i32_1715
  v5608
def k0_mult77 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1587 : BitVec 32 := 4294967292#32
  let v5314 : BitVec 32 := Scalar.andi v4 c_m4_i32_1587
  let c1_i32_1686 : BitVec 32 := 1#32
  let v5534 : BitVec 32 := Scalar.addi v5314 c1_i32_1686
  let c256_i32_1726 : BitVec 32 := 256#32
  let v5622 : BitVec 32 := Scalar.muli v5534 c256_i32_1726
  v5622
def k0_mult78 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m4_i32_1587 : BitVec 32 := 4294967292#32
  let v5314 : BitVec 32 := Scalar.andi v4 c_m4_i32_1587
  let c1_i32_1686 : BitVec 32 := 1#32
  let v5534 : BitVec 32 := Scalar.addi v5314 c1_i32_1686
  let c256_i32_1742 : BitVec 32 := 256#32
  let v5677 : BitVec 32 := Scalar.muli v5534 c256_i32_1742
  v5677
def k0_cond35 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c1_i32_1592 : BitVec 32 := 1#32
  let v5320 : BitVec 32 := Scalar.andi v4 c1_i32_1592
  let c1_i32_1593 : BitVec 32 := 1#32
  let v5321 : BitVec 1 := Scalar.cmpi .eq v5320 c1_i32_1593
  let v5322 : BitVec 32 := Scalar.extui v5321
  let c0_i32_1594 : BitVec 32 := 0#32
  let v5323 : BitVec 1 := Scalar.cmpi .ne v5322 c0_i32_1594
  v5323

def k0_off108 (i : grid0.Coords) (c0_i32_1621 : BitVec 32) : Fin 3 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1591 : BitVec 32 := 4294967294#32
  let v5319 : BitVec 32 := Scalar.andi v4 c_m2_i32_1591
  let c0_i32_1619 : BitVec 32 := 0#32
  let v5377 : BitVec 32 := Scalar.addi v5319 c0_i32_1619
  let c2_i32_1620 : BitVec 32 := 2#32
  let v5378 : BitVec 32 := Scalar.muli v5377 c2_i32_1620
  let v5379 : BitVec 32 := Scalar.addi v5378 c0_i32_1621
  let v5380 : Index := Scalar.indexCast v5379
  let c0_1622 : Index := 0#32
  let c0_1623 : Index := 0#32
  ![v5380.toNat, 0, 0]
def k0_mult79 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1591 : BitVec 32 := 4294967294#32
  let v5319 : BitVec 32 := Scalar.andi v4 c_m2_i32_1591
  let c0_i32_1619 : BitVec 32 := 0#32
  let v5377 : BitVec 32 := Scalar.addi v5319 c0_i32_1619
  let c256_i32_1632 : BitVec 32 := 256#32
  let v5396 : BitVec 32 := Scalar.muli v5377 c256_i32_1632
  v5396
def k0_off109 (i : grid0.Coords) : Fin 3 → Nat :=
  let c0_1633 : Index := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1591 : BitVec 32 := 4294967294#32
  let v5319 : BitVec 32 := Scalar.andi v4 c_m2_i32_1591
  let c0_i32_1619 : BitVec 32 := 0#32
  let v5377 : BitVec 32 := Scalar.addi v5319 c0_i32_1619
  let c256_i32_1632 : BitVec 32 := 256#32
  let v5396 : BitVec 32 := Scalar.muli v5377 c256_i32_1632
  let v5397 : BitVec 32 := v5396
  let v5398 : Index := Scalar.indexCast v5397
  let c0_1634 : Index := 0#32
  ![0, v5398.toNat, 0]
def k0_mult80 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1591 : BitVec 32 := 4294967294#32
  let v5319 : BitVec 32 := Scalar.andi v4 c_m2_i32_1591
  let c0_i32_1619 : BitVec 32 := 0#32
  let v5377 : BitVec 32 := Scalar.addi v5319 c0_i32_1619
  let c256_i32_1648 : BitVec 32 := 256#32
  let v5451 : BitVec 32 := Scalar.muli v5377 c256_i32_1648
  v5451
def k0_mult81 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1591 : BitVec 32 := 4294967294#32
  let v5319 : BitVec 32 := Scalar.andi v4 c_m2_i32_1591
  let c0_i32_1619 : BitVec 32 := 0#32
  let v5377 : BitVec 32 := Scalar.addi v5319 c0_i32_1619
  let c256_i32_1659 : BitVec 32 := 256#32
  let v5465 : BitVec 32 := Scalar.muli v5377 c256_i32_1659
  v5465
def k0_mult82 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c256_i32 : BitVec 32 := 256#32
  let v2 : BitVec 32 := Scalar.addi v1 c256_i32
  let c1_i32 : BitVec 32 := 1#32
  let v3 : BitVec 32 := Scalar.subi v2 c1_i32
  let c8_i32 : BitVec 32 := 8#32
  let v4 : BitVec 32 := Scalar.shrui v3 c8_i32
  let c_m2_i32_1591 : BitVec 32 := 4294967294#32
  let v5319 : BitVec 32 := Scalar.andi v4 c_m2_i32_1591
  let c0_i32_1619 : BitVec 32 := 0#32
  let v5377 : BitVec 32 := Scalar.addi v5319 c0_i32_1619
  let c256_i32_1675 : BitVec 32 := 256#32
  let v5520 : BitVec 32 := Scalar.muli v5377 c256_i32_1675
  v5520
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Moe.lean ====
abbrev S4x4096x1024 : Shape := ⟨3, ![4, 4096, 1024]⟩
abbrev S16384x16 : Shape := ⟨2, ![16384, 16]⟩
abbrev S4x1x6144 : Shape := ⟨3, ![4, 1, 6144]⟩
abbrev S16x1024x256 : Shape := ⟨3, ![16, 1024, 256]⟩
abbrev S16x256x1024 : Shape := ⟨3, ![16, 256, 1024]⟩
abbrev S_ : Shape := ⟨0, ![]⟩
abbrev S16384x112 : Shape := ⟨2, ![16384, 112]⟩
abbrev S16384x128 : Shape := ⟨2, ![16384, 128]⟩
abbrev S4x4096x128 : Shape := ⟨3, ![4, 4096, 128]⟩
abbrev S1x1024x1024 : Shape := ⟨3, ![1, 1024, 1024]⟩
abbrev S1x1024x128 : Shape := ⟨3, ![1, 1024, 128]⟩
abbrev S1x1x1024 : Shape := ⟨3, ![1, 1, 1024]⟩
abbrev S4x1024x256 : Shape := ⟨3, ![4, 1024, 256]⟩
abbrev S4x256x1024 : Shape := ⟨3, ![4, 256, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 16
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S16384x16, .f32⟩
  | .hbm, ⟨2, _⟩ => ⟨S4x4096x1024, .f32⟩
  | .hbm, ⟨3, _⟩ => ⟨S4x1x6144, .f32⟩
  | .hbm, ⟨4, _⟩ => ⟨S16x1024x256, .f32⟩
  | .hbm, ⟨5, _⟩ => ⟨S16x1024x256, .f32⟩
  | .hbm, ⟨6, _⟩ => ⟨S16x256x1024, .f32⟩
  | .hbm, ⟨7, _⟩ => ⟨S_, .f32⟩
  | .hbm, ⟨8, _⟩ => ⟨S16384x112, .f32⟩
  | .hbm, ⟨9, _⟩ => ⟨S16384x128, .f32⟩
  | .hbm, ⟨10, _⟩ => ⟨S4x4096x128, .f32⟩
  | .hbm, ⟨11, _⟩ => ⟨S4x4096x1024, .bf16⟩
  | .hbm, ⟨12, _⟩ => ⟨S16x1024x256, .bf16⟩
  | .hbm, ⟨13, _⟩ => ⟨S16x1024x256, .bf16⟩
  | .hbm, ⟨14, _⟩ => ⟨S16x256x1024, .bf16⟩
  | .hbm, ⟨15, _⟩ => ⟨S4x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S4x1024x256, .bf16⟩
  | .local _ .vmem, ⟨9, _⟩ => ⟨S4x1024x256, .bf16⟩
  | .local _ .vmem, ⟨10, _⟩ => ⟨S4x1024x256, .bf16⟩
  | .local _ .vmem, ⟨11, _⟩ => ⟨S4x1024x256, .bf16⟩
  | .local _ .vmem, ⟨12, _⟩ => ⟨S4x256x1024, .bf16⟩
  | .local _ .vmem, ⟨13, _⟩ => ⟨S4x256x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32_67 : BitVec 32 := 3#32
  let v112 : BitVec 1 := Scalar.cmpi .eq arg2 c3_i32_67
  let v113 : BitVec 32 := Scalar.extui v112
  let c0_i32_68 : BitVec 32 := 0#32
  let v114 : BitVec 1 := Scalar.cmpi .ne v113 c0_i32_68
  v114

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MoeRefIdeal.lean ====
abbrev S4x4096x1024 : Shape := ⟨3, ![4, 4096, 1024]⟩
abbrev S16384x16 : Shape := ⟨2, ![16384, 16]⟩
abbrev S4x1x6144 : Shape := ⟨3, ![4, 1, 6144]⟩
abbrev S16x1024x256 : Shape := ⟨3, ![16, 1024, 256]⟩
abbrev S16x256x1024 : Shape := ⟨3, ![16, 256, 1024]⟩
abbrev S4x1x1024 : Shape := ⟨3, ![4, 1, 1024]⟩
abbrev S16384x1024 : Shape := ⟨2, ![16384, 1024]⟩
abbrev S16384x16x256 : Shape := ⟨3, ![16384, 16, 256]⟩
abbrev S_ : Shape := ⟨0, ![]⟩
abbrev S16384x16x1 : Shape := ⟨3, ![16384, 16, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x16, .f32⟩
  | .hbm, ⟨2, _⟩ => ⟨S4x4096x1024, .f32⟩
  | .hbm, ⟨3, _⟩ => ⟨S4x1x6144, .f32⟩
  | .hbm, ⟨4, _⟩ => ⟨S16x1024x256, .f32⟩
  | .hbm, ⟨5, _⟩ => ⟨S16x1024x256, .f32⟩
  | .hbm, ⟨6, _⟩ => ⟨S16x256x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S16384x1024, .f32⟩
  | .hbm, ⟨14, _⟩ => ⟨S16384x16x256, .f32⟩
  | .hbm, ⟨15, _⟩ => ⟨S16384x16x256, .f32⟩
  | .hbm, ⟨16, _⟩ => ⟨S16384x16x256, .f32⟩
  | .hbm, ⟨17, _⟩ => ⟨S_, .f32⟩
  | .hbm, ⟨18, _⟩ => ⟨S16384x16x256, .f32⟩
  | .hbm, ⟨19, _⟩ => ⟨S16384x16x256, .f32⟩
  | .hbm, ⟨20, _⟩ => ⟨S_, .f32⟩
  | .hbm, ⟨21, _⟩ => ⟨S16384x16x256, .f32⟩
  | .hbm, ⟨22, _⟩ => ⟨S16384x16x256, .f32⟩
  | .hbm, ⟨23, _⟩ => ⟨S16384x16x256, .f32⟩
  | .hbm, ⟨24, _⟩ => ⟨S16384x16x256, .f32⟩
  | .hbm, ⟨25, _⟩ => ⟨S16384x16x256, .f32⟩
  | .hbm, ⟨26, _⟩ => ⟨S16384x16x1, .f32⟩
  | .hbm, ⟨27, _⟩ => ⟨S16384x16x256, .f32⟩
  | .hbm, ⟨28, _⟩ => ⟨S16384x16x256, .f32⟩
  | .hbm, ⟨29, _⟩ => ⟨S16384x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== MoeSample.lean ====
abbrev S32x64x1024 : Shape := ⟨3, ![32, 64, 1024]⟩
abbrev S2048x16 : Shape := ⟨2, ![2048, 16]⟩
abbrev S32x1x6144 : Shape := ⟨3, ![32, 1, 6144]⟩
abbrev S16x1024x256 : Shape := ⟨3, ![16, 1024, 256]⟩
abbrev S16x256x1024 : Shape := ⟨3, ![16, 256, 1024]⟩
abbrev S_ : Shape := ⟨0, ![]⟩
abbrev S2048x112 : Shape := ⟨2, ![2048, 112]⟩
abbrev S2048x128 : Shape := ⟨2, ![2048, 128]⟩
abbrev S32x64x128 : Shape := ⟨3, ![32, 64, 128]⟩
abbrev S16x64x1024 : Shape := ⟨3, ![16, 64, 1024]⟩
abbrev S16x64x128 : Shape := ⟨3, ![16, 64, 128]⟩
abbrev S16x1x1024 : Shape := ⟨3, ![16, 1, 1024]⟩
abbrev S4x1024x256 : Shape := ⟨3, ![4, 1024, 256]⟩
abbrev S4x256x1024 : Shape := ⟨3, ![4, 256, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 16
  | .vmem => 17
  | .smem => 0
  | _ => 0

abbrev bufTy : (tb : Table) → Fin (tcTables nBuf tb) → BufTy
  | .hbm, ⟨0, _⟩ => ⟨S32x64x1024, .f32⟩
  | .hbm, ⟨1, _⟩ => ⟨S2048x16, .f32⟩
  | .hbm, ⟨2, _⟩ => ⟨S32x64x1024, .f32⟩
  | .hbm, ⟨3, _⟩ => ⟨S32x1x6144, .f32⟩
  | .hbm, ⟨4, _⟩ => ⟨S16x1024x256, .f32⟩
  | .hbm, ⟨5, _⟩ => ⟨S16x1024x256, .f32⟩
  | .hbm, ⟨6, _⟩ => ⟨S16x256x1024, .f32⟩
  | .hbm, ⟨7, _⟩ => ⟨S_, .f32⟩
  | .hbm, ⟨8, _⟩ => ⟨S2048x112, .f32⟩
  | .hbm, ⟨9, _⟩ => ⟨S2048x128, .f32⟩
  | .hbm, ⟨10, _⟩ => ⟨S32x64x128, .f32⟩
  | .hbm, ⟨11, _⟩ => ⟨S32x64x1024, .bf16⟩
  | .hbm, ⟨12, _⟩ => ⟨S16x1024x256, .bf16⟩
  | .hbm, ⟨13, _⟩ => ⟨S16x1024x256, .bf16⟩
  | .hbm, ⟨14, _⟩ => ⟨S16x256x1024, .bf16⟩
  | .hbm, ⟨15, _⟩ => ⟨S32x64x1024, .f32⟩
  | .local _ .vmem, ⟨0, _⟩ => ⟨S16x64x1024, .bf16⟩
  | .local _ .vmem, ⟨1, _⟩ => ⟨S16x64x1024, .bf16⟩
  | .local _ .vmem, ⟨2, _⟩ => ⟨S16x64x128, .f32⟩
  | .local _ .vmem, ⟨3, _⟩ => ⟨S16x64x128, .f32⟩
  | .local _ .vmem, ⟨4, _⟩ => ⟨S16x64x1024, .f32⟩
  | .local _ .vmem, ⟨5, _⟩ => ⟨S16x64x1024, .f32⟩
  | .local _ .vmem, ⟨6, _⟩ => ⟨S16x1x1024, .f32⟩
  | .local _ .vmem, ⟨7, _⟩ => ⟨S16x1x1024, .f32⟩
  | .local _ .vmem, ⟨8, _⟩ => ⟨S4x1024x256, .bf16⟩
  | .local _ .vmem, ⟨9, _⟩ => ⟨S4x1024x256, .bf16⟩
  | .local _ .vmem, ⟨10, _⟩ => ⟨S4x1024x256, .bf16⟩
  | .local _ .vmem, ⟨11, _⟩ => ⟨S4x1024x256, .bf16⟩
  | .local _ .vmem, ⟨12, _⟩ => ⟨S4x256x1024, .bf16⟩
  | .local _ .vmem, ⟨13, _⟩ => ⟨S4x256x1024, .bf16⟩
  | .local _ .vmem, ⟨14, _⟩ => ⟨S16x64x1024, .f32⟩
  | .local _ .vmem, ⟨15, _⟩ => ⟨S16x64x1024, .f32⟩
  | .local _ .vmem, ⟨16, _⟩ => ⟨S1024x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32_67 : BitVec 32 := 3#32
  let v112 : BitVec 1 := Scalar.cmpi .eq arg2 c3_i32_67
  let v113 : BitVec 32 := Scalar.extui v112
  let c0_i32_68 : BitVec 32 := 0#32
  let v114 : BitVec 1 := Scalar.cmpi .ne v113 c0_i32_68
  v114

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S16x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S16x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MoeSampleRefIdeal.lean ====
abbrev S32x64x1024 : Shape := ⟨3, ![32, 64, 1024]⟩
abbrev S2048x16 : Shape := ⟨2, ![2048, 16]⟩
abbrev S32x1x6144 : Shape := ⟨3, ![32, 1, 6144]⟩
abbrev S16x1024x256 : Shape := ⟨3, ![16, 1024, 256]⟩
abbrev S16x256x1024 : Shape := ⟨3, ![16, 256, 1024]⟩
abbrev S32x1x1024 : Shape := ⟨3, ![32, 1, 1024]⟩
abbrev S2048x1024 : Shape := ⟨2, ![2048, 1024]⟩
abbrev S2048x16x256 : Shape := ⟨3, ![2048, 16, 256]⟩
abbrev S_ : Shape := ⟨0, ![]⟩
abbrev S2048x16x1 : Shape := ⟨3, ![2048, 16, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S2048x16, .f32⟩
  | .hbm, ⟨2, _⟩ => ⟨S32x64x1024, .f32⟩
  | .hbm, ⟨3, _⟩ => ⟨S32x1x6144, .f32⟩
  | .hbm, ⟨4, _⟩ => ⟨S16x1024x256, .f32⟩
  | .hbm, ⟨5, _⟩ => ⟨S16x1024x256, .f32⟩
  | .hbm, ⟨6, _⟩ => ⟨S16x256x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S2048x1024, .f32⟩
  | .hbm, ⟨14, _⟩ => ⟨S2048x16x256, .f32⟩
  | .hbm, ⟨15, _⟩ => ⟨S2048x16x256, .f32⟩
  | .hbm, ⟨16, _⟩ => ⟨S2048x16x256, .f32⟩
  | .hbm, ⟨17, _⟩ => ⟨S_, .f32⟩
  | .hbm, ⟨18, _⟩ => ⟨S2048x16x256, .f32⟩
  | .hbm, ⟨19, _⟩ => ⟨S2048x16x256, .f32⟩
  | .hbm, ⟨20, _⟩ => ⟨S_, .f32⟩
  | .hbm, ⟨21, _⟩ => ⟨S2048x16x256, .f32⟩
  | .hbm, ⟨22, _⟩ => ⟨S2048x16x256, .f32⟩
  | .hbm, ⟨23, _⟩ => ⟨S2048x16x256, .f32⟩
  | .hbm, ⟨24, _⟩ => ⟨S2048x16x256, .f32⟩
  | .hbm, ⟨25, _⟩ => ⟨S2048x16x256, .f32⟩
  | .hbm, ⟨26, _⟩ => ⟨S2048x16x1, .f32⟩
  | .hbm, ⟨27, _⟩ => ⟨S2048x16x256, .f32⟩
  | .hbm, ⟨28, _⟩ => ⟨S2048x16x256, .f32⟩
  | .hbm, ⟨29, _⟩ => ⟨S2048x1024, .f32⟩
  | .hbm, ⟨30, _⟩ => ⟨S32x64x1024, .f32⟩
  | .hbm, ⟨31, _⟩ => ⟨S32x64x1024, .f32⟩
  | .hbm, ⟨32, _⟩ => ⟨S32x64x1024, .f32⟩
  | .hbm, ⟨33, _⟩ => ⟨S32x64x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== InProj.lean ====
abbrev S4x4096x1024 : Shape := ⟨3, ![4, 4096, 1024]⟩
abbrev S4x1x6144 : Shape := ⟨3, ![4, 1, 6144]⟩
abbrev S1024 : Shape := ⟨1, ![1024]⟩
abbrev S1024x2376 : Shape := ⟨2, ![1024, 2376]⟩
abbrev S64 : Shape := ⟨1, ![64]⟩
abbrev S128x128 : Shape := ⟨2, ![128, 128]⟩
abbrev S4096 : Shape := ⟨1, ![4096]⟩
abbrev S1024x1352 : Shape := ⟨2, ![1024, 1352]⟩
abbrev S_ : Shape := ⟨0, ![]⟩
abbrev S1024x56 : Shape := ⟨2, ![1024, 56]⟩
abbrev S1024x1024 : Shape := ⟨2, ![1024, 1024]⟩
abbrev S1024x2432 : Shape := ⟨2, ![1024, 2432]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S1x1024 : Shape := ⟨2, ![1, 1024]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S4096x128 : Shape := ⟨2, ![4096, 128]⟩
abbrev S1x4096x128 : Shape := ⟨3, ![1, 4096, 128]⟩
abbrev S6x4096x128 : Shape := ⟨3, ![6, 4096, 128]⟩
abbrev S4x4096x512 : Shape := ⟨3, ![4, 4096, 512]⟩
abbrev S4x4096x128 : Shape := ⟨3, ![4, 4096, 128]⟩
abbrev S1x512x1024 : Shape := ⟨3, ![1, 512, 1024]⟩
abbrev S1x1x1024 : Shape := ⟨3, ![1, 1, 1024]⟩
abbrev S6x512x128 : Shape := ⟨3, ![6, 512, 128]⟩
abbrev S1x512x512 : Shape := ⟨3, ![1, 512, 512]⟩
abbrev S1x512x128 : Shape := ⟨3, ![1, 512, 128]⟩
abbrev S1x512 : Shape := ⟨2, ![1, 512]⟩
abbrev S1x512x1 : Shape := ⟨3, ![1, 512, 1]⟩
abbrev S512x1024 : Shape := ⟨2, ![512, 1024]⟩
abbrev S512x128 : Shape := ⟨2, ![512, 128]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S1024x128 : Shape := ⟨2, ![1024, 128]⟩

abbrev nBuf : Space → Nat
  | .hbm => 82
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S128x128, .bf16⟩
  | .hbm, ⟨7, _⟩ => ⟨S4096, .i32⟩
  | .hbm, ⟨8, _⟩ => ⟨S1024x1352, .f32⟩
  | .hbm, ⟨9, _⟩ => ⟨S_, .f32⟩
  | .hbm, ⟨10, _⟩ => ⟨S1024x56, .f32⟩
  | .hbm, ⟨11, _⟩ => ⟨S1024x1024, .f32⟩
  | .hbm, ⟨12, _⟩ => ⟨S1024x2432, .f32⟩
  | .hbm, ⟨13, _⟩ => ⟨S1024x2432, .bf16⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S1x128, .f32⟩
  | .hbm, ⟨22, _⟩ => ⟨S2x128, .f32⟩
  | .hbm, ⟨23, _⟩ => ⟨S1x1024, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S4096, .f32⟩
  | .hbm, ⟨33, _⟩ => ⟨S4096x1, .f32⟩
  | .hbm, ⟨34, _⟩ => ⟨S1x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S_, .f32⟩
  | .hbm, ⟨41, _⟩ => ⟨S4096x48, .f32⟩
  | .hbm, ⟨42, _⟩ => ⟨S4096x64, .f32⟩
  | .hbm, ⟨43, _⟩ => ⟨S4096x8, .f32⟩
  | .hbm, ⟨44, _⟩ => ⟨S_, .f32⟩
  | .hbm, ⟨45, _⟩ => ⟨S4096x56, .f32⟩
  | .hbm, ⟨46, _⟩ => ⟨S4096x64, .f32⟩
  | .hbm, ⟨47, _⟩ => ⟨S_, .f32⟩
  | .hbm, ⟨48, _⟩ => ⟨S4096x8, .f32⟩
  | .hbm, ⟨49, _⟩ => ⟨S_, .f32⟩
  | .hbm, ⟨50, _⟩ => ⟨S4096x48, .f32⟩
  | .hbm, ⟨51, _⟩ => ⟨S4096x64, .f32⟩
  | .hbm, ⟨52, _⟩ => ⟨S_, .f32⟩
  | .hbm, ⟨53, _⟩ => ⟨S4096x8, .f32⟩
  | .hbm, ⟨54, _⟩ => ⟨S_, .f32⟩
  | .hbm, ⟨55, _⟩ => ⟨S4096x56, .f32⟩
  | .hbm, ⟨56, _⟩ => ⟨S4096x128, .f32⟩
  | .hbm, ⟨57, _⟩ => ⟨S4096x128, .f32⟩
  | .hbm, ⟨58, _⟩ => ⟨S4096x128, .f32⟩
  | .hbm, ⟨59, _⟩ => ⟨S4096x128, .f32⟩
  | .hbm, ⟨60, _⟩ => ⟨S_, .f32⟩
  | .hbm, ⟨61, _⟩ => ⟨S4096x64, .f32⟩
  | .hbm, ⟨62, _⟩ => ⟨S4096x128, .f32⟩
  | .hbm, ⟨63, _⟩ => ⟨S_, .f32⟩
  | .hbm, ⟨64, _⟩ => ⟨S4096x64, .f32⟩
  | .hbm, ⟨65, _⟩ => ⟨S4096x128, .f32⟩
  | .hbm, ⟨66, _⟩ => ⟨S1x4096x128, .f32⟩
  | .hbm, ⟨67, _⟩ => ⟨S1x4096x128, .f32⟩
  | .hbm, ⟨68, _⟩ => ⟨S1x4096x128, .f32⟩
  | .hbm, ⟨69, _⟩ => ⟨S1x4096x128, .f32⟩
  | .hbm, ⟨70, _⟩ => ⟨S1x4096x128, .f32⟩
  | .hbm, ⟨71, _⟩ => ⟨S1x4096x128, .f32⟩
  | .hbm, ⟨72, _⟩ => ⟨S6x4096x128, .f32⟩
  | .hbm, ⟨73, _⟩ => ⟨S4x4096x512, .bf16⟩
  | .hbm, ⟨74, _⟩ => ⟨S4x4096x512, .bf16⟩
  | .hbm, ⟨75, _⟩ => ⟨S4x4096x128, .f32⟩
  | .hbm, ⟨76, _⟩ => ⟨S4x4096x128, .f32⟩
  | .hbm, ⟨77, _⟩ => ⟨S4x4096x128, .bf16⟩
  | .hbm, ⟨78, _⟩ => ⟨S4x4096x128, .bf16⟩
  | .hbm, ⟨79, _⟩ => ⟨S4x4096x128, .f32⟩
  | .hbm, ⟨80, _⟩ => ⟨S4x4096x128, .bf16⟩
  | .hbm, ⟨81, _⟩ => ⟨S4x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2432, .bf16⟩
  | .local _ .vmem, ⟨8, _⟩ => ⟨S2x128, .f32⟩
  | .local _ .vmem, ⟨9, _⟩ => ⟨S6x512x128, .f32⟩
  | .local _ .vmem, ⟨10, _⟩ => ⟨S6x512x128, .f32⟩
  | .local _ .vmem, ⟨11, _⟩ => ⟨S128x128, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .bf16⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x128, .f32⟩
  | .local _ .vmem, ⟨25, _⟩ => ⟨S1x512x128, .f32⟩
  | .local _ .vmem, ⟨26, _⟩ => ⟨S1x512x128, .bf16⟩
  | .local _ .vmem, ⟨27, _⟩ => ⟨S1x512x128, .bf16⟩
  | .local _ .vmem, ⟨28, _⟩ => ⟨S1x512x512, .f32⟩
  | .local _ .vmem, ⟨29, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55_0 : Ref sig .tc := ⟨.hbm, 73, rfl⟩
abbrev main_v55_1 : Ref sig .tc := ⟨.hbm, 74, rfl⟩
abbrev main_v55_2 : Ref sig .tc := ⟨.hbm, 75, rfl⟩
abbrev main_v55_3 : Ref sig .tc := ⟨.hbm, 76, rfl⟩
abbrev main_v55_4 : Ref sig .tc := ⟨.hbm, 77, rfl⟩
abbrev main_v55_5 : Ref sig .tc := ⟨.hbm, 78, rfl⟩
abbrev main_v55_6 : Ref sig .tc := ⟨.hbm, 79, rfl⟩
abbrev main_v55_7 : Ref sig .tc := ⟨.hbm, 80, rfl⟩
abbrev main_v55_8 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S6x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InProjRefIdeal.lean ====
abbrev S4x4096x1024 : Shape := ⟨3, ![4, 4096, 1024]⟩
abbrev S4x1x6144 : Shape := ⟨3, ![4, 1, 6144]⟩
abbrev S1024 : Shape := ⟨1, ![1024]⟩
abbrev S1024x2376 : Shape := ⟨2, ![1024, 2376]⟩
abbrev S64 : Shape := ⟨1, ![64]⟩
abbrev S4096 : Shape := ⟨1, ![4096]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2376 : Shape := ⟨3, ![4, 4096, 2376]⟩
abbrev S4x4096x512 : Shape := ⟨3, ![4, 4096, 512]⟩
abbrev S4x4096x128 : Shape := ⟨3, ![4, 4096, 128]⟩
abbrev S4x4096x64 : Shape := ⟨3, ![4, 4096, 64]⟩
abbrev S4x4096x8 : Shape := ⟨3, ![4, 4096, 8]⟩
abbrev S4x4096x1x64 : Shape := ⟨4, ![4, 4096, 1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x1x8 : Shape := ⟨4, ![4, 4096, 1, 8]⟩
abbrev S1x4096x1x8 : Shape := ⟨4, ![1, 4096, 1, 8]⟩
abbrev S4x4096x1x48 : Shape := ⟨4, ![4, 4096, 1, 48]⟩
abbrev S4x4096x56 : Shape := ⟨3, ![4, 4096, 56]⟩

abbrev nBuf : Space → Nat
  | .hbm => 99
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S4096, .i32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x2376, .f32⟩
  | .hbm, ⟨37, _⟩ => ⟨S4x4096x512, .f32⟩
  | .hbm, ⟨38, _⟩ => ⟨S4x4096x128, .f32⟩
  | .hbm, ⟨39, _⟩ => ⟨S4x4096x128, .f32⟩
  | .hbm, ⟨40, _⟩ => ⟨S4x4096x512, .f32⟩
  | .hbm, ⟨41, _⟩ => ⟨S4x4096x64, .f32⟩
  | .hbm, ⟨42, _⟩ => ⟨S4x4096x8, .f32⟩
  | .hbm, ⟨43, _⟩ => ⟨S4x4096x1024, .f32⟩
  | .hbm, ⟨44, _⟩ => ⟨S4x4096x1x64, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S4096, .f32⟩
  | .hbm, ⟨54, _⟩ => ⟨S4096x1, .f32⟩
  | .hbm, ⟨55, _⟩ => ⟨S1x8, .f32⟩
  | .hbm, ⟨56, _⟩ => ⟨S4096x8, .f32⟩
  | .hbm, ⟨57, _⟩ => ⟨S4096x8, .f32⟩
  | .hbm, ⟨58, _⟩ => ⟨S4096x8, .f32⟩
  | .hbm, ⟨59, _⟩ => ⟨S4096x8, .f32⟩
  | .hbm, ⟨60, _⟩ => ⟨S4096x1x8, .f32⟩
  | .hbm, ⟨61, _⟩ => ⟨S4096x8, .f32⟩
  | .hbm, ⟨62, _⟩ => ⟨S4096x1x8, .f32⟩
  | .hbm, ⟨63, _⟩ => ⟨S4x4096x1x8, .f32⟩
  | .hbm, ⟨64, _⟩ => ⟨S4x4096x1x8, .f32⟩
  | .hbm, ⟨65, _⟩ => ⟨S1x4096x1x8, .f32⟩
  | .hbm, ⟨66, _⟩ => ⟨S4x4096x1x8, .f32⟩
  | .hbm, ⟨67, _⟩ => ⟨S4x4096x1x8, .f32⟩
  | .hbm, ⟨68, _⟩ => ⟨S1x4096x1x8, .f32⟩
  | .hbm, ⟨69, _⟩ => ⟨S4x4096x1x8, .f32⟩
  | .hbm, ⟨70, _⟩ => ⟨S4x4096x1x8, .f32⟩
  | .hbm, ⟨71, _⟩ => ⟨S4x4096x1x8, .f32⟩
  | .hbm, ⟨72, _⟩ => ⟨S1x4096x1x8, .f32⟩
  | .hbm, ⟨73, _⟩ => ⟨S4x4096x1x8, .f32⟩
  | .hbm, ⟨74, _⟩ => ⟨S4x4096x1x8, .f32⟩
  | .hbm, ⟨75, _⟩ => ⟨S1x4096x1x8, .f32⟩
  | .hbm, ⟨76, _⟩ => ⟨S4x4096x1x8, .f32⟩
  | .hbm, ⟨77, _⟩ => ⟨S4x4096x1x8, .f32⟩
  | .hbm, ⟨78, _⟩ => ⟨S4x4096x1x8, .f32⟩
  | .hbm, ⟨79, _⟩ => ⟨S4x4096x1x48, .f32⟩
  | .hbm, ⟨80, _⟩ => ⟨S4x4096x1x64, .f32⟩
  | .hbm, ⟨81, _⟩ => ⟨S4x4096x64, .f32⟩
  | .hbm, ⟨82, _⟩ => ⟨S_, .f32⟩
  | .hbm, ⟨83, _⟩ => ⟨S4x4096x8, .f32⟩
  | .hbm, ⟨84, _⟩ => ⟨S4x4096x8, .f32⟩
  | .hbm, ⟨85, _⟩ => ⟨S4x4096x512, .f32⟩
  | .hbm, ⟨86, _⟩ => ⟨S4x4096x512, .f32⟩
  | .hbm, ⟨87, _⟩ => ⟨S_, .f32⟩
  | .hbm, ⟨88, _⟩ => ⟨S4x4096x56, .f32⟩
  | .hbm, ⟨89, _⟩ => ⟨S4x4096x128, .f32⟩
  | .hbm, ⟨90, _⟩ => ⟨S4x4096x512, .f32⟩
  | .hbm, ⟨91, _⟩ => ⟨S4x4096x512, .f32⟩
  | .hbm, ⟨92, _⟩ => ⟨S_, .f32⟩
  | .hbm, ⟨93, _⟩ => ⟨S4x4096x512, .f32⟩
  | .hbm, ⟨94, _⟩ => ⟨S4x4096x512, .f32⟩
  | .hbm, ⟨95, _⟩ => ⟨S_, .f32⟩
  | .hbm, ⟨96, _⟩ => ⟨S4x4096x512, .f32⟩
  | .hbm, ⟨97, _⟩ => ⟨S4x4096x512, .f32⟩
  | .hbm, ⟨98, _⟩ => ⟨S4x4096x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_5 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_6 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_7 : Ref sig .tc := ⟨.hbm, 92, rfl⟩
abbrev main_v78 : Ref sig .tc := ⟨.hbm, 93, rfl⟩
abbrev main_v79 : Ref sig .tc := ⟨.hbm, 94, rfl⟩
abbrev main_cst_8 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]
-- ==== InProjSample.lean ====
abbrev S32x64x1024 : Shape := ⟨3, ![32, 64, 1024]⟩
abbrev S32x1x6144 : Shape := ⟨3, ![32, 1, 6144]⟩
abbrev S1024 : Shape := ⟨1, ![1024]⟩
abbrev S1024x2376 : Shape := ⟨2, ![1024, 2376]⟩
abbrev S64 : Shape := ⟨1, ![64]⟩
abbrev S128x128 : Shape := ⟨2, ![128, 128]⟩
abbrev S_ : Shape := ⟨0, ![]⟩
abbrev S1024x1352 : Shape := ⟨2, ![1024, 1352]⟩
abbrev S1024x56 : Shape := ⟨2, ![1024, 56]⟩
abbrev S1024x1024 : Shape := ⟨2, ![1024, 1024]⟩
abbrev S1024x2432 : Shape := ⟨2, ![1024, 2432]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S1x1024 : Shape := ⟨2, ![1, 1024]⟩
abbrev S8 : Shape := ⟨1, ![8]⟩
abbrev S64x1 : Shape := ⟨2, ![64, 1]⟩
abbrev S1x8 : Shape := ⟨2, ![1, 8]⟩
abbrev S64x8 : Shape := ⟨2, ![64, 8]⟩
abbrev S64x48 : Shape := ⟨2, ![64, 48]⟩
abbrev S64x64 : Shape := ⟨2, ![64, 64]⟩
abbrev S64x56 : Shape := ⟨2, ![64, 56]⟩
abbrev S64x128 : Shape := ⟨2, ![64, 128]⟩
abbrev S1x64x128 : Shape := ⟨3, ![1, 64, 128]⟩
abbrev S6x64x128 : Shape := ⟨3, ![6, 64, 128]⟩
abbrev S32x64x512 : Shape := ⟨3, ![32, 64, 512]⟩
abbrev S32x64x128 : Shape := ⟨3, ![32, 64, 128]⟩
abbrev S32x256x128 : Shape := ⟨3, ![32, 256, 128]⟩
abbrev S8x64x1024 : Shape := ⟨3, ![8, 64, 1024]⟩
abbrev S8x1x1024 : Shape := ⟨3, ![8, 1, 1024]⟩
abbrev S8x64x512 : Shape := ⟨3, ![8, 64, 512]⟩
abbrev S8x64x128 : Shape := ⟨3, ![8, 64, 128]⟩
abbrev S8x256x128 : Shape := ⟨3, ![8, 256, 128]⟩
abbrev S8x64 : Shape := ⟨2, ![8, 64]⟩
abbrev S8x64x1 : Shape := ⟨3, ![8, 64, 1]⟩
abbrev S1x1x1024 : Shape := ⟨3, ![1, 1, 1024]⟩
abbrev S512x1024 : Shape := ⟨2, ![512, 1024]⟩
abbrev S512x128 : Shape := ⟨2, ![512, 128]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S8x192x128 : Shape := ⟨3, ![8, 192, 128]⟩
abbrev S1024x128 : Shape := ⟨2, ![1024, 128]⟩

abbrev nBuf : Space → Nat
  | .hbm => 85
  | .vmem => 29
  | .smem => 0
  | _ => 0

abbrev bufTy : (tb : Table) → Fin (tcTables nBuf tb) → BufTy
  | .hbm, ⟨0, _⟩ => ⟨S32x64x1024, .f32⟩
  | .hbm, ⟨1, _⟩ => ⟨S32x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S128x128, .bf16⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S1024x1352, .f32⟩
  | .hbm, ⟨12, _⟩ => ⟨S_, .f32⟩
  | .hbm, ⟨13, _⟩ => ⟨S1024x56, .f32⟩
  | .hbm, ⟨14, _⟩ => ⟨S1024x1024, .f32⟩
  | .hbm, ⟨15, _⟩ => ⟨S1024x2432, .f32⟩
  | .hbm, ⟨16, _⟩ => ⟨S1024x2432, .bf16⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x64, .f32⟩
  | .hbm, ⟨21, _⟩ => ⟨S2x64, .f32⟩
  | .hbm, ⟨22, _⟩ => ⟨S128, .f32⟩
  | .hbm, ⟨23, _⟩ => ⟨S1x128, .f32⟩
  | .hbm, ⟨24, _⟩ => ⟨S1x128, .f32⟩
  | .hbm, ⟨25, _⟩ => ⟨S2x128, .f32⟩
  | .hbm, ⟨26, _⟩ => ⟨S1x1024, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S64, .f32⟩
  | .hbm, ⟨36, _⟩ => ⟨S64x1, .f32⟩
  | .hbm, ⟨37, _⟩ => ⟨S1x8, .f32⟩
  | .hbm, ⟨38, _⟩ => ⟨S64x8, .f32⟩
  | .hbm, ⟨39, _⟩ => ⟨S64x8, .f32⟩
  | .hbm, ⟨40, _⟩ => ⟨S64x8, .f32⟩
  | .hbm, ⟨41, _⟩ => ⟨S64x8, .f32⟩
  | .hbm, ⟨42, _⟩ => ⟨S64x8, .f32⟩
  | .hbm, ⟨43, _⟩ => ⟨S_, .f32⟩
  | .hbm, ⟨44, _⟩ => ⟨S64x48, .f32⟩
  | .hbm, ⟨45, _⟩ => ⟨S64x64, .f32⟩
  | .hbm, ⟨46, _⟩ => ⟨S64x8, .f32⟩
  | .hbm, ⟨47, _⟩ => ⟨S_, .f32⟩
  | .hbm, ⟨48, _⟩ => ⟨S64x56, .f32⟩
  | .hbm, ⟨49, _⟩ => ⟨S64x64, .f32⟩
  | .hbm, ⟨50, _⟩ => ⟨S_, .f32⟩
  | .hbm, ⟨51, _⟩ => ⟨S64x8, .f32⟩
  | .hbm, ⟨52, _⟩ => ⟨S_, .f32⟩
  | .hbm, ⟨53, _⟩ => ⟨S64x48, .f32⟩
  | .hbm, ⟨54, _⟩ => ⟨S64x64, .f32⟩
  | .hbm, ⟨55, _⟩ => ⟨S_, .f32⟩
  | .hbm, ⟨56, _⟩ => ⟨S64x8, .f32⟩
  | .hbm, ⟨57, _⟩ => ⟨S_, .f32⟩
  | .hbm, ⟨58, _⟩ => ⟨S64x56, .f32⟩
  | .hbm, ⟨59, _⟩ => ⟨S64x128, .f32⟩
  | .hbm, ⟨60, _⟩ => ⟨S64x128, .f32⟩
  | .hbm, ⟨61, _⟩ => ⟨S64x128, .f32⟩
  | .hbm, ⟨62, _⟩ => ⟨S64x128, .f32⟩
  | .hbm, ⟨63, _⟩ => ⟨S_, .f32⟩
  | .hbm, ⟨64, _⟩ => ⟨S64x64, .f32⟩
  | .hbm, ⟨65, _⟩ => ⟨S64x128, .f32⟩
  | .hbm, ⟨66, _⟩ => ⟨S_, .f32⟩
  | .hbm, ⟨67, _⟩ => ⟨S64x64, .f32⟩
  | .hbm, ⟨68, _⟩ => ⟨S64x128, .f32⟩
  | .hbm, ⟨69, _⟩ => ⟨S1x64x128, .f32⟩
  | .hbm, ⟨70, _⟩ => ⟨S1x64x128, .f32⟩
  | .hbm, ⟨71, _⟩ => ⟨S1x64x128, .f32⟩
  | .hbm, ⟨72, _⟩ => ⟨S1x64x128, .f32⟩
  | .hbm, ⟨73, _⟩ => ⟨S1x64x128, .f32⟩
  | .hbm, ⟨74, _⟩ => ⟨S1x64x128, .f32⟩
  | .hbm, ⟨75, _⟩ => ⟨S6x64x128, .f32⟩
  | .hbm, ⟨76, _⟩ => ⟨S32x64x512, .bf16⟩
  | .hbm, ⟨77, _⟩ => ⟨S32x64x512, .bf16⟩
  | .hbm, ⟨78, _⟩ => ⟨S32x64x128, .f32⟩
  | .hbm, ⟨79, _⟩ => ⟨S32x64x128, .f32⟩
  | .hbm, ⟨80, _⟩ => ⟨S32x256x128, .bf16⟩
  | .hbm, ⟨81, _⟩ => ⟨S32x256x128, .bf16⟩
  | .hbm, ⟨82, _⟩ => ⟨S32x64x128, .f32⟩
  | .hbm, ⟨83, _⟩ => ⟨S32x256x128, .bf16⟩
  | .hbm, ⟨84, _⟩ => ⟨S32x64x512, .f32⟩
  | .local _ .vmem, ⟨0, _⟩ => ⟨S8x64x1024, .f32⟩
  | .local _ .vmem, ⟨1, _⟩ => ⟨S8x64x1024, .f32⟩
  | .local _ .vmem, ⟨2, _⟩ => ⟨S8x1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S1x1024, .f32⟩
  | .local _ .vmem, ⟨7, _⟩ => ⟨S1024x2432, .bf16⟩
  | .local _ .vmem, ⟨8, _⟩ => ⟨S2x128, .f32⟩
  | .local _ .vmem, ⟨9, _⟩ => ⟨S6x64x128, .f32⟩
  | .local _ .vmem, ⟨10, _⟩ => ⟨S128x128, .bf16⟩
  | .local _ .vmem, ⟨11, _⟩ => ⟨S8x64x512, .bf16⟩
  | .local _ .vmem, ⟨12, _⟩ => ⟨S8x64x512, .bf16⟩
  | .local _ .vmem, ⟨13, _⟩ => ⟨S8x64x512, .bf16⟩
  | .local _ .vmem, ⟨14, _⟩ => ⟨S8x64x512, .bf16⟩
  | .local _ .vmem, ⟨15, _⟩ => ⟨S8x64x128, .f32⟩
  | .local _ .vmem, ⟨16, _⟩ => ⟨S8x64x128, .f32⟩
  | .local _ .vmem, ⟨17, _⟩ => ⟨S8x64x128, .f32⟩
  | .local _ .vmem, ⟨18, _⟩ => ⟨S8x64x128, .f32⟩
  | .local _ .vmem, ⟨19, _⟩ => ⟨S8x256x128, .bf16⟩
  | .local _ .vmem, ⟨20, _⟩ => ⟨S8x256x128, .bf16⟩
  | .local _ .vmem, ⟨21, _⟩ => ⟨S8x256x128, .bf16⟩
  | .local _ .vmem, ⟨22, _⟩ => ⟨S8x256x128, .bf16⟩
  | .local _ .vmem, ⟨23, _⟩ => ⟨S8x64x128, .f32⟩
  | .local _ .vmem, ⟨24, _⟩ => ⟨S8x64x128, .f32⟩
  | .local _ .vmem, ⟨25, _⟩ => ⟨S8x256x128, .bf16⟩
  | .local _ .vmem, ⟨26, _⟩ => ⟨S8x256x128, .bf16⟩
  | .local _ .vmem, ⟨27, _⟩ => ⟨S8x64x512, .f32⟩
  | .local _ .vmem, ⟨28, _⟩ => ⟨S8x64x512, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_v57_3 : Ref sig .tc := ⟨.hbm, 79, rfl⟩
abbrev main_v57_4 : Ref sig .tc := ⟨.hbm, 80, rfl⟩
abbrev main_v57_5 : Ref sig .tc := ⟨.hbm, 81, rfl⟩
abbrev main_v57_6 : Ref sig .tc := ⟨.hbm, 82, rfl⟩
abbrev main_v57_7 : Ref sig .tc := ⟨.hbm, 83, rfl⟩
abbrev main_v57_8 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S6x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InProjSampleRefIdeal.lean ====
abbrev S32x64x1024 : Shape := ⟨3, ![32, 64, 1024]⟩
abbrev S32x1x6144 : Shape := ⟨3, ![32, 1, 6144]⟩
abbrev S1024 : Shape := ⟨1, ![1024]⟩
abbrev S1024x2376 : Shape := ⟨2, ![1024, 2376]⟩
abbrev S64 : Shape := ⟨1, ![64]⟩
abbrev S_ : Shape := ⟨0, ![]⟩
abbrev S32x1x1024 : Shape := ⟨3, ![32, 1, 1024]⟩
abbrev S32x64 : Shape := ⟨2, ![32, 64]⟩
abbrev S32x64x1 : Shape := ⟨3, ![32, 64, 1]⟩
abbrev S1x1x1024 : Shape := ⟨3, ![1, 1, 1024]⟩
abbrev S32x64x2376 : Shape := ⟨3, ![32, 64, 2376]⟩
abbrev S32x64x512 : Shape := ⟨3, ![32, 64, 512]⟩
abbrev S32x64x128 : Shape := ⟨3, ![32, 64, 128]⟩
abbrev S32x64x64 : Shape := ⟨3, ![32, 64, 64]⟩
abbrev S32x64x8 : Shape := ⟨3, ![32, 64, 8]⟩
abbrev S32x64x1x64 : Shape := ⟨4, ![32, 64, 1, 64]⟩
abbrev S8 : Shape := ⟨1, ![8]⟩
abbrev S64x1 : Shape := ⟨2, ![64, 1]⟩
abbrev S1x8 : Shape := ⟨2, ![1, 8]⟩
abbrev S64x8 : Shape := ⟨2, ![64, 8]⟩
abbrev S64x1x8 : Shape := ⟨3, ![64, 1, 8]⟩
abbrev S32x64x1x8 : Shape := ⟨4, ![32, 64, 1, 8]⟩
abbrev S1x64x1x8 : Shape := ⟨4, ![1, 64, 1, 8]⟩
abbrev S32x64x1x48 : Shape := ⟨4, ![32, 64, 1, 48]⟩
abbrev S32x64x56 : Shape := ⟨3, ![32, 64, 56]⟩

abbrev nBuf : Space → Nat
  | .hbm => 102
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x64x1024, .f32⟩
  | .hbm, ⟨17, _⟩ => ⟨S_, .f32⟩
  | .hbm, ⟨18, _⟩ => ⟨S32x64, .f32⟩
  | .hbm, ⟨19, _⟩ => ⟨S32x64x1, .f32⟩
  | .hbm, ⟨20, _⟩ => ⟨S_, .f32⟩
  | .hbm, ⟨21, _⟩ => ⟨S32x64x1, .f32⟩
  | .hbm, ⟨22, _⟩ => ⟨S32x64x1, .f32⟩
  | .hbm, ⟨23, _⟩ => ⟨S_, .f32⟩
  | .hbm, ⟨24, _⟩ => ⟨S32x64x1, .f32⟩
  | .hbm, ⟨25, _⟩ => ⟨S32x64x1, .f32⟩
  | .hbm, ⟨26, _⟩ => ⟨S32x64x1, .f32⟩
  | .hbm, ⟨27, _⟩ => ⟨S32x64x1024, .f32⟩
  | .hbm, ⟨28, _⟩ => ⟨S32x64x1024, .f32⟩
  | .hbm, ⟨29, _⟩ => ⟨S1x1x1024, .f32⟩
  | .hbm, ⟨30, _⟩ => ⟨S32x64x1024, .f32⟩
  | .hbm, ⟨31, _⟩ => ⟨S32x64x1024, .f32⟩
  | .hbm, ⟨32, _⟩ => ⟨S_, .f32⟩
  | .hbm, ⟨33, _⟩ => ⟨S32x1x1024, .f32⟩
  | .hbm, ⟨34, _⟩ => ⟨S32x1x1024, .f32⟩
  | .hbm, ⟨35, _⟩ => ⟨S32x64x1024, .f32⟩
  | .hbm, ⟨36, _⟩ => ⟨S32x64x1024, .f32⟩
  | .hbm, ⟨37, _⟩ => ⟨S32x64x1024, .f32⟩
  | .hbm, ⟨38, _⟩ => ⟨S32x64x1024, .f32⟩
  | .hbm, ⟨39, _⟩ => ⟨S32x64x2376, .f32⟩
  | .hbm, ⟨40, _⟩ => ⟨S32x64x512, .f32⟩
  | .hbm, ⟨41, _⟩ => ⟨S32x64x128, .f32⟩
  | .hbm, ⟨42, _⟩ => ⟨S32x64x128, .f32⟩
  | .hbm, ⟨43, _⟩ => ⟨S32x64x512, .f32⟩
  | .hbm, ⟨44, _⟩ => ⟨S32x64x64, .f32⟩
  | .hbm, ⟨45, _⟩ => ⟨S32x64x8, .f32⟩
  | .hbm, ⟨46, _⟩ => ⟨S32x64x1024, .f32⟩
  | .hbm, ⟨47, _⟩ => ⟨S32x64x1x64, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S64, .f32⟩
  | .hbm, ⟨57, _⟩ => ⟨S64x1, .f32⟩
  | .hbm, ⟨58, _⟩ => ⟨S1x8, .f32⟩
  | .hbm, ⟨59, _⟩ => ⟨S64x8, .f32⟩
  | .hbm, ⟨60, _⟩ => ⟨S64x8, .f32⟩
  | .hbm, ⟨61, _⟩ => ⟨S64x8, .f32⟩
  | .hbm, ⟨62, _⟩ => ⟨S64x8, .f32⟩
  | .hbm, ⟨63, _⟩ => ⟨S64x1x8, .f32⟩
  | .hbm, ⟨64, _⟩ => ⟨S64x8, .f32⟩
  | .hbm, ⟨65, _⟩ => ⟨S64x1x8, .f32⟩
  | .hbm, ⟨66, _⟩ => ⟨S32x64x1x8, .f32⟩
  | .hbm, ⟨67, _⟩ => ⟨S32x64x1x8, .f32⟩
  | .hbm, ⟨68, _⟩ => ⟨S1x64x1x8, .f32⟩
  | .hbm, ⟨69, _⟩ => ⟨S32x64x1x8, .f32⟩
  | .hbm, ⟨70, _⟩ => ⟨S32x64x1x8, .f32⟩
  | .hbm, ⟨71, _⟩ => ⟨S1x64x1x8, .f32⟩
  | .hbm, ⟨72, _⟩ => ⟨S32x64x1x8, .f32⟩
  | .hbm, ⟨73, _⟩ => ⟨S32x64x1x8, .f32⟩
  | .hbm, ⟨74, _⟩ => ⟨S32x64x1x8, .f32⟩
  | .hbm, ⟨75, _⟩ => ⟨S1x64x1x8, .f32⟩
  | .hbm, ⟨76, _⟩ => ⟨S32x64x1x8, .f32⟩
  | .hbm, ⟨77, _⟩ => ⟨S32x64x1x8, .f32⟩
  | .hbm, ⟨78, _⟩ => ⟨S1x64x1x8, .f32⟩
  | .hbm, ⟨79, _⟩ => ⟨S32x64x1x8, .f32⟩
  | .hbm, ⟨80, _⟩ => ⟨S32x64x1x8, .f32⟩
  | .hbm, ⟨81, _⟩ => ⟨S32x64x1x8, .f32⟩
  | .hbm, ⟨82, _⟩ => ⟨S32x64x1x48, .f32⟩
  | .hbm, ⟨83, _⟩ => ⟨S32x64x1x64, .f32⟩
  | .hbm, ⟨84, _⟩ => ⟨S32x64x64, .f32⟩
  | .hbm, ⟨85, _⟩ => ⟨S_, .f32⟩
  | .hbm, ⟨86, _⟩ => ⟨S32x64x8, .f32⟩
  | .hbm, ⟨87, _⟩ => ⟨S32x64x8, .f32⟩
  | .hbm, ⟨88, _⟩ => ⟨S32x64x512, .f32⟩
  | .hbm, ⟨89, _⟩ => ⟨S32x64x512, .f32⟩
  | .hbm, ⟨90, _⟩ => ⟨S_, .f32⟩
  | .hbm, ⟨91, _⟩ => ⟨S32x64x56, .f32⟩
  | .hbm, ⟨92, _⟩ => ⟨S32x64x128, .f32⟩
  | .hbm, ⟨93, _⟩ => ⟨S32x64x512, .f32⟩
  | .hbm, ⟨94, _⟩ => ⟨S32x64x512, .f32⟩
  | .hbm, ⟨95, _⟩ => ⟨S_, .f32⟩
  | .hbm, ⟨96, _⟩ => ⟨S32x64x512, .f32⟩
  | .hbm, ⟨97, _⟩ => ⟨S32x64x512, .f32⟩
  | .hbm, ⟨98, _⟩ => ⟨S_, .f32⟩
  | .hbm, ⟨99, _⟩ => ⟨S32x64x512, .f32⟩
  | .hbm, ⟨100, _⟩ => ⟨S32x64x512, .f32⟩
  | .hbm, ⟨101, _⟩ => ⟨S32x64x512, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_5 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_6 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_7 : Ref sig .tc := ⟨.hbm, 95, rfl⟩
abbrev main_v80 : Ref sig .tc := ⟨.hbm, 96, rfl⟩
abbrev main_v81 : Ref sig .tc := ⟨.hbm, 97, rfl⟩
abbrev main_cst_8 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩

abbrev nD : Nat := 1
abbrev τ : Topo := Topo.v7x

variable {F : FTy → Type} [FloatOps F]
-- ==== InKey.lean ====
abbrev S4x4096x1024 : Shape := ⟨3, ![4, 4096, 1024]⟩
abbrev S4x1x6144 : Shape := ⟨3, ![4, 1, 6144]⟩
abbrev S1024 : Shape := ⟨1, ![1024]⟩
abbrev S1024x2376 : Shape := ⟨2, ![1024, 2376]⟩
abbrev S64 : Shape := ⟨1, ![64]⟩
abbrev S128x128 : Shape := ⟨2, ![128, 128]⟩
abbrev S4096 : Shape := ⟨1, ![4096]⟩
abbrev S1024x1352 : Shape := ⟨2, ![1024, 1352]⟩
abbrev S_ : Shape := ⟨0, ![]⟩
abbrev S1024x56 : Shape := ⟨2, ![1024, 56]⟩
abbrev S1024x1024 : Shape := ⟨2, ![1024, 1024]⟩
abbrev S1024x2432 : Shape := ⟨2, ![1024, 2432]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S1x1024 : Shape := ⟨2, ![1, 1024]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S4096x128 : Shape := ⟨2, ![4096, 128]⟩
abbrev S1x4096x128 : Shape := ⟨3, ![1, 4096, 128]⟩
abbrev S6x4096x128 : Shape := ⟨3, ![6, 4096, 128]⟩
abbrev S4x4096x512 : Shape := ⟨3, ![4, 4096, 512]⟩
abbrev S4x4096x128 : Shape := ⟨3, ![4, 4096, 128]⟩
abbrev S1x512x1024 : Shape := ⟨3, ![1, 512, 1024]⟩
abbrev S1x1x1024 : Shape := ⟨3, ![1, 1, 1024]⟩
abbrev S6x512x128 : Shape := ⟨3, ![6, 512, 128]⟩
abbrev S1x512x512 : Shape := ⟨3, ![1, 512, 512]⟩
abbrev S1x512x128 : Shape := ⟨3, ![1, 512, 128]⟩
abbrev S1x512 : Shape := ⟨2, ![1, 512]⟩
abbrev S1x512x1 : Shape := ⟨3, ![1, 512, 1]⟩
abbrev S512x1024 : Shape := ⟨2, ![512, 1024]⟩
abbrev S512x128 : Shape := ⟨2, ![512, 128]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S1024x128 : Shape := ⟨2, ![1024, 128]⟩

abbrev nBuf : Space → Nat
  | .hbm => 82
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S128x128, .bf16⟩
  | .hbm, ⟨7, _⟩ => ⟨S4096, .i32⟩
  | .hbm, ⟨8, _⟩ => ⟨S1024x1352, .f32⟩
  | .hbm, ⟨9, _⟩ => ⟨S_, .f32⟩
  | .hbm, ⟨10, _⟩ => ⟨S1024x56, .f32⟩
  | .hbm, ⟨11, _⟩ => ⟨S1024x1024, .f32⟩
  | .hbm, ⟨12, _⟩ => ⟨S1024x2432, .f32⟩
  | .hbm, ⟨13, _⟩ => ⟨S1024x2432, .bf16⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S1x128, .f32⟩
  | .hbm, ⟨22, _⟩ => ⟨S2x128, .f32⟩
  | .hbm, ⟨23, _⟩ => ⟨S1x1024, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S4096, .f32⟩
  | .hbm, ⟨33, _⟩ => ⟨S4096x1, .f32⟩
  | .hbm, ⟨34, _⟩ => ⟨S1x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S_, .f32⟩
  | .hbm, ⟨41, _⟩ => ⟨S4096x48, .f32⟩
  | .hbm, ⟨42, _⟩ => ⟨S4096x64, .f32⟩
  | .hbm, ⟨43, _⟩ => ⟨S4096x8, .f32⟩
  | .hbm, ⟨44, _⟩ => ⟨S_, .f32⟩
  | .hbm, ⟨45, _⟩ => ⟨S4096x56, .f32⟩
  | .hbm, ⟨46, _⟩ => ⟨S4096x64, .f32⟩
  | .hbm, ⟨47, _⟩ => ⟨S_, .f32⟩
  | .hbm, ⟨48, _⟩ => ⟨S4096x8, .f32⟩
  | .hbm, ⟨49, _⟩ => ⟨S_, .f32⟩
  | .hbm, ⟨50, _⟩ => ⟨S4096x48, .f32⟩
  | .hbm, ⟨51, _⟩ => ⟨S4096x64, .f32⟩
  | .hbm, ⟨52, _⟩ => ⟨S_, .f32⟩
  | .hbm, ⟨53, _⟩ => ⟨S4096x8, .f32⟩
  | .hbm, ⟨54, _⟩ => ⟨S_, .f32⟩
  | .hbm, ⟨55, _⟩ => ⟨S4096x56, .f32⟩
  | .hbm, ⟨56, _⟩ => ⟨S4096x128, .f32⟩
  | .hbm, ⟨57, _⟩ => ⟨S4096x128, .f32⟩
  | .hbm, ⟨58, _⟩ => ⟨S4096x128, .f32⟩
  | .hbm, ⟨59, _⟩ => ⟨S4096x128, .f32⟩
  | .hbm, ⟨60, _⟩ => ⟨S_, .f32⟩
  | .hbm, ⟨61, _⟩ => ⟨S4096x64, .f32⟩
  | .hbm, ⟨62, _⟩ => ⟨S4096x128, .f32⟩
  | .hbm, ⟨63, _⟩ => ⟨S_, .f32⟩
  | .hbm, ⟨64, _⟩ => ⟨S4096x64, .f32⟩
  | .hbm, ⟨65, _⟩ => ⟨S4096x128, .f32⟩
  | .hbm, ⟨66, _⟩ => ⟨S1x4096x128, .f32⟩
  | .hbm, ⟨67, _⟩ => ⟨S1x4096x128, .f32⟩
  | .hbm, ⟨68, _⟩ => ⟨S1x4096x128, .f32⟩
  | .hbm, ⟨69, _⟩ => ⟨S1x4096x128, .f32⟩
  | .hbm, ⟨70, _⟩ => ⟨S1x4096x128, .f32⟩
  | .hbm, ⟨71, _⟩ => ⟨S1x4096x128, .f32⟩
  | .hbm, ⟨72, _⟩ => ⟨S6x4096x128, .f32⟩
  | .hbm, ⟨73, _⟩ => ⟨S4x4096x512, .bf16⟩
  | .hbm, ⟨74, _⟩ => ⟨S4x4096x512, .bf16⟩
  | .hbm, ⟨75, _⟩ => ⟨S4x4096x128, .f32⟩
  | .hbm, ⟨76, _⟩ => ⟨S4x4096x128, .f32⟩
  | .hbm, ⟨77, _⟩ => ⟨S4x4096x128, .bf16⟩
  | .hbm, ⟨78, _⟩ => ⟨S4x4096x128, .bf16⟩
  | .hbm, ⟨79, _⟩ => ⟨S4x4096x128, .f32⟩
  | .hbm, ⟨80, _⟩ => ⟨S4x4096x128, .bf16⟩
  | .hbm, ⟨81, _⟩ => ⟨S4x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2432, .bf16⟩
  | .local _ .vmem, ⟨8, _⟩ => ⟨S2x128, .f32⟩
  | .local _ .vmem, ⟨9, _⟩ => ⟨S6x512x128, .f32⟩
  | .local _ .vmem, ⟨10, _⟩ => ⟨S6x512x128, .f32⟩
  | .local _ .vmem, ⟨11, _⟩ => ⟨S128x128, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .bf16⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x128, .f32⟩
  | .local _ .vmem, ⟨25, _⟩ => ⟨S1x512x128, .f32⟩
  | .local _ .vmem, ⟨26, _⟩ => ⟨S1x512x128, .bf16⟩
  | .local _ .vmem, ⟨27, _⟩ => ⟨S1x512x128, .bf16⟩
  | .local _ .vmem, ⟨28, _⟩ => ⟨S1x512x512, .f32⟩
  | .local _ .vmem, ⟨29, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55_0 : Ref sig .tc := ⟨.hbm, 73, rfl⟩
abbrev main_v55_1 : Ref sig .tc := ⟨.hbm, 74, rfl⟩
abbrev main_v55_2 : Ref sig .tc := ⟨.hbm, 75, rfl⟩
abbrev main_v55_3 : Ref sig .tc := ⟨.hbm, 76, rfl⟩
abbrev main_v55_4 : Ref sig .tc := ⟨.hbm, 77, rfl⟩
abbrev main_v55_5 : Ref sig .tc := ⟨.hbm, 78, rfl⟩
abbrev main_v55_6 : Ref sig .tc := ⟨.hbm, 79, rfl⟩
abbrev main_v55_7 : Ref sig .tc := ⟨.hbm, 80, rfl⟩
abbrev main_v55_8 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S6x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InKeyRefIdeal.lean ====
abbrev S4x4096x1024 : Shape := ⟨3, ![4, 4096, 1024]⟩
abbrev S4x1x6144 : Shape := ⟨3, ![4, 1, 6144]⟩
abbrev S1024 : Shape := ⟨1, ![1024]⟩
abbrev S1024x2376 : Shape := ⟨2, ![1024, 2376]⟩
abbrev S64 : Shape := ⟨1, ![64]⟩
abbrev S4096 : Shape := ⟨1, ![4096]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2376 : Shape := ⟨3, ![4, 4096, 2376]⟩
abbrev S4x4096x128 : Shape := ⟨3, ![4, 4096, 128]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S1x1x1x64 : Shape := ⟨4, ![1, 1, 1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x2x8 : Shape := ⟨4, ![4, 4096, 2, 8]⟩
abbrev S1x4096x1x8 : Shape := ⟨4, ![1, 4096, 1, 8]⟩
abbrev S4x4096x2x48 : Shape := ⟨4, ![4, 4096, 2, 48]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S4096, .i32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x2376, .f32⟩
  | .hbm, ⟨37, _⟩ => ⟨S4x4096x128, .f32⟩
  | .hbm, ⟨38, _⟩ => ⟨S4x4096x2x64, .f32⟩
  | .hbm, ⟨39, _⟩ => ⟨S4x4096x2x64, .f32⟩
  | .hbm, ⟨40, _⟩ => ⟨S_, .f32⟩
  | .hbm, ⟨41, _⟩ => ⟨S4x4096x2, .f32⟩
  | .hbm, ⟨42, _⟩ => ⟨S4x4096x2x1, .f32⟩
  | .hbm, ⟨43, _⟩ => ⟨S_, .f32⟩
  | .hbm, ⟨44, _⟩ => ⟨S4x4096x2x1, .f32⟩
  | .hbm, ⟨45, _⟩ => ⟨S4x4096x2x1, .f32⟩
  | .hbm, ⟨46, _⟩ => ⟨S_, .f32⟩
  | .hbm, ⟨47, _⟩ => ⟨S4x4096x2x1, .f32⟩
  | .hbm, ⟨48, _⟩ => ⟨S4x4096x2x1, .f32⟩
  | .hbm, ⟨49, _⟩ => ⟨S4x4096x2x1, .f32⟩
  | .hbm, ⟨50, _⟩ => ⟨S4x4096x2x64, .f32⟩
  | .hbm, ⟨51, _⟩ => ⟨S4x4096x2x64, .f32⟩
  | .hbm, ⟨52, _⟩ => ⟨S1x1x1x64, .f32⟩
  | .hbm, ⟨53, _⟩ => ⟨S4x4096x2x64, .f32⟩
  | .hbm, ⟨54, _⟩ => ⟨S4x4096x2x64, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S4096, .f32⟩
  | .hbm, ⟨64, _⟩ => ⟨S4096x1, .f32⟩
  | .hbm, ⟨65, _⟩ => ⟨S1x8, .f32⟩
  | .hbm, ⟨66, _⟩ => ⟨S4096x8, .f32⟩
  | .hbm, ⟨67, _⟩ => ⟨S4096x8, .f32⟩
  | .hbm, ⟨68, _⟩ => ⟨S4096x8, .f32⟩
  | .hbm, ⟨69, _⟩ => ⟨S4096x8, .f32⟩
  | .hbm, ⟨70, _⟩ => ⟨S4096x1x8, .f32⟩
  | .hbm, ⟨71, _⟩ => ⟨S4096x8, .f32⟩
  | .hbm, ⟨72, _⟩ => ⟨S4096x1x8, .f32⟩
  | .hbm, ⟨73, _⟩ => ⟨S4x4096x2x8, .f32⟩
  | .hbm, ⟨74, _⟩ => ⟨S4x4096x2x8, .f32⟩
  | .hbm, ⟨75, _⟩ => ⟨S1x4096x1x8, .f32⟩
  | .hbm, ⟨76, _⟩ => ⟨S4x4096x2x8, .f32⟩
  | .hbm, ⟨77, _⟩ => ⟨S4x4096x2x8, .f32⟩
  | .hbm, ⟨78, _⟩ => ⟨S1x4096x1x8, .f32⟩
  | .hbm, ⟨79, _⟩ => ⟨S4x4096x2x8, .f32⟩
  | .hbm, ⟨80, _⟩ => ⟨S4x4096x2x8, .f32⟩
  | .hbm, ⟨81, _⟩ => ⟨S4x4096x2x8, .f32⟩
  | .hbm, ⟨82, _⟩ => ⟨S1x4096x1x8, .f32⟩
  | .hbm, ⟨83, _⟩ => ⟨S4x4096x2x8, .f32⟩
  | .hbm, ⟨84, _⟩ => ⟨S4x4096x2x8, .f32⟩
  | .hbm, ⟨85, _⟩ => ⟨S1x4096x1x8, .f32⟩
  | .hbm, ⟨86, _⟩ => ⟨S4x4096x2x8, .f32⟩
  | .hbm, ⟨87, _⟩ => ⟨S4x4096x2x8, .f32⟩
  | .hbm, ⟨88, _⟩ => ⟨S4x4096x2x8, .f32⟩
  | .hbm, ⟨89, _⟩ => ⟨S4x4096x2x48, .f32⟩
  | .hbm, ⟨90, _⟩ => ⟨S4x4096x2x64, .f32⟩
  | .hbm, ⟨91, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩

abbrev nD : Nat := 1
abbrev τ : Topo := Topo.v7x

variable {F : FTy → Type} [FloatOps F]
-- ==== InKeySample.lean ====
abbrev S32x64x1024 : Shape := ⟨3, ![32, 64, 1024]⟩
abbrev S32x1x6144 : Shape := ⟨3, ![32, 1, 6144]⟩
abbrev S1024 : Shape := ⟨1, ![1024]⟩
abbrev S1024x2376 : Shape := ⟨2, ![1024, 2376]⟩
abbrev S64 : Shape := ⟨1, ![64]⟩
abbrev S128x128 : Shape := ⟨2, ![128, 128]⟩
abbrev S_ : Shape := ⟨0, ![]⟩
abbrev S1024x1352 : Shape := ⟨2, ![1024, 1352]⟩
abbrev S1024x56 : Shape := ⟨2, ![1024, 56]⟩
abbrev S1024x1024 : Shape := ⟨2, ![1024, 1024]⟩
abbrev S1024x2432 : Shape := ⟨2, ![1024, 2432]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S1x1024 : Shape := ⟨2, ![1, 1024]⟩
abbrev S8 : Shape := ⟨1, ![8]⟩
abbrev S64x1 : Shape := ⟨2, ![64, 1]⟩
abbrev S1x8 : Shape := ⟨2, ![1, 8]⟩
abbrev S64x8 : Shape := ⟨2, ![64, 8]⟩
abbrev S64x48 : Shape := ⟨2, ![64, 48]⟩
abbrev S64x64 : Shape := ⟨2, ![64, 64]⟩
abbrev S64x56 : Shape := ⟨2, ![64, 56]⟩
abbrev S64x128 : Shape := ⟨2, ![64, 128]⟩
abbrev S1x64x128 : Shape := ⟨3, ![1, 64, 128]⟩
abbrev S6x64x128 : Shape := ⟨3, ![6, 64, 128]⟩
abbrev S32x64x512 : Shape := ⟨3, ![32, 64, 512]⟩
abbrev S32x64x128 : Shape := ⟨3, ![32, 64, 128]⟩
abbrev S32x256x128 : Shape := ⟨3, ![32, 256, 128]⟩
abbrev S8x64x1024 : Shape := ⟨3, ![8, 64, 1024]⟩
abbrev S8x1x1024 : Shape := ⟨3, ![8, 1, 1024]⟩
abbrev S8x64x512 : Shape := ⟨3, ![8, 64, 512]⟩
abbrev S8x64x128 : Shape := ⟨3, ![8, 64, 128]⟩
abbrev S8x256x128 : Shape := ⟨3, ![8, 256, 128]⟩
abbrev S8x64 : Shape := ⟨2, ![8, 64]⟩
abbrev S8x64x1 : Shape := ⟨3, ![8, 64, 1]⟩
abbrev S1x1x1024 : Shape := ⟨3, ![1, 1, 1024]⟩
abbrev S512x1024 : Shape := ⟨2, ![512, 1024]⟩
abbrev S512x128 : Shape := ⟨2, ![512, 128]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S8x192x128 : Shape := ⟨3, ![8, 192, 128]⟩
abbrev S1024x128 : Shape := ⟨2, ![1024, 128]⟩

abbrev nBuf : Space → Nat
  | .hbm => 85
  | .vmem => 29
  | .smem => 0
  | _ => 0

abbrev bufTy : (tb : Table) → Fin (tcTables nBuf tb) → BufTy
  | .hbm, ⟨0, _⟩ => ⟨S32x64x1024, .f32⟩
  | .hbm, ⟨1, _⟩ => ⟨S32x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S128x128, .bf16⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S1024x1352, .f32⟩
  | .hbm, ⟨12, _⟩ => ⟨S_, .f32⟩
  | .hbm, ⟨13, _⟩ => ⟨S1024x56, .f32⟩
  | .hbm, ⟨14, _⟩ => ⟨S1024x1024, .f32⟩
  | .hbm, ⟨15, _⟩ => ⟨S1024x2432, .f32⟩
  | .hbm, ⟨16, _⟩ => ⟨S1024x2432, .bf16⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x64, .f32⟩
  | .hbm, ⟨21, _⟩ => ⟨S2x64, .f32⟩
  | .hbm, ⟨22, _⟩ => ⟨S128, .f32⟩
  | .hbm, ⟨23, _⟩ => ⟨S1x128, .f32⟩
  | .hbm, ⟨24, _⟩ => ⟨S1x128, .f32⟩
  | .hbm, ⟨25, _⟩ => ⟨S2x128, .f32⟩
  | .hbm, ⟨26, _⟩ => ⟨S1x1024, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S64, .f32⟩
  | .hbm, ⟨36, _⟩ => ⟨S64x1, .f32⟩
  | .hbm, ⟨37, _⟩ => ⟨S1x8, .f32⟩
  | .hbm, ⟨38, _⟩ => ⟨S64x8, .f32⟩
  | .hbm, ⟨39, _⟩ => ⟨S64x8, .f32⟩
  | .hbm, ⟨40, _⟩ => ⟨S64x8, .f32⟩
  | .hbm, ⟨41, _⟩ => ⟨S64x8, .f32⟩
  | .hbm, ⟨42, _⟩ => ⟨S64x8, .f32⟩
  | .hbm, ⟨43, _⟩ => ⟨S_, .f32⟩
  | .hbm, ⟨44, _⟩ => ⟨S64x48, .f32⟩
  | .hbm, ⟨45, _⟩ => ⟨S64x64, .f32⟩
  | .hbm, ⟨46, _⟩ => ⟨S64x8, .f32⟩
  | .hbm, ⟨47, _⟩ => ⟨S_, .f32⟩
  | .hbm, ⟨48, _⟩ => ⟨S64x56, .f32⟩
  | .hbm, ⟨49, _⟩ => ⟨S64x64, .f32⟩
  | .hbm, ⟨50, _⟩ => ⟨S_, .f32⟩
  | .hbm, ⟨51, _⟩ => ⟨S64x8, .f32⟩
  | .hbm, ⟨52, _⟩ => ⟨S_, .f32⟩
  | .hbm, ⟨53, _⟩ => ⟨S64x48, .f32⟩
  | .hbm, ⟨54, _⟩ => ⟨S64x64, .f32⟩
  | .hbm, ⟨55, _⟩ => ⟨S_, .f32⟩
  | .hbm, ⟨56, _⟩ => ⟨S64x8, .f32⟩
  | .hbm, ⟨57, _⟩ => ⟨S_, .f32⟩
  | .hbm, ⟨58, _⟩ => ⟨S64x56, .f32⟩
  | .hbm, ⟨59, _⟩ => ⟨S64x128, .f32⟩
  | .hbm, ⟨60, _⟩ => ⟨S64x128, .f32⟩
  | .hbm, ⟨61, _⟩ => ⟨S64x128, .f32⟩
  | .hbm, ⟨62, _⟩ => ⟨S64x128, .f32⟩
  | .hbm, ⟨63, _⟩ => ⟨S_, .f32⟩
  | .hbm, ⟨64, _⟩ => ⟨S64x64, .f32⟩
  | .hbm, ⟨65, _⟩ => ⟨S64x128, .f32⟩
  | .hbm, ⟨66, _⟩ => ⟨S_, .f32⟩
  | .hbm, ⟨67, _⟩ => ⟨S64x64, .f32⟩
  | .hbm, ⟨68, _⟩ => ⟨S64x128, .f32⟩
  | .hbm, ⟨69, _⟩ => ⟨S1x64x128, .f32⟩
  | .hbm, ⟨70, _⟩ => ⟨S1x64x128, .f32⟩
  | .hbm, ⟨71, _⟩ => ⟨S1x64x128, .f32⟩
  | .hbm, ⟨72, _⟩ => ⟨S1x64x128, .f32⟩
  | .hbm, ⟨73, _⟩ => ⟨S1x64x128, .f32⟩
  | .hbm, ⟨74, _⟩ => ⟨S1x64x128, .f32⟩
  | .hbm, ⟨75, _⟩ => ⟨S6x64x128, .f32⟩
  | .hbm, ⟨76, _⟩ => ⟨S32x64x512, .bf16⟩
  | .hbm, ⟨77, _⟩ => ⟨S32x64x512, .bf16⟩
  | .hbm, ⟨78, _⟩ => ⟨S32x64x128, .f32⟩
  | .hbm, ⟨79, _⟩ => ⟨S32x64x128, .f32⟩
  | .hbm, ⟨80, _⟩ => ⟨S32x256x128, .bf16⟩
  | .hbm, ⟨81, _⟩ => ⟨S32x256x128, .bf16⟩
  | .hbm, ⟨82, _⟩ => ⟨S32x64x128, .f32⟩
  | .hbm, ⟨83, _⟩ => ⟨S32x256x128, .bf16⟩
  | .hbm, ⟨84, _⟩ => ⟨S32x64x512, .f32⟩
  | .local _ .vmem, ⟨0, _⟩ => ⟨S8x64x1024, .f32⟩
  | .local _ .vmem, ⟨1, _⟩ => ⟨S8x64x1024, .f32⟩
  | .local _ .vmem, ⟨2, _⟩ => ⟨S8x1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S1x1024, .f32⟩
  | .local _ .vmem, ⟨7, _⟩ => ⟨S1024x2432, .bf16⟩
  | .local _ .vmem, ⟨8, _⟩ => ⟨S2x128, .f32⟩
  | .local _ .vmem, ⟨9, _⟩ => ⟨S6x64x128, .f32⟩
  | .local _ .vmem, ⟨10, _⟩ => ⟨S128x128, .bf16⟩
  | .local _ .vmem, ⟨11, _⟩ => ⟨S8x64x512, .bf16⟩
  | .local _ .vmem, ⟨12, _⟩ => ⟨S8x64x512, .bf16⟩
  | .local _ .vmem, ⟨13, _⟩ => ⟨S8x64x512, .bf16⟩
  | .local _ .vmem, ⟨14, _⟩ => ⟨S8x64x512, .bf16⟩
  | .local _ .vmem, ⟨15, _⟩ => ⟨S8x64x128, .f32⟩
  | .local _ .vmem, ⟨16, _⟩ => ⟨S8x64x128, .f32⟩
  | .local _ .vmem, ⟨17, _⟩ => ⟨S8x64x128, .f32⟩
  | .local _ .vmem, ⟨18, _⟩ => ⟨S8x64x128, .f32⟩
  | .local _ .vmem, ⟨19, _⟩ => ⟨S8x256x128, .bf16⟩
  | .local _ .vmem, ⟨20, _⟩ => ⟨S8x256x128, .bf16⟩
  | .local _ .vmem, ⟨21, _⟩ => ⟨S8x256x128, .bf16⟩
  | .local _ .vmem, ⟨22, _⟩ => ⟨S8x256x128, .bf16⟩
  | .local _ .vmem, ⟨23, _⟩ => ⟨S8x64x128, .f32⟩
  | .local _ .vmem, ⟨24, _⟩ => ⟨S8x64x128, .f32⟩
  | .local _ .vmem, ⟨25, _⟩ => ⟨S8x256x128, .bf16⟩
  | .local _ .vmem, ⟨26, _⟩ => ⟨S8x256x128, .bf16⟩
  | .local _ .vmem, ⟨27, _⟩ => ⟨S8x64x512, .f32⟩
  | .local _ .vmem, ⟨28, _⟩ => ⟨S8x64x512, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_v57_3 : Ref sig .tc := ⟨.hbm, 79, rfl⟩
abbrev main_v57_4 : Ref sig .tc := ⟨.hbm, 80, rfl⟩
abbrev main_v57_5 : Ref sig .tc := ⟨.hbm, 81, rfl⟩
abbrev main_v57_6 : Ref sig .tc := ⟨.hbm, 82, rfl⟩
abbrev main_v57_7 : Ref sig .tc := ⟨.hbm, 83, rfl⟩
abbrev main_v57_8 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S6x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InKeySampleRefIdeal.lean ====
abbrev S32x64x1024 : Shape := ⟨3, ![32, 64, 1024]⟩
abbrev S32x1x6144 : Shape := ⟨3, ![32, 1, 6144]⟩
abbrev S1024 : Shape := ⟨1, ![1024]⟩
abbrev S1024x2376 : Shape := ⟨2, ![1024, 2376]⟩
abbrev S64 : Shape := ⟨1, ![64]⟩
abbrev S_ : Shape := ⟨0, ![]⟩
abbrev S32x1x1024 : Shape := ⟨3, ![32, 1, 1024]⟩
abbrev S32x64 : Shape := ⟨2, ![32, 64]⟩
abbrev S32x64x1 : Shape := ⟨3, ![32, 64, 1]⟩
abbrev S1x1x1024 : Shape := ⟨3, ![1, 1, 1024]⟩
abbrev S32x64x2376 : Shape := ⟨3, ![32, 64, 2376]⟩
abbrev S32x64x128 : Shape := ⟨3, ![32, 64, 128]⟩
abbrev S32x64x2x64 : Shape := ⟨4, ![32, 64, 2, 64]⟩
abbrev S32x64x2 : Shape := ⟨3, ![32, 64, 2]⟩
abbrev S32x64x2x1 : Shape := ⟨4, ![32, 64, 2, 1]⟩
abbrev S1x1x1x64 : Shape := ⟨4, ![1, 1, 1, 64]⟩
abbrev S8 : Shape := ⟨1, ![8]⟩
abbrev S64x1 : Shape := ⟨2, ![64, 1]⟩
abbrev S1x8 : Shape := ⟨2, ![1, 8]⟩
abbrev S64x8 : Shape := ⟨2, ![64, 8]⟩
abbrev S64x1x8 : Shape := ⟨3, ![64, 1, 8]⟩
abbrev S32x64x2x8 : Shape := ⟨4, ![32, 64, 2, 8]⟩
abbrev S1x64x1x8 : Shape := ⟨4, ![1, 64, 1, 8]⟩
abbrev S32x64x2x48 : Shape := ⟨4, ![32, 64, 2, 48]⟩

abbrev nBuf : Space → Nat
  | .hbm => 95
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x64x1024, .f32⟩
  | .hbm, ⟨17, _⟩ => ⟨S_, .f32⟩
  | .hbm, ⟨18, _⟩ => ⟨S32x64, .f32⟩
  | .hbm, ⟨19, _⟩ => ⟨S32x64x1, .f32⟩
  | .hbm, ⟨20, _⟩ => ⟨S_, .f32⟩
  | .hbm, ⟨21, _⟩ => ⟨S32x64x1, .f32⟩
  | .hbm, ⟨22, _⟩ => ⟨S32x64x1, .f32⟩
  | .hbm, ⟨23, _⟩ => ⟨S_, .f32⟩
  | .hbm, ⟨24, _⟩ => ⟨S32x64x1, .f32⟩
  | .hbm, ⟨25, _⟩ => ⟨S32x64x1, .f32⟩
  | .hbm, ⟨26, _⟩ => ⟨S32x64x1, .f32⟩
  | .hbm, ⟨27, _⟩ => ⟨S32x64x1024, .f32⟩
  | .hbm, ⟨28, _⟩ => ⟨S32x64x1024, .f32⟩
  | .hbm, ⟨29, _⟩ => ⟨S1x1x1024, .f32⟩
  | .hbm, ⟨30, _⟩ => ⟨S32x64x1024, .f32⟩
  | .hbm, ⟨31, _⟩ => ⟨S32x64x1024, .f32⟩
  | .hbm, ⟨32, _⟩ => ⟨S_, .f32⟩
  | .hbm, ⟨33, _⟩ => ⟨S32x1x1024, .f32⟩
  | .hbm, ⟨34, _⟩ => ⟨S32x1x1024, .f32⟩
  | .hbm, ⟨35, _⟩ => ⟨S32x64x1024, .f32⟩
  | .hbm, ⟨36, _⟩ => ⟨S32x64x1024, .f32⟩
  | .hbm, ⟨37, _⟩ => ⟨S32x64x1024, .f32⟩
  | .hbm, ⟨38, _⟩ => ⟨S32x64x1024, .f32⟩
  | .hbm, ⟨39, _⟩ => ⟨S32x64x2376, .f32⟩
  | .hbm, ⟨40, _⟩ => ⟨S32x64x128, .f32⟩
  | .hbm, ⟨41, _⟩ => ⟨S32x64x2x64, .f32⟩
  | .hbm, ⟨42, _⟩ => ⟨S32x64x2x64, .f32⟩
  | .hbm, ⟨43, _⟩ => ⟨S_, .f32⟩
  | .hbm, ⟨44, _⟩ => ⟨S32x64x2, .f32⟩
  | .hbm, ⟨45, _⟩ => ⟨S32x64x2x1, .f32⟩
  | .hbm, ⟨46, _⟩ => ⟨S_, .f32⟩
  | .hbm, ⟨47, _⟩ => ⟨S32x64x2x1, .f32⟩
  | .hbm, ⟨48, _⟩ => ⟨S32x64x2x1, .f32⟩
  | .hbm, ⟨49, _⟩ => ⟨S_, .f32⟩
  | .hbm, ⟨50, _⟩ => ⟨S32x64x2x1, .f32⟩
  | .hbm, ⟨51, _⟩ => ⟨S32x64x2x1, .f32⟩
  | .hbm, ⟨52, _⟩ => ⟨S32x64x2x1, .f32⟩
  | .hbm, ⟨53, _⟩ => ⟨S32x64x2x64, .f32⟩
  | .hbm, ⟨54, _⟩ => ⟨S32x64x2x64, .f32⟩
  | .hbm, ⟨55, _⟩ => ⟨S1x1x1x64, .f32⟩
  | .hbm, ⟨56, _⟩ => ⟨S32x64x2x64, .f32⟩
  | .hbm, ⟨57, _⟩ => ⟨S32x64x2x64, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S64, .f32⟩
  | .hbm, ⟨67, _⟩ => ⟨S64x1, .f32⟩
  | .hbm, ⟨68, _⟩ => ⟨S1x8, .f32⟩
  | .hbm, ⟨69, _⟩ => ⟨S64x8, .f32⟩
  | .hbm, ⟨70, _⟩ => ⟨S64x8, .f32⟩
  | .hbm, ⟨71, _⟩ => ⟨S64x8, .f32⟩
  | .hbm, ⟨72, _⟩ => ⟨S64x8, .f32⟩
  | .hbm, ⟨73, _⟩ => ⟨S64x1x8, .f32⟩
  | .hbm, ⟨74, _⟩ => ⟨S64x8, .f32⟩
  | .hbm, ⟨75, _⟩ => ⟨S64x1x8, .f32⟩
  | .hbm, ⟨76, _⟩ => ⟨S32x64x2x8, .f32⟩
  | .hbm, ⟨77, _⟩ => ⟨S32x64x2x8, .f32⟩
  | .hbm, ⟨78, _⟩ => ⟨S1x64x1x8, .f32⟩
  | .hbm, ⟨79, _⟩ => ⟨S32x64x2x8, .f32⟩
  | .hbm, ⟨80, _⟩ => ⟨S32x64x2x8, .f32⟩
  | .hbm, ⟨81, _⟩ => ⟨S1x64x1x8, .f32⟩
  | .hbm, ⟨82, _⟩ => ⟨S32x64x2x8, .f32⟩
  | .hbm, ⟨83, _⟩ => ⟨S32x64x2x8, .f32⟩
  | .hbm, ⟨84, _⟩ => ⟨S32x64x2x8, .f32⟩
  | .hbm, ⟨85, _⟩ => ⟨S1x64x1x8, .f32⟩
  | .hbm, ⟨86, _⟩ => ⟨S32x64x2x8, .f32⟩
  | .hbm, ⟨87, _⟩ => ⟨S32x64x2x8, .f32⟩
  | .hbm, ⟨88, _⟩ => ⟨S1x64x1x8, .f32⟩
  | .hbm, ⟨89, _⟩ => ⟨S32x64x2x8, .f32⟩
  | .hbm, ⟨90, _⟩ => ⟨S32x64x2x8, .f32⟩
  | .hbm, ⟨91, _⟩ => ⟨S32x64x2x8, .f32⟩
  | .hbm, ⟨92, _⟩ => ⟨S32x64x2x48, .f32⟩
  | .hbm, ⟨93, _⟩ => ⟨S32x64x2x64, .f32⟩
  | .hbm, ⟨94, _⟩ => ⟨S32x64x128, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩

abbrev nD : Nat := 1
abbrev τ : Topo := Topo.v7x

variable {F : FTy → Type} [FloatOps F]
-- ==== Post.lean ====
abbrev S4x4096x1024 : Shape := ⟨3, ![4, 4096, 1024]⟩
abbrev S4x4096x512 : Shape := ⟨3, ![4, 4096, 512]⟩
abbrev S4x1x6144 : Shape := ⟨3, ![4, 1, 6144]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S4x1024 : Shape := ⟨2, ![4, 1024]⟩
abbrev S16x1024 : Shape := ⟨2, ![16, 1024]⟩
abbrev S_ : Shape := ⟨0, ![]⟩
abbrev S12x1024 : Shape := ⟨2, ![12, 1024]⟩
abbrev S32x1024 : Shape := ⟨2, ![32, 1024]⟩
abbrev S12 : Shape := ⟨1, ![12]⟩
abbrev S32 : Shape := ⟨1, ![32]⟩
abbrev S32x1 : Shape := ⟨2, ![32, 1]⟩
abbrev S1x1024 : Shape := ⟨2, ![1, 1024]⟩
abbrev S4x4096x128 : Shape := ⟨3, ![4, 4096, 128]⟩
abbrev S1x512x1024 : Shape := ⟨3, ![1, 512, 1024]⟩
abbrev S1x512x512 : Shape := ⟨3, ![1, 512, 512]⟩
abbrev S1x1x1024 : Shape := ⟨3, ![1, 1, 1024]⟩
abbrev S1x512x128 : Shape := ⟨3, ![1, 512, 128]⟩
abbrev S128x512 : Shape := ⟨2, ![128, 512]⟩
abbrev S512x512 : Shape := ⟨2, ![512, 512]⟩
abbrev S512x1024 : Shape := ⟨2, ![512, 1024]⟩
abbrev S1x512 : Shape := ⟨2, ![1, 512]⟩
abbrev S1x512x1 : Shape := ⟨3, ![1, 512, 1]⟩
abbrev S32x512 : Shape := ⟨2, ![32, 512]⟩
abbrev S512x128 : Shape := ⟨2, ![512, 128]⟩

abbrev nBuf : Space → Nat
  | .hbm => 27
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x1x6144, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x16, .f32⟩
  | .hbm, ⟨9, _⟩ => ⟨S16, .f32⟩
  | .hbm, ⟨10, _⟩ => ⟨S4x1024, .f32⟩
  | .hbm, ⟨11, _⟩ => ⟨S16x1024, .f32⟩
  | .hbm, ⟨12, _⟩ => ⟨S_, .f32⟩
  | .hbm, ⟨13, _⟩ => ⟨S12x1024, .f32⟩
  | .hbm, ⟨14, _⟩ => ⟨S32x1024, .f32⟩
  | .hbm, ⟨15, _⟩ => ⟨S32x1024, .bf16⟩
  | .hbm, ⟨16, _⟩ => ⟨S_, .f32⟩
  | .hbm, ⟨17, _⟩ => ⟨S12, .f32⟩
  | .hbm, ⟨18, _⟩ => ⟨S32, .f32⟩
  | .hbm, ⟨19, _⟩ => ⟨S32x1, .f32⟩
  | .hbm, ⟨20, _⟩ => ⟨S4x4096x512, .bf16⟩
  | .hbm, ⟨21, _⟩ => ⟨S4x4096x512, .bf16⟩
  | .hbm, ⟨22, _⟩ => ⟨S1024x1024, .bf16⟩
  | .hbm, ⟨23, _⟩ => ⟨S1x1024, .f32⟩
  | .hbm, ⟨24, _⟩ => ⟨S4x4096x1024, .f32⟩
  | .hbm, ⟨25, _⟩ => ⟨S4x4096x1024, .bf16⟩
  | .hbm, ⟨26, _⟩ => ⟨S4x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1x1024, .f32⟩
  | .local _ .vmem, ⟨14, _⟩ => ⟨S32x1024, .bf16⟩
  | .local _ .vmem, ⟨15, _⟩ => ⟨S32x1, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x128, .f32⟩
  | .local _ .vmem, ⟨21, _⟩ => ⟨S1x512x128, .f32⟩
  | .local _ .vmem, ⟨22, _⟩ => ⟨S128x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PostRefIdeal.lean ====
abbrev S4x4096x1024 : Shape := ⟨3, ![4, 4096, 1024]⟩
abbrev S4x4096x512 : Shape := ⟨3, ![4, 4096, 512]⟩
abbrev S4x1x6144 : Shape := ⟨3, ![4, 1, 6144]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x1x6144, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x16, .f32⟩
  | .hbm, ⟨9, _⟩ => ⟨S16, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== PostSample.lean ====
abbrev S32x64x1024 : Shape := ⟨3, ![32, 64, 1024]⟩
abbrev S32x64x512 : Shape := ⟨3, ![32, 64, 512]⟩
abbrev S32x1x6144 : Shape := ⟨3, ![32, 1, 6144]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S4x1024 : Shape := ⟨2, ![4, 1024]⟩
abbrev S16x1024 : Shape := ⟨2, ![16, 1024]⟩
abbrev S_ : Shape := ⟨0, ![]⟩
abbrev S12x1024 : Shape := ⟨2, ![12, 1024]⟩
abbrev S32x1024 : Shape := ⟨2, ![32, 1024]⟩
abbrev S12 : Shape := ⟨1, ![12]⟩
abbrev S32 : Shape := ⟨1, ![32]⟩
abbrev S32x1 : Shape := ⟨2, ![32, 1]⟩
abbrev S1x1024 : Shape := ⟨2, ![1, 1024]⟩
abbrev S32x64x128 : Shape := ⟨3, ![32, 64, 128]⟩
abbrev S8x64x1024 : Shape := ⟨3, ![8, 64, 1024]⟩
abbrev S8x64x512 : Shape := ⟨3, ![8, 64, 512]⟩
abbrev S8x1x1024 : Shape := ⟨3, ![8, 1, 1024]⟩
abbrev S8x64x128 : Shape := ⟨3, ![8, 64, 128]⟩
abbrev S128x512 : Shape := ⟨2, ![128, 512]⟩
abbrev S512x512 : Shape := ⟨2, ![512, 512]⟩
abbrev S512x1024 : Shape := ⟨2, ![512, 1024]⟩
abbrev S8x64 : Shape := ⟨2, ![8, 64]⟩
abbrev S8x64x1 : Shape := ⟨3, ![8, 64, 1]⟩
abbrev S1x1x1024 : Shape := ⟨3, ![1, 1, 1024]⟩
abbrev S32x512 : Shape := ⟨2, ![32, 512]⟩
abbrev S1x512 : Shape := ⟨2, ![1, 512]⟩
abbrev S512x128 : Shape := ⟨2, ![512, 128]⟩

abbrev nBuf : Space → Nat
  | .hbm => 27
  | .vmem => 23
  | .smem => 0
  | _ => 0

abbrev bufTy : (tb : Table) → Fin (tcTables nBuf tb) → BufTy
  | .hbm, ⟨0, _⟩ => ⟨S32x64x1024, .f32⟩
  | .hbm, ⟨1, _⟩ => ⟨S32x64x512, .f32⟩
  | .hbm, ⟨2, _⟩ => ⟨S32x64x512, .f32⟩
  | .hbm, ⟨3, _⟩ => ⟨S32x1x6144, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x16, .f32⟩
  | .hbm, ⟨9, _⟩ => ⟨S16, .f32⟩
  | .hbm, ⟨10, _⟩ => ⟨S4x1024, .f32⟩
  | .hbm, ⟨11, _⟩ => ⟨S16x1024, .f32⟩
  | .hbm, ⟨12, _⟩ => ⟨S_, .f32⟩
  | .hbm, ⟨13, _⟩ => ⟨S12x1024, .f32⟩
  | .hbm, ⟨14, _⟩ => ⟨S32x1024, .f32⟩
  | .hbm, ⟨15, _⟩ => ⟨S32x1024, .bf16⟩
  | .hbm, ⟨16, _⟩ => ⟨S_, .f32⟩
  | .hbm, ⟨17, _⟩ => ⟨S12, .f32⟩
  | .hbm, ⟨18, _⟩ => ⟨S32, .f32⟩
  | .hbm, ⟨19, _⟩ => ⟨S32x1, .f32⟩
  | .hbm, ⟨20, _⟩ => ⟨S32x64x512, .bf16⟩
  | .hbm, ⟨21, _⟩ => ⟨S32x64x512, .bf16⟩
  | .hbm, ⟨22, _⟩ => ⟨S1024x1024, .bf16⟩
  | .hbm, ⟨23, _⟩ => ⟨S1x1024, .f32⟩
  | .hbm, ⟨24, _⟩ => ⟨S32x64x1024, .f32⟩
  | .hbm, ⟨25, _⟩ => ⟨S32x64x1024, .bf16⟩
  | .hbm, ⟨26, _⟩ => ⟨S32x64x128, .f32⟩
  | .local _ .vmem, ⟨0, _⟩ => ⟨S8x64x1024, .f32⟩
  | .local _ .vmem, ⟨1, _⟩ => ⟨S8x64x1024, .f32⟩
  | .local _ .vmem, ⟨2, _⟩ => ⟨S8x64x512, .bf16⟩
  | .local _ .vmem, ⟨3, _⟩ => ⟨S8x64x512, .bf16⟩
  | .local _ .vmem, ⟨4, _⟩ => ⟨S8x64x512, .bf16⟩
  | .local _ .vmem, ⟨5, _⟩ => ⟨S8x64x512, .bf16⟩
  | .local _ .vmem, ⟨6, _⟩ => ⟨S8x1x1024, .f32⟩
  | .local _ .vmem, ⟨7, _⟩ => ⟨S8x1x1024, .f32⟩
  | .local _ .vmem, ⟨8, _⟩ => ⟨S8x1x1024, .f32⟩
  | .local _ .vmem, ⟨9, _⟩ => ⟨S8x1x1024, .f32⟩
  | .local _ .vmem, ⟨10, _⟩ => ⟨S8x1x1024, .f32⟩
  | .local _ .vmem, ⟨11, _⟩ => ⟨S8x1x1024, .f32⟩
  | .local _ .vmem, ⟨12, _⟩ => ⟨S1024x1024, .bf16⟩
  | .local _ .vmem, ⟨13, _⟩ => ⟨S1x1024, .f32⟩
  | .local _ .vmem, ⟨14, _⟩ => ⟨S32x1024, .bf16⟩
  | .local _ .vmem, ⟨15, _⟩ => ⟨S32x1, .f32⟩
  | .local _ .vmem, ⟨16, _⟩ => ⟨S8x64x1024, .f32⟩
  | .local _ .vmem, ⟨17, _⟩ => ⟨S8x64x1024, .f32⟩
  | .local _ .vmem, ⟨18, _⟩ => ⟨S8x64x1024, .bf16⟩
  | .local _ .vmem, ⟨19, _⟩ => ⟨S8x64x1024, .bf16⟩
  | .local _ .vmem, ⟨20, _⟩ => ⟨S8x64x128, .f32⟩
  | .local _ .vmem, ⟨21, _⟩ => ⟨S8x64x128, .f32⟩
  | .local _ .vmem, ⟨22, _⟩ => ⟨S128x512, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PostSampleRefIdeal.lean ====
abbrev S32x64x1024 : Shape := ⟨3, ![32, 64, 1024]⟩
abbrev S32x64x512 : Shape := ⟨3, ![32, 64, 512]⟩
abbrev S32x1x6144 : Shape := ⟨3, ![32, 1, 6144]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S32x1x1024 : Shape := ⟨3, ![32, 1, 1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x64x512, .f32⟩
  | .hbm, ⟨2, _⟩ => ⟨S32x64x512, .f32⟩
  | .hbm, ⟨3, _⟩ => ⟨S32x1x6144, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x16, .f32⟩
  | .hbm, ⟨9, _⟩ => ⟨S16, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x64x1024, .f32⟩
  | .hbm, ⟨17, _⟩ => ⟨S32x64x1024, .f32⟩
  | .hbm, ⟨18, _⟩ => ⟨S32x64x1024, .f32⟩
  | .hbm, ⟨19, _⟩ => ⟨S32x64x1024, .f32⟩
  | .hbm, ⟨20, _⟩ => ⟨S32x64x1024, .f32⟩
  | .hbm, ⟨21, _⟩ => ⟨S32x64x1024, .f32⟩
  | .hbm, ⟨22, _⟩ => ⟨S_, .f32⟩
  | .hbm, ⟨23, _⟩ => ⟨S32x64, .f32⟩
  | .hbm, ⟨24, _⟩ => ⟨S32x64x1, .f32⟩
  | .hbm, ⟨25, _⟩ => ⟨S_, .f32⟩
  | .hbm, ⟨26, _⟩ => ⟨S32x64x1, .f32⟩
  | .hbm, ⟨27, _⟩ => ⟨S32x64x1, .f32⟩
  | .hbm, ⟨28, _⟩ => ⟨S_, .f32⟩
  | .hbm, ⟨29, _⟩ => ⟨S32x64x1, .f32⟩
  | .hbm, ⟨30, _⟩ => ⟨S32x64x1, .f32⟩
  | .hbm, ⟨31, _⟩ => ⟨S32x64x1, .f32⟩
  | .hbm, ⟨32, _⟩ => ⟨S32x64x1024, .f32⟩
  | .hbm, ⟨33, _⟩ => ⟨S32x64x1024, .f32⟩
  | .hbm, ⟨34, _⟩ => ⟨S1x1x1024, .f32⟩
  | .hbm, ⟨35, _⟩ => ⟨S32x64x1024, .f32⟩
  | .hbm, ⟨36, _⟩ => ⟨S32x64x1024, .f32⟩
  | .hbm, ⟨37, _⟩ => ⟨S_, .f32⟩
  | .hbm, ⟨38, _⟩ => ⟨S32x1x1024, .f32⟩
  | .hbm, ⟨39, _⟩ => ⟨S32x1x1024, .f32⟩
  | .hbm, ⟨40, _⟩ => ⟨S32x64x1024, .f32⟩
  | .hbm, ⟨41, _⟩ => ⟨S32x64x1024, .f32⟩
  | .hbm, ⟨42, _⟩ => ⟨S32x64x1024, .f32⟩
  | .hbm, ⟨43, _⟩ => ⟨S32x64x1024, .f32⟩
  | .hbm, ⟨44, _⟩ => ⟨S32x64x1024, .bf16⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== InQuery.lean ====
abbrev S4x4096x1024 : Shape := ⟨3, ![4, 4096, 1024]⟩
abbrev S4x1x6144 : Shape := ⟨3, ![4, 1, 6144]⟩
abbrev S1024 : Shape := ⟨1, ![1024]⟩
abbrev S1024x2376 : Shape := ⟨2, ![1024, 2376]⟩
abbrev S64 : Shape := ⟨1, ![64]⟩
abbrev S128x128 : Shape := ⟨2, ![128, 128]⟩
abbrev S4096 : Shape := ⟨1, ![4096]⟩
abbrev S1024x1352 : Shape := ⟨2, ![1024, 1352]⟩
abbrev S_ : Shape := ⟨0, ![]⟩
abbrev S1024x56 : Shape := ⟨2, ![1024, 56]⟩
abbrev S1024x1024 : Shape := ⟨2, ![1024, 1024]⟩
abbrev S1024x2432 : Shape := ⟨2, ![1024, 2432]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S1x1024 : Shape := ⟨2, ![1, 1024]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S4096x128 : Shape := ⟨2, ![4096, 128]⟩
abbrev S1x4096x128 : Shape := ⟨3, ![1, 4096, 128]⟩
abbrev S6x4096x128 : Shape := ⟨3, ![6, 4096, 128]⟩
abbrev S4x4096x512 : Shape := ⟨3, ![4, 4096, 512]⟩
abbrev S4x4096x128 : Shape := ⟨3, ![4, 4096, 128]⟩
abbrev S1x512x1024 : Shape := ⟨3, ![1, 512, 1024]⟩
abbrev S1x1x1024 : Shape := ⟨3, ![1, 1, 1024]⟩
abbrev S6x512x128 : Shape := ⟨3, ![6, 512, 128]⟩
abbrev S1x512x512 : Shape := ⟨3, ![1, 512, 512]⟩
abbrev S1x512x128 : Shape := ⟨3, ![1, 512, 128]⟩
abbrev S1x512 : Shape := ⟨2, ![1, 512]⟩
abbrev S1x512x1 : Shape := ⟨3, ![1, 512, 1]⟩
abbrev S512x1024 : Shape := ⟨2, ![512, 1024]⟩
abbrev S512x128 : Shape := ⟨2, ![512, 128]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S1024x128 : Shape := ⟨2, ![1024, 128]⟩

abbrev nBuf : Space → Nat
  | .hbm => 82
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S128x128, .bf16⟩
  | .hbm, ⟨7, _⟩ => ⟨S4096, .i32⟩
  | .hbm, ⟨8, _⟩ => ⟨S1024x1352, .f32⟩
  | .hbm, ⟨9, _⟩ => ⟨S_, .f32⟩
  | .hbm, ⟨10, _⟩ => ⟨S1024x56, .f32⟩
  | .hbm, ⟨11, _⟩ => ⟨S1024x1024, .f32⟩
  | .hbm, ⟨12, _⟩ => ⟨S1024x2432, .f32⟩
  | .hbm, ⟨13, _⟩ => ⟨S1024x2432, .bf16⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S1x128, .f32⟩
  | .hbm, ⟨22, _⟩ => ⟨S2x128, .f32⟩
  | .hbm, ⟨23, _⟩ => ⟨S1x1024, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S4096, .f32⟩
  | .hbm, ⟨33, _⟩ => ⟨S4096x1, .f32⟩
  | .hbm, ⟨34, _⟩ => ⟨S1x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S_, .f32⟩
  | .hbm, ⟨41, _⟩ => ⟨S4096x48, .f32⟩
  | .hbm, ⟨42, _⟩ => ⟨S4096x64, .f32⟩
  | .hbm, ⟨43, _⟩ => ⟨S4096x8, .f32⟩
  | .hbm, ⟨44, _⟩ => ⟨S_, .f32⟩
  | .hbm, ⟨45, _⟩ => ⟨S4096x56, .f32⟩
  | .hbm, ⟨46, _⟩ => ⟨S4096x64, .f32⟩
  | .hbm, ⟨47, _⟩ => ⟨S_, .f32⟩
  | .hbm, ⟨48, _⟩ => ⟨S4096x8, .f32⟩
  | .hbm, ⟨49, _⟩ => ⟨S_, .f32⟩
  | .hbm, ⟨50, _⟩ => ⟨S4096x48, .f32⟩
  | .hbm, ⟨51, _⟩ => ⟨S4096x64, .f32⟩
  | .hbm, ⟨52, _⟩ => ⟨S_, .f32⟩
  | .hbm, ⟨53, _⟩ => ⟨S4096x8, .f32⟩
  | .hbm, ⟨54, _⟩ => ⟨S_, .f32⟩
  | .hbm, ⟨55, _⟩ => ⟨S4096x56, .f32⟩
  | .hbm, ⟨56, _⟩ => ⟨S4096x128, .f32⟩
  | .hbm, ⟨57, _⟩ => ⟨S4096x128, .f32⟩
  | .hbm, ⟨58, _⟩ => ⟨S4096x128, .f32⟩
  | .hbm, ⟨59, _⟩ => ⟨S4096x128, .f32⟩
  | .hbm, ⟨60, _⟩ => ⟨S_, .f32⟩
  | .hbm, ⟨61, _⟩ => ⟨S4096x64, .f32⟩
  | .hbm, ⟨62, _⟩ => ⟨S4096x128, .f32⟩
  | .hbm, ⟨63, _⟩ => ⟨S_, .f32⟩
  | .hbm, ⟨64, _⟩ => ⟨S4096x64, .f32⟩
  | .hbm, ⟨65, _⟩ => ⟨S4096x128, .f32⟩
  | .hbm, ⟨66, _⟩ => ⟨S1x4096x128, .f32⟩
  | .hbm, ⟨67, _⟩ => ⟨S1x4096x128, .f32⟩
  | .hbm, ⟨68, _⟩ => ⟨S1x4096x128, .f32⟩
  | .hbm, ⟨69, _⟩ => ⟨S1x4096x128, .f32⟩
  | .hbm, ⟨70, _⟩ => ⟨S1x4096x128, .f32⟩
  | .hbm, ⟨71, _⟩ => ⟨S1x4096x128, .f32⟩
  | .hbm, ⟨72, _⟩ => ⟨S6x4096x128, .f32⟩
  | .hbm, ⟨73, _⟩ => ⟨S4x4096x512, .bf16⟩
  | .hbm, ⟨74, _⟩ => ⟨S4x4096x512, .bf16⟩
  | .hbm, ⟨75, _⟩ => ⟨S4x4096x128, .f32⟩
  | .hbm, ⟨76, _⟩ => ⟨S4x4096x128, .f32⟩
  | .hbm, ⟨77, _⟩ => ⟨S4x4096x128, .bf16⟩
  | .hbm, ⟨78, _⟩ => ⟨S4x4096x128, .bf16⟩
  | .hbm, ⟨79, _⟩ => ⟨S4x4096x128, .f32⟩
  | .hbm, ⟨80, _⟩ => ⟨S4x4096x128, .bf16⟩
  | .hbm, ⟨81, _⟩ => ⟨S4x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2432, .bf16⟩
  | .local _ .vmem, ⟨8, _⟩ => ⟨S2x128, .f32⟩
  | .local _ .vmem, ⟨9, _⟩ => ⟨S6x512x128, .f32⟩
  | .local _ .vmem, ⟨10, _⟩ => ⟨S6x512x128, .f32⟩
  | .local _ .vmem, ⟨11, _⟩ => ⟨S128x128, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .bf16⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x128, .f32⟩
  | .local _ .vmem, ⟨25, _⟩ => ⟨S1x512x128, .f32⟩
  | .local _ .vmem, ⟨26, _⟩ => ⟨S1x512x128, .bf16⟩
  | .local _ .vmem, ⟨27, _⟩ => ⟨S1x512x128, .bf16⟩
  | .local _ .vmem, ⟨28, _⟩ => ⟨S1x512x512, .f32⟩
  | .local _ .vmem, ⟨29, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55_0 : Ref sig .tc := ⟨.hbm, 73, rfl⟩
abbrev main_v55_1 : Ref sig .tc := ⟨.hbm, 74, rfl⟩
abbrev main_v55_2 : Ref sig .tc := ⟨.hbm, 75, rfl⟩
abbrev main_v55_3 : Ref sig .tc := ⟨.hbm, 76, rfl⟩
abbrev main_v55_4 : Ref sig .tc := ⟨.hbm, 77, rfl⟩
abbrev main_v55_5 : Ref sig .tc := ⟨.hbm, 78, rfl⟩
abbrev main_v55_6 : Ref sig .tc := ⟨.hbm, 79, rfl⟩
abbrev main_v55_7 : Ref sig .tc := ⟨.hbm, 80, rfl⟩
abbrev main_v55_8 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S6x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InQueryRefIdeal.lean ====
abbrev S4x4096x1024 : Shape := ⟨3, ![4, 4096, 1024]⟩
abbrev S4x1x6144 : Shape := ⟨3, ![4, 1, 6144]⟩
abbrev S1024 : Shape := ⟨1, ![1024]⟩
abbrev S1024x2376 : Shape := ⟨2, ![1024, 2376]⟩
abbrev S64 : Shape := ⟨1, ![64]⟩
abbrev S4096 : Shape := ⟨1, ![4096]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2376 : Shape := ⟨3, ![4, 4096, 2376]⟩
abbrev S4x4096x512 : Shape := ⟨3, ![4, 4096, 512]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x8x8 : Shape := ⟨4, ![4, 4096, 8, 8]⟩
abbrev S1x4096x1x8 : Shape := ⟨4, ![1, 4096, 1, 8]⟩
abbrev S4x4096x8x48 : Shape := ⟨4, ![4, 4096, 8, 48]⟩

abbrev nBuf : Space → Nat
  | .hbm => 96
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S4096, .i32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x2376, .f32⟩
  | .hbm, ⟨37, _⟩ => ⟨S4x4096x512, .f32⟩
  | .hbm, ⟨38, _⟩ => ⟨S4x4096x8x64, .f32⟩
  | .hbm, ⟨39, _⟩ => ⟨S4x4096x8x64, .f32⟩
  | .hbm, ⟨40, _⟩ => ⟨S_, .f32⟩
  | .hbm, ⟨41, _⟩ => ⟨S4x4096x8, .f32⟩
  | .hbm, ⟨42, _⟩ => ⟨S4x4096x8x1, .f32⟩
  | .hbm, ⟨43, _⟩ => ⟨S_, .f32⟩
  | .hbm, ⟨44, _⟩ => ⟨S4x4096x8x1, .f32⟩
  | .hbm, ⟨45, _⟩ => ⟨S4x4096x8x1, .f32⟩
  | .hbm, ⟨46, _⟩ => ⟨S_, .f32⟩
  | .hbm, ⟨47, _⟩ => ⟨S4x4096x8x1, .f32⟩
  | .hbm, ⟨48, _⟩ => ⟨S4x4096x8x1, .f32⟩
  | .hbm, ⟨49, _⟩ => ⟨S4x4096x8x1, .f32⟩
  | .hbm, ⟨50, _⟩ => ⟨S4x4096x8x64, .f32⟩
  | .hbm, ⟨51, _⟩ => ⟨S4x4096x8x64, .f32⟩
  | .hbm, ⟨52, _⟩ => ⟨S1x1x1x64, .f32⟩
  | .hbm, ⟨53, _⟩ => ⟨S4x4096x8x64, .f32⟩
  | .hbm, ⟨54, _⟩ => ⟨S4x4096x8x64, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S4096, .f32⟩
  | .hbm, ⟨64, _⟩ => ⟨S4096x1, .f32⟩
  | .hbm, ⟨65, _⟩ => ⟨S1x8, .f32⟩
  | .hbm, ⟨66, _⟩ => ⟨S4096x8, .f32⟩
  | .hbm, ⟨67, _⟩ => ⟨S4096x8, .f32⟩
  | .hbm, ⟨68, _⟩ => ⟨S4096x8, .f32⟩
  | .hbm, ⟨69, _⟩ => ⟨S4096x8, .f32⟩
  | .hbm, ⟨70, _⟩ => ⟨S4096x1x8, .f32⟩
  | .hbm, ⟨71, _⟩ => ⟨S4096x8, .f32⟩
  | .hbm, ⟨72, _⟩ => ⟨S4096x1x8, .f32⟩
  | .hbm, ⟨73, _⟩ => ⟨S4x4096x8x8, .f32⟩
  | .hbm, ⟨74, _⟩ => ⟨S4x4096x8x8, .f32⟩
  | .hbm, ⟨75, _⟩ => ⟨S1x4096x1x8, .f32⟩
  | .hbm, ⟨76, _⟩ => ⟨S4x4096x8x8, .f32⟩
  | .hbm, ⟨77, _⟩ => ⟨S4x4096x8x8, .f32⟩
  | .hbm, ⟨78, _⟩ => ⟨S1x4096x1x8, .f32⟩
  | .hbm, ⟨79, _⟩ => ⟨S4x4096x8x8, .f32⟩
  | .hbm, ⟨80, _⟩ => ⟨S4x4096x8x8, .f32⟩
  | .hbm, ⟨81, _⟩ => ⟨S4x4096x8x8, .f32⟩
  | .hbm, ⟨82, _⟩ => ⟨S1x4096x1x8, .f32⟩
  | .hbm, ⟨83, _⟩ => ⟨S4x4096x8x8, .f32⟩
  | .hbm, ⟨84, _⟩ => ⟨S4x4096x8x8, .f32⟩
  | .hbm, ⟨85, _⟩ => ⟨S1x4096x1x8, .f32⟩
  | .hbm, ⟨86, _⟩ => ⟨S4x4096x8x8, .f32⟩
  | .hbm, ⟨87, _⟩ => ⟨S4x4096x8x8, .f32⟩
  | .hbm, ⟨88, _⟩ => ⟨S4x4096x8x8, .f32⟩
  | .hbm, ⟨89, _⟩ => ⟨S4x4096x8x48, .f32⟩
  | .hbm, ⟨90, _⟩ => ⟨S4x4096x8x64, .f32⟩
  | .hbm, ⟨91, _⟩ => ⟨S4x4096x512, .f32⟩
  | .hbm, ⟨92, _⟩ => ⟨S_, .f32⟩
  | .hbm, ⟨93, _⟩ => ⟨S4x4096x512, .f32⟩
  | .hbm, ⟨94, _⟩ => ⟨S4x4096x512, .f32⟩
  | .hbm, ⟨95, _⟩ => ⟨S4x4096x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_8 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩

abbrev nD : Nat := 1
abbrev τ : Topo := Topo.v7x

variable {F : FTy → Type} [FloatOps F]
-- ==== InIndex.lean ====
abbrev S4x4096x1024 : Shape := ⟨3, ![4, 4096, 1024]⟩
abbrev S4x1x6144 : Shape := ⟨3, ![4, 1, 6144]⟩
abbrev S1024 : Shape := ⟨1, ![1024]⟩
abbrev S1024x2376 : Shape := ⟨2, ![1024, 2376]⟩
abbrev S64 : Shape := ⟨1, ![64]⟩
abbrev S128x128 : Shape := ⟨2, ![128, 128]⟩
abbrev S4096 : Shape := ⟨1, ![4096]⟩
abbrev S1024x1352 : Shape := ⟨2, ![1024, 1352]⟩
abbrev S_ : Shape := ⟨0, ![]⟩
abbrev S1024x56 : Shape := ⟨2, ![1024, 56]⟩
abbrev S1024x1024 : Shape := ⟨2, ![1024, 1024]⟩
abbrev S1024x2432 : Shape := ⟨2, ![1024, 2432]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S1x1024 : Shape := ⟨2, ![1, 1024]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S4096x128 : Shape := ⟨2, ![4096, 128]⟩
abbrev S1x4096x128 : Shape := ⟨3, ![1, 4096, 128]⟩
abbrev S6x4096x128 : Shape := ⟨3, ![6, 4096, 128]⟩
abbrev S4x4096x512 : Shape := ⟨3, ![4, 4096, 512]⟩
abbrev S4x4096x128 : Shape := ⟨3, ![4, 4096, 128]⟩
abbrev S1x512x1024 : Shape := ⟨3, ![1, 512, 1024]⟩
abbrev S1x1x1024 : Shape := ⟨3, ![1, 1, 1024]⟩
abbrev S6x512x128 : Shape := ⟨3, ![6, 512, 128]⟩
abbrev S1x512x512 : Shape := ⟨3, ![1, 512, 512]⟩
abbrev S1x512x128 : Shape := ⟨3, ![1, 512, 128]⟩
abbrev S1x512 : Shape := ⟨2, ![1, 512]⟩
abbrev S1x512x1 : Shape := ⟨3, ![1, 512, 1]⟩
abbrev S512x1024 : Shape := ⟨2, ![512, 1024]⟩
abbrev S512x128 : Shape := ⟨2, ![512, 128]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S1024x128 : Shape := ⟨2, ![1024, 128]⟩

abbrev nBuf : Space → Nat
  | .hbm => 82
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S128x128, .bf16⟩
  | .hbm, ⟨7, _⟩ => ⟨S4096, .i32⟩
  | .hbm, ⟨8, _⟩ => ⟨S1024x1352, .f32⟩
  | .hbm, ⟨9, _⟩ => ⟨S_, .f32⟩
  | .hbm, ⟨10, _⟩ => ⟨S1024x56, .f32⟩
  | .hbm, ⟨11, _⟩ => ⟨S1024x1024, .f32⟩
  | .hbm, ⟨12, _⟩ => ⟨S1024x2432, .f32⟩
  | .hbm, ⟨13, _⟩ => ⟨S1024x2432, .bf16⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S1x128, .f32⟩
  | .hbm, ⟨22, _⟩ => ⟨S2x128, .f32⟩
  | .hbm, ⟨23, _⟩ => ⟨S1x1024, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S4096, .f32⟩
  | .hbm, ⟨33, _⟩ => ⟨S4096x1, .f32⟩
  | .hbm, ⟨34, _⟩ => ⟨S1x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S_, .f32⟩
  | .hbm, ⟨41, _⟩ => ⟨S4096x48, .f32⟩
  | .hbm, ⟨42, _⟩ => ⟨S4096x64, .f32⟩
  | .hbm, ⟨43, _⟩ => ⟨S4096x8, .f32⟩
  | .hbm, ⟨44, _⟩ => ⟨S_, .f32⟩
  | .hbm, ⟨45, _⟩ => ⟨S4096x56, .f32⟩
  | .hbm, ⟨46, _⟩ => ⟨S4096x64, .f32⟩
  | .hbm, ⟨47, _⟩ => ⟨S_, .f32⟩
  | .hbm, ⟨48, _⟩ => ⟨S4096x8, .f32⟩
  | .hbm, ⟨49, _⟩ => ⟨S_, .f32⟩
  | .hbm, ⟨50, _⟩ => ⟨S4096x48, .f32⟩
  | .hbm, ⟨51, _⟩ => ⟨S4096x64, .f32⟩
  | .hbm, ⟨52, _⟩ => ⟨S_, .f32⟩
  | .hbm, ⟨53, _⟩ => ⟨S4096x8, .f32⟩
  | .hbm, ⟨54, _⟩ => ⟨S_, .f32⟩
  | .hbm, ⟨55, _⟩ => ⟨S4096x56, .f32⟩
  | .hbm, ⟨56, _⟩ => ⟨S4096x128, .f32⟩
  | .hbm, ⟨57, _⟩ => ⟨S4096x128, .f32⟩
  | .hbm, ⟨58, _⟩ => ⟨S4096x128, .f32⟩
  | .hbm, ⟨59, _⟩ => ⟨S4096x128, .f32⟩
  | .hbm, ⟨60, _⟩ => ⟨S_, .f32⟩
  | .hbm, ⟨61, _⟩ => ⟨S4096x64, .f32⟩
  | .hbm, ⟨62, _⟩ => ⟨S4096x128, .f32⟩
  | .hbm, ⟨63, _⟩ => ⟨S_, .f32⟩
  | .hbm, ⟨64, _⟩ => ⟨S4096x64, .f32⟩
  | .hbm, ⟨65, _⟩ => ⟨S4096x128, .f32⟩
  | .hbm, ⟨66, _⟩ => ⟨S1x4096x128, .f32⟩
  | .hbm, ⟨67, _⟩ => ⟨S1x4096x128, .f32⟩
  | .hbm, ⟨68, _⟩ => ⟨S1x4096x128, .f32⟩
  | .hbm, ⟨69, _⟩ => ⟨S1x4096x128, .f32⟩
  | .hbm, ⟨70, _⟩ => ⟨S1x4096x128, .f32⟩
  | .hbm, ⟨71, _⟩ => ⟨S1x4096x128, .f32⟩
  | .hbm, ⟨72, _⟩ => ⟨S6x4096x128, .f32⟩
  | .hbm, ⟨73, _⟩ => ⟨S4x4096x512, .bf16⟩
  | .hbm, ⟨74, _⟩ => ⟨S4x4096x512, .bf16⟩
  | .hbm, ⟨75, _⟩ => ⟨S4x4096x128, .f32⟩
  | .hbm, ⟨76, _⟩ => ⟨S4x4096x128, .f32⟩
  | .hbm, ⟨77, _⟩ => ⟨S4x4096x128, .bf16⟩
  | .hbm, ⟨78, _⟩ => ⟨S4x4096x128, .bf16⟩
  | .hbm, ⟨79, _⟩ => ⟨S4x4096x128, .f32⟩
  | .hbm, ⟨80, _⟩ => ⟨S4x4096x128, .bf16⟩
  | .hbm, ⟨81, _⟩ => ⟨S4x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2432, .bf16⟩
  | .local _ .vmem, ⟨8, _⟩ => ⟨S2x128, .f32⟩
  | .local _ .vmem, ⟨9, _⟩ => ⟨S6x512x128, .f32⟩
  | .local _ .vmem, ⟨10, _⟩ => ⟨S6x512x128, .f32⟩
  | .local _ .vmem, ⟨11, _⟩ => ⟨S128x128, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .bf16⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x128, .f32⟩
  | .local _ .vmem, ⟨25, _⟩ => ⟨S1x512x128, .f32⟩
  | .local _ .vmem, ⟨26, _⟩ => ⟨S1x512x128, .bf16⟩
  | .local _ .vmem, ⟨27, _⟩ => ⟨S1x512x128, .bf16⟩
  | .local _ .vmem, ⟨28, _⟩ => ⟨S1x512x512, .f32⟩
  | .local _ .vmem, ⟨29, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55_0 : Ref sig .tc := ⟨.hbm, 73, rfl⟩
abbrev main_v55_1 : Ref sig .tc := ⟨.hbm, 74, rfl⟩
abbrev main_v55_2 : Ref sig .tc := ⟨.hbm, 75, rfl⟩
abbrev main_v55_3 : Ref sig .tc := ⟨.hbm, 76, rfl⟩
abbrev main_v55_4 : Ref sig .tc := ⟨.hbm, 77, rfl⟩
abbrev main_v55_5 : Ref sig .tc := ⟨.hbm, 78, rfl⟩
abbrev main_v55_6 : Ref sig .tc := ⟨.hbm, 79, rfl⟩
abbrev main_v55_7 : Ref sig .tc := ⟨.hbm, 80, rfl⟩
abbrev main_v55_8 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S6x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InIndexRefIdeal.lean ====
abbrev S4x4096x1024 : Shape := ⟨3, ![4, 4096, 1024]⟩
abbrev S4x1x6144 : Shape := ⟨3, ![4, 1, 6144]⟩
abbrev S1024 : Shape := ⟨1, ![1024]⟩
abbrev S1024x2376 : Shape := ⟨2, ![1024, 2376]⟩
abbrev S64 : Shape := ⟨1, ![64]⟩
abbrev S4096 : Shape := ⟨1, ![4096]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2376 : Shape := ⟨3, ![4, 4096, 2376]⟩
abbrev S4x4096x512 : Shape := ⟨3, ![4, 4096, 512]⟩
abbrev S4x4096x8x64 : Shape := ⟨4, ![4, 4096, 8, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x8x8 : Shape := ⟨4, ![4, 4096, 8, 8]⟩
abbrev S1x4096x1x8 : Shape := ⟨4, ![1, 4096, 1, 8]⟩
abbrev S4x4096x8x48 : Shape := ⟨4, ![4, 4096, 8, 48]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x2376, .f32⟩
  | .hbm, ⟨4, _⟩ => ⟨S64, .f32⟩
  | .hbm, ⟨5, _⟩ => ⟨S64, .f32⟩
  | .hbm, ⟨6, _⟩ => ⟨S4096, .i32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x2376, .f32⟩
  | .hbm, ⟨37, _⟩ => ⟨S4x4096x512, .f32⟩
  | .hbm, ⟨38, _⟩ => ⟨S4x4096x8x64, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S4096, .f32⟩
  | .hbm, ⟨48, _⟩ => ⟨S4096x1, .f32⟩
  | .hbm, ⟨49, _⟩ => ⟨S1x8, .f32⟩
  | .hbm, ⟨50, _⟩ => ⟨S4096x8, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S4096x1x8, .f32⟩
  | .hbm, ⟨55, _⟩ => ⟨S4096x8, .f32⟩
  | .hbm, ⟨56, _⟩ => ⟨S4096x1x8, .f32⟩
  | .hbm, ⟨57, _⟩ => ⟨S4x4096x8x8, .f32⟩
  | .hbm, ⟨58, _⟩ => ⟨S4x4096x8x8, .f32⟩
  | .hbm, ⟨59, _⟩ => ⟨S1x4096x1x8, .f32⟩
  | .hbm, ⟨60, _⟩ => ⟨S4x4096x8x8, .f32⟩
  | .hbm, ⟨61, _⟩ => ⟨S4x4096x8x8, .f32⟩
  | .hbm, ⟨62, _⟩ => ⟨S1x4096x1x8, .f32⟩
  | .hbm, ⟨63, _⟩ => ⟨S4x4096x8x8, .f32⟩
  | .hbm, ⟨64, _⟩ => ⟨S4x4096x8x8, .f32⟩
  | .hbm, ⟨65, _⟩ => ⟨S4x4096x8x8, .f32⟩
  | .hbm, ⟨66, _⟩ => ⟨S1x4096x1x8, .f32⟩
  | .hbm, ⟨67, _⟩ => ⟨S4x4096x8x8, .f32⟩
  | .hbm, ⟨68, _⟩ => ⟨S4x4096x8x8, .f32⟩
  | .hbm, ⟨69, _⟩ => ⟨S1x4096x1x8, .f32⟩
  | .hbm, ⟨70, _⟩ => ⟨S4x4096x8x8, .f32⟩
  | .hbm, ⟨71, _⟩ => ⟨S4x4096x8x8, .f32⟩
  | .hbm, ⟨72, _⟩ => ⟨S4x4096x8x8, .f32⟩
  | .hbm, ⟨73, _⟩ => ⟨S4x4096x8x48, .f32⟩
  | .hbm, ⟨74, _⟩ => ⟨S4x4096x8x64, .f32⟩
  | .hbm, ⟨75, _⟩ => ⟨S4x4096x512, .f32⟩
  | .hbm, ⟨76, _⟩ => ⟨S4x4096x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Proof.AttnKeeps.lean ====
/-
  A resource that a piece of the attention kernel gives back as it took it.  The kernel's memory operations are loads
  from its fourteen memrefs and stores into seven of them; which rectangle a load reads or a store writes depends on the
  trip of a loop or on a word, but every rectangle lies in its memref by the printed bounds.  So one assertion — the
  inputs at the contents they were handed at, the output and the scratch at SOME contents — is kept by every operation,
  both branches of every conditional and every trip of every loop, whatever was read.  `Keeps` says so of one piece, and
  the lemmas below compose it along the program.
-/
module

public import proofs.«01_k».proof.Proof.Gen.Attn.Skeleton
public import Idealize.ShloMosaic.Lib.Tactic
public import Idealize.ShloMosaic.Lib.Pipeline.Kit

@[expose] public section

noncomputable section

namespace Cert.Proof.Attn

open Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The piece `p`, run on core `c` from `R`, returns `R`. -/
def Keeps (c : Dev nD) (R : sProp 𝕄) {α : Type} (p : Prog (TpuEff nD τ sig (Elt F) Λ₀ .tc) α) : Prop :=
  R ⊢ wp frame (wpE (defs₀ (F := F)) Variants.none c none) Set.univ p (fun _ => R)

/-- `R` lends memref `M`'s elements at some contents, and takes them back unchanged. -/
structure Reads (c : Dev nD) (R : sProp 𝕄) {S : Shape} {e : EltTy} (M : Memref sig .tc .vmem S e) : Prop where
  whole : M.IsWhole
  lend : R ⊢ iprop(∃ f, (M.view.loc (c : Thread nD τ) ↦[M.view.set]{fullShare} f) ∗ ((M.view.loc (c : Thread nD τ) ↦[M.view.set]{fullShare} f) -∗ R))

/-- `R` lends memref `M`'s elements at some contents, and takes them back at any contents. -/
structure Writes (c : Dev nD) (R : sProp 𝕄) {S : Shape} {e : EltTy} (M : Memref sig .tc .vmem S e) : Prop where
  whole : M.IsWhole
  lend : R ⊢ iprop(∃ f, (M.view.loc (c : Thread nD τ) ↦[M.view.set]{fullShare} f) ∗ (∀ f', (M.view.loc (c : Thread nD τ) ↦[M.view.set]{fullShare} f') -∗ R))

section Rules

variable {c : Dev nD} {R : sProp (MT nD τ sig Unit (Elt F) ℕ (UR sig nD τ) ℕ)} {α β : Type}

theorem Writes.reads {S : Shape} {e : EltTy} {M : Memref sig .tc .vmem S e} (h : Writes c R M) : Reads c R M where
  whole := h.whole
  lend := by
    refine h.lend.trans ?_
    iintro ⟨%f, H, Hk⟩
    iexists f
    isplitl [H]; · iexact H
    iapply Hk

/-- A value returned. -/
theorem Keeps.ret (a : α) : Keeps c R (pure a : Prog (TpuEff nD τ sig (Elt F) Λ₀ .tc) α) := by
  unfold Keeps
  rw [show (pure a : Prog (TpuEff nD τ sig (Elt F) Λ₀ .tc) α) = .ret a from rfl, wp_ret]
  iintro H; imodintro; iexact H

/-- One piece after another. -/
theorem Keeps.bind {p : Prog (TpuEff nD τ sig (Elt F) Λ₀ .tc) α} {k : α → Prog (TpuEff nD τ sig (Elt F) Λ₀ .tc) β}
    (hp : Keeps c R p) (hk : ∀ a, Keeps c R (k a)) : Keeps c R (p >>= k) := by
  unfold Keeps
  rw [wp_bind]
  exact hp.trans (wp_mono _ _ _ hk)

/-- A load. -/
theorem Keeps.load {S : Shape} {e : EltTy} {M : Memref sig .tc .vmem S e} (hM : Reads c R M) (r : LoadRect S) (hl : M.view.LoadsAt r) :
    Keeps c R (Prog.lift (.load M r hl) : Prog (TpuEff nD τ sig (Elt F) Λ₀ .tc) (r.shape.Idx → Elt F e)) := by
  unfold Keeps
  refine hM.lend.trans ?_
  iintro ⟨%f, H, Hk⟩
  iapply (wp_load Variants.none (c : Thread nD τ) none Set.univ (S := M.view.set) (q := fullShare) (f := f) (by rw [hM.whole.set_eq_univ]; exact Finset.subset_univ _)) $$ H
  iintro H
  rw [wp_ret]
  imodintro
  iapply Hk; iexact H

/-- A store. -/
theorem Keeps.store {S : Shape} {e : EltTy} {M : Memref sig .tc .vmem S e} (hM : Writes c R M) (r : Rect S) (w : r.shape.Idx → Elt F e)
    (Mk : Finset r.shape.Idx) (hx : (M.access r).Stores Mk) (hm : Mk = Finset.univ ∨ ∀ a, r.stride a = 1) :
    Keeps c R (Prog.lift (.store M r w Mk hx hm) : Prog (TpuEff nD τ sig (Elt F) Λ₀ .tc) PUnit) := by
  unfold Keeps
  refine hM.lend.trans ?_
  iintro ⟨%f, H, Hk⟩
  iapply (wp_store Variants.none (c : Thread nD τ) none Set.univ (m := M) (r := r) (S := M.view.set) (f := f) (by rw [hM.whole.set_eq_univ]; exact Finset.subset_univ _)) $$ H
  iintro H
  rw [wp_ret]
  imodintro
  iapply Hk; iexact H

/-- A conditional of either branch. -/
theorem Keeps.dite {q : Prop} [Decidable q] {a : q → Prog (TpuEff nD τ sig (Elt F) Λ₀ .tc) α} {b : ¬q → Prog (TpuEff nD τ sig (Elt F) Λ₀ .tc) α}
    (ha : ∀ h, Keeps c R (a h)) (hb : ∀ h, Keeps c R (b h)) : Keeps c R (if h : q then a h else b h) := by
  by_cases h : q
  · rw [dif_pos h]; exact ha h
  · rw [dif_neg h]; exact hb h

theorem Keeps.ite {q : Prop} [Decidable q] {a b : Prog (TpuEff nD τ sig (Elt F) Λ₀ .tc) α}
    (ha : Keeps c R a) (hb : Keeps c R b) : Keeps c R (if q then a else b) := by
  by_cases h : q
  · rw [if_pos h]; exact ha
  · rw [if_neg h]; exact hb

/-- A counted loop, by its region at every trip and every carried value. -/
theorem Keeps.loop {w : ℕ} {σ : Type} (l : Scf.Loop w) (hok : l.OK) (init : σ) (body : Fin l.trips → σ → Prog (TpuEff nD τ sig (Elt F) Λ₀ .tc) σ)
    (hb : ∀ k acc, Keeps c R (body k acc)) : Keeps c R (Scf.Loop.for l hok init body) := by
  unfold Keeps
  refine BIBase.Entails.trans ?_ (Scf.wp_for frame (wpE (defs₀ (F := F)) Variants.none c none) Set.univ l.lb l.ub l.st hok init body (fun _ _ => R) hb)
  iintro H
  isplitl [H]; · iexact H
  iintro %acc H; iexact H

end Rules

end Cert.Proof.Attn

end
-- ==== Proof.AttnBody.lean ====
/-
  The attention kernel's body keeps its resource: every load, store, conditional and loop of the printed program, one
  after another, by `AttnKeeps`' rules.
-/
module

public import proofs.«01_k».proof.Proof.AttnKeeps

@[expose] public section

noncomputable section

namespace Cert.Proof.Attn

open Cert.Attn
open Idealize.ShloMosaic
open Idealize.SL Idealize.SL.RA Idealize.SL.BI Idealize.SL.Sem
open Idealize.ShloMosaic.Rounds

variable {F : FTy → Type} [BitOps F]

attribute [local irreducible] Keeps

set_option maxHeartbeats 0 in
set_option maxRecDepth 65536 in
/-- The whole body, over any memrefs that lie in the resource. -/
theorem keeps_body {c : Dev nD} {R : sProp (MT nD τ sig Unit (Elt F) ℕ (UR sig nD τ) ℕ)} (i : grid0.Coords)
    {arg2 : Memref sig .tc .vmem S1x512x512 .bf16} (h2 : Reads c R arg2) {arg3 : Memref sig .tc .vmem S1x512x512 .bf16} (h3 : Reads c R arg3)
    {arg4 : Memref sig .tc .vmem S1x512x128 .f32} (h4 : Reads c R arg4) {arg5 : Memref sig .tc .vmem S1x4096x128 .bf16} (h5 : Reads c R arg5)
    {arg6 : Memref sig .tc .vmem S1x4096x128 .bf16} (h6 : Reads c R arg6) {arg7 : Memref sig .tc .vmem S1x4096x128 .bf16} (h7 : Reads c R arg7)
    {arg8 : Memref sig .tc .vmem S128x128 .bf16} (h8 : Reads c R arg8) {arg9 : Memref sig .tc .vmem S1x512x512 .bf16} (h9 : Writes c R arg9)
    {arg10 : Memref sig .tc .vmem S32x512x128 .f32} (h10 : Writes c R arg10) {arg11 : Memref sig .tc .vmem S2x2048x128 .f32} (h11 : Writes c R arg11)
    {arg12 : Memref sig .tc .vmem S2x2048x128 .f32} (h12 : Writes c R arg12) {arg13 : Memref sig .tc .vmem S8x128 .f32} (h13 : Writes c R arg13)
    {arg14 : Memref sig .tc .vmem S3x512x128 .f32} (h14 : Writes c R arg14) {arg15 : Memref sig .tc .vmem S32x512x128 .i32} (h15 : Writes c R arg15) :
    Keeps c R (cc0_dsa_attention (F := F) i arg2 h2.whole arg3 h3.whole arg4 h4.whole arg5 h5.whole arg6 h6.whole arg7 h7.whole arg8 h8.whole arg9 h9.whole
      arg10 h10.whole arg11 h11.whole arg12 h12.whole arg13 h13.whole arg14 h14.whole arg15 h15.whole) := by
  rw [Gen.cc0_dsa_attention_eq_skeleton]
  unfold Gen.cc0_dsa_attention_skel
  repeat' (first
    | intro _
    | with_reducible exact hj _
    | (extract_lets j
       refine have hj : ∀ y, Keeps c R (j y) := ?_; ?_
       on_goal 2 => clear_value j)
    | with_reducible exact Keeps.ret _
    | with_reducible exact Keeps.load (by assumption) _ _
    | with_reducible exact Keeps.load (Writes.reads (by assumption)) _ _
    | with_reducible exact Keeps.store (by assumption) _ _ _ _ _
    | with_reducible refine Keeps.bind ?_ (fun _ => ?_)
    | with_reducible refine Keeps.dite (fun _ => ?_) (fun _ => ?_)
    | with_reducible refine Keeps.ite ?_ ?_
    | with_reducible refine Keeps.loop _ _ _ _ (fun _ _ => ?_)
    | refine Keeps.bind ?_ (fun _ => ?_)
    | exact Keeps.ret _
    | (first | rw [Gen.k0_part314_eq_skeleton] | rw [Gen.k0_part316_eq_skeleton] | rw [Gen.k0_part319_eq_skeleton] | rw [Gen.k0_part103_eq_skeleton] | rw [Gen.k0_part126_eq_skeleton]
       first | unfold Gen.k0_part314_skel | unfold Gen.k0_part316_skel | unfold Gen.k0_part319_skel | unfold Gen.k0_part103_skel | unfold Gen.k0_part126_skel))

end Cert.Proof.Attn

end
-- ==== Proof.AttnFrame.lean ====
/-
  The frame of the attention call: at every grid point the body keeps its resource (`AttnBody.keeps_body`), so every run of
  the call ends with its argument arrays unchanged and every semaphore counter at zero.
-/
module

public import proofs.«01_k».proof.Proof.AttnBody
public import proofs.«01_k».proof.Proof.Gen.Attn.Frame
public import Idealize.ShloMosaic.Lib.Claim

@[expose] public section

set_option maxRecDepth 16384

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-! ## Where a memref lies in the resource -/

section Lend

variable {c : Dev nD} {P Q : sProp (MT nD τ sig Unit (Elt F) ℕ (UR sig nD τ) ℕ)} {S : Shape} {e : EltTy} {M : Memref sig .tc .vmem S e}

/-- A memref owned at known contents is lent and taken back at those contents. -/
theorem Reads.owned (hM : M.IsWhole) (X : S.Idx → Elt F e) : Reads c (owns (c : Thread nD τ) M fullShare X : sProp (MT nD τ sig Unit (Elt F) ℕ (UR sig nD τ) ℕ)) M where
  whole := hM
  lend := by
    unfold owns
    iintro ⟨%f, %hf, H⟩
    iexists f
    isplitl [H]; · iexact H
    iintro H
    iexists f
    isplitr; · ipureintro; exact hf
    iexact H

/-- A memref owned at some contents is lent and taken back at any. -/
theorem Writes.owned (hM : M.IsWhole) : Writes c (iprop(∃ X, owns (c : Thread nD τ) M fullShare X) : sProp (MT nD τ sig Unit (Elt F) ℕ (UR sig nD τ) ℕ)) M where
  whole := hM
  lend := by
    unfold owns
    iintro ⟨%X, %f, %hf, H⟩
    iexists f
    isplitl [H]; · iexact H
    iintro %f' H
    iexists (M.view.read (Elt F) f')
    iexists f'
    isplitr; · ipureintro; rfl
    iexact H

theorem Reads.left (h : Reads c P M) : Reads c iprop(P ∗ Q) M where
  whole := h.whole
  lend := by
    iintro ⟨HP, HQ⟩
    ihave H := h.lend $$ HP
    icases H with ⟨%f, H, Hk⟩
    iexists f
    isplitl [H]; · iexact H
    iintro H
    isplitr [HQ]; · iapply Hk; iexact H
    iexact HQ

theorem Reads.right (h : Reads c Q M) : Reads c iprop(P ∗ Q) M where
  whole := h.whole
  lend := by
    iintro ⟨HP, HQ⟩
    ihave H := h.lend $$ HQ
    icases H with ⟨%f, H, Hk⟩
    iexists f
    isplitl [H]; · iexact H
    iintro H
    isplitl [HP]; · iexact HP
    iapply Hk; iexact H

theorem Writes.left (h : Writes c P M) : Writes c iprop(P ∗ Q) M where
  whole := h.whole
  lend := by
    iintro ⟨HP, HQ⟩
    ihave H := h.lend $$ HP
    icases H with ⟨%f, H, Hk⟩
    iexists f
    isplitl [H]; · iexact H
    iintro %f' H
    isplitr [HQ]; · iapply Hk; iexact H
    iexact HQ

theorem Writes.right (h : Writes c Q M) : Writes c iprop(P ∗ Q) M where
  whole := h.whole
  lend := by
    iintro ⟨HP, HQ⟩
    ihave H := h.lend $$ HQ
    icases H with ⟨%f, H, Hk⟩
    iexists f
    isplitl [H]; · iexact H
    iintro %f' H
    isplitl [HP]; · iexact HP
    iapply Hk; iexact H

end Lend

/-! ## The pipeline's proof data: each input window keeps its block, the output is not named -/

local notation "𝕄" => MT nD τ sig Unit (Elt F) ℕ (UR sig nD τ) ℕ

variable (m : (ℓ : Loc nD τ sig) → Buf (Elt F) ℓ) (ρ : Dev nD → PrngReg)

/-- The output window's contents are forgotten. -/
def forgets : Fin 8 → Bool := fun w => w.val == 7

/-- Inputs stay at their blocks; the invariant is the scratch and the generator register at some state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is handed at point `t` and gives back: its invariant, and the staging memrefs of its windows. -/
def Res (c : Dev nD) (t : Fin cfg0.N) : sProp 𝕄 :=
  iprop(((∃ X, owns (c : Thread nD τ) (Memref.whole cc0_scratch0) fullShare X)
      ∗ (∃ X, owns (c : Thread nD τ) (Memref.whole cc0_scratch1) fullShare X) ∗ (∃ X, owns (c : Thread nD τ) (Memref.whole cc0_scratch2) fullShare X)
      ∗ (∃ X, owns (c : Thread nD τ) (Memref.whole cc0_scratch3) fullShare X) ∗ (∃ X, owns (c : Thread nD τ) (Memref.whole cc0_scratch4) fullShare X)
      ∗ (∃ X, owns (c : Thread nD τ) (Memref.whole cc0_scratch5) fullShare X))
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ owns (c : Thread nD τ) (st0_6 t) fullShare (iblk m c 6 t) ∗ (∃ X, owns (c : Thread nD τ) (st0_7 t) fullShare X)
    ∗ (∃ r, prngReg c r) ∗ (dats m 0 c).owesAt () t.castSucc)

/-- The body at point `t` keeps it. -/
theorem keeps_at (c : Dev nD) (t : Fin cfg0.N) : Keeps c (Res m c t) (bodyAt0 (F := F) t) :=
  keeps_body (grid0.coords t)
    (.right (.left (.owned (hstage0_0 ((cfg0.slots t 0).cast nbuf0_0)) _)))
    (.right (.right (.left (.owned (hstage0_1 ((cfg0.slots t 1).cast nbuf0_1)) _))))
    (.right (.right (.right (.left (.owned (hstage0_2 ((cfg0.slots t 2).cast nbuf0_2)) _)))))
    (.right (.right (.right (.right (.left (.owned (hstage0_3 ((cfg0.slots t 3).cast nbuf0_3)) _))))))
    (.right (.right (.right (.right (.right (.left (.owned (hstage0_4 ((cfg0.slots t 4).cast nbuf0_4)) _)))))))
    (.right (.right (.right (.right (.right (.right (.left (.owned (hstage0_5 ((cfg0.slots t 5).cast nbuf0_5)) _))))))))
    (.right (.right (.right (.right (.right (.right (.right (.left (.owned (hstage0_6 ((cfg0.slots t 6).cast nbuf0_6)) _)))))))))
    (.right (.right (.right (.right (.right (.right (.right (.right (.left (.owned (hstage0_7 ((cfg0.slots t 7).cast nbuf0_7))))))))))))
    (.left (.left (.owned (Memref.isWhole_whole _))))
    (.left (.right (.left (.owned (Memref.isWhole_whole _)))))
    (.left (.right (.right (.left (.owned (Memref.isWhole_whole _))))))
    (.left (.right (.right (.right (.left (.owned (Memref.isWhole_whole _)))))))
    (.left (.right (.right (.right (.right (.left (.owned (Memref.isWhole_whole _))))))))
    (.left (.right (.right (.right (.right (.right (.owned (Memref.isWhole_whole _))))))))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t
    ∗ (∃ d, owns (c : Thread nD τ) (st0_7 t) fullShare d))

/-- The invariant with the scratch operands as memrefs owned at some contents. -/
theorem inv_eq (c : Dev nD) (t : Fin (cfg0.N + 1)) :
    (dats m 0 c).Φ t = iprop(((∃ X, owns (c : Thread nD τ) (Memref.whole cc0_scratch0) fullShare X)
      ∗ (∃ X, owns (c : Thread nD τ) (Memref.whole cc0_scratch1) fullShare X) ∗ (∃ X, owns (c : Thread nD τ) (Memref.whole cc0_scratch2) fullShare X)
      ∗ (∃ X, owns (c : Thread nD τ) (Memref.whole cc0_scratch3) fullShare X) ∗ (∃ X, owns (c : Thread nD τ) (Memref.whole cc0_scratch4) fullShare X)
      ∗ (∃ X, owns (c : Thread nD τ) (Memref.whole cc0_scratch5) fullShare X)) ∗ (∃ r, prngReg c r)) := by
  show Pipeline.ΦA spec0 c = _
  unfold Pipeline.ΦA; rw [scopedRest0_eq]; simp only [owns_whole]; try rfl

theorem pre_res (c : Dev nD) (t : Fin cfg0.N) : bodyPre m c t ⊢ Res m c t := by
  unfold bodyPre Res
  rw [inv_eq]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl), before0_5_of m (dats m 0 c) (A_eq m c 5) (fun _ => rfl),
    before0_6_of m (dats m 0 c) (A_eq m c 6) (fun _ => rfl)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hg]; · iexact Hg
  iexact Ho

theorem res_post (c : Dev nD) (t : Fin cfg0.N) : Res m c t ⊢ bodyPost m c t := by
  unfold bodyPost Res
  rw [inv_eq, show (dats m 0 c).owesAt () t.succ = (dats m 0 c).owesAt () t.castSucc from rfl,
    show (dats m 0 c).leavesExact 0 t = owns (c : Thread nD τ) (st0_0 t) fullShare (iblk m c 0 t) from rfl, show (dats m 0 c).leavesExact 1 t = owns (c : Thread nD τ) (st0_1 t) fullShare (iblk m c 1 t) from rfl, show (dats m 0 c).leavesExact 2 t = owns (c : Thread nD τ) (st0_2 t) fullShare (iblk m c 2 t) from rfl,
    show (dats m 0 c).leavesExact 3 t = owns (c : Thread nD τ) (st0_3 t) fullShare (iblk m c 3 t) from rfl, show (dats m 0 c).leavesExact 4 t = owns (c : Thread nD τ) (st0_4 t) fullShare (iblk m c 4 t) from rfl, show (dats m 0 c).leavesExact 5 t = owns (c : Thread nD τ) (st0_5 t) fullShare (iblk m c 5 t) from rfl,
    show (dats m 0 c).leavesExact 6 t = owns (c : Thread nD τ) (st0_6 t) fullShare (iblk m c 6 t) from rfl]
  iintro ⟨HS, H0, H1, H2, H3, H4, H5, H6, H7, Hg, Ho⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body (c : Dev nD) (t : Fin cfg0.N) :
    bodyPre m c t ⊢ wp frame (wpE (defs₀ (F := F)) Variants.none c none) Set.univ (bodyAt0 t) (fun _ => bodyPost m c t) :=
  (pre_res m c t).trans (BIBase.Entails.trans (keeps_at m c t) (wp_mono _ _ _ fun _ => res_post m c t))

theorem body_obligation (c : Dev nD) : BodyObligation (dats (F := F) m 0 c) (defs₀ (F := F)) Variants.none () Set.univ forgets := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-! ## The run -/

set_option backward.isDefEq.respectTransparency.types false in
/-- Every run of the call ends with the input arrays as the pipeline found them and the counters at zero. -/
theorem run : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  have h0 := (θ_run defs (onTc (τ := τ) (main (F := F))) (s₀ m ρ)).mono (fun _ h => h.1) (run m ρ)
  θ_run_and ((θ_run defs _ _).mono (fun _ h c =>
    ⟨(Pipeline.RDat.FramePost.arr_in h c 0 rfl).trans (A_eq m c 0), (Pipeline.RDat.FramePost.arr_in h c 1 rfl).trans (A_eq m c 1),
      (Pipeline.RDat.FramePost.arr_in h c 2 rfl).trans (A_eq m c 2), (Pipeline.RDat.FramePost.arr_in h c 3 rfl).trans (A_eq m c 3),
      (Pipeline.RDat.FramePost.arr_in h c 4 rfl).trans (A_eq m c 4), (Pipeline.RDat.FramePost.arr_in h c 5 rfl).trans (A_eq m c 5),
      (Pipeline.RDat.FramePost.arr_in h c 6 rfl).trans (A_eq m c 6)⟩) h0)
    ((θ_run defs _ _).mono (fun _ h => h.2) (run m ρ))

end Cert.Proof.Attn

end
-- ==== Proof.MoeStep.lean ====
/- One step of the routed-experts call at the ideal instance: what four experts add to a token tile's accumulator, read
   entry by entry. -/
module

public import proofs.«01_k».proof.Proof.Gen.MoeIdeal.Value
public import Idealize.ShloMosaic.Lib.Pointwise
public import Idealize.ShloMosaic.Lib.Tactic

@[expose] public section

open Idealize.ShloMosaic

noncomputable section

namespace Cert.Proof.Moe

/-- One hidden unit of one expert for one token: the gated unit `a · σ(a) · u` of the token's features `h`, scaled by the
    token's gate `g` for the expert. -/
def unit (h wg wu : Fin 1024 → EReal) (g : EReal) : EReal :=
  (∑ k, h k * wg k) * Ideal.logistic (∑ k, h k * wg k) * (∑ k, h k * wu k) * g

/-- What one expert adds to one output feature of one token. -/
def expert (h : Fin 1024 → EReal) (g : EReal) (wg wu : Fin 256 → Fin 1024 → EReal) (wd : Fin 256 → EReal) : EReal :=
  ∑ f, unit h (wg f) (wu f) g * wd f

/-- A sum over the gate lanes with every lane but one masked to zero is that lane. -/
theorem lane_sum (g : Fin 128 → EReal) (w : BitVec 32) (l : Fin 128) (hw : w = BitVec.ofNat 32 l.val) :
    ∑ k : Fin 128, Scalar.select (IntOp.cmpi .eq (BitVec.ofNat 32 k.val) w) (g k) 0 = g l := by
  rw [Finset.sum_eq_single l]
  · subst hw; simp [IntOp.cmpi, Scalar.select]
  · intro k _ hk
    have h : (BitVec.ofNat 32 k.val == w) = false := by
      rw [beq_eq_false_iff_ne]
      subst hw
      intro h
      have := congrArg BitVec.toNat h
      simp only [BitVec.toNat_ofNat] at this
      have h1 := k.isLt; have h2 := l.isLt
      exact hk (Fin.ext (by omega))
    simp [IntOp.cmpi, Scalar.select, h]
  · intro h; exact absurd (Finset.mem_univ l) h

end Cert.Proof.Moe

namespace Cert.MoeIdeal.Gen

open Cert.MoeIdeal Cert.Proof.Moe

set_option maxRecDepth 16384
set_option maxHeartbeats 2000000

/-- THE STEP: the accumulator a grid point stores, entry by entry: what it read, plus the four experts' terms. -/
theorem step_apply (i : grid0.Coords) (v3 : Vec Ideal S1x1024x1024 .bf16) (v6 : Vec Ideal S1x1024x128 .f32)
    (g0 u0 g1 u1 g2 u2 g3 u3 : Vec Ideal S1x1024x256 .bf16) (d0 d1 d2 d3 : Vec Ideal S1x256x1024 .bf16)
    (acc : Vec Ideal S1024x1024 .f32) (r d : Fin 1024) (l0 l1 l2 l3 : Fin 128)
    (h0 : Scalar.addi (Scalar.muli (BitVec.ofNat 32 (i 2).val) 4#32) 0#32 = BitVec.ofNat 32 l0.val)
    (h1 : Scalar.addi (Scalar.muli (BitVec.ofNat 32 (i 2).val) 4#32) 1#32 = BitVec.ofNat 32 l1.val)
    (h2 : Scalar.addi (Scalar.muli (BitVec.ofNat 32 (i 2).val) 4#32) 2#32 = BitVec.ofNat 32 l2.val)
    (h3 : Scalar.addi (Scalar.muli (BitVec.ofNat 32 (i 2).val) 4#32) 3#32 = BitVec.ofNat 32 l3.val) :
    k0_pay1 (F := Ideal)
      (k0_pay10 (k0_pay4 v3)
        (k0_pay8 (BitVec.ofNat 32 (i 2).val) (k0_pay4 v3) (k0_pay5 v6) (iota .tc S1024x128 32 [1] iota_S1024x128_d1_w32)
          k0_pay6 (k0_pay7 i v3 v6 g0 u0) d0 g1 u1 d1)
        (k0_pay9 (BitVec.ofNat 32 (i 2).val) (k0_pay5 v6) (iota .tc S1024x128 32 [1] iota_S1024x128_d1_w32)) g2 u2 d2)
      (k0_pay11 (BitVec.ofNat 32 (i 2).val) (k0_pay4 v3) (k0_pay5 v6) (iota .tc S1024x128 32 [1] iota_S1024x128_d1_w32) g3 u3)
      d3 acc (ix2 r d)
      = acc (ix2 r d)
        + (expert (fun k => v3 (ix3 0 r k)) (v6 (ix3 0 r l0)) (fun f k => g0 (ix3 0 k f)) (fun f k => u0 (ix3 0 k f)) (fun f => d0 (ix3 0 f d))
          + expert (fun k => v3 (ix3 0 r k)) (v6 (ix3 0 r l1)) (fun f k => g1 (ix3 0 k f)) (fun f k => u1 (ix3 0 k f)) (fun f => d1 (ix3 0 f d))
          + expert (fun k => v3 (ix3 0 r k)) (v6 (ix3 0 r l2)) (fun f k => g2 (ix3 0 k f)) (fun f k => u2 (ix3 0 k f)) (fun f => d2 (ix3 0 f d))
          + expert (fun k => v3 (ix3 0 r k)) (v6 (ix3 0 r l3)) (fun f k => g3 (ix3 0 k f)) (fun f k => u3 (ix3 0 k f)) (fun f => d3 (ix3 0 f d))) := by
  pointwise [k0_pay1, k0_pay4, k0_pay5, k0_pay6, k0_pay7, k0_pay8, k0_pay9, k0_pay10, k0_pay11]
  simp only [lane_sum (fun x => v6 (ix3 0 r x)) _ l0 h0, lane_sum (fun x => v6 (ix3 0 r x)) _ l1 h1,
    lane_sum (fun x => v6 (ix3 0 r x)) _ l2 h2, lane_sum (fun x => v6 (ix3 0 r x)) _ l3 h3]
  rfl

/-- The output block: the residual plus the modulation row times the accumulator. -/
theorem out_apply (x : Vec Ideal S1x1024x1024 .f32) (md : Vec Ideal S1x1x1024 .f32) (acc : Vec Ideal S1024x1024 .f32) (r d : Fin 1024) :
    k0_pay2 (F := Ideal) x md acc (ix3 0 r d) = x (ix3 0 r d) + md (ix3 0 0 d) * acc (ix2 r d) := by
  pointwise [k0_pay2]

theorem zero_apply (r d : Fin 1024) : k0_pay3 (F := Ideal) (ix2 r d) = 0 := by
  pointwise [k0_pay3]

/-- The four experts of one grid point: what they add to entry `(r, d)` of the accumulator, from the point's blocks and the
    gate lanes `l0 … l3` of its experts. -/
def four (x0 : Vec Ideal S1x1024x1024 .bf16) (x1 : Vec Ideal S1x1024x128 .f32) (x4 x5 : Vec Ideal S4x1024x256 .bf16)
    (x6 : Vec Ideal S4x256x1024 .bf16) (l : Fin 4 → Fin 128) (r d : Fin 1024) : EReal :=
  let one (n : Fin 4) : EReal := expert (fun k => x0 (ix3 0 r k)) (x1 (ix3 0 r (l n))) (fun f k => x4 (ix3 n k f))
    (fun f k => x5 (ix3 n k f)) (fun f => x6 (ix3 n f d))
  one 0 + one 1 + one 2 + one 3

theorem zero2 : (![0, 0] : Fin 2 → Nat) = fun _ => 0 := funext fun a => by fin_cases a <;> rfl
theorem zero3 : (![0, 0, 0] : Fin 3 → Nat) = fun _ => 0 := funext fun a => by fin_cases a <;> rfl

/-- The step over the point's blocks, each expert's weights loaded from its slot of the block. -/
theorem step_four (i : grid0.Coords) (x0 : Vec Ideal S1x1024x1024 .bf16) (x1 : Vec Ideal S1x1024x128 .f32)
    (x4 x5 : Vec Ideal S4x1024x256 .bf16) (x6 : Vec Ideal S4x256x1024 .bf16)
    (acc : Vec Ideal S1024x1024 .f32) (r d : Fin 1024) (l : Fin 4 → Fin 128)
    (hl : ∀ n : Fin 4, Scalar.addi (Scalar.muli (BitVec.ofNat 32 (i 2).val) 4#32) (BitVec.ofNat 32 n.val) = BitVec.ofNat 32 (l n).val) :
    k0_pay1 (F := Ideal)
      (k0_pay10 (k0_pay4 x0)
        (k0_pay8 (BitVec.ofNat 32 (i 2).val) (k0_pay4 x0) (k0_pay5 x1) (iota .tc S1024x128 32 [1] iota_S1024x128_d1_w32)
          k0_pay6 (k0_pay7 i x0 x1 (View.ld x4 (Rect.unit ![0, 0, 0] ![1, 1024, 256] inb_S4x1024x256_S1x1024x256_0_0_0)) (View.ld x5 (Rect.unit ![0, 0, 0] ![1, 1024, 256] inb_S4x1024x256_S1x1024x256_0_0_0))) (View.ld x6 (Rect.unit ![0, 0, 0] ![1, 256, 1024] inb_S4x256x1024_S1x256x1024_0_0_0)) (View.ld x4 (Rect.unit ![1, 0, 0] ![1, 1024, 256] inb_S4x1024x256_S1x1024x256_1_0_0)) (View.ld x5 (Rect.unit ![1, 0, 0] ![1, 1024, 256] inb_S4x1024x256_S1x1024x256_1_0_0)) (View.ld x6 (Rect.unit ![1, 0, 0] ![1, 256, 1024] inb_S4x256x1024_S1x256x1024_1_0_0)))
        (k0_pay9 (BitVec.ofNat 32 (i 2).val) (k0_pay5 x1) (iota .tc S1024x128 32 [1] iota_S1024x128_d1_w32)) (View.ld x4 (Rect.unit ![2, 0, 0] ![1, 1024, 256] inb_S4x1024x256_S1x1024x256_2_0_0)) (View.ld x5 (Rect.unit ![2, 0, 0] ![1, 1024, 256] inb_S4x1024x256_S1x1024x256_2_0_0)) (View.ld x6 (Rect.unit ![2, 0, 0] ![1, 256, 1024] inb_S4x256x1024_S1x256x1024_2_0_0)))
      (k0_pay11 (BitVec.ofNat 32 (i 2).val) (k0_pay4 x0) (k0_pay5 x1) (iota .tc S1024x128 32 [1] iota_S1024x128_d1_w32) (View.ld x4 (Rect.unit ![3, 0, 0] ![1, 1024, 256] inb_S4x1024x256_S1x1024x256_3_0_0)) (View.ld x5 (Rect.unit ![3, 0, 0] ![1, 1024, 256] inb_S4x1024x256_S1x1024x256_3_0_0)))
      (View.ld x6 (Rect.unit ![3, 0, 0] ![1, 256, 1024] inb_S4x256x1024_S1x256x1024_3_0_0)) acc (ix2 r d)
      = acc (ix2 r d) + four x0 x1 x4 x5 x6 l r d := by
  refine (step_apply i x0 x1 _ _ _ _ _ _ _ _ _ _ _ _ acc r d (l 0) (l 1) (l 2) (l 3) (hl 0) (hl 1) (hl 2) (hl 3)).trans ?_
  pointwise [four, expert, unit]

theorem accA_apply (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x256x1024 .bf16) (harg9 : arg9.IsWhole) (arg10 : Memref sig .tc .vmem S1x1024x1024 .f32) (harg10 : arg10.IsWhole) (arg11 : Memref sig .tc .vmem S1024x1024 .f32) (harg11 : arg11.IsWhole)
    (hc0 : cond0_0 i) (hc1 : ¬cond0_1 i)
    (x0 : Vec Ideal S1x1024x1024 .bf16) (x1 : Vec Ideal S1x1024x128 .f32) (x2 : Vec Ideal S1x1024x1024 .f32) (x3 : Vec Ideal S1x1x1024 .f32) (x4 : Vec Ideal S4x1024x256 .bf16) (x5 : Vec Ideal S4x1024x256 .bf16) (x6 : Vec Ideal S4x256x1024 .bf16) (r d : Fin 1024) (l : Fin 4 → Fin 128)
    (hl : ∀ n : Fin 4, Scalar.addi (Scalar.muli (BitVec.ofNat 32 (i 2).val) 4#32) (BitVec.ofNat 32 n.val) = BitVec.ofNat 32 (l n).val) :
    sout0_A_0 (F := Ideal) c i arg3 harg3 arg4 harg4 arg5 harg5 arg6 harg6 arg7 harg7 arg8 harg8 arg9 harg9 arg10 harg10 arg11 harg11 hc0 hc1 x0 x1 x2 x3 x4 x5 x6 (ix2 r d)
      = 0 + four x0 x1 x4 x5 x6 l r d := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1024) zero2]
  simp only [View.readAt_eq_ld, harg3.read_unread, harg4.read_unread, harg5.read_unread, harg6.read_unread, harg7.read_unread, harg8.read_unread, harg9.read_unread, harg10.read_unread, harg11.read_unread]
  simp only [View.ld_unit_zero (S := S1024x1024) zero2, View.ld_unit_zero (S := S1x1024x1024) zero3, View.ld_unit_zero (S := S1x1024x128) zero3]
  rw [View.readCov_unit_zero (S := S1024x1024) _ zero2, step_four i x0 x1 x4 x5 x6 _ r d l hl, zero_apply]

theorem accB_apply (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x256x1024 .bf16) (harg9 : arg9.IsWhole) (arg10 : Memref sig .tc .vmem S1x1024x1024 .f32) (harg10 : arg10.IsWhole) (arg11 : Memref sig .tc .vmem S1024x1024 .f32) (harg11 : arg11.IsWhole)
    (hc0 : ¬cond0_0 i) (hc1 : ¬cond0_1 i)
    (x0 : Vec Ideal S1x1024x1024 .bf16) (x1 : Vec Ideal S1x1024x128 .f32) (x2 : Vec Ideal S1x1024x1024 .f32) (x3 : Vec Ideal S1x1x1024 .f32) (x4 : Vec Ideal S4x1024x256 .bf16) (x5 : Vec Ideal S4x1024x256 .bf16) (x6 : Vec Ideal S4x256x1024 .bf16) (xs0 : Vec Ideal S1024x1024 .f32) (r d : Fin 1024) (l : Fin 4 → Fin 128)
    (hl : ∀ n : Fin 4, Scalar.addi (Scalar.muli (BitVec.ofNat 32 (i 2).val) 4#32) (BitVec.ofNat 32 n.val) = BitVec.ofNat 32 (l n).val) :
    sout0_B_0 (F := Ideal) c i arg3 harg3 arg4 harg4 arg5 harg5 arg6 harg6 arg7 harg7 arg8 harg8 arg9 harg9 arg10 harg10 arg11 harg11 hc0 hc1 x0 x1 x2 x3 x4 x5 x6 xs0 (ix2 r d)
      = xs0 (ix2 r d) + four x0 x1 x4 x5 x6 l r d := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero zero2]
  simp only [View.readAt_eq_ld, harg3.read_unread, harg4.read_unread, harg5.read_unread, harg6.read_unread, harg7.read_unread, harg8.read_unread, harg9.read_unread, harg10.read_unread, harg11.read_unread]
  simp only [View.ld_unit_zero (S := S1024x1024) zero2, View.ld_unit_zero (S := S1x1024x1024) zero3, View.ld_unit_zero (S := S1x1024x128) zero3]
  exact step_four i x0 x1 x4 x5 x6 xs0 r d l hl

theorem accC_apply (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x256x1024 .bf16) (harg9 : arg9.IsWhole) (arg10 : Memref sig .tc .vmem S1x1024x1024 .f32) (harg10 : arg10.IsWhole) (arg11 : Memref sig .tc .vmem S1024x1024 .f32) (harg11 : arg11.IsWhole)
    (hc0 : ¬cond0_0 i) (hc1 : cond0_1 i)
    (x0 : Vec Ideal S1x1024x1024 .bf16) (x1 : Vec Ideal S1x1024x128 .f32) (x2 : Vec Ideal S1x1024x1024 .f32) (x3 : Vec Ideal S1x1x1024 .f32) (x4 : Vec Ideal S4x1024x256 .bf16) (x5 : Vec Ideal S4x1024x256 .bf16) (x6 : Vec Ideal S4x256x1024 .bf16) (xs0 : Vec Ideal S1024x1024 .f32) (r d : Fin 1024) (l : Fin 4 → Fin 128)
    (hl : ∀ n : Fin 4, Scalar.addi (Scalar.muli (BitVec.ofNat 32 (i 2).val) 4#32) (BitVec.ofNat 32 n.val) = BitVec.ofNat 32 (l n).val) :
    sout0_C_0 (F := Ideal) c i arg3 harg3 arg4 harg4 arg5 harg5 arg6 harg6 arg7 harg7 arg8 harg8 arg9 harg9 arg10 harg10 arg11 harg11 hc0 hc1 x0 x1 x2 x3 x4 x5 x6 xs0 (ix2 r d)
      = xs0 (ix2 r d) + four x0 x1 x4 x5 x6 l r d := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero zero2]
  simp only [View.readAt_eq_ld, harg3.read_unread, harg4.read_unread, harg5.read_unread, harg6.read_unread, harg7.read_unread, harg8.read_unread, harg9.read_unread, harg10.read_unread, harg11.read_unread]
  simp only [View.ld_unit_zero (S := S1024x1024) zero2, View.ld_unit_zero (S := S1x1024x1024) zero3, View.ld_unit_zero (S := S1x1024x128) zero3]
  exact step_four i x0 x1 x4 x5 x6 xs0 r d l hl

theorem outC_apply (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x256x1024 .bf16) (harg9 : arg9.IsWhole) (arg10 : Memref sig .tc .vmem S1x1024x1024 .f32) (harg10 : arg10.IsWhole) (arg11 : Memref sig .tc .vmem S1024x1024 .f32) (harg11 : arg11.IsWhole)
    (hc0 : ¬cond0_0 i) (hc1 : cond0_1 i)
    (x0 : Vec Ideal S1x1024x1024 .bf16) (x1 : Vec Ideal S1x1024x128 .f32) (x2 : Vec Ideal S1x1024x1024 .f32) (x3 : Vec Ideal S1x1x1024 .f32) (x4 : Vec Ideal S4x1024x256 .bf16) (x5 : Vec Ideal S4x1024x256 .bf16) (x6 : Vec Ideal S4x256x1024 .bf16) (xs0 : Vec Ideal S1024x1024 .f32) (r d : Fin 1024) (l : Fin 4 → Fin 128)
    (hl : ∀ n : Fin 4, Scalar.addi (Scalar.muli (BitVec.ofNat 32 (i 2).val) 4#32) (BitVec.ofNat 32 n.val) = BitVec.ofNat 32 (l n).val) :
    out0_C_7 (F := Ideal) c i arg3 harg3 arg4 harg4 arg5 harg5 arg6 harg6 arg7 harg7 arg8 harg8 arg9 harg9 arg10 harg10 arg11 harg11 hc0 hc1 x0 x1 x2 x3 x4 x5 x6 xs0 (ix3 0 r d)
      = x2 (ix3 0 r d) + x3 (ix3 0 0 d) * (xs0 (ix2 r d) + four x0 x1 x4 x5 x6 l r d) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero zero3]
  simp only [View.readAt_eq_ld, harg3.read_unread, harg4.read_unread, harg5.read_unread, harg6.read_unread, harg7.read_unread, harg8.read_unread, harg9.read_unread, harg10.read_unread, harg11.read_unread]
  simp only [View.ld_unit_zero (S := S1024x1024) zero2, View.ld_unit_zero (S := S1x1024x1024) zero3, View.ld_unit_zero (S := S1x1x1024) zero3, View.ld_unit_zero (S := S1x1024x128) zero3]
  rw [View.readCov_unit_zero (S := S1024x1024) _ zero2, out_apply, step_four i x0 x1 x4 x5 x6 xs0 r d l hl]

end Cert.MoeIdeal.Gen
end
-- ==== Proof.MoeBlocks.lean ====
/- The routed-experts call's windows at a grid point, read as entries of the call's argument arrays. -/
module

public import proofs.«01_k».proof.Proof.MoeStep
public import Idealize.ShloMosaic.Lib.Claim

@[expose] public section

open Idealize.ShloMosaic Idealize.ShloMosaic.TcCoe Idealize.SL.Sem

noncomputable section

namespace Cert.MoeIdeal.Gen

open Cert.MoeIdeal Cert.Proof.Moe

set_option maxRecDepth 16384
set_option maxHeartbeats 2000000

variable (m : (ℓ : Loc nD τ sig) → Buf (Elt Ideal) ℓ)

theorem pt_lt (t : Fin cfg0.N) : t.val < 64 := lt_of_lt_of_eq t.isLt N_0

theorem coord2 : ∀ t : Fin cfg0.N, (grid0.coords t 2).val = t.val % 4 := (by decide +kernel : ∀ t : Fin grid0.N, _)
theorem idx0 : ∀ t : Fin cfg0.N, win0_0.index t 0 = t.val / 16 ∧ win0_0.index t 1 = t.val / 4 % 4 ∧ win0_0.index t 2 = 0 :=
  (by decide +kernel : ∀ t : Fin grid0.N, _)
theorem idx1 : ∀ t : Fin cfg0.N, win0_1.index t 0 = t.val / 16 ∧ win0_1.index t 1 = t.val / 4 % 4 ∧ win0_1.index t 2 = 0 :=
  (by decide +kernel : ∀ t : Fin grid0.N, _)
theorem idx2 : ∀ t : Fin cfg0.N, win0_2.index t 0 = t.val / 16 ∧ win0_2.index t 1 = t.val / 4 % 4 ∧ win0_2.index t 2 = 0 :=
  (by decide +kernel : ∀ t : Fin grid0.N, _)
theorem idx3 : ∀ t : Fin cfg0.N, win0_3.index t 0 = t.val / 16 ∧ win0_3.index t 1 = 0 ∧ win0_3.index t 2 = 5 :=
  (by decide +kernel : ∀ t : Fin grid0.N, _)
theorem idx4 : ∀ t : Fin cfg0.N, win0_4.index t 0 = t.val % 4 ∧ win0_4.index t 1 = 0 ∧ win0_4.index t 2 = 0 :=
  (by decide +kernel : ∀ t : Fin grid0.N, _)
theorem idx5 : ∀ t : Fin cfg0.N, win0_5.index t 0 = t.val % 4 ∧ win0_5.index t 1 = 0 ∧ win0_5.index t 2 = 0 :=
  (by decide +kernel : ∀ t : Fin grid0.N, _)
theorem idx6 : ∀ t : Fin cfg0.N, win0_6.index t 0 = t.val % 4 ∧ win0_6.index t 1 = 0 ∧ win0_6.index t 2 = 0 :=
  (by decide +kernel : ∀ t : Fin grid0.N, _)

/-- The batch of a grid point, the token row `r` of its tile in the batch, the same row among all tokens, and its expert `n`. -/
def ptB (t : Fin cfg0.N) : Fin 4 := ⟨t.val / 16, by have := pt_lt t; omega⟩
def ptS (t : Fin cfg0.N) (r : Fin 1024) : Fin 4096 := ⟨t.val / 4 % 4 * 1024 + r.val, by have := r.isLt; omega⟩
def ptE (t : Fin cfg0.N) (n : Fin 4) : Fin 16 := ⟨t.val % 4 * 4 + n.val, by have := n.isLt; omega⟩
def tok (b : Fin 4) (s : Fin 4096) : Fin 16384 := ⟨b.val * 4096 + s.val, by have := b.isLt; have := s.isLt; omega⟩

theorem blk0 (c : Dev nD) (t : Fin cfg0.N) (r k : Fin 1024) :
    (iblk m c 0 t : Vec Ideal S1x1024x1024 .bf16) (ix3 0 r k) = m ((c : Thread nD τ).loc main_arg0) (ix3 (ptB t) (ptS t r) k) := by
  unfold iblk
  rw [View.read_apply]
  show V m c main_v3 _ = _
  entry_read
  show m (c, Proc.tc.devRef main_arg0) _ = m (c, Proc.tc.devRef main_arg0) _
  congr 1
  obtain ⟨e0, e1, e2⟩ := idx0 t
  funext a
  apply Fin.ext
  match a with
  | ⟨0, _⟩ => show win0_0.index t 0 * 1 + 1 * (0 : Fin 1).val = _; rw [e0]; first | rfl | (simp only [ptB, ptS, ptE, ix3]; omega) | (simp [ptB, ptS, ptE, ix3])
  | ⟨1, _⟩ => show win0_0.index t 1 * 1024 + 1 * r.val = _; rw [e1]; first | rfl | (simp only [ptB, ptS, ptE, ix3]; omega) | (simp [ptB, ptS, ptE, ix3])
  | ⟨2, _⟩ => show win0_0.index t 2 * 1024 + 1 * k.val = _; rw [e2]; first | rfl | (simp only [ptB, ptS, ptE, ix3]; omega) | (simp [ptB, ptS, ptE, ix3])

theorem blk2 (c : Dev nD) (t : Fin cfg0.N) (r d : Fin 1024) :
    (iblk m c 2 t : Vec Ideal S1x1024x1024 .f32) (ix3 0 r d) = m ((c : Thread nD τ).loc main_arg2) (ix3 (ptB t) (ptS t r) d) := by
  unfold iblk
  rw [View.read_apply]
  show V m c main_arg2 _ = _
  entry_read
  show m (c, Proc.tc.devRef main_arg2) _ = m (c, Proc.tc.devRef main_arg2) _
  congr 1
  obtain ⟨e0, e1, e2⟩ := idx2 t
  funext a
  apply Fin.ext
  match a with
  | ⟨0, _⟩ => show win0_2.index t 0 * 1 + 1 * (0 : Fin 1).val = _; rw [e0]; first | rfl | (simp only [ptB, ptS, ptE, ix3]; omega) | (simp [ptB, ptS, ptE, ix3])
  | ⟨1, _⟩ => show win0_2.index t 1 * 1024 + 1 * r.val = _; rw [e1]; first | rfl | (simp only [ptB, ptS, ptE, ix3]; omega) | (simp [ptB, ptS, ptE, ix3])
  | ⟨2, _⟩ => show win0_2.index t 2 * 1024 + 1 * d.val = _; rw [e2]; first | rfl | (simp only [ptB, ptS, ptE, ix3]; omega) | (simp [ptB, ptS, ptE, ix3])

theorem blk3 (c : Dev nD) (t : Fin cfg0.N) (d : Fin 1024) :
    (iblk m c 3 t : Vec Ideal S1x1x1024 .f32) (ix3 0 0 d) = m ((c : Thread nD τ).loc main_arg3) (ix3 (ptB t) 0 ⟨5120 + d.val, by have := d.isLt; omega⟩) := by
  unfold iblk
  rw [View.read_apply]
  show V m c main_arg3 _ = _
  entry_read
  show m (c, Proc.tc.devRef main_arg3) _ = m (c, Proc.tc.devRef main_arg3) _
  congr 1
  obtain ⟨e0, e1, e2⟩ := idx3 t
  funext a
  apply Fin.ext
  match a with
  | ⟨0, _⟩ => show win0_3.index t 0 * 1 + 1 * (0 : Fin 1).val = _; rw [e0]; first | rfl | (simp only [ptB, ptS, ptE, ix3]; omega) | (simp [ptB, ptS, ptE, ix3])
  | ⟨1, _⟩ => show win0_3.index t 1 * 1 + 1 * (0 : Fin 1).val = _; rw [e1]; first | rfl | (simp only [ptB, ptS, ptE, ix3]; omega) | (simp [ptB, ptS, ptE, ix3])
  | ⟨2, _⟩ => show win0_3.index t 2 * 1024 + 1 * d.val = _; rw [e2]; first | rfl | (simp only [ptB, ptS, ptE, ix3]; omega) | (simp [ptB, ptS, ptE, ix3])

theorem blk4 (c : Dev nD) (t : Fin cfg0.N) (n : Fin 4) (k : Fin 1024) (f : Fin 256) :
    (iblk m c 4 t : Vec Ideal S4x1024x256 .bf16) (ix3 n k f) = m ((c : Thread nD τ).loc main_arg4) (ix3 (ptE t n) k f) := by
  unfold iblk
  rw [View.read_apply]
  show V m c main_v4 _ = _
  entry_read
  show m (c, Proc.tc.devRef main_arg4) _ = m (c, Proc.tc.devRef main_arg4) _
  congr 1
  obtain ⟨e0, e1, e2⟩ := idx4 t
  funext a
  apply Fin.ext
  match a with
  | ⟨0, _⟩ => show win0_4.index t 0 * 4 + 1 * n.val = _; rw [e0]; first | rfl | (simp only [ptB, ptS, ptE, ix3]; omega) | (simp [ptB, ptS, ptE, ix3])
  | ⟨1, _⟩ => show win0_4.index t 1 * 1024 + 1 * k.val = _; rw [e1]; first | rfl | (simp only [ptB, ptS, ptE, ix3]; omega) | (simp [ptB, ptS, ptE, ix3])
  | ⟨2, _⟩ => show win0_4.index t 2 * 256 + 1 * f.val = _; rw [e2]; first | rfl | (simp only [ptB, ptS, ptE, ix3]; omega) | (simp [ptB, ptS, ptE, ix3])

theorem blk5 (c : Dev nD) (t : Fin cfg0.N) (n : Fin 4) (k : Fin 1024) (f : Fin 256) :
    (iblk m c 5 t : Vec Ideal S4x1024x256 .bf16) (ix3 n k f) = m ((c : Thread nD τ).loc main_arg5) (ix3 (ptE t n) k f) := by
  unfold iblk
  rw [View.read_apply]
  show V m c main_v5 _ = _
  entry_read
  show m (c, Proc.tc.devRef main_arg5) _ = m (c, Proc.tc.devRef main_arg5) _
  congr 1
  obtain ⟨e0, e1, e2⟩ := idx5 t
  funext a
  apply Fin.ext
  match a with
  | ⟨0, _⟩ => show win0_5.index t 0 * 4 + 1 * n.val = _; rw [e0]; first | rfl | (simp only [ptB, ptS, ptE, ix3]; omega) | (simp [ptB, ptS, ptE, ix3])
  | ⟨1, _⟩ => show win0_5.index t 1 * 1024 + 1 * k.val = _; rw [e1]; first | rfl | (simp only [ptB, ptS, ptE, ix3]; omega) | (simp [ptB, ptS, ptE, ix3])
  | ⟨2, _⟩ => show win0_5.index t 2 * 256 + 1 * f.val = _; rw [e2]; first | rfl | (simp only [ptB, ptS, ptE, ix3]; omega) | (simp [ptB, ptS, ptE, ix3])

theorem blk6 (c : Dev nD) (t : Fin cfg0.N) (n : Fin 4) (f : Fin 256) (d : Fin 1024) :
    (iblk m c 6 t : Vec Ideal S4x256x1024 .bf16) (ix3 n f d) = m ((c : Thread nD τ).loc main_arg6) (ix3 (ptE t n) f d) := by
  unfold iblk
  rw [View.read_apply]
  show V m c main_v6 _ = _
  entry_read
  show m (c, Proc.tc.devRef main_arg6) _ = m (c, Proc.tc.devRef main_arg6) _
  congr 1
  obtain ⟨e0, e1, e2⟩ := idx6 t
  funext a
  apply Fin.ext
  match a with
  | ⟨0, _⟩ => show win0_6.index t 0 * 4 + 1 * n.val = _; rw [e0]; first | rfl | (simp only [ptB, ptS, ptE, ix3]; omega) | (simp [ptB, ptS, ptE, ix3])
  | ⟨1, _⟩ => show win0_6.index t 1 * 256 + 1 * f.val = _; rw [e1]; first | rfl | (simp only [ptB, ptS, ptE, ix3]; omega) | (simp [ptB, ptS, ptE, ix3])
  | ⟨2, _⟩ => show win0_6.index t 2 * 1024 + 1 * d.val = _; rw [e2]; first | rfl | (simp only [ptB, ptS, ptE, ix3]; omega) | (simp [ptB, ptS, ptE, ix3])

theorem blk1 (c : Dev nD) (t : Fin cfg0.N) (r : Fin 1024) (n : Fin 16) :
    (iblk m c 1 t : Vec Ideal S1x1024x128 .f32) (ix3 0 r ⟨n.val, by have := n.isLt; omega⟩)
      = m ((c : Thread nD τ).loc main_arg1) (ix2 (tok (ptB t) (ptS t r)) n) := by
  unfold iblk
  rw [View.read_apply]
  have hj : ((cfg0.win 1).blk t).view.emb (ix3 0 r ⟨n.val, by have := n.isLt; omega⟩ : S1x1024x128.Idx)
      = (ix3 (ptB t) (ptS t r) ⟨n.val, by have := n.isLt; omega⟩ : S4x4096x128.Idx) := by
    obtain ⟨e0, e1, e2⟩ := idx1 t
    funext a
    apply Fin.ext
    match a with
    | ⟨0, _⟩ => show win0_1.index t 0 * 1 + 1 * (0 : Fin 1).val = _; rw [e0]; simp [ptB, ix3]
    | ⟨1, _⟩ => show win0_1.index t 1 * 1024 + 1 * r.val = _; rw [e1]; simp [ptS, ix3]
    | ⟨2, _⟩ => show win0_1.index t 2 * 128 + 1 * n.val = _; rw [e2]; simp [ix3]
  show V m c main_v2 _ = _
  rw [hj]
  entry_read
  pointwise
  rfl

end Cert.MoeIdeal.Gen
end
-- ==== Proof.MoeValue.lean ====
/- The routed-experts call at the ideal instance: its result array, entry by entry, is the residual plus the modulation row
   times the sum over the sixteen experts; and so is the reference's. -/
module

public import proofs.«01_k».proof.Defs
public import proofs.«01_k».proof.Proof.MoeBlocks
public import proofs.«01_k».proof.Proof.Gen.MoeRefIdeal.Run
public import Idealize.ShloMosaic.Lib.Claim

@[expose] public section

open Idealize.ShloMosaic Idealize.ShloMosaic.TcCoe Idealize.SL.Sem

noncomputable section

namespace Cert.MoeIdeal.Gen

open Cert.MoeIdeal Cert.Proof.Moe

set_option maxRecDepth 16384
set_option maxHeartbeats 2000000

variable (m : (ℓ : Loc nD τ sig) → Buf (Elt Ideal) ℓ)

/-- The call's argument arrays, as functions of the index. -/
abbrev hA (c : Dev nD) : S4x4096x1024.Idx → EReal := m ((c : Thread nD τ).loc main_arg0)
abbrev gA (c : Dev nD) : S16384x16.Idx → EReal := m ((c : Thread nD τ).loc main_arg1)
abbrev xA (c : Dev nD) : S4x4096x1024.Idx → EReal := m ((c : Thread nD τ).loc main_arg2)
abbrev mA (c : Dev nD) : S4x1x6144.Idx → EReal := m ((c : Thread nD τ).loc main_arg3)
abbrev wgA (c : Dev nD) : S16x1024x256.Idx → EReal := m ((c : Thread nD τ).loc main_arg4)
abbrev wuA (c : Dev nD) : S16x1024x256.Idx → EReal := m ((c : Thread nD τ).loc main_arg5)
abbrev wdA (c : Dev nD) : S16x256x1024.Idx → EReal := m ((c : Thread nD τ).loc main_arg6)

/-- The accumulator and the output block after point `n`, as functions of the index. -/
abbrev accAfter (c : Dev nD) (n : ℕ) (h : n < cfg0.N) : S1024x1024.Idx → EReal := (outsAt0 m c n h).2
abbrev outAfter (c : Dev nD) (n : ℕ) (h : n < cfg0.N) : S1x1024x1024.Idx → EReal := (outsAt0 m c n h).1

/-- One expert's term of one token, from the call's argument arrays. -/
def term (c : Dev nD) (b : Fin 4) (s : Fin 4096) (d : Fin 1024) (n : Fin 16) : EReal :=
  expert (fun k => hA m c (ix3 b s k)) (gA m c (ix2 (tok b s) n))
    (fun f k => wgA m c (ix3 n k f)) (fun f k => wuA m c (ix3 n k f))
    (fun f => wdA m c (ix3 n f d))

/-- The gate lane of a grid point's expert `n`. -/
def lane (t : Fin cfg0.N) (n : Fin 4) : Fin 128 := ⟨(ptE t n).val, by have := (ptE t n).isLt; omega⟩

theorem lane_eq (t : Fin cfg0.N) (n : Fin 4) :
    Scalar.addi (Scalar.muli (BitVec.ofNat 32 (grid0.coords t 2).val) 4#32) (BitVec.ofNat 32 n.val) = BitVec.ofNat 32 (lane t n).val := by
  rw [coord2]
  apply BitVec.eq_of_toNat_eq
  have h1 := n.isLt
  simp only [Scalar.addi, Scalar.muli, IntOp.addi, IntOp.muli, lane, ptE, BitVec.toNat_add, BitVec.toNat_mul, BitVec.toNat_ofNat]
  omega

/-- What a grid point adds, from the argument arrays: the terms of its four experts. -/
theorem four_eq (c : Dev nD) (t : Fin cfg0.N) (r d : Fin 1024) :
    four (iblk m c 0 t) (iblk m c 1 t) (iblk m c 4 t) (iblk m c 5 t) (iblk m c 6 t) (lane t) r d
      = term m c (ptB t) (ptS t r) d (ptE t 0) + term m c (ptB t) (ptS t r) d (ptE t 1) + term m c (ptB t) (ptS t r) d (ptE t 2)
        + term m c (ptB t) (ptS t r) d (ptE t 3) := by
  have h (n : Fin 4) : expert (fun k => (iblk m c 0 t : Vec Ideal S1x1024x1024 .bf16) (ix3 0 r k))
      ((iblk m c 1 t : Vec Ideal S1x1024x128 .f32) (ix3 0 r (lane t n)))
      (fun f k => (iblk m c 4 t : Vec Ideal S4x1024x256 .bf16) (ix3 n k f)) (fun f k => (iblk m c 5 t : Vec Ideal S4x1024x256 .bf16) (ix3 n k f))
      (fun f => (iblk m c 6 t : Vec Ideal S4x256x1024 .bf16) (ix3 n f d)) = term m c (ptB t) (ptS t r) d (ptE t n) := by
    unfold term
    congr 1
    · exact funext fun k => blk0 m c t r k
    · exact blk1 m c t r (ptE t n)
    · exact funext fun f => funext fun k => blk4 m c t n k f
    · exact funext fun f => funext fun k => blk5 m c t n k f
    · exact funext fun f => blk6 m c t n f d
  unfold four
  dsimp only
  rw [h 0, h 1, h 2, h 3]

theorem acc_at_A (c : Dev nD) (t : Fin cfg0.N) (h0 : t.val % 4 = 0) (h1 : ¬t.val % 4 = 3) (r d : Fin 1024) :
    accAfter m c t.val t.isLt (ix2 r d) = 0
      + four (iblk m c 0 t) (iblk m c 1 t) (iblk m c 4 t) (iblk m c 5 t) (iblk m c 6 t) (lane t) r d := by
  refine (congrFun (congrArg Prod.snd (outsAt0_A m c t h0 h1)) _).trans ?_
  have e := accA_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) r d (lane t) (lane_eq t)
  dsimp only
  exact e

theorem acc_at_B (c : Dev nD) (t : Fin cfg0.N) (h0 : ¬t.val % 4 = 0) (h1 : ¬t.val % 4 = 3) (r d : Fin 1024) :
    accAfter m c t.val t.isLt (ix2 r d) = accAfter m c (t.val - 1) (Nat.lt_of_le_of_lt (Nat.sub_le _ _) t.isLt) (ix2 r d)
      + four (iblk m c 0 t) (iblk m c 1 t) (iblk m c 4 t) (iblk m c 5 t) (iblk m c 6 t) (lane t) r d := by
  refine (congrFun (congrArg Prod.snd (outsAt0_B m c t h0 h1)) _).trans ?_
  have e := accB_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 r d (lane t) (lane_eq t)
  dsimp only
  exact e

theorem out_at (c : Dev nD) (t : Fin cfg0.N) (h0 : ¬t.val % 4 = 0) (h1 : t.val % 4 = 3) (r d : Fin 1024) :
    outAfter m c t.val t.isLt (ix3 0 r d)
      = xA m c (ix3 (ptB t) (ptS t r) d) + mA m c (ix3 (ptB t) 0 ⟨5120 + d.val, by have := d.isLt; omega⟩)
        * (accAfter m c (t.val - 1) (Nat.lt_of_le_of_lt (Nat.sub_le _ _) t.isLt) (ix2 r d)
      + four (iblk m c 0 t) (iblk m c 1 t) (iblk m c 4 t) (iblk m c 5 t) (iblk m c 6 t) (lane t) r d) := by
  refine (congrFun (congrArg Prod.fst (outsAt0_C m c t h0 h1)) _).trans ?_
  have e := outC_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 r d (lane t) (lane_eq t)
  rw [blk2, blk3] at e
  dsimp only
  exact e

/-- The output block a run of four points leaves: the residual plus the modulation times the sum over all the experts. -/
theorem out_run (c : Dev nD) (q : Nat) (hq : 4 * q + 3 < cfg0.N) (r d : Fin 1024) :
    outAfter m c (4 * q + 3) hq (ix3 0 r d)
      = xA m c (ix3 (ptB ⟨4 * q + 3, hq⟩) (ptS ⟨4 * q + 3, hq⟩ r) d)
        + mA m c (ix3 (ptB ⟨4 * q + 3, hq⟩) 0 ⟨5120 + d.val, by have := d.isLt; omega⟩)
        * ∑ n, term m c (ptB ⟨4 * q + 3, hq⟩) (ptS ⟨4 * q + 3, hq⟩ r) d n := by
  have a3 := out_at m c ⟨4 * q + 3, hq⟩ (by show ¬(4 * q + 3) % 4 = 0; omega) (by show (4 * q + 3) % 4 = 3; omega) r d
  have a2 := acc_at_B m c ⟨4 * q + 2, by omega⟩ (by show ¬(4 * q + 2) % 4 = 0; omega) (by show ¬(4 * q + 2) % 4 = 3; omega) r d
  have a1 := acc_at_B m c ⟨4 * q + 1, by omega⟩ (by show ¬(4 * q + 1) % 4 = 0; omega) (by show ¬(4 * q + 1) % 4 = 3; omega) r d
  have a0 := acc_at_A m c ⟨4 * q, by omega⟩ (by show (4 * q) % 4 = 0; omega) (by show ¬(4 * q) % 4 = 3; omega) r d
  rw [four_eq] at a0 a1 a2 a3
  refine a3.trans ?_
  have p2 := a2.trans (congrArg (· + _) (a1.trans (congrArg (· + _) a0)))
  refine congrArg₂ (· + ·) rfl (congrArg₂ (· * ·) rfl ?_)
  refine (congrArg (· + _) p2).trans ?_
  have hb (e : Nat) (he : e < 4) (h : 4 * q + e < cfg0.N) : ptB ⟨4 * q + e, h⟩ = ptB ⟨4 * q + 3, hq⟩ :=
    Fin.ext (by show (4 * q + e) / 16 = (4 * q + 3) / 16; omega)
  have hs (e : Nat) (he : e < 4) (h : 4 * q + e < cfg0.N) : ptS ⟨4 * q + e, h⟩ r = ptS ⟨4 * q + 3, hq⟩ r :=
    Fin.ext (by show (4 * q + e) / 4 % 4 * 1024 + r.val = (4 * q + 3) / 4 % 4 * 1024 + r.val; omega)
  have he (e : Nat) (he : e < 4) (h : 4 * q + e < cfg0.N) (n : Fin 4) : ptE ⟨4 * q + e, h⟩ n = ⟨4 * e + n.val, by have := n.isLt; omega⟩ :=
    Fin.ext (by show (4 * q + e) % 4 * 4 + n.val = 4 * e + n.val; omega)
  have hb0 := hb 0 (by decide) (by omega); have hs0 := hs 0 (by decide) (by omega); have he0 := he 0 (by decide) (by omega)
  have hb1 := hb 1 (by decide) (by omega); have hs1 := hs 1 (by decide) (by omega); have he1 := he 1 (by decide) (by omega)
  have hb2 := hb 2 (by decide) (by omega); have hs2 := hs 2 (by decide) (by omega); have he2 := he 2 (by decide) (by omega)
  have he3 := he 3 (by decide) hq
  simp only [Nat.add_zero] at hb0 hs0 he0
  simp only [hb0, hs0, he0, hb1, hs1, he1, hb2, hs2, he2, he3]
  generalize term m c (ptB ⟨4 * q + 3, hq⟩) (ptS ⟨4 * q + 3, hq⟩ r) d = T
  simp only [Fin.sum_univ_succ, Fin.sum_univ_zero, add_assoc, zero_add, add_zero]
  rfl

/-- The call's result array, entry by entry. -/
theorem result_eq (c : Dev nD) (b : Fin 4) (s : Fin 4096) (d : Fin 1024) :
    (Value.G7 m c : S4x4096x1024.Idx → EReal) (ix3 b s d)
      = xA m c (ix3 b s d)
        + mA m c (ix3 b 0 ⟨5120 + d.val, by have := d.isLt; omega⟩) * ∑ n, term m c b s d n := by
  have hb := b.isLt; have hs := s.isLt; have hd := d.isLt
  have hp : Value.pt7Of (ix3 b s d) = 4 * (4 * b.val + s.val / 1024) + 3 := by
    show 4 * (4 * (b.val / 1 - 0) + 1 * (s.val / 1024 - 0) + 1 * (d.val / 1024 - 0)) + 3 = _
    omega
  have hq : 4 * (4 * b.val + s.val / 1024) + 3 < cfg0.N := by rw [show cfg0.N = 64 from N_0]; omega
  have hl : Value.loc7Of (ix3 b s d) = (ix3 0 ⟨s.val % 1024, by omega⟩ d : S1x1024x1024.Idx) := by
    funext a; apply Fin.ext
    match a with
    | ⟨0, _⟩ => show b.val % 1 = 0; omega
    | ⟨1, _⟩ => rfl
    | ⟨2, _⟩ => show d.val % 1024 = d.val; omega
  unfold Value.G7
  rw [dif_pos (by rw [hp]; exact hq), ← Value.outsAt0_sweep m c _ (by rw [hp]; exact hq), hl]
  have e : outsAt0 m c (Value.pt7Of (ix3 b s d)) (by rw [hp]; exact hq) = outsAt0 m c (4 * (4 * b.val + s.val / 1024) + 3) hq := by
    congr 1
  rw [e]
  refine (out_run m c _ hq _ d).trans ?_
  have h1 : ptB ⟨4 * (4 * b.val + s.val / 1024) + 3, hq⟩ = b := Fin.ext (by show (4 * (4 * b.val + s.val / 1024) + 3) / 16 = b.val; omega)
  have h2 : ptS ⟨4 * (4 * b.val + s.val / 1024) + 3, hq⟩ ⟨s.val % 1024, by omega⟩ = s :=
    Fin.ext (by show (4 * (4 * b.val + s.val / 1024) + 3) / 4 % 4 * 1024 + s.val % 1024 = s.val; omega)
  rw [h1, h2]

end Cert.MoeIdeal.Gen

namespace Cert.MoeRefIdeal.Value

open Cert.MoeRefIdeal Cert.MoeRefIdeal.Gen Cert.Proof.Moe

set_option maxRecDepth 16384
set_option maxHeartbeats 2000000

/-- The reference's result, entry by entry. -/
theorem ref_apply (a0 a2 : Vec Ideal S4x4096x1024 .f32) (a1 : Vec Ideal S16384x16 .f32) (a3 : Vec Ideal S4x1x6144 .f32)
    (a4 a5 : Vec Ideal S16x1024x256 .f32) (a6 : Vec Ideal S16x256x1024 .f32) (b : Fin 4) (s : Fin 4096) (d : Fin 1024) :
    addf a2 (mulf (broadcastInDim S4x4096x1024 ![0, 1, 2] bcast_S4x1x1024_S4x4096x1024_0_1_2 (extractStridedSlice S4x1x1024 ![0, 0, 5120] a3 slices_S4x1x6144_S4x1x1024_0_0_5120)) (shapeCast _ (Host.dotGeneral (F := Ideal) (φ₁ := .f32) (φ₂ := .f32) dot_S16384x16x256_S16x256x1024_S16384x1024_12_01_0_2_n_n none (mulf (mulf (mulf (Host.dotGeneral (F := Ideal) (φ₁ := .f32) (φ₂ := .f32) dot_S16384x1024_S16x1024x256_S16384x16x256_1_1_0_02_n_n none (shapeCast _ a0 shapeCasts_S4x4096x1024_S16384x1024) a4) (Host.divf (broadcastInDim S16384x16x256 ![] bcast_S_S16384x16x256 (constant S_ .f32 0x3F800000#32)) (addf (broadcastInDim S16384x16x256 ![] bcast_S_S16384x16x256 (constant S_ .f32 0x3F800000#32)) (Host.exp (Host.negf (Host.dotGeneral (F := Ideal) (φ₁ := .f32) (φ₂ := .f32) dot_S16384x1024_S16x1024x256_S16384x16x256_1_1_0_02_n_n none (shapeCast _ a0 shapeCasts_S4x4096x1024_S16384x1024) a4)))))) (Host.dotGeneral (F := Ideal) (φ₁ := .f32) (φ₂ := .f32) dot_S16384x1024_S16x1024x256_S16384x16x256_1_1_0_02_n_n none (shapeCast _ a0 shapeCasts_S4x4096x1024_S16384x1024) a5)) (broadcastInDim S16384x16x256 ![0, 1, 2] bcast_S16384x16x1_S16384x16x256_0_1_2 (broadcastInDim S16384x16x1 ![0, 1] bcast_S16384x16_S16384x16x1_0_1 a1))) a6) shapeCasts_S16384x1024_S4x4096x1024)) (ix3 b s d)
      = a2 (ix3 b s d) + a3 (ix3 b 0 ⟨5120 + d.val, by have := d.isLt; omega⟩)
        * ∑ n : Fin 16, expert (fun k => a0 (ix3 b s k)) (a1 (ix2 ⟨b.val * 4096 + s.val, by have := b.isLt; have := s.isLt; omega⟩ n))
            (fun f k => a4 (ix3 n k f)) (fun f k => a5 (ix3 n k f)) (fun f => a6 (ix3 n f d)) := by
  pointwise [expert, unit, Ideal.logistic]

end Cert.MoeRefIdeal.Value

namespace Cert.Proof.Moe

set_option maxRecDepth 16384
set_option maxHeartbeats 2000000

/-- The value claim of the routed-experts call: over the extended reals its result array is the reference's. -/
theorem algebraic : Cert.algebraic_MoeIdeal_MoeRefIdeal (hMoeIdeal := Cert.MoeIdeal.Gen.facts) (hMoeRefIdeal := Cert.MoeRefIdeal.Gen.facts) := by
  intro m g m' g' _ hagree
  refine ⟨fun c => Cert.MoeIdeal.Value.G7 m c, θ_run_mono (Cert.MoeIdeal.Value.run m g) fun r h => h,
    θ_run_mono (Cert.MoeRefIdeal.Value.run m' g') fun r h c => ⟨(h c).1.trans ?_, (h c).2⟩⟩
  obtain ⟨e0, e1, e2, e3, e4, e5, e6⟩ := hagree c
  rw [e0, e1, e2, e3, e4, e5, e6]
  funext i
  obtain ⟨b, s, d, rfl⟩ : ∃ (b : Fin 4) (s : Fin 4096) (d : Fin 1024), i = (ix3 b s d : Cert.MoeIdeal.S4x4096x1024.Idx) :=
    ⟨i 0, i 1, i 2, funext fun a => by fin_cases a <;> rfl⟩
  exact (Cert.MoeRefIdeal.Value.ref_apply _ _ _ _ _ _ _ b s d).trans (Cert.MoeIdeal.Gen.result_eq m c b s d).symm

end Cert.Proof.Moe

end
-- ==== Proof.MoeSampleStep.lean ====
/- One step of the routed-experts call of the sample batch at the ideal instance: what four experts add to a token tile's accumulator, read
   entry by entry. -/
module

public import proofs.«01_k».proof.Proof.Gen.MoeSampleIdeal.Value
public import proofs.«01_k».proof.Proof.MoeStep
public import Idealize.ShloMosaic.Lib.Pointwise
public import Idealize.ShloMosaic.Lib.Tactic

@[expose] public section

open Idealize.ShloMosaic

noncomputable section

namespace Cert.Proof.MoeSample

/-- The batch and the token of a tile's row: sixteen batches of sixty-four tokens lie one after the other. -/
abbrev rb (r : Fin 1024) : Fin 16 := ⟨r.val / 64, by have := r.isLt; omega⟩
abbrev rs (r : Fin 1024) : Fin 64 := ⟨r.val % 64, by omega⟩
/-- The row of a batch's token. -/
abbrev row (p : Fin 16) (q : Fin 64) : Fin 1024 := ⟨p.val * 64 + q.val, by have := p.isLt; have := q.isLt; omega⟩
theorem row_rb_rs (r : Fin 1024) : row (rb r) (rs r) = r := Fin.ext (by show r.val / 64 * 64 + r.val % 64 = r.val; omega)

end Cert.Proof.MoeSample

namespace Cert.MoeSampleIdeal.Gen

open Cert.MoeSampleIdeal Cert.Proof.Moe Cert.Proof.MoeSample

set_option maxRecDepth 16384
set_option maxHeartbeats 2000000

/-- THE STEP: the accumulator a grid point stores, entry by entry: what it read, plus the four experts' terms. -/
theorem step_apply (i : grid0.Coords) (v3 : Vec Ideal S16x64x1024 .bf16) (v6 : Vec Ideal S16x64x128 .f32)
    (g0 u0 g1 u1 g2 u2 g3 u3 : Vec Ideal S1x1024x256 .bf16) (d0 d1 d2 d3 : Vec Ideal S1x256x1024 .bf16)
    (acc : Vec Ideal S1024x1024 .f32) (r d : Fin 1024) (l0 l1 l2 l3 : Fin 128)
    (h0 : Scalar.addi (Scalar.muli (BitVec.ofNat 32 (i 2).val) 4#32) 0#32 = BitVec.ofNat 32 l0.val)
    (h1 : Scalar.addi (Scalar.muli (BitVec.ofNat 32 (i 2).val) 4#32) 1#32 = BitVec.ofNat 32 l1.val)
    (h2 : Scalar.addi (Scalar.muli (BitVec.ofNat 32 (i 2).val) 4#32) 2#32 = BitVec.ofNat 32 l2.val)
    (h3 : Scalar.addi (Scalar.muli (BitVec.ofNat 32 (i 2).val) 4#32) 3#32 = BitVec.ofNat 32 l3.val) :
    k0_pay1 (F := Ideal)
      (k0_pay10 (k0_pay4 v3)
        (k0_pay8 (BitVec.ofNat 32 (i 2).val) (k0_pay4 v3) (k0_pay5 v6) (iota .tc S1024x128 32 [1] iota_S1024x128_d1_w32)
          k0_pay6 (k0_pay7 i v3 v6 g0 u0) d0 g1 u1 d1)
        (k0_pay9 (BitVec.ofNat 32 (i 2).val) (k0_pay5 v6) (iota .tc S1024x128 32 [1] iota_S1024x128_d1_w32)) g2 u2 d2)
      (k0_pay11 (BitVec.ofNat 32 (i 2).val) (k0_pay4 v3) (k0_pay5 v6) (iota .tc S1024x128 32 [1] iota_S1024x128_d1_w32) g3 u3)
      d3 acc (ix2 r d)
      = acc (ix2 r d)
        + (expert (fun k => v3 (ix3 (rb r) (rs r) k)) (v6 (ix3 (rb r) (rs r) l0)) (fun f k => g0 (ix3 0 k f)) (fun f k => u0 (ix3 0 k f)) (fun f => d0 (ix3 0 f d))
          + expert (fun k => v3 (ix3 (rb r) (rs r) k)) (v6 (ix3 (rb r) (rs r) l1)) (fun f k => g1 (ix3 0 k f)) (fun f k => u1 (ix3 0 k f)) (fun f => d1 (ix3 0 f d))
          + expert (fun k => v3 (ix3 (rb r) (rs r) k)) (v6 (ix3 (rb r) (rs r) l2)) (fun f k => g2 (ix3 0 k f)) (fun f k => u2 (ix3 0 k f)) (fun f => d2 (ix3 0 f d))
          + expert (fun k => v3 (ix3 (rb r) (rs r) k)) (v6 (ix3 (rb r) (rs r) l3)) (fun f k => g3 (ix3 0 k f)) (fun f k => u3 (ix3 0 k f)) (fun f => d3 (ix3 0 f d))) := by
  pointwise [k0_pay1, k0_pay4, k0_pay5, k0_pay6, k0_pay7, k0_pay8, k0_pay9, k0_pay10, k0_pay11]
  simp only [lane_sum (fun x => v6 (ix3 (rb r) (rs r) x)) _ l0 h0, lane_sum (fun x => v6 (ix3 (rb r) (rs r) x)) _ l1 h1,
    lane_sum (fun x => v6 (ix3 (rb r) (rs r) x)) _ l2 h2, lane_sum (fun x => v6 (ix3 (rb r) (rs r) x)) _ l3 h3]
  rfl

/-- The output block: the residual plus the modulation row times the accumulator. -/
theorem out_row (x : Vec Ideal S16x64x1024 .f32) (md : Vec Ideal S16x1x1024 .f32) (acc : Vec Ideal S1024x1024 .f32) (p : Fin 16) (q : Fin 64)
    (d : Fin 1024) : k0_pay2 (F := Ideal) x md acc (ix3 p q d) = x (ix3 p q d) + md (ix3 p 0 d) * acc (ix2 (row p q) d) := by
  pointwise [k0_pay2]

theorem out_apply (x : Vec Ideal S16x64x1024 .f32) (md : Vec Ideal S16x1x1024 .f32) (acc : Vec Ideal S1024x1024 .f32) (r d : Fin 1024) :
    k0_pay2 (F := Ideal) x md acc (ix3 (rb r) (rs r) d) = x (ix3 (rb r) (rs r) d) + md (ix3 (rb r) 0 d) * acc (ix2 r d) := by
  refine (out_row x md acc (rb r) (rs r) d).trans ?_
  rw [row_rb_rs]

theorem zero_apply (r d : Fin 1024) : k0_pay3 (F := Ideal) (ix2 r d) = 0 := by
  pointwise [k0_pay3]

/-- The four experts of one grid point: what they add to entry `(r, d)` of the accumulator, from the point's blocks and the
    gate lanes `l0 … l3` of its experts. -/
def four (x0 : Vec Ideal S16x64x1024 .bf16) (x1 : Vec Ideal S16x64x128 .f32) (x4 x5 : Vec Ideal S4x1024x256 .bf16)
    (x6 : Vec Ideal S4x256x1024 .bf16) (l : Fin 4 → Fin 128) (r d : Fin 1024) : EReal :=
  let one (n : Fin 4) : EReal := expert (fun k => x0 (ix3 (rb r) (rs r) k)) (x1 (ix3 (rb r) (rs r) (l n))) (fun f k => x4 (ix3 n k f))
    (fun f k => x5 (ix3 n k f)) (fun f => x6 (ix3 n f d))
  one 0 + one 1 + one 2 + one 3

theorem zero2 : (![0, 0] : Fin 2 → Nat) = fun _ => 0 := funext fun a => by fin_cases a <;> rfl
theorem zero3 : (![0, 0, 0] : Fin 3 → Nat) = fun _ => 0 := funext fun a => by fin_cases a <;> rfl

/-- The step over the point's blocks, each expert's weights loaded from its slot of the block. -/
theorem step_four (i : grid0.Coords) (x0 : Vec Ideal S16x64x1024 .bf16) (x1 : Vec Ideal S16x64x128 .f32)
    (x4 x5 : Vec Ideal S4x1024x256 .bf16) (x6 : Vec Ideal S4x256x1024 .bf16)
    (acc : Vec Ideal S1024x1024 .f32) (r d : Fin 1024) (l : Fin 4 → Fin 128)
    (hl : ∀ n : Fin 4, Scalar.addi (Scalar.muli (BitVec.ofNat 32 (i 2).val) 4#32) (BitVec.ofNat 32 n.val) = BitVec.ofNat 32 (l n).val) :
    k0_pay1 (F := Ideal)
      (k0_pay10 (k0_pay4 x0)
        (k0_pay8 (BitVec.ofNat 32 (i 2).val) (k0_pay4 x0) (k0_pay5 x1) (iota .tc S1024x128 32 [1] iota_S1024x128_d1_w32)
          k0_pay6 (k0_pay7 i x0 x1 (View.ld x4 (Rect.unit ![0, 0, 0] ![1, 1024, 256] inb_S4x1024x256_S1x1024x256_0_0_0)) (View.ld x5 (Rect.unit ![0, 0, 0] ![1, 1024, 256] inb_S4x1024x256_S1x1024x256_0_0_0))) (View.ld x6 (Rect.unit ![0, 0, 0] ![1, 256, 1024] inb_S4x256x1024_S1x256x1024_0_0_0)) (View.ld x4 (Rect.unit ![1, 0, 0] ![1, 1024, 256] inb_S4x1024x256_S1x1024x256_1_0_0)) (View.ld x5 (Rect.unit ![1, 0, 0] ![1, 1024, 256] inb_S4x1024x256_S1x1024x256_1_0_0)) (View.ld x6 (Rect.unit ![1, 0, 0] ![1, 256, 1024] inb_S4x256x1024_S1x256x1024_1_0_0)))
        (k0_pay9 (BitVec.ofNat 32 (i 2).val) (k0_pay5 x1) (iota .tc S1024x128 32 [1] iota_S1024x128_d1_w32)) (View.ld x4 (Rect.unit ![2, 0, 0] ![1, 1024, 256] inb_S4x1024x256_S1x1024x256_2_0_0)) (View.ld x5 (Rect.unit ![2, 0, 0] ![1, 1024, 256] inb_S4x1024x256_S1x1024x256_2_0_0)) (View.ld x6 (Rect.unit ![2, 0, 0] ![1, 256, 1024] inb_S4x256x1024_S1x256x1024_2_0_0)))
      (k0_pay11 (BitVec.ofNat 32 (i 2).val) (k0_pay4 x0) (k0_pay5 x1) (iota .tc S1024x128 32 [1] iota_S1024x128_d1_w32) (View.ld x4 (Rect.unit ![3, 0, 0] ![1, 1024, 256] inb_S4x1024x256_S1x1024x256_3_0_0)) (View.ld x5 (Rect.unit ![3, 0, 0] ![1, 1024, 256] inb_S4x1024x256_S1x1024x256_3_0_0)))
      (View.ld x6 (Rect.unit ![3, 0, 0] ![1, 256, 1024] inb_S4x256x1024_S1x256x1024_3_0_0)) acc (ix2 r d)
      = acc (ix2 r d) + four x0 x1 x4 x5 x6 l r d := by
  refine (step_apply i x0 x1 _ _ _ _ _ _ _ _ _ _ _ _ acc r d (l 0) (l 1) (l 2) (l 3) (hl 0) (hl 1) (hl 2) (hl 3)).trans ?_
  pointwise [four, expert, unit]

theorem accA_apply (c : Dev nD) (i : grid0.Coords) (arg3 : Memref sig .tc .vmem S16x64x1024 .bf16) (harg3 : arg3.IsWhole) (arg4 : Memref sig .tc .vmem S16x64x128 .f32) (harg4 : arg4.IsWhole) (arg5 : Memref sig .tc .vmem S16x64x1024 .f32) (harg5 : arg5.IsWhole) (arg6 : Memref sig .tc .vmem S16x1x1024 .f32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x256x1024 .bf16) (harg9 : arg9.IsWhole) (arg10 : Memref sig .tc .vmem S16x64x1024 .f32) (harg10 : arg10.IsWhole) (arg11 : Memref sig .tc .vmem S1024x1024 .f32) (harg11 : arg11.IsWhole)
    (hc0 : cond0_0 i) (hc1 : ¬cond0_1 i)
    (x0 : Vec Ideal S16x64x1024 .bf16) (x1 : Vec Ideal S16x64x128 .f32) (x2 : Vec Ideal S16x64x1024 .f32) (x3 : Vec Ideal S16x1x1024 .f32) (x4 : Vec Ideal S4x1024x256 .bf16) (x5 : Vec Ideal S4x1024x256 .bf16) (x6 : Vec Ideal S4x256x1024 .bf16) (r d : Fin 1024) (l : Fin 4 → Fin 128)
    (hl : ∀ n : Fin 4, Scalar.addi (Scalar.muli (BitVec.ofNat 32 (i 2).val) 4#32) (BitVec.ofNat 32 n.val) = BitVec.ofNat 32 (l n).val) :
    sout0_A_0 (F := Ideal) c i arg3 harg3 arg4 harg4 arg5 harg5 arg6 harg6 arg7 harg7 arg8 harg8 arg9 harg9 arg10 harg10 arg11 harg11 hc0 hc1 x0 x1 x2 x3 x4 x5 x6 (ix2 r d)
      = 0 + four x0 x1 x4 x5 x6 l r d := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1024) zero2]
  simp only [View.readAt_eq_ld, harg3.read_unread, harg4.read_unread, harg5.read_unread, harg6.read_unread, harg7.read_unread, harg8.read_unread, harg9.read_unread, harg10.read_unread, harg11.read_unread]
  simp only [View.ld_unit_zero (S := S1024x1024) zero2, View.ld_unit_zero (S := S16x64x1024) zero3, View.ld_unit_zero (S := S16x64x128) zero3]
  rw [View.readCov_unit_zero (S := S1024x1024) _ zero2, step_four i x0 x1 x4 x5 x6 _ r d l hl, zero_apply]

theorem accB_apply (c : Dev nD) (i : grid0.Coords) (arg3 : Memref sig .tc .vmem S16x64x1024 .bf16) (harg3 : arg3.IsWhole) (arg4 : Memref sig .tc .vmem S16x64x128 .f32) (harg4 : arg4.IsWhole) (arg5 : Memref sig .tc .vmem S16x64x1024 .f32) (harg5 : arg5.IsWhole) (arg6 : Memref sig .tc .vmem S16x1x1024 .f32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x256x1024 .bf16) (harg9 : arg9.IsWhole) (arg10 : Memref sig .tc .vmem S16x64x1024 .f32) (harg10 : arg10.IsWhole) (arg11 : Memref sig .tc .vmem S1024x1024 .f32) (harg11 : arg11.IsWhole)
    (hc0 : ¬cond0_0 i) (hc1 : ¬cond0_1 i)
    (x0 : Vec Ideal S16x64x1024 .bf16) (x1 : Vec Ideal S16x64x128 .f32) (x2 : Vec Ideal S16x64x1024 .f32) (x3 : Vec Ideal S16x1x1024 .f32) (x4 : Vec Ideal S4x1024x256 .bf16) (x5 : Vec Ideal S4x1024x256 .bf16) (x6 : Vec Ideal S4x256x1024 .bf16) (xs0 : Vec Ideal S1024x1024 .f32) (r d : Fin 1024) (l : Fin 4 → Fin 128)
    (hl : ∀ n : Fin 4, Scalar.addi (Scalar.muli (BitVec.ofNat 32 (i 2).val) 4#32) (BitVec.ofNat 32 n.val) = BitVec.ofNat 32 (l n).val) :
    sout0_B_0 (F := Ideal) c i arg3 harg3 arg4 harg4 arg5 harg5 arg6 harg6 arg7 harg7 arg8 harg8 arg9 harg9 arg10 harg10 arg11 harg11 hc0 hc1 x0 x1 x2 x3 x4 x5 x6 xs0 (ix2 r d)
      = xs0 (ix2 r d) + four x0 x1 x4 x5 x6 l r d := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero zero2]
  simp only [View.readAt_eq_ld, harg3.read_unread, harg4.read_unread, harg5.read_unread, harg6.read_unread, harg7.read_unread, harg8.read_unread, harg9.read_unread, harg10.read_unread, harg11.read_unread]
  simp only [View.ld_unit_zero (S := S1024x1024) zero2, View.ld_unit_zero (S := S16x64x1024) zero3, View.ld_unit_zero (S := S16x64x128) zero3]
  exact step_four i x0 x1 x4 x5 x6 xs0 r d l hl

theorem accC_apply (c : Dev nD) (i : grid0.Coords) (arg3 : Memref sig .tc .vmem S16x64x1024 .bf16) (harg3 : arg3.IsWhole) (arg4 : Memref sig .tc .vmem S16x64x128 .f32) (harg4 : arg4.IsWhole) (arg5 : Memref sig .tc .vmem S16x64x1024 .f32) (harg5 : arg5.IsWhole) (arg6 : Memref sig .tc .vmem S16x1x1024 .f32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x256x1024 .bf16) (harg9 : arg9.IsWhole) (arg10 : Memref sig .tc .vmem S16x64x1024 .f32) (harg10 : arg10.IsWhole) (arg11 : Memref sig .tc .vmem S1024x1024 .f32) (harg11 : arg11.IsWhole)
    (hc0 : ¬cond0_0 i) (hc1 : cond0_1 i)
    (x0 : Vec Ideal S16x64x1024 .bf16) (x1 : Vec Ideal S16x64x128 .f32) (x2 : Vec Ideal S16x64x1024 .f32) (x3 : Vec Ideal S16x1x1024 .f32) (x4 : Vec Ideal S4x1024x256 .bf16) (x5 : Vec Ideal S4x1024x256 .bf16) (x6 : Vec Ideal S4x256x1024 .bf16) (xs0 : Vec Ideal S1024x1024 .f32) (r d : Fin 1024) (l : Fin 4 → Fin 128)
    (hl : ∀ n : Fin 4, Scalar.addi (Scalar.muli (BitVec.ofNat 32 (i 2).val) 4#32) (BitVec.ofNat 32 n.val) = BitVec.ofNat 32 (l n).val) :
    sout0_C_0 (F := Ideal) c i arg3 harg3 arg4 harg4 arg5 harg5 arg6 harg6 arg7 harg7 arg8 harg8 arg9 harg9 arg10 harg10 arg11 harg11 hc0 hc1 x0 x1 x2 x3 x4 x5 x6 xs0 (ix2 r d)
      = xs0 (ix2 r d) + four x0 x1 x4 x5 x6 l r d := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero zero2]
  simp only [View.readAt_eq_ld, harg3.read_unread, harg4.read_unread, harg5.read_unread, harg6.read_unread, harg7.read_unread, harg8.read_unread, harg9.read_unread, harg10.read_unread, harg11.read_unread]
  simp only [View.ld_unit_zero (S := S1024x1024) zero2, View.ld_unit_zero (S := S16x64x1024) zero3, View.ld_unit_zero (S := S16x64x128) zero3]
  exact step_four i x0 x1 x4 x5 x6 xs0 r d l hl

theorem outC_apply (c : Dev nD) (i : grid0.Coords) (arg3 : Memref sig .tc .vmem S16x64x1024 .bf16) (harg3 : arg3.IsWhole) (arg4 : Memref sig .tc .vmem S16x64x128 .f32) (harg4 : arg4.IsWhole) (arg5 : Memref sig .tc .vmem S16x64x1024 .f32) (harg5 : arg5.IsWhole) (arg6 : Memref sig .tc .vmem S16x1x1024 .f32) (harg6 : arg6.IsWhole) (arg7 : Memref sig .tc .vmem S4x1024x256 .bf16) (harg7 : arg7.IsWhole) (arg8 : Memref sig .tc .vmem S4x1024x256 .bf16) (harg8 : arg8.IsWhole) (arg9 : Memref sig .tc .vmem S4x256x1024 .bf16) (harg9 : arg9.IsWhole) (arg10 : Memref sig .tc .vmem S16x64x1024 .f32) (harg10 : arg10.IsWhole) (arg11 : Memref sig .tc .vmem S1024x1024 .f32) (harg11 : arg11.IsWhole)
    (hc0 : ¬cond0_0 i) (hc1 : cond0_1 i)
    (x0 : Vec Ideal S16x64x1024 .bf16) (x1 : Vec Ideal S16x64x128 .f32) (x2 : Vec Ideal S16x64x1024 .f32) (x3 : Vec Ideal S16x1x1024 .f32) (x4 : Vec Ideal S4x1024x256 .bf16) (x5 : Vec Ideal S4x1024x256 .bf16) (x6 : Vec Ideal S4x256x1024 .bf16) (xs0 : Vec Ideal S1024x1024 .f32) (r d : Fin 1024) (l : Fin 4 → Fin 128)
    (hl : ∀ n : Fin 4, Scalar.addi (Scalar.muli (BitVec.ofNat 32 (i 2).val) 4#32) (BitVec.ofNat 32 n.val) = BitVec.ofNat 32 (l n).val) :
    out0_C_7 (F := Ideal) c i arg3 harg3 arg4 harg4 arg5 harg5 arg6 harg6 arg7 harg7 arg8 harg8 arg9 harg9 arg10 harg10 arg11 harg11 hc0 hc1 x0 x1 x2 x3 x4 x5 x6 xs0 (ix3 (rb r) (rs r) d)
      = x2 (ix3 (rb r) (rs r) d) + x3 (ix3 (rb r) 0 d) * (xs0 (ix2 r d) + four x0 x1 x4 x5 x6 l r d) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero zero3]
  simp only [View.readAt_eq_ld, harg3.read_unread, harg4.read_unread, harg5.read_unread, harg6.read_unread, harg7.read_unread, harg8.read_unread, harg9.read_unread, harg10.read_unread, harg11.read_unread]
  simp only [View.ld_unit_zero (S := S1024x1024) zero2, View.ld_unit_zero (S := S16x64x1024) zero3, View.ld_unit_zero (S := S16x1x1024) zero3, View.ld_unit_zero (S := S16x64x128) zero3]
  rw [View.readCov_unit_zero (S := S1024x1024) _ zero2, out_apply, step_four i x0 x1 x4 x5 x6 xs0 r d l hl]

end Cert.MoeSampleIdeal.Gen
end
-- ==== Proof.MoeSampleBlocks.lean ====
/- The routed-experts call's windows (sample batch) at a grid point, read as entries of the call's argument arrays. -/
module

public import proofs.«01_k».proof.Proof.MoeSampleStep
public import Idealize.ShloMosaic.Lib.Claim

@[expose] public section

open Idealize.ShloMosaic Idealize.ShloMosaic.TcCoe Idealize.SL.Sem

noncomputable section

namespace Cert.MoeSampleIdeal.Gen

open Cert.MoeSampleIdeal Cert.Proof.Moe Cert.Proof.MoeSample

set_option maxRecDepth 16384
set_option maxHeartbeats 2000000

variable (m : (ℓ : Loc nD τ sig) → Buf (Elt Ideal) ℓ)

theorem pt_lt (t : Fin cfg0.N) : t.val < 8 := lt_of_lt_of_eq t.isLt N_0

theorem coord2 : ∀ t : Fin cfg0.N, (grid0.coords t 2).val = t.val % 4 := (by decide +kernel : ∀ t : Fin grid0.N, _)
theorem idx0 : ∀ t : Fin cfg0.N, win0_0.index t 0 = t.val / 4 ∧ win0_0.index t 1 = 0 ∧ win0_0.index t 2 = 0 :=
  (by decide +kernel : ∀ t : Fin grid0.N, _)
theorem idx1 : ∀ t : Fin cfg0.N, win0_1.index t 0 = t.val / 4 ∧ win0_1.index t 1 = 0 ∧ win0_1.index t 2 = 0 :=
  (by decide +kernel : ∀ t : Fin grid0.N, _)
theorem idx2 : ∀ t : Fin cfg0.N, win0_2.index t 0 = t.val / 4 ∧ win0_2.index t 1 = 0 ∧ win0_2.index t 2 = 0 :=
  (by decide +kernel : ∀ t : Fin grid0.N, _)
theorem idx3 : ∀ t : Fin cfg0.N, win0_3.index t 0 = t.val / 4 ∧ win0_3.index t 1 = 0 ∧ win0_3.index t 2 = 5 :=
  (by decide +kernel : ∀ t : Fin grid0.N, _)
theorem idx4 : ∀ t : Fin cfg0.N, win0_4.index t 0 = t.val % 4 ∧ win0_4.index t 1 = 0 ∧ win0_4.index t 2 = 0 :=
  (by decide +kernel : ∀ t : Fin grid0.N, _)
theorem idx5 : ∀ t : Fin cfg0.N, win0_5.index t 0 = t.val % 4 ∧ win0_5.index t 1 = 0 ∧ win0_5.index t 2 = 0 :=
  (by decide +kernel : ∀ t : Fin grid0.N, _)
theorem idx6 : ∀ t : Fin cfg0.N, win0_6.index t 0 = t.val % 4 ∧ win0_6.index t 1 = 0 ∧ win0_6.index t 2 = 0 :=
  (by decide +kernel : ∀ t : Fin grid0.N, _)

/-- The batch `p` of a grid point's tile, its expert `n`, and a token among all tokens. -/
def ptB (t : Fin cfg0.N) (p : Fin 16) : Fin 32 := ⟨t.val / 4 * 16 + p.val, by have := pt_lt t; have := p.isLt; omega⟩
def ptE (t : Fin cfg0.N) (n : Fin 4) : Fin 16 := ⟨t.val % 4 * 4 + n.val, by have := n.isLt; omega⟩
def tok (b : Fin 32) (s : Fin 64) : Fin 2048 := ⟨b.val * 64 + s.val, by have := b.isLt; have := s.isLt; omega⟩

theorem blk0 (c : Dev nD) (t : Fin cfg0.N) (r k : Fin 1024) :
    (iblk m c 0 t : Vec Ideal S16x64x1024 .bf16) (ix3 (rb r) (rs r) k) = m ((c : Thread nD τ).loc main_arg0) (ix3 (ptB t (rb r)) (rs r) k) := by
  unfold iblk
  rw [View.read_apply]
  show V m c main_v3 _ = _
  entry_read
  show m (c, Proc.tc.devRef main_arg0) _ = m (c, Proc.tc.devRef main_arg0) _
  congr 1
  obtain ⟨e0, e1, e2⟩ := idx0 t
  funext a
  apply Fin.ext
  match a with
  | ⟨0, _⟩ => show win0_0.index t 0 * 16 + 1 * (rb r).val = _; rw [e0]; first | rfl | (simp only [ptB, ptE, ix3]; omega) | (simp [ptB, ptE, ix3])
  | ⟨1, _⟩ => show win0_0.index t 1 * 64 + 1 * (rs r).val = _; rw [e1]; first | rfl | (simp only [ptB, ptE, ix3]; omega) | (simp [ptB, ptE, ix3])
  | ⟨2, _⟩ => show win0_0.index t 2 * 1024 + 1 * k.val = _; rw [e2]; first | rfl | (simp only [ptB, ptE, ix3]; omega) | (simp [ptB, ptE, ix3])

theorem blk2 (c : Dev nD) (t : Fin cfg0.N) (r d : Fin 1024) :
    (iblk m c 2 t : Vec Ideal S16x64x1024 .f32) (ix3 (rb r) (rs r) d) = m ((c : Thread nD τ).loc main_arg2) (ix3 (ptB t (rb r)) (rs r) d) := by
  unfold iblk
  rw [View.read_apply]
  show V m c main_arg2 _ = _
  entry_read
  show m (c, Proc.tc.devRef main_arg2) _ = m (c, Proc.tc.devRef main_arg2) _
  congr 1
  obtain ⟨e0, e1, e2⟩ := idx2 t
  funext a
  apply Fin.ext
  match a with
  | ⟨0, _⟩ => show win0_2.index t 0 * 16 + 1 * (rb r).val = _; rw [e0]; first | rfl | (simp only [ptB, ptE, ix3]; omega) | (simp [ptB, ptE, ix3])
  | ⟨1, _⟩ => show win0_2.index t 1 * 64 + 1 * (rs r).val = _; rw [e1]; first | rfl | (simp only [ptB, ptE, ix3]; omega) | (simp [ptB, ptE, ix3])
  | ⟨2, _⟩ => show win0_2.index t 2 * 1024 + 1 * d.val = _; rw [e2]; first | rfl | (simp only [ptB, ptE, ix3]; omega) | (simp [ptB, ptE, ix3])

theorem blk3 (c : Dev nD) (t : Fin cfg0.N) (p : Fin 16) (d : Fin 1024) :
    (iblk m c 3 t : Vec Ideal S16x1x1024 .f32) (ix3 p 0 d) = m ((c : Thread nD τ).loc main_arg3) (ix3 (ptB t p) 0 ⟨5120 + d.val, by have := d.isLt; omega⟩) := by
  unfold iblk
  rw [View.read_apply]
  show V m c main_arg3 _ = _
  entry_read
  show m (c, Proc.tc.devRef main_arg3) _ = m (c, Proc.tc.devRef main_arg3) _
  congr 1
  obtain ⟨e0, e1, e2⟩ := idx3 t
  funext a
  apply Fin.ext
  match a with
  | ⟨0, _⟩ => show win0_3.index t 0 * 16 + 1 * p.val = _; rw [e0]; first | rfl | (simp only [ptB, ptE, ix3]; omega) | (simp [ptB, ptE, ix3])
  | ⟨1, _⟩ => show win0_3.index t 1 * 1 + 1 * (0 : Fin 1).val = _; rw [e1]; first | rfl | (simp only [ptB, ptE, ix3]; omega) | (simp [ptB, ptE, ix3])
  | ⟨2, _⟩ => show win0_3.index t 2 * 1024 + 1 * d.val = _; rw [e2]; first | rfl | (simp only [ptB, ptE, ix3]; omega) | (simp [ptB, ptE, ix3])

theorem blk4 (c : Dev nD) (t : Fin cfg0.N) (n : Fin 4) (k : Fin 1024) (f : Fin 256) :
    (iblk m c 4 t : Vec Ideal S4x1024x256 .bf16) (ix3 n k f) = m ((c : Thread nD τ).loc main_arg4) (ix3 (ptE t n) k f) := by
  unfold iblk
  rw [View.read_apply]
  show V m c main_v4 _ = _
  entry_read
  show m (c, Proc.tc.devRef main_arg4) _ = m (c, Proc.tc.devRef main_arg4) _
  congr 1
  obtain ⟨e0, e1, e2⟩ := idx4 t
  funext a
  apply Fin.ext
  match a with
  | ⟨0, _⟩ => show win0_4.index t 0 * 4 + 1 * n.val = _; rw [e0]; first | rfl | (simp only [ptB, ptE, ix3]; omega) | (simp [ptB, ptE, ix3])
  | ⟨1, _⟩ => show win0_4.index t 1 * 1024 + 1 * k.val = _; rw [e1]; first | rfl | (simp only [ptB, ptE, ix3]; omega) | (simp [ptB, ptE, ix3])
  | ⟨2, _⟩ => show win0_4.index t 2 * 256 + 1 * f.val = _; rw [e2]; first | rfl | (simp only [ptB, ptE, ix3]; omega) | (simp [ptB, ptE, ix3])

theorem blk5 (c : Dev nD) (t : Fin cfg0.N) (n : Fin 4) (k : Fin 1024) (f : Fin 256) :
    (iblk m c 5 t : Vec Ideal S4x1024x256 .bf16) (ix3 n k f) = m ((c : Thread nD τ).loc main_arg5) (ix3 (ptE t n) k f) := by
  unfold iblk
  rw [View.read_apply]
  show V m c main_v5 _ = _
  entry_read
  show m (c, Proc.tc.devRef main_arg5) _ = m (c, Proc.tc.devRef main_arg5) _
  congr 1
  obtain ⟨e0, e1, e2⟩ := idx5 t
  funext a
  apply Fin.ext
  match a with
  | ⟨0, _⟩ => show win0_5.index t 0 * 4 + 1 * n.val = _; rw [e0]; first | rfl | (simp only [ptB, ptE, ix3]; omega) | (simp [ptB, ptE, ix3])
  | ⟨1, _⟩ => show win0_5.index t 1 * 1024 + 1 * k.val = _; rw [e1]; first | rfl | (simp only [ptB, ptE, ix3]; omega) | (simp [ptB, ptE, ix3])
  | ⟨2, _⟩ => show win0_5.index t 2 * 256 + 1 * f.val = _; rw [e2]; first | rfl | (simp only [ptB, ptE, ix3]; omega) | (simp [ptB, ptE, ix3])

theorem blk6 (c : Dev nD) (t : Fin cfg0.N) (n : Fin 4) (f : Fin 256) (d : Fin 1024) :
    (iblk m c 6 t : Vec Ideal S4x256x1024 .bf16) (ix3 n f d) = m ((c : Thread nD τ).loc main_arg6) (ix3 (ptE t n) f d) := by
  unfold iblk
  rw [View.read_apply]
  show V m c main_v6 _ = _
  entry_read
  show m (c, Proc.tc.devRef main_arg6) _ = m (c, Proc.tc.devRef main_arg6) _
  congr 1
  obtain ⟨e0, e1, e2⟩ := idx6 t
  funext a
  apply Fin.ext
  match a with
  | ⟨0, _⟩ => show win0_6.index t 0 * 4 + 1 * n.val = _; rw [e0]; first | rfl | (simp only [ptB, ptE, ix3]; omega) | (simp [ptB, ptE, ix3])
  | ⟨1, _⟩ => show win0_6.index t 1 * 256 + 1 * f.val = _; rw [e1]; first | rfl | (simp only [ptB, ptE, ix3]; omega) | (simp [ptB, ptE, ix3])
  | ⟨2, _⟩ => show win0_6.index t 2 * 1024 + 1 * d.val = _; rw [e2]; first | rfl | (simp only [ptB, ptE, ix3]; omega) | (simp [ptB, ptE, ix3])

theorem blk1 (c : Dev nD) (t : Fin cfg0.N) (r : Fin 1024) (n : Fin 16) :
    (iblk m c 1 t : Vec Ideal S16x64x128 .f32) (ix3 (rb r) (rs r) ⟨n.val, by have := n.isLt; omega⟩)
      = m ((c : Thread nD τ).loc main_arg1) (ix2 (tok (ptB t (rb r)) (rs r)) n) := by
  unfold iblk
  rw [View.read_apply]
  have hj : ((cfg0.win 1).blk t).view.emb (ix3 (rb r) (rs r) ⟨n.val, by have := n.isLt; omega⟩ : S16x64x128.Idx)
      = (ix3 (ptB t (rb r)) (rs r) ⟨n.val, by have := n.isLt; omega⟩ : S32x64x128.Idx) := by
    obtain ⟨e0, e1, e2⟩ := idx1 t
    funext a
    apply Fin.ext
    match a with
    | ⟨0, _⟩ => show win0_1.index t 0 * 16 + 1 * (rb r).val = _; rw [e0]; simp [ptB, ix3]
    | ⟨1, _⟩ => show win0_1.index t 1 * 64 + 1 * (rs r).val = _; rw [e1]; simp [ix3]
    | ⟨2, _⟩ => show win0_1.index t 2 * 128 + 1 * n.val = _; rw [e2]; simp [ix3]
  show V m c main_v2 _ = _
  rw [hj]
  entry_read
  pointwise
  rfl

end Cert.MoeSampleIdeal.Gen
end
-- ==== Proof.MoeSampleValue.lean ====
/- The routed-experts call of the sample batch at the ideal instance: its result array, entry by entry, is the residual plus the modulation row
   times the sum over the sixteen experts; and so is the reference's. -/
module

public import proofs.«01_k».proof.Defs
public import proofs.«01_k».proof.Proof.MoeSampleBlocks
public import proofs.«01_k».proof.Proof.Gen.MoeSampleRefIdeal.Run
public import Idealize.ShloMosaic.Lib.Claim

@[expose] public section

open Idealize.ShloMosaic Idealize.ShloMosaic.TcCoe Idealize.SL.Sem

noncomputable section

namespace Cert.MoeSampleIdeal.Gen

open Cert.MoeSampleIdeal Cert.Proof.Moe Cert.Proof.MoeSample

set_option maxRecDepth 16384
set_option maxHeartbeats 2000000

variable (m : (ℓ : Loc nD τ sig) → Buf (Elt Ideal) ℓ)

/-- The call's argument arrays, as functions of the index. -/
abbrev hA (c : Dev nD) : S32x64x1024.Idx → EReal := m ((c : Thread nD τ).loc main_arg0)
abbrev gA (c : Dev nD) : S2048x16.Idx → EReal := m ((c : Thread nD τ).loc main_arg1)
abbrev xA (c : Dev nD) : S32x64x1024.Idx → EReal := m ((c : Thread nD τ).loc main_arg2)
abbrev mA (c : Dev nD) : S32x1x6144.Idx → EReal := m ((c : Thread nD τ).loc main_arg3)
abbrev wgA (c : Dev nD) : S16x1024x256.Idx → EReal := m ((c : Thread nD τ).loc main_arg4)
abbrev wuA (c : Dev nD) : S16x1024x256.Idx → EReal := m ((c : Thread nD τ).loc main_arg5)
abbrev wdA (c : Dev nD) : S16x256x1024.Idx → EReal := m ((c : Thread nD τ).loc main_arg6)

/-- The accumulator and the output block after point `n`, as functions of the index. -/
abbrev accAfter (c : Dev nD) (n : ℕ) (h : n < cfg0.N) : S1024x1024.Idx → EReal := (outsAt0 m c n h).2
abbrev outAfter (c : Dev nD) (n : ℕ) (h : n < cfg0.N) : S16x64x1024.Idx → EReal := (outsAt0 m c n h).1

/-- One expert's term of one token, from the call's argument arrays. -/
def term (c : Dev nD) (b : Fin 32) (s : Fin 64) (d : Fin 1024) (n : Fin 16) : EReal :=
  expert (fun k => hA m c (ix3 b s k)) (gA m c (ix2 (tok b s) n))
    (fun f k => wgA m c (ix3 n k f)) (fun f k => wuA m c (ix3 n k f))
    (fun f => wdA m c (ix3 n f d))

/-- The gate lane of a grid point's expert `n`. -/
def lane (t : Fin cfg0.N) (n : Fin 4) : Fin 128 := ⟨(ptE t n).val, by have := (ptE t n).isLt; omega⟩

theorem lane_eq (t : Fin cfg0.N) (n : Fin 4) :
    Scalar.addi (Scalar.muli (BitVec.ofNat 32 (grid0.coords t 2).val) 4#32) (BitVec.ofNat 32 n.val) = BitVec.ofNat 32 (lane t n).val := by
  rw [coord2]
  apply BitVec.eq_of_toNat_eq
  have h1 := n.isLt
  simp only [Scalar.addi, Scalar.muli, IntOp.addi, IntOp.muli, lane, ptE, BitVec.toNat_add, BitVec.toNat_mul, BitVec.toNat_ofNat]
  omega

/-- What a grid point adds, from the argument arrays: the terms of its four experts. -/
theorem four_eq (c : Dev nD) (t : Fin cfg0.N) (r d : Fin 1024) :
    four (iblk m c 0 t) (iblk m c 1 t) (iblk m c 4 t) (iblk m c 5 t) (iblk m c 6 t) (lane t) r d
      = term m c (ptB t (rb r)) (rs r) d (ptE t 0) + term m c (ptB t (rb r)) (rs r) d (ptE t 1) + term m c (ptB t (rb r)) (rs r) d (ptE t 2)
        + term m c (ptB t (rb r)) (rs r) d (ptE t 3) := by
  have h (n : Fin 4) : expert (fun k => (iblk m c 0 t : Vec Ideal S16x64x1024 .bf16) (ix3 (rb r) (rs r) k))
      ((iblk m c 1 t : Vec Ideal S16x64x128 .f32) (ix3 (rb r) (rs r) (lane t n)))
      (fun f k => (iblk m c 4 t : Vec Ideal S4x1024x256 .bf16) (ix3 n k f)) (fun f k => (iblk m c 5 t : Vec Ideal S4x1024x256 .bf16) (ix3 n k f))
      (fun f => (iblk m c 6 t : Vec Ideal S4x256x1024 .bf16) (ix3 n f d)) = term m c (ptB t (rb r)) (rs r) d (ptE t n) := by
    unfold term
    congr 1
    · exact funext fun k => blk0 m c t r k
    · exact blk1 m c t r (ptE t n)
    · exact funext fun f => funext fun k => blk4 m c t n k f
    · exact funext fun f => funext fun k => blk5 m c t n k f
    · exact funext fun f => blk6 m c t n f d
  unfold four
  dsimp only
  rw [h 0, h 1, h 2, h 3]

theorem acc_at_A (c : Dev nD) (t : Fin cfg0.N) (h0 : t.val % 4 = 0) (h1 : ¬t.val % 4 = 3) (r d : Fin 1024) :
    accAfter m c t.val t.isLt (ix2 r d) = 0
      + four (iblk m c 0 t) (iblk m c 1 t) (iblk m c 4 t) (iblk m c 5 t) (iblk m c 6 t) (lane t) r d := by
  refine (congrFun (congrArg Prod.snd (outsAt0_A m c t h0 h1)) _).trans ?_
  have e := accA_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) r d (lane t) (lane_eq t)
  dsimp only
  exact e

theorem acc_at_B (c : Dev nD) (t : Fin cfg0.N) (h0 : ¬t.val % 4 = 0) (h1 : ¬t.val % 4 = 3) (r d : Fin 1024) :
    accAfter m c t.val t.isLt (ix2 r d) = accAfter m c (t.val - 1) (Nat.lt_of_le_of_lt (Nat.sub_le _ _) t.isLt) (ix2 r d)
      + four (iblk m c 0 t) (iblk m c 1 t) (iblk m c 4 t) (iblk m c 5 t) (iblk m c 6 t) (lane t) r d := by
  refine (congrFun (congrArg Prod.snd (outsAt0_B m c t h0 h1)) _).trans ?_
  have e := accB_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 r d (lane t) (lane_eq t)
  dsimp only
  exact e

theorem out_at (c : Dev nD) (t : Fin cfg0.N) (h0 : ¬t.val % 4 = 0) (h1 : t.val % 4 = 3) (r d : Fin 1024) :
    outAfter m c t.val t.isLt (ix3 (rb r) (rs r) d)
      = xA m c (ix3 (ptB t (rb r)) (rs r) d) + mA m c (ix3 (ptB t (rb r)) 0 ⟨5120 + d.val, by have := d.isLt; omega⟩)
        * (accAfter m c (t.val - 1) (Nat.lt_of_le_of_lt (Nat.sub_le _ _) t.isLt) (ix2 r d)
      + four (iblk m c 0 t) (iblk m c 1 t) (iblk m c 4 t) (iblk m c 5 t) (iblk m c 6 t) (lane t) r d) := by
  refine (congrFun (congrArg Prod.fst (outsAt0_C m c t h0 h1)) _).trans ?_
  have e := outC_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 r d (lane t) (lane_eq t)
  rw [blk2, blk3] at e
  dsimp only
  exact e

/-- The output block a run of four points leaves: the residual plus the modulation times the sum over all the experts. -/
theorem out_run (c : Dev nD) (q : Nat) (hq : 4 * q + 3 < cfg0.N) (r d : Fin 1024) :
    outAfter m c (4 * q + 3) hq (ix3 (rb r) (rs r) d)
      = xA m c (ix3 (ptB ⟨4 * q + 3, hq⟩ (rb r)) (rs r) d)
        + mA m c (ix3 (ptB ⟨4 * q + 3, hq⟩ (rb r)) 0 ⟨5120 + d.val, by have := d.isLt; omega⟩)
        * ∑ n, term m c (ptB ⟨4 * q + 3, hq⟩ (rb r)) (rs r) d n := by
  have a3 := out_at m c ⟨4 * q + 3, hq⟩ (by show ¬(4 * q + 3) % 4 = 0; omega) (by show (4 * q + 3) % 4 = 3; omega) r d
  have a2 := acc_at_B m c ⟨4 * q + 2, by omega⟩ (by show ¬(4 * q + 2) % 4 = 0; omega) (by show ¬(4 * q + 2) % 4 = 3; omega) r d
  have a1 := acc_at_B m c ⟨4 * q + 1, by omega⟩ (by show ¬(4 * q + 1) % 4 = 0; omega) (by show ¬(4 * q + 1) % 4 = 3; omega) r d
  have a0 := acc_at_A m c ⟨4 * q, by omega⟩ (by show (4 * q) % 4 = 0; omega) (by show ¬(4 * q) % 4 = 3; omega) r d
  rw [four_eq] at a0 a1 a2 a3
  refine a3.trans ?_
  have p2 := a2.trans (congrArg (· + _) (a1.trans (congrArg (· + _) a0)))
  refine congrArg₂ (· + ·) rfl (congrArg₂ (· * ·) rfl ?_)
  refine (congrArg (· + _) p2).trans ?_
  have hb (e : Nat) (he : e < 4) (h : 4 * q + e < cfg0.N) : ptB ⟨4 * q + e, h⟩ (rb r) = ptB ⟨4 * q + 3, hq⟩ (rb r) :=
    Fin.ext (by show (4 * q + e) / 4 * 16 + (rb r).val = (4 * q + 3) / 4 * 16 + (rb r).val; omega)
  have he (e : Nat) (he : e < 4) (h : 4 * q + e < cfg0.N) (n : Fin 4) : ptE ⟨4 * q + e, h⟩ n = ⟨4 * e + n.val, by have := n.isLt; omega⟩ :=
    Fin.ext (by show (4 * q + e) % 4 * 4 + n.val = 4 * e + n.val; omega)
  have hb0 := hb 0 (by decide) (by omega); have he0 := he 0 (by decide) (by omega)
  have hb1 := hb 1 (by decide) (by omega); have he1 := he 1 (by decide) (by omega)
  have hb2 := hb 2 (by decide) (by omega); have he2 := he 2 (by decide) (by omega)
  have he3 := he 3 (by decide) hq
  simp only [Nat.add_zero] at hb0 he0
  simp only [hb0, he0, hb1, he1, hb2, he2, he3]
  generalize term m c (ptB ⟨4 * q + 3, hq⟩ (rb r)) (rs r) d = T
  simp only [Fin.sum_univ_succ, Fin.sum_univ_zero, add_assoc, zero_add, add_zero]
  rfl

/-- The call's result array, entry by entry. -/
theorem result_eq (c : Dev nD) (b : Fin 32) (s : Fin 64) (d : Fin 1024) :
    (Value.G7 m c : S32x64x1024.Idx → EReal) (ix3 b s d)
      = xA m c (ix3 b s d)
        + mA m c (ix3 b 0 ⟨5120 + d.val, by have := d.isLt; omega⟩) * ∑ n, term m c b s d n := by
  have hb := b.isLt; have hs := s.isLt; have hd := d.isLt
  have hp : Value.pt7Of (ix3 b s d) = 4 * (b.val / 16) + 3 := by
    show 4 * (1 * (b.val / 16 - 0) + 1 * (s.val / 64 - 0) + 1 * (d.val / 1024 - 0)) + 3 = _
    omega
  have hq : 4 * (b.val / 16) + 3 < cfg0.N := by rw [show cfg0.N = 8 from N_0]; omega
  have h2 : rs (row ⟨b.val % 16, by omega⟩ s) = s := Fin.ext (by show (b.val % 16 * 64 + s.val) % 64 = s.val; omega)
  have h3 : (rb (row ⟨b.val % 16, by omega⟩ s)).val = b.val % 16 := by show (b.val % 16 * 64 + s.val) / 64 = b.val % 16; omega
  have hl : Value.loc7Of (ix3 b s d) = (ix3 (rb (row ⟨b.val % 16, by omega⟩ s)) (rs (row ⟨b.val % 16, by omega⟩ s)) d : S16x64x1024.Idx) := by
    funext a; apply Fin.ext
    match a with
    | ⟨0, _⟩ => exact h3.symm
    | ⟨1, _⟩ => show s.val % 64 = (b.val % 16 * 64 + s.val) % 64; omega
    | ⟨2, _⟩ => show d.val % 1024 = d.val; omega
  unfold Value.G7
  rw [dif_pos (by rw [hp]; exact hq), ← Value.outsAt0_sweep m c _ (by rw [hp]; exact hq), hl]
  have e : outsAt0 m c (Value.pt7Of (ix3 b s d)) (by rw [hp]; exact hq) = outsAt0 m c (4 * (b.val / 16) + 3) hq := by
    congr 1
  rw [e]
  refine (out_run m c _ hq _ d).trans ?_
  have h1 : ptB ⟨4 * (b.val / 16) + 3, hq⟩ (rb (row ⟨b.val % 16, by omega⟩ s)) = b :=
    Fin.ext (by show (4 * (b.val / 16) + 3) / 4 * 16 + (rb (row ⟨b.val % 16, by omega⟩ s)).val = b.val; rw [h3]; omega)
  rw [h1, h2]

end Cert.MoeSampleIdeal.Gen

namespace Cert.MoeSampleRefIdeal.Value

open Cert.MoeSampleRefIdeal Cert.MoeSampleRefIdeal.Gen Cert.Proof.Moe

set_option maxRecDepth 16384
set_option maxHeartbeats 2000000

/-- The reference's result, entry by entry. -/
theorem ref_apply (a0 a2 : Vec Ideal S32x64x1024 .f32) (a1 : Vec Ideal S2048x16 .f32) (a3 : Vec Ideal S32x1x6144 .f32)
    (a4 a5 : Vec Ideal S16x1024x256 .f32) (a6 : Vec Ideal S16x256x1024 .f32) (b : Fin 32) (s : Fin 64) (d : Fin 1024) :
    addf a2 (mulf (broadcastInDim S32x64x1024 ![0, 1, 2] bcast_S32x1x1024_S32x64x1024_0_1_2 (extractStridedSlice S32x1x1024 ![0, 0, 5120] a3 slices_S32x1x6144_S32x1x1024_0_0_5120)) (shapeCast _ (Host.dotGeneral (F := Ideal) (φ₁ := .f32) (φ₂ := .f32) dot_S2048x16x256_S16x256x1024_S2048x1024_12_01_0_2_n_n none (mulf (mulf (mulf (Host.dotGeneral (F := Ideal) (φ₁ := .f32) (φ₂ := .f32) dot_S2048x1024_S16x1024x256_S2048x16x256_1_1_0_02_n_n none (shapeCast _ a0 shapeCasts_S32x64x1024_S2048x1024) a4) (Host.divf (broadcastInDim S2048x16x256 ![] bcast_S_S2048x16x256 (constant S_ .f32 0x3F800000#32)) (addf (broadcastInDim S2048x16x256 ![] bcast_S_S2048x16x256 (constant S_ .f32 0x3F800000#32)) (Host.exp (Host.negf (Host.dotGeneral (F := Ideal) (φ₁ := .f32) (φ₂ := .f32) dot_S2048x1024_S16x1024x256_S2048x16x256_1_1_0_02_n_n none (shapeCast _ a0 shapeCasts_S32x64x1024_S2048x1024) a4)))))) (Host.dotGeneral (F := Ideal) (φ₁ := .f32) (φ₂ := .f32) dot_S2048x1024_S16x1024x256_S2048x16x256_1_1_0_02_n_n none (shapeCast _ a0 shapeCasts_S32x64x1024_S2048x1024) a5)) (broadcastInDim S2048x16x256 ![0, 1, 2] bcast_S2048x16x1_S2048x16x256_0_1_2 (broadcastInDim S2048x16x1 ![0, 1] bcast_S2048x16_S2048x16x1_0_1 a1))) a6) shapeCasts_S2048x1024_S32x64x1024)) (ix3 b s d)
      = a2 (ix3 b s d) + a3 (ix3 b 0 ⟨5120 + d.val, by have := d.isLt; omega⟩)
        * ∑ n : Fin 16, expert (fun k => a0 (ix3 b s k)) (a1 (ix2 ⟨b.val * 64 + s.val, by have := b.isLt; have := s.isLt; omega⟩ n))
            (fun f k => a4 (ix3 n k f)) (fun f k => a5 (ix3 n k f)) (fun f => a6 (ix3 n f d)) := by
  pointwise [expert, unit, Ideal.logistic]

end Cert.MoeSampleRefIdeal.Value

namespace Cert.Proof.MoeSample

set_option maxRecDepth 16384
set_option maxHeartbeats 2000000

/-- The value claim of the routed-experts call: over the extended reals its result array is the reference's. -/
theorem algebraic : Cert.algebraic_MoeSampleIdeal_MoeSampleRefIdeal (hMoeSampleIdeal := Cert.MoeSampleIdeal.Gen.facts) (hMoeSampleRefIdeal := Cert.MoeSampleRefIdeal.Gen.facts) := by
  intro m g m' g' _ hagree
  refine ⟨fun c => Cert.MoeSampleIdeal.Value.G7 m c, θ_run_mono (Cert.MoeSampleIdeal.Value.run m g) fun r h => h,
    θ_run_mono (Cert.MoeSampleRefIdeal.Value.run m' g') fun r h c => ⟨(h c).1.trans ?_, (h c).2⟩⟩
  obtain ⟨e0, e1, e2, e3, e4, e5, e6⟩ := hagree c
  rw [e0, e1, e2, e3, e4, e5, e6]
  funext i
  obtain ⟨b, s, d, rfl⟩ : ∃ (b : Fin 32) (s : Fin 64) (d : Fin 1024), i = (ix3 b s d : Cert.MoeSampleIdeal.S32x64x1024.Idx) :=
    ⟨i 0, i 1, i 2, funext fun a => by fin_cases a <;> rfl⟩
  exact (Cert.MoeSampleRefIdeal.Value.ref_apply _ _ _ _ _ _ _ b s d).trans (Cert.MoeSampleIdeal.Gen.result_eq m c b s d).symm

end Cert.Proof.MoeSample

end
-- ==== Proof.InStep.lean ====
/- One tile of the input projection at the ideal instance: what a grid point leaves in its value, indexer-key and
   convolution-input blocks, read entry by entry. -/
module

public import proofs.«01_k».proof.Proof.Gen.InProjIdeal.Value
public import Idealize.ShloMosaic.Lib.Pointwise
public import Idealize.ShloMosaic.Lib.Tactic
public import Idealize.ShloMosaic.Lib.KernelVsHost

@[expose] public section

open Idealize.ShloMosaic

noncomputable section

namespace Cert.Proof.In

/-- One modulated feature of a token: the token's row `x` over its root mean square, scaled by the norm's gain `g` and by
    one plus the modulation's scale `sc`, and shifted by `sh`. -/
def feat (x g sc sh : Fin 1024 → EReal) (k : Fin 1024) : EReal :=
  x k * Ideal.rsqrt (Ideal.div (∑ j, x j * x j) (Ideal.ofBits .f32 0x44800000#32) + Ideal.ofBits .f32 0x358637BD#32) * g k * (1 + sc k) + sh k

end Cert.Proof.In

namespace Cert.InProjIdeal.Gen

open Cert.InProjIdeal Cert.Proof.In

set_option maxRecDepth 16384
set_option maxHeartbeats 2000000

theorem zero2 : (![0, 0] : Fin 2 → Nat) = fun _ => 0 := funext fun a => by fin_cases a <;> rfl
theorem zero3 : (![0, 0, 0] : Fin 3 → Nat) = fun _ => 0 := funext fun a => by fin_cases a <;> rfl

theorem feat_apply (x0 : Vec Ideal S1x512x1024 .f32) (x3 : Vec Ideal S1x1024 .f32) (x2 x1 : Vec Ideal S1x1x1024 .f32) (r : Fin 512) (k : Fin 1024) :
    k0_pay2 (F := Ideal) x0 x3 x2 x1 (ix2 r k)
      = feat (fun j => x0 (ix3 0 r j)) (fun j => x3 (ix2 0 j)) (fun j => x2 (ix3 0 0 j)) (fun j => x1 (ix3 0 0 j)) k := by
  pointwise [k0_pay2, feat]

/-- The lane that a rotation by 120 brings to lane `l`, and the one that a rotation by 8 brings there. -/
abbrev up (l : Fin 128) : Fin 128 := ⟨(l.val + 128 - 120) % 128, by omega⟩
abbrev dn (l : Fin 128) : Fin 128 := ⟨(l.val + 128 - 8) % 128, by omega⟩

theorem h_apply (x0 : Vec Ideal S1x512x1024 .f32) (x1 x2 : Vec Ideal S1x1x1024 .f32) (x3 : Vec Ideal S1x1024 .f32) (x4 : Vec Ideal S1024x2432 .bf16)
    (x5 : Vec Ideal S2x128 .f32) (x6 : Vec Ideal S6x512x128 .f32) (x7 : Vec Ideal S128x128 .bf16) (r : Fin 512) (k : Fin 1024) :
    k0_pay43 (F := Ideal) x0 x1 x2 x3 x4 x5 x6 x7 (ix2 r k)
      = feat (fun j => x0 (ix3 0 r j)) (fun j => x3 (ix2 0 j)) (fun j => x2 (ix3 0 0 j)) (fun j => x1 (ix3 0 0 j)) k := by
  unfold k0_pay43
  rw [View.ld_unit_zero (S := S1x512x1024) zero3, View.ld_unit_zero (S := S1x1024) zero2, View.ld_unit_zero (S := S1x1x1024) zero3,
    View.ld_unit_zero (S := S1x1x1024) zero3]
  exact feat_apply x0 x3 x2 x1 r k

/-- The call's value block: the row's features against the weight's columns from 640. -/
theorem v_apply (x0 : Vec Ideal S1x512x1024 .f32) (x1 x2 : Vec Ideal S1x1x1024 .f32) (x3 : Vec Ideal S1x1024 .f32) (x4 : Vec Ideal S1024x2432 .bf16)
    (x5 : Vec Ideal S2x128 .f32) (x6 : Vec Ideal S6x512x128 .f32) (x7 : Vec Ideal S128x128 .bf16) (r : Fin 512) (l : Fin 128) :
    out0_11 (F := Ideal) x0 x1 x2 x3 x4 x5 x6 x7 (ix3 0 r l)
      = ∑ k, feat (fun j => x0 (ix3 0 r j)) (fun j => x3 (ix2 0 j)) (fun j => x2 (ix3 0 0 j)) (fun j => x1 (ix3 0 0 j)) k
          * x4 (ix2 k ⟨640 + l.val, by have := l.isLt; omega⟩) := by
  unfold out0_11
  rw [View.canon_unit_zero (S := S1x512x128) zero3]
  pointwise [k0_pay28, k0_pay53, k0_pay27, k0_pay23]
  simp only [h_apply, ← Nat.add_assoc, Nat.reduceAdd]

/-- The call's convolution-input block: the gated linear unit of the columns from 1408 and those from 1920. -/
theorem g_apply (x0 : Vec Ideal S1x512x1024 .f32) (x1 x2 : Vec Ideal S1x1x1024 .f32) (x3 : Vec Ideal S1x1024 .f32) (x4 : Vec Ideal S1024x2432 .bf16)
    (x5 : Vec Ideal S2x128 .f32) (x6 : Vec Ideal S6x512x128 .f32) (x7 : Vec Ideal S128x128 .bf16) (r : Fin 512) (l : Fin 512) :
    out0_16 (F := Ideal) x0 x1 x2 x3 x4 x5 x6 x7 (ix3 0 r l)
      = (∑ k, feat (fun j => x0 (ix3 0 r j)) (fun j => x3 (ix2 0 j)) (fun j => x2 (ix3 0 0 j)) (fun j => x1 (ix3 0 0 j)) k
          * x4 (ix2 k ⟨1408 + l.val, by have := l.isLt; omega⟩))
        * Ideal.logistic (∑ k, feat (fun j => x0 (ix3 0 r j)) (fun j => x3 (ix2 0 j)) (fun j => x2 (ix3 0 0 j)) (fun j => x1 (ix3 0 0 j)) k
          * x4 (ix2 k ⟨1920 + l.val, by have := l.isLt; omega⟩)) := by
  unfold out0_16
  rw [View.canon_unit_zero (S := S1x512x512) zero3]
  pointwise [k0_pay1, k0_pay42]
  simp only [h_apply, ← Nat.add_assoc, Nat.reduceAdd]

/-- The call's indexer-key block: the columns from 1280, turned by the rotary tables 3, 4 and 5. -/
theorem ik_apply (x0 : Vec Ideal S1x512x1024 .f32) (x1 x2 : Vec Ideal S1x1x1024 .f32) (x3 : Vec Ideal S1x1024 .f32) (x4 : Vec Ideal S1024x2432 .bf16)
    (x5 : Vec Ideal S2x128 .f32) (x6 : Vec Ideal S6x512x128 .f32) (x7 : Vec Ideal S128x128 .bf16) (r : Fin 512) (l : Fin 128) :
    out0_14 (F := Ideal) x0 x1 x2 x3 x4 x5 x6 x7 (ix3 0 r l)
      = (∑ k, feat (fun j => x0 (ix3 0 r j)) (fun j => x3 (ix2 0 j)) (fun j => x2 (ix3 0 0 j)) (fun j => x1 (ix3 0 0 j)) k
          * x4 (ix2 k ⟨1280 + l.val, by have := l.isLt; omega⟩)) * x6 (ix3 3 r l)
        + (∑ k, feat (fun j => x0 (ix3 0 r j)) (fun j => x3 (ix2 0 j)) (fun j => x2 (ix3 0 0 j)) (fun j => x1 (ix3 0 0 j)) k
          * x4 (ix2 k ⟨1280 + (up l).val, by have := (up l).isLt; omega⟩)) * x6 (ix3 4 r l)
        + (∑ k, feat (fun j => x0 (ix3 0 r j)) (fun j => x3 (ix2 0 j)) (fun j => x2 (ix3 0 0 j)) (fun j => x1 (ix3 0 0 j)) k
          * x4 (ix2 k ⟨1280 + (dn l).val, by have := (dn l).isLt; omega⟩)) * x6 (ix3 5 r l) := by
  unfold out0_14
  rw [View.canon_unit_zero (S := S1x512x128) zero3]
  pointwise [k0_pay40, k0_pay39, k0_pay47, k0_pay48, k0_pay49, k0_pay6, k0_pay7, k0_pay8]
  simp only [h_apply]

end Cert.InProjIdeal.Gen
end
-- ==== Proof.InHost.lean ====
/- The arrays that the host code hands to the input projection, read entry by entry. -/
module

public import proofs.«01_k».proof.Proof.InStep
public import Idealize.ShloMosaic.Lib.StableHlo.ReadAt
public import Idealize.ShloMosaic.Lib.Claim

@[expose] public section

open Idealize.ShloMosaic Idealize.ShloMosaic.TcCoe Idealize.SL.Sem

noncomputable section

namespace Cert.Proof.In

/-- The rotary angle of position `s` at frequency `k` (`s` times theta to the power `-k / 8`). -/
def ang (s k : Nat) : EReal :=
  FloatOps.sitofp (F := Ideal) FTy.f32 (BitVec.ofNat 32 s) *
    Ideal.pow (Ideal.ofBits FTy.f32 1223959552#32)
      (Ideal.div (-FloatOps.sitofp (F := Ideal) FTy.f32 (BitVec.ofNat 32 k)) (Ideal.ofBits FTy.f32 1090519040#32))

/-- The three indexer tables at position `s` and lane `l`: what multiplies the lane itself, the lane 8 further and the lane 8 before. -/
def ci (s l : Nat) : EReal :=
  if l < 64 then if l < 8 then Ideal.cos (ang s l) else if l - 8 < 8 then Ideal.cos (ang s (l - 8)) else 1
  else if l - 64 < 8 then Ideal.ofBits FTy.f32 1026884851#32 else 0
def sai (s l : Nat) : EReal := if l < 64 then if l < 8 then -Ideal.sin (ang s l) else 0 else 0
def sbi (s l : Nat) : EReal := if l < 64 then if l < 8 then 0 else if l - 8 < 8 then Ideal.sin (ang s (l - 8)) else 0 else 0

end Cert.Proof.In

namespace Cert.InProjIdeal.Gen

open Cert.InProjIdeal Cert.Proof.In

set_option maxRecDepth 16384
set_option maxHeartbeats 2000000

variable (m : (ℓ : Loc nD τ sig) → Buf (Elt Ideal) ℓ)

/-- The call's arguments as arrays. -/
abbrev hX (c : Dev nD) : S4x4096x1024.Idx → EReal := m ((c : Thread nD τ).loc main_arg0)
abbrev hM (c : Dev nD) : S4x1x6144.Idx → EReal := m ((c : Thread nD τ).loc main_arg1)
abbrev hN (c : Dev nD) : S1024.Idx → EReal := m ((c : Thread nD τ).loc main_arg2)
abbrev hW (c : Dev nD) : S1024x2376.Idx → EReal := m ((c : Thread nD τ).loc main_arg3)

theorem v5_at (c : Dev nD) (k : Fin 1024) (j : Fin 2432) :
    (V m c main_v5 : S1024x2432.Idx → EReal) (ix2 k j)
      = if h : j.val < 1352 then hW m c (ix2 k ⟨j.val, by omega⟩)
        else if h : j.val - 1352 < 56 then 0
        else hW m c (ix2 k ⟨1352 + (j.val - 1352 - 56), by have := j.isLt; omega⟩) := by
  unfold V
  iterate 10 (try after_reads_at)

theorem v15_at (c : Dev nD) (k : Fin 1024) : (V m c main_v15 : S1x1024.Idx → EReal) (ix2 0 k) = hN m c (ix1 k) := by
  unfold V
  iterate 10 (try after_reads_at)

theorem t3_at (c : Dev nD) (s : Fin 4096) (l : Fin 128) : (V m c main_v54 : S6x4096x128.Idx → EReal) (ix3 3 s l) = ci s.val l.val := by
  unfold V
  iterate 10 (try after_reads_at)
  rfl

theorem t4_at (c : Dev nD) (s : Fin 4096) (l : Fin 128) : (V m c main_v54 : S6x4096x128.Idx → EReal) (ix3 4 s l) = sai s.val l.val := by
  unfold V
  iterate 10 (try after_reads_at)
  rfl

theorem t5_at (c : Dev nD) (s : Fin 4096) (l : Fin 128) : (V m c main_v54 : S6x4096x128.Idx → EReal) (ix3 5 s l) = sbi s.val l.val := by
  unfold V
  iterate 10 (try after_reads_at)
  rfl

end Cert.InProjIdeal.Gen
end
-- ==== Proof.InBlocks.lean ====
/- The input projection's windows at a grid point, read as entries of the call's argument arrays. -/
module

public import proofs.«01_k».proof.Proof.InHost
public import Idealize.ShloMosaic.Lib.Claim

@[expose] public section

open Idealize.ShloMosaic Idealize.ShloMosaic.TcCoe Idealize.SL.Sem

noncomputable section

namespace Cert.InProjIdeal.Gen

open Cert.InProjIdeal Cert.Proof.In

set_option maxRecDepth 16384
set_option maxHeartbeats 2000000

variable (m : (ℓ : Loc nD τ sig) → Buf (Elt Ideal) ℓ)

theorem pt_lt (t : Fin cfg0.N) : t.val < 32 := lt_of_lt_of_eq t.isLt N_0

theorem idx0 : ∀ t : Fin cfg0.N, win0_0.index t 0 = t.val / 8 ∧ win0_0.index t 1 = t.val % 8 ∧ win0_0.index t 2 = 0 :=
  (by decide +kernel : ∀ t : Fin grid0.N, _)
theorem idx1 : ∀ t : Fin cfg0.N, win0_1.index t 0 = t.val / 8 ∧ win0_1.index t 1 = 0 ∧ win0_1.index t 2 = 0 :=
  (by decide +kernel : ∀ t : Fin grid0.N, _)
theorem idx2 : ∀ t : Fin cfg0.N, win0_2.index t 0 = t.val / 8 ∧ win0_2.index t 1 = 0 ∧ win0_2.index t 2 = 1 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx6 : ∀ t : Fin cfg0.N, win0_6.index t 0 = 0 ∧ win0_6.index t 1 = t.val % 8 ∧ win0_6.index t 2 = 0 :=
  (by decide +kernel : ∀ t : Fin grid0.N, _)
theorem idx11 : ∀ t : Fin cfg0.N, win0_11.index t 0 = t.val / 8 ∧ win0_11.index t 1 = t.val % 8 ∧ win0_11.index t 2 = 0 :=
  (by decide +kernel : ∀ t : Fin grid0.N, _)
theorem idx14 : ∀ t : Fin cfg0.N, win0_14.index t 0 = t.val / 8 ∧ win0_14.index t 1 = t.val % 8 ∧ win0_14.index t 2 = 0 :=
  (by decide +kernel : ∀ t : Fin grid0.N, _)
theorem idx16 : ∀ t : Fin cfg0.N, win0_16.index t 0 = t.val / 8 ∧ win0_16.index t 1 = t.val % 8 ∧ win0_16.index t 2 = 0 :=
  (by decide +kernel : ∀ t : Fin grid0.N, _)

/-- The batch of a grid point and the token row `r` of its tile. -/
def ptB (t : Fin cfg0.N) : Fin 4 := ⟨t.val / 8, by have := pt_lt t; omega⟩
def ptS (t : Fin cfg0.N) (r : Fin 512) : Fin 4096 := ⟨t.val % 8 * 512 + r.val, by have := r.isLt; omega⟩

theorem blk0 (c : Dev nD) (t : Fin cfg0.N) (r : Fin 512) (k : Fin 1024) :
    (iblk m c 0 t : Vec Ideal S1x512x1024 .f32) (ix3 0 r k) = hX m c (ix3 (ptB t) (ptS t r) k) := by
  unfold iblk
  rw [View.read_apply]
  show V m c main_arg0 _ = _
  entry_read
  show m (c, Proc.tc.devRef main_arg0) _ = m (c, Proc.tc.devRef main_arg0) _
  congr 1
  obtain ⟨e0, e1, e2⟩ := idx0 t
  funext a
  apply Fin.ext
  match a with
  | ⟨0, _⟩ => show win0_0.index t 0 * 1 + 1 * (0 : Fin 1).val = _; rw [e0]; first | rfl | (simp only [ptB, ptS, ix3]; omega) | (simp [ptB, ptS, ix3])
  | ⟨1, _⟩ => show win0_0.index t 1 * 512 + 1 * r.val = _; rw [e1]; first | rfl | (simp only [ptB, ptS, ix3]; omega) | (simp [ptB, ptS, ix3])
  | ⟨2, _⟩ => show win0_0.index t 2 * 1024 + 1 * k.val = _; rw [e2]; first | rfl | (simp only [ptB, ptS, ix3]; omega) | (simp [ptB, ptS, ix3])

theorem blk1 (c : Dev nD) (t : Fin cfg0.N) (k : Fin 1024) :
    (iblk m c 1 t : Vec Ideal S1x1x1024 .f32) (ix3 0 0 k) = hM m c (ix3 (ptB t) 0 ⟨k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx1 t
  funext a
  apply Fin.ext
  match a with
  | ⟨0, _⟩ => show win0_1.index t 0 * 1 + 1 * (0 : Fin 1).val = _; rw [e0]; first | rfl | (simp only [ptB, ptS, ix3]; omega) | (simp [ptB, ptS, ix3])
  | ⟨1, _⟩ => show win0_1.index t 1 * 1 + 1 * (0 : Fin 1).val = _; rw [e1]; first | rfl | (simp only [ptB, ptS, ix3]; omega) | (simp [ptB, ptS, ix3])
  | ⟨2, _⟩ => show win0_1.index t 2 * 1024 + 1 * k.val = _; rw [e2]; first | rfl | (simp only [ptB, ptS, ix3]; omega) | (simp [ptB, ptS, ix3])

theorem blk2 (c : Dev nD) (t : Fin cfg0.N) (k : Fin 1024) :
    (iblk m c 2 t : Vec Ideal S1x1x1024 .f32) (ix3 0 0 k) = hM m c (ix3 (ptB t) 0 ⟨1024 + k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx2 t
  funext a
  apply Fin.ext
  match a with
  | ⟨0, _⟩ => show win0_2.index t 0 * 1 + 1 * (0 : Fin 1).val = _; rw [e0]; first | rfl | (simp only [ptB, ptS, ix3]; omega) | (simp [ptB, ptS, ix3])
  | ⟨1, _⟩ => show win0_2.index t 1 * 1 + 1 * (0 : Fin 1).val = _; rw [e1]; first | rfl | (simp only [ptB, ptS, ix3]; omega) | (simp [ptB, ptS, ix3])
  | ⟨2, _⟩ => show win0_2.index t 2 * 1024 + 1 * k.val = _; rw [e2]; first | rfl | (simp only [ptB, ptS, ix3]; omega) | (simp [ptB, ptS, ix3])

theorem blk3 (c : Dev nD) (t : Fin cfg0.N) (k : Fin 1024) :
    (iblk m c 3 t : Vec Ideal S1x1024 .f32) (ix2 0 k) = hN m c (ix1 k) := by
  unfold iblk
  rw [View.read_apply]
  have hj : ((cfg0.win 3).blk t).view.emb (ix2 0 k : S1x1024.Idx) = (ix2 0 k : S1x1024.Idx) := by
    obtain ⟨e0, e1⟩ := idx3 t
    funext a
    apply Fin.ext
    match a with
    | ⟨0, _⟩ => show win0_3.index t 0 * 1 + 1 * (0 : Fin 1).val = _; rw [e0]; first | rfl | (simp only [ptB, ptS, ix2, ix3]; omega) | (simp [ptB, ptS, ix2, ix3])
    | ⟨1, _⟩ => show win0_3.index t 1 * 1024 + 1 * k.val = _; rw [e1]; first | rfl | (simp only [ptB, ptS, ix2, ix3]; omega) | (simp [ptB, ptS, ix2, ix3])
  show V m c main_v15 _ = _
  rw [hj]
  exact v15_at m c k

theorem blk4 (c : Dev nD) (t : Fin cfg0.N) (k : Fin 1024) (j : Fin 2432) :
    (iblk m c 4 t : Vec Ideal S1024x2432 .bf16) (ix2 k j) = (if h : j.val < 1352 then hW m c (ix2 k ⟨j.val, by omega⟩)
        else if h : j.val - 1352 < 56 then 0
        else hW m c (ix2 k ⟨1352 + (j.val - 1352 - 56), by have := j.isLt; omega⟩) : EReal) := by
  unfold iblk
  rw [View.read_apply]
  have hj : ((cfg0.win 4).blk t).view.emb (ix2 k j : S1024x2432.Idx) = (ix2 k j : S1024x2432.Idx) := by
    obtain ⟨e0, e1⟩ := idx4 t
    funext a
    apply Fin.ext
    match a with
    | ⟨0, _⟩ => show win0_4.index t 0 * 1024 + 1 * k.val = _; rw [e0]; first | rfl | (simp only [ptB, ptS, ix2, ix3]; omega) | (simp [ptB, ptS, ix2, ix3])
    | ⟨1, _⟩ => show win0_4.index t 1 * 2432 + 1 * j.val = _; rw [e1]; first | rfl | (simp only [ptB, ptS, ix2, ix3]; omega) | (simp [ptB, ptS, ix2, ix3])
  show V m c main_v5 _ = _
  rw [hj]
  exact v5_at m c k j

theorem tab3 (c : Dev nD) (t : Fin cfg0.N) (r : Fin 512) (l : Fin 128) :
    (iblk m c 6 t : Vec Ideal S6x512x128 .f32) (ix3 3 r l) = (ci (ptS t r).val l.val : EReal) := by
  unfold iblk
  rw [View.read_apply]
  have hj : ((cfg0.win 6).blk t).view.emb (ix3 3 r l : S6x512x128.Idx) = (ix3 3 (ptS t r) l : S6x4096x128.Idx) := by
    obtain ⟨e0, e1, e2⟩ := idx6 t
    funext a
    apply Fin.ext
    match a with
    | ⟨0, _⟩ => show win0_6.index t 0 * 6 + 1 * (3 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t3_at m c (ptS t r) l

theorem tab4 (c : Dev nD) (t : Fin cfg0.N) (r : Fin 512) (l : Fin 128) :
    (iblk m c 6 t : Vec Ideal S6x512x128 .f32) (ix3 4 r l) = (sai (ptS t r).val l.val : EReal) := by
  unfold iblk
  rw [View.read_apply]
  have hj : ((cfg0.win 6).blk t).view.emb (ix3 4 r l : S6x512x128.Idx) = (ix3 4 (ptS t r) l : S6x4096x128.Idx) := by
    obtain ⟨e0, e1, e2⟩ := idx6 t
    funext a
    apply Fin.ext
    match a with
    | ⟨0, _⟩ => show win0_6.index t 0 * 6 + 1 * (4 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t4_at m c (ptS t r) l

theorem tab5 (c : Dev nD) (t : Fin cfg0.N) (r : Fin 512) (l : Fin 128) :
    (iblk m c 6 t : Vec Ideal S6x512x128 .f32) (ix3 5 r l) = (sbi (ptS t r).val l.val : EReal) := by
  unfold iblk
  rw [View.read_apply]
  have hj : ((cfg0.win 6).blk t).view.emb (ix3 5 r l : S6x512x128.Idx) = (ix3 5 (ptS t r) l : S6x4096x128.Idx) := by
    obtain ⟨e0, e1, e2⟩ := idx6 t
    funext a
    apply Fin.ext
    match a with
    | ⟨0, _⟩ => show win0_6.index t 0 * 6 + 1 * (5 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t5_at m c (ptS t r) l

end Cert.InProjIdeal.Gen
end
-- ==== Proof.InValue.lean ====
/- The input projection at the ideal instance: its value, indexer-key and convolution-input arrays, entry by entry, are the
   reference's. -/
module

public import proofs.«01_k».proof.Defs
public import proofs.«01_k».proof.Proof.InBlocks
public import proofs.«01_k».proof.Proof.Gen.InProjRefIdeal.Run
public import Idealize.ShloMosaic.Lib.Claim

@[expose] public section

open Idealize.ShloMosaic Idealize.ShloMosaic.TcCoe Idealize.SL.Sem

noncomputable section

namespace Cert.Proof.In

/-- A column of the projected features of one token. -/
def proj (x g sc sh w : Fin 1024 → EReal) : EReal := ∑ k, feat x g sc sh k * w k

/-- The indexer key and weights of one token, from the 72 projected columns. -/
def keyLane (s : Nat) (P : Fin 72 → EReal) (l : Fin 128) : EReal :=
  if h : l.val < 64 then
    if l.val < 8 then P ⟨l.val, by omega⟩ * Ideal.cos (ang s l.val) - P ⟨8 + l.val, by omega⟩ * Ideal.sin (ang s l.val)
    else if l.val - 8 < 8 then P ⟨l.val, by omega⟩ * Ideal.cos (ang s (l.val - 8)) + P ⟨l.val - 8, by omega⟩ * Ideal.sin (ang s (l.val - 8))
    else P ⟨l.val, by omega⟩
  else if h : l.val - 64 < 8 then P ⟨l.val, by omega⟩ * Ideal.ofBits FTy.f32 1026884851#32 else 0

end Cert.Proof.In

namespace Cert.InProjIdeal.Gen

open Cert.InProjIdeal Cert.Proof.In

set_option maxRecDepth 16384
set_option maxHeartbeats 8000000

variable (m : (ℓ : Loc nD τ sig) → Buf (Elt Ideal) ℓ)

theorem flush11 : ∀ t : Fin cfg0.N, (cfg0.win 11).flush t = true := (by decide +kernel : ∀ t : Fin grid0.N, _)

/-- Output window 11's array at the place of a grid point's block entry is what the point leaves there. -/
theorem arr11 (c : Dev nD) (t : Fin cfg0.N) (r : Fin 512) (l : Fin 128) :
    ((dats m 0 c).arrAt 11 cfg0.N : S4x4096x128.Idx → EReal) (ix3 (ptB t) (ptS t r) l)
      = out0_11 (iblk m c 0 t) (iblk m c 1 t) (iblk m c 2 t) (iblk m c 3 t) (iblk m c 4 t) (iblk m c 5 t) (iblk m c 6 t) (iblk m c 7 t) (ix3 0 r l) := by
  have e := congrFun (Value.blocks11 m c t (flush11 t)) (ix3 0 r l : S1x512x128.Idx)
  rw [View.read_apply, Value.flushed11] at e
  have hj : ((cfg0.win 11).blk t).view.emb (ix3 0 r l : S1x512x128.Idx) = (ix3 (ptB t) (ptS t r) l : S4x4096x128.Idx) := by
    obtain ⟨e0, e1, e2⟩ := idx11 t
    funext a
    apply Fin.ext
    match a with
    | ⟨0, _⟩ => show win0_11.index t 0 * 1 + 1 * (0 : Fin 1).val = _; rw [e0]; first | rfl | (simp only [ptB, ptS, ix3]; omega) | (simp [ptB, ptS, ix3])
    | ⟨1, _⟩ => show win0_11.index t 1 * 512 + 1 * r.val = _; rw [e1]; first | rfl | (simp only [ptB, ptS, ix3]; omega) | (simp [ptB, ptS, ix3])
    | ⟨2, _⟩ => show win0_11.index t 2 * 128 + 1 * l.val = _; rw [e2]; first | rfl | (simp only [ptB, ptS, ix3]; omega) | (simp [ptB, ptS, ix3])
  rw [hj] at e
  exact e

theorem flush14 : ∀ t : Fin cfg0.N, (cfg0.win 14).flush t = true := (by decide +kernel : ∀ t : Fin grid0.N, _)

/-- Output window 14's array at the place of a grid point's block entry is what the point leaves there. -/
theorem arr14 (c : Dev nD) (t : Fin cfg0.N) (r : Fin 512) (l : Fin 128) :
    ((dats m 0 c).arrAt 14 cfg0.N : S4x4096x128.Idx → EReal) (ix3 (ptB t) (ptS t r) l)
      = out0_14 (iblk m c 0 t) (iblk m c 1 t) (iblk m c 2 t) (iblk m c 3 t) (iblk m c 4 t) (iblk m c 5 t) (iblk m c 6 t) (iblk m c 7 t) (ix3 0 r l) := by
  have e := congrFun (Value.blocks14 m c t (flush14 t)) (ix3 0 r l : S1x512x128.Idx)
  rw [View.read_apply, Value.flushed14] at e
  have hj : ((cfg0.win 14).blk t).view.emb (ix3 0 r l : S1x512x128.Idx) = (ix3 (ptB t) (ptS t r) l : S4x4096x128.Idx) := by
    obtain ⟨e0, e1, e2⟩ := idx14 t
    funext a
    apply Fin.ext
    match a with
    | ⟨0, _⟩ => show win0_14.index t 0 * 1 + 1 * (0 : Fin 1).val = _; rw [e0]; first | rfl | (simp only [ptB, ptS, ix3]; omega) | (simp [ptB, ptS, ix3])
    | ⟨1, _⟩ => show win0_14.index t 1 * 512 + 1 * r.val = _; rw [e1]; first | rfl | (simp only [ptB, ptS, ix3]; omega) | (simp [ptB, ptS, ix3])
    | ⟨2, _⟩ => show win0_14.index t 2 * 128 + 1 * l.val = _; rw [e2]; first | rfl | (simp only [ptB, ptS, ix3]; omega) | (simp [ptB, ptS, ix3])
  rw [hj] at e
  exact e

theorem flush16 : ∀ t : Fin cfg0.N, (cfg0.win 16).flush t = true := (by decide +kernel : ∀ t : Fin grid0.N, _)

/-- Output window 16's array at the place of a grid point's block entry is what the point leaves there. -/
theorem arr16 (c : Dev nD) (t : Fin cfg0.N) (r : Fin 512) (l : Fin 512) :
    ((dats m 0 c).arrAt 16 cfg0.N : S4x4096x512.Idx → EReal) (ix3 (ptB t) (ptS t r) l)
      = out0_16 (iblk m c 0 t) (iblk m c 1 t) (iblk m c 2 t) (iblk m c 3 t) (iblk m c 4 t) (iblk m c 5 t) (iblk m c 6 t) (iblk m c 7 t) (ix3 0 r l) := by
  have e := congrFun (Value.blocks16 m c t (flush16 t)) (ix3 0 r l : S1x512x512.Idx)
  rw [View.read_apply, Value.flushed16] at e
  have hj : ((cfg0.win 16).blk t).view.emb (ix3 0 r l : S1x512x512.Idx) = (ix3 (ptB t) (ptS t r) l : S4x4096x512.Idx) := by
    obtain ⟨e0, e1, e2⟩ := idx16 t
    funext a
    apply Fin.ext
    match a with
    | ⟨0, _⟩ => show win0_16.index t 0 * 1 + 1 * (0 : Fin 1).val = _; rw [e0]; first | rfl | (simp only [ptB, ptS, ix3]; omega) | (simp [ptB, ptS, ix3])
    | ⟨1, _⟩ => show win0_16.index t 1 * 512 + 1 * r.val = _; rw [e1]; first | rfl | (simp only [ptB, ptS, ix3]; omega) | (simp [ptB, ptS, ix3])
    | ⟨2, _⟩ => show win0_16.index t 2 * 512 + 1 * l.val = _; rw [e2]; first | rfl | (simp only [ptB, ptS, ix3]; omega) | (simp [ptB, ptS, ix3])
  rw [hj] at e
  exact e

/-- One projected column of one token, from the call's argument arrays. -/
abbrev col (c : Dev nD) (b : Fin 4) (s : Fin 4096) (j : Fin 2376) : EReal :=
  proj (fun j => hX m c (ix3 b s j)) (fun j => hN m c (ix1 j)) (fun j => hM m c (ix3 b 0 ⟨1024 + j.val, by have := j.isLt; omega⟩))
    (fun j => hM m c (ix3 b 0 ⟨j.val, by have := j.isLt; omega⟩)) (fun k => hW m c (ix2 k j))

/-- A column of the padded weights before the padding, in it, and after it, applied to a token's features. -/
theorem colLow (c : Dev nD) (t : Fin cfg0.N) (r : Fin 512) (j : Fin 2432) (hj : j.val < 1352) :
    (∑ k, feat (fun j => (iblk m c 0 t : Vec Ideal S1x512x1024 .f32) (ix3 0 r j)) (fun j => (iblk m c 3 t : Vec Ideal S1x1024 .f32) (ix2 0 j))
        (fun j => (iblk m c 2 t : Vec Ideal S1x1x1024 .f32) (ix3 0 0 j)) (fun j => (iblk m c 1 t : Vec Ideal S1x1x1024 .f32) (ix3 0 0 j)) k
        * (iblk m c 4 t : Vec Ideal S1024x2432 .bf16) (ix2 k j))
      = col m c (ptB t) (ptS t r) ⟨j.val, by omega⟩ := by
  unfold col proj
  refine Finset.sum_congr rfl fun k _ => ?_
  simp only [blk0, blk1, blk2, blk3, blk4, hj, ↓reduceDIte]

theorem colPad (c : Dev nD) (t : Fin cfg0.N) (r : Fin 512) (j : Fin 2432) (hj : 1352 ≤ j.val) (hj' : j.val < 1408) :
    (∑ k, feat (fun j => (iblk m c 0 t : Vec Ideal S1x512x1024 .f32) (ix3 0 r j)) (fun j => (iblk m c 3 t : Vec Ideal S1x1024 .f32) (ix2 0 j))
        (fun j => (iblk m c 2 t : Vec Ideal S1x1x1024 .f32) (ix3 0 0 j)) (fun j => (iblk m c 1 t : Vec Ideal S1x1x1024 .f32) (ix3 0 0 j)) k
        * (iblk m c 4 t : Vec Ideal S1024x2432 .bf16) (ix2 k j))
      = 0 := by
  refine Finset.sum_eq_zero fun k _ => ?_
  rw [blk4, dif_neg (by omega), dif_pos (by omega), mul_zero]

theorem colHigh (c : Dev nD) (t : Fin cfg0.N) (r : Fin 512) (j : Fin 2432) (hj : 1408 ≤ j.val) :
    (∑ k, feat (fun j => (iblk m c 0 t : Vec Ideal S1x512x1024 .f32) (ix3 0 r j)) (fun j => (iblk m c 3 t : Vec Ideal S1x1024 .f32) (ix2 0 j))
        (fun j => (iblk m c 2 t : Vec Ideal S1x1x1024 .f32) (ix3 0 0 j)) (fun j => (iblk m c 1 t : Vec Ideal S1x1x1024 .f32) (ix3 0 0 j)) k
        * (iblk m c 4 t : Vec Ideal S1024x2432 .bf16) (ix2 k j))
      = col m c (ptB t) (ptS t r) ⟨j.val - 56, by have := j.isLt; omega⟩ := by
  unfold col proj
  refine Finset.sum_congr rfl fun k _ => ?_
  have e : 1352 + (j.val - 1352 - 56) = j.val - 56 := by omega
  have h1 : ¬j.val < 1352 := by omega
  have h2 : ¬j.val - 1352 < 56 := by omega
  simp only [blk0, blk1, blk2, blk3, blk4, h1, h2, ↓reduceDIte, e]

/-- The grid point and the row that hold a token. -/
theorem point_of (b : Fin 4) (s : Fin 4096) : ∃ (t : Fin cfg0.N) (r : Fin 512), ptB t = b ∧ ptS t r = s := by
  have hb := b.isLt; have hs := s.isLt
  refine ⟨⟨b.val * 8 + s.val / 512, by rw [show cfg0.N = 32 from N_0]; omega⟩, ⟨s.val % 512, by omega⟩, Fin.ext ?_, Fin.ext ?_⟩
  · show (b.val * 8 + s.val / 512) / 8 = b.val; omega
  · show (b.val * 8 + s.val / 512) % 8 * 512 + s.val % 512 = s.val; omega

/-- The call's value array, entry by entry. -/
theorem v_eq (c : Dev nD) (b : Fin 4) (s : Fin 4096) (l : Fin 128) :
    ((dats m 0 c).arrAt 11 cfg0.N : S4x4096x128.Idx → EReal) (ix3 b s l) = col m c b s ⟨640 + l.val, by have := l.isLt; omega⟩ := by
  have hl := l.isLt
  obtain ⟨t, r, rfl, rfl⟩ := point_of b s
  rw [arr11, v_apply]
  exact colLow m c t r ⟨640 + l.val, by omega⟩ (by show 640 + l.val < 1352; omega)

/-- The call's convolution-input array, entry by entry. -/
theorem g_eq (c : Dev nD) (b : Fin 4) (s : Fin 4096) (l : Fin 512) :
    ((dats m 0 c).arrAt 16 cfg0.N : S4x4096x512.Idx → EReal) (ix3 b s l)
      = col m c b s ⟨1352 + l.val, by have := l.isLt; omega⟩ * Ideal.logistic (col m c b s ⟨1864 + l.val, by have := l.isLt; omega⟩) := by
  have hl := l.isLt
  obtain ⟨t, r, rfl, rfl⟩ := point_of b s
  rw [arr16, g_apply]
  have e1 : 1408 + l.val - 56 = 1352 + l.val := by omega
  have e2 : 1920 + l.val - 56 = 1864 + l.val := by omega
  have h1 := colHigh m c t r ⟨1408 + l.val, by omega⟩ (by show 1408 ≤ 1408 + l.val; omega)
  have h2 := colHigh m c t r ⟨1920 + l.val, by omega⟩ (by show 1408 ≤ 1920 + l.val; omega)
  simp only [e1] at h1
  simp only [e2] at h2
  rw [h1, h2]

/-- The rotary turn of the indexer columns, lane by lane: the columns past the 72nd are padding. -/
theorem turn (P : Fin 128 → EReal) (Q : Fin 72 → EReal) (hP : ∀ q : Fin 72, P ⟨q.val, by have := q.isLt; omega⟩ = Q q) (s : Nat) (l : Fin 128) :
    P l * ci s l.val + P (up l) * sai s l.val + P (dn l) * sbi s l.val = keyLane s Q l := by
  have hl := l.isLt
  unfold ci sai sbi keyLane
  by_cases h1 : l.val < 64
  · have p0 : P l = Q ⟨l.val, by omega⟩ := hP ⟨l.val, by omega⟩
    by_cases h2 : l.val < 8
    · have p1 : P (up l) = Q ⟨8 + l.val, by omega⟩ := by
        rw [← hP]; congr 1; apply Fin.ext; show (l.val + 128 - 120) % 128 = 8 + l.val; omega
      simp only [h1, h2, ↓reduceDIte, ↓reduceIte, p0, p1, mul_zero, add_zero, mul_neg, sub_eq_add_neg]
    · by_cases h3 : l.val - 8 < 8
      · have p1 : P (dn l) = Q ⟨l.val - 8, by omega⟩ := by
          rw [← hP]; congr 1; apply Fin.ext; show (l.val + 128 - 8) % 128 = l.val - 8; omega
        simp only [h1, h2, h3, ↓reduceDIte, ↓reduceIte, p0, p1, mul_zero, add_zero]
      · simp only [h1, h2, h3, ↓reduceDIte, ↓reduceIte, p0, mul_zero, add_zero, mul_one]
  · by_cases h4 : l.val - 64 < 8
    · have p0 : P l = Q ⟨l.val, by omega⟩ := hP ⟨l.val, by omega⟩
      simp only [h1, h4, ↓reduceDIte, ↓reduceIte, p0, mul_zero, add_zero]
    · simp only [h1, h4, ↓reduceDIte, ↓reduceIte, mul_zero, add_zero]

/-- The call's indexer-key array, entry by entry. -/
theorem ik_eq (c : Dev nD) (b : Fin 4) (s : Fin 4096) (l : Fin 128) :
    ((dats m 0 c).arrAt 14 cfg0.N : S4x4096x128.Idx → EReal) (ix3 b s l)
      = keyLane s.val (fun q => col m c b s ⟨1280 + q.val, by have := q.isLt; omega⟩) l := by
  obtain ⟨t, r, rfl, rfl⟩ := point_of b s
  rw [arr14, ik_apply, tab3, tab4, tab5]
  refine turn (fun q : Fin 128 => ∑ k, feat (fun j => (iblk m c 0 t : Vec Ideal S1x512x1024 .f32) (ix3 0 r j)) (fun j => (iblk m c 3 t : Vec Ideal S1x1024 .f32) (ix2 0 j))
        (fun j => (iblk m c 2 t : Vec Ideal S1x1x1024 .f32) (ix3 0 0 j)) (fun j => (iblk m c 1 t : Vec Ideal S1x1x1024 .f32) (ix3 0 0 j)) k
        * (iblk m c 4 t : Vec Ideal S1024x2432 .bf16) (ix2 k ⟨1280 + q.val, by have := q.isLt; omega⟩)) _ (fun q => ?_) _ l
  have hq := q.isLt
  exact colLow m c t r ⟨1280 + q.val, by omega⟩ (by show 1280 + q.val < 1352; omega)

end Cert.InProjIdeal.Gen

namespace Cert.InProjRefIdeal.Value

open Cert.InProjRefIdeal Cert.InProjRefIdeal.Gen Cert.Proof.In

set_option maxRecDepth 16384
set_option maxHeartbeats 8000000

theorem ref_v (a0 : Vec Ideal S4x4096x1024 .f32) (a1 : Vec Ideal S4x1x6144 .f32) (a2 : Vec Ideal S1024 .f32) (a3 : Vec Ideal S1024x2376 .f32)
    (b : Fin 4) (s : Fin 4096) (l : Fin 128) :
    extractStridedSlice S4x4096x128 ![0, 0, 640] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x128_0_0_640 (ix3 b s l)
      = proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨640 + l.val, by have := l.isLt; omega⟩)) := by
  pointwise [proj, feat]

theorem ref_g (a0 : Vec Ideal S4x4096x1024 .f32) (a1 : Vec Ideal S4x1x6144 .f32) (a2 : Vec Ideal S1024 .f32) (a3 : Vec Ideal S1024x2376 .f32)
    (b : Fin 4) (s : Fin 4096) (l : Fin 512) :
    mulf (extractStridedSlice S4x4096x512 ![0, 0, 0] (extractStridedSlice S4x4096x1024 ![0, 0, 1352] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x1024_0_0_1352) slices_S4x4096x1024_S4x4096x512_0_0_0) (Host.divf (broadcastInDim S4x4096x512 ![] bcast_S_S4x4096x512 (constant (F := Ideal) S_ .f32 0x3F800000#32)) (addf (broadcastInDim S4x4096x512 ![] bcast_S_S4x4096x512 (constant (F := Ideal) S_ .f32 0x3F800000#32)) (Host.exp (Host.negf (extractStridedSlice S4x4096x512 ![0, 0, 512] (extractStridedSlice S4x4096x1024 ![0, 0, 1352] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x1024_0_0_1352) slices_S4x4096x1024_S4x4096x512_0_0_512))))) (ix3 b s l)
      = proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨1352 + l.val, by have := l.isLt; omega⟩))
        * Ideal.logistic (proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨1864 + l.val, by have := l.isLt; omega⟩))) := by
  pointwise [proj, feat, Ideal.logistic]
  simp only [← Nat.add_assoc, Nat.reduceAdd]

theorem ref_ik (a0 : Vec Ideal S4x4096x1024 .f32) (a1 : Vec Ideal S4x1x6144 .f32) (a2 : Vec Ideal S1024 .f32) (a3 : Vec Ideal S1024x2376 .f32)
    (b : Fin 4) (s : Fin 4096) (l : Fin 128) :
      (concatenate S4x4096x128 2 [⟨S4x4096x64, ((shapeCast _ ((concatenate S4x4096x1x64 3 [⟨S4x4096x1x8, ((subf (mulf (extractStridedSlice S4x4096x1x8 ![0, 0, 0, 0] (broadcastInDim S4x4096x1x64 ![0, 1, 3] bcast_S4x4096x64_S4x4096x1x64_0_1_3 (extractStridedSlice S4x4096x64 ![0, 0, 1280] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x64_0_0_1280)) slices_S4x4096x1x64_S4x4096x1x8_0_0_0_0) (broadcastInDim S4x4096x1x8 ![0, 1, 2, 3] bcast_S1x4096x1x8_S4x4096x1x8_0_1_2_3 (broadcastInDim S1x4096x1x8 ![1, 2, 3] bcast_S4096x1x8_S1x4096x1x8_1_2_3 (broadcastInDim S4096x1x8 ![0, 2] bcast_S4096x8_S4096x1x8_0_2 (Host.cos (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S4x4096x1x8 ![0, 0, 0, 8] (broadcastInDim S4x4096x1x64 ![0, 1, 3] bcast_S4x4096x64_S4x4096x1x64_0_1_3 (extractStridedSlice S4x4096x64 ![0, 0, 1280] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x64_0_0_1280)) slices_S4x4096x1x64_S4x4096x1x8_0_0_0_8) (broadcastInDim S4x4096x1x8 ![0, 1, 2, 3] bcast_S1x4096x1x8_S4x4096x1x8_0_1_2_3 (broadcastInDim S1x4096x1x8 ![1, 2, 3] bcast_S4096x1x8_S1x4096x1x8_1_2_3 (broadcastInDim S4096x1x8 ![0, 2] bcast_S4096x8_S4096x1x8_0_2 (Host.sin (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S4x4096x1x8 .f32)⟩, ⟨S4x4096x1x8, ((addf (mulf (extractStridedSlice S4x4096x1x8 ![0, 0, 0, 8] (broadcastInDim S4x4096x1x64 ![0, 1, 3] bcast_S4x4096x64_S4x4096x1x64_0_1_3 (extractStridedSlice S4x4096x64 ![0, 0, 1280] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x64_0_0_1280)) slices_S4x4096x1x64_S4x4096x1x8_0_0_0_8) (broadcastInDim S4x4096x1x8 ![0, 1, 2, 3] bcast_S1x4096x1x8_S4x4096x1x8_0_1_2_3 (broadcastInDim S1x4096x1x8 ![1, 2, 3] bcast_S4096x1x8_S1x4096x1x8_1_2_3 (broadcastInDim S4096x1x8 ![0, 2] bcast_S4096x8_S4096x1x8_0_2 (Host.cos (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S4x4096x1x8 ![0, 0, 0, 0] (broadcastInDim S4x4096x1x64 ![0, 1, 3] bcast_S4x4096x64_S4x4096x1x64_0_1_3 (extractStridedSlice S4x4096x64 ![0, 0, 1280] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x64_0_0_1280)) slices_S4x4096x1x64_S4x4096x1x8_0_0_0_0) (broadcastInDim S4x4096x1x8 ![0, 1, 2, 3] bcast_S1x4096x1x8_S4x4096x1x8_0_1_2_3 (broadcastInDim S1x4096x1x8 ![1, 2, 3] bcast_S4096x1x8_S1x4096x1x8_1_2_3 (broadcastInDim S4096x1x8 ![0, 2] bcast_S4096x8_S4096x1x8_0_2 (Host.sin (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S4x4096x1x8 .f32)⟩, ⟨S4x4096x1x48, ((extractStridedSlice S4x4096x1x48 ![0, 0, 0, 16] (broadcastInDim S4x4096x1x64 ![0, 1, 3] bcast_S4x4096x64_S4x4096x1x64_0_1_3 (extractStridedSlice S4x4096x64 ![0, 0, 1280] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x64_0_0_1280)) slices_S4x4096x1x64_S4x4096x1x48_0_0_0_16) : Vec Ideal S4x4096x1x48 .f32)⟩] concatenates_S4x4096x1x8_S4x4096x1x8_S4x4096x1x48_S4x4096x1x64_d3 : Vec Ideal S4x4096x1x64 .f32)) shapeCasts_S4x4096x1x64_S4x4096x64) : Vec Ideal S4x4096x64 .f32)⟩, ⟨S4x4096x8, ((mulf (extractStridedSlice S4x4096x8 ![0, 0, 1344] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x8_0_0_1344) (broadcastInDim S4x4096x8 ![] bcast_S_S4x4096x8 (constant (F := Ideal) S_ .f32 0x3D3504F3#32))) : Vec Ideal S4x4096x8 .f32)⟩, ⟨S4x4096x56, ((broadcastInDim S4x4096x56 ![] bcast_S_S4x4096x56 (constant (F := Ideal) S_ .f32 0x00000000#32)) : Vec Ideal S4x4096x56 .f32)⟩] concatenates_S4x4096x64_S4x4096x8_S4x4096x56_S4x4096x128_d2 : Vec Ideal S4x4096x128 .f32) (ix3 b s l)
      = keyLane s.val (fun q => proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨1280 + q.val, by have := q.isLt; omega⟩))) l := by
  pointwise [keyLane, proj, feat, ang]
  by_cases h1 : l.val < 64
  · by_cases h2 : l.val < 8
    · simp only [h1, h2, ↓reduceDIte, ↓reduceIte]
    · by_cases h3 : l.val - 8 < 8
      · have e : 8 + (l.val - 8) = l.val := by omega
        simp only [h1, h2, h3, ↓reduceDIte, ↓reduceIte, e]
      · have e : 16 + (l.val - 8 - 8) = l.val := by omega
        simp only [h1, h2, h3, ↓reduceDIte, ↓reduceIte, e]
  · by_cases h4 : l.val - 64 < 8
    · have e : 1344 + (l.val - 64) = 1280 + l.val := by omega
      simp only [h1, h4, ↓reduceDIte, ↓reduceIte, e]
    · simp only [h1, h4, ↓reduceDIte, ↓reduceIte]

end Cert.InProjRefIdeal.Value

namespace Cert.Proof.In

set_option maxRecDepth 16384
set_option maxHeartbeats 8000000

/-- The value claim of the input projection: over the extended reals its three arrays are the reference's. -/
theorem algebraic : Cert.algebraic_InProjIdeal_InProjRefIdeal (hInProjIdeal := Cert.InProjIdeal.Gen.facts) (hInProjRefIdeal := Cert.InProjRefIdeal.Gen.facts) := by
  intro m g m' g' _ hagree
  refine ⟨fun c => (Cert.InProjIdeal.Gen.dats m 0 c).arrAt 11 Cert.InProjIdeal.cfg0.N, fun c => (Cert.InProjIdeal.Gen.dats m 0 c).arrAt 14 Cert.InProjIdeal.cfg0.N,
    fun c => (Cert.InProjIdeal.Gen.dats m 0 c).arrAt 16 Cert.InProjIdeal.cfg0.N,
    θ_run_mono (Cert.InProjIdeal.Value.run_blocks m g) fun r h c => ?_,
    θ_run_mono (Cert.InProjRefIdeal.Value.run m' g') fun r h c => ⟨(h c).1.trans ?_, (h c).2.1.trans ?_, (h c).2.2.1.trans ?_, (h c).2.2.2⟩⟩
  · obtain ⟨-, -, -, h3, -, -, h6, -, h8, ha⟩ := h c
    exact ⟨h3, h6, h8, ha⟩
  all_goals obtain ⟨e0, e1, e2, e3, e4, e5⟩ := hagree c
  · rw [e0, e1, e2, e3]
    funext i
    obtain ⟨b, s, l, rfl⟩ : ∃ (b : Fin 4) (s : Fin 4096) (l : Fin 128), i = (ix3 b s l : Cert.InProjIdeal.S4x4096x128.Idx) :=
      ⟨i 0, i 1, i 2, funext fun a => by fin_cases a <;> rfl⟩
    exact (Cert.InProjRefIdeal.Value.ref_v _ _ _ _ b s l).trans (Cert.InProjIdeal.Gen.v_eq m c b s l).symm
  · unfold Cert.InProjRefIdeal.Value.res_main_v75
    rw [e0, e1, e2, e3]
    funext i
    obtain ⟨b, s, l, rfl⟩ : ∃ (b : Fin 4) (s : Fin 4096) (l : Fin 128), i = (ix3 b s l : Cert.InProjIdeal.S4x4096x128.Idx) :=
      ⟨i 0, i 1, i 2, funext fun a => by fin_cases a <;> rfl⟩
    exact (Cert.InProjRefIdeal.Value.ref_ik _ _ _ _ b s l).trans (Cert.InProjIdeal.Gen.ik_eq m c b s l).symm
  · rw [e0, e1, e2, e3]
    funext i
    obtain ⟨b, s, l, rfl⟩ : ∃ (b : Fin 4) (s : Fin 4096) (l : Fin 512), i = (ix3 b s l : Cert.InProjIdeal.S4x4096x512.Idx) :=
      ⟨i 0, i 1, i 2, funext fun a => by fin_cases a <;> rfl⟩
    exact (Cert.InProjRefIdeal.Value.ref_g _ _ _ _ b s l).trans (Cert.InProjIdeal.Gen.g_eq m c b s l).symm

end Cert.Proof.In

end
-- ==== Proof.InSampleStep.lean ====
/- One tile of the input projection at the sample batch's shapes, at the ideal instance: what a grid point leaves in its
   value, indexer-key and convolution-input blocks, read entry by entry. -/
module

public import proofs.«01_k».proof.Proof.Gen.InProjSampleIdeal.Value
public import proofs.«01_k».proof.Proof.InStep

@[expose] public section

open Idealize.ShloMosaic Idealize.ShloMosaic.TcCoe

noncomputable section

namespace Cert.InProjSampleIdeal.Gen

open Cert.InProjSampleIdeal Cert.Proof.In
open Cert.InProjIdeal.Gen (zero2 zero3 up dn)

set_option maxRecDepth 16384
set_option maxHeartbeats 2000000

/-- The row of a tile's 512 that holds token `s` of its sequence `p`; the sequence and the token of a row. -/
abbrev row (p : Fin 8) (s : Fin 64) : Fin 512 := ⟨p.val * 64 + s.val, by have := p.isLt; have := s.isLt; omega⟩
abbrev rb (r : Fin 512) : Fin 8 := ⟨r.val / 64, by have := r.isLt; omega⟩
abbrev rs (r : Fin 512) : Fin 64 := ⟨r.val % 64, by omega⟩

theorem rb_row (p : Fin 8) (s : Fin 64) : rb (row p s) = p := Fin.ext (by show (p.val * 64 + s.val) / 64 = p.val; have := s.isLt; omega)
theorem rs_row (p : Fin 8) (s : Fin 64) : rs (row p s) = s := Fin.ext (by show (p.val * 64 + s.val) % 64 = s.val; have := s.isLt; omega)

theorem feat_at (x0 : Vec Ideal S8x64x1024 .f32) (x3 : Vec Ideal S1x1024 .f32) (x2 x1 : Vec Ideal S8x1x1024 .f32) (r : Fin 512) (k : Fin 1024) :
    k0_pay1 (F := Ideal) x0 x3 x2 x1 (ix2 r k)
      = feat (fun j => x0 (ix3 (rb r) (rs r) j)) (fun j => x3 (ix2 0 j)) (fun j => x2 (ix3 (rb r) 0 j)) (fun j => x1 (ix3 (rb r) 0 j)) k := by
  pointwise [k0_pay1, feat]

theorem feat_row (x0 : Vec Ideal S8x64x1024 .f32) (x3 : Vec Ideal S1x1024 .f32) (x2 x1 : Vec Ideal S8x1x1024 .f32) (p : Fin 8) (s : Fin 64) (k : Fin 1024) :
    k0_pay1 (F := Ideal) x0 x3 x2 x1 (ix2 (row p s) k)
      = feat (fun j => x0 (ix3 p s j)) (fun j => x3 (ix2 0 j)) (fun j => x2 (ix3 p 0 j)) (fun j => x1 (ix3 p 0 j)) k := by
  rw [feat_at, rb_row, rs_row]

theorem v_row (h : Vec Ideal S512x1024 .bf16) (x4 : Vec Ideal S1024x2432 .bf16) (p : Fin 8) (s : Fin 64) (l : Fin 128) :
    k0_pay36 (F := Ideal) (k0_pay28 h (View.ld x4 (Rect.unit ![0, 512] S1024x256.size inb_S1024x2432_S1024x256_0_512))) (ix3 p s l)
      = ∑ k, h (ix2 (row p s) k) * x4 (ix2 k ⟨640 + l.val, by have := l.isLt; omega⟩) := by
  pointwise [k0_pay36, k0_pay35, k0_pay28]
  simp only [← Nat.add_assoc, Nat.reduceAdd]

theorem g_row (h : Vec Ideal S512x1024 .bf16) (x4 : Vec Ideal S1024x2432 .bf16) (p : Fin 8) (s : Fin 64) (l : Fin 512) :
    k0_pay50 (F := Ideal) h (View.ld x4 (Rect.unit ![0, 1408] S1024x1024.size inb_S1024x2432_S1024x1024_0_1408)) (ix3 p s l)
      = (∑ k, h (ix2 (row p s) k) * x4 (ix2 k ⟨1408 + l.val, by have := l.isLt; omega⟩))
        * Ideal.logistic (∑ k, h (ix2 (row p s) k) * x4 (ix2 k ⟨1920 + l.val, by have := l.isLt; omega⟩)) := by
  pointwise [k0_pay50]
  simp only [← Nat.add_assoc, Nat.reduceAdd]

theorem tab6_row (x6 : Vec Ideal S6x64x128 .f32) (r : Fin 512) (l : Fin 128) :
    k0_pay6 (F := Ideal) (View.ld x6 (Rect.unit ![3, 0, 0] S1x64x128.size inb_S6x64x128_S1x64x128_3_0_0)) (ix2 r l) = x6 (ix3 3 (rs r) l) := by
  pointwise [k0_pay6]
theorem tab7_row (x6 : Vec Ideal S6x64x128 .f32) (r : Fin 512) (l : Fin 128) :
    k0_pay7 (F := Ideal) (View.ld x6 (Rect.unit ![4, 0, 0] S1x64x128.size inb_S6x64x128_S1x64x128_4_0_0)) (ix2 r l) = x6 (ix3 4 (rs r) l) := by
  pointwise [k0_pay7]
theorem tab8_row (x6 : Vec Ideal S6x64x128 .f32) (r : Fin 512) (l : Fin 128) :
    k0_pay8 (F := Ideal) (View.ld x6 (Rect.unit ![5, 0, 0] S1x64x128.size inb_S6x64x128_S1x64x128_5_0_0)) (ix2 r l) = x6 (ix3 5 (rs r) l) := by
  pointwise [k0_pay8]

theorem ik_row (h : Vec Ideal S512x1024 .bf16) (x4 : Vec Ideal S1024x2432 .bf16) (t3 t4 t5 : Vec Ideal S512x128 .f32) (p : Fin 8) (s : Fin 64) (l : Fin 128) :
    k0_pay47 (F := Ideal) h t3 t4 t5 (View.ld x4 (Rect.unit ![0, 1280] S1024x128.size inb_S1024x2432_S1024x128_0_1280)) (ix3 p s l)
      = (∑ k, h (ix2 (row p s) k) * x4 (ix2 k ⟨1280 + l.val, by have := l.isLt; omega⟩)) * t3 (ix2 (row p s) l)
        + (∑ k, h (ix2 (row p s) k) * x4 (ix2 k ⟨1280 + (up l).val, by have := (up l).isLt; omega⟩)) * t4 (ix2 (row p s) l)
        + (∑ k, h (ix2 (row p s) k) * x4 (ix2 k ⟨1280 + (dn l).val, by have := (dn l).isLt; omega⟩)) * t5 (ix2 (row p s) l) := by
  pointwise [k0_pay47, k0_pay46]

/-- The call's value block: the row's features against the weight's columns from 640. -/
theorem v_apply (c : Dev nD) (i : grid0.Coords) (arg2 : Memref sig .tc .vmem S8x64x1024 .f32) (harg2 : arg2.IsWhole) (arg3 : Memref sig .tc .vmem S8x1x1024 .f32) (harg3 : arg3.IsWhole) (arg4 : Memref sig .tc .vmem S8x1x1024 .f32) (harg4 : arg4.IsWhole) (arg5 : Memref sig .tc .vmem S1x1024 .f32) (harg5 : arg5.IsWhole) (arg6 : Memref sig .tc .vmem S1024x2432 .bf16) (harg6 : arg6.IsWhole) (arg7 : Memref sig .tc .vmem S2x128 .f32) (harg7 : arg7.IsWhole) (arg8 : Memref sig .tc .vmem S6x64x128 .f32) (harg8 : arg8.IsWhole) (arg9 : Memref sig .tc .vmem S128x128 .bf16) (harg9 : arg9.IsWhole) (arg10 : Memref sig .tc .vmem S8x64x512 .bf16) (harg10 : arg10.IsWhole) (arg11 : Memref sig .tc .vmem S8x64x512 .bf16) (harg11 : arg11.IsWhole) (arg12 : Memref sig .tc .vmem S8x64x128 .f32) (harg12 : arg12.IsWhole) (arg13 : Memref sig .tc .vmem S8x64x128 .f32) (harg13 : arg13.IsWhole) (arg14 : Memref sig .tc .vmem S8x256x128 .bf16) (harg14 : arg14.IsWhole) (arg15 : Memref sig .tc .vmem S8x256x128 .bf16) (harg15 : arg15.IsWhole) (arg16 : Memref sig .tc .vmem S8x64x128 .f32) (harg16 : arg16.IsWhole) (arg17 : Memref sig .tc .vmem S8x256x128 .bf16) (harg17 : arg17.IsWhole) (arg18 : Memref sig .tc .vmem S8x64x512 .f32) (harg18 : arg18.IsWhole)
    (x0 : Vec Ideal S8x64x1024 .f32) (x1 x2 : Vec Ideal S8x1x1024 .f32) (x3 : Vec Ideal S1x1024 .f32) (x4 : Vec Ideal S1024x2432 .bf16)
    (x5 : Vec Ideal S2x128 .f32) (x6 : Vec Ideal S6x64x128 .f32) (x7 : Vec Ideal S128x128 .bf16) (p : Fin 8) (s : Fin 64) (l : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (ix3 p s l)
      = (∑ k, feat (fun j => x0 (ix3 p s j)) (fun j => x3 (ix2 0 j)) (fun j => x2 (ix3 p 0 j)) (fun j => x1 (ix3 p 0 j)) k * x4 (ix2 k ⟨640 + l.val, by have := l.isLt; omega⟩)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7)]
  unfold kernelRun0_A
  dsimp only
  sl_unfold_words
  rw [View.canon_unit_zero (S := S8x64x128) zero3]
  simp only [View.readAt_eq_ld, harg2.read_unread, harg3.read_unread, harg4.read_unread, harg5.read_unread, harg6.read_unread, harg8.read_unread]
  simp only [View.ld_unit_zero (S := S8x64x1024) zero3, View.ld_unit_zero (S := S1x1024) zero2, View.ld_unit_zero (S := S8x1x1024) zero3]
  rw [v_row]
  simp only [feat_row]

/-- The call's convolution-input block: the gated linear unit of the columns from 1408 and those from 1920. -/
theorem g_apply (c : Dev nD) (i : grid0.Coords) (arg2 : Memref sig .tc .vmem S8x64x1024 .f32) (harg2 : arg2.IsWhole) (arg3 : Memref sig .tc .vmem S8x1x1024 .f32) (harg3 : arg3.IsWhole) (arg4 : Memref sig .tc .vmem S8x1x1024 .f32) (harg4 : arg4.IsWhole) (arg5 : Memref sig .tc .vmem S1x1024 .f32) (harg5 : arg5.IsWhole) (arg6 : Memref sig .tc .vmem S1024x2432 .bf16) (harg6 : arg6.IsWhole) (arg7 : Memref sig .tc .vmem S2x128 .f32) (harg7 : arg7.IsWhole) (arg8 : Memref sig .tc .vmem S6x64x128 .f32) (harg8 : arg8.IsWhole) (arg9 : Memref sig .tc .vmem S128x128 .bf16) (harg9 : arg9.IsWhole) (arg10 : Memref sig .tc .vmem S8x64x512 .bf16) (harg10 : arg10.IsWhole) (arg11 : Memref sig .tc .vmem S8x64x512 .bf16) (harg11 : arg11.IsWhole) (arg12 : Memref sig .tc .vmem S8x64x128 .f32) (harg12 : arg12.IsWhole) (arg13 : Memref sig .tc .vmem S8x64x128 .f32) (harg13 : arg13.IsWhole) (arg14 : Memref sig .tc .vmem S8x256x128 .bf16) (harg14 : arg14.IsWhole) (arg15 : Memref sig .tc .vmem S8x256x128 .bf16) (harg15 : arg15.IsWhole) (arg16 : Memref sig .tc .vmem S8x64x128 .f32) (harg16 : arg16.IsWhole) (arg17 : Memref sig .tc .vmem S8x256x128 .bf16) (harg17 : arg17.IsWhole) (arg18 : Memref sig .tc .vmem S8x64x512 .f32) (harg18 : arg18.IsWhole)
    (x0 : Vec Ideal S8x64x1024 .f32) (x1 x2 : Vec Ideal S8x1x1024 .f32) (x3 : Vec Ideal S1x1024 .f32) (x4 : Vec Ideal S1024x2432 .bf16)
    (x5 : Vec Ideal S2x128 .f32) (x6 : Vec Ideal S6x64x128 .f32) (x7 : Vec Ideal S128x128 .bf16) (p : Fin 8) (s : Fin 64) (l : Fin 512) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (ix3 p s l)
      = (∑ k, feat (fun j => x0 (ix3 p s j)) (fun j => x3 (ix2 0 j)) (fun j => x2 (ix3 p 0 j)) (fun j => x1 (ix3 p 0 j)) k * x4 (ix2 k ⟨1408 + l.val, by have := l.isLt; omega⟩))
        * Ideal.logistic (∑ k, feat (fun j => x0 (ix3 p s j)) (fun j => x3 (ix2 0 j)) (fun j => x2 (ix3 p 0 j)) (fun j => x1 (ix3 p 0 j)) k * x4 (ix2 k ⟨1920 + l.val, by have := l.isLt; omega⟩)) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7)]
  unfold kernelRun0_A
  dsimp only
  sl_unfold_words
  rw [View.canon_unit_zero (S := S8x64x512) zero3]
  simp only [View.readAt_eq_ld, harg2.read_unread, harg3.read_unread, harg4.read_unread, harg5.read_unread, harg6.read_unread, harg8.read_unread]
  simp only [View.ld_unit_zero (S := S8x64x1024) zero3, View.ld_unit_zero (S := S1x1024) zero2, View.ld_unit_zero (S := S8x1x1024) zero3]
  rw [g_row]
  simp only [feat_row]

/-- The call's indexer-key block: the columns from 1280, turned by the rotary tables 3, 4 and 5. -/
theorem ik_apply (c : Dev nD) (i : grid0.Coords) (arg2 : Memref sig .tc .vmem S8x64x1024 .f32) (harg2 : arg2.IsWhole) (arg3 : Memref sig .tc .vmem S8x1x1024 .f32) (harg3 : arg3.IsWhole) (arg4 : Memref sig .tc .vmem S8x1x1024 .f32) (harg4 : arg4.IsWhole) (arg5 : Memref sig .tc .vmem S1x1024 .f32) (harg5 : arg5.IsWhole) (arg6 : Memref sig .tc .vmem S1024x2432 .bf16) (harg6 : arg6.IsWhole) (arg7 : Memref sig .tc .vmem S2x128 .f32) (harg7 : arg7.IsWhole) (arg8 : Memref sig .tc .vmem S6x64x128 .f32) (harg8 : arg8.IsWhole) (arg9 : Memref sig .tc .vmem S128x128 .bf16) (harg9 : arg9.IsWhole) (arg10 : Memref sig .tc .vmem S8x64x512 .bf16) (harg10 : arg10.IsWhole) (arg11 : Memref sig .tc .vmem S8x64x512 .bf16) (harg11 : arg11.IsWhole) (arg12 : Memref sig .tc .vmem S8x64x128 .f32) (harg12 : arg12.IsWhole) (arg13 : Memref sig .tc .vmem S8x64x128 .f32) (harg13 : arg13.IsWhole) (arg14 : Memref sig .tc .vmem S8x256x128 .bf16) (harg14 : arg14.IsWhole) (arg15 : Memref sig .tc .vmem S8x256x128 .bf16) (harg15 : arg15.IsWhole) (arg16 : Memref sig .tc .vmem S8x64x128 .f32) (harg16 : arg16.IsWhole) (arg17 : Memref sig .tc .vmem S8x256x128 .bf16) (harg17 : arg17.IsWhole) (arg18 : Memref sig .tc .vmem S8x64x512 .f32) (harg18 : arg18.IsWhole)
    (x0 : Vec Ideal S8x64x1024 .f32) (x1 x2 : Vec Ideal S8x1x1024 .f32) (x3 : Vec Ideal S1x1024 .f32) (x4 : Vec Ideal S1024x2432 .bf16)
    (x5 : Vec Ideal S2x128 .f32) (x6 : Vec Ideal S6x64x128 .f32) (x7 : Vec Ideal S128x128 .bf16) (p : Fin 8) (s : Fin 64) (l : Fin 128) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (ix3 p s l)
      = (∑ k, feat (fun j => x0 (ix3 p s j)) (fun j => x3 (ix2 0 j)) (fun j => x2 (ix3 p 0 j)) (fun j => x1 (ix3 p 0 j)) k * x4 (ix2 k ⟨1280 + l.val, by have := l.isLt; omega⟩)) * x6 (ix3 3 s l)
        + (∑ k, feat (fun j => x0 (ix3 p s j)) (fun j => x3 (ix2 0 j)) (fun j => x2 (ix3 p 0 j)) (fun j => x1 (ix3 p 0 j)) k * x4 (ix2 k ⟨1280 + (up l).val, by have := (up l).isLt; omega⟩)) * x6 (ix3 4 s l)
        + (∑ k, feat (fun j => x0 (ix3 p s j)) (fun j => x3 (ix2 0 j)) (fun j => x2 (ix3 p 0 j)) (fun j => x1 (ix3 p 0 j)) k * x4 (ix2 k ⟨1280 + (dn l).val, by have := (dn l).isLt; omega⟩)) * x6 (ix3 5 s l) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7)]
  unfold kernelRun0_A
  dsimp only
  sl_unfold_words
  rw [View.canon_unit_zero (S := S8x64x128) zero3]
  simp only [View.readAt_eq_ld, harg2.read_unread, harg3.read_unread, harg4.read_unread, harg5.read_unread, harg6.read_unread, harg8.read_unread]
  simp only [View.ld_unit_zero (S := S8x64x1024) zero3, View.ld_unit_zero (S := S1x1024) zero2, View.ld_unit_zero (S := S8x1x1024) zero3]
  rw [ik_row, tab6_row, tab7_row, tab8_row, rs_row]
  simp only [feat_row]

end Cert.InProjSampleIdeal.Gen
end
-- ==== Proof.InSampleHost.lean ====
/- The arrays that the host code hands to the input projection at the sample batch's shapes, read entry by entry. -/
module

public import proofs.«01_k».proof.Proof.InSampleStep
public import proofs.«01_k».proof.Proof.InHost
public import Idealize.ShloMosaic.Lib.StableHlo.ReadAt
public import Idealize.ShloMosaic.Lib.Claim

@[expose] public section

open Idealize.ShloMosaic Idealize.ShloMosaic.TcCoe Idealize.SL.Sem

noncomputable section

namespace Cert.Proof.In

/-- The sample batch's positions come after 4096 earlier ones. -/
theorem pos_add (s : Nat) : IntOp.addi 4096#32 (BitVec.ofNat 32 s) = BitVec.ofNat 32 (4096 + s) :=
  (BitVec.ofNat_add 4096 s).symm

end Cert.Proof.In

namespace Cert.InProjSampleIdeal.Gen

open Cert.InProjSampleIdeal Cert.Proof.In

set_option maxRecDepth 16384
set_option maxHeartbeats 2000000

variable (m : (ℓ : Loc nD τ sig) → Buf (Elt Ideal) ℓ)

/-- The call's arguments as arrays. -/
abbrev hX (c : Dev nD) : S32x64x1024.Idx → EReal := m ((c : Thread nD τ).loc main_arg0)
abbrev hM (c : Dev nD) : S32x1x6144.Idx → EReal := m ((c : Thread nD τ).loc main_arg1)
abbrev hN (c : Dev nD) : S1024.Idx → EReal := m ((c : Thread nD τ).loc main_arg2)
abbrev hW (c : Dev nD) : S1024x2376.Idx → EReal := m ((c : Thread nD τ).loc main_arg3)

theorem v7_at (c : Dev nD) (k : Fin 1024) (j : Fin 2432) :
    (V m c main_v7 : S1024x2432.Idx → EReal) (ix2 k j)
      = if h : j.val < 1352 then hW m c (ix2 k ⟨j.val, by omega⟩)
        else if h : j.val - 1352 < 56 then 0
        else hW m c (ix2 k ⟨1352 + (j.val - 1352 - 56), by have := j.isLt; omega⟩) := by
  unfold V
  iterate 10 (try after_reads_at)

theorem v17_at (c : Dev nD) (k : Fin 1024) : (V m c main_v17 : S1x1024.Idx → EReal) (ix2 0 k) = hN m c (ix1 k) := by
  unfold V
  iterate 10 (try after_reads_at)

theorem t3_at (c : Dev nD) (s : Fin 64) (l : Fin 128) : (V m c main_v56 : S6x64x128.Idx → EReal) (ix3 3 s l) = ci (4096 + s.val) l.val := by
  unfold V
  iterate 10 (try after_reads_at)
  simp only [pos_add]
  rfl

theorem t4_at (c : Dev nD) (s : Fin 64) (l : Fin 128) : (V m c main_v56 : S6x64x128.Idx → EReal) (ix3 4 s l) = sai (4096 + s.val) l.val := by
  unfold V
  iterate 10 (try after_reads_at)
  simp only [pos_add]
  rfl

theorem t5_at (c : Dev nD) (s : Fin 64) (l : Fin 128) : (V m c main_v56 : S6x64x128.Idx → EReal) (ix3 5 s l) = sbi (4096 + s.val) l.val := by
  unfold V
  iterate 10 (try after_reads_at)
  simp only [pos_add]
  rfl

end Cert.InProjSampleIdeal.Gen
end
-- ==== Proof.InSampleBlocks.lean ====
/- The input projection's windows at a grid point of the sample batch's call, read as entries of the call's argument arrays. -/
module

public import proofs.«01_k».proof.Proof.InSampleHost
public import Idealize.ShloMosaic.Lib.Claim

@[expose] public section

open Idealize.ShloMosaic Idealize.ShloMosaic.TcCoe Idealize.SL.Sem

noncomputable section

namespace Cert.InProjSampleIdeal.Gen

open Cert.InProjSampleIdeal Cert.Proof.In

set_option maxRecDepth 16384
set_option maxHeartbeats 2000000

variable (m : (ℓ : Loc nD τ sig) → Buf (Elt Ideal) ℓ)

theorem pt_lt (t : Fin cfg0.N) : t.val < 4 := lt_of_lt_of_eq t.isLt N_0

theorem idx0 : ∀ t : Fin cfg0.N, win0_0.index t 0 = t.val ∧ win0_0.index t 1 = 0 ∧ win0_0.index t 2 = 0 :=
  (by decide +kernel : ∀ t : Fin grid0.N, _)
theorem idx1 : ∀ t : Fin cfg0.N, win0_1.index t 0 = t.val ∧ win0_1.index t 1 = 0 ∧ win0_1.index t 2 = 0 :=
  (by decide +kernel : ∀ t : Fin grid0.N, _)
theorem idx2 : ∀ t : Fin cfg0.N, win0_2.index t 0 = t.val ∧ win0_2.index t 1 = 0 ∧ win0_2.index t 2 = 1 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx6 : ∀ t : Fin cfg0.N, win0_6.index t 0 = 0 ∧ win0_6.index t 1 = 0 ∧ win0_6.index t 2 = 0 :=
  (by decide +kernel : ∀ t : Fin grid0.N, _)
theorem idx11 : ∀ t : Fin cfg0.N, win0_11.index t 0 = t.val ∧ win0_11.index t 1 = 0 ∧ win0_11.index t 2 = 0 :=
  (by decide +kernel : ∀ t : Fin grid0.N, _)
theorem idx14 : ∀ t : Fin cfg0.N, win0_14.index t 0 = t.val ∧ win0_14.index t 1 = 0 ∧ win0_14.index t 2 = 0 :=
  (by decide +kernel : ∀ t : Fin grid0.N, _)
theorem idx16 : ∀ t : Fin cfg0.N, win0_16.index t 0 = t.val ∧ win0_16.index t 1 = 0 ∧ win0_16.index t 2 = 0 :=
  (by decide +kernel : ∀ t : Fin grid0.N, _)

/-- The batch of sequence `p` of a grid point's tile. -/
def ptB (t : Fin cfg0.N) (p : Fin 8) : Fin 32 := ⟨t.val * 8 + p.val, by have := pt_lt t; have := p.isLt; omega⟩

theorem blk0 (c : Dev nD) (t : Fin cfg0.N) (p : Fin 8) (r : Fin 64) (k : Fin 1024) :
    (iblk m c 0 t : Vec Ideal S8x64x1024 .f32) (ix3 p r k) = hX m c (ix3 (ptB t p) r k) := by
  unfold iblk
  rw [View.read_apply]
  show V m c main_arg0 _ = _
  entry_read
  show m (c, Proc.tc.devRef main_arg0) _ = m (c, Proc.tc.devRef main_arg0) _
  congr 1
  obtain ⟨e0, e1, e2⟩ := idx0 t
  funext a
  apply Fin.ext
  match a with
  | ⟨0, _⟩ => show win0_0.index t 0 * 8 + 1 * p.val = _; rw [e0]; first | rfl | (simp only [ptB, ix3]; omega) | (simp [ptB, ix3])
  | ⟨1, _⟩ => show win0_0.index t 1 * 64 + 1 * r.val = _; rw [e1]; first | rfl | (simp only [ptB, ix3]; omega) | (simp [ptB, ix3])
  | ⟨2, _⟩ => show win0_0.index t 2 * 1024 + 1 * k.val = _; rw [e2]; first | rfl | (simp only [ptB, ix3]; omega) | (simp [ptB, ix3])

theorem blk1 (c : Dev nD) (t : Fin cfg0.N) (p : Fin 8) (k : Fin 1024) :
    (iblk m c 1 t : Vec Ideal S8x1x1024 .f32) (ix3 p 0 k) = hM m c (ix3 (ptB t p) 0 ⟨k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx1 t
  funext a
  apply Fin.ext
  match a with
  | ⟨0, _⟩ => show win0_1.index t 0 * 8 + 1 * p.val = _; rw [e0]; first | rfl | (simp only [ptB, ix3]; omega) | (simp [ptB, ix3])
  | ⟨1, _⟩ => show win0_1.index t 1 * 1 + 1 * (0 : Fin 1).val = _; rw [e1]; first | rfl | (simp only [ptB, ix3]; omega) | (simp [ptB, ix3])
  | ⟨2, _⟩ => show win0_1.index t 2 * 1024 + 1 * k.val = _; rw [e2]; first | rfl | (simp only [ptB, ix3]; omega) | (simp [ptB, ix3])

theorem blk2 (c : Dev nD) (t : Fin cfg0.N) (p : Fin 8) (k : Fin 1024) :
    (iblk m c 2 t : Vec Ideal S8x1x1024 .f32) (ix3 p 0 k) = hM m c (ix3 (ptB t p) 0 ⟨1024 + k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx2 t
  funext a
  apply Fin.ext
  match a with
  | ⟨0, _⟩ => show win0_2.index t 0 * 8 + 1 * p.val = _; rw [e0]; first | rfl | (simp only [ptB, ix3]; omega) | (simp [ptB, ix3])
  | ⟨1, _⟩ => show win0_2.index t 1 * 1 + 1 * (0 : Fin 1).val = _; rw [e1]; first | rfl | (simp only [ptB, ix3]; omega) | (simp [ptB, ix3])
  | ⟨2, _⟩ => show win0_2.index t 2 * 1024 + 1 * k.val = _; rw [e2]; first | rfl | (simp only [ptB, ix3]; omega) | (simp [ptB, ix3])

theorem blk3 (c : Dev nD) (t : Fin cfg0.N) (k : Fin 1024) :
    (iblk m c 3 t : Vec Ideal S1x1024 .f32) (ix2 0 k) = hN m c (ix1 k) := by
  unfold iblk
  rw [View.read_apply]
  have hj : ((cfg0.win 3).blk t).view.emb (ix2 0 k : S1x1024.Idx) = (ix2 0 k : S1x1024.Idx) := by
    obtain ⟨e0, e1⟩ := idx3 t
    funext a
    apply Fin.ext
    match a with
    | ⟨0, _⟩ => show win0_3.index t 0 * 1 + 1 * (0 : Fin 1).val = _; rw [e0]; first | rfl | (simp only [ptB, ix2, ix3]; omega) | (simp [ptB, ix2, ix3])
    | ⟨1, _⟩ => show win0_3.index t 1 * 1024 + 1 * k.val = _; rw [e1]; first | rfl | (simp only [ptB, ix2, ix3]; omega) | (simp [ptB, ix2, ix3])
  show V m c main_v17 _ = _
  rw [hj]
  exact v17_at m c k

theorem blk4 (c : Dev nD) (t : Fin cfg0.N) (k : Fin 1024) (j : Fin 2432) :
    (iblk m c 4 t : Vec Ideal S1024x2432 .bf16) (ix2 k j) = (if h : j.val < 1352 then hW m c (ix2 k ⟨j.val, by omega⟩)
        else if h : j.val - 1352 < 56 then 0
        else hW m c (ix2 k ⟨1352 + (j.val - 1352 - 56), by have := j.isLt; omega⟩) : EReal) := by
  unfold iblk
  rw [View.read_apply]
  have hj : ((cfg0.win 4).blk t).view.emb (ix2 k j : S1024x2432.Idx) = (ix2 k j : S1024x2432.Idx) := by
    obtain ⟨e0, e1⟩ := idx4 t
    funext a
    apply Fin.ext
    match a with
    | ⟨0, _⟩ => show win0_4.index t 0 * 1024 + 1 * k.val = _; rw [e0]; first | rfl | (simp only [ptB, ix2, ix3]; omega) | (simp [ptB, ix2, ix3])
    | ⟨1, _⟩ => show win0_4.index t 1 * 2432 + 1 * j.val = _; rw [e1]; first | rfl | (simp only [ptB, ix2, ix3]; omega) | (simp [ptB, ix2, ix3])
  show V m c main_v7 _ = _
  rw [hj]
  exact v7_at m c k j

theorem tab3 (c : Dev nD) (t : Fin cfg0.N) (r : Fin 64) (l : Fin 128) :
    (iblk m c 6 t : Vec Ideal S6x64x128 .f32) (ix3 3 r l) = (ci (4096 + r.val) l.val : EReal) := by
  unfold iblk
  rw [View.read_apply]
  have hj : ((cfg0.win 6).blk t).view.emb (ix3 3 r l : S6x64x128.Idx) = (ix3 3 r l : S6x64x128.Idx) := by
    obtain ⟨e0, e1, e2⟩ := idx6 t
    funext a
    apply Fin.ext
    match a with
    | ⟨0, _⟩ => show win0_6.index t 0 * 6 + 1 * (3 : Fin 6).val = _; rw [e0]; first | rfl | (simp only [ptB, ix2, ix3]; omega) | (simp [ptB, ix2, ix3])
    | ⟨1, _⟩ => show win0_6.index t 1 * 64 + 1 * r.val = _; rw [e1]; first | rfl | (simp only [ptB, ix2, ix3]; omega) | (simp [ptB, ix2, ix3])
    | ⟨2, _⟩ => show win0_6.index t 2 * 128 + 1 * l.val = _; rw [e2]; first | rfl | (simp only [ptB, ix2, ix3]; omega) | (simp [ptB, ix2, ix3])
  show V m c main_v56 _ = _
  rw [hj]
  exact t3_at m c r l

theorem tab4 (c : Dev nD) (t : Fin cfg0.N) (r : Fin 64) (l : Fin 128) :
    (iblk m c 6 t : Vec Ideal S6x64x128 .f32) (ix3 4 r l) = (sai (4096 + r.val) l.val : EReal) := by
  unfold iblk
  rw [View.read_apply]
  have hj : ((cfg0.win 6).blk t).view.emb (ix3 4 r l : S6x64x128.Idx) = (ix3 4 r l : S6x64x128.Idx) := by
    obtain ⟨e0, e1, e2⟩ := idx6 t
    funext a
    apply Fin.ext
    match a with
    | ⟨0, _⟩ => show win0_6.index t 0 * 6 + 1 * (4 : Fin 6).val = _; rw [e0]; first | rfl | (simp only [ptB, ix2, ix3]; omega) | (simp [ptB, ix2, ix3])
    | ⟨1, _⟩ => show win0_6.index t 1 * 64 + 1 * r.val = _; rw [e1]; first | rfl | (simp only [ptB, ix2, ix3]; omega) | (simp [ptB, ix2, ix3])
    | ⟨2, _⟩ => show win0_6.index t 2 * 128 + 1 * l.val = _; rw [e2]; first | rfl | (simp only [ptB, ix2, ix3]; omega) | (simp [ptB, ix2, ix3])
  show V m c main_v56 _ = _
  rw [hj]
  exact t4_at m c r l

theorem tab5 (c : Dev nD) (t : Fin cfg0.N) (r : Fin 64) (l : Fin 128) :
    (iblk m c 6 t : Vec Ideal S6x64x128 .f32) (ix3 5 r l) = (sbi (4096 + r.val) l.val : EReal) := by
  unfold iblk
  rw [View.read_apply]
  have hj : ((cfg0.win 6).blk t).view.emb (ix3 5 r l : S6x64x128.Idx) = (ix3 5 r l : S6x64x128.Idx) := by
    obtain ⟨e0, e1, e2⟩ := idx6 t
    funext a
    apply Fin.ext
    match a with
    | ⟨0, _⟩ => show win0_6.index t 0 * 6 + 1 * (5 : Fin 6).val = _; rw [e0]; first | rfl | (simp only [ptB, ix2, ix3]; omega) | (simp [ptB, ix2, ix3])
    | ⟨1, _⟩ => show win0_6.index t 1 * 64 + 1 * r.val = _; rw [e1]; first | rfl | (simp only [ptB, ix2, ix3]; omega) | (simp [ptB, ix2, ix3])
    | ⟨2, _⟩ => show win0_6.index t 2 * 128 + 1 * l.val = _; rw [e2]; first | rfl | (simp only [ptB, ix2, ix3]; omega) | (simp [ptB, ix2, ix3])
  show V m c main_v56 _ = _
  rw [hj]
  exact t5_at m c r l

end Cert.InProjSampleIdeal.Gen
end
-- ==== Proof.InSampleValue.lean ====
/- The input projection at the sample batch's shapes, at the ideal instance: its value, indexer-key and convolution-input arrays, entry by entry, are the
   reference's. -/
module

public import proofs.«01_k».proof.Defs
public import proofs.«01_k».proof.Proof.InSampleBlocks
public import proofs.«01_k».proof.Proof.InValue
public import proofs.«01_k».proof.Proof.Gen.InProjSampleRefIdeal.Run
public import Idealize.ShloMosaic.Lib.Claim

@[expose] public section

open Idealize.ShloMosaic Idealize.ShloMosaic.TcCoe Idealize.SL.Sem

noncomputable section

namespace Cert.InProjSampleIdeal.Gen

open Cert.InProjSampleIdeal Cert.Proof.In
open Cert.InProjIdeal.Gen (turn up dn)

set_option maxRecDepth 16384
set_option maxHeartbeats 8000000

variable (m : (ℓ : Loc nD τ sig) → Buf (Elt Ideal) ℓ)

theorem flush11 : ∀ t : Fin cfg0.N, (cfg0.win 11).flush t = true := (by decide +kernel : ∀ t : Fin grid0.N, _)

/-- Output window 11's array at the place of a grid point's block entry is what the point leaves there. -/
theorem arr11 (c : Dev nD) (t : Fin cfg0.N) (p : Fin 8) (r : Fin 64) (l : Fin 128) :
    ((dats m 0 c).arrAt 11 cfg0.N : S32x64x128.Idx → EReal) (ix3 (ptB t p) r l)
      = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix3 p r l) := by
  have e := congrFun (Value.blocks11 m c t (flush11 t)) (ix3 p r l : S8x64x128.Idx)
  rw [View.read_apply, Value.flushed11_A] at e
  have hj : ((cfg0.win 11).blk t).view.emb (ix3 p r l : S8x64x128.Idx) = (ix3 (ptB t p) r l : S32x64x128.Idx) := by
    obtain ⟨e0, e1, e2⟩ := idx11 t
    funext a
    apply Fin.ext
    match a with
    | ⟨0, _⟩ => show win0_11.index t 0 * 8 + 1 * p.val = _; rw [e0]; first | rfl | (simp only [ptB, ix3]; omega) | (simp [ptB, ix3])
    | ⟨1, _⟩ => show win0_11.index t 1 * 64 + 1 * r.val = _; rw [e1]; first | rfl | (simp only [ptB, ix3]; omega) | (simp [ptB, ix3])
    | ⟨2, _⟩ => show win0_11.index t 2 * 128 + 1 * l.val = _; rw [e2]; first | rfl | (simp only [ptB, ix3]; omega) | (simp [ptB, ix3])
  rw [hj] at e
  exact e

theorem flush14 : ∀ t : Fin cfg0.N, (cfg0.win 14).flush t = true := (by decide +kernel : ∀ t : Fin grid0.N, _)

/-- Output window 14's array at the place of a grid point's block entry is what the point leaves there. -/
theorem arr14 (c : Dev nD) (t : Fin cfg0.N) (p : Fin 8) (r : Fin 64) (l : Fin 128) :
    ((dats m 0 c).arrAt 14 cfg0.N : S32x64x128.Idx → EReal) (ix3 (ptB t p) r l)
      = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix3 p r l) := by
  have e := congrFun (Value.blocks14 m c t (flush14 t)) (ix3 p r l : S8x64x128.Idx)
  rw [View.read_apply, Value.flushed14_A] at e
  have hj : ((cfg0.win 14).blk t).view.emb (ix3 p r l : S8x64x128.Idx) = (ix3 (ptB t p) r l : S32x64x128.Idx) := by
    obtain ⟨e0, e1, e2⟩ := idx14 t
    funext a
    apply Fin.ext
    match a with
    | ⟨0, _⟩ => show win0_14.index t 0 * 8 + 1 * p.val = _; rw [e0]; first | rfl | (simp only [ptB, ix3]; omega) | (simp [ptB, ix3])
    | ⟨1, _⟩ => show win0_14.index t 1 * 64 + 1 * r.val = _; rw [e1]; first | rfl | (simp only [ptB, ix3]; omega) | (simp [ptB, ix3])
    | ⟨2, _⟩ => show win0_14.index t 2 * 128 + 1 * l.val = _; rw [e2]; first | rfl | (simp only [ptB, ix3]; omega) | (simp [ptB, ix3])
  rw [hj] at e
  exact e

theorem flush16 : ∀ t : Fin cfg0.N, (cfg0.win 16).flush t = true := (by decide +kernel : ∀ t : Fin grid0.N, _)

/-- Output window 16's array at the place of a grid point's block entry is what the point leaves there. -/
theorem arr16 (c : Dev nD) (t : Fin cfg0.N) (p : Fin 8) (r : Fin 64) (l : Fin 512) :
    ((dats m 0 c).arrAt 16 cfg0.N : S32x64x512.Idx → EReal) (ix3 (ptB t p) r l)
      = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix3 p r l) := by
  have e := congrFun (Value.blocks16 m c t (flush16 t)) (ix3 p r l : S8x64x512.Idx)
  rw [View.read_apply, Value.flushed16_A] at e
  have hj : ((cfg0.win 16).blk t).view.emb (ix3 p r l : S8x64x512.Idx) = (ix3 (ptB t p) r l : S32x64x512.Idx) := by
    obtain ⟨e0, e1, e2⟩ := idx16 t
    funext a
    apply Fin.ext
    match a with
    | ⟨0, _⟩ => show win0_16.index t 0 * 8 + 1 * p.val = _; rw [e0]; first | rfl | (simp only [ptB, ix3]; omega) | (simp [ptB, ix3])
    | ⟨1, _⟩ => show win0_16.index t 1 * 64 + 1 * r.val = _; rw [e1]; first | rfl | (simp only [ptB, ix3]; omega) | (simp [ptB, ix3])
    | ⟨2, _⟩ => show win0_16.index t 2 * 512 + 1 * l.val = _; rw [e2]; first | rfl | (simp only [ptB, ix3]; omega) | (simp [ptB, ix3])
  rw [hj] at e
  exact e

/-- One projected column of one token, from the call's argument arrays. -/
abbrev col (c : Dev nD) (b : Fin 32) (s : Fin 64) (j : Fin 2376) : EReal :=
  proj (fun j => hX m c (ix3 b s j)) (fun j => hN m c (ix1 j)) (fun j => hM m c (ix3 b 0 ⟨1024 + j.val, by have := j.isLt; omega⟩))
    (fun j => hM m c (ix3 b 0 ⟨j.val, by have := j.isLt; omega⟩)) (fun k => hW m c (ix2 k j))

/-- A column of the padded weights before the padding, in it, and after it, applied to a token's features. -/
theorem colLow (c : Dev nD) (t : Fin cfg0.N) (p : Fin 8) (r : Fin 64) (j : Fin 2432) (hj : j.val < 1352) :
    (∑ k, feat (fun j => (iblk m c 0 t : Vec Ideal S8x64x1024 .f32) (ix3 p r j)) (fun j => (iblk m c 3 t : Vec Ideal S1x1024 .f32) (ix2 0 j))
        (fun j => (iblk m c 2 t : Vec Ideal S8x1x1024 .f32) (ix3 p 0 j)) (fun j => (iblk m c 1 t : Vec Ideal S8x1x1024 .f32) (ix3 p 0 j)) k
        * (iblk m c 4 t : Vec Ideal S1024x2432 .bf16) (ix2 k j))
      = col m c (ptB t p) r ⟨j.val, by omega⟩ := by
  unfold col proj
  refine Finset.sum_congr rfl fun k _ => ?_
  simp only [blk0, blk1, blk2, blk3, blk4, hj, ↓reduceDIte]

theorem colPad (c : Dev nD) (t : Fin cfg0.N) (p : Fin 8) (r : Fin 64) (j : Fin 2432) (hj : 1352 ≤ j.val) (hj' : j.val < 1408) :
    (∑ k, feat (fun j => (iblk m c 0 t : Vec Ideal S8x64x1024 .f32) (ix3 p r j)) (fun j => (iblk m c 3 t : Vec Ideal S1x1024 .f32) (ix2 0 j))
        (fun j => (iblk m c 2 t : Vec Ideal S8x1x1024 .f32) (ix3 p 0 j)) (fun j => (iblk m c 1 t : Vec Ideal S8x1x1024 .f32) (ix3 p 0 j)) k
        * (iblk m c 4 t : Vec Ideal S1024x2432 .bf16) (ix2 k j))
      = 0 := by
  refine Finset.sum_eq_zero fun k _ => ?_
  rw [blk4, dif_neg (by omega), dif_pos (by omega), mul_zero]

theorem colHigh (c : Dev nD) (t : Fin cfg0.N) (p : Fin 8) (r : Fin 64) (j : Fin 2432) (hj : 1408 ≤ j.val) :
    (∑ k, feat (fun j => (iblk m c 0 t : Vec Ideal S8x64x1024 .f32) (ix3 p r j)) (fun j => (iblk m c 3 t : Vec Ideal S1x1024 .f32) (ix2 0 j))
        (fun j => (iblk m c 2 t : Vec Ideal S8x1x1024 .f32) (ix3 p 0 j)) (fun j => (iblk m c 1 t : Vec Ideal S8x1x1024 .f32) (ix3 p 0 j)) k
        * (iblk m c 4 t : Vec Ideal S1024x2432 .bf16) (ix2 k j))
      = col m c (ptB t p) r ⟨j.val - 56, by have := j.isLt; omega⟩ := by
  unfold col proj
  refine Finset.sum_congr rfl fun k _ => ?_
  have e : 1352 + (j.val - 1352 - 56) = j.val - 56 := by omega
  have h1 : ¬j.val < 1352 := by omega
  have h2 : ¬j.val - 1352 < 56 := by omega
  simp only [blk0, blk1, blk2, blk3, blk4, h1, h2, ↓reduceDIte, e]

/-- The grid point and the place in its tile that hold a sequence. -/
theorem point_of (b : Fin 32) : ∃ (t : Fin cfg0.N) (p : Fin 8), ptB t p = b := by
  have hb := b.isLt
  refine ⟨⟨b.val / 8, by rw [show cfg0.N = 4 from N_0]; omega⟩, ⟨b.val % 8, by omega⟩, Fin.ext ?_⟩
  show b.val / 8 * 8 + b.val % 8 = b.val; omega

/-- The call's value array, entry by entry. -/
theorem v_eq (c : Dev nD) (b : Fin 32) (s : Fin 64) (l : Fin 128) :
    ((dats m 0 c).arrAt 11 cfg0.N : S32x64x128.Idx → EReal) (ix3 b s l) = col m c b s ⟨640 + l.val, by have := l.isLt; omega⟩ := by
  have hl := l.isLt
  obtain ⟨t, p, rfl⟩ := point_of b
  rw [arr11, v_apply]
  exact colLow m c t p s ⟨640 + l.val, by omega⟩ (by show 640 + l.val < 1352; omega)

/-- The call's convolution-input array, entry by entry. -/
theorem g_eq (c : Dev nD) (b : Fin 32) (s : Fin 64) (l : Fin 512) :
    ((dats m 0 c).arrAt 16 cfg0.N : S32x64x512.Idx → EReal) (ix3 b s l)
      = col m c b s ⟨1352 + l.val, by have := l.isLt; omega⟩ * Ideal.logistic (col m c b s ⟨1864 + l.val, by have := l.isLt; omega⟩) := by
  have hl := l.isLt
  obtain ⟨t, p, rfl⟩ := point_of b
  rw [arr16, g_apply]
  have e1 : 1408 + l.val - 56 = 1352 + l.val := by omega
  have e2 : 1920 + l.val - 56 = 1864 + l.val := by omega
  have h1 := colHigh m c t p s ⟨1408 + l.val, by omega⟩ (by show 1408 ≤ 1408 + l.val; omega)
  have h2 := colHigh m c t p s ⟨1920 + l.val, by omega⟩ (by show 1408 ≤ 1920 + l.val; omega)
  simp only [e1] at h1
  simp only [e2] at h2
  rw [h1, h2]

/-- The call's indexer-key array, entry by entry. -/
theorem ik_eq (c : Dev nD) (b : Fin 32) (s : Fin 64) (l : Fin 128) :
    ((dats m 0 c).arrAt 14 cfg0.N : S32x64x128.Idx → EReal) (ix3 b s l)
      = keyLane (4096 + s.val) (fun q => col m c b s ⟨1280 + q.val, by have := q.isLt; omega⟩) l := by
  obtain ⟨t, p, rfl⟩ := point_of b
  rw [arr14, ik_apply, tab3, tab4, tab5]
  refine turn (fun q : Fin 128 => ∑ k, feat (fun j => (iblk m c 0 t : Vec Ideal S8x64x1024 .f32) (ix3 p s j)) (fun j => (iblk m c 3 t : Vec Ideal S1x1024 .f32) (ix2 0 j))
        (fun j => (iblk m c 2 t : Vec Ideal S8x1x1024 .f32) (ix3 p 0 j)) (fun j => (iblk m c 1 t : Vec Ideal S8x1x1024 .f32) (ix3 p 0 j)) k
        * (iblk m c 4 t : Vec Ideal S1024x2432 .bf16) (ix2 k ⟨1280 + q.val, by have := q.isLt; omega⟩)) _ (fun q => ?_) _ l
  have hq := q.isLt
  exact colLow m c t p s ⟨1280 + q.val, by omega⟩ (by show 1280 + q.val < 1352; omega)

end Cert.InProjSampleIdeal.Gen

namespace Cert.InProjSampleRefIdeal.Value

open Cert.InProjSampleRefIdeal Cert.InProjSampleRefIdeal.Gen Cert.Proof.In

set_option maxRecDepth 16384
set_option maxHeartbeats 8000000

theorem ref_v (a0 : Vec Ideal S32x64x1024 .f32) (a1 : Vec Ideal S32x1x6144 .f32) (a2 : Vec Ideal S1024 .f32) (a3 : Vec Ideal S1024x2376 .f32)
    (b : Fin 32) (s : Fin 64) (l : Fin 128) :
    extractStridedSlice S32x64x128 ![0, 0, 640] (Host.dotGeneral (F := Ideal) (φ₁ := .f32) (φ₂ := .f32) dot_S32x64x1024_S1024x2376_S32x64x2376_2_0_01_1_n_n none (addf (mulf (mulf (mulf a0 (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf a0 a0) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a2))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 1024] a1 slices_S32x1x6144_S32x1x1024_0_0_1024)))) (broadcastInDim S32x64x1024 ![0, 1, 2] bcast_S32x1x1024_S32x64x1024_0_1_2 (extractStridedSlice S32x1x1024 ![0, 0, 0] a1 slices_S32x1x6144_S32x1x1024_0_0_0))) a3) slices_S32x64x2376_S32x64x128_0_0_640 (ix3 b s l)
      = proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨640 + l.val, by have := l.isLt; omega⟩)) := by
  pointwise [proj, feat]

theorem ref_g (a0 : Vec Ideal S32x64x1024 .f32) (a1 : Vec Ideal S32x1x6144 .f32) (a2 : Vec Ideal S1024 .f32) (a3 : Vec Ideal S1024x2376 .f32)
    (b : Fin 32) (s : Fin 64) (l : Fin 512) :
    mulf (extractStridedSlice S32x64x512 ![0, 0, 0] (extractStridedSlice S32x64x1024 ![0, 0, 1352] (Host.dotGeneral (F := Ideal) (φ₁ := .f32) (φ₂ := .f32) dot_S32x64x1024_S1024x2376_S32x64x2376_2_0_01_1_n_n none (addf (mulf (mulf (mulf a0 (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf a0 a0) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a2))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 1024] a1 slices_S32x1x6144_S32x1x1024_0_0_1024)))) (broadcastInDim S32x64x1024 ![0, 1, 2] bcast_S32x1x1024_S32x64x1024_0_1_2 (extractStridedSlice S32x1x1024 ![0, 0, 0] a1 slices_S32x1x6144_S32x1x1024_0_0_0))) a3) slices_S32x64x2376_S32x64x1024_0_0_1352) slices_S32x64x1024_S32x64x512_0_0_0) (Host.divf (broadcastInDim S32x64x512 ![] bcast_S_S32x64x512 (constant (F := Ideal) S_ .f32 0x3F800000#32)) (addf (broadcastInDim S32x64x512 ![] bcast_S_S32x64x512 (constant (F := Ideal) S_ .f32 0x3F800000#32)) (Host.exp (Host.negf (extractStridedSlice S32x64x512 ![0, 0, 512] (extractStridedSlice S32x64x1024 ![0, 0, 1352] (Host.dotGeneral (F := Ideal) (φ₁ := .f32) (φ₂ := .f32) dot_S32x64x1024_S1024x2376_S32x64x2376_2_0_01_1_n_n none (addf (mulf (mulf (mulf a0 (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf a0 a0) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a2))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 1024] a1 slices_S32x1x6144_S32x1x1024_0_0_1024)))) (broadcastInDim S32x64x1024 ![0, 1, 2] bcast_S32x1x1024_S32x64x1024_0_1_2 (extractStridedSlice S32x1x1024 ![0, 0, 0] a1 slices_S32x1x6144_S32x1x1024_0_0_0))) a3) slices_S32x64x2376_S32x64x1024_0_0_1352) slices_S32x64x1024_S32x64x512_0_0_512))))) (ix3 b s l)
      = proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨1352 + l.val, by have := l.isLt; omega⟩))
        * Ideal.logistic (proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨1864 + l.val, by have := l.isLt; omega⟩))) := by
  pointwise [proj, feat, Ideal.logistic]
  simp only [← Nat.add_assoc, Nat.reduceAdd]

theorem ref_ik (a0 : Vec Ideal S32x64x1024 .f32) (a1 : Vec Ideal S32x1x6144 .f32) (a2 : Vec Ideal S1024 .f32) (a3 : Vec Ideal S1024x2376 .f32)
    (b : Fin 32) (s : Fin 64) (l : Fin 128) :
      (concatenate S32x64x128 2 [⟨S32x64x64, ((shapeCast _ ((concatenate S32x64x1x64 3 [⟨S32x64x1x8, ((subf (mulf (extractStridedSlice S32x64x1x8 ![0, 0, 0, 0] (broadcastInDim S32x64x1x64 ![0, 1, 3] bcast_S32x64x64_S32x64x1x64_0_1_3 (extractStridedSlice S32x64x64 ![0, 0, 1280] (Host.dotGeneral (F := Ideal) (φ₁ := .f32) (φ₂ := .f32) dot_S32x64x1024_S1024x2376_S32x64x2376_2_0_01_1_n_n none (addf (mulf (mulf (mulf a0 (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf a0 a0) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a2))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 1024] a1 slices_S32x1x6144_S32x1x1024_0_0_1024)))) (broadcastInDim S32x64x1024 ![0, 1, 2] bcast_S32x1x1024_S32x64x1024_0_1_2 (extractStridedSlice S32x1x1024 ![0, 0, 0] a1 slices_S32x1x6144_S32x1x1024_0_0_0))) a3) slices_S32x64x2376_S32x64x64_0_0_1280)) slices_S32x64x1x64_S32x64x1x8_0_0_0_0) (broadcastInDim S32x64x1x8 ![0, 1, 2, 3] bcast_S1x64x1x8_S32x64x1x8_0_1_2_3 (broadcastInDim S1x64x1x8 ![1, 2, 3] bcast_S64x1x8_S1x64x1x8_1_2_3 (broadcastInDim S64x1x8 ![0, 2] bcast_S64x8_S64x1x8_0_2 (Host.cos (mulf (broadcastInDim S64x8 ![0, 1] bcast_S64x1_S64x8_0_1 (broadcastInDim S64x1 ![0] bcast_S64_S64x1_0 (sitofp .f32 (addi (broadcastInDim S64 ![] bcast_S_S64 (constantI S_ 32 4096#32)) (iotaInDim S64 32 0))))) (broadcastInDim S64x8 ![0, 1] bcast_S1x8_S64x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S32x64x1x8 ![0, 0, 0, 8] (broadcastInDim S32x64x1x64 ![0, 1, 3] bcast_S32x64x64_S32x64x1x64_0_1_3 (extractStridedSlice S32x64x64 ![0, 0, 1280] (Host.dotGeneral (F := Ideal) (φ₁ := .f32) (φ₂ := .f32) dot_S32x64x1024_S1024x2376_S32x64x2376_2_0_01_1_n_n none (addf (mulf (mulf (mulf a0 (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf a0 a0) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a2))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 1024] a1 slices_S32x1x6144_S32x1x1024_0_0_1024)))) (broadcastInDim S32x64x1024 ![0, 1, 2] bcast_S32x1x1024_S32x64x1024_0_1_2 (extractStridedSlice S32x1x1024 ![0, 0, 0] a1 slices_S32x1x6144_S32x1x1024_0_0_0))) a3) slices_S32x64x2376_S32x64x64_0_0_1280)) slices_S32x64x1x64_S32x64x1x8_0_0_0_8) (broadcastInDim S32x64x1x8 ![0, 1, 2, 3] bcast_S1x64x1x8_S32x64x1x8_0_1_2_3 (broadcastInDim S1x64x1x8 ![1, 2, 3] bcast_S64x1x8_S1x64x1x8_1_2_3 (broadcastInDim S64x1x8 ![0, 2] bcast_S64x8_S64x1x8_0_2 (Host.sin (mulf (broadcastInDim S64x8 ![0, 1] bcast_S64x1_S64x8_0_1 (broadcastInDim S64x1 ![0] bcast_S64_S64x1_0 (sitofp .f32 (addi (broadcastInDim S64 ![] bcast_S_S64 (constantI S_ 32 4096#32)) (iotaInDim S64 32 0))))) (broadcastInDim S64x8 ![0, 1] bcast_S1x8_S64x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S32x64x1x8 .f32)⟩, ⟨S32x64x1x8, ((addf (mulf (extractStridedSlice S32x64x1x8 ![0, 0, 0, 8] (broadcastInDim S32x64x1x64 ![0, 1, 3] bcast_S32x64x64_S32x64x1x64_0_1_3 (extractStridedSlice S32x64x64 ![0, 0, 1280] (Host.dotGeneral (F := Ideal) (φ₁ := .f32) (φ₂ := .f32) dot_S32x64x1024_S1024x2376_S32x64x2376_2_0_01_1_n_n none (addf (mulf (mulf (mulf a0 (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf a0 a0) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a2))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 1024] a1 slices_S32x1x6144_S32x1x1024_0_0_1024)))) (broadcastInDim S32x64x1024 ![0, 1, 2] bcast_S32x1x1024_S32x64x1024_0_1_2 (extractStridedSlice S32x1x1024 ![0, 0, 0] a1 slices_S32x1x6144_S32x1x1024_0_0_0))) a3) slices_S32x64x2376_S32x64x64_0_0_1280)) slices_S32x64x1x64_S32x64x1x8_0_0_0_8) (broadcastInDim S32x64x1x8 ![0, 1, 2, 3] bcast_S1x64x1x8_S32x64x1x8_0_1_2_3 (broadcastInDim S1x64x1x8 ![1, 2, 3] bcast_S64x1x8_S1x64x1x8_1_2_3 (broadcastInDim S64x1x8 ![0, 2] bcast_S64x8_S64x1x8_0_2 (Host.cos (mulf (broadcastInDim S64x8 ![0, 1] bcast_S64x1_S64x8_0_1 (broadcastInDim S64x1 ![0] bcast_S64_S64x1_0 (sitofp .f32 (addi (broadcastInDim S64 ![] bcast_S_S64 (constantI S_ 32 4096#32)) (iotaInDim S64 32 0))))) (broadcastInDim S64x8 ![0, 1] bcast_S1x8_S64x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S32x64x1x8 ![0, 0, 0, 0] (broadcastInDim S32x64x1x64 ![0, 1, 3] bcast_S32x64x64_S32x64x1x64_0_1_3 (extractStridedSlice S32x64x64 ![0, 0, 1280] (Host.dotGeneral (F := Ideal) (φ₁ := .f32) (φ₂ := .f32) dot_S32x64x1024_S1024x2376_S32x64x2376_2_0_01_1_n_n none (addf (mulf (mulf (mulf a0 (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf a0 a0) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a2))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 1024] a1 slices_S32x1x6144_S32x1x1024_0_0_1024)))) (broadcastInDim S32x64x1024 ![0, 1, 2] bcast_S32x1x1024_S32x64x1024_0_1_2 (extractStridedSlice S32x1x1024 ![0, 0, 0] a1 slices_S32x1x6144_S32x1x1024_0_0_0))) a3) slices_S32x64x2376_S32x64x64_0_0_1280)) slices_S32x64x1x64_S32x64x1x8_0_0_0_0) (broadcastInDim S32x64x1x8 ![0, 1, 2, 3] bcast_S1x64x1x8_S32x64x1x8_0_1_2_3 (broadcastInDim S1x64x1x8 ![1, 2, 3] bcast_S64x1x8_S1x64x1x8_1_2_3 (broadcastInDim S64x1x8 ![0, 2] bcast_S64x8_S64x1x8_0_2 (Host.sin (mulf (broadcastInDim S64x8 ![0, 1] bcast_S64x1_S64x8_0_1 (broadcastInDim S64x1 ![0] bcast_S64_S64x1_0 (sitofp .f32 (addi (broadcastInDim S64 ![] bcast_S_S64 (constantI S_ 32 4096#32)) (iotaInDim S64 32 0))))) (broadcastInDim S64x8 ![0, 1] bcast_S1x8_S64x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S32x64x1x8 .f32)⟩, ⟨S32x64x1x48, ((extractStridedSlice S32x64x1x48 ![0, 0, 0, 16] (broadcastInDim S32x64x1x64 ![0, 1, 3] bcast_S32x64x64_S32x64x1x64_0_1_3 (extractStridedSlice S32x64x64 ![0, 0, 1280] (Host.dotGeneral (F := Ideal) (φ₁ := .f32) (φ₂ := .f32) dot_S32x64x1024_S1024x2376_S32x64x2376_2_0_01_1_n_n none (addf (mulf (mulf (mulf a0 (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf a0 a0) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a2))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 1024] a1 slices_S32x1x6144_S32x1x1024_0_0_1024)))) (broadcastInDim S32x64x1024 ![0, 1, 2] bcast_S32x1x1024_S32x64x1024_0_1_2 (extractStridedSlice S32x1x1024 ![0, 0, 0] a1 slices_S32x1x6144_S32x1x1024_0_0_0))) a3) slices_S32x64x2376_S32x64x64_0_0_1280)) slices_S32x64x1x64_S32x64x1x48_0_0_0_16) : Vec Ideal S32x64x1x48 .f32)⟩] concatenates_S32x64x1x8_S32x64x1x8_S32x64x1x48_S32x64x1x64_d3 : Vec Ideal S32x64x1x64 .f32)) shapeCasts_S32x64x1x64_S32x64x64) : Vec Ideal S32x64x64 .f32)⟩, ⟨S32x64x8, ((mulf (extractStridedSlice S32x64x8 ![0, 0, 1344] (Host.dotGeneral (F := Ideal) (φ₁ := .f32) (φ₂ := .f32) dot_S32x64x1024_S1024x2376_S32x64x2376_2_0_01_1_n_n none (addf (mulf (mulf (mulf a0 (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf a0 a0) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a2))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 1024] a1 slices_S32x1x6144_S32x1x1024_0_0_1024)))) (broadcastInDim S32x64x1024 ![0, 1, 2] bcast_S32x1x1024_S32x64x1024_0_1_2 (extractStridedSlice S32x1x1024 ![0, 0, 0] a1 slices_S32x1x6144_S32x1x1024_0_0_0))) a3) slices_S32x64x2376_S32x64x8_0_0_1344) (broadcastInDim S32x64x8 ![] bcast_S_S32x64x8 (constant (F := Ideal) S_ .f32 0x3D3504F3#32))) : Vec Ideal S32x64x8 .f32)⟩, ⟨S32x64x56, ((broadcastInDim S32x64x56 ![] bcast_S_S32x64x56 (constant (F := Ideal) S_ .f32 0x00000000#32)) : Vec Ideal S32x64x56 .f32)⟩] concatenates_S32x64x64_S32x64x8_S32x64x56_S32x64x128_d2 : Vec Ideal S32x64x128 .f32) (ix3 b s l)
      = keyLane (4096 + s.val) (fun q => proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨1280 + q.val, by have := q.isLt; omega⟩))) l := by
  pointwise [keyLane, proj, feat, ang]
  simp only [pos_add]
  by_cases h1 : l.val < 64
  · by_cases h2 : l.val < 8
    · simp only [h1, h2, ↓reduceDIte, ↓reduceIte]
    · by_cases h3 : l.val - 8 < 8
      · have e : 8 + (l.val - 8) = l.val := by omega
        simp only [h1, h2, h3, ↓reduceDIte, ↓reduceIte, e]
      · have e : 16 + (l.val - 8 - 8) = l.val := by omega
        simp only [h1, h2, h3, ↓reduceDIte, ↓reduceIte, e]
  · by_cases h4 : l.val - 64 < 8
    · have e : 1344 + (l.val - 64) = 1280 + l.val := by omega
      simp only [h1, h4, ↓reduceDIte, ↓reduceIte, e]
    · simp only [h1, h4, ↓reduceDIte, ↓reduceIte]

end Cert.InProjSampleRefIdeal.Value

namespace Cert.Proof.InSample

set_option maxRecDepth 16384
set_option maxHeartbeats 8000000

/-- The value claim of the input projection at the sample batch's shapes: over the extended reals its three arrays are the reference's. -/
theorem algebraic : Cert.algebraic_InProjSampleIdeal_InProjSampleRefIdeal (hInProjSampleIdeal := Cert.InProjSampleIdeal.Gen.facts) (hInProjSampleRefIdeal := Cert.InProjSampleRefIdeal.Gen.facts) := by
  intro m g m' g' _ hagree
  refine ⟨fun c => (Cert.InProjSampleIdeal.Gen.dats m 0 c).arrAt 11 Cert.InProjSampleIdeal.cfg0.N, fun c => (Cert.InProjSampleIdeal.Gen.dats m 0 c).arrAt 14 Cert.InProjSampleIdeal.cfg0.N,
    fun c => (Cert.InProjSampleIdeal.Gen.dats m 0 c).arrAt 16 Cert.InProjSampleIdeal.cfg0.N,
    θ_run_mono (Cert.InProjSampleIdeal.Value.run_blocks m g) fun r h c => ?_,
    θ_run_mono (Cert.InProjSampleRefIdeal.Value.run m' g') fun r h c => ⟨(h c).1.trans ?_, (h c).2.1.trans ?_, (h c).2.2.1.trans ?_, (h c).2.2.2⟩⟩
  · obtain ⟨-, -, -, h3, -, -, h6, -, h8, ha⟩ := h c
    exact ⟨h3, h6, h8, ha⟩
  all_goals obtain ⟨e0, e1, e2, e3, e4, e5⟩ := hagree c
  · rw [e0, e1, e2, e3]
    funext i
    obtain ⟨b, s, l, rfl⟩ : ∃ (b : Fin 32) (s : Fin 64) (l : Fin 128), i = (ix3 b s l : Cert.InProjSampleIdeal.S32x64x128.Idx) :=
      ⟨i 0, i 1, i 2, funext fun a => by fin_cases a <;> rfl⟩
    exact (Cert.InProjSampleRefIdeal.Value.ref_v _ _ _ _ b s l).trans (Cert.InProjSampleIdeal.Gen.v_eq m c b s l).symm
  · unfold Cert.InProjSampleRefIdeal.Value.res_main_v77
    rw [e0, e1, e2, e3]
    funext i
    obtain ⟨b, s, l, rfl⟩ : ∃ (b : Fin 32) (s : Fin 64) (l : Fin 128), i = (ix3 b s l : Cert.InProjSampleIdeal.S32x64x128.Idx) :=
      ⟨i 0, i 1, i 2, funext fun a => by fin_cases a <;> rfl⟩
    exact (Cert.InProjSampleRefIdeal.Value.ref_ik _ _ _ _ b s l).trans (Cert.InProjSampleIdeal.Gen.ik_eq m c b s l).symm
  · rw [e0, e1, e2, e3]
    funext i
    obtain ⟨b, s, l, rfl⟩ : ∃ (b : Fin 32) (s : Fin 64) (l : Fin 512), i = (ix3 b s l : Cert.InProjSampleIdeal.S32x64x512.Idx) :=
      ⟨i 0, i 1, i 2, funext fun a => by fin_cases a <;> rfl⟩
    exact (Cert.InProjSampleRefIdeal.Value.ref_g _ _ _ _ b s l).trans (Cert.InProjSampleIdeal.Gen.g_eq m c b s l).symm

end Cert.Proof.InSample

end
-- ==== Proof.KeyMath.lean ====
/- The mathematics of one head's keys over the extended reals: a finite projection has finite squares, so the kernel's split of a
   square into two summands leaves the mean as it is, and the rotary tables turn each head of 64 lanes. -/
module

public import proofs.«01_k».proof.Proof.InHost
public import proofs.«01_k».proof.Proof.InStep

@[expose] public section

open Idealize.ShloMosaic

noncomputable section

namespace Cert.Proof.In

/-- The value is a real number, no infinity. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.one : IsReal 1 := ⟨1, rfl⟩

theorem IsReal.sub_self {x : EReal} (hx : IsReal x) : x - x = 0 := by
  obtain ⟨a, rfl⟩ := hx; rw [← EReal.coe_sub, _root_.sub_self]; rfl

theorem coe_sum {n : Nat} (f : Fin n → ℝ) : ((∑ k, f k : ℝ) : EReal) = ∑ k, (f k : EReal) := by
  have key : ∀ s : Finset (Fin n), ((∑ k ∈ s, f k : ℝ) : EReal) = ∑ k ∈ s, (f k : EReal) := by
    intro s
    induction s using Finset.induction_on with
    | empty => simp
    | insert a s ha ih => rw [Finset.sum_insert ha, Finset.sum_insert ha, EReal.coe_add, ih]
  exact key _

theorem IsReal.sum {n : Nat} {f : Fin n → EReal} (h : ∀ k, IsReal (f k)) : IsReal (∑ k, f k) := by
  choose r hr using h
  exact ⟨∑ k, r k, by rw [coe_sum]; exact Finset.sum_congr rfl fun k _ => hr k⟩

/-- What the precondition says of one element. -/
theorem isReal_of_abs_lt {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  have h' : max x (-x) < ⊤ := by
    by_contra hn
    simp [Ideal.cmp, hn] at h
  induction x with
  | bot => simp at h'
  | top => simp at h'
  | coe r => exact ⟨r, rfl⟩

theorem lit1024 : Ideal.ofBits .f32 0x44800000#32 = ((1024 : ℝ) : EReal) := by
  simp [Ideal.ofBits, Ideal.ieee, -EReal.coe_mul]; norm_num
theorem lit64 : Ideal.ofBits .f32 0x42800000#32 = ((64 : ℝ) : EReal) := by
  simp [Ideal.ofBits, Ideal.ieee, -EReal.coe_mul]; norm_num
theorem lit64th : Ideal.ofBits .f32 0x3C800000#32 = ((1 / 64 : ℝ) : EReal) := by
  simp [Ideal.ofBits, Ideal.ieee, -EReal.coe_mul]; norm_num
theorem litEps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A feature of a token is finite if the token, the gain and the modulation are. -/
theorem feat_real {x g sc sh : Fin 1024 → EReal} (hx : ∀ k, IsReal (x k)) (hg : ∀ k, IsReal (g k)) (hc : ∀ k, IsReal (sc k)) (hs : ∀ k, IsReal (sh k))
    (k : Fin 1024) : IsReal (feat x g sc sh k) := by
  obtain ⟨e, he, hE⟩ := litEps
  have hr : IsReal (Ideal.rsqrt (Ideal.div (∑ j, x j * x j) (Ideal.ofBits .f32 0x44800000#32) + Ideal.ofBits .f32 0x358637BD#32)) := by
    choose r hr using hx
    have hsum : (∑ j, x j * x j) = ((∑ j, r j * r j : ℝ) : EReal) := by
      rw [coe_sum]; exact Finset.sum_congr rfl fun j _ => by rw [hr j, EReal.coe_mul]
    have hnn : 0 ≤ ∑ j, r j * r j := Finset.sum_nonneg fun j _ => mul_self_nonneg (r j)
    rw [lit1024, Ideal.div_coe (by norm_num), hE, hsum, ← EReal.coe_mul, ← EReal.coe_add, Ideal.rsqrt_coe]
    have hp : 0 < (∑ j, r j * r j) * (1 / 1024) + e := by positivity
    rw [if_neg (not_lt.mpr hp.le), if_neg hp.ne']
    exact ⟨_, rfl⟩
  exact ((((hx k).mul hr).mul (hg k)).mul (IsReal.one.add (hc k))).add (hs k)

/-- Lane `e` of the head that lane `l` lies in. -/
abbrev hd (l : Fin 128) (e : Fin 64) : Fin 128 := ⟨l.val / 64 * 64 + e.val, by have := l.isLt; have := e.isLt; omega⟩

/-- The entry of the table that adds up a head's lanes. -/
def blkOne (k l : Fin 128) : EReal := if k.val / 64 = l.val / 64 then 1 else 0

theorem head_sum (f : Fin 128 → EReal) (l : Fin 128) : (∑ k, f k * blkOne k l) = ∑ e, f (hd l e) := by
  have hl := l.isLt
  unfold blkOne
  simp only [mul_ite, mul_one, mul_zero]
  rw [← Finset.sum_filter]
  refine (Finset.sum_bij (fun (e : Fin 64) _ => hd l e) (fun e _ => ?_) (fun e _ e' _ h => ?_) (fun k hk => ?_) (fun e _ => rfl)).symm
  · have := e.isLt
    simp only [Finset.mem_filter, Finset.mem_univ, true_and]
    omega
  · have h' : l.val / 64 * 64 + e.val = l.val / 64 * 64 + e'.val := congrArg Fin.val h
    exact Fin.ext (by omega)
  · simp only [Finset.mem_filter, Finset.mem_univ, true_and] at hk
    refine ⟨⟨k.val % 64, by omega⟩, Finset.mem_univ _, Fin.ext ?_⟩
    show l.val / 64 * 64 + k.val % 64 = k.val
    omega

/-- A lane of the keys before the rotary turn: the projection over its head's root mean square, times the gain. -/
def headNorm (Y : Fin 128 → EReal) (g : Fin 64 → EReal) (l : Fin 128) : EReal :=
  Y l * Ideal.rsqrt (Ideal.div (∑ e, Y (hd l e) * Y (hd l e)) (Ideal.ofBits .f32 0x42800000#32) + Ideal.ofBits .f32 0x358637BD#32)
    * g ⟨l.val % 64, by omega⟩

/-- The kernel's form of it: the squares in two summands, each against the table, the sum times a 64th. -/
theorem headNorm_split {Y : Fin 128 → EReal} (hY : ∀ l, IsReal (Y l)) (g : Fin 64 → EReal) (l : Fin 128) :
    Y l * Ideal.rsqrt (((∑ k, Y k * Y k * blkOne k l) + ∑ k, (Y k * Y k - Y k * Y k) * blkOne k l) * Ideal.ofBits .f32 0x3C800000#32
        + Ideal.ofBits .f32 0x358637BD#32) * g ⟨l.val % 64, by omega⟩ = headNorm Y g l := by
  have hz : (∑ k, (Y k * Y k - Y k * Y k) * blkOne k l) = 0 :=
    Finset.sum_eq_zero fun k _ => by rw [((hY k).mul (hY k)).sub_self, zero_mul]
  rw [hz, add_zero, head_sum (fun k => Y k * Y k) l, lit64th]
  unfold headNorm
  rw [lit64, Ideal.div_coe (by norm_num)]

/-- The three tables of the keys: in each head what multiplies the lane itself, the lane 8 further and the lane 8 before. -/
def c1 (s e : Nat) : EReal := if e < 8 then Ideal.cos (ang s e) else if e - 8 < 8 then Ideal.cos (ang s (e - 8)) else 1
def sa1 (s e : Nat) : EReal := if e < 8 then -Ideal.sin (ang s e) else 0
def sb1 (s e : Nat) : EReal := if e < 8 then 0 else if e - 8 < 8 then Ideal.sin (ang s (e - 8)) else 0
def ck (s l : Nat) : EReal := if l < 64 then c1 s l else c1 s (l - 64)
def sak (s l : Nat) : EReal := if l < 64 then sa1 s l else sa1 s (l - 64)
def sbk (s l : Nat) : EReal := if l < 64 then sb1 s l else sb1 s (l - 64)

/-- The rotary turn of a head's keys. -/
def turned (s : Nat) (N : Fin 128 → EReal) (l : Fin 128) : EReal :=
  if h : l.val % 64 < 8 then N l * Ideal.cos (ang s (l.val % 64)) - N ⟨l.val + 8, by have := l.isLt; omega⟩ * Ideal.sin (ang s (l.val % 64))
  else if h' : l.val % 64 - 8 < 8 then N l * Ideal.cos (ang s (l.val % 64 - 8)) + N ⟨l.val - 8, by have := l.isLt; omega⟩ * Ideal.sin (ang s (l.val % 64 - 8))
  else N l

theorem turned_of_tables (s : Nat) (N : Fin 128 → EReal) (l : Fin 128) :
    N l * ck s l.val + N (Cert.InProjIdeal.Gen.up l) * sak s l.val + N (Cert.InProjIdeal.Gen.dn l) * sbk s l.val = turned s N l := by
  have hl := l.isLt
  have ec : ck s l.val = c1 s (l.val % 64) := by
    unfold ck; split
    · rw [Nat.mod_eq_of_lt (by assumption)]
    · congr 1; omega
  have ea : sak s l.val = sa1 s (l.val % 64) := by
    unfold sak; split
    · rw [Nat.mod_eq_of_lt (by assumption)]
    · congr 1; omega
  have eb : sbk s l.val = sb1 s (l.val % 64) := by
    unfold sbk; split
    · rw [Nat.mod_eq_of_lt (by assumption)]
    · congr 1; omega
  rw [ec, ea, eb]
  unfold c1 sa1 sb1 turned
  by_cases h2 : l.val % 64 < 8
  · have p1 : Cert.InProjIdeal.Gen.up l = ⟨l.val + 8, by omega⟩ := Fin.ext (by show (l.val + 128 - 120) % 128 = l.val + 8; omega)
    simp only [h2, ↓reduceDIte, ↓reduceIte, p1, mul_zero, add_zero, mul_neg, sub_eq_add_neg]
  · by_cases h3 : l.val % 64 - 8 < 8
    · have p1 : Cert.InProjIdeal.Gen.dn l = ⟨l.val - 8, by omega⟩ := Fin.ext (by show (l.val + 128 - 8) % 128 = l.val - 8; omega)
      simp only [h2, h3, ↓reduceDIte, ↓reduceIte, p1, mul_zero, add_zero]
    · simp only [h2, h3, ↓reduceDIte, ↓reduceIte, mul_zero, add_zero, mul_one]

end Cert.Proof.In
end
-- ==== Proof.KeyHost.lean ====
/- The arrays that the host code hands to the input projection whose key array is claimed, read entry by entry. -/
module

public import proofs.«01_k».proof.Proof.Gen.InKeyIdeal.Value
public import proofs.«01_k».proof.Proof.KeyMath
public import Idealize.ShloMosaic.Lib.StableHlo.ReadAt
public import Idealize.ShloMosaic.Lib.Claim

@[expose] public section

open Idealize.ShloMosaic Idealize.ShloMosaic.TcCoe Idealize.SL.Sem

noncomputable section

namespace Cert.InKeyIdeal.Gen

open Cert.InKeyIdeal Cert.Proof.In

set_option maxRecDepth 16384
set_option maxHeartbeats 2000000

variable (m : (ℓ : Loc nD τ sig) → Buf (Elt Ideal) ℓ)

/-- The call's arguments as arrays. -/
abbrev hX (c : Dev nD) : S4x4096x1024.Idx → EReal := m ((c : Thread nD τ).loc main_arg0)
abbrev hM (c : Dev nD) : S4x1x6144.Idx → EReal := m ((c : Thread nD τ).loc main_arg1)
abbrev hN (c : Dev nD) : S1024.Idx → EReal := m ((c : Thread nD τ).loc main_arg2)
abbrev hW (c : Dev nD) : S1024x2376.Idx → EReal := m ((c : Thread nD τ).loc main_arg3)
abbrev hG (c : Dev nD) : S64.Idx → EReal := m ((c : Thread nD τ).loc main_arg5)

theorem v5_at (c : Dev nD) (k : Fin 1024) (j : Fin 2432) (hj : j.val < 1352) :
    (V m c main_v5 : S1024x2432.Idx → EReal) (ix2 k j) = hW m c (ix2 k ⟨j.val, by omega⟩) := by
  unfold V
  iterate 10 (try after_reads_at)
  rw [dif_pos hj]

theorem v15_at (c : Dev nD) (k : Fin 1024) : (V m c main_v15 : S1x1024.Idx → EReal) (ix2 0 k) = hN m c (ix1 k) := by
  unfold V
  iterate 10 (try after_reads_at)

theorem v14_at (c : Dev nD) (l : Fin 128) : (V m c main_v14 : S2x128.Idx → EReal) (ix2 1 l) = hG m c (ix1 ⟨l.val % 64, by omega⟩) := by
  unfold V
  iterate 10 (try after_reads_at)

theorem t0_at (c : Dev nD) (s : Fin 4096) (l : Fin 128) : (V m c main_v54 : S6x4096x128.Idx → EReal) (ix3 0 s l) = ck s.val l.val := by
  unfold V
  iterate 10 (try after_reads_at)
  rfl

theorem t1_at (c : Dev nD) (s : Fin 4096) (l : Fin 128) : (V m c main_v54 : S6x4096x128.Idx → EReal) (ix3 1 s l) = sak s.val l.val := by
  unfold V
  iterate 10 (try after_reads_at)
  rfl

theorem t2_at (c : Dev nD) (s : Fin 4096) (l : Fin 128) : (V m c main_v54 : S6x4096x128.Idx → EReal) (ix3 2 s l) = sbk s.val l.val := by
  unfold V
  iterate 10 (try after_reads_at)
  rfl

/-- The literal's words: a one where the two lanes lie in the same head. -/
theorem words : ∀ k l : Fin 128, lit0t (k.val * 128 + l.val) = if k.val / 64 = l.val / 64 then 0x3F80#16 else 0#16 := by
  decide +kernel

theorem bd_at (c : Dev nD) (k l : Fin 128) : (V m c main_cst : S128x128.Idx → EReal) (ix2 k l) = blkOne k l := by
  unfold V
  iterate 10 (try after_reads_at)
  show Ideal.ofBits .bf16 (lit0t (S128x128.rowMajor (ix2 k l)).val) = _
  rw [show (S128x128.rowMajor (ix2 k l)).val = k.val * 128 + l.val from Shape.rowMajor_val_two (ix2 k l : S128x128.Idx), words]
  unfold blkOne
  split
  · exact Ideal.ofBits_one_bf16
  · exact Ideal.ofBits_zero_bf16

end Cert.InKeyIdeal.Gen
end
-- ==== Proof.KeyBlocks.lean ====
/- The windows of the input projection whose key array is claimed, at a grid point, read as entries of the call's arrays. -/
module

public import proofs.«01_k».proof.Proof.KeyHost
public import Idealize.ShloMosaic.Lib.Claim

@[expose] public section

open Idealize.ShloMosaic Idealize.ShloMosaic.TcCoe Idealize.SL.Sem

noncomputable section

namespace Cert.InKeyIdeal.Gen

open Cert.InKeyIdeal Cert.Proof.In

set_option maxRecDepth 16384
set_option maxHeartbeats 2000000

variable (m : (ℓ : Loc nD τ sig) → Buf (Elt Ideal) ℓ)

theorem pt_lt (t : Fin cfg0.N) : t.val < 32 := lt_of_lt_of_eq t.isLt N_0

theorem idx0 : ∀ t : Fin cfg0.N, win0_0.index t 0 = t.val / 8 ∧ win0_0.index t 1 = t.val % 8 ∧ win0_0.index t 2 = 0 :=
  (by decide +kernel : ∀ t : Fin grid0.N, _)
theorem idx1 : ∀ t : Fin cfg0.N, win0_1.index t 0 = t.val / 8 ∧ win0_1.index t 1 = 0 ∧ win0_1.index t 2 = 0 :=
  (by decide +kernel : ∀ t : Fin grid0.N, _)
theorem idx2 : ∀ t : Fin cfg0.N, win0_2.index t 0 = t.val / 8 ∧ win0_2.index t 1 = 0 ∧ win0_2.index t 2 = 1 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = 0 ∧ win0_6.index t 1 = t.val % 8 ∧ win0_6.index t 2 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx10 : ∀ t : Fin cfg0.N, win0_10.index t 0 = t.val / 8 ∧ win0_10.index t 1 = t.val % 8 ∧ win0_10.index t 2 = 0 :=
  (by decide +kernel : ∀ t : Fin grid0.N, _)

/-- The batch of a grid point and the token row `r` of its tile. -/
def ptB (t : Fin cfg0.N) : Fin 4 := ⟨t.val / 8, by have := pt_lt t; omega⟩
def ptS (t : Fin cfg0.N) (r : Fin 512) : Fin 4096 := ⟨t.val % 8 * 512 + r.val, by have := r.isLt; omega⟩

theorem blk0 (c : Dev nD) (t : Fin cfg0.N) (r : Fin 512) (k : Fin 1024) :
    (iblk m c 0 t : Vec Ideal S1x512x1024 .f32) (ix3 0 r k) = hX m c (ix3 (ptB t) (ptS t r) k) := by
  unfold iblk
  rw [View.read_apply]
  show V m c main_arg0 _ = _
  entry_read
  show m (c, Proc.tc.devRef main_arg0) _ = m (c, Proc.tc.devRef main_arg0) _
  congr 1
  obtain ⟨e0, e1, e2⟩ := idx0 t
  funext a
  apply Fin.ext
  match a with
  | ⟨0, _⟩ => show win0_0.index t 0 * 1 + 1 * (0 : Fin 1).val = _; rw [e0]; first | rfl | (simp only [ptB, ptS, ix3]; omega) | (simp [ptB, ptS, ix3])
  | ⟨1, _⟩ => show win0_0.index t 1 * 512 + 1 * r.val = _; rw [e1]; first | rfl | (simp only [ptB, ptS, ix3]; omega) | (simp [ptB, ptS, ix3])
  | ⟨2, _⟩ => show win0_0.index t 2 * 1024 + 1 * k.val = _; rw [e2]; first | rfl | (simp only [ptB, ptS, ix3]; omega) | (simp [ptB, ptS, ix3])

theorem blk1 (c : Dev nD) (t : Fin cfg0.N) (k : Fin 1024) :
    (iblk m c 1 t : Vec Ideal S1x1x1024 .f32) (ix3 0 0 k) = hM m c (ix3 (ptB t) 0 ⟨k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx1 t
  funext a
  apply Fin.ext
  match a with
  | ⟨0, _⟩ => show win0_1.index t 0 * 1 + 1 * (0 : Fin 1).val = _; rw [e0]; first | rfl | (simp only [ptB, ptS, ix3]; omega) | (simp [ptB, ptS, ix3])
  | ⟨1, _⟩ => show win0_1.index t 1 * 1 + 1 * (0 : Fin 1).val = _; rw [e1]; first | rfl | (simp only [ptB, ptS, ix3]; omega) | (simp [ptB, ptS, ix3])
  | ⟨2, _⟩ => show win0_1.index t 2 * 1024 + 1 * k.val = _; rw [e2]; first | rfl | (simp only [ptB, ptS, ix3]; omega) | (simp [ptB, ptS, ix3])

theorem blk2 (c : Dev nD) (t : Fin cfg0.N) (k : Fin 1024) :
    (iblk m c 2 t : Vec Ideal S1x1x1024 .f32) (ix3 0 0 k) = hM m c (ix3 (ptB t) 0 ⟨1024 + k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx2 t
  funext a
  apply Fin.ext
  match a with
  | ⟨0, _⟩ => show win0_2.index t 0 * 1 + 1 * (0 : Fin 1).val = _; rw [e0]; first | rfl | (simp only [ptB, ptS, ix3]; omega) | (simp [ptB, ptS, ix3])
  | ⟨1, _⟩ => show win0_2.index t 1 * 1 + 1 * (0 : Fin 1).val = _; rw [e1]; first | rfl | (simp only [ptB, ptS, ix3]; omega) | (simp [ptB, ptS, ix3])
  | ⟨2, _⟩ => show win0_2.index t 2 * 1024 + 1 * k.val = _; rw [e2]; first | rfl | (simp only [ptB, ptS, ix3]; omega) | (simp [ptB, ptS, ix3])

theorem blk3 (c : Dev nD) (t : Fin cfg0.N) (k : Fin 1024) :
    (iblk m c 3 t : Vec Ideal S1x1024 .f32) (ix2 0 k) = hN m c (ix1 k) := by
  unfold iblk
  rw [View.read_apply]
  have hj : ((cfg0.win 3).blk t).view.emb (ix2 0 k : S1x1024.Idx) = (ix2 0 k : S1x1024.Idx) := by
    obtain ⟨e0, e1⟩ := idx3 t
    funext a
    apply Fin.ext
    match a with
    | ⟨0, _⟩ => show win0_3.index t 0 * 1 + 1 * (0 : Fin 1).val = _; rw [e0]; first | rfl | (simp only [ptB, ptS, ix2, ix3]; omega) | (simp [ptB, ptS, ix2, ix3])
    | ⟨1, _⟩ => show win0_3.index t 1 * 1024 + 1 * k.val = _; rw [e1]; first | rfl | (simp only [ptB, ptS, ix2, ix3]; omega) | (simp [ptB, ptS, ix2, ix3])
  show V m c main_v15 _ = _
  rw [hj]
  exact v15_at m c k

theorem blk4 (c : Dev nD) (t : Fin cfg0.N) (k : Fin 1024) (j : Fin 2432) (hlt : j.val < 1352) :
    (iblk m c 4 t : Vec Ideal S1024x2432 .bf16) (ix2 k j) = (hW m c (ix2 k ⟨j.val, by omega⟩) : EReal) := by
  unfold iblk
  rw [View.read_apply]
  have hj : ((cfg0.win 4).blk t).view.emb (ix2 k j : S1024x2432.Idx) = (ix2 k j : S1024x2432.Idx) := by
    obtain ⟨e0, e1⟩ := idx4 t
    funext a
    apply Fin.ext
    match a with
    | ⟨0, _⟩ => show win0_4.index t 0 * 1024 + 1 * k.val = _; rw [e0]; first | rfl | (simp only [ptB, ptS, ix2, ix3]; omega) | (simp [ptB, ptS, ix2, ix3])
    | ⟨1, _⟩ => show win0_4.index t 1 * 2432 + 1 * j.val = _; rw [e1]; first | rfl | (simp only [ptB, ptS, ix2, ix3]; omega) | (simp [ptB, ptS, ix2, ix3])
  show V m c main_v5 _ = _
  rw [hj]
  exact v5_at m c k j hlt

theorem blk5 (c : Dev nD) (t : Fin cfg0.N) (l : Fin 128) :
    (iblk m c 5 t : Vec Ideal S2x128 .f32) (ix2 1 l) = hG m c (ix1 ⟨l.val % 64, by omega⟩) := by
  unfold iblk
  rw [View.read_apply]
  have hj : ((cfg0.win 5).blk t).view.emb (ix2 1 l : S2x128.Idx) = (ix2 1 l : S2x128.Idx) := by
    obtain ⟨e0, e1⟩ := idx5 t
    funext a
    apply Fin.ext
    match a with
    | ⟨0, _⟩ => show win0_5.index t 0 * 2 + 1 * (1 : Fin 2).val = _; rw [e0]; first | rfl | (simp only [ptB, ptS, ix2, ix3]; omega) | (simp [ptB, ptS, ix2, ix3])
    | ⟨1, _⟩ => show win0_5.index t 1 * 128 + 1 * l.val = _; rw [e1]; first | rfl | (simp only [ptB, ptS, ix2, ix3]; omega) | (simp [ptB, ptS, ix2, ix3])
  show V m c main_v14 _ = _
  rw [hj]
  exact v14_at m c l

theorem blk7 (c : Dev nD) (t : Fin cfg0.N) (k l : Fin 128) :
    (iblk m c 7 t : Vec Ideal S128x128 .bf16) (ix2 k l) = (blkOne k l : EReal) := by
  unfold iblk
  rw [View.read_apply]
  have hj : ((cfg0.win 7).blk t).view.emb (ix2 k l : S128x128.Idx) = (ix2 k l : S128x128.Idx) := by
    obtain ⟨e0, e1⟩ := idx7 t
    funext a
    apply Fin.ext
    match a with
    | ⟨0, _⟩ => show win0_7.index t 0 * 128 + 1 * k.val = _; rw [e0]; first | rfl | (simp only [ptB, ptS, ix2, ix3]; omega) | (simp [ptB, ptS, ix2, ix3])
    | ⟨1, _⟩ => show win0_7.index t 1 * 128 + 1 * l.val = _; rw [e1]; first | rfl | (simp only [ptB, ptS, ix2, ix3]; omega) | (simp [ptB, ptS, ix2, ix3])
  show V m c main_cst _ = _
  rw [hj]
  exact bd_at m c k l

theorem tab0 (c : Dev nD) (t : Fin cfg0.N) (r : Fin 512) (l : Fin 128) :
    (iblk m c 6 t : Vec Ideal S6x512x128 .f32) (ix3 0 r l) = (ck (ptS t r).val l.val : EReal) := by
  unfold iblk
  rw [View.read_apply]
  have hj : ((cfg0.win 6).blk t).view.emb (ix3 0 r l : S6x512x128.Idx) = (ix3 0 (ptS t r) l : S6x4096x128.Idx) := by
    obtain ⟨e0, e1, e2⟩ := idx6 t
    funext a
    apply Fin.ext
    match a with
    | ⟨0, _⟩ => show win0_6.index t 0 * 6 + 1 * (0 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t0_at m c (ptS t r) l

theorem tab1 (c : Dev nD) (t : Fin cfg0.N) (r : Fin 512) (l : Fin 128) :
    (iblk m c 6 t : Vec Ideal S6x512x128 .f32) (ix3 1 r l) = (sak (ptS t r).val l.val : EReal) := by
  unfold iblk
  rw [View.read_apply]
  have hj : ((cfg0.win 6).blk t).view.emb (ix3 1 r l : S6x512x128.Idx) = (ix3 1 (ptS t r) l : S6x4096x128.Idx) := by
    obtain ⟨e0, e1, e2⟩ := idx6 t
    funext a
    apply Fin.ext
    match a with
    | ⟨0, _⟩ => show win0_6.index t 0 * 6 + 1 * (1 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t1_at m c (ptS t r) l

theorem tab2 (c : Dev nD) (t : Fin cfg0.N) (r : Fin 512) (l : Fin 128) :
    (iblk m c 6 t : Vec Ideal S6x512x128 .f32) (ix3 2 r l) = (sbk (ptS t r).val l.val : EReal) := by
  unfold iblk
  rw [View.read_apply]
  have hj : ((cfg0.win 6).blk t).view.emb (ix3 2 r l : S6x512x128.Idx) = (ix3 2 (ptS t r) l : S6x4096x128.Idx) := by
    obtain ⟨e0, e1, e2⟩ := idx6 t
    funext a
    apply Fin.ext
    match a with
    | ⟨0, _⟩ => show win0_6.index t 0 * 6 + 1 * (2 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t2_at m c (ptS t r) l

end Cert.InKeyIdeal.Gen
end
-- ==== Proof.KeyStep.lean ====
/- One tile of the input projection at the ideal instance: what a grid point leaves in its key block, read entry by entry. -/
module

public import proofs.«01_k».proof.Proof.KeyMath
public import proofs.«01_k».proof.Proof.Gen.InKeyIdeal.Value
public import Idealize.ShloMosaic.Lib.Pointwise
public import Idealize.ShloMosaic.Lib.Tactic
public import Idealize.ShloMosaic.Lib.KernelVsHost

@[expose] public section

open Idealize.ShloMosaic

noncomputable section

namespace Cert.Proof.In

/-- The kernel's form of a normalised lane: the squares in two summands, each against a table `B`. -/
def rowNorm (Y : Fin 128 → EReal) (B : Fin 128 → Fin 128 → EReal) (G : Fin 128 → EReal) (l : Fin 128) : EReal :=
  Y l * Ideal.rsqrt (((∑ k, Y k * Y k * B k l) + ∑ k, (Y k * Y k - Y k * Y k) * B k l) * Ideal.ofBits .f32 0x3C800000#32
    + Ideal.ofBits .f32 0x358637BD#32) * G l

/-- The kernel's rotary turn: a lane, the one 8 further and the one 8 before, each times its table. -/
def rowTurn (N c0 c1 c2 : Fin 128 → EReal) (l : Fin 128) : EReal :=
  N l * c0 l + N (Cert.InProjIdeal.Gen.up l) * c1 l + N (Cert.InProjIdeal.Gen.dn l) * c2 l

/-- Finite lanes, the table of the heads and the tables of the positions: the reference's turned and normalised keys. -/
theorem rowTurn_eq {Y : Fin 128 → EReal} (hY : ∀ l, IsReal (Y l)) (g : Fin 64 → EReal) (s : Nat) (l : Fin 128) :
    rowTurn (rowNorm Y blkOne fun l => g ⟨l.val % 64, by omega⟩) (fun l => ck s l.val) (fun l => sak s l.val) (fun l => sbk s l.val) l
      = turned s (headNorm Y g) l := by
  rw [← turned_of_tables]
  unfold rowTurn rowNorm
  simp only [headNorm_split hY]

end Cert.Proof.In

namespace Cert.InKeyIdeal.Gen

open Cert.InKeyIdeal Cert.Proof.In

set_option maxRecDepth 16384
set_option maxHeartbeats 2000000

theorem zero2 : (![0, 0] : Fin 2 → Nat) = fun _ => 0 := funext fun a => by fin_cases a <;> rfl
theorem zero3 : (![0, 0, 0] : Fin 3 → Nat) = fun _ => 0 := funext fun a => by fin_cases a <;> rfl

theorem feat_apply (x0 : Vec Ideal S1x512x1024 .f32) (x3 : Vec Ideal S1x1024 .f32) (x2 x1 : Vec Ideal S1x1x1024 .f32) (r : Fin 512) (k : Fin 1024) :
    k0_pay2 (F := Ideal) x0 x3 x2 x1 (ix2 r k)
      = feat (fun j => x0 (ix3 0 r j)) (fun j => x3 (ix2 0 j)) (fun j => x2 (ix3 0 0 j)) (fun j => x1 (ix3 0 0 j)) k := by
  pointwise [k0_pay2, feat]

theorem h_apply (x0 : Vec Ideal S1x512x1024 .f32) (x1 x2 : Vec Ideal S1x1x1024 .f32) (x3 : Vec Ideal S1x1024 .f32) (x4 : Vec Ideal S1024x2432 .bf16)
    (x5 : Vec Ideal S2x128 .f32) (x6 : Vec Ideal S6x512x128 .f32) (x7 : Vec Ideal S128x128 .bf16) (r : Fin 512) (k : Fin 1024) :
    k0_pay43 (F := Ideal) x0 x1 x2 x3 x4 x5 x6 x7 (ix2 r k)
      = feat (fun j => x0 (ix3 0 r j)) (fun j => x3 (ix2 0 j)) (fun j => x2 (ix3 0 0 j)) (fun j => x1 (ix3 0 0 j)) k := by
  unfold k0_pay43
  rw [View.ld_unit_zero (S := S1x512x1024) zero3, View.ld_unit_zero (S := S1x1024) zero2, View.ld_unit_zero (S := S1x1x1024) zero3,
    View.ld_unit_zero (S := S1x1x1024) zero3]
  exact feat_apply x0 x3 x2 x1 r k

theorem prod_apply (h : Vec Ideal S512x1024 .bf16) (w : Vec Ideal S1024x256 .bf16) (r : Fin 512) (l : Fin 256) :
    k0_pay23 (F := Ideal) h w (ix2 r l) = ∑ k : Fin 1024, (h (ix2 r k) * w (ix2 k l) : EReal) := by
  pointwise [k0_pay23]

theorem row_apply (h : Vec Ideal S512x1024 .bf16) (t0 t1 t2 : Vec Ideal S512x128 .f32) (bd : Vec Ideal S128x128 .bf16) (g : Vec Ideal S1x128 .f32)
    (w : Vec Ideal S1024x256 .bf16) (r : Fin 512) (l : Fin 128) :
    k0_pay24 (F := Ideal) h t0 t1 t2 bd g w (ix2 r l)
      = rowTurn (rowNorm (fun q => k0_pay23 (F := Ideal) h w (ix2 r ⟨q.val, by have := q.isLt; omega⟩)) (fun k l => bd (ix2 k l)) fun l => g (ix2 0 l))
          (fun l => t0 (ix2 r l)) (fun l => t1 (ix2 r l)) (fun l => t2 (ix2 r l)) l := by
  pointwise [k0_pay24, rowTurn, rowNorm]

/-- The call's key block: the columns from 512, normalised by head and turned by the rotary tables 0, 1 and 2. -/
theorem k_apply (x0 : Vec Ideal S1x512x1024 .f32) (x1 x2 : Vec Ideal S1x1x1024 .f32) (x3 : Vec Ideal S1x1024 .f32) (x4 : Vec Ideal S1024x2432 .bf16)
    (x5 : Vec Ideal S2x128 .f32) (x6 : Vec Ideal S6x512x128 .f32) (x7 : Vec Ideal S128x128 .bf16) (r : Fin 512) (l : Fin 128) :
    out0_10 (F := Ideal) x0 x1 x2 x3 x4 x5 x6 x7 (ix3 0 r l)
      = rowTurn (rowNorm (fun q => ∑ k, feat (fun j => x0 (ix3 0 r j)) (fun j => x3 (ix2 0 j)) (fun j => x2 (ix3 0 0 j)) (fun j => x1 (ix3 0 0 j)) k
              * x4 (ix2 k ⟨512 + q.val, by have := q.isLt; omega⟩)) (fun k l => x7 (ix2 k l)) fun l => x5 (ix2 1 l))
          (fun l => x6 (ix3 0 r l)) (fun l => x6 (ix3 1 r l)) (fun l => x6 (ix3 2 r l)) l := by
  unfold out0_10
  rw [View.canon_unit_zero (S := S1x512x128) zero3, View.ld_unit_zero (S := S128x128) zero2]
  have e : ∀ y : Vec Ideal S512x128 .f32, shapeCast S1x512x128 y shapeCasts_S512x128_S1x512x128 (ix3 0 r l) = y (ix2 r l) := fun y => by pointwise []
  unfold k0_pay25
  refine (e _).trans ?_
  rw [row_apply]
  congr 1
  · congr 1
    · funext q
      rw [prod_apply]
      refine Finset.sum_congr rfl fun k _ => ?_
      rw [h_apply]
      congr 1
      pointwise []
    · funext l
      pointwise [k0_pay51, k0_pay10]
  · funext l
    pointwise [k0_pay44, k0_pay3]
  · funext l
    pointwise [k0_pay45, k0_pay4]
  · funext l
    pointwise [k0_pay46, k0_pay5]

end Cert.InKeyIdeal.Gen
end
-- ==== Proof.KeyRef.lean ====
/- The reference of the keys at the ideal instance, read entry by entry: the projection, its normalisation by head, and the turn. -/
module

public import proofs.«01_k».proof.Proof.KeyMath
public import proofs.«01_k».proof.Proof.InValue
public import proofs.«01_k».proof.Proof.Gen.InKeyRefIdeal.Run
public import Idealize.ShloMosaic.Lib.Pointwise
public import Idealize.ShloMosaic.Lib.Tactic
public import Idealize.ShloMosaic.Lib.KernelVsHost

@[expose] public section

open Idealize.ShloMosaic

noncomputable section

namespace Cert.InKeyRefIdeal.Value

open Cert.InKeyRefIdeal Cert.InKeyRefIdeal.Gen Cert.Proof.In

set_option maxRecDepth 16384
set_option maxHeartbeats 8000000

/-- The projected key columns. -/
def projK (a0 : Vec Ideal S4x4096x1024 .f32) (a1 : Vec Ideal S4x1x6144 .f32) (a2 : Vec Ideal S1024 .f32) (a3 : Vec Ideal S1024x2376 .f32) :
    Vec Ideal S4x4096x128 .f32 :=
  extractStridedSlice S4x4096x128 ![0, 0, 512] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x128_0_0_512

/-- The keys normalised by head. -/
def normK (K : Vec Ideal S4x4096x128 .f32) (a5 : Vec Ideal S64 .f32) : Vec Ideal S4x4096x2x64 .f32 :=
  mulf (mulf (shapeCast S4x4096x2x64 K shapeCasts_S4x4096x128_S4x4096x2x64) (broadcastInDim S4x4096x2x64 ![0, 1, 2, 3] bcast_S4x4096x2x1_S4x4096x2x64_0_1_2_3 (Host.rsqrt (addf (Host.divf (broadcastInDim S4x4096x2x1 ![0, 1, 2] bcast_S4x4096x2_S4x4096x2x1_0_1_2 (Host.reduceAdd (mulf (shapeCast S4x4096x2x64 K shapeCasts_S4x4096x128_S4x4096x2x64) (shapeCast S4x4096x2x64 K shapeCasts_S4x4096x128_S4x4096x2x64)) (constant (F := Ideal) S_ .f32 0x00000000#32) reducesTo_S4x4096x2x64_S4x4096x2_d3 h_S_)) (broadcastInDim S4x4096x2x1 ![] bcast_S_S4x4096x2x1 (constant (F := Ideal) S_ .f32 0x42800000#32))) (broadcastInDim S4x4096x2x1 ![] bcast_S_S4x4096x2x1 (constant (F := Ideal) S_ .f32 0x358637BD#32)))))) (broadcastInDim S4x4096x2x64 ![0, 1, 2, 3] bcast_S1x1x1x64_S4x4096x2x64_0_1_2_3 (broadcastInDim S1x1x1x64 ![3] bcast_S64_S1x1x1x64_3 a5))

/-- The keys turned. -/
def turnK (N : Vec Ideal S4x4096x2x64 .f32) : Vec Ideal S4x4096x128 .f32 :=
  shapeCast S4x4096x128 ((concatenate S4x4096x2x64 3 [⟨S4x4096x2x8, ((subf (mulf (extractStridedSlice S4x4096x2x8 ![0, 0, 0, 0] N slices_S4x4096x2x64_S4x4096x2x8_0_0_0_0) (broadcastInDim S4x4096x2x8 ![0, 1, 2, 3] bcast_S1x4096x1x8_S4x4096x2x8_0_1_2_3 (broadcastInDim S1x4096x1x8 ![1, 2, 3] bcast_S4096x1x8_S1x4096x1x8_1_2_3 (broadcastInDim S4096x1x8 ![0, 2] bcast_S4096x8_S4096x1x8_0_2 (Host.cos (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S4x4096x2x8 ![0, 0, 0, 8] N slices_S4x4096x2x64_S4x4096x2x8_0_0_0_8) (broadcastInDim S4x4096x2x8 ![0, 1, 2, 3] bcast_S1x4096x1x8_S4x4096x2x8_0_1_2_3 (broadcastInDim S1x4096x1x8 ![1, 2, 3] bcast_S4096x1x8_S1x4096x1x8_1_2_3 (broadcastInDim S4096x1x8 ![0, 2] bcast_S4096x8_S4096x1x8_0_2 (Host.sin (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S4x4096x2x8 .f32)⟩, ⟨S4x4096x2x8, ((addf (mulf (extractStridedSlice S4x4096x2x8 ![0, 0, 0, 8] N slices_S4x4096x2x64_S4x4096x2x8_0_0_0_8) (broadcastInDim S4x4096x2x8 ![0, 1, 2, 3] bcast_S1x4096x1x8_S4x4096x2x8_0_1_2_3 (broadcastInDim S1x4096x1x8 ![1, 2, 3] bcast_S4096x1x8_S1x4096x1x8_1_2_3 (broadcastInDim S4096x1x8 ![0, 2] bcast_S4096x8_S4096x1x8_0_2 (Host.cos (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S4x4096x2x8 ![0, 0, 0, 0] N slices_S4x4096x2x64_S4x4096x2x8_0_0_0_0) (broadcastInDim S4x4096x2x8 ![0, 1, 2, 3] bcast_S1x4096x1x8_S4x4096x2x8_0_1_2_3 (broadcastInDim S1x4096x1x8 ![1, 2, 3] bcast_S4096x1x8_S1x4096x1x8_1_2_3 (broadcastInDim S4096x1x8 ![0, 2] bcast_S4096x8_S4096x1x8_0_2 (Host.sin (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S4x4096x2x8 .f32)⟩, ⟨S4x4096x2x48, ((extractStridedSlice S4x4096x2x48 ![0, 0, 0, 16] N slices_S4x4096x2x64_S4x4096x2x48_0_0_0_16) : Vec Ideal S4x4096x2x48 .f32)⟩] concatenates_S4x4096x2x8_S4x4096x2x8_S4x4096x2x48_S4x4096x2x64_d3 : Vec Ideal S4x4096x2x64 .f32)) shapeCasts_S4x4096x2x64_S4x4096x128

theorem projK_apply (a0 : Vec Ideal S4x4096x1024 .f32) (a1 : Vec Ideal S4x1x6144 .f32) (a2 : Vec Ideal S1024 .f32) (a3 : Vec Ideal S1024x2376 .f32)
    (b : Fin 4) (s : Fin 4096) (l : Fin 128) :
    projK a0 a1 a2 a3 (ix3 b s l)
      = proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨512 + l.val, by have := l.isLt; omega⟩)) := by
  unfold projK
  pointwise [proj, feat]

theorem split_apply (K : Vec Ideal S4x4096x128 .f32) (b : Fin 4) (s : Fin 4096) (h : Fin 2) (e : Fin 64) :
    shapeCast S4x4096x2x64 K shapeCasts_S4x4096x128_S4x4096x2x64 (ix4 b s h e) = K (ix3 b s ⟨h.val * 64 + e.val, by have := h.isLt; have := e.isLt; omega⟩) := by
  pointwise []

theorem normK_apply (K : Vec Ideal S4x4096x128 .f32) (a5 : Vec Ideal S64 .f32) (b : Fin 4) (s : Fin 4096) (l : Fin 128) :
    normK K a5 (ix4 b s ⟨l.val / 64, by have := l.isLt; omega⟩ ⟨l.val % 64, by omega⟩) = headNorm (fun l => K (ix3 b s l)) (fun e => a5 (ix1 e)) l := by
  unfold normK
  pointwise [headNorm]

theorem turnK_apply (N : Vec Ideal S4x4096x2x64 .f32) (b : Fin 4) (s : Fin 4096) (l : Fin 128) :
    turnK N (ix3 b s l) = turned s.val (fun l => N (ix4 b s ⟨l.val / 64, by have := l.isLt; omega⟩ ⟨l.val % 64, by omega⟩)) l := by
  unfold turnK
  pointwise [turned, ang]
  have hl := l.isLt
  by_cases h2 : l.val % 64 < 8
  · have e1 : (l.val + 8) / 64 = l.val / 64 := by omega
    have e2 : (l.val + 8) % 64 = 8 + l.val % 64 := by omega
    simp only [h2, ↓reduceDIte, e1, e2]
  · by_cases h3 : l.val % 64 - 8 < 8
    · have e0 : 8 + (l.val % 64 - 8) = l.val % 64 := by omega
      have e1 : (l.val - 8) / 64 = l.val / 64 := by omega
      have e2 : (l.val - 8) % 64 = l.val % 64 - 8 := by omega
      simp only [h2, h3, ↓reduceDIte, e0, e1, e2]
    · have e0 : 16 + (l.val % 64 - 8 - 8) = l.val % 64 := by omega
      simp only [h2, h3, ↓reduceDIte, e0]

end Cert.InKeyRefIdeal.Value
end
-- ==== Proof.KeyValue.lean ====
/- The input projection at the ideal instance: for finite inputs its key array, entry by entry, is the reference's. -/
module

public import proofs.«01_k».proof.Defs
public import proofs.«01_k».proof.Proof.KeyBlocks
public import proofs.«01_k».proof.Proof.KeyStep
public import proofs.«01_k».proof.Proof.KeyRef
public import Idealize.ShloMosaic.Lib.Claim

@[expose] public section

open Idealize.ShloMosaic Idealize.ShloMosaic.TcCoe Idealize.SL.Sem

noncomputable section

namespace Cert.Proof.In

/-- The shape relations that the precondition's operations state. -/
theorem preFacts : Cert.Pre_finite_inputs.Facts where
  bcast_S_S4x4096x1024 := by decide
  bcast_S_S4x1x6144 := by decide
  bcast_S_S1024 := by decide
  bcast_S_S1024x2376 := by decide

/-- A projected column of finite features and weights is finite. -/
theorem proj_real {x g sc sh w : Fin 1024 → EReal} (hx : ∀ k, IsReal (x k)) (hg : ∀ k, IsReal (g k)) (hc : ∀ k, IsReal (sc k)) (hs : ∀ k, IsReal (sh k))
    (hw : ∀ k, IsReal (w k)) : IsReal (proj x g sc sh w) :=
  IsReal.sum fun k => (feat_real hx hg hc hs k).mul (hw k)

end Cert.Proof.In

namespace Cert.InKeyIdeal.Gen

open Cert.InKeyIdeal Cert.Proof.In

set_option maxRecDepth 16384
set_option maxHeartbeats 8000000

variable (m : (ℓ : Loc nD τ sig) → Buf (Elt Ideal) ℓ)

theorem flush10 : ∀ t : Fin cfg0.N, (cfg0.win 10).flush t = true := (by decide +kernel : ∀ t : Fin grid0.N, _)

/-- Output window 10's array at the place of a grid point's block entry is what the point leaves there. -/
theorem arr10 (c : Dev nD) (t : Fin cfg0.N) (r : Fin 512) (l : Fin 128) :
    ((dats m 0 c).arrAt 10 cfg0.N : S4x4096x128.Idx → EReal) (ix3 (ptB t) (ptS t r) l)
      = out0_10 (iblk m c 0 t) (iblk m c 1 t) (iblk m c 2 t) (iblk m c 3 t) (iblk m c 4 t) (iblk m c 5 t) (iblk m c 6 t) (iblk m c 7 t) (ix3 0 r l) := by
  have e := congrFun (Value.blocks10 m c t (flush10 t)) (ix3 0 r l : S1x512x128.Idx)
  rw [View.read_apply, Value.flushed10] at e
  have hj : ((cfg0.win 10).blk t).view.emb (ix3 0 r l : S1x512x128.Idx) = (ix3 (ptB t) (ptS t r) l : S4x4096x128.Idx) := by
    obtain ⟨e0, e1, e2⟩ := idx10 t
    funext a
    apply Fin.ext
    match a with
    | ⟨0, _⟩ => show win0_10.index t 0 * 1 + 1 * (0 : Fin 1).val = _; rw [e0]; first | rfl | (simp only [ptB, ptS, ix3]; omega) | (simp [ptB, ptS, ix3])
    | ⟨1, _⟩ => show win0_10.index t 1 * 512 + 1 * r.val = _; rw [e1]; first | rfl | (simp only [ptB, ptS, ix3]; omega) | (simp [ptB, ptS, ix3])
    | ⟨2, _⟩ => show win0_10.index t 2 * 128 + 1 * l.val = _; rw [e2]; first | rfl | (simp only [ptB, ptS, ix3]; omega) | (simp [ptB, ptS, ix3])
  rw [hj] at e
  exact e

/-- One projected column of one token, from the call's argument arrays. -/
abbrev col (c : Dev nD) (b : Fin 4) (s : Fin 4096) (j : Fin 2376) : EReal :=
  proj (fun j => hX m c (ix3 b s j)) (fun j => hN m c (ix1 j)) (fun j => hM m c (ix3 b 0 ⟨1024 + j.val, by have := j.isLt; omega⟩))
    (fun j => hM m c (ix3 b 0 ⟨j.val, by have := j.isLt; omega⟩)) (fun k => hW m c (ix2 k j))

/-- A column of the padded weights before the padding, applied to a token's features. -/
theorem colLow (c : Dev nD) (t : Fin cfg0.N) (r : Fin 512) (j : Fin 2432) (hj : j.val < 1352) :
    (∑ k, feat (fun j => (iblk m c 0 t : Vec Ideal S1x512x1024 .f32) (ix3 0 r j)) (fun j => (iblk m c 3 t : Vec Ideal S1x1024 .f32) (ix2 0 j))
        (fun j => (iblk m c 2 t : Vec Ideal S1x1x1024 .f32) (ix3 0 0 j)) (fun j => (iblk m c 1 t : Vec Ideal S1x1x1024 .f32) (ix3 0 0 j)) k
        * (iblk m c 4 t : Vec Ideal S1024x2432 .bf16) (ix2 k j))
      = col m c (ptB t) (ptS t r) ⟨j.val, by omega⟩ := by
  unfold col proj
  refine Finset.sum_congr rfl fun k _ => ?_
  rw [blk4 m c t k j hj]
  simp only [blk0, blk1, blk2, blk3]

/-- The grid point and the row that hold a token. -/
theorem point_of (b : Fin 4) (s : Fin 4096) : ∃ (t : Fin cfg0.N) (r : Fin 512), ptB t = b ∧ ptS t r = s := by
  have hb := b.isLt; have hs := s.isLt
  refine ⟨⟨b.val * 8 + s.val / 512, by rw [show cfg0.N = 32 from N_0]; omega⟩, ⟨s.val % 512, by omega⟩, Fin.ext ?_, Fin.ext ?_⟩
  · show (b.val * 8 + s.val / 512) / 8 = b.val; omega
  · show (b.val * 8 + s.val / 512) % 8 * 512 + s.val % 512 = s.val; omega

/-- The call's key array, entry by entry, for finite inputs. -/
theorem k_eq (c : Dev nD) (hx : ∀ i, IsReal (hX m c i)) (hm : ∀ i, IsReal (hM m c i)) (hn : ∀ i, IsReal (hN m c i)) (hw : ∀ i, IsReal (hW m c i))
    (b : Fin 4) (s : Fin 4096) (l : Fin 128) :
    ((dats m 0 c).arrAt 10 cfg0.N : S4x4096x128.Idx → EReal) (ix3 b s l)
      = turned s.val (headNorm (fun q => col m c b s ⟨512 + q.val, by have := q.isLt; omega⟩) fun e => hG m c (ix1 e)) l := by
  obtain ⟨t, r, rfl, rfl⟩ := point_of b s
  rw [arr10, k_apply]
  have hY : (fun q : Fin 128 => ∑ k, feat (fun j => (iblk m c 0 t : Vec Ideal S1x512x1024 .f32) (ix3 0 r j)) (fun j => (iblk m c 3 t : Vec Ideal S1x1024 .f32) (ix2 0 j))
        (fun j => (iblk m c 2 t : Vec Ideal S1x1x1024 .f32) (ix3 0 0 j)) (fun j => (iblk m c 1 t : Vec Ideal S1x1x1024 .f32) (ix3 0 0 j)) k
        * (iblk m c 4 t : Vec Ideal S1024x2432 .bf16) (ix2 k ⟨512 + q.val, by have := q.isLt; omega⟩))
      = fun q => col m c (ptB t) (ptS t r) ⟨512 + q.val, by have := q.isLt; omega⟩ :=
    funext fun q => colLow m c t r ⟨512 + q.val, by have := q.isLt; omega⟩ (by have := q.isLt; show 512 + q.val < 1352; omega)
  have hB : (fun k l : Fin 128 => ((iblk m c 7 t : Vec Ideal S128x128 .bf16) (ix2 k l) : EReal)) = blkOne := funext fun k => funext fun l => blk7 m c t k l
  have hg : (fun l : Fin 128 => ((iblk m c 5 t : Vec Ideal S2x128 .f32) (ix2 1 l) : EReal)) = fun l => hG m c (ix1 ⟨l.val % 64, by omega⟩) :=
    funext fun l => blk5 m c t l
  have h0 : (fun l : Fin 128 => ((iblk m c 6 t : Vec Ideal S6x512x128 .f32) (ix3 0 r l) : EReal)) = fun l => ck (ptS t r).val l.val := funext fun l => tab0 m c t r l
  have h1 : (fun l : Fin 128 => ((iblk m c 6 t : Vec Ideal S6x512x128 .f32) (ix3 1 r l) : EReal)) = fun l => sak (ptS t r).val l.val := funext fun l => tab1 m c t r l
  have h2 : (fun l : Fin 128 => ((iblk m c 6 t : Vec Ideal S6x512x128 .f32) (ix3 2 r l) : EReal)) = fun l => sbk (ptS t r).val l.val := funext fun l => tab2 m c t r l
  rw [hY, hB, hg, h0, h1, h2]
  exact rowTurn_eq (fun q => proj_real (fun k => hx _) (fun k => hn _) (fun k => hm _) (fun k => hm _) fun k => hw _) (fun e => hG m c (ix1 e)) _ l

end Cert.InKeyIdeal.Gen

namespace Cert.InKeyRefIdeal.Value

open Cert.InKeyRefIdeal Cert.InKeyRefIdeal.Gen Cert.Proof.In

/-- The reference's keys, entry by entry. -/
theorem ref_k (a0 : Vec Ideal S4x4096x1024 .f32) (a1 : Vec Ideal S4x1x6144 .f32) (a2 : Vec Ideal S1024 .f32) (a3 : Vec Ideal S1024x2376 .f32)
    (a5 : Vec Ideal S64 .f32) (b : Fin 4) (s : Fin 4096) (l : Fin 128) :
    turnK (normK (projK a0 a1 a2 a3) a5) (ix3 b s l)
      = turned s.val (headNorm (fun q => proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨512 + q.val, by have := q.isLt; omega⟩))) fun e => a5 (ix1 e)) l := by
  rw [turnK_apply]
  congr 1
  funext q
  rw [normK_apply]
  congr 1
  funext q
  exact projK_apply a0 a1 a2 a3 b s q

end Cert.InKeyRefIdeal.Value

namespace Cert.Proof.InKey

open Cert.Proof.In

set_option maxRecDepth 16384
set_option maxHeartbeats 8000000

/-- The value claim of the keys: over the extended reals, for finite inputs, the key array is the reference's. -/
theorem algebraic : Cert.algebraic_InKeyIdeal_InKeyRefIdeal_pre_finite_inputs (hInKeyIdeal := Cert.InKeyIdeal.Gen.facts)
    (hInKeyRefIdeal := Cert.InKeyRefIdeal.Gen.facts) (hPre_finite_inputs := preFacts) := by
  intro m g m' g' hpre hagree
  refine ⟨fun c => (Cert.InKeyIdeal.Gen.dats m 0 c).arrAt 10 Cert.InKeyIdeal.cfg0.N,
    θ_run_mono (Cert.InKeyIdeal.Value.run_blocks m g) fun r h c => ?_,
    θ_run_mono (Cert.InKeyRefIdeal.Value.run m' g') fun r h c => ⟨(h c).1.trans ?_, (h c).2⟩⟩
  · obtain ⟨-, -, h2, -, -, -, -, -, -, ha⟩ := h c
    exact ⟨h2, ha⟩
  obtain ⟨e0, e1, e2, e3, e4, e5⟩ := hagree c
  obtain ⟨p0, p1, p2, p3⟩ := hpre c
  unfold Cert.InKeyRefIdeal.Value.res_main_v76
  rw [e0, e1, e2, e3, e5]
  funext i
  obtain ⟨b, s, l, rfl⟩ : ∃ (b : Fin 4) (s : Fin 4096) (l : Fin 128), i = (ix3 b s l : Cert.InKeyIdeal.S4x4096x128.Idx) :=
    ⟨i 0, i 1, i 2, funext fun a => by fin_cases a <;> rfl⟩
  exact (Cert.InKeyRefIdeal.Value.ref_k _ _ _ _ _ b s l).trans (Cert.InKeyIdeal.Gen.k_eq m c (fun i => isReal_of_abs_lt (congrFun p0 i))
    (fun i => isReal_of_abs_lt (congrFun p1 i)) (fun i => isReal_of_abs_lt (congrFun p2 i)) (fun i => isReal_of_abs_lt (congrFun p3 i)) b s l).symm

end Cert.Proof.InKey

end
-- ==== Proof.KeySampleHost.lean ====
/- The arrays that the host code hands to the sample batch's input projection whose key array is claimed, read entry by entry. -/
module

public import proofs.«01_k».proof.Proof.Gen.InKeySampleIdeal.Value
public import proofs.«01_k».proof.Proof.KeyMath
public import proofs.«01_k».proof.Proof.InSampleHost
public import Idealize.ShloMosaic.Lib.StableHlo.ReadAt
public import Idealize.ShloMosaic.Lib.Claim

@[expose] public section

open Idealize.ShloMosaic Idealize.ShloMosaic.TcCoe Idealize.SL.Sem

noncomputable section

namespace Cert.InKeySampleIdeal.Gen

open Cert.InKeySampleIdeal Cert.Proof.In

set_option maxRecDepth 16384
set_option maxHeartbeats 2000000

variable (m : (ℓ : Loc nD τ sig) → Buf (Elt Ideal) ℓ)

/-- The call's arguments as arrays. -/
abbrev hX (c : Dev nD) : S32x64x1024.Idx → EReal := m ((c : Thread nD τ).loc main_arg0)
abbrev hM (c : Dev nD) : S32x1x6144.Idx → EReal := m ((c : Thread nD τ).loc main_arg1)
abbrev hN (c : Dev nD) : S1024.Idx → EReal := m ((c : Thread nD τ).loc main_arg2)
abbrev hW (c : Dev nD) : S1024x2376.Idx → EReal := m ((c : Thread nD τ).loc main_arg3)
abbrev hG (c : Dev nD) : S64.Idx → EReal := m ((c : Thread nD τ).loc main_arg5)

theorem v7_at (c : Dev nD) (k : Fin 1024) (j : Fin 2432) (hj : j.val < 1352) :
    (V m c main_v7 : S1024x2432.Idx → EReal) (ix2 k j) = hW m c (ix2 k ⟨j.val, by omega⟩) := by
  unfold V
  iterate 10 (try after_reads_at)
  rw [dif_pos hj]

theorem v17_at (c : Dev nD) (k : Fin 1024) : (V m c main_v17 : S1x1024.Idx → EReal) (ix2 0 k) = hN m c (ix1 k) := by
  unfold V
  iterate 10 (try after_reads_at)

theorem v16_at (c : Dev nD) (l : Fin 128) : (V m c main_v16 : S2x128.Idx → EReal) (ix2 1 l) = hG m c (ix1 ⟨l.val % 64, by omega⟩) := by
  unfold V
  iterate 10 (try after_reads_at)

theorem t0_at (c : Dev nD) (s : Fin 64) (l : Fin 128) : (V m c main_v56 : S6x64x128.Idx → EReal) (ix3 0 s l) = ck (4096 + s.val) l.val := by
  unfold V
  iterate 10 (try after_reads_at)
  simp only [pos_add]
  rfl

theorem t1_at (c : Dev nD) (s : Fin 64) (l : Fin 128) : (V m c main_v56 : S6x64x128.Idx → EReal) (ix3 1 s l) = sak (4096 + s.val) l.val := by
  unfold V
  iterate 10 (try after_reads_at)
  simp only [pos_add]
  rfl

theorem t2_at (c : Dev nD) (s : Fin 64) (l : Fin 128) : (V m c main_v56 : S6x64x128.Idx → EReal) (ix3 2 s l) = sbk (4096 + s.val) l.val := by
  unfold V
  iterate 10 (try after_reads_at)
  simp only [pos_add]
  rfl

/-- The literal's words: a one where the two lanes lie in the same head. -/
theorem words : ∀ k l : Fin 128, lit0t (k.val * 128 + l.val) = if k.val / 64 = l.val / 64 then 0x3F80#16 else 0#16 := by
  decide +kernel

theorem bd_at (c : Dev nD) (k l : Fin 128) : (V m c main_cst : S128x128.Idx → EReal) (ix2 k l) = blkOne k l := by
  unfold V
  iterate 10 (try after_reads_at)
  show Ideal.ofBits .bf16 (lit0t (S128x128.rowMajor (ix2 k l)).val) = _
  rw [show (S128x128.rowMajor (ix2 k l)).val = k.val * 128 + l.val from Shape.rowMajor_val_two (ix2 k l : S128x128.Idx), words]
  unfold blkOne
  split
  · exact Ideal.ofBits_one_bf16
  · exact Ideal.ofBits_zero_bf16

end Cert.InKeySampleIdeal.Gen
end
-- ==== Proof.KeySampleStep.lean ====
/- One tile of the input projection at the sample batch's shapes, at the ideal instance: what a grid point leaves in its key
   block, read entry by entry. -/
module

public import proofs.«01_k».proof.Proof.Gen.InKeySampleIdeal.Value
public import proofs.«01_k».proof.Proof.KeyStep

@[expose] public section

open Idealize.ShloMosaic Idealize.ShloMosaic.TcCoe

noncomputable section

namespace Cert.InKeySampleIdeal.Gen

open Cert.InKeySampleIdeal Cert.Proof.In
open Cert.InProjIdeal.Gen (zero2 zero3)

set_option maxRecDepth 16384
set_option maxHeartbeats 2000000

/-- The row of a tile's 512 that holds token `s` of its sequence `p`; the sequence and the token of a row. -/
abbrev row (p : Fin 8) (s : Fin 64) : Fin 512 := ⟨p.val * 64 + s.val, by have := p.isLt; have := s.isLt; omega⟩
abbrev rb (r : Fin 512) : Fin 8 := ⟨r.val / 64, by have := r.isLt; omega⟩
abbrev rs (r : Fin 512) : Fin 64 := ⟨r.val % 64, by omega⟩

theorem rb_row (p : Fin 8) (s : Fin 64) : rb (row p s) = p := Fin.ext (by show (p.val * 64 + s.val) / 64 = p.val; have := s.isLt; omega)
theorem rs_row (p : Fin 8) (s : Fin 64) : rs (row p s) = s := Fin.ext (by show (p.val * 64 + s.val) % 64 = s.val; have := s.isLt; omega)

theorem feat_at (x0 : Vec Ideal S8x64x1024 .f32) (x3 : Vec Ideal S1x1024 .f32) (x2 x1 : Vec Ideal S8x1x1024 .f32) (r : Fin 512) (k : Fin 1024) :
    k0_pay1 (F := Ideal) x0 x3 x2 x1 (ix2 r k)
      = feat (fun j => x0 (ix3 (rb r) (rs r) j)) (fun j => x3 (ix2 0 j)) (fun j => x2 (ix3 (rb r) 0 j)) (fun j => x1 (ix3 (rb r) 0 j)) k := by
  pointwise [k0_pay1, feat]

theorem feat_row (x0 : Vec Ideal S8x64x1024 .f32) (x3 : Vec Ideal S1x1024 .f32) (x2 x1 : Vec Ideal S8x1x1024 .f32) (p : Fin 8) (s : Fin 64) (k : Fin 1024) :
    k0_pay1 (F := Ideal) x0 x3 x2 x1 (ix2 (row p s) k)
      = feat (fun j => x0 (ix3 p s j)) (fun j => x3 (ix2 0 j)) (fun j => x2 (ix3 p 0 j)) (fun j => x1 (ix3 p 0 j)) k := by
  rw [feat_at, rb_row, rs_row]

theorem prod_row (h : Vec Ideal S512x1024 .bf16) (x4 : Vec Ideal S1024x2432 .bf16) (r : Fin 512) (q : Fin 128) :
    k0_pay28 (F := Ideal) h (View.ld x4 (Rect.unit ![0, 512] S1024x256.size inb_S1024x2432_S1024x256_0_512)) (ix2 r ⟨q.val, by have := q.isLt; omega⟩)
      = ∑ k : Fin 1024, (h (ix2 r k) * x4 (ix2 k ⟨512 + q.val, by have := q.isLt; omega⟩) : EReal) := by
  pointwise [k0_pay28]

theorem norm_row (h : Vec Ideal S512x1024 .bf16) (bd : Vec Ideal S128x128 .bf16) (g : Vec Ideal S1x128 .f32)
    (w : Vec Ideal S1024x256 .bf16) (r : Fin 512) (l : Fin 128) :
    (k0_pay29 (F := Ideal) h bd w (ix2 r l) * k0_pay30 (F := Ideal) g (ix2 r l) : EReal)
      = rowNorm (fun q => k0_pay28 (F := Ideal) h w (ix2 r ⟨q.val, by have := q.isLt; omega⟩)) (fun k l => bd (ix2 k l)) (fun l => g (ix2 0 l)) l := by
  pointwise [k0_pay29, k0_pay30, rowNorm]

theorem turn_row (t0 t1 t2 y g : Vec Ideal S512x128 .f32) (p : Fin 8) (s : Fin 64) (l : Fin 128) :
    k0_pay32 (F := Ideal) t0 t1 t2 y g (ix3 p s l)
      = rowTurn (fun l => y (ix2 (row p s) l) * g (ix2 (row p s) l))
          (fun l => t0 (ix2 (row p s) l)) (fun l => t1 (ix2 (row p s) l)) (fun l => t2 (ix2 (row p s) l)) l := by
  pointwise [k0_pay32, k0_pay31, rowTurn]

theorem tab2_row (x6 : Vec Ideal S6x64x128 .f32) (r : Fin 512) (l : Fin 128) :
    k0_pay2 (F := Ideal) (View.ld x6 (Rect.unit ![0, 0, 0] S1x64x128.size inb_S6x64x128_S1x64x128_0_0_0)) (ix2 r l) = x6 (ix3 0 (rs r) l) := by
  pointwise [k0_pay2]
theorem tab4_row (x6 : Vec Ideal S6x64x128 .f32) (r : Fin 512) (l : Fin 128) :
    k0_pay4 (F := Ideal) (k0_pay3 (View.ld x6 (Rect.unit ![1, 0, 0] S1x64x128.size inb_S6x64x128_S1x64x128_1_0_0))) (ix2 r l) = x6 (ix3 1 (rs r) l) := by
  pointwise [k0_pay4, k0_pay3]
theorem tab5_row (x6 : Vec Ideal S6x64x128 .f32) (r : Fin 512) (l : Fin 128) :
    k0_pay5 (F := Ideal) (View.ld x6 (Rect.unit ![2, 0, 0] S1x64x128.size inb_S6x64x128_S1x64x128_2_0_0)) (ix2 r l) = x6 (ix3 2 (rs r) l) := by
  pointwise [k0_pay5]
theorem gain_row (x5 : Vec Ideal S2x128 .f32) (l : Fin 128) :
    k0_pay10 (F := Ideal) (View.ld x5 (Rect.unit ![1, 0] S1x128.size inb_S2x128_S1x128_1_0)) (ix2 0 l) = x5 (ix2 1 l) := by
  pointwise [k0_pay10]

/-- The call's key block: the columns from 512, normalised by head and turned by the rotary tables 0, 1 and 2. -/
theorem k_apply (c : Dev nD) (i : grid0.Coords) (arg2 : Memref sig .tc .vmem S8x64x1024 .f32) (harg2 : arg2.IsWhole) (arg3 : Memref sig .tc .vmem S8x1x1024 .f32) (harg3 : arg3.IsWhole) (arg4 : Memref sig .tc .vmem S8x1x1024 .f32) (harg4 : arg4.IsWhole) (arg5 : Memref sig .tc .vmem S1x1024 .f32) (harg5 : arg5.IsWhole) (arg6 : Memref sig .tc .vmem S1024x2432 .bf16) (harg6 : arg6.IsWhole) (arg7 : Memref sig .tc .vmem S2x128 .f32) (harg7 : arg7.IsWhole) (arg8 : Memref sig .tc .vmem S6x64x128 .f32) (harg8 : arg8.IsWhole) (arg9 : Memref sig .tc .vmem S128x128 .bf16) (harg9 : arg9.IsWhole) (arg10 : Memref sig .tc .vmem S8x64x512 .bf16) (harg10 : arg10.IsWhole) (arg11 : Memref sig .tc .vmem S8x64x512 .bf16) (harg11 : arg11.IsWhole) (arg12 : Memref sig .tc .vmem S8x64x128 .f32) (harg12 : arg12.IsWhole) (arg13 : Memref sig .tc .vmem S8x64x128 .f32) (harg13 : arg13.IsWhole) (arg14 : Memref sig .tc .vmem S8x256x128 .bf16) (harg14 : arg14.IsWhole) (arg15 : Memref sig .tc .vmem S8x256x128 .bf16) (harg15 : arg15.IsWhole) (arg16 : Memref sig .tc .vmem S8x64x128 .f32) (harg16 : arg16.IsWhole) (arg17 : Memref sig .tc .vmem S8x256x128 .bf16) (harg17 : arg17.IsWhole) (arg18 : Memref sig .tc .vmem S8x64x512 .f32) (harg18 : arg18.IsWhole)
    (x0 : Vec Ideal S8x64x1024 .f32) (x1 x2 : Vec Ideal S8x1x1024 .f32) (x3 : Vec Ideal S1x1024 .f32) (x4 : Vec Ideal S1024x2432 .bf16)
    (x5 : Vec Ideal S2x128 .f32) (x6 : Vec Ideal S6x64x128 .f32) (x7 : Vec Ideal S128x128 .bf16) (p : Fin 8) (s : Fin 64) (l : Fin 128) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (ix3 p s l)
      = rowTurn (rowNorm (fun q => ∑ k, feat (fun j => x0 (ix3 p s j)) (fun j => x3 (ix2 0 j)) (fun j => x2 (ix3 p 0 j)) (fun j => x1 (ix3 p 0 j)) k
              * x4 (ix2 k ⟨512 + q.val, by have := q.isLt; omega⟩)) (fun k l => x7 (ix2 k l)) fun l => x5 (ix2 1 l))
          (fun l => x6 (ix3 0 s l)) (fun l => x6 (ix3 1 s l)) (fun l => x6 (ix3 2 s l)) l := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7)]
  unfold kernelRun0_A
  dsimp only
  sl_unfold_words
  rw [View.canon_unit_zero (S := S8x64x128) zero3]
  simp only [View.readAt_eq_ld, harg2.read_unread, harg3.read_unread, harg4.read_unread, harg5.read_unread, harg6.read_unread, harg7.read_unread,
    harg8.read_unread, harg9.read_unread]
  simp only [View.ld_unit_zero (S := S8x64x1024) zero3, View.ld_unit_zero (S := S1x1024) zero2, View.ld_unit_zero (S := S8x1x1024) zero3,
    View.ld_unit_zero (S := S128x128) zero2]
  rw [turn_row]
  simp only [norm_row, tab2_row, tab4_row, tab5_row, gain_row, prod_row, feat_row, rs_row]

end Cert.InKeySampleIdeal.Gen
end
-- ==== Proof.KeySampleBlocks.lean ====
/- The windows of the sample batch's input projection whose key array is claimed, at a grid point, read as entries of the call's argument arrays. -/
module

public import proofs.«01_k».proof.Proof.KeySampleHost
public import Idealize.ShloMosaic.Lib.Claim

@[expose] public section

open Idealize.ShloMosaic Idealize.ShloMosaic.TcCoe Idealize.SL.Sem

noncomputable section

namespace Cert.InKeySampleIdeal.Gen

open Cert.InKeySampleIdeal Cert.Proof.In

set_option maxRecDepth 16384
set_option maxHeartbeats 2000000

variable (m : (ℓ : Loc nD τ sig) → Buf (Elt Ideal) ℓ)

theorem pt_lt (t : Fin cfg0.N) : t.val < 4 := lt_of_lt_of_eq t.isLt N_0

theorem idx0 : ∀ t : Fin cfg0.N, win0_0.index t 0 = t.val ∧ win0_0.index t 1 = 0 ∧ win0_0.index t 2 = 0 :=
  (by decide +kernel : ∀ t : Fin grid0.N, _)
theorem idx1 : ∀ t : Fin cfg0.N, win0_1.index t 0 = t.val ∧ win0_1.index t 1 = 0 ∧ win0_1.index t 2 = 0 :=
  (by decide +kernel : ∀ t : Fin grid0.N, _)
theorem idx2 : ∀ t : Fin cfg0.N, win0_2.index t 0 = t.val ∧ win0_2.index t 1 = 0 ∧ win0_2.index t 2 = 1 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx10 : ∀ t : Fin cfg0.N, win0_10.index t 0 = t.val ∧ win0_10.index t 1 = 0 ∧ win0_10.index t 2 = 0 :=
  (by decide +kernel : ∀ t : Fin grid0.N, _)
theorem idx6 : ∀ t : Fin cfg0.N, win0_6.index t 0 = 0 ∧ win0_6.index t 1 = 0 ∧ win0_6.index t 2 = 0 :=
  (by decide +kernel : ∀ t : Fin grid0.N, _)

/-- The batch of sequence `p` of a grid point's tile. -/
def ptB (t : Fin cfg0.N) (p : Fin 8) : Fin 32 := ⟨t.val * 8 + p.val, by have := pt_lt t; have := p.isLt; omega⟩

theorem blk0 (c : Dev nD) (t : Fin cfg0.N) (p : Fin 8) (r : Fin 64) (k : Fin 1024) :
    (iblk m c 0 t : Vec Ideal S8x64x1024 .f32) (ix3 p r k) = hX m c (ix3 (ptB t p) r k) := by
  unfold iblk
  rw [View.read_apply]
  show V m c main_arg0 _ = _
  entry_read
  show m (c, Proc.tc.devRef main_arg0) _ = m (c, Proc.tc.devRef main_arg0) _
  congr 1
  obtain ⟨e0, e1, e2⟩ := idx0 t
  funext a
  apply Fin.ext
  match a with
  | ⟨0, _⟩ => show win0_0.index t 0 * 8 + 1 * p.val = _; rw [e0]; first | rfl | (simp only [ptB, ix3]; omega) | (simp [ptB, ix3])
  | ⟨1, _⟩ => show win0_0.index t 1 * 64 + 1 * r.val = _; rw [e1]; first | rfl | (simp only [ptB, ix3]; omega) | (simp [ptB, ix3])
  | ⟨2, _⟩ => show win0_0.index t 2 * 1024 + 1 * k.val = _; rw [e2]; first | rfl | (simp only [ptB, ix3]; omega) | (simp [ptB, ix3])

theorem blk1 (c : Dev nD) (t : Fin cfg0.N) (p : Fin 8) (k : Fin 1024) :
    (iblk m c 1 t : Vec Ideal S8x1x1024 .f32) (ix3 p 0 k) = hM m c (ix3 (ptB t p) 0 ⟨k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx1 t
  funext a
  apply Fin.ext
  match a with
  | ⟨0, _⟩ => show win0_1.index t 0 * 8 + 1 * p.val = _; rw [e0]; first | rfl | (simp only [ptB, ix3]; omega) | (simp [ptB, ix3])
  | ⟨1, _⟩ => show win0_1.index t 1 * 1 + 1 * (0 : Fin 1).val = _; rw [e1]; first | rfl | (simp only [ptB, ix3]; omega) | (simp [ptB, ix3])
  | ⟨2, _⟩ => show win0_1.index t 2 * 1024 + 1 * k.val = _; rw [e2]; first | rfl | (simp only [ptB, ix3]; omega) | (simp [ptB, ix3])

theorem blk2 (c : Dev nD) (t : Fin cfg0.N) (p : Fin 8) (k : Fin 1024) :
    (iblk m c 2 t : Vec Ideal S8x1x1024 .f32) (ix3 p 0 k) = hM m c (ix3 (ptB t p) 0 ⟨1024 + k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx2 t
  funext a
  apply Fin.ext
  match a with
  | ⟨0, _⟩ => show win0_2.index t 0 * 8 + 1 * p.val = _; rw [e0]; first | rfl | (simp only [ptB, ix3]; omega) | (simp [ptB, ix3])
  | ⟨1, _⟩ => show win0_2.index t 1 * 1 + 1 * (0 : Fin 1).val = _; rw [e1]; first | rfl | (simp only [ptB, ix3]; omega) | (simp [ptB, ix3])
  | ⟨2, _⟩ => show win0_2.index t 2 * 1024 + 1 * k.val = _; rw [e2]; first | rfl | (simp only [ptB, ix3]; omega) | (simp [ptB, ix3])

theorem blk3 (c : Dev nD) (t : Fin cfg0.N) (k : Fin 1024) :
    (iblk m c 3 t : Vec Ideal S1x1024 .f32) (ix2 0 k) = hN m c (ix1 k) := by
  unfold iblk
  rw [View.read_apply]
  have hj : ((cfg0.win 3).blk t).view.emb (ix2 0 k : S1x1024.Idx) = (ix2 0 k : S1x1024.Idx) := by
    obtain ⟨e0, e1⟩ := idx3 t
    funext a
    apply Fin.ext
    match a with
    | ⟨0, _⟩ => show win0_3.index t 0 * 1 + 1 * (0 : Fin 1).val = _; rw [e0]; first | rfl | (simp only [ptB, ix2, ix3]; omega) | (simp [ptB, ix2, ix3])
    | ⟨1, _⟩ => show win0_3.index t 1 * 1024 + 1 * k.val = _; rw [e1]; first | rfl | (simp only [ptB, ix2, ix3]; omega) | (simp [ptB, ix2, ix3])
  show V m c main_v17 _ = _
  rw [hj]
  exact v17_at m c k

theorem blk4 (c : Dev nD) (t : Fin cfg0.N) (k : Fin 1024) (j : Fin 2432) (hlt : j.val < 1352) :
    (iblk m c 4 t : Vec Ideal S1024x2432 .bf16) (ix2 k j) = (hW m c (ix2 k ⟨j.val, by omega⟩) : EReal) := by
  unfold iblk
  rw [View.read_apply]
  have hj : ((cfg0.win 4).blk t).view.emb (ix2 k j : S1024x2432.Idx) = (ix2 k j : S1024x2432.Idx) := by
    obtain ⟨e0, e1⟩ := idx4 t
    funext a
    apply Fin.ext
    match a with
    | ⟨0, _⟩ => show win0_4.index t 0 * 1024 + 1 * k.val = _; rw [e0]; first | rfl | (simp only [ptB, ix2, ix3]; omega) | (simp [ptB, ix2, ix3])
    | ⟨1, _⟩ => show win0_4.index t 1 * 2432 + 1 * j.val = _; rw [e1]; first | rfl | (simp only [ptB, ix2, ix3]; omega) | (simp [ptB, ix2, ix3])
  show V m c main_v7 _ = _
  rw [hj]
  exact v7_at m c k j hlt

theorem blk5 (c : Dev nD) (t : Fin cfg0.N) (l : Fin 128) :
    (iblk m c 5 t : Vec Ideal S2x128 .f32) (ix2 1 l) = hG m c (ix1 ⟨l.val % 64, by omega⟩) := by
  unfold iblk
  rw [View.read_apply]
  have hj : ((cfg0.win 5).blk t).view.emb (ix2 1 l : S2x128.Idx) = (ix2 1 l : S2x128.Idx) := by
    obtain ⟨e0, e1⟩ := idx5 t
    funext a
    apply Fin.ext
    match a with
    | ⟨0, _⟩ => show win0_5.index t 0 * 2 + 1 * (1 : Fin 2).val = _; rw [e0]; first | rfl | (simp only [ptB, ix2, ix3]; omega) | (simp [ptB, ix2, ix3])
    | ⟨1, _⟩ => show win0_5.index t 1 * 128 + 1 * l.val = _; rw [e1]; first | rfl | (simp only [ptB, ix2, ix3]; omega) | (simp [ptB, ix2, ix3])
  show V m c main_v16 _ = _
  rw [hj]
  exact v16_at m c l

theorem blk7 (c : Dev nD) (t : Fin cfg0.N) (k l : Fin 128) :
    (iblk m c 7 t : Vec Ideal S128x128 .bf16) (ix2 k l) = (blkOne k l : EReal) := by
  unfold iblk
  rw [View.read_apply]
  have hj : ((cfg0.win 7).blk t).view.emb (ix2 k l : S128x128.Idx) = (ix2 k l : S128x128.Idx) := by
    obtain ⟨e0, e1⟩ := idx7 t
    funext a
    apply Fin.ext
    match a with
    | ⟨0, _⟩ => show win0_7.index t 0 * 128 + 1 * k.val = _; rw [e0]; first | rfl | (simp only [ptB, ix2, ix3]; omega) | (simp [ptB, ix2, ix3])
    | ⟨1, _⟩ => show win0_7.index t 1 * 128 + 1 * l.val = _; rw [e1]; first | rfl | (simp only [ptB, ix2, ix3]; omega) | (simp [ptB, ix2, ix3])
  show V m c main_cst _ = _
  rw [hj]
  exact bd_at m c k l

theorem tab0 (c : Dev nD) (t : Fin cfg0.N) (r : Fin 64) (l : Fin 128) :
    (iblk m c 6 t : Vec Ideal S6x64x128 .f32) (ix3 0 r l) = (ck (4096 + r.val) l.val : EReal) := by
  unfold iblk
  rw [View.read_apply]
  have hj : ((cfg0.win 6).blk t).view.emb (ix3 0 r l : S6x64x128.Idx) = (ix3 0 r l : S6x64x128.Idx) := by
    obtain ⟨e0, e1, e2⟩ := idx6 t
    funext a
    apply Fin.ext
    match a with
    | ⟨0, _⟩ => show win0_6.index t 0 * 6 + 1 * (0 : Fin 6).val = _; rw [e0]; first | rfl | (simp only [ptB, ix2, ix3]; omega) | (simp [ptB, ix2, ix3])
    | ⟨1, _⟩ => show win0_6.index t 1 * 64 + 1 * r.val = _; rw [e1]; first | rfl | (simp only [ptB, ix2, ix3]; omega) | (simp [ptB, ix2, ix3])
    | ⟨2, _⟩ => show win0_6.index t 2 * 128 + 1 * l.val = _; rw [e2]; first | rfl | (simp only [ptB, ix2, ix3]; omega) | (simp [ptB, ix2, ix3])
  show V m c main_v56 _ = _
  rw [hj]
  exact t0_at m c r l

theorem tab1 (c : Dev nD) (t : Fin cfg0.N) (r : Fin 64) (l : Fin 128) :
    (iblk m c 6 t : Vec Ideal S6x64x128 .f32) (ix3 1 r l) = (sak (4096 + r.val) l.val : EReal) := by
  unfold iblk
  rw [View.read_apply]
  have hj : ((cfg0.win 6).blk t).view.emb (ix3 1 r l : S6x64x128.Idx) = (ix3 1 r l : S6x64x128.Idx) := by
    obtain ⟨e0, e1, e2⟩ := idx6 t
    funext a
    apply Fin.ext
    match a with
    | ⟨0, _⟩ => show win0_6.index t 0 * 6 + 1 * (1 : Fin 6).val = _; rw [e0]; first | rfl | (simp only [ptB, ix2, ix3]; omega) | (simp [ptB, ix2, ix3])
    | ⟨1, _⟩ => show win0_6.index t 1 * 64 + 1 * r.val = _; rw [e1]; first | rfl | (simp only [ptB, ix2, ix3]; omega) | (simp [ptB, ix2, ix3])
    | ⟨2, _⟩ => show win0_6.index t 2 * 128 + 1 * l.val = _; rw [e2]; first | rfl | (simp only [ptB, ix2, ix3]; omega) | (simp [ptB, ix2, ix3])
  show V m c main_v56 _ = _
  rw [hj]
  exact t1_at m c r l

theorem tab2 (c : Dev nD) (t : Fin cfg0.N) (r : Fin 64) (l : Fin 128) :
    (iblk m c 6 t : Vec Ideal S6x64x128 .f32) (ix3 2 r l) = (sbk (4096 + r.val) l.val : EReal) := by
  unfold iblk
  rw [View.read_apply]
  have hj : ((cfg0.win 6).blk t).view.emb (ix3 2 r l : S6x64x128.Idx) = (ix3 2 r l : S6x64x128.Idx) := by
    obtain ⟨e0, e1, e2⟩ := idx6 t
    funext a
    apply Fin.ext
    match a with
    | ⟨0, _⟩ => show win0_6.index t 0 * 6 + 1 * (2 : Fin 6).val = _; rw [e0]; first | rfl | (simp only [ptB, ix2, ix3]; omega) | (simp [ptB, ix2, ix3])
    | ⟨1, _⟩ => show win0_6.index t 1 * 64 + 1 * r.val = _; rw [e1]; first | rfl | (simp only [ptB, ix2, ix3]; omega) | (simp [ptB, ix2, ix3])
    | ⟨2, _⟩ => show win0_6.index t 2 * 128 + 1 * l.val = _; rw [e2]; first | rfl | (simp only [ptB, ix2, ix3]; omega) | (simp [ptB, ix2, ix3])
  show V m c main_v56 _ = _
  rw [hj]
  exact t2_at m c r l

end Cert.InKeySampleIdeal.Gen
end
-- ==== Proof.KeySampleRef.lean ====
/- The reference of the sample batch's keys at the ideal instance, read entry by entry: the projection, its normalisation by head, and the turn. -/
module

public import proofs.«01_k».proof.Proof.KeyRef
public import proofs.«01_k».proof.Proof.InSampleHost
public import proofs.«01_k».proof.Proof.Gen.InKeySampleRefIdeal.Run
public import Idealize.ShloMosaic.Lib.Pointwise
public import Idealize.ShloMosaic.Lib.Tactic
public import Idealize.ShloMosaic.Lib.KernelVsHost

@[expose] public section

open Idealize.ShloMosaic

noncomputable section

namespace Cert.InKeySampleRefIdeal.Value

open Cert.InKeySampleRefIdeal Cert.InKeySampleRefIdeal.Gen Cert.Proof.In

set_option maxRecDepth 16384
set_option maxHeartbeats 8000000

/-- The projected key columns. -/
def projK (a0 : Vec Ideal S32x64x1024 .f32) (a1 : Vec Ideal S32x1x6144 .f32) (a2 : Vec Ideal S1024 .f32) (a3 : Vec Ideal S1024x2376 .f32) :
    Vec Ideal S32x64x128 .f32 :=
  extractStridedSlice S32x64x128 ![0, 0, 512] (Host.dotGeneral (F := Ideal) (φ₁ := .f32) (φ₂ := .f32) dot_S32x64x1024_S1024x2376_S32x64x2376_2_0_01_1_n_n none (addf (mulf (mulf (mulf a0 (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf a0 a0) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a2))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 1024] a1 slices_S32x1x6144_S32x1x1024_0_0_1024)))) (broadcastInDim S32x64x1024 ![0, 1, 2] bcast_S32x1x1024_S32x64x1024_0_1_2 (extractStridedSlice S32x1x1024 ![0, 0, 0] a1 slices_S32x1x6144_S32x1x1024_0_0_0))) a3) slices_S32x64x2376_S32x64x128_0_0_512

/-- The keys normalised by head. -/
def normK (K : Vec Ideal S32x64x128 .f32) (a5 : Vec Ideal S64 .f32) : Vec Ideal S32x64x2x64 .f32 :=
  mulf (mulf (shapeCast S32x64x2x64 K shapeCasts_S32x64x128_S32x64x2x64) (broadcastInDim S32x64x2x64 ![0, 1, 2, 3] bcast_S32x64x2x1_S32x64x2x64_0_1_2_3 (Host.rsqrt (addf (Host.divf (broadcastInDim S32x64x2x1 ![0, 1, 2] bcast_S32x64x2_S32x64x2x1_0_1_2 (Host.reduceAdd (mulf (shapeCast S32x64x2x64 K shapeCasts_S32x64x128_S32x64x2x64) (shapeCast S32x64x2x64 K shapeCasts_S32x64x128_S32x64x2x64)) (constant (F := Ideal) S_ .f32 0x00000000#32) reducesTo_S32x64x2x64_S32x64x2_d3 h_S_)) (broadcastInDim S32x64x2x1 ![] bcast_S_S32x64x2x1 (constant (F := Ideal) S_ .f32 0x42800000#32))) (broadcastInDim S32x64x2x1 ![] bcast_S_S32x64x2x1 (constant (F := Ideal) S_ .f32 0x358637BD#32)))))) (broadcastInDim S32x64x2x64 ![0, 1, 2, 3] bcast_S1x1x1x64_S32x64x2x64_0_1_2_3 (broadcastInDim S1x1x1x64 ![3] bcast_S64_S1x1x1x64_3 a5))

/-- The keys turned. -/
def turnK (N : Vec Ideal S32x64x2x64 .f32) : Vec Ideal S32x64x128 .f32 :=
  shapeCast S32x64x128 ((concatenate S32x64x2x64 3 [⟨S32x64x2x8, ((subf (mulf (extractStridedSlice S32x64x2x8 ![0, 0, 0, 0] N slices_S32x64x2x64_S32x64x2x8_0_0_0_0) (broadcastInDim S32x64x2x8 ![0, 1, 2, 3] bcast_S1x64x1x8_S32x64x2x8_0_1_2_3 (broadcastInDim S1x64x1x8 ![1, 2, 3] bcast_S64x1x8_S1x64x1x8_1_2_3 (broadcastInDim S64x1x8 ![0, 2] bcast_S64x8_S64x1x8_0_2 (Host.cos (mulf (broadcastInDim S64x8 ![0, 1] bcast_S64x1_S64x8_0_1 (broadcastInDim S64x1 ![0] bcast_S64_S64x1_0 (sitofp .f32 (addi (broadcastInDim S64 ![] bcast_S_S64 (constantI S_ 32 4096#32)) (iotaInDim S64 32 0))))) (broadcastInDim S64x8 ![0, 1] bcast_S1x8_S64x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S32x64x2x8 ![0, 0, 0, 8] N slices_S32x64x2x64_S32x64x2x8_0_0_0_8) (broadcastInDim S32x64x2x8 ![0, 1, 2, 3] bcast_S1x64x1x8_S32x64x2x8_0_1_2_3 (broadcastInDim S1x64x1x8 ![1, 2, 3] bcast_S64x1x8_S1x64x1x8_1_2_3 (broadcastInDim S64x1x8 ![0, 2] bcast_S64x8_S64x1x8_0_2 (Host.sin (mulf (broadcastInDim S64x8 ![0, 1] bcast_S64x1_S64x8_0_1 (broadcastInDim S64x1 ![0] bcast_S64_S64x1_0 (sitofp .f32 (addi (broadcastInDim S64 ![] bcast_S_S64 (constantI S_ 32 4096#32)) (iotaInDim S64 32 0))))) (broadcastInDim S64x8 ![0, 1] bcast_S1x8_S64x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S32x64x2x8 .f32)⟩, ⟨S32x64x2x8, ((addf (mulf (extractStridedSlice S32x64x2x8 ![0, 0, 0, 8] N slices_S32x64x2x64_S32x64x2x8_0_0_0_8) (broadcastInDim S32x64x2x8 ![0, 1, 2, 3] bcast_S1x64x1x8_S32x64x2x8_0_1_2_3 (broadcastInDim S1x64x1x8 ![1, 2, 3] bcast_S64x1x8_S1x64x1x8_1_2_3 (broadcastInDim S64x1x8 ![0, 2] bcast_S64x8_S64x1x8_0_2 (Host.cos (mulf (broadcastInDim S64x8 ![0, 1] bcast_S64x1_S64x8_0_1 (broadcastInDim S64x1 ![0] bcast_S64_S64x1_0 (sitofp .f32 (addi (broadcastInDim S64 ![] bcast_S_S64 (constantI S_ 32 4096#32)) (iotaInDim S64 32 0))))) (broadcastInDim S64x8 ![0, 1] bcast_S1x8_S64x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S32x64x2x8 ![0, 0, 0, 0] N slices_S32x64x2x64_S32x64x2x8_0_0_0_0) (broadcastInDim S32x64x2x8 ![0, 1, 2, 3] bcast_S1x64x1x8_S32x64x2x8_0_1_2_3 (broadcastInDim S1x64x1x8 ![1, 2, 3] bcast_S64x1x8_S1x64x1x8_1_2_3 (broadcastInDim S64x1x8 ![0, 2] bcast_S64x8_S64x1x8_0_2 (Host.sin (mulf (broadcastInDim S64x8 ![0, 1] bcast_S64x1_S64x8_0_1 (broadcastInDim S64x1 ![0] bcast_S64_S64x1_0 (sitofp .f32 (addi (broadcastInDim S64 ![] bcast_S_S64 (constantI S_ 32 4096#32)) (iotaInDim S64 32 0))))) (broadcastInDim S64x8 ![0, 1] bcast_S1x8_S64x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S32x64x2x8 .f32)⟩, ⟨S32x64x2x48, ((extractStridedSlice S32x64x2x48 ![0, 0, 0, 16] N slices_S32x64x2x64_S32x64x2x48_0_0_0_16) : Vec Ideal S32x64x2x48 .f32)⟩] concatenates_S32x64x2x8_S32x64x2x8_S32x64x2x48_S32x64x2x64_d3 : Vec Ideal S32x64x2x64 .f32)) shapeCasts_S32x64x2x64_S32x64x128

theorem projK_apply (a0 : Vec Ideal S32x64x1024 .f32) (a1 : Vec Ideal S32x1x6144 .f32) (a2 : Vec Ideal S1024 .f32) (a3 : Vec Ideal S1024x2376 .f32)
    (b : Fin 32) (s : Fin 64) (l : Fin 128) :
    projK a0 a1 a2 a3 (ix3 b s l)
      = proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨512 + l.val, by have := l.isLt; omega⟩)) := by
  unfold projK
  pointwise [proj, feat]

theorem split_apply (K : Vec Ideal S32x64x128 .f32) (b : Fin 32) (s : Fin 64) (h : Fin 2) (e : Fin 64) :
    shapeCast S32x64x2x64 K shapeCasts_S32x64x128_S32x64x2x64 (ix4 b s h e) = K (ix3 b s ⟨h.val * 64 + e.val, by have := h.isLt; have := e.isLt; omega⟩) := by
  pointwise []

theorem normK_apply (K : Vec Ideal S32x64x128 .f32) (a5 : Vec Ideal S64 .f32) (b : Fin 32) (s : Fin 64) (l : Fin 128) :
    normK K a5 (ix4 b s ⟨l.val / 64, by have := l.isLt; omega⟩ ⟨l.val % 64, by omega⟩) = headNorm (fun l => K (ix3 b s l)) (fun e => a5 (ix1 e)) l := by
  unfold normK
  pointwise [headNorm]

theorem turnK_apply (N : Vec Ideal S32x64x2x64 .f32) (b : Fin 32) (s : Fin 64) (l : Fin 128) :
    turnK N (ix3 b s l) = turned (4096 + s.val) (fun l => N (ix4 b s ⟨l.val / 64, by have := l.isLt; omega⟩ ⟨l.val % 64, by omega⟩)) l := by
  unfold turnK
  pointwise [turned, ang]
  simp only [pos_add]
  have hl := l.isLt
  by_cases h2 : l.val % 64 < 8
  · have e1 : (l.val + 8) / 64 = l.val / 64 := by omega
    have e2 : (l.val + 8) % 64 = 8 + l.val % 64 := by omega
    simp only [h2, ↓reduceDIte, e1, e2]
  · by_cases h3 : l.val % 64 - 8 < 8
    · have e0 : 8 + (l.val % 64 - 8) = l.val % 64 := by omega
      have e1 : (l.val - 8) / 64 = l.val / 64 := by omega
      have e2 : (l.val - 8) % 64 = l.val % 64 - 8 := by omega
      simp only [h2, h3, ↓reduceDIte, e0, e1, e2]
    · have e0 : 16 + (l.val % 64 - 8 - 8) = l.val % 64 := by omega
      simp only [h2, h3, ↓reduceDIte, e0]

end Cert.InKeySampleRefIdeal.Value
end
-- ==== Proof.KeySampleValue.lean ====
/- The sample batch's input projection at the ideal instance: for finite inputs its key array, entry by entry, is the reference's. -/
module

public import proofs.«01_k».proof.Defs
public import proofs.«01_k».proof.Proof.KeySampleBlocks
public import proofs.«01_k».proof.Proof.KeySampleStep
public import proofs.«01_k».proof.Proof.KeySampleRef
public import proofs.«01_k».proof.Proof.KeyValue
public import Idealize.ShloMosaic.Lib.Claim

@[expose] public section

open Idealize.ShloMosaic Idealize.ShloMosaic.TcCoe Idealize.SL.Sem

noncomputable section

namespace Cert.Proof.In

/-- The shape relations that the precondition's operations state. -/
theorem preSampleFacts : Cert.Pre_finite_sample_inputs.Facts where
  bcast_S_S32x64x1024 := by decide
  bcast_S_S32x1x6144 := by decide
  bcast_S_S1024 := by decide
  bcast_S_S1024x2376 := by decide

end Cert.Proof.In

namespace Cert.InKeySampleIdeal.Gen

open Cert.InKeySampleIdeal Cert.Proof.In

set_option maxRecDepth 16384
set_option maxHeartbeats 8000000

variable (m : (ℓ : Loc nD τ sig) → Buf (Elt Ideal) ℓ)

theorem flush10 : ∀ t : Fin cfg0.N, (cfg0.win 10).flush t = true := (by decide +kernel : ∀ t : Fin grid0.N, _)

/-- Output window 10's array at the place of a grid point's block entry is what the point leaves there. -/
theorem arr10 (c : Dev nD) (t : Fin cfg0.N) (p : Fin 8) (r : Fin 64) (l : Fin 128) :
    ((dats m 0 c).arrAt 10 cfg0.N : S32x64x128.Idx → EReal) (ix3 (ptB t p) r l)
      = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix3 p r l) := by
  have e := congrFun (Value.blocks10 m c t (flush10 t)) (ix3 p r l : S8x64x128.Idx)
  rw [View.read_apply, Value.flushed10_A] at e
  have hj : ((cfg0.win 10).blk t).view.emb (ix3 p r l : S8x64x128.Idx) = (ix3 (ptB t p) r l : S32x64x128.Idx) := by
    obtain ⟨e0, e1, e2⟩ := idx10 t
    funext a
    apply Fin.ext
    match a with
    | ⟨0, _⟩ => show win0_10.index t 0 * 8 + 1 * p.val = _; rw [e0]; first | rfl | (simp only [ptB, ix3]; omega) | (simp [ptB, ix3])
    | ⟨1, _⟩ => show win0_10.index t 1 * 64 + 1 * r.val = _; rw [e1]; first | rfl | (simp only [ptB, ix3]; omega) | (simp [ptB, ix3])
    | ⟨2, _⟩ => show win0_10.index t 2 * 128 + 1 * l.val = _; rw [e2]; first | rfl | (simp only [ptB, ix3]; omega) | (simp [ptB, ix3])
  rw [hj] at e
  exact e

/-- One projected column of one token, from the call's argument arrays. -/
abbrev col (c : Dev nD) (b : Fin 32) (s : Fin 64) (j : Fin 2376) : EReal :=
  proj (fun j => hX m c (ix3 b s j)) (fun j => hN m c (ix1 j)) (fun j => hM m c (ix3 b 0 ⟨1024 + j.val, by have := j.isLt; omega⟩))
    (fun j => hM m c (ix3 b 0 ⟨j.val, by have := j.isLt; omega⟩)) (fun k => hW m c (ix2 k j))

/-- A column of the padded weights before the padding, applied to a token's features. -/
theorem colLow (c : Dev nD) (t : Fin cfg0.N) (p : Fin 8) (r : Fin 64) (j : Fin 2432) (hj : j.val < 1352) :
    (∑ k, feat (fun j => (iblk m c 0 t : Vec Ideal S8x64x1024 .f32) (ix3 p r j)) (fun j => (iblk m c 3 t : Vec Ideal S1x1024 .f32) (ix2 0 j))
        (fun j => (iblk m c 2 t : Vec Ideal S8x1x1024 .f32) (ix3 p 0 j)) (fun j => (iblk m c 1 t : Vec Ideal S8x1x1024 .f32) (ix3 p 0 j)) k
        * (iblk m c 4 t : Vec Ideal S1024x2432 .bf16) (ix2 k j))
      = col m c (ptB t p) r ⟨j.val, by omega⟩ := by
  unfold col proj
  refine Finset.sum_congr rfl fun k _ => ?_
  rw [blk4 m c t k j hj]
  simp only [blk0, blk1, blk2, blk3]

/-- The grid point and the place in its tile that hold a sequence. -/
theorem point_of (b : Fin 32) : ∃ (t : Fin cfg0.N) (p : Fin 8), ptB t p = b := by
  have hb := b.isLt
  refine ⟨⟨b.val / 8, by rw [show cfg0.N = 4 from N_0]; omega⟩, ⟨b.val % 8, by omega⟩, Fin.ext ?_⟩
  show b.val / 8 * 8 + b.val % 8 = b.val; omega

/-- The call's key array, entry by entry, for finite inputs. -/
theorem k_eq (c : Dev nD) (hx : ∀ i, IsReal (hX m c i)) (hm : ∀ i, IsReal (hM m c i)) (hn : ∀ i, IsReal (hN m c i)) (hw : ∀ i, IsReal (hW m c i))
    (b : Fin 32) (r : Fin 64) (l : Fin 128) :
    ((dats m 0 c).arrAt 10 cfg0.N : S32x64x128.Idx → EReal) (ix3 b r l)
      = turned (4096 + r.val) (headNorm (fun q => col m c b r ⟨512 + q.val, by have := q.isLt; omega⟩) fun e => hG m c (ix1 e)) l := by
  obtain ⟨t, p, rfl⟩ := point_of b
  rw [arr10, k_apply]
  have hY : (fun q : Fin 128 => ∑ k, feat (fun j => (iblk m c 0 t : Vec Ideal S8x64x1024 .f32) (ix3 p r j)) (fun j => (iblk m c 3 t : Vec Ideal S1x1024 .f32) (ix2 0 j))
        (fun j => (iblk m c 2 t : Vec Ideal S8x1x1024 .f32) (ix3 p 0 j)) (fun j => (iblk m c 1 t : Vec Ideal S8x1x1024 .f32) (ix3 p 0 j)) k
        * (iblk m c 4 t : Vec Ideal S1024x2432 .bf16) (ix2 k ⟨512 + q.val, by have := q.isLt; omega⟩))
      = fun q => col m c (ptB t p) r ⟨512 + q.val, by have := q.isLt; omega⟩ :=
    funext fun q => colLow m c t p r ⟨512 + q.val, by have := q.isLt; omega⟩ (by have := q.isLt; show 512 + q.val < 1352; omega)
  have hB : (fun k l : Fin 128 => ((iblk m c 7 t : Vec Ideal S128x128 .bf16) (ix2 k l) : EReal)) = blkOne := funext fun k => funext fun l => blk7 m c t k l
  have hg : (fun l : Fin 128 => ((iblk m c 5 t : Vec Ideal S2x128 .f32) (ix2 1 l) : EReal)) = fun l => hG m c (ix1 ⟨l.val % 64, by omega⟩) :=
    funext fun l => blk5 m c t l
  have h0 : (fun l : Fin 128 => ((iblk m c 6 t : Vec Ideal S6x64x128 .f32) (ix3 0 r l) : EReal)) = fun l => ck (4096 + r.val) l.val := funext fun l => tab0 m c t r l
  have h1 : (fun l : Fin 128 => ((iblk m c 6 t : Vec Ideal S6x64x128 .f32) (ix3 1 r l) : EReal)) = fun l => sak (4096 + r.val) l.val := funext fun l => tab1 m c t r l
  have h2 : (fun l : Fin 128 => ((iblk m c 6 t : Vec Ideal S6x64x128 .f32) (ix3 2 r l) : EReal)) = fun l => sbk (4096 + r.val) l.val := funext fun l => tab2 m c t r l
  rw [hY, hB, hg, h0, h1, h2]
  exact rowTurn_eq (fun q => proj_real (fun k => hx _) (fun k => hn _) (fun k => hm _) (fun k => hm _) fun k => hw _) (fun e => hG m c (ix1 e)) _ l

end Cert.InKeySampleIdeal.Gen

namespace Cert.InKeySampleRefIdeal.Value

open Cert.InKeySampleRefIdeal Cert.InKeySampleRefIdeal.Gen Cert.Proof.In

/-- The reference's keys, entry by entry. -/
theorem ref_k (a0 : Vec Ideal S32x64x1024 .f32) (a1 : Vec Ideal S32x1x6144 .f32) (a2 : Vec Ideal S1024 .f32) (a3 : Vec Ideal S1024x2376 .f32)
    (a5 : Vec Ideal S64 .f32) (b : Fin 32) (s : Fin 64) (l : Fin 128) :
    turnK (normK (projK a0 a1 a2 a3) a5) (ix3 b s l)
      = turned (4096 + s.val) (headNorm (fun q => proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨512 + q.val, by have := q.isLt; omega⟩))) fun e => a5 (ix1 e)) l := by
  rw [turnK_apply]
  congr 1
  funext q
  rw [normK_apply]
  congr 1
  funext q
  exact projK_apply a0 a1 a2 a3 b s q

end Cert.InKeySampleRefIdeal.Value

namespace Cert.Proof.InKeySample

open Cert.Proof.In

set_option maxRecDepth 16384
set_option maxHeartbeats 8000000

/-- The value claim of the keys: over the extended reals, for finite inputs, the key array is the reference's. -/
theorem algebraic : Cert.algebraic_InKeySampleIdeal_InKeySampleRefIdeal_pre_finite_sample_inputs (hInKeySampleIdeal := Cert.InKeySampleIdeal.Gen.facts)
    (hInKeySampleRefIdeal := Cert.InKeySampleRefIdeal.Gen.facts) (hPre_finite_sample_inputs := preSampleFacts) := by
  intro m g m' g' hpre hagree
  refine ⟨fun c => (Cert.InKeySampleIdeal.Gen.dats m 0 c).arrAt 10 Cert.InKeySampleIdeal.cfg0.N,
    θ_run_mono (Cert.InKeySampleIdeal.Value.run_blocks m g) fun r h c => ?_,
    θ_run_mono (Cert.InKeySampleRefIdeal.Value.run m' g') fun r h c => ⟨(h c).1.trans ?_, (h c).2⟩⟩
  · obtain ⟨-, -, h2, -, -, -, -, -, -, ha⟩ := h c
    exact ⟨h2, ha⟩
  obtain ⟨e0, e1, e2, e3, e4, e5⟩ := hagree c
  obtain ⟨p0, p1, p2, p3⟩ := hpre c
  unfold Cert.InKeySampleRefIdeal.Value.res_main_v78
  rw [e0, e1, e2, e3, e5]
  funext i
  obtain ⟨b, s, l, rfl⟩ : ∃ (b : Fin 32) (s : Fin 64) (l : Fin 128), i = (ix3 b s l : Cert.InKeySampleIdeal.S32x64x128.Idx) :=
    ⟨i 0, i 1, i 2, funext fun a => by fin_cases a <;> rfl⟩
  exact (Cert.InKeySampleRefIdeal.Value.ref_k _ _ _ _ _ b s l).trans (Cert.InKeySampleIdeal.Gen.k_eq m c (fun i => isReal_of_abs_lt (congrFun p0 i))
    (fun i => isReal_of_abs_lt (congrFun p1 i)) (fun i => isReal_of_abs_lt (congrFun p2 i)) (fun i => isReal_of_abs_lt (congrFun p3 i)) b s l).symm

end Cert.Proof.InKeySample

end
-- ==== Proof.PostStep.lean ====
/- One tile of the output projection at the ideal instance: what a grid point leaves in its residual block and in its block
   of normalised features, read entry by entry. -/
module

public import proofs.«01_k».proof.Proof.Gen.PostIdeal.Value
public import proofs.«01_k».proof.Proof.InStep
public import Idealize.ShloMosaic.Lib.Pointwise
public import Idealize.ShloMosaic.Lib.Tactic

@[expose] public section

open Idealize.ShloMosaic

noncomputable section

namespace Cert.Proof.Post

/-- One entry of the residual stream after the mixers: the entry `x` plus the gate `gt` times the row's attention part `a` and
    convolution part `y` against the two halves of a column `w` of the output weight. -/
def res (x gt : EReal) (a y : Fin 512 → EReal) (w : Fin 1024 → EReal) : EReal :=
  x + gt * ((∑ k, a k * w ⟨k.val, by have := k.isLt; omega⟩) + ∑ k, y k * w ⟨512 + k.val, by have := k.isLt; omega⟩)

end Cert.Proof.Post

namespace Cert.PostIdeal.Gen

open Cert.PostIdeal Cert.Proof.Post Cert.Proof.In

set_option maxRecDepth 16384
set_option maxHeartbeats 4000000

theorem zero2 : (![0, 0] : Fin 2 → Nat) = fun _ => 0 := funext fun a => by fin_cases a <;> rfl
theorem zero3 : (![0, 0, 0] : Fin 3 → Nat) = fun _ => 0 := funext fun a => by fin_cases a <;> rfl

/-- The two halves of the output weight that a grid point loads, by rows. -/
theorem top_apply (x6 : Vec Ideal S1024x1024 .bf16) (k : Fin 512) (j : Fin 1024) :
    View.ld x6 (Rect.unit ![0, 0] S512x1024.size inb_S1024x1024_S512x1024_0_0) (ix2 k j) = x6 (ix2 ⟨k.val, by have := k.isLt; omega⟩ j) := by
  refine congrArg x6 (funext fun a => Fin.ext ?_)
  match a with
  | ⟨0, _⟩ => show 0 + 1 * k.val = k.val; omega
  | ⟨1, _⟩ => show 0 + 1 * j.val = j.val; omega

theorem low_apply (x6 : Vec Ideal S1024x1024 .bf16) (k : Fin 512) (j : Fin 1024) :
    View.ld x6 (Rect.unit ![512, 0] S512x1024.size inb_S1024x1024_S512x1024_512_0) (ix2 k j) = x6 (ix2 ⟨512 + k.val, by have := k.isLt; omega⟩ j) := by
  refine congrArg x6 (funext fun a => Fin.ext ?_)
  match a with
  | ⟨0, _⟩ => show 512 + 1 * k.val = 512 + k.val; omega
  | ⟨1, _⟩ => show 0 + 1 * j.val = j.val; omega

theorem res_apply (x0 : Vec Ideal S1x512x1024 .f32) (x1 x2 : Vec Ideal S1x512x512 .bf16) (x3 : Vec Ideal S1x1x1024 .f32) (wa wy : Vec Ideal S512x1024 .bf16)
    (r : Fin 512) (j : Fin 1024) :
    k0_pay3 (F := Ideal) x1 x2 wa wy x0 x3 (ix3 0 r j)
      = x0 (ix3 0 r j) + x3 (ix3 0 0 j) * ((∑ k, x1 (ix3 0 r k) * wa (ix2 k j)) + ∑ k, x2 (ix3 0 r k) * wy (ix2 k j)) := by
  pointwise [k0_pay3]

theorem res_row (x0 : Vec Ideal S1x512x1024 .f32) (x1 x2 : Vec Ideal S1x512x512 .bf16) (x3 : Vec Ideal S1x1x1024 .f32) (x6 : Vec Ideal S1024x1024 .bf16)
    (r : Fin 512) (j : Fin 1024) :
    k0_pay3 (F := Ideal) x1 x2 (View.ld x6 (Rect.unit ![0, 0] S512x1024.size inb_S1024x1024_S512x1024_0_0))
        (View.ld x6 (Rect.unit ![512, 0] S512x1024.size inb_S1024x1024_S512x1024_512_0)) x0 x3 (ix3 0 r j)
      = res (x0 (ix3 0 r j)) (x3 (ix3 0 0 j)) (fun k => x1 (ix3 0 r k)) (fun k => x2 (ix3 0 r k)) (fun k => x6 (ix2 k j)) := by
  refine (res_apply x0 x1 x2 x3 _ _ r j).trans ?_
  unfold res
  refine congrArg (fun z : EReal => x0 (ix3 0 r j) + x3 (ix3 0 0 j) * z) (congrArg₂ (fun a b : EReal => a + b) ?_ ?_)
  · exact Finset.sum_congr rfl fun k _ => congrArg (fun z : EReal => x1 (ix3 0 r k) * z) (top_apply x6 k j)
  · exact Finset.sum_congr rfl fun k _ => congrArg (fun z : EReal => x2 (ix3 0 r k) * z) (low_apply x6 k j)

theorem norm_apply (x0 : Vec Ideal S1x512x1024 .f32) (x1 x2 : Vec Ideal S1x512x512 .bf16) (x3 x4 x5 : Vec Ideal S1x1x1024 .f32) (wa wy : Vec Ideal S512x1024 .bf16)
    (x7 : Vec Ideal S1x1024 .f32) (r : Fin 512) (j : Fin 1024) :
    k0_pay6 (F := Ideal) (k0_pay4 (F := Ideal) x1 x2 wa wy x0 x3) x7 x5 x4 (ix3 0 r j)
      = feat (fun j => k0_pay3 (F := Ideal) x1 x2 wa wy x0 x3 (ix3 0 r j)) (fun j => x7 (ix2 0 j)) (fun j => x5 (ix3 0 0 j)) (fun j => x4 (ix3 0 0 j)) j := by
  unfold k0_pay6 k0_pay5 k0_pay4
  generalize k0_pay3 (F := Ideal) x1 x2 wa wy x0 x3 = z
  pointwise [feat]

theorem x1_apply (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1 .f32) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x128 .f32) (harg14 : arg14.IsWhole) (arg15 : Memref sig .tc .vmem S128x512 .f32) (harg15 : arg15.IsWhole)
    (x0 : Vec Ideal S1x512x1024 .f32) (x1 : Vec Ideal S1x512x512 .bf16) (x2 : Vec Ideal S1x512x512 .bf16) (x3 : Vec Ideal S1x1x1024 .f32) (x4 : Vec Ideal S1x1x1024 .f32) (x5 : Vec Ideal S1x1x1024 .f32) (x6 : Vec Ideal S1024x1024 .bf16) (x7 : Vec Ideal S1x1024 .f32) (x8 : Vec Ideal S32x1024 .bf16) (x9 : Vec Ideal S32x1 .f32) (r : Fin 512) (j : Fin 1024) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 (ix3 0 r j)
      = res (x0 (ix3 0 r j)) (x3 (ix3 0 0 j)) (fun k => x1 (ix3 0 r k)) (fun k => x2 (ix3 0 r k)) (fun k => x6 (ix2 k j)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  unfold kernelRun0_A
  dsimp only
  sl_unfold_words
  rw [View.canon_unit_zero (S := S1x512x1024) zero3]
  simp only [View.readAt_eq_ld, harg2.read_unread, harg3.read_unread, harg4.read_unread, harg5.read_unread, harg6.read_unread, harg7.read_unread, harg8.read_unread, harg9.read_unread, harg10.read_unread, harg11.read_unread]
  simp only [View.ld_unit_zero (S := S1x512x512) zero3, View.ld_unit_zero (S := S1x512x1024) zero3, View.ld_unit_zero (S := S1x1x1024) zero3, View.ld_unit_zero (S := S1x1024) zero2]
  exact res_row x0 x1 x2 x3 x6 r j

theorem h2_apply (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1 .f32) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x512x128 .f32) (harg14 : arg14.IsWhole) (arg15 : Memref sig .tc .vmem S128x512 .f32) (harg15 : arg15.IsWhole)
    (x0 : Vec Ideal S1x512x1024 .f32) (x1 : Vec Ideal S1x512x512 .bf16) (x2 : Vec Ideal S1x512x512 .bf16) (x3 : Vec Ideal S1x1x1024 .f32) (x4 : Vec Ideal S1x1x1024 .f32) (x5 : Vec Ideal S1x1x1024 .f32) (x6 : Vec Ideal S1024x1024 .bf16) (x7 : Vec Ideal S1x1024 .f32) (x8 : Vec Ideal S32x1024 .bf16) (x9 : Vec Ideal S32x1 .f32) (r : Fin 512) (j : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 (ix3 0 r j)
      = feat (fun j => res (x0 (ix3 0 r j)) (x3 (ix3 0 0 j)) (fun k => x1 (ix3 0 r k)) (fun k => x2 (ix3 0 r k)) (fun k => x6 (ix2 k j))) (fun j => x7 (ix2 0 j)) (fun j => x5 (ix3 0 0 j)) (fun j => x4 (ix3 0 0 j)) j := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  unfold kernelRun0_A
  dsimp only
  sl_unfold_words
  rw [View.canon_unit_zero (S := S1x512x1024) zero3]
  simp only [View.readAt_eq_ld, harg2.read_unread, harg3.read_unread, harg4.read_unread, harg5.read_unread, harg6.read_unread, harg7.read_unread, harg8.read_unread, harg9.read_unread, harg10.read_unread, harg11.read_unread]
  simp only [View.ld_unit_zero (S := S1x512x512) zero3, View.ld_unit_zero (S := S1x512x1024) zero3, View.ld_unit_zero (S := S1x1x1024) zero3, View.ld_unit_zero (S := S1x1024) zero2]
  rw [norm_apply]
  exact congrArg (fun f => feat f (fun j => x7 (ix2 0 j)) (fun j => x5 (ix3 0 0 j)) (fun j => x4 (ix3 0 0 j)) j) (funext fun j => res_row x0 x1 x2 x3 x6 r j)

end Cert.PostIdeal.Gen
end
-- ==== Proof.PostBlocks.lean ====
/- The output projection's windows at a grid point, read as entries of the call's argument arrays. -/
module

public import proofs.«01_k».proof.Proof.PostStep
public import Idealize.ShloMosaic.Lib.StableHlo.ReadAt
public import Idealize.ShloMosaic.Lib.Claim

@[expose] public section

open Idealize.ShloMosaic Idealize.ShloMosaic.TcCoe Idealize.SL.Sem

noncomputable section

namespace Cert.PostIdeal.Gen

open Cert.PostIdeal Cert.Proof.Post

set_option maxRecDepth 16384
set_option maxHeartbeats 2000000

variable (m : (ℓ : Loc nD τ sig) → Buf (Elt Ideal) ℓ)

/-- The call's arguments as arrays. -/
abbrev hX (c : Dev nD) : S4x4096x1024.Idx → EReal := m ((c : Thread nD τ).loc main_arg0)
abbrev hA (c : Dev nD) : S4x4096x512.Idx → EReal := m ((c : Thread nD τ).loc main_arg1)
abbrev hY (c : Dev nD) : S4x4096x512.Idx → EReal := m ((c : Thread nD τ).loc main_arg2)
abbrev hM (c : Dev nD) : S4x1x6144.Idx → EReal := m ((c : Thread nD τ).loc main_arg3)
abbrev hW (c : Dev nD) : S1024x1024.Idx → EReal := m ((c : Thread nD τ).loc main_arg4)
abbrev hN (c : Dev nD) : S1024.Idx → EReal := m ((c : Thread nD τ).loc main_arg5)

theorem v8_at (c : Dev nD) (b : Fin 4) (s : Fin 4096) (k : Fin 512) : (V m c main_v8 : S4x4096x512.Idx → EReal) (ix3 b s k) = hA m c (ix3 b s k) := by
  unfold V
  iterate 10 (try after_reads_at)

theorem v9_at (c : Dev nD) (b : Fin 4) (s : Fin 4096) (k : Fin 512) : (V m c main_v9 : S4x4096x512.Idx → EReal) (ix3 b s k) = hY m c (ix3 b s k) := by
  unfold V
  iterate 10 (try after_reads_at)

theorem v10_at (c : Dev nD) (k j : Fin 1024) : (V m c main_v10 : S1024x1024.Idx → EReal) (ix2 k j) = hW m c (ix2 k j) := by
  unfold V
  iterate 10 (try after_reads_at)

theorem v11_at (c : Dev nD) (k : Fin 1024) : (V m c main_v11 : S1x1024.Idx → EReal) (ix2 0 k) = hN m c (ix1 k) := by
  unfold V
  iterate 10 (try after_reads_at)

theorem pt_lt (t : Fin cfg0.N) : t.val < 32 := lt_of_lt_of_eq t.isLt N_0

theorem idx0 : ∀ t : Fin cfg0.N, win0_0.index t 0 = t.val / 8 ∧ win0_0.index t 1 = t.val % 8 ∧ win0_0.index t 2 = 0 :=
  (by decide +kernel : ∀ t : Fin grid0.N, _)
theorem idx1 : ∀ t : Fin cfg0.N, win0_1.index t 0 = t.val / 8 ∧ win0_1.index t 1 = t.val % 8 ∧ win0_1.index t 2 = 0 :=
  (by decide +kernel : ∀ t : Fin grid0.N, _)
theorem idx2 : ∀ t : Fin cfg0.N, win0_2.index t 0 = t.val / 8 ∧ win0_2.index t 1 = t.val % 8 ∧ win0_2.index t 2 = 0 :=
  (by decide +kernel : ∀ t : Fin grid0.N, _)
theorem idx3 : ∀ t : Fin cfg0.N, win0_3.index t 0 = t.val / 8 ∧ win0_3.index t 1 = 0 ∧ win0_3.index t 2 = 2 :=
  (by decide +kernel : ∀ t : Fin grid0.N, _)
theorem idx4 : ∀ t : Fin cfg0.N, win0_4.index t 0 = t.val / 8 ∧ win0_4.index t 1 = 0 ∧ win0_4.index t 2 = 3 :=
  (by decide +kernel : ∀ t : Fin grid0.N, _)
theorem idx5 : ∀ t : Fin cfg0.N, win0_5.index t 0 = t.val / 8 ∧ win0_5.index t 1 = 0 ∧ win0_5.index t 2 = 4 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx10 : ∀ t : Fin cfg0.N, win0_10.index t 0 = t.val / 8 ∧ win0_10.index t 1 = t.val % 8 ∧ win0_10.index t 2 = 0 :=
  (by decide +kernel : ∀ t : Fin grid0.N, _)
theorem idx11 : ∀ t : Fin cfg0.N, win0_11.index t 0 = t.val / 8 ∧ win0_11.index t 1 = t.val % 8 ∧ win0_11.index t 2 = 0 :=
  (by decide +kernel : ∀ t : Fin grid0.N, _)

/-- The batch of a grid point and the token row `r` of its tile. -/
def ptB (t : Fin cfg0.N) : Fin 4 := ⟨t.val / 8, by have := pt_lt t; omega⟩
def ptS (t : Fin cfg0.N) (r : Fin 512) : Fin 4096 := ⟨t.val % 8 * 512 + r.val, by have := r.isLt; omega⟩

theorem blk0 (c : Dev nD) (t : Fin cfg0.N) (r : Fin 512) (k : Fin 1024) :
    (iblk m c 0 t : Vec Ideal S1x512x1024 .f32) (ix3 0 r k) = hX m c (ix3 (ptB t) (ptS t r) k) := by
  unfold iblk
  rw [View.read_apply]
  show V m c main_arg0 _ = _
  entry_read
  show m (c, Proc.tc.devRef main_arg0) _ = m (c, Proc.tc.devRef main_arg0) _
  congr 1
  obtain ⟨e0, e1, e2⟩ := idx0 t
  funext a
  apply Fin.ext
  match a with
  | ⟨0, _⟩ => show win0_0.index t 0 * 1 + 1 * (0 : Fin 1).val = _; rw [e0]; first | rfl | (simp only [ptB, ptS, ix2, ix3]; omega) | (simp [ptB, ptS, ix2, ix3])
  | ⟨1, _⟩ => show win0_0.index t 1 * 512 + 1 * r.val = _; rw [e1]; first | rfl | (simp only [ptB, ptS, ix2, ix3]; omega) | (simp [ptB, ptS, ix2, ix3])
  | ⟨2, _⟩ => show win0_0.index t 2 * 1024 + 1 * k.val = _; rw [e2]; first | rfl | (simp only [ptB, ptS, ix2, ix3]; omega) | (simp [ptB, ptS, ix2, ix3])

theorem blk1 (c : Dev nD) (t : Fin cfg0.N) (r k : Fin 512) :
    (iblk m c 1 t : Vec Ideal S1x512x512 .bf16) (ix3 0 r k) = hA m c (ix3 (ptB t) (ptS t r) k) := by
  unfold iblk
  rw [View.read_apply]
  have hj : ((cfg0.win 1).blk t).view.emb (ix3 0 r k : S1x512x512.Idx) = (ix3 (ptB t) (ptS t r) k : S4x4096x512.Idx) := by
    obtain ⟨e0, e1, e2⟩ := idx1 t
    funext a
    apply Fin.ext
    match a with
    | ⟨0, _⟩ => show win0_1.index t 0 * 1 + 1 * (0 : Fin 1).val = _; rw [e0]; first | rfl | (simp only [ptB, ptS, ix2, ix3]; omega) | (simp [ptB, ptS, ix2, ix3])
    | ⟨1, _⟩ => show win0_1.index t 1 * 512 + 1 * r.val = _; rw [e1]; first | rfl | (simp only [ptB, ptS, ix2, ix3]; omega) | (simp [ptB, ptS, ix2, ix3])
    | ⟨2, _⟩ => show win0_1.index t 2 * 512 + 1 * k.val = _; rw [e2]; first | rfl | (simp only [ptB, ptS, ix2, ix3]; omega) | (simp [ptB, ptS, ix2, ix3])
  show V m c main_v8 _ = _
  rw [hj]
  exact v8_at m c (ptB t) (ptS t r) k

theorem blk2 (c : Dev nD) (t : Fin cfg0.N) (r k : Fin 512) :
    (iblk m c 2 t : Vec Ideal S1x512x512 .bf16) (ix3 0 r k) = hY m c (ix3 (ptB t) (ptS t r) k) := by
  unfold iblk
  rw [View.read_apply]
  have hj : ((cfg0.win 2).blk t).view.emb (ix3 0 r k : S1x512x512.Idx) = (ix3 (ptB t) (ptS t r) k : S4x4096x512.Idx) := by
    obtain ⟨e0, e1, e2⟩ := idx2 t
    funext a
    apply Fin.ext
    match a with
    | ⟨0, _⟩ => show win0_2.index t 0 * 1 + 1 * (0 : Fin 1).val = _; rw [e0]; first | rfl | (simp only [ptB, ptS, ix2, ix3]; omega) | (simp [ptB, ptS, ix2, ix3])
    | ⟨1, _⟩ => show win0_2.index t 1 * 512 + 1 * r.val = _; rw [e1]; first | rfl | (simp only [ptB, ptS, ix2, ix3]; omega) | (simp [ptB, ptS, ix2, ix3])
    | ⟨2, _⟩ => show win0_2.index t 2 * 512 + 1 * k.val = _; rw [e2]; first | rfl | (simp only [ptB, ptS, ix2, ix3]; omega) | (simp [ptB, ptS, ix2, ix3])
  show V m c main_v9 _ = _
  rw [hj]
  exact v9_at m c (ptB t) (ptS t r) k

theorem blk3 (c : Dev nD) (t : Fin cfg0.N) (k : Fin 1024) :
    (iblk m c 3 t : Vec Ideal S1x1x1024 .f32) (ix3 0 0 k) = hM m c (ix3 (ptB t) 0 ⟨2048 + k.val, by have := k.isLt; omega⟩) := by
  unfold iblk
  rw [View.read_apply]
  show V m c main_arg3 _ = _
  entry_read
  show m (c, Proc.tc.devRef main_arg3) _ = m (c, Proc.tc.devRef main_arg3) _
  congr 1
  obtain ⟨e0, e1, e2⟩ := idx3 t
  funext a
  apply Fin.ext
  match a with
  | ⟨0, _⟩ => show win0_3.index t 0 * 1 + 1 * (0 : Fin 1).val = _; rw [e0]; first | rfl | (simp only [ptB, ptS, ix2, ix3]; omega) | (simp [ptB, ptS, ix2, ix3])
  | ⟨1, _⟩ => show win0_3.index t 1 * 1 + 1 * (0 : Fin 1).val = _; rw [e1]; first | rfl | (simp only [ptB, ptS, ix2, ix3]; omega) | (simp [ptB, ptS, ix2, ix3])
  | ⟨2, _⟩ => show win0_3.index t 2 * 1024 + 1 * k.val = _; rw [e2]; first | rfl | (simp only [ptB, ptS, ix2, ix3]; omega) | (simp [ptB, ptS, ix2, ix3])

theorem blk4 (c : Dev nD) (t : Fin cfg0.N) (k : Fin 1024) :
    (iblk m c 4 t : Vec Ideal S1x1x1024 .f32) (ix3 0 0 k) = hM m c (ix3 (ptB t) 0 ⟨3072 + k.val, by have := k.isLt; omega⟩) := by
  unfold iblk
  rw [View.read_apply]
  show V m c main_arg3 _ = _
  entry_read
  show m (c, Proc.tc.devRef main_arg3) _ = m (c, Proc.tc.devRef main_arg3) _
  congr 1
  obtain ⟨e0, e1, e2⟩ := idx4 t
  funext a
  apply Fin.ext
  match a with
  | ⟨0, _⟩ => show win0_4.index t 0 * 1 + 1 * (0 : Fin 1).val = _; rw [e0]; first | rfl | (simp only [ptB, ptS, ix2, ix3]; omega) | (simp [ptB, ptS, ix2, ix3])
  | ⟨1, _⟩ => show win0_4.index t 1 * 1 + 1 * (0 : Fin 1).val = _; rw [e1]; first | rfl | (simp only [ptB, ptS, ix2, ix3]; omega) | (simp [ptB, ptS, ix2, ix3])
  | ⟨2, _⟩ => show win0_4.index t 2 * 1024 + 1 * k.val = _; rw [e2]; first | rfl | (simp only [ptB, ptS, ix2, ix3]; omega) | (simp [ptB, ptS, ix2, ix3])

theorem blk5 (c : Dev nD) (t : Fin cfg0.N) (k : Fin 1024) :
    (iblk m c 5 t : Vec Ideal S1x1x1024 .f32) (ix3 0 0 k) = hM m c (ix3 (ptB t) 0 ⟨4096 + k.val, by have := k.isLt; omega⟩) := by
  unfold iblk
  rw [View.read_apply]
  show V m c main_arg3 _ = _
  entry_read
  show m (c, Proc.tc.devRef main_arg3) _ = m (c, Proc.tc.devRef main_arg3) _
  congr 1
  obtain ⟨e0, e1, e2⟩ := idx5 t
  funext a
  apply Fin.ext
  match a with
  | ⟨0, _⟩ => show win0_5.index t 0 * 1 + 1 * (0 : Fin 1).val = _; rw [e0]; first | rfl | (simp only [ptB, ptS, ix2, ix3]; omega) | (simp [ptB, ptS, ix2, ix3])
  | ⟨1, _⟩ => show win0_5.index t 1 * 1 + 1 * (0 : Fin 1).val = _; rw [e1]; first | rfl | (simp only [ptB, ptS, ix2, ix3]; omega) | (simp [ptB, ptS, ix2, ix3])
  | ⟨2, _⟩ => show win0_5.index t 2 * 1024 + 1 * k.val = _; rw [e2]; first | rfl | (simp only [ptB, ptS, ix2, ix3]; omega) | (simp [ptB, ptS, ix2, ix3])

theorem blk6 (c : Dev nD) (t : Fin cfg0.N) (k j : Fin 1024) :
    (iblk m c 6 t : Vec Ideal S1024x1024 .bf16) (ix2 k j) = hW m c (ix2 k j) := by
  unfold iblk
  rw [View.read_apply]
  have hj : ((cfg0.win 6).blk t).view.emb (ix2 k j : S1024x1024.Idx) = (ix2 k j : S1024x1024.Idx) := by
    obtain ⟨e0, e1⟩ := idx6 t
    funext a
    apply Fin.ext
    match a with
    | ⟨0, _⟩ => show win0_6.index t 0 * 1024 + 1 * k.val = _; rw [e0]; first | rfl | (simp only [ptB, ptS, ix2, ix3]; omega) | (simp [ptB, ptS, ix2, ix3])
    | ⟨1, _⟩ => show win0_6.index t 1 * 1024 + 1 * j.val = _; rw [e1]; first | rfl | (simp only [ptB, ptS, ix2, ix3]; omega) | (simp [ptB, ptS, ix2, ix3])
  show V m c main_v10 _ = _
  rw [hj]
  exact v10_at m c k j

theorem blk7 (c : Dev nD) (t : Fin cfg0.N) (k : Fin 1024) :
    (iblk m c 7 t : Vec Ideal S1x1024 .f32) (ix2 0 k) = hN m c (ix1 k) := by
  unfold iblk
  rw [View.read_apply]
  have hj : ((cfg0.win 7).blk t).view.emb (ix2 0 k : S1x1024.Idx) = (ix2 0 k : S1x1024.Idx) := by
    obtain ⟨e0, e1⟩ := idx7 t
    funext a
    apply Fin.ext
    match a with
    | ⟨0, _⟩ => show win0_7.index t 0 * 1 + 1 * (0 : Fin 1).val = _; rw [e0]; first | rfl | (simp only [ptB, ptS, ix2, ix3]; omega) | (simp [ptB, ptS, ix2, ix3])
    | ⟨1, _⟩ => show win0_7.index t 1 * 1024 + 1 * k.val = _; rw [e1]; first | rfl | (simp only [ptB, ptS, ix2, ix3]; omega) | (simp [ptB, ptS, ix2, ix3])
  show V m c main_v11 _ = _
  rw [hj]
  exact v11_at m c k

end Cert.PostIdeal.Gen
end
-- ==== Proof.PostValue.lean ====
/- The output projection at the ideal instance: its residual array and its array of normalised features, entry by entry, are the
   reference's. -/
module

public import proofs.«01_k».proof.Defs
public import proofs.«01_k».proof.Proof.PostBlocks
public import proofs.«01_k».proof.Proof.Gen.PostRefIdeal.Run
public import Idealize.ShloMosaic.Lib.Claim

@[expose] public section

open Idealize.ShloMosaic Idealize.ShloMosaic.TcCoe Idealize.SL.Sem

noncomputable section

namespace Cert.Proof.Post

/-- A row of two parts against a column of the weight is the first part against the column's upper half plus the second against
    its lower half. -/
theorem halves (a y : Fin 512 → EReal) (w : Fin 1024 → EReal) :
    (∑ k : Fin 1024, (if h : k.val < 512 then a ⟨k.val, h⟩ else y ⟨k.val - 512, by have := k.isLt; omega⟩) * w k)
      = (∑ k, a k * w ⟨k.val, by have := k.isLt; omega⟩) + ∑ k, y k * w ⟨512 + k.val, by have := k.isLt; omega⟩ := by
  refine (Fin.sum_univ_add (a := 512) (b := 512) (fun k : Fin 1024 =>
    (if h : k.val < 512 then a ⟨k.val, h⟩ else y ⟨k.val - 512, by have := k.isLt; omega⟩) * w k)).trans ?_
  refine congrArg₂ (fun p q : EReal => p + q) (Finset.sum_congr rfl fun k _ => ?_) (Finset.sum_congr rfl fun k _ => ?_)
  · have hk : (Fin.castAdd 512 k).val < 512 := k.isLt
    rw [dif_pos hk]
    rfl
  · have hk : ¬ (Fin.natAdd 512 k).val < 512 := by show ¬ 512 + k.val < 512; omega
    rw [dif_neg hk]
    have e : (⟨(Fin.natAdd 512 k).val - 512, by have := k.isLt; show 512 + k.val - 512 < 512; omega⟩ : Fin 512) = k := Fin.ext (by show 512 + k.val - 512 = k.val; omega)
    rw [e]
    rfl

end Cert.Proof.Post

namespace Cert.PostIdeal.Gen

open Cert.PostIdeal Cert.Proof.Post Cert.Proof.In

set_option maxRecDepth 16384
set_option maxHeartbeats 8000000

variable (m : (ℓ : Loc nD τ sig) → Buf (Elt Ideal) ℓ)

theorem flush10 : ∀ t : Fin cfg0.N, (cfg0.win 10).flush t = true := (by decide +kernel : ∀ t : Fin grid0.N, _)

/-- Output window 10's array at the place of a grid point's block entry is what the point leaves there. -/
theorem arr10 (c : Dev nD) (t : Fin cfg0.N) (r : Fin 512) (l : Fin 1024) :
    ((dats m 0 c).arrAt 10 cfg0.N : S4x4096x1024.Idx → EReal) (ix3 (ptB t) (ptS t r) l)
      = out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (ix3 0 r l) := by
  have e := congrFun (Value.blocks10 m c t (flush10 t)) (ix3 0 r l : S1x512x1024.Idx)
  rw [View.read_apply, Value.flushed10_A] at e
  have hj : ((cfg0.win 10).blk t).view.emb (ix3 0 r l : S1x512x1024.Idx) = (ix3 (ptB t) (ptS t r) l : S4x4096x1024.Idx) := by
    obtain ⟨e0, e1, e2⟩ := idx10 t
    funext a
    apply Fin.ext
    match a with
    | ⟨0, _⟩ => show win0_10.index t 0 * 1 + 1 * (0 : Fin 1).val = _; rw [e0]; first | rfl | (simp only [ptB, ptS, ix3]; omega) | (simp [ptB, ptS, ix3])
    | ⟨1, _⟩ => show win0_10.index t 1 * 512 + 1 * r.val = _; rw [e1]; first | rfl | (simp only [ptB, ptS, ix3]; omega) | (simp [ptB, ptS, ix3])
    | ⟨2, _⟩ => show win0_10.index t 2 * 1024 + 1 * l.val = _; rw [e2]; first | rfl | (simp only [ptB, ptS, ix3]; omega) | (simp [ptB, ptS, ix3])
  rw [hj] at e
  exact e

theorem flush11 : ∀ t : Fin cfg0.N, (cfg0.win 11).flush t = true := (by decide +kernel : ∀ t : Fin grid0.N, _)

/-- Output window 11's array at the place of a grid point's block entry is what the point leaves there. -/
theorem arr11 (c : Dev nD) (t : Fin cfg0.N) (r : Fin 512) (l : Fin 1024) :
    ((dats m 0 c).arrAt 11 cfg0.N : S4x4096x1024.Idx → EReal) (ix3 (ptB t) (ptS t r) l)
      = out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (ix3 0 r l) := by
  have e := congrFun (Value.blocks11 m c t (flush11 t)) (ix3 0 r l : S1x512x1024.Idx)
  rw [View.read_apply, Value.flushed11_A] at e
  have hj : ((cfg0.win 11).blk t).view.emb (ix3 0 r l : S1x512x1024.Idx) = (ix3 (ptB t) (ptS t r) l : S4x4096x1024.Idx) := by
    obtain ⟨e0, e1, e2⟩ := idx11 t
    funext a
    apply Fin.ext
    match a with
    | ⟨0, _⟩ => show win0_11.index t 0 * 1 + 1 * (0 : Fin 1).val = _; rw [e0]; first | rfl | (simp only [ptB, ptS, ix3]; omega) | (simp [ptB, ptS, ix3])
    | ⟨1, _⟩ => show win0_11.index t 1 * 512 + 1 * r.val = _; rw [e1]; first | rfl | (simp only [ptB, ptS, ix3]; omega) | (simp [ptB, ptS, ix3])
    | ⟨2, _⟩ => show win0_11.index t 2 * 1024 + 1 * l.val = _; rw [e2]; first | rfl | (simp only [ptB, ptS, ix3]; omega) | (simp [ptB, ptS, ix3])
  rw [hj] at e
  exact e

theorem point_of (b : Fin 4) (s : Fin 4096) : ∃ (t : Fin cfg0.N) (r : Fin 512), ptB t = b ∧ ptS t r = s := by
  have hb := b.isLt; have hs := s.isLt
  refine ⟨⟨b.val * 8 + s.val / 512, by rw [show cfg0.N = 32 from N_0]; omega⟩, ⟨s.val % 512, by omega⟩, Fin.ext ?_, Fin.ext ?_⟩
  · show (b.val * 8 + s.val / 512) / 8 = b.val; omega
  · show (b.val * 8 + s.val / 512) % 8 * 512 + s.val % 512 = s.val; omega

/-- One entry of the residual stream after the mixers, from the call's argument arrays. -/
abbrev stream (c : Dev nD) (b : Fin 4) (s : Fin 4096) (j : Fin 1024) : EReal :=
  res (hX m c (ix3 b s j)) (hM m c (ix3 b 0 ⟨2048 + j.val, by have := j.isLt; omega⟩)) (fun k => hA m c (ix3 b s k)) (fun k => hY m c (ix3 b s k))
    (fun k => hW m c (ix2 k j))

theorem row_eq (c : Dev nD) (t : Fin cfg0.N) (r : Fin 512) (j : Fin 1024) :
    res ((iblk m c 0 t : Vec Ideal S1x512x1024 .f32) (ix3 0 r j)) ((iblk m c 3 t : Vec Ideal S1x1x1024 .f32) (ix3 0 0 j))
        (fun k => (iblk m c 1 t : Vec Ideal S1x512x512 .bf16) (ix3 0 r k)) (fun k => (iblk m c 2 t : Vec Ideal S1x512x512 .bf16) (ix3 0 r k))
        (fun k => (iblk m c 6 t : Vec Ideal S1024x1024 .bf16) (ix2 k j))
      = stream m c (ptB t) (ptS t r) j := by
  unfold stream
  simp only [blk0, blk1, blk2, blk3, blk6]

/-- The call's residual array, entry by entry. -/
theorem x1_eq (c : Dev nD) (b : Fin 4) (s : Fin 4096) (j : Fin 1024) :
    ((dats m 0 c).arrAt 10 cfg0.N : S4x4096x1024.Idx → EReal) (ix3 b s j) = stream m c b s j := by
  obtain ⟨t, r, rfl, rfl⟩ := point_of b s
  rw [arr10, x1_apply]
  exact row_eq m c t r j

/-- The call's array of normalised features, entry by entry. -/
theorem h2_eq (c : Dev nD) (b : Fin 4) (s : Fin 4096) (j : Fin 1024) :
    ((dats m 0 c).arrAt 11 cfg0.N : S4x4096x1024.Idx → EReal) (ix3 b s j)
      = feat (fun j => stream m c b s j) (fun j => hN m c (ix1 j)) (fun j => hM m c (ix3 b 0 ⟨4096 + j.val, by have := j.isLt; omega⟩))
          (fun j => hM m c (ix3 b 0 ⟨3072 + j.val, by have := j.isLt; omega⟩)) j := by
  obtain ⟨t, r, rfl, rfl⟩ := point_of b s
  rw [arr11, h2_apply]
  simp only [row_eq, blk4, blk5, blk7]

end Cert.PostIdeal.Gen

namespace Cert.PostRefIdeal.Value

open Cert.PostRefIdeal Cert.PostRefIdeal.Gen Cert.Proof.Post Cert.Proof.In

set_option maxRecDepth 16384
set_option maxHeartbeats 8000000

theorem ref_x1 (a0 : Vec Ideal S4x4096x1024 .f32) (a1 a2 : Vec Ideal S4x4096x512 .f32) (a3 : Vec Ideal S4x1x6144 .f32) (a4 : Vec Ideal S1024x1024 .f32)
    (b : Fin 4) (s : Fin 4096) (j : Fin 1024) :
    (addf a0 (mulf (broadcastInDim S4x4096x1024 ![0, 1, 2] bcast_S4x1x1024_S4x4096x1024_0_1_2 (extractStridedSlice S4x1x1024 ![0, 0, 2048] a3 slices_S4x1x6144_S4x1x1024_0_0_2048)) (Host.dotGeneral (F := Ideal) (φ₁ := .f32) (φ₂ := .f32) dot_S4x4096x1024_S1024x1024_S4x4096x1024_2_0_01_1_n_n none (concatenate S4x4096x1024 2 [⟨S4x4096x512, (a1 : Vec Ideal S4x4096x512 .f32)⟩, ⟨S4x4096x512, (a2 : Vec Ideal S4x4096x512 .f32)⟩] concatenates_S4x4096x512_S4x4096x512_S4x4096x1024_d2) a4)) : Vec Ideal S4x4096x1024 .f32) (ix3 b s j)
      = res (a0 (ix3 b s j)) (a3 (ix3 b 0 ⟨2048 + j.val, by have := j.isLt; omega⟩)) (fun k => a1 (ix3 b s k)) (fun k => a2 (ix3 b s k)) (fun k => a4 (ix2 k j)) := by
  unfold res
  refine Eq.trans ?_ (congrArg (fun w : EReal => a0 (ix3 b s j) + a3 (ix3 b 0 ⟨2048 + j.val, by have := j.isLt; omega⟩) * w)
    (halves (fun k => a1 (ix3 b s k)) (fun k => a2 (ix3 b s k)) (fun k => a4 (ix2 k j))))
  pointwise

theorem ref_norm (z : Vec Ideal S4x4096x1024 .f32) (a3 : Vec Ideal S4x1x6144 .f32) (a5 : Vec Ideal S1024 .f32)
    (b : Fin 4) (s : Fin 4096) (j : Fin 1024) :
    (truncf .bf16 (addf (mulf (mulf (mulf z (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf z z) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a5))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 4096] a3 slices_S4x1x6144_S4x1x1024_0_0_4096)))) (broadcastInDim S4x4096x1024 ![0, 1, 2] bcast_S4x1x1024_S4x4096x1024_0_1_2 (extractStridedSlice S4x1x1024 ![0, 0, 3072] a3 slices_S4x1x6144_S4x1x1024_0_0_3072))) bitsLt_bf16_f32 : Vec Ideal S4x4096x1024 .bf16) (ix3 b s j)
      = feat (fun j => z (ix3 b s j)) (fun j => a5 (ix1 j)) (fun j => a3 (ix3 b 0 ⟨4096 + j.val, by have := j.isLt; omega⟩))
          (fun j => a3 (ix3 b 0 ⟨3072 + j.val, by have := j.isLt; omega⟩)) j := by
  pointwise [feat]

theorem ref_h2 (a0 : Vec Ideal S4x4096x1024 .f32) (a1 a2 : Vec Ideal S4x4096x512 .f32) (a3 : Vec Ideal S4x1x6144 .f32) (a4 : Vec Ideal S1024x1024 .f32) (a5 : Vec Ideal S1024 .f32)
    (b : Fin 4) (s : Fin 4096) (j : Fin 1024) :
    (truncf .bf16 (addf (mulf (mulf (mulf (addf a0 (mulf (broadcastInDim S4x4096x1024 ![0, 1, 2] bcast_S4x1x1024_S4x4096x1024_0_1_2 (extractStridedSlice S4x1x1024 ![0, 0, 2048] a3 slices_S4x1x6144_S4x1x1024_0_0_2048)) (Host.dotGeneral (F := Ideal) (φ₁ := .f32) (φ₂ := .f32) dot_S4x4096x1024_S1024x1024_S4x4096x1024_2_0_01_1_n_n none (concatenate S4x4096x1024 2 [⟨S4x4096x512, (a1 : Vec Ideal S4x4096x512 .f32)⟩, ⟨S4x4096x512, (a2 : Vec Ideal S4x4096x512 .f32)⟩] concatenates_S4x4096x512_S4x4096x512_S4x4096x1024_d2) a4))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (addf a0 (mulf (broadcastInDim S4x4096x1024 ![0, 1, 2] bcast_S4x1x1024_S4x4096x1024_0_1_2 (extractStridedSlice S4x1x1024 ![0, 0, 2048] a3 slices_S4x1x6144_S4x1x1024_0_0_2048)) (Host.dotGeneral (F := Ideal) (φ₁ := .f32) (φ₂ := .f32) dot_S4x4096x1024_S1024x1024_S4x4096x1024_2_0_01_1_n_n none (concatenate S4x4096x1024 2 [⟨S4x4096x512, (a1 : Vec Ideal S4x4096x512 .f32)⟩, ⟨S4x4096x512, (a2 : Vec Ideal S4x4096x512 .f32)⟩] concatenates_S4x4096x512_S4x4096x512_S4x4096x1024_d2) a4))) (addf a0 (mulf (broadcastInDim S4x4096x1024 ![0, 1, 2] bcast_S4x1x1024_S4x4096x1024_0_1_2 (extractStridedSlice S4x1x1024 ![0, 0, 2048] a3 slices_S4x1x6144_S4x1x1024_0_0_2048)) (Host.dotGeneral (F := Ideal) (φ₁ := .f32) (φ₂ := .f32) dot_S4x4096x1024_S1024x1024_S4x4096x1024_2_0_01_1_n_n none (concatenate S4x4096x1024 2 [⟨S4x4096x512, (a1 : Vec Ideal S4x4096x512 .f32)⟩, ⟨S4x4096x512, (a2 : Vec Ideal S4x4096x512 .f32)⟩] concatenates_S4x4096x512_S4x4096x512_S4x4096x1024_d2) a4)))) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a5))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 4096] a3 slices_S4x1x6144_S4x1x1024_0_0_4096)))) (broadcastInDim S4x4096x1024 ![0, 1, 2] bcast_S4x1x1024_S4x4096x1024_0_1_2 (extractStridedSlice S4x1x1024 ![0, 0, 3072] a3 slices_S4x1x6144_S4x1x1024_0_0_3072))) bitsLt_bf16_f32 : Vec Ideal S4x4096x1024 .bf16) (ix3 b s j)
      = feat (fun j => res (a0 (ix3 b s j)) (a3 (ix3 b 0 ⟨2048 + j.val, by have := j.isLt; omega⟩)) (fun k => a1 (ix3 b s k)) (fun k => a2 (ix3 b s k)) (fun k => a4 (ix2 k j)))
          (fun j => a5 (ix1 j)) (fun j => a3 (ix3 b 0 ⟨4096 + j.val, by have := j.isLt; omega⟩))
          (fun j => a3 (ix3 b 0 ⟨3072 + j.val, by have := j.isLt; omega⟩)) j := by
  refine (ref_norm _ a3 a5 b s j).trans ?_
  exact congrArg (fun f => feat f (fun j => a5 (ix1 j)) (fun j => a3 (ix3 b 0 ⟨4096 + j.val, by have := j.isLt; omega⟩))
    (fun j => a3 (ix3 b 0 ⟨3072 + j.val, by have := j.isLt; omega⟩)) j) (funext fun j => ref_x1 a0 a1 a2 a3 a4 b s j)

end Cert.PostRefIdeal.Value

namespace Cert.Proof.Post

set_option maxRecDepth 16384
set_option maxHeartbeats 8000000

/-- The value claim of the output projection: over the extended reals its two arrays are the reference's. -/
theorem algebraic : Cert.algebraic_PostIdeal_PostRefIdeal (hPostIdeal := Cert.PostIdeal.Gen.facts) (hPostRefIdeal := Cert.PostRefIdeal.Gen.facts) := by
  intro m g m' g' _ hagree
  refine ⟨fun c => (Cert.PostIdeal.Gen.dats m 0 c).arrAt 10 Cert.PostIdeal.cfg0.N, fun c => (Cert.PostIdeal.Gen.dats m 0 c).arrAt 11 Cert.PostIdeal.cfg0.N,
    θ_run_mono (Cert.PostIdeal.Value.run_blocks m g) fun r h c => ?_,
    θ_run_mono (Cert.PostRefIdeal.Value.run m' g') fun r h c => ⟨(h c).1.trans ?_, (h c).2.1.trans ?_, (h c).2.2⟩⟩
  · obtain ⟨h1, h2, -, ha⟩ := h c
    exact ⟨h1, h2, ha⟩
  all_goals obtain ⟨e0, e1, e2, e3, e4, e5, e6, e7, e8, e9⟩ := hagree c
  · rw [e0, e1, e2, e3, e4]
    funext i
    obtain ⟨b, s, l, rfl⟩ : ∃ (b : Fin 4) (s : Fin 4096) (l : Fin 1024), i = (ix3 b s l : Cert.PostIdeal.S4x4096x1024.Idx) :=
      ⟨i 0, i 1, i 2, funext fun a => by fin_cases a <;> rfl⟩
    exact (Cert.PostRefIdeal.Value.ref_x1 _ _ _ _ _ b s l).trans (Cert.PostIdeal.Gen.x1_eq m c b s l).symm
  · rw [e0, e1, e2, e3, e4, e5]
    funext i
    obtain ⟨b, s, l, rfl⟩ : ∃ (b : Fin 4) (s : Fin 4096) (l : Fin 1024), i = (ix3 b s l : Cert.PostIdeal.S4x4096x1024.Idx) :=
      ⟨i 0, i 1, i 2, funext fun a => by fin_cases a <;> rfl⟩
    exact (Cert.PostRefIdeal.Value.ref_h2 _ _ _ _ _ _ b s l).trans (Cert.PostIdeal.Gen.h2_eq m c b s l).symm

end Cert.Proof.Post

end
-- ==== Proof.PostSampleStep.lean ====
/- One tile of the output projection at the sample batch's shapes, at the ideal instance: what a grid point leaves in its residual block and in its block
   of normalised features, read entry by entry. -/
module

public import proofs.«01_k».proof.Proof.Gen.PostSampleIdeal.Value
public import proofs.«01_k».proof.Proof.InStep
public import proofs.«01_k».proof.Proof.PostStep
public import Idealize.ShloMosaic.Lib.Pointwise
public import Idealize.ShloMosaic.Lib.Tactic

@[expose] public section

open Idealize.ShloMosaic

noncomputable section

namespace Cert.PostSampleIdeal.Gen

open Cert.PostSampleIdeal Cert.Proof.Post Cert.Proof.In

set_option maxRecDepth 16384
set_option maxHeartbeats 4000000

theorem zero2 : (![0, 0] : Fin 2 → Nat) = fun _ => 0 := funext fun a => by fin_cases a <;> rfl
theorem zero3 : (![0, 0, 0] : Fin 3 → Nat) = fun _ => 0 := funext fun a => by fin_cases a <;> rfl

/-- The two halves of the output weight that a grid point loads, by rows. -/
theorem top_apply (x6 : Vec Ideal S1024x1024 .bf16) (k : Fin 512) (j : Fin 1024) :
    View.ld x6 (Rect.unit ![0, 0] S512x1024.size inb_S1024x1024_S512x1024_0_0) (ix2 k j) = x6 (ix2 ⟨k.val, by have := k.isLt; omega⟩ j) := by
  refine congrArg x6 (funext fun a => Fin.ext ?_)
  match a with
  | ⟨0, _⟩ => show 0 + 1 * k.val = k.val; omega
  | ⟨1, _⟩ => show 0 + 1 * j.val = j.val; omega

theorem low_apply (x6 : Vec Ideal S1024x1024 .bf16) (k : Fin 512) (j : Fin 1024) :
    View.ld x6 (Rect.unit ![512, 0] S512x1024.size inb_S1024x1024_S512x1024_512_0) (ix2 k j) = x6 (ix2 ⟨512 + k.val, by have := k.isLt; omega⟩ j) := by
  refine congrArg x6 (funext fun a => Fin.ext ?_)
  match a with
  | ⟨0, _⟩ => show 512 + 1 * k.val = 512 + k.val; omega
  | ⟨1, _⟩ => show 0 + 1 * j.val = j.val; omega

theorem res_apply (x0 : Vec Ideal S8x64x1024 .f32) (x1 x2 : Vec Ideal S8x64x512 .bf16) (x3 : Vec Ideal S8x1x1024 .f32) (wa wy : Vec Ideal S512x1024 .bf16)
    (p : Fin 8) (r : Fin 64) (j : Fin 1024) :
    k0_pay3 (F := Ideal) x1 x2 wa wy x0 x3 (ix3 p r j)
      = x0 (ix3 p r j) + x3 (ix3 p 0 j) * ((∑ k, x1 (ix3 p r k) * wa (ix2 k j)) + ∑ k, x2 (ix3 p r k) * wy (ix2 k j)) := by
  pointwise [k0_pay3]

theorem res_row (x0 : Vec Ideal S8x64x1024 .f32) (x1 x2 : Vec Ideal S8x64x512 .bf16) (x3 : Vec Ideal S8x1x1024 .f32) (x6 : Vec Ideal S1024x1024 .bf16)
    (p : Fin 8) (r : Fin 64) (j : Fin 1024) :
    k0_pay3 (F := Ideal) x1 x2 (View.ld x6 (Rect.unit ![0, 0] S512x1024.size inb_S1024x1024_S512x1024_0_0))
        (View.ld x6 (Rect.unit ![512, 0] S512x1024.size inb_S1024x1024_S512x1024_512_0)) x0 x3 (ix3 p r j)
      = res (x0 (ix3 p r j)) (x3 (ix3 p 0 j)) (fun k => x1 (ix3 p r k)) (fun k => x2 (ix3 p r k)) (fun k => x6 (ix2 k j)) := by
  refine (res_apply x0 x1 x2 x3 _ _ p r j).trans ?_
  unfold res
  refine congrArg (fun z : EReal => x0 (ix3 p r j) + x3 (ix3 p 0 j) * z) (congrArg₂ (fun a b : EReal => a + b) ?_ ?_)
  · exact Finset.sum_congr rfl fun k _ => congrArg (fun z : EReal => x1 (ix3 p r k) * z) (top_apply x6 k j)
  · exact Finset.sum_congr rfl fun k _ => congrArg (fun z : EReal => x2 (ix3 p r k) * z) (low_apply x6 k j)

theorem norm_apply (x0 : Vec Ideal S8x64x1024 .f32) (x1 x2 : Vec Ideal S8x64x512 .bf16) (x3 x4 x5 : Vec Ideal S8x1x1024 .f32) (wa wy : Vec Ideal S512x1024 .bf16)
    (x7 : Vec Ideal S1x1024 .f32) (p : Fin 8) (r : Fin 64) (j : Fin 1024) :
    k0_pay6 (F := Ideal) (k0_pay4 (F := Ideal) x1 x2 wa wy x0 x3) x7 x5 x4 (ix3 p r j)
      = feat (fun j => k0_pay3 (F := Ideal) x1 x2 wa wy x0 x3 (ix3 p r j)) (fun j => x7 (ix2 0 j)) (fun j => x5 (ix3 p 0 j)) (fun j => x4 (ix3 p 0 j)) j := by
  unfold k0_pay6 k0_pay5 k0_pay4
  generalize k0_pay3 (F := Ideal) x1 x2 wa wy x0 x3 = z
  pointwise [feat]

theorem x1_apply (c : Dev nD) (i : grid0.Coords) (arg2 : Memref sig .tc .vmem S8x64x1024 .f32) (harg2 : arg2.IsWhole) (arg3 : Memref sig .tc .vmem S8x64x512 .bf16) (harg3 : arg3.IsWhole) (arg4 : Memref sig .tc .vmem S8x64x512 .bf16) (harg4 : arg4.IsWhole) (arg5 : Memref sig .tc .vmem S8x1x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1 .f32) (harg11 : arg11.IsWhole) (arg12 : Memref sig .tc .vmem S8x64x1024 .f32) (harg12 : arg12.IsWhole) (arg13 : Memref sig .tc .vmem S8x64x1024 .bf16) (harg13 : arg13.IsWhole) (arg14 : Memref sig .tc .vmem S8x64x128 .f32) (harg14 : arg14.IsWhole) (arg15 : Memref sig .tc .vmem S128x512 .f32) (harg15 : arg15.IsWhole)
    (x0 : Vec Ideal S8x64x1024 .f32) (x1 : Vec Ideal S8x64x512 .bf16) (x2 : Vec Ideal S8x64x512 .bf16) (x3 : Vec Ideal S8x1x1024 .f32) (x4 : Vec Ideal S8x1x1024 .f32) (x5 : Vec Ideal S8x1x1024 .f32) (x6 : Vec Ideal S1024x1024 .bf16) (x7 : Vec Ideal S1x1024 .f32) (x8 : Vec Ideal S32x1024 .bf16) (x9 : Vec Ideal S32x1 .f32) (p : Fin 8) (r : Fin 64) (j : Fin 1024) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 (ix3 p r j)
      = res (x0 (ix3 p r j)) (x3 (ix3 p 0 j)) (fun k => x1 (ix3 p r k)) (fun k => x2 (ix3 p r k)) (fun k => x6 (ix2 k j)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  unfold kernelRun0_A
  dsimp only
  sl_unfold_words
  rw [View.canon_unit_zero (S := S8x64x1024) zero3]
  simp only [View.readAt_eq_ld, harg2.read_unread, harg3.read_unread, harg4.read_unread, harg5.read_unread, harg6.read_unread, harg7.read_unread, harg8.read_unread, harg9.read_unread, harg10.read_unread, harg11.read_unread]
  simp only [View.ld_unit_zero (S := S8x64x512) zero3, View.ld_unit_zero (S := S8x64x1024) zero3, View.ld_unit_zero (S := S8x1x1024) zero3, View.ld_unit_zero (S := S1x1024) zero2]
  exact res_row x0 x1 x2 x3 x6 p r j

theorem h2_apply (c : Dev nD) (i : grid0.Coords) (arg2 : Memref sig .tc .vmem S8x64x1024 .f32) (harg2 : arg2.IsWhole) (arg3 : Memref sig .tc .vmem S8x64x512 .bf16) (harg3 : arg3.IsWhole) (arg4 : Memref sig .tc .vmem S8x64x512 .bf16) (harg4 : arg4.IsWhole) (arg5 : Memref sig .tc .vmem S8x1x1024 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1 .f32) (harg11 : arg11.IsWhole) (arg12 : Memref sig .tc .vmem S8x64x1024 .f32) (harg12 : arg12.IsWhole) (arg13 : Memref sig .tc .vmem S8x64x1024 .bf16) (harg13 : arg13.IsWhole) (arg14 : Memref sig .tc .vmem S8x64x128 .f32) (harg14 : arg14.IsWhole) (arg15 : Memref sig .tc .vmem S128x512 .f32) (harg15 : arg15.IsWhole)
    (x0 : Vec Ideal S8x64x1024 .f32) (x1 : Vec Ideal S8x64x512 .bf16) (x2 : Vec Ideal S8x64x512 .bf16) (x3 : Vec Ideal S8x1x1024 .f32) (x4 : Vec Ideal S8x1x1024 .f32) (x5 : Vec Ideal S8x1x1024 .f32) (x6 : Vec Ideal S1024x1024 .bf16) (x7 : Vec Ideal S1x1024 .f32) (x8 : Vec Ideal S32x1024 .bf16) (x9 : Vec Ideal S32x1 .f32) (p : Fin 8) (r : Fin 64) (j : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 (ix3 p r j)
      = feat (fun j => res (x0 (ix3 p r j)) (x3 (ix3 p 0 j)) (fun k => x1 (ix3 p r k)) (fun k => x2 (ix3 p r k)) (fun k => x6 (ix2 k j))) (fun j => x7 (ix2 0 j)) (fun j => x5 (ix3 p 0 j)) (fun j => x4 (ix3 p 0 j)) j := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  unfold kernelRun0_A
  dsimp only
  sl_unfold_words
  rw [View.canon_unit_zero (S := S8x64x1024) zero3]
  simp only [View.readAt_eq_ld, harg2.read_unread, harg3.read_unread, harg4.read_unread, harg5.read_unread, harg6.read_unread, harg7.read_unread, harg8.read_unread, harg9.read_unread, harg10.read_unread, harg11.read_unread]
  simp only [View.ld_unit_zero (S := S8x64x512) zero3, View.ld_unit_zero (S := S8x64x1024) zero3, View.ld_unit_zero (S := S8x1x1024) zero3, View.ld_unit_zero (S := S1x1024) zero2]
  rw [norm_apply]
  exact congrArg (fun f => feat f (fun j => x7 (ix2 0 j)) (fun j => x5 (ix3 p 0 j)) (fun j => x4 (ix3 p 0 j)) j) (funext fun j => res_row x0 x1 x2 x3 x6 p r j)

end Cert.PostSampleIdeal.Gen
end
-- ==== Proof.PostSampleBlocks.lean ====
/- The output projection's windows at the sample batch's shapes, at a grid point, read as entries of the call's argument arrays. -/
module

public import proofs.«01_k».proof.Proof.PostSampleStep
public import Idealize.ShloMosaic.Lib.StableHlo.ReadAt
public import Idealize.ShloMosaic.Lib.Claim

@[expose] public section

open Idealize.ShloMosaic Idealize.ShloMosaic.TcCoe Idealize.SL.Sem

noncomputable section

namespace Cert.PostSampleIdeal.Gen

open Cert.PostSampleIdeal Cert.Proof.Post

set_option maxRecDepth 16384
set_option maxHeartbeats 2000000

variable (m : (ℓ : Loc nD τ sig) → Buf (Elt Ideal) ℓ)

/-- The call's arguments as arrays. -/
abbrev hX (c : Dev nD) : S32x64x1024.Idx → EReal := m ((c : Thread nD τ).loc main_arg0)
abbrev hA (c : Dev nD) : S32x64x512.Idx → EReal := m ((c : Thread nD τ).loc main_arg1)
abbrev hY (c : Dev nD) : S32x64x512.Idx → EReal := m ((c : Thread nD τ).loc main_arg2)
abbrev hM (c : Dev nD) : S32x1x6144.Idx → EReal := m ((c : Thread nD τ).loc main_arg3)
abbrev hW (c : Dev nD) : S1024x1024.Idx → EReal := m ((c : Thread nD τ).loc main_arg4)
abbrev hN (c : Dev nD) : S1024.Idx → EReal := m ((c : Thread nD τ).loc main_arg5)

theorem v8_at (c : Dev nD) (b : Fin 32) (s : Fin 64) (k : Fin 512) : (V m c main_v8 : S32x64x512.Idx → EReal) (ix3 b s k) = hA m c (ix3 b s k) := by
  unfold V
  iterate 10 (try after_reads_at)

theorem v9_at (c : Dev nD) (b : Fin 32) (s : Fin 64) (k : Fin 512) : (V m c main_v9 : S32x64x512.Idx → EReal) (ix3 b s k) = hY m c (ix3 b s k) := by
  unfold V
  iterate 10 (try after_reads_at)

theorem v10_at (c : Dev nD) (k j : Fin 1024) : (V m c main_v10 : S1024x1024.Idx → EReal) (ix2 k j) = hW m c (ix2 k j) := by
  unfold V
  iterate 10 (try after_reads_at)

theorem v11_at (c : Dev nD) (k : Fin 1024) : (V m c main_v11 : S1x1024.Idx → EReal) (ix2 0 k) = hN m c (ix1 k) := by
  unfold V
  iterate 10 (try after_reads_at)

theorem pt_lt (t : Fin cfg0.N) : t.val < 4 := lt_of_lt_of_eq t.isLt N_0

theorem idx0 : ∀ t : Fin cfg0.N, win0_0.index t 0 = t.val ∧ win0_0.index t 1 = 0 ∧ win0_0.index t 2 = 0 :=
  (by decide +kernel : ∀ t : Fin grid0.N, _)
theorem idx1 : ∀ t : Fin cfg0.N, win0_1.index t 0 = t.val ∧ win0_1.index t 1 = 0 ∧ win0_1.index t 2 = 0 :=
  (by decide +kernel : ∀ t : Fin grid0.N, _)
theorem idx2 : ∀ t : Fin cfg0.N, win0_2.index t 0 = t.val ∧ win0_2.index t 1 = 0 ∧ win0_2.index t 2 = 0 :=
  (by decide +kernel : ∀ t : Fin grid0.N, _)
theorem idx3 : ∀ t : Fin cfg0.N, win0_3.index t 0 = t.val ∧ win0_3.index t 1 = 0 ∧ win0_3.index t 2 = 2 :=
  (by decide +kernel : ∀ t : Fin grid0.N, _)
theorem idx4 : ∀ t : Fin cfg0.N, win0_4.index t 0 = t.val ∧ win0_4.index t 1 = 0 ∧ win0_4.index t 2 = 3 :=
  (by decide +kernel : ∀ t : Fin grid0.N, _)
theorem idx5 : ∀ t : Fin cfg0.N, win0_5.index t 0 = t.val ∧ win0_5.index t 1 = 0 ∧ win0_5.index t 2 = 4 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx10 : ∀ t : Fin cfg0.N, win0_10.index t 0 = t.val ∧ win0_10.index t 1 = 0 ∧ win0_10.index t 2 = 0 :=
  (by decide +kernel : ∀ t : Fin grid0.N, _)
theorem idx11 : ∀ t : Fin cfg0.N, win0_11.index t 0 = t.val ∧ win0_11.index t 1 = 0 ∧ win0_11.index t 2 = 0 :=
  (by decide +kernel : ∀ t : Fin grid0.N, _)

/-- The batch of row `p` of a grid point's block. -/
def ptB (t : Fin cfg0.N) (p : Fin 8) : Fin 32 := ⟨t.val * 8 + p.val, by have := pt_lt t; have := p.isLt; omega⟩

theorem blk0 (c : Dev nD) (t : Fin cfg0.N) (p : Fin 8) (r : Fin 64) (k : Fin 1024) :
    (iblk m c 0 t : Vec Ideal S8x64x1024 .f32) (ix3 p r k) = hX m c (ix3 (ptB t p) r k) := by
  unfold iblk
  rw [View.read_apply]
  show V m c main_arg0 _ = _
  entry_read
  show m (c, Proc.tc.devRef main_arg0) _ = m (c, Proc.tc.devRef main_arg0) _
  congr 1
  obtain ⟨e0, e1, e2⟩ := idx0 t
  funext a
  apply Fin.ext
  match a with
  | ⟨0, _⟩ => show win0_0.index t 0 * 8 + 1 * p.val = _; rw [e0]; first | rfl | (simp only [ptB, ix2, ix3]; omega) | (simp [ptB, ix2, ix3])
  | ⟨1, _⟩ => show win0_0.index t 1 * 64 + 1 * r.val = _; rw [e1]; first | rfl | (simp only [ptB, ix2, ix3]; omega) | (simp [ptB, ix2, ix3])
  | ⟨2, _⟩ => show win0_0.index t 2 * 1024 + 1 * k.val = _; rw [e2]; first | rfl | (simp only [ptB, ix2, ix3]; omega) | (simp [ptB, ix2, ix3])

theorem blk1 (c : Dev nD) (t : Fin cfg0.N) (p : Fin 8) (r : Fin 64) (k : Fin 512) :
    (iblk m c 1 t : Vec Ideal S8x64x512 .bf16) (ix3 p r k) = hA m c (ix3 (ptB t p) r k) := by
  unfold iblk
  rw [View.read_apply]
  have hj : ((cfg0.win 1).blk t).view.emb (ix3 p r k : S8x64x512.Idx) = (ix3 (ptB t p) r k : S32x64x512.Idx) := by
    obtain ⟨e0, e1, e2⟩ := idx1 t
    funext a
    apply Fin.ext
    match a with
    | ⟨0, _⟩ => show win0_1.index t 0 * 8 + 1 * p.val = _; rw [e0]; first | rfl | (simp only [ptB, ix2, ix3]; omega) | (simp [ptB, ix2, ix3])
    | ⟨1, _⟩ => show win0_1.index t 1 * 64 + 1 * r.val = _; rw [e1]; first | rfl | (simp only [ptB, ix2, ix3]; omega) | (simp [ptB, ix2, ix3])
    | ⟨2, _⟩ => show win0_1.index t 2 * 512 + 1 * k.val = _; rw [e2]; first | rfl | (simp only [ptB, ix2, ix3]; omega) | (simp [ptB, ix2, ix3])
  show V m c main_v8 _ = _
  rw [hj]
  exact v8_at m c (ptB t p) r k

theorem blk2 (c : Dev nD) (t : Fin cfg0.N) (p : Fin 8) (r : Fin 64) (k : Fin 512) :
    (iblk m c 2 t : Vec Ideal S8x64x512 .bf16) (ix3 p r k) = hY m c (ix3 (ptB t p) r k) := by
  unfold iblk
  rw [View.read_apply]
  have hj : ((cfg0.win 2).blk t).view.emb (ix3 p r k : S8x64x512.Idx) = (ix3 (ptB t p) r k : S32x64x512.Idx) := by
    obtain ⟨e0, e1, e2⟩ := idx2 t
    funext a
    apply Fin.ext
    match a with
    | ⟨0, _⟩ => show win0_2.index t 0 * 8 + 1 * p.val = _; rw [e0]; first | rfl | (simp only [ptB, ix2, ix3]; omega) | (simp [ptB, ix2, ix3])
    | ⟨1, _⟩ => show win0_2.index t 1 * 64 + 1 * r.val = _; rw [e1]; first | rfl | (simp only [ptB, ix2, ix3]; omega) | (simp [ptB, ix2, ix3])
    | ⟨2, _⟩ => show win0_2.index t 2 * 512 + 1 * k.val = _; rw [e2]; first | rfl | (simp only [ptB, ix2, ix3]; omega) | (simp [ptB, ix2, ix3])
  show V m c main_v9 _ = _
  rw [hj]
  exact v9_at m c (ptB t p) r k

theorem blk3 (c : Dev nD) (t : Fin cfg0.N) (p : Fin 8) (k : Fin 1024) :
    (iblk m c 3 t : Vec Ideal S8x1x1024 .f32) (ix3 p 0 k) = hM m c (ix3 (ptB t p) 0 ⟨2048 + k.val, by have := k.isLt; omega⟩) := by
  unfold iblk
  rw [View.read_apply]
  show V m c main_arg3 _ = _
  entry_read
  show m (c, Proc.tc.devRef main_arg3) _ = m (c, Proc.tc.devRef main_arg3) _
  congr 1
  obtain ⟨e0, e1, e2⟩ := idx3 t
  funext a
  apply Fin.ext
  match a with
  | ⟨0, _⟩ => show win0_3.index t 0 * 8 + 1 * p.val = _; rw [e0]; first | rfl | (simp only [ptB, ix2, ix3]; omega) | (simp [ptB, ix2, ix3])
  | ⟨1, _⟩ => show win0_3.index t 1 * 1 + 1 * (0 : Fin 1).val = _; rw [e1]; first | rfl | (simp only [ptB, ix2, ix3]; omega) | (simp [ptB, ix2, ix3])
  | ⟨2, _⟩ => show win0_3.index t 2 * 1024 + 1 * k.val = _; rw [e2]; first | rfl | (simp only [ptB, ix2, ix3]; omega) | (simp [ptB, ix2, ix3])

theorem blk4 (c : Dev nD) (t : Fin cfg0.N) (p : Fin 8) (k : Fin 1024) :
    (iblk m c 4 t : Vec Ideal S8x1x1024 .f32) (ix3 p 0 k) = hM m c (ix3 (ptB t p) 0 ⟨3072 + k.val, by have := k.isLt; omega⟩) := by
  unfold iblk
  rw [View.read_apply]
  show V m c main_arg3 _ = _
  entry_read
  show m (c, Proc.tc.devRef main_arg3) _ = m (c, Proc.tc.devRef main_arg3) _
  congr 1
  obtain ⟨e0, e1, e2⟩ := idx4 t
  funext a
  apply Fin.ext
  match a with
  | ⟨0, _⟩ => show win0_4.index t 0 * 8 + 1 * p.val = _; rw [e0]; first | rfl | (simp only [ptB, ix2, ix3]; omega) | (simp [ptB, ix2, ix3])
  | ⟨1, _⟩ => show win0_4.index t 1 * 1 + 1 * (0 : Fin 1).val = _; rw [e1]; first | rfl | (simp only [ptB, ix2, ix3]; omega) | (simp [ptB, ix2, ix3])
  | ⟨2, _⟩ => show win0_4.index t 2 * 1024 + 1 * k.val = _; rw [e2]; first | rfl | (simp only [ptB, ix2, ix3]; omega) | (simp [ptB, ix2, ix3])

theorem blk5 (c : Dev nD) (t : Fin cfg0.N) (p : Fin 8) (k : Fin 1024) :
    (iblk m c 5 t : Vec Ideal S8x1x1024 .f32) (ix3 p 0 k) = hM m c (ix3 (ptB t p) 0 ⟨4096 + k.val, by have := k.isLt; omega⟩) := by
  unfold iblk
  rw [View.read_apply]
  show V m c main_arg3 _ = _
  entry_read
  show m (c, Proc.tc.devRef main_arg3) _ = m (c, Proc.tc.devRef main_arg3) _
  congr 1
  obtain ⟨e0, e1, e2⟩ := idx5 t
  funext a
  apply Fin.ext
  match a with
  | ⟨0, _⟩ => show win0_5.index t 0 * 8 + 1 * p.val = _; rw [e0]; first | rfl | (simp only [ptB, ix2, ix3]; omega) | (simp [ptB, ix2, ix3])
  | ⟨1, _⟩ => show win0_5.index t 1 * 1 + 1 * (0 : Fin 1).val = _; rw [e1]; first | rfl | (simp only [ptB, ix2, ix3]; omega) | (simp [ptB, ix2, ix3])
  | ⟨2, _⟩ => show win0_5.index t 2 * 1024 + 1 * k.val = _; rw [e2]; first | rfl | (simp only [ptB, ix2, ix3]; omega) | (simp [ptB, ix2, ix3])

theorem blk6 (c : Dev nD) (t : Fin cfg0.N) (k j : Fin 1024) :
    (iblk m c 6 t : Vec Ideal S1024x1024 .bf16) (ix2 k j) = hW m c (ix2 k j) := by
  unfold iblk
  rw [View.read_apply]
  have hj : ((cfg0.win 6).blk t).view.emb (ix2 k j : S1024x1024.Idx) = (ix2 k j : S1024x1024.Idx) := by
    obtain ⟨e0, e1⟩ := idx6 t
    funext a
    apply Fin.ext
    match a with
    | ⟨0, _⟩ => show win0_6.index t 0 * 1024 + 1 * k.val = _; rw [e0]; first | rfl | (simp only [ptB, ix2, ix3]; omega) | (simp [ptB, ix2, ix3])
    | ⟨1, _⟩ => show win0_6.index t 1 * 1024 + 1 * j.val = _; rw [e1]; first | rfl | (simp only [ptB, ix2, ix3]; omega) | (simp [ptB, ix2, ix3])
  show V m c main_v10 _ = _
  rw [hj]
  exact v10_at m c k j

theorem blk7 (c : Dev nD) (t : Fin cfg0.N) (k : Fin 1024) :
    (iblk m c 7 t : Vec Ideal S1x1024 .f32) (ix2 0 k) = hN m c (ix1 k) := by
  unfold iblk
  rw [View.read_apply]
  have hj : ((cfg0.win 7).blk t).view.emb (ix2 0 k : S1x1024.Idx) = (ix2 0 k : S1x1024.Idx) := by
    obtain ⟨e0, e1⟩ := idx7 t
    funext a
    apply Fin.ext
    match a with
    | ⟨0, _⟩ => show win0_7.index t 0 * 1 + 1 * (0 : Fin 1).val = _; rw [e0]; first | rfl | (simp only [ptB, ix2, ix3]; omega) | (simp [ptB, ix2, ix3])
    | ⟨1, _⟩ => show win0_7.index t 1 * 1024 + 1 * k.val = _; rw [e1]; first | rfl | (simp only [ptB, ix2, ix3]; omega) | (simp [ptB, ix2, ix3])
  show V m c main_v11 _ = _
  rw [hj]
  exact v11_at m c k

end Cert.PostSampleIdeal.Gen
end
-- ==== Proof.PostSampleValue.lean ====
/- The output projection at the sample batch's shapes, at the ideal instance: its residual array and its array of normalised features, entry by entry, are the
   reference's. -/
module

public import proofs.«01_k».proof.Defs
public import proofs.«01_k».proof.Proof.PostSampleBlocks
public import proofs.«01_k».proof.Proof.PostValue
public import proofs.«01_k».proof.Proof.Gen.PostSampleRefIdeal.Run
public import Idealize.ShloMosaic.Lib.Claim

@[expose] public section

open Idealize.ShloMosaic Idealize.ShloMosaic.TcCoe Idealize.SL.Sem

noncomputable section

namespace Cert.PostSampleIdeal.Gen

open Cert.PostSampleIdeal Cert.Proof.Post Cert.Proof.In

set_option maxRecDepth 16384
set_option maxHeartbeats 8000000

variable (m : (ℓ : Loc nD τ sig) → Buf (Elt Ideal) ℓ)

theorem flush10 : ∀ t : Fin cfg0.N, (cfg0.win 10).flush t = true := (by decide +kernel : ∀ t : Fin grid0.N, _)

/-- Output window 10's array at the place of a grid point's block entry is what the point leaves there. -/
theorem arr10 (c : Dev nD) (t : Fin cfg0.N) (p : Fin 8) (r : Fin 64) (l : Fin 1024) :
    ((dats m 0 c).arrAt 10 cfg0.N : S32x64x1024.Idx → EReal) (ix3 (ptB t p) r l)
      = out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (ix3 p r l) := by
  have e := congrFun (Value.blocks10 m c t (flush10 t)) (ix3 p r l : S8x64x1024.Idx)
  rw [View.read_apply, Value.flushed10_A] at e
  have hj : ((cfg0.win 10).blk t).view.emb (ix3 p r l : S8x64x1024.Idx) = (ix3 (ptB t p) r l : S32x64x1024.Idx) := by
    obtain ⟨e0, e1, e2⟩ := idx10 t
    funext a
    apply Fin.ext
    match a with
    | ⟨0, _⟩ => show win0_10.index t 0 * 8 + 1 * p.val = _; rw [e0]; first | rfl | (simp only [ptB, ix3]; omega) | (simp [ptB, ix3])
    | ⟨1, _⟩ => show win0_10.index t 1 * 64 + 1 * r.val = _; rw [e1]; first | rfl | (simp only [ptB, ix3]; omega) | (simp [ptB, ix3])
    | ⟨2, _⟩ => show win0_10.index t 2 * 1024 + 1 * l.val = _; rw [e2]; first | rfl | (simp only [ptB, ix3]; omega) | (simp [ptB, ix3])
  rw [hj] at e
  exact e

theorem flush11 : ∀ t : Fin cfg0.N, (cfg0.win 11).flush t = true := (by decide +kernel : ∀ t : Fin grid0.N, _)

/-- Output window 11's array at the place of a grid point's block entry is what the point leaves there. -/
theorem arr11 (c : Dev nD) (t : Fin cfg0.N) (p : Fin 8) (r : Fin 64) (l : Fin 1024) :
    ((dats m 0 c).arrAt 11 cfg0.N : S32x64x1024.Idx → EReal) (ix3 (ptB t p) r l)
      = out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (ix3 p r l) := by
  have e := congrFun (Value.blocks11 m c t (flush11 t)) (ix3 p r l : S8x64x1024.Idx)
  rw [View.read_apply, Value.flushed11_A] at e
  have hj : ((cfg0.win 11).blk t).view.emb (ix3 p r l : S8x64x1024.Idx) = (ix3 (ptB t p) r l : S32x64x1024.Idx) := by
    obtain ⟨e0, e1, e2⟩ := idx11 t
    funext a
    apply Fin.ext
    match a with
    | ⟨0, _⟩ => show win0_11.index t 0 * 8 + 1 * p.val = _; rw [e0]; first | rfl | (simp only [ptB, ix3]; omega) | (simp [ptB, ix3])
    | ⟨1, _⟩ => show win0_11.index t 1 * 64 + 1 * r.val = _; rw [e1]; first | rfl | (simp only [ptB, ix3]; omega) | (simp [ptB, ix3])
    | ⟨2, _⟩ => show win0_11.index t 2 * 1024 + 1 * l.val = _; rw [e2]; first | rfl | (simp only [ptB, ix3]; omega) | (simp [ptB, ix3])
  rw [hj] at e
  exact e

theorem point_of (b : Fin 32) : ∃ (t : Fin cfg0.N) (p : Fin 8), ptB t p = b := by
  have hb := b.isLt
  refine ⟨⟨b.val / 8, by rw [show cfg0.N = 4 from N_0]; omega⟩, ⟨b.val % 8, by omega⟩, Fin.ext ?_⟩
  show b.val / 8 * 8 + b.val % 8 = b.val; omega

/-- One entry of the residual stream after the mixers, from the call's argument arrays. -/
abbrev stream (c : Dev nD) (b : Fin 32) (s : Fin 64) (j : Fin 1024) : EReal :=
  res (hX m c (ix3 b s j)) (hM m c (ix3 b 0 ⟨2048 + j.val, by have := j.isLt; omega⟩)) (fun k => hA m c (ix3 b s k)) (fun k => hY m c (ix3 b s k))
    (fun k => hW m c (ix2 k j))

theorem row_eq (c : Dev nD) (t : Fin cfg0.N) (p : Fin 8) (r : Fin 64) (j : Fin 1024) :
    res ((iblk m c 0 t : Vec Ideal S8x64x1024 .f32) (ix3 p r j)) ((iblk m c 3 t : Vec Ideal S8x1x1024 .f32) (ix3 p 0 j))
        (fun k => (iblk m c 1 t : Vec Ideal S8x64x512 .bf16) (ix3 p r k)) (fun k => (iblk m c 2 t : Vec Ideal S8x64x512 .bf16) (ix3 p r k))
        (fun k => (iblk m c 6 t : Vec Ideal S1024x1024 .bf16) (ix2 k j))
      = stream m c (ptB t p) r j := by
  unfold stream
  simp only [blk0, blk1, blk2, blk3, blk6]

/-- The call's residual array, entry by entry. -/
theorem x1_eq (c : Dev nD) (b : Fin 32) (s : Fin 64) (j : Fin 1024) :
    ((dats m 0 c).arrAt 10 cfg0.N : S32x64x1024.Idx → EReal) (ix3 b s j) = stream m c b s j := by
  obtain ⟨t, p, rfl⟩ := point_of b
  rw [arr10, x1_apply]
  exact row_eq m c t p s j

/-- The call's array of normalised features, entry by entry. -/
theorem h2_eq (c : Dev nD) (b : Fin 32) (s : Fin 64) (j : Fin 1024) :
    ((dats m 0 c).arrAt 11 cfg0.N : S32x64x1024.Idx → EReal) (ix3 b s j)
      = feat (fun j => stream m c b s j) (fun j => hN m c (ix1 j)) (fun j => hM m c (ix3 b 0 ⟨4096 + j.val, by have := j.isLt; omega⟩))
          (fun j => hM m c (ix3 b 0 ⟨3072 + j.val, by have := j.isLt; omega⟩)) j := by
  obtain ⟨t, p, rfl⟩ := point_of b
  rw [arr11, h2_apply]
  simp only [row_eq, blk4, blk5, blk7]

end Cert.PostSampleIdeal.Gen

namespace Cert.PostSampleRefIdeal.Value

open Cert.PostSampleRefIdeal Cert.PostSampleRefIdeal.Gen Cert.Proof.Post Cert.Proof.In

set_option maxRecDepth 16384
set_option maxHeartbeats 8000000

theorem ref_x1 (a0 : Vec Ideal S32x64x1024 .f32) (a1 a2 : Vec Ideal S32x64x512 .f32) (a3 : Vec Ideal S32x1x6144 .f32) (a4 : Vec Ideal S1024x1024 .f32)
    (b : Fin 32) (s : Fin 64) (j : Fin 1024) :
    (addf a0 (mulf (broadcastInDim S32x64x1024 ![0, 1, 2] bcast_S32x1x1024_S32x64x1024_0_1_2 (extractStridedSlice S32x1x1024 ![0, 0, 2048] a3 slices_S32x1x6144_S32x1x1024_0_0_2048)) (Host.dotGeneral (F := Ideal) (φ₁ := .f32) (φ₂ := .f32) dot_S32x64x1024_S1024x1024_S32x64x1024_2_0_01_1_n_n none (concatenate S32x64x1024 2 [⟨S32x64x512, (a1 : Vec Ideal S32x64x512 .f32)⟩, ⟨S32x64x512, (a2 : Vec Ideal S32x64x512 .f32)⟩] concatenates_S32x64x512_S32x64x512_S32x64x1024_d2) a4)) : Vec Ideal S32x64x1024 .f32) (ix3 b s j)
      = res (a0 (ix3 b s j)) (a3 (ix3 b 0 ⟨2048 + j.val, by have := j.isLt; omega⟩)) (fun k => a1 (ix3 b s k)) (fun k => a2 (ix3 b s k)) (fun k => a4 (ix2 k j)) := by
  unfold res
  refine Eq.trans ?_ (congrArg (fun w : EReal => a0 (ix3 b s j) + a3 (ix3 b 0 ⟨2048 + j.val, by have := j.isLt; omega⟩) * w)
    (halves (fun k => a1 (ix3 b s k)) (fun k => a2 (ix3 b s k)) (fun k => a4 (ix2 k j))))
  pointwise

theorem ref_norm (z : Vec Ideal S32x64x1024 .f32) (a3 : Vec Ideal S32x1x6144 .f32) (a5 : Vec Ideal S1024 .f32)
    (b : Fin 32) (s : Fin 64) (j : Fin 1024) :
    (truncf .bf16 (addf (mulf (mulf (mulf z (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf z z) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a5))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 4096] a3 slices_S32x1x6144_S32x1x1024_0_0_4096)))) (broadcastInDim S32x64x1024 ![0, 1, 2] bcast_S32x1x1024_S32x64x1024_0_1_2 (extractStridedSlice S32x1x1024 ![0, 0, 3072] a3 slices_S32x1x6144_S32x1x1024_0_0_3072))) bitsLt_bf16_f32 : Vec Ideal S32x64x1024 .bf16) (ix3 b s j)
      = feat (fun j => z (ix3 b s j)) (fun j => a5 (ix1 j)) (fun j => a3 (ix3 b 0 ⟨4096 + j.val, by have := j.isLt; omega⟩))
          (fun j => a3 (ix3 b 0 ⟨3072 + j.val, by have := j.isLt; omega⟩)) j := by
  pointwise [feat]

theorem ref_h2 (a0 : Vec Ideal S32x64x1024 .f32) (a1 a2 : Vec Ideal S32x64x512 .f32) (a3 : Vec Ideal S32x1x6144 .f32) (a4 : Vec Ideal S1024x1024 .f32) (a5 : Vec Ideal S1024 .f32)
    (b : Fin 32) (s : Fin 64) (j : Fin 1024) :
    (truncf .bf16 (addf (mulf (mulf (mulf (addf a0 (mulf (broadcastInDim S32x64x1024 ![0, 1, 2] bcast_S32x1x1024_S32x64x1024_0_1_2 (extractStridedSlice S32x1x1024 ![0, 0, 2048] a3 slices_S32x1x6144_S32x1x1024_0_0_2048)) (Host.dotGeneral (F := Ideal) (φ₁ := .f32) (φ₂ := .f32) dot_S32x64x1024_S1024x1024_S32x64x1024_2_0_01_1_n_n none (concatenate S32x64x1024 2 [⟨S32x64x512, (a1 : Vec Ideal S32x64x512 .f32)⟩, ⟨S32x64x512, (a2 : Vec Ideal S32x64x512 .f32)⟩] concatenates_S32x64x512_S32x64x512_S32x64x1024_d2) a4))) (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf (addf a0 (mulf (broadcastInDim S32x64x1024 ![0, 1, 2] bcast_S32x1x1024_S32x64x1024_0_1_2 (extractStridedSlice S32x1x1024 ![0, 0, 2048] a3 slices_S32x1x6144_S32x1x1024_0_0_2048)) (Host.dotGeneral (F := Ideal) (φ₁ := .f32) (φ₂ := .f32) dot_S32x64x1024_S1024x1024_S32x64x1024_2_0_01_1_n_n none (concatenate S32x64x1024 2 [⟨S32x64x512, (a1 : Vec Ideal S32x64x512 .f32)⟩, ⟨S32x64x512, (a2 : Vec Ideal S32x64x512 .f32)⟩] concatenates_S32x64x512_S32x64x512_S32x64x1024_d2) a4))) (addf a0 (mulf (broadcastInDim S32x64x1024 ![0, 1, 2] bcast_S32x1x1024_S32x64x1024_0_1_2 (extractStridedSlice S32x1x1024 ![0, 0, 2048] a3 slices_S32x1x6144_S32x1x1024_0_0_2048)) (Host.dotGeneral (F := Ideal) (φ₁ := .f32) (φ₂ := .f32) dot_S32x64x1024_S1024x1024_S32x64x1024_2_0_01_1_n_n none (concatenate S32x64x1024 2 [⟨S32x64x512, (a1 : Vec Ideal S32x64x512 .f32)⟩, ⟨S32x64x512, (a2 : Vec Ideal S32x64x512 .f32)⟩] concatenates_S32x64x512_S32x64x512_S32x64x1024_d2) a4)))) (constant (F := Ideal) S_ .f32 0x00000000#32) reducesTo_S32x64x1024_S32x64_d2 h_S_)) (broadcastInDim S32x64x1 ![] bcast_S_S32x64x1 (constant (F := Ideal) S_ .f32 0x44800000#32))) (broadcastInDim S32x64x1 ![] bcast_S_S32x64x1 (constant (F := Ideal) S_ .f32 0x358637BD#32)))))) (broadcastInDim S32x64x1024 ![0, 1, 2] bcast_S1x1x1024_S32x64x1024_0_1_2 (broadcastInDim S1x1x1024 ![2] bcast_S1024_S1x1x1024_2 a5))) (broadcastInDim S32x64x1024 ![0, 1, 2] bcast_S32x1x1024_S32x64x1024_0_1_2 (addf (broadcastInDim S32x1x1024 ![] bcast_S_S32x1x1024 (constant (F := Ideal) S_ .f32 0x3F800000#32)) (extractStridedSlice S32x1x1024 ![0, 0, 4096] a3 slices_S32x1x6144_S32x1x1024_0_0_4096)))) (broadcastInDim S32x64x1024 ![0, 1, 2] bcast_S32x1x1024_S32x64x1024_0_1_2 (extractStridedSlice S32x1x1024 ![0, 0, 3072] a3 slices_S32x1x6144_S32x1x1024_0_0_3072))) bitsLt_bf16_f32 : Vec Ideal S32x64x1024 .bf16) (ix3 b s j)
      = feat (fun j => res (a0 (ix3 b s j)) (a3 (ix3 b 0 ⟨2048 + j.val, by have := j.isLt; omega⟩)) (fun k => a1 (ix3 b s k)) (fun k => a2 (ix3 b s k)) (fun k => a4 (ix2 k j)))
          (fun j => a5 (ix1 j)) (fun j => a3 (ix3 b 0 ⟨4096 + j.val, by have := j.isLt; omega⟩))
          (fun j => a3 (ix3 b 0 ⟨3072 + j.val, by have := j.isLt; omega⟩)) j := by
  refine (ref_norm _ a3 a5 b s j).trans ?_
  exact congrArg (fun f => feat f (fun j => a5 (ix1 j)) (fun j => a3 (ix3 b 0 ⟨4096 + j.val, by have := j.isLt; omega⟩))
    (fun j => a3 (ix3 b 0 ⟨3072 + j.val, by have := j.isLt; omega⟩)) j) (funext fun j => ref_x1 a0 a1 a2 a3 a4 b s j)

end Cert.PostSampleRefIdeal.Value

namespace Cert.Proof.Post

set_option maxRecDepth 16384
set_option maxHeartbeats 8000000

/-- The value claim of the output projection at the sample batch: over the extended reals its two arrays are the reference's. -/
theorem sample_algebraic : Cert.algebraic_PostSampleIdeal_PostSampleRefIdeal (hPostSampleIdeal := Cert.PostSampleIdeal.Gen.facts) (hPostSampleRefIdeal := Cert.PostSampleRefIdeal.Gen.facts) := by
  intro m g m' g' _ hagree
  refine ⟨fun c => (Cert.PostSampleIdeal.Gen.dats m 0 c).arrAt 10 Cert.PostSampleIdeal.cfg0.N, fun c => (Cert.PostSampleIdeal.Gen.dats m 0 c).arrAt 11 Cert.PostSampleIdeal.cfg0.N,
    θ_run_mono (Cert.PostSampleIdeal.Value.run_blocks m g) fun r h c => ?_,
    θ_run_mono (Cert.PostSampleRefIdeal.Value.run m' g') fun r h c => ⟨(h c).1.trans ?_, (h c).2.1.trans ?_, (h c).2.2⟩⟩
  · obtain ⟨h1, h2, -, ha⟩ := h c
    exact ⟨h1, h2, ha⟩
  all_goals obtain ⟨e0, e1, e2, e3, e4, e5, e6, e7, e8, e9⟩ := hagree c
  · rw [e0, e1, e2, e3, e4]
    funext i
    obtain ⟨b, s, l, rfl⟩ : ∃ (b : Fin 32) (s : Fin 64) (l : Fin 1024), i = (ix3 b s l : Cert.PostSampleIdeal.S32x64x1024.Idx) :=
      ⟨i 0, i 1, i 2, funext fun a => by fin_cases a <;> rfl⟩
    exact (Cert.PostSampleRefIdeal.Value.ref_x1 _ _ _ _ _ b s l).trans (Cert.PostSampleIdeal.Gen.x1_eq m c b s l).symm
  · rw [e0, e1, e2, e3, e4, e5]
    funext i
    obtain ⟨b, s, l, rfl⟩ : ∃ (b : Fin 32) (s : Fin 64) (l : Fin 1024), i = (ix3 b s l : Cert.PostSampleIdeal.S32x64x1024.Idx) :=
      ⟨i 0, i 1, i 2, funext fun a => by fin_cases a <;> rfl⟩
    exact (Cert.PostSampleRefIdeal.Value.ref_h2 _ _ _ _ _ _ b s l).trans (Cert.PostSampleIdeal.Gen.h2_eq m c b s l).symm

end Cert.Proof.Post

end
-- ==== Proof.IndexHost.lean ====
/- The arrays that the host code hands to the input projection whose indexer query array is claimed, read entry by entry. -/
module

public import proofs.«01_k».proof.Proof.Gen.InIndexIdeal.Value
public import proofs.«01_k».proof.Proof.KeyMath
public import Idealize.ShloMosaic.Lib.StableHlo.ReadAt
public import Idealize.ShloMosaic.Lib.Claim

@[expose] public section

open Idealize.ShloMosaic Idealize.ShloMosaic.TcCoe Idealize.SL.Sem

noncomputable section

namespace Cert.InIndexIdeal.Gen

open Cert.InIndexIdeal Cert.Proof.In

set_option maxRecDepth 16384
set_option maxHeartbeats 2000000

variable (m : (ℓ : Loc nD τ sig) → Buf (Elt Ideal) ℓ)

/-- The call's arguments as arrays. -/
abbrev hX (c : Dev nD) : S4x4096x1024.Idx → EReal := m ((c : Thread nD τ).loc main_arg0)
abbrev hM (c : Dev nD) : S4x1x6144.Idx → EReal := m ((c : Thread nD τ).loc main_arg1)
abbrev hN (c : Dev nD) : S1024.Idx → EReal := m ((c : Thread nD τ).loc main_arg2)
abbrev hW (c : Dev nD) : S1024x2376.Idx → EReal := m ((c : Thread nD τ).loc main_arg3)

theorem v5_at (c : Dev nD) (k : Fin 1024) (j : Fin 2432) (hj : j.val < 1352) :
    (V m c main_v5 : S1024x2432.Idx → EReal) (ix2 k j) = hW m c (ix2 k ⟨j.val, by omega⟩) := by
  unfold V
  iterate 10 (try after_reads_at)
  rw [dif_pos hj]

theorem v15_at (c : Dev nD) (k : Fin 1024) : (V m c main_v15 : S1x1024.Idx → EReal) (ix2 0 k) = hN m c (ix1 k) := by
  unfold V
  iterate 10 (try after_reads_at)

theorem t0_at (c : Dev nD) (s : Fin 4096) (l : Fin 128) : (V m c main_v54 : S6x4096x128.Idx → EReal) (ix3 0 s l) = ck s.val l.val := by
  unfold V
  iterate 10 (try after_reads_at)
  rfl

theorem t1_at (c : Dev nD) (s : Fin 4096) (l : Fin 128) : (V m c main_v54 : S6x4096x128.Idx → EReal) (ix3 1 s l) = sak s.val l.val := by
  unfold V
  iterate 10 (try after_reads_at)
  rfl

theorem t2_at (c : Dev nD) (s : Fin 4096) (l : Fin 128) : (V m c main_v54 : S6x4096x128.Idx → EReal) (ix3 2 s l) = sbk s.val l.val := by
  unfold V
  iterate 10 (try after_reads_at)
  rfl

end Cert.InIndexIdeal.Gen
end
-- ==== Proof.IndexBlocks.lean ====
/- The windows of the input projection whose indexer query array is claimed, at a grid point, read as entries of the call's arrays. -/
module

public import proofs.«01_k».proof.Proof.IndexHost
public import Idealize.ShloMosaic.Lib.Claim

@[expose] public section

open Idealize.ShloMosaic Idealize.ShloMosaic.TcCoe Idealize.SL.Sem

noncomputable section

namespace Cert.InIndexIdeal.Gen

open Cert.InIndexIdeal Cert.Proof.In

set_option maxRecDepth 16384
set_option maxHeartbeats 2000000

variable (m : (ℓ : Loc nD τ sig) → Buf (Elt Ideal) ℓ)

theorem pt_lt (t : Fin cfg0.N) : t.val < 32 := lt_of_lt_of_eq t.isLt N_0

theorem idx0 : ∀ t : Fin cfg0.N, win0_0.index t 0 = t.val / 8 ∧ win0_0.index t 1 = t.val % 8 ∧ win0_0.index t 2 = 0 :=
  (by decide +kernel : ∀ t : Fin grid0.N, _)
theorem idx1 : ∀ t : Fin cfg0.N, win0_1.index t 0 = t.val / 8 ∧ win0_1.index t 1 = 0 ∧ win0_1.index t 2 = 0 :=
  (by decide +kernel : ∀ t : Fin grid0.N, _)
theorem idx2 : ∀ t : Fin cfg0.N, win0_2.index t 0 = t.val / 8 ∧ win0_2.index t 1 = 0 ∧ win0_2.index t 2 = 1 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx6 : ∀ t : Fin cfg0.N, win0_6.index t 0 = 0 ∧ win0_6.index t 1 = t.val % 8 ∧ win0_6.index t 2 = 0 :=
  (by decide +kernel : ∀ t : Fin grid0.N, _)
theorem idx9 : ∀ t : Fin cfg0.N, win0_9.index t 0 = t.val / 8 ∧ win0_9.index t 1 = t.val % 8 ∧ win0_9.index t 2 = 0 :=
  (by decide +kernel : ∀ t : Fin grid0.N, _)

/-- The batch of a grid point and the token row `r` of its tile. -/
def ptB (t : Fin cfg0.N) : Fin 4 := ⟨t.val / 8, by have := pt_lt t; omega⟩
def ptS (t : Fin cfg0.N) (r : Fin 512) : Fin 4096 := ⟨t.val % 8 * 512 + r.val, by have := r.isLt; omega⟩

theorem blk0 (c : Dev nD) (t : Fin cfg0.N) (r : Fin 512) (k : Fin 1024) :
    (iblk m c 0 t : Vec Ideal S1x512x1024 .f32) (ix3 0 r k) = hX m c (ix3 (ptB t) (ptS t r) k) := by
  unfold iblk
  rw [View.read_apply]
  show V m c main_arg0 _ = _
  entry_read
  show m (c, Proc.tc.devRef main_arg0) _ = m (c, Proc.tc.devRef main_arg0) _
  congr 1
  obtain ⟨e0, e1, e2⟩ := idx0 t
  funext a
  apply Fin.ext
  match a with
  | ⟨0, _⟩ => show win0_0.index t 0 * 1 + 1 * (0 : Fin 1).val = _; rw [e0]; first | rfl | (simp only [ptB, ptS, ix3]; omega) | (simp [ptB, ptS, ix3])
  | ⟨1, _⟩ => show win0_0.index t 1 * 512 + 1 * r.val = _; rw [e1]; first | rfl | (simp only [ptB, ptS, ix3]; omega) | (simp [ptB, ptS, ix3])
  | ⟨2, _⟩ => show win0_0.index t 2 * 1024 + 1 * k.val = _; rw [e2]; first | rfl | (simp only [ptB, ptS, ix3]; omega) | (simp [ptB, ptS, ix3])

theorem blk1 (c : Dev nD) (t : Fin cfg0.N) (k : Fin 1024) :
    (iblk m c 1 t : Vec Ideal S1x1x1024 .f32) (ix3 0 0 k) = hM m c (ix3 (ptB t) 0 ⟨k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx1 t
  funext a
  apply Fin.ext
  match a with
  | ⟨0, _⟩ => show win0_1.index t 0 * 1 + 1 * (0 : Fin 1).val = _; rw [e0]; first | rfl | (simp only [ptB, ptS, ix3]; omega) | (simp [ptB, ptS, ix3])
  | ⟨1, _⟩ => show win0_1.index t 1 * 1 + 1 * (0 : Fin 1).val = _; rw [e1]; first | rfl | (simp only [ptB, ptS, ix3]; omega) | (simp [ptB, ptS, ix3])
  | ⟨2, _⟩ => show win0_1.index t 2 * 1024 + 1 * k.val = _; rw [e2]; first | rfl | (simp only [ptB, ptS, ix3]; omega) | (simp [ptB, ptS, ix3])

theorem blk2 (c : Dev nD) (t : Fin cfg0.N) (k : Fin 1024) :
    (iblk m c 2 t : Vec Ideal S1x1x1024 .f32) (ix3 0 0 k) = hM m c (ix3 (ptB t) 0 ⟨1024 + k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx2 t
  funext a
  apply Fin.ext
  match a with
  | ⟨0, _⟩ => show win0_2.index t 0 * 1 + 1 * (0 : Fin 1).val = _; rw [e0]; first | rfl | (simp only [ptB, ptS, ix3]; omega) | (simp [ptB, ptS, ix3])
  | ⟨1, _⟩ => show win0_2.index t 1 * 1 + 1 * (0 : Fin 1).val = _; rw [e1]; first | rfl | (simp only [ptB, ptS, ix3]; omega) | (simp [ptB, ptS, ix3])
  | ⟨2, _⟩ => show win0_2.index t 2 * 1024 + 1 * k.val = _; rw [e2]; first | rfl | (simp only [ptB, ptS, ix3]; omega) | (simp [ptB, ptS, ix3])

theorem blk3 (c : Dev nD) (t : Fin cfg0.N) (k : Fin 1024) :
    (iblk m c 3 t : Vec Ideal S1x1024 .f32) (ix2 0 k) = hN m c (ix1 k) := by
  unfold iblk
  rw [View.read_apply]
  have hj : ((cfg0.win 3).blk t).view.emb (ix2 0 k : S1x1024.Idx) = (ix2 0 k : S1x1024.Idx) := by
    obtain ⟨e0, e1⟩ := idx3 t
    funext a
    apply Fin.ext
    match a with
    | ⟨0, _⟩ => show win0_3.index t 0 * 1 + 1 * (0 : Fin 1).val = _; rw [e0]; first | rfl | (simp only [ptB, ptS, ix2, ix3]; omega) | (simp [ptB, ptS, ix2, ix3])
    | ⟨1, _⟩ => show win0_3.index t 1 * 1024 + 1 * k.val = _; rw [e1]; first | rfl | (simp only [ptB, ptS, ix2, ix3]; omega) | (simp [ptB, ptS, ix2, ix3])
  show V m c main_v15 _ = _
  rw [hj]
  exact v15_at m c k

theorem blk4 (c : Dev nD) (t : Fin cfg0.N) (k : Fin 1024) (j : Fin 2432) (hlt : j.val < 1352) :
    (iblk m c 4 t : Vec Ideal S1024x2432 .bf16) (ix2 k j) = (hW m c (ix2 k ⟨j.val, by omega⟩) : EReal) := by
  unfold iblk
  rw [View.read_apply]
  have hj : ((cfg0.win 4).blk t).view.emb (ix2 k j : S1024x2432.Idx) = (ix2 k j : S1024x2432.Idx) := by
    obtain ⟨e0, e1⟩ := idx4 t
    funext a
    apply Fin.ext
    match a with
    | ⟨0, _⟩ => show win0_4.index t 0 * 1024 + 1 * k.val = _; rw [e0]; first | rfl | (simp only [ptB, ptS, ix2, ix3]; omega) | (simp [ptB, ptS, ix2, ix3])
    | ⟨1, _⟩ => show win0_4.index t 1 * 2432 + 1 * j.val = _; rw [e1]; first | rfl | (simp only [ptB, ptS, ix2, ix3]; omega) | (simp [ptB, ptS, ix2, ix3])
  show V m c main_v5 _ = _
  rw [hj]
  exact v5_at m c k j hlt

theorem tab0 (c : Dev nD) (t : Fin cfg0.N) (r : Fin 512) (l : Fin 128) :
    (iblk m c 6 t : Vec Ideal S6x512x128 .f32) (ix3 0 r l) = (ck (ptS t r).val l.val : EReal) := by
  unfold iblk
  rw [View.read_apply]
  have hj : ((cfg0.win 6).blk t).view.emb (ix3 0 r l : S6x512x128.Idx) = (ix3 0 (ptS t r) l : S6x4096x128.Idx) := by
    obtain ⟨e0, e1, e2⟩ := idx6 t
    funext a
    apply Fin.ext
    match a with
    | ⟨0, _⟩ => show win0_6.index t 0 * 6 + 1 * (0 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t0_at m c (ptS t r) l

theorem tab1 (c : Dev nD) (t : Fin cfg0.N) (r : Fin 512) (l : Fin 128) :
    (iblk m c 6 t : Vec Ideal S6x512x128 .f32) (ix3 1 r l) = (sak (ptS t r).val l.val : EReal) := by
  unfold iblk
  rw [View.read_apply]
  have hj : ((cfg0.win 6).blk t).view.emb (ix3 1 r l : S6x512x128.Idx) = (ix3 1 (ptS t r) l : S6x4096x128.Idx) := by
    obtain ⟨e0, e1, e2⟩ := idx6 t
    funext a
    apply Fin.ext
    match a with
    | ⟨0, _⟩ => show win0_6.index t 0 * 6 + 1 * (1 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t1_at m c (ptS t r) l

theorem tab2 (c : Dev nD) (t : Fin cfg0.N) (r : Fin 512) (l : Fin 128) :
    (iblk m c 6 t : Vec Ideal S6x512x128 .f32) (ix3 2 r l) = (sbk (ptS t r).val l.val : EReal) := by
  unfold iblk
  rw [View.read_apply]
  have hj : ((cfg0.win 6).blk t).view.emb (ix3 2 r l : S6x512x128.Idx) = (ix3 2 (ptS t r) l : S6x4096x128.Idx) := by
    obtain ⟨e0, e1, e2⟩ := idx6 t
    funext a
    apply Fin.ext
    match a with
    | ⟨0, _⟩ => show win0_6.index t 0 * 6 + 1 * (2 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t2_at m c (ptS t r) l

end Cert.InIndexIdeal.Gen
end
-- ==== Proof.IndexStep.lean ====
/- One tile of the input projection at the ideal instance: what a grid point leaves in its indexer query block, read entry by
   entry. The block is stored in four parts of 128 lanes. -/
module

public import proofs.«01_k».proof.Proof.KeyStep
public import proofs.«01_k».proof.Proof.Gen.InIndexIdeal.Value
public import Idealize.ShloMosaic.Lib.Pipeline.ValueKit
public import Idealize.ShloMosaic.Lib.Pointwise
public import Idealize.ShloMosaic.Lib.Tactic
public import Idealize.ShloMosaic.Lib.KernelVsHost

@[expose] public section

open Idealize.ShloMosaic

noncomputable section

namespace Cert.Proof.In

/-- Lane `l` of part `q` among the 512 lanes. -/
abbrev lane (q : Fin 4) (l : Fin 128) : Fin 512 := ⟨q.val * 128 + l.val, by have := q.isLt; have := l.isLt; omega⟩

end Cert.Proof.In

namespace Cert.InIndexIdeal.Gen

open Cert.InIndexIdeal Cert.Proof.In

set_option maxRecDepth 16384
set_option maxHeartbeats 2000000

theorem zero2 : (![0, 0] : Fin 2 → Nat) = fun _ => 0 := funext fun a => by fin_cases a <;> rfl
theorem zero3 : (![0, 0, 0] : Fin 3 → Nat) = fun _ => 0 := funext fun a => by fin_cases a <;> rfl

/-- What four stores of 128 lanes leave, by lane. -/
theorem parts (p : Fin 4 → Vec Ideal S1x512x128 .bf16) (r : Fin 512) (q : Fin 4) (l : Fin 128) :
    View.canon (Val := Elt Ideal) (e := .bf16) [⟨r0_16, p 3⟩, ⟨r0_15, p 2⟩, ⟨r0_14, p 1⟩, ⟨r0_13, p 0⟩] (ix3 0 r (lane q l)) = p q (ix3 0 r l) := by
  refine View.canon_eq_of_allAt _ _ _ (cover0_9 (F := Ideal) (p 3) (p 2) (p 1) (p 0) _) ?_
  have hx : ∀ (n : Fin 4) (x : S1x512x128.Idx), 0 + 1 * (x 1).val = r.val → n.val * 128 + 1 * (x 2).val = q.val * 128 + l.val → p n x = p q (ix3 0 r l) := by
    intro n x h1 h2
    have e2 : (x 2).val < 128 := (x 2).isLt
    have e0 : (x 0).val < 1 := (x 0).isLt
    have hl := l.isLt
    have hn : n = q := Fin.ext (by omega)
    subst hn
    refine congrArg (p n) (funext fun a => Fin.ext ?_)
    match a with
    | ⟨0, _⟩ => show (x 0).val = 0; omega
    | ⟨1, _⟩ => show (x 1).val = r.val; omega
    | ⟨2, _⟩ => show (x 2).val = l.val; omega
  intro s hs x hxe
  have h1 := congrArg (fun i : S1x512x512.Idx => (i 1).val) hxe
  have h2 := congrArg (fun i : S1x512x512.Idx => (i 2).val) hxe
  simp only [List.mem_cons, List.not_mem_nil, or_false] at hs
  rcases hs with rfl | rfl | rfl | rfl
  · exact hx 3 x h1 h2
  · exact hx 2 x h1 h2
  · exact hx 1 x h1 h2
  · exact hx 0 x h1 h2

theorem parts_eq (p0 p1 p2 p3 : Vec Ideal S1x512x128 .bf16) (r : Fin 512) (l : Fin 128) (f : Fin 4 → EReal) (h0 : p0 (ix3 0 r l) = f 0)
    (h1 : p1 (ix3 0 r l) = f 1) (h2 : p2 (ix3 0 r l) = f 2) (h3 : p3 (ix3 0 r l) = f 3) (q : Fin 4) :
    View.canon (Val := Elt Ideal) (e := .bf16) [⟨r0_16, p3⟩, ⟨r0_15, p2⟩, ⟨r0_14, p1⟩, ⟨r0_13, p0⟩] (ix3 0 r (lane q l)) = f q := by
  refine (parts ![p0, p1, p2, p3] r q l).trans ?_
  match q with
  | ⟨0, _⟩ => exact h0
  | ⟨1, _⟩ => exact h1
  | ⟨2, _⟩ => exact h2
  | ⟨3, _⟩ => exact h3

theorem feat_apply (x0 : Vec Ideal S1x512x1024 .f32) (x3 : Vec Ideal S1x1024 .f32) (x2 x1 : Vec Ideal S1x1x1024 .f32) (r : Fin 512) (k : Fin 1024) :
    k0_pay2 (F := Ideal) x0 x3 x2 x1 (ix2 r k)
      = feat (fun j => x0 (ix3 0 r j)) (fun j => x3 (ix2 0 j)) (fun j => x2 (ix3 0 0 j)) (fun j => x1 (ix3 0 0 j)) k := by
  pointwise [k0_pay2, feat]

theorem h_apply (x0 : Vec Ideal S1x512x1024 .f32) (x1 x2 : Vec Ideal S1x1x1024 .f32) (x3 : Vec Ideal S1x1024 .f32) (x4 : Vec Ideal S1024x2432 .bf16)
    (x5 : Vec Ideal S2x128 .f32) (x6 : Vec Ideal S6x512x128 .f32) (x7 : Vec Ideal S128x128 .bf16) (r : Fin 512) (k : Fin 1024) :
    k0_pay43 (F := Ideal) x0 x1 x2 x3 x4 x5 x6 x7 (ix2 r k)
      = feat (fun j => x0 (ix3 0 r j)) (fun j => x3 (ix2 0 j)) (fun j => x2 (ix3 0 0 j)) (fun j => x1 (ix3 0 0 j)) k := by
  unfold k0_pay43
  rw [View.ld_unit_zero (S := S1x512x1024) zero3, View.ld_unit_zero (S := S1x1024) zero2, View.ld_unit_zero (S := S1x1x1024) zero3,
    View.ld_unit_zero (S := S1x1x1024) zero3]
  exact feat_apply x0 x3 x2 x1 r k

theorem prod_apply (h : Vec Ideal S512x1024 .bf16) (w : Vec Ideal S1024x512 .bf16) (r l : Fin 512) :
    k0_pay30 (F := Ideal) h w (ix2 r l) = ∑ k : Fin 1024, (h (ix2 r k) * w (ix2 k l) : EReal) := by
  pointwise [k0_pay30]

theorem lane0 (n : Fin 128) : lane 0 n = ⟨n.val, by have := n.isLt; omega⟩ := Fin.ext (by show 0 * 128 + n.val = n.val; omega)

theorem part0 (h : Vec Ideal S512x1024 .bf16) (t0 t1 t2 : Vec Ideal S512x128 .f32) (w : Vec Ideal S1024x512 .bf16) (r : Fin 512) (l : Fin 128) :
    k0_pay31 (F := Ideal) h t0 t1 t2 w (ix3 0 r l)
      = rowTurn (fun n => k0_pay30 (F := Ideal) h w (ix2 r (lane 0 n))) (fun l => t0 (ix2 r l)) (fun l => t1 (ix2 r l)) (fun l => t2 (ix2 r l)) l := by
  unfold k0_pay31
  generalize k0_pay30 (F := Ideal) h w = z
  pointwise [rowTurn]
  simp only [lane0]

theorem part1 (h : Vec Ideal S512x1024 .bf16) (t0 t1 t2 : Vec Ideal S512x128 .f32) (w : Vec Ideal S1024x512 .bf16) (r : Fin 512) (l : Fin 128) :
    k0_pay32 (F := Ideal) h t0 t1 t2 w (ix3 0 r l)
      = rowTurn (fun n => k0_pay30 (F := Ideal) h w (ix2 r (lane 1 n))) (fun l => t0 (ix2 r l)) (fun l => t1 (ix2 r l)) (fun l => t2 (ix2 r l)) l := by
  unfold k0_pay32
  generalize k0_pay30 (F := Ideal) h w = z
  pointwise [rowTurn]
  rfl

theorem part2 (h : Vec Ideal S512x1024 .bf16) (t0 t1 t2 : Vec Ideal S512x128 .f32) (w : Vec Ideal S1024x512 .bf16) (r : Fin 512) (l : Fin 128) :
    k0_pay37 (F := Ideal) t2 (k0_pay34 h w) (k0_pay35 h t0 w) (k0_pay36 h t1 w) (ix3 0 r l)
      = rowTurn (fun n => k0_pay30 (F := Ideal) h w (ix2 r (lane 2 n))) (fun l => t0 (ix2 r l)) (fun l => t1 (ix2 r l)) (fun l => t2 (ix2 r l)) l := by
  unfold k0_pay37 k0_pay34 k0_pay35 k0_pay36 k0_pay33
  generalize k0_pay30 (F := Ideal) h w = z
  pointwise [rowTurn]
  rfl

theorem part3 (z : Vec Ideal S512x512 .f32) (t0 t1 t2 : Vec Ideal S512x128 .f32) (r : Fin 512) (l : Fin 128) :
    k0_pay38 (F := Ideal) t0 t1 t2 z (ix3 0 r l)
      = rowTurn (fun n => z (ix2 r (lane 3 n))) (fun l => t0 (ix2 r l)) (fun l => t1 (ix2 r l)) (fun l => t2 (ix2 r l)) l := by
  pointwise [k0_pay38, rowTurn]
  rfl

/-- The call's indexer query block: the columns from 768, turned by the rotary tables 0, 1 and 2. -/
theorem iq_apply (x0 : Vec Ideal S1x512x1024 .f32) (x1 x2 : Vec Ideal S1x1x1024 .f32) (x3 : Vec Ideal S1x1024 .f32) (x4 : Vec Ideal S1024x2432 .bf16)
    (x5 : Vec Ideal S2x128 .f32) (x6 : Vec Ideal S6x512x128 .f32) (x7 : Vec Ideal S128x128 .bf16) (r : Fin 512) (q : Fin 4) (l : Fin 128) :
    out0_9 (F := Ideal) x0 x1 x2 x3 x4 x5 x6 x7 (ix3 0 r (lane q l))
      = rowTurn (fun n => ∑ k, feat (fun j => x0 (ix3 0 r j)) (fun j => x3 (ix2 0 j)) (fun j => x2 (ix3 0 0 j)) (fun j => x1 (ix3 0 0 j)) k
              * x4 (ix2 k ⟨768 + (lane q n).val, by have := (lane q n).isLt; omega⟩))
          (fun l => x6 (ix3 0 r l)) (fun l => x6 (ix3 1 r l)) (fun l => x6 (ix3 2 r l)) l := by
  have e : ∀ q : Fin 4, rowTurn (fun n => k0_pay30 (F := Ideal) (k0_pay43 x0 x1 x2 x3 x4 x5 x6 x7) (View.ld x4 r0_19) (ix2 r (lane q n)))
        (fun l => k0_pay44 (F := Ideal) x0 x1 x2 x3 x4 x5 x6 x7 (ix2 r l)) (fun l => k0_pay45 (F := Ideal) x0 x1 x2 x3 x4 x5 x6 x7 (ix2 r l))
        (fun l => k0_pay46 (F := Ideal) x0 x1 x2 x3 x4 x5 x6 x7 (ix2 r l)) l
      = rowTurn (fun n => ∑ k, feat (fun j => x0 (ix3 0 r j)) (fun j => x3 (ix2 0 j)) (fun j => x2 (ix3 0 0 j)) (fun j => x1 (ix3 0 0 j)) k
              * x4 (ix2 k ⟨768 + (lane q n).val, by have := (lane q n).isLt; omega⟩))
          (fun l => x6 (ix3 0 r l)) (fun l => x6 (ix3 1 r l)) (fun l => x6 (ix3 2 r l)) l := by
    intro q
    congr 1
    · funext n
      rw [prod_apply]
      refine Finset.sum_congr rfl fun k _ => ?_
      rw [h_apply]
      congr 1
      pointwise []
    · funext l
      pointwise [k0_pay44, k0_pay3]
    · funext l
      pointwise [k0_pay45, k0_pay4]
    · funext l
      pointwise [k0_pay46, k0_pay5]
  unfold out0_9
  exact parts_eq _ _ _ _ r l (fun q => rowTurn (fun n => ∑ k, feat (fun j => x0 (ix3 0 r j)) (fun j => x3 (ix2 0 j)) (fun j => x2 (ix3 0 0 j)) (fun j => x1 (ix3 0 0 j)) k
              * x4 (ix2 k ⟨768 + (lane q n).val, by have := (lane q n).isLt; omega⟩))
          (fun l => x6 (ix3 0 r l)) (fun l => x6 (ix3 1 r l)) (fun l => x6 (ix3 2 r l)) l)
    ((part0 _ _ _ _ _ r l).trans (e 0)) ((part1 _ _ _ _ _ r l).trans (e 1)) ((part2 _ _ _ _ _ r l).trans (e 2)) ((part3 _ _ _ _ r l).trans (e 3)) q

end Cert.InIndexIdeal.Gen
end
-- ==== Proof.IndexRef.lean ====
/- The reference of the indexer's queries at the ideal instance, read entry by entry: the projection and the turn. -/
module

public import proofs.«01_k».proof.Proof.KeyMath
public import proofs.«01_k».proof.Proof.InValue
public import proofs.«01_k».proof.Proof.IndexStep
public import proofs.«01_k».proof.Proof.Gen.InIndexRefIdeal.Run
public import Idealize.ShloMosaic.Lib.Pointwise
public import Idealize.ShloMosaic.Lib.Tactic
public import Idealize.ShloMosaic.Lib.KernelVsHost

@[expose] public section

open Idealize.ShloMosaic

noncomputable section

namespace Cert.InIndexRefIdeal.Value

open Cert.InIndexRefIdeal Cert.InIndexRefIdeal.Gen Cert.Proof.In

set_option maxRecDepth 16384
set_option maxHeartbeats 8000000

/-- The projected columns. -/
def projI (a0 : Vec Ideal S4x4096x1024 .f32) (a1 : Vec Ideal S4x1x6144 .f32) (a2 : Vec Ideal S1024 .f32) (a3 : Vec Ideal S1024x2376 .f32) :
    Vec Ideal S4x4096x512 .f32 :=
  extractStridedSlice S4x4096x512 ![0, 0, 768] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x512_0_0_768

/-- The columns turned, by head. -/
def turnI (N : Vec Ideal S4x4096x8x64 .f32) : Vec Ideal S4x4096x512 .f32 :=
  shapeCast S4x4096x512 ((concatenate S4x4096x8x64 3 [⟨S4x4096x8x8, ((subf (mulf (extractStridedSlice S4x4096x8x8 ![0, 0, 0, 0] N slices_S4x4096x8x64_S4x4096x8x8_0_0_0_0) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 (Host.cos (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S4x4096x8x8 ![0, 0, 0, 8] N slices_S4x4096x8x64_S4x4096x8x8_0_0_0_8) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 (Host.sin (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S4x4096x8x8 .f32)⟩, ⟨S4x4096x8x8, ((addf (mulf (extractStridedSlice S4x4096x8x8 ![0, 0, 0, 8] N slices_S4x4096x8x64_S4x4096x8x8_0_0_0_8) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 (Host.cos (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S4x4096x8x8 ![0, 0, 0, 0] N slices_S4x4096x8x64_S4x4096x8x8_0_0_0_0) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 (Host.sin (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S4x4096x8x8 .f32)⟩, ⟨S4x4096x8x48, ((extractStridedSlice S4x4096x8x48 ![0, 0, 0, 16] N slices_S4x4096x8x64_S4x4096x8x48_0_0_0_16) : Vec Ideal S4x4096x8x48 .f32)⟩] concatenates_S4x4096x8x8_S4x4096x8x8_S4x4096x8x48_S4x4096x8x64_d3 : Vec Ideal S4x4096x8x64 .f32)) shapeCasts_S4x4096x8x64_S4x4096x512

theorem projI_apply (a0 : Vec Ideal S4x4096x1024 .f32) (a1 : Vec Ideal S4x1x6144 .f32) (a2 : Vec Ideal S1024 .f32) (a3 : Vec Ideal S1024x2376 .f32)
    (b : Fin 4) (s : Fin 4096) (l : Fin 512) :
    projI a0 a1 a2 a3 (ix3 b s l)
      = proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨768 + l.val, by have := l.isLt; omega⟩)) := by
  unfold projI
  pointwise [proj, feat]

/-- The columns split by head. -/
def splitI (K : Vec Ideal S4x4096x512 .f32) : Vec Ideal S4x4096x8x64 .f32 := shapeCast S4x4096x8x64 K shapeCasts_S4x4096x512_S4x4096x8x64

theorem splitI_apply (K : Vec Ideal S4x4096x512 .f32) (b : Fin 4) (s : Fin 4096) (q : Fin 4) (l : Fin 128) :
    splitI K (ix4 b s ⟨q.val * 2 + l.val / 64, by have := q.isLt; have := l.isLt; omega⟩ ⟨l.val % 64, by omega⟩) = K (ix3 b s (lane q l)) := by
  unfold splitI
  have e1 : (q.val * 2 + l.val / 64) * 64 + l.val % 64 = q.val * 128 + l.val := by omega
  pointwise []
  simp only [e1]

theorem turnI_apply (N : Vec Ideal S4x4096x8x64 .f32) (b : Fin 4) (s : Fin 4096) (q : Fin 4) (l : Fin 128) :
    turnI N (ix3 b s (lane q l))
      = turned s.val (fun l => N (ix4 b s ⟨q.val * 2 + l.val / 64, by have := q.isLt; have := l.isLt; omega⟩ ⟨l.val % 64, by omega⟩)) l := by
  unfold turnI
  have hl := l.isLt
  have d1 : (q.val * 128 + l.val) / 64 = q.val * 2 + l.val / 64 := by omega
  have d2 : (q.val * 128 + l.val) % 64 = l.val % 64 := by omega
  pointwise [turned, ang]
  simp only [d1, d2]
  by_cases h2 : l.val % 64 < 8
  · have e1 : (l.val + 8) / 64 = l.val / 64 := by omega
    have e2 : (l.val + 8) % 64 = 8 + l.val % 64 := by omega
    simp only [h2, ↓reduceDIte, e1, e2]
  · by_cases h3 : l.val % 64 - 8 < 8
    · have e0 : 8 + (l.val % 64 - 8) = l.val % 64 := by omega
      have e1 : (l.val - 8) / 64 = l.val / 64 := by omega
      have e2 : (l.val - 8) % 64 = l.val % 64 - 8 := by omega
      simp only [h2, h3, ↓reduceDIte, e0, e1, e2]
    · have e0 : 16 + (l.val % 64 - 8 - 8) = l.val % 64 := by omega
      simp only [h2, h3, ↓reduceDIte, e0]

end Cert.InIndexRefIdeal.Value
end
-- ==== Proof.IndexValue.lean ====
/- The input projection at the ideal instance: its indexer query array, entry by entry, is the reference's. -/
module

public import proofs.«01_k».proof.Defs
public import proofs.«01_k».proof.Proof.IndexBlocks
public import proofs.«01_k».proof.Proof.IndexStep
public import proofs.«01_k».proof.Proof.KeyValue
public import proofs.«01_k».proof.Proof.IndexRef
public import Idealize.ShloMosaic.Lib.Claim

@[expose] public section

open Idealize.ShloMosaic Idealize.ShloMosaic.TcCoe Idealize.SL.Sem

noncomputable section

namespace Cert.InIndexIdeal.Gen

open Cert.InIndexIdeal Cert.Proof.In

set_option maxRecDepth 16384
set_option maxHeartbeats 8000000

variable (m : (ℓ : Loc nD τ sig) → Buf (Elt Ideal) ℓ)

theorem flush9 : ∀ t : Fin cfg0.N, (cfg0.win 9).flush t = true := (by decide +kernel : ∀ t : Fin grid0.N, _)

/-- Output window 9's array at the place of a grid point's block entry is what the point leaves there. -/
theorem arr9 (c : Dev nD) (t : Fin cfg0.N) (r l : Fin 512) :
    ((dats m 0 c).arrAt 9 cfg0.N : S4x4096x512.Idx → EReal) (ix3 (ptB t) (ptS t r) l)
      = out0_9 (iblk m c 0 t) (iblk m c 1 t) (iblk m c 2 t) (iblk m c 3 t) (iblk m c 4 t) (iblk m c 5 t) (iblk m c 6 t) (iblk m c 7 t) (ix3 0 r l) := by
  have e := congrFun (Value.blocks9 m c t (flush9 t)) (ix3 0 r l : S1x512x512.Idx)
  rw [View.read_apply, Value.flushed9] at e
  have hj : ((cfg0.win 9).blk t).view.emb (ix3 0 r l : S1x512x512.Idx) = (ix3 (ptB t) (ptS t r) l : S4x4096x512.Idx) := by
    obtain ⟨e0, e1, e2⟩ := idx9 t
    funext a
    apply Fin.ext
    match a with
    | ⟨0, _⟩ => show win0_9.index t 0 * 1 + 1 * (0 : Fin 1).val = _; rw [e0]; first | rfl | (simp only [ptB, ptS, ix3]; omega) | (simp [ptB, ptS, ix3])
    | ⟨1, _⟩ => show win0_9.index t 1 * 512 + 1 * r.val = _; rw [e1]; first | rfl | (simp only [ptB, ptS, ix3]; omega) | (simp [ptB, ptS, ix3])
    | ⟨2, _⟩ => show win0_9.index t 2 * 512 + 1 * l.val = _; rw [e2]; first | rfl | (simp only [ptB, ptS, ix3]; omega) | (simp [ptB, ptS, ix3])
  rw [hj] at e
  exact e

/-- One projected column of one token, from the call's argument arrays. -/
abbrev col (c : Dev nD) (b : Fin 4) (s : Fin 4096) (j : Fin 2376) : EReal :=
  proj (fun j => hX m c (ix3 b s j)) (fun j => hN m c (ix1 j)) (fun j => hM m c (ix3 b 0 ⟨1024 + j.val, by have := j.isLt; omega⟩))
    (fun j => hM m c (ix3 b 0 ⟨j.val, by have := j.isLt; omega⟩)) (fun k => hW m c (ix2 k j))

/-- A column of the padded weights before the padding, applied to a token's features. -/
theorem colLow (c : Dev nD) (t : Fin cfg0.N) (r : Fin 512) (j : Fin 2432) (hj : j.val < 1352) :
    (∑ k, feat (fun j => (iblk m c 0 t : Vec Ideal S1x512x1024 .f32) (ix3 0 r j)) (fun j => (iblk m c 3 t : Vec Ideal S1x1024 .f32) (ix2 0 j))
        (fun j => (iblk m c 2 t : Vec Ideal S1x1x1024 .f32) (ix3 0 0 j)) (fun j => (iblk m c 1 t : Vec Ideal S1x1x1024 .f32) (ix3 0 0 j)) k
        * (iblk m c 4 t : Vec Ideal S1024x2432 .bf16) (ix2 k j))
      = col m c (ptB t) (ptS t r) ⟨j.val, by omega⟩ := by
  unfold col proj
  refine Finset.sum_congr rfl fun k _ => ?_
  rw [blk4 m c t k j hj]
  simp only [blk0, blk1, blk2, blk3]

/-- The grid point and the row that hold a token. -/
theorem point_of (b : Fin 4) (s : Fin 4096) : ∃ (t : Fin cfg0.N) (r : Fin 512), ptB t = b ∧ ptS t r = s := by
  have hb := b.isLt; have hs := s.isLt
  refine ⟨⟨b.val * 8 + s.val / 512, by rw [show cfg0.N = 32 from N_0]; omega⟩, ⟨s.val % 512, by omega⟩, Fin.ext ?_, Fin.ext ?_⟩
  · show (b.val * 8 + s.val / 512) / 8 = b.val; omega
  · show (b.val * 8 + s.val / 512) % 8 * 512 + s.val % 512 = s.val; omega

/-- The call's indexer query array, entry by entry. -/
theorem iq_eq (c : Dev nD) (b : Fin 4) (s : Fin 4096) (q : Fin 4) (l : Fin 128) :
    ((dats m 0 c).arrAt 9 cfg0.N : S4x4096x512.Idx → EReal) (ix3 b s (lane q l))
      = turned s.val (fun n : Fin 128 => col m c b s ⟨768 + (lane q n).val, by have := (lane q n).isLt; omega⟩) l := by
  obtain ⟨t, r, rfl, rfl⟩ := point_of b s
  rw [arr9, iq_apply]
  have hY : (fun n : Fin 128 => ∑ k, feat (fun j => (iblk m c 0 t : Vec Ideal S1x512x1024 .f32) (ix3 0 r j)) (fun j => (iblk m c 3 t : Vec Ideal S1x1024 .f32) (ix2 0 j))
        (fun j => (iblk m c 2 t : Vec Ideal S1x1x1024 .f32) (ix3 0 0 j)) (fun j => (iblk m c 1 t : Vec Ideal S1x1x1024 .f32) (ix3 0 0 j)) k
        * (iblk m c 4 t : Vec Ideal S1024x2432 .bf16) (ix2 k ⟨768 + (lane q n).val, by have := (lane q n).isLt; omega⟩))
      = fun n => col m c (ptB t) (ptS t r) ⟨768 + (lane q n).val, by have := (lane q n).isLt; omega⟩ :=
    funext fun n => colLow m c t r ⟨768 + (lane q n).val, by have := (lane q n).isLt; omega⟩ (by have := (lane q n).isLt; show 768 + (lane q n).val < 1352; omega)
  have h0 : (fun l : Fin 128 => ((iblk m c 6 t : Vec Ideal S6x512x128 .f32) (ix3 0 r l) : EReal)) = fun l => ck (ptS t r).val l.val := funext fun l => tab0 m c t r l
  have h1 : (fun l : Fin 128 => ((iblk m c 6 t : Vec Ideal S6x512x128 .f32) (ix3 1 r l) : EReal)) = fun l => sak (ptS t r).val l.val := funext fun l => tab1 m c t r l
  have h2 : (fun l : Fin 128 => ((iblk m c 6 t : Vec Ideal S6x512x128 .f32) (ix3 2 r l) : EReal)) = fun l => sbk (ptS t r).val l.val := funext fun l => tab2 m c t r l
  rw [hY, h0, h1, h2]
  rw [← turned_of_tables]
  rfl

end Cert.InIndexIdeal.Gen

namespace Cert.InIndexRefIdeal.Value

open Cert.InIndexRefIdeal Cert.InIndexRefIdeal.Gen Cert.Proof.In

set_option maxRecDepth 16384
set_option maxHeartbeats 8000000

/-- The reference's indexer queries, entry by entry. -/
theorem ref_iq (a0 : Vec Ideal S4x4096x1024 .f32) (a1 : Vec Ideal S4x1x6144 .f32) (a2 : Vec Ideal S1024 .f32) (a3 : Vec Ideal S1024x2376 .f32)
    (b : Fin 4) (s : Fin 4096) (q : Fin 4) (l : Fin 128) :
    (truncf (F := Ideal) .bf16 (turnI (splitI (projI a0 a1 a2 a3))) bitsLt_bf16_f32 : Vec Ideal S4x4096x512 .bf16) (ix3 b s (lane q l))
      = turned s.val (fun n => proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨768 + (lane q n).val, by have := (lane q n).isLt; omega⟩))) l := by
  refine (turnI_apply (splitI (projI a0 a1 a2 a3)) b s q l).trans ?_
  congr 1
  funext n
  rw [splitI_apply]
  exact projI_apply a0 a1 a2 a3 b s (lane q n)

end Cert.InIndexRefIdeal.Value

namespace Cert.Proof.InIndex

open Cert.Proof.In

set_option maxRecDepth 16384
set_option maxHeartbeats 8000000

/-- The value claim of the indexer's queries: over the extended reals the indexer query array is the reference's. -/
theorem algebraic : Cert.algebraic_InIndexIdeal_InIndexRefIdeal (hInIndexIdeal := Cert.InIndexIdeal.Gen.facts)
    (hInIndexRefIdeal := Cert.InIndexRefIdeal.Gen.facts) := by
  intro m g m' g' _ hagree
  refine ⟨fun c => (Cert.InIndexIdeal.Gen.dats m 0 c).arrAt 9 Cert.InIndexIdeal.cfg0.N,
    θ_run_mono (Cert.InIndexIdeal.Value.run_blocks m g) fun r h c => ?_,
    θ_run_mono (Cert.InIndexRefIdeal.Value.run m' g') fun r h c => ⟨(h c).1.trans ?_, (h c).2⟩⟩
  · obtain ⟨-, h2, -, -, -, -, -, -, -, ha⟩ := h c
    exact ⟨h2, ha⟩
  obtain ⟨e0, e1, e2, e3, e4, e5⟩ := hagree c
  unfold Cert.InIndexRefIdeal.Value.res_main_v64
  rw [e0, e1, e2, e3]
  funext i
  obtain ⟨b, s, q, l, rfl⟩ : ∃ (b : Fin 4) (s : Fin 4096) (q : Fin 4) (l : Fin 128), i = (ix3 b s (lane q l) : Cert.InIndexIdeal.S4x4096x512.Idx) := by
    have h2 : (i 2).val < 512 := (i 2).isLt
    refine ⟨i 0, i 1, ⟨(i 2).val / 128, by omega⟩, ⟨(i 2).val % 128, by omega⟩, funext fun a => Fin.ext ?_⟩
    match a with
    | ⟨0, _⟩ => rfl
    | ⟨1, _⟩ => rfl
    | ⟨2, _⟩ => show (i 2).val = (i 2).val / 128 * 128 + (i 2).val % 128; omega
  exact (Cert.InIndexRefIdeal.Value.ref_iq _ _ _ _ b s q l).trans (Cert.InIndexIdeal.Gen.iq_eq m c b s q l).symm

end Cert.Proof.InIndex

end
-- ==== Proof.QueryHost.lean ====
/- The arrays that the host code hands to the input projection whose query array is claimed, read entry by entry. -/
module

public import proofs.«01_k».proof.Proof.Gen.InQueryIdeal.Value
public import proofs.«01_k».proof.Proof.KeyMath
public import Idealize.ShloMosaic.Lib.StableHlo.ReadAt
public import Idealize.ShloMosaic.Lib.Claim

@[expose] public section

open Idealize.ShloMosaic Idealize.ShloMosaic.TcCoe Idealize.SL.Sem

noncomputable section

namespace Cert.InQueryIdeal.Gen

open Cert.InQueryIdeal Cert.Proof.In

set_option maxRecDepth 16384
set_option maxHeartbeats 2000000

variable (m : (ℓ : Loc nD τ sig) → Buf (Elt Ideal) ℓ)

/-- The call's arguments as arrays. -/
abbrev hX (c : Dev nD) : S4x4096x1024.Idx → EReal := m ((c : Thread nD τ).loc main_arg0)
abbrev hM (c : Dev nD) : S4x1x6144.Idx → EReal := m ((c : Thread nD τ).loc main_arg1)
abbrev hN (c : Dev nD) : S1024.Idx → EReal := m ((c : Thread nD τ).loc main_arg2)
abbrev hW (c : Dev nD) : S1024x2376.Idx → EReal := m ((c : Thread nD τ).loc main_arg3)
abbrev hG (c : Dev nD) : S64.Idx → EReal := m ((c : Thread nD τ).loc main_arg4)

theorem v5_at (c : Dev nD) (k : Fin 1024) (j : Fin 2432) (hj : j.val < 1352) :
    (V m c main_v5 : S1024x2432.Idx → EReal) (ix2 k j) = hW m c (ix2 k ⟨j.val, by omega⟩) := by
  unfold V
  iterate 10 (try after_reads_at)
  rw [dif_pos hj]

theorem v15_at (c : Dev nD) (k : Fin 1024) : (V m c main_v15 : S1x1024.Idx → EReal) (ix2 0 k) = hN m c (ix1 k) := by
  unfold V
  iterate 10 (try after_reads_at)

theorem v14_at (c : Dev nD) (l : Fin 128) : (V m c main_v14 : S2x128.Idx → EReal) (ix2 0 l) = hG m c (ix1 ⟨l.val % 64, by omega⟩) := by
  unfold V
  iterate 10 (try after_reads_at)

theorem t0_at (c : Dev nD) (s : Fin 4096) (l : Fin 128) : (V m c main_v54 : S6x4096x128.Idx → EReal) (ix3 0 s l) = ck s.val l.val := by
  unfold V
  iterate 10 (try after_reads_at)
  rfl

theorem t1_at (c : Dev nD) (s : Fin 4096) (l : Fin 128) : (V m c main_v54 : S6x4096x128.Idx → EReal) (ix3 1 s l) = sak s.val l.val := by
  unfold V
  iterate 10 (try after_reads_at)
  rfl

theorem t2_at (c : Dev nD) (s : Fin 4096) (l : Fin 128) : (V m c main_v54 : S6x4096x128.Idx → EReal) (ix3 2 s l) = sbk s.val l.val := by
  unfold V
  iterate 10 (try after_reads_at)
  rfl

/-- The literal's words: a one where the two lanes lie in the same head. -/
theorem words : ∀ k l : Fin 128, lit0t (k.val * 128 + l.val) = if k.val / 64 = l.val / 64 then 0x3F80#16 else 0#16 := by
  decide +kernel

theorem bd_at (c : Dev nD) (k l : Fin 128) : (V m c main_cst : S128x128.Idx → EReal) (ix2 k l) = blkOne k l := by
  unfold V
  iterate 10 (try after_reads_at)
  show Ideal.ofBits .bf16 (lit0t (S128x128.rowMajor (ix2 k l)).val) = _
  rw [show (S128x128.rowMajor (ix2 k l)).val = k.val * 128 + l.val from Shape.rowMajor_val_two (ix2 k l : S128x128.Idx), words]
  unfold blkOne
  split
  · exact Ideal.ofBits_one_bf16
  · exact Ideal.ofBits_zero_bf16

end Cert.InQueryIdeal.Gen
end
-- ==== Proof.QueryBlocks.lean ====
/- The windows of the input projection whose query array is claimed, at a grid point, read as entries of the call's arrays. -/
module

public import proofs.«01_k».proof.Proof.QueryHost
public import Idealize.ShloMosaic.Lib.Claim

@[expose] public section

open Idealize.ShloMosaic Idealize.ShloMosaic.TcCoe Idealize.SL.Sem

noncomputable section

namespace Cert.InQueryIdeal.Gen

open Cert.InQueryIdeal Cert.Proof.In

set_option maxRecDepth 16384
set_option maxHeartbeats 2000000

variable (m : (ℓ : Loc nD τ sig) → Buf (Elt Ideal) ℓ)

theorem pt_lt (t : Fin cfg0.N) : t.val < 32 := lt_of_lt_of_eq t.isLt N_0

theorem idx0 : ∀ t : Fin cfg0.N, win0_0.index t 0 = t.val / 8 ∧ win0_0.index t 1 = t.val % 8 ∧ win0_0.index t 2 = 0 :=
  (by decide +kernel : ∀ t : Fin grid0.N, _)
theorem idx1 : ∀ t : Fin cfg0.N, win0_1.index t 0 = t.val / 8 ∧ win0_1.index t 1 = 0 ∧ win0_1.index t 2 = 0 :=
  (by decide +kernel : ∀ t : Fin grid0.N, _)
theorem idx2 : ∀ t : Fin cfg0.N, win0_2.index t 0 = t.val / 8 ∧ win0_2.index t 1 = 0 ∧ win0_2.index t 2 = 1 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = 0 ∧ win0_6.index t 1 = t.val % 8 ∧ win0_6.index t 2 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = t.val / 8 ∧ win0_8.index t 1 = t.val % 8 ∧ win0_8.index t 2 = 0 :=
  (by decide +kernel : ∀ t : Fin grid0.N, _)

/-- The batch of a grid point and the token row `r` of its tile. -/
def ptB (t : Fin cfg0.N) : Fin 4 := ⟨t.val / 8, by have := pt_lt t; omega⟩
def ptS (t : Fin cfg0.N) (r : Fin 512) : Fin 4096 := ⟨t.val % 8 * 512 + r.val, by have := r.isLt; omega⟩

theorem blk0 (c : Dev nD) (t : Fin cfg0.N) (r : Fin 512) (k : Fin 1024) :
    (iblk m c 0 t : Vec Ideal S1x512x1024 .f32) (ix3 0 r k) = hX m c (ix3 (ptB t) (ptS t r) k) := by
  unfold iblk
  rw [View.read_apply]
  show V m c main_arg0 _ = _
  entry_read
  show m (c, Proc.tc.devRef main_arg0) _ = m (c, Proc.tc.devRef main_arg0) _
  congr 1
  obtain ⟨e0, e1, e2⟩ := idx0 t
  funext a
  apply Fin.ext
  match a with
  | ⟨0, _⟩ => show win0_0.index t 0 * 1 + 1 * (0 : Fin 1).val = _; rw [e0]; first | rfl | (simp only [ptB, ptS, ix3]; omega) | (simp [ptB, ptS, ix3])
  | ⟨1, _⟩ => show win0_0.index t 1 * 512 + 1 * r.val = _; rw [e1]; first | rfl | (simp only [ptB, ptS, ix3]; omega) | (simp [ptB, ptS, ix3])
  | ⟨2, _⟩ => show win0_0.index t 2 * 1024 + 1 * k.val = _; rw [e2]; first | rfl | (simp only [ptB, ptS, ix3]; omega) | (simp [ptB, ptS, ix3])

theorem blk1 (c : Dev nD) (t : Fin cfg0.N) (k : Fin 1024) :
    (iblk m c 1 t : Vec Ideal S1x1x1024 .f32) (ix3 0 0 k) = hM m c (ix3 (ptB t) 0 ⟨k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx1 t
  funext a
  apply Fin.ext
  match a with
  | ⟨0, _⟩ => show win0_1.index t 0 * 1 + 1 * (0 : Fin 1).val = _; rw [e0]; first | rfl | (simp only [ptB, ptS, ix3]; omega) | (simp [ptB, ptS, ix3])
  | ⟨1, _⟩ => show win0_1.index t 1 * 1 + 1 * (0 : Fin 1).val = _; rw [e1]; first | rfl | (simp only [ptB, ptS, ix3]; omega) | (simp [ptB, ptS, ix3])
  | ⟨2, _⟩ => show win0_1.index t 2 * 1024 + 1 * k.val = _; rw [e2]; first | rfl | (simp only [ptB, ptS, ix3]; omega) | (simp [ptB, ptS, ix3])

theorem blk2 (c : Dev nD) (t : Fin cfg0.N) (k : Fin 1024) :
    (iblk m c 2 t : Vec Ideal S1x1x1024 .f32) (ix3 0 0 k) = hM m c (ix3 (ptB t) 0 ⟨1024 + k.val, by have := k.isLt; omega⟩) := by
  unfold iblk
  rw [View.read_apply]
  show V m c main_arg1 _ = _
  entry_read
  show m (c, Proc.tc.devRef main_arg1) _ = m (c, Proc.tc.devRef main_arg1) _
  congr 1
  obtain ⟨e0, e1, e2⟩ := idx2 t
  funext a
  apply Fin.ext
  match a with
  | ⟨0, _⟩ => show win0_2.index t 0 * 1 + 1 * (0 : Fin 1).val = _; rw [e0]; first | rfl | (simp only [ptB, ptS, ix3]; omega) | (simp [ptB, ptS, ix3])
  | ⟨1, _⟩ => show win0_2.index t 1 * 1 + 1 * (0 : Fin 1).val = _; rw [e1]; first | rfl | (simp only [ptB, ptS, ix3]; omega) | (simp [ptB, ptS, ix3])
  | ⟨2, _⟩ => show win0_2.index t 2 * 1024 + 1 * k.val = _; rw [e2]; first | rfl | (simp only [ptB, ptS, ix3]; omega) | (simp [ptB, ptS, ix3])

theorem blk3 (c : Dev nD) (t : Fin cfg0.N) (k : Fin 1024) :
    (iblk m c 3 t : Vec Ideal S1x1024 .f32) (ix2 0 k) = hN m c (ix1 k) := by
  unfold iblk
  rw [View.read_apply]
  have hj : ((cfg0.win 3).blk t).view.emb (ix2 0 k : S1x1024.Idx) = (ix2 0 k : S1x1024.Idx) := by
    obtain ⟨e0, e1⟩ := idx3 t
    funext a
    apply Fin.ext
    match a with
    | ⟨0, _⟩ => show win0_3.index t 0 * 1 + 1 * (0 : Fin 1).val = _; rw [e0]; first | rfl | (simp only [ptB, ptS, ix2, ix3]; omega) | (simp [ptB, ptS, ix2, ix3])
    | ⟨1, _⟩ => show win0_3.index t 1 * 1024 + 1 * k.val = _; rw [e1]; first | rfl | (simp only [ptB, ptS, ix2, ix3]; omega) | (simp [ptB, ptS, ix2, ix3])
  show V m c main_v15 _ = _
  rw [hj]
  exact v15_at m c k

theorem blk4 (c : Dev nD) (t : Fin cfg0.N) (k : Fin 1024) (j : Fin 2432) (hlt : j.val < 1352) :
    (iblk m c 4 t : Vec Ideal S1024x2432 .bf16) (ix2 k j) = (hW m c (ix2 k ⟨j.val, by omega⟩) : EReal) := by
  unfold iblk
  rw [View.read_apply]
  have hj : ((cfg0.win 4).blk t).view.emb (ix2 k j : S1024x2432.Idx) = (ix2 k j : S1024x2432.Idx) := by
    obtain ⟨e0, e1⟩ := idx4 t
    funext a
    apply Fin.ext
    match a with
    | ⟨0, _⟩ => show win0_4.index t 0 * 1024 + 1 * k.val = _; rw [e0]; first | rfl | (simp only [ptB, ptS, ix2, ix3]; omega) | (simp [ptB, ptS, ix2, ix3])
    | ⟨1, _⟩ => show win0_4.index t 1 * 2432 + 1 * j.val = _; rw [e1]; first | rfl | (simp only [ptB, ptS, ix2, ix3]; omega) | (simp [ptB, ptS, ix2, ix3])
  show V m c main_v5 _ = _
  rw [hj]
  exact v5_at m c k j hlt

theorem blk5 (c : Dev nD) (t : Fin cfg0.N) (l : Fin 128) :
    (iblk m c 5 t : Vec Ideal S2x128 .f32) (ix2 0 l) = hG m c (ix1 ⟨l.val % 64, by omega⟩) := by
  unfold iblk
  rw [View.read_apply]
  have hj : ((cfg0.win 5).blk t).view.emb (ix2 0 l : S2x128.Idx) = (ix2 0 l : S2x128.Idx) := by
    obtain ⟨e0, e1⟩ := idx5 t
    funext a
    apply Fin.ext
    match a with
    | ⟨0, _⟩ => show win0_5.index t 0 * 2 + 1 * (0 : Fin 2).val = _; rw [e0]; first | rfl | (simp only [ptB, ptS, ix2, ix3]; omega) | (simp [ptB, ptS, ix2, ix3])
    | ⟨1, _⟩ => show win0_5.index t 1 * 128 + 1 * l.val = _; rw [e1]; first | rfl | (simp only [ptB, ptS, ix2, ix3]; omega) | (simp [ptB, ptS, ix2, ix3])
  show V m c main_v14 _ = _
  rw [hj]
  exact v14_at m c l

theorem blk7 (c : Dev nD) (t : Fin cfg0.N) (k l : Fin 128) :
    (iblk m c 7 t : Vec Ideal S128x128 .bf16) (ix2 k l) = (blkOne k l : EReal) := by
  unfold iblk
  rw [View.read_apply]
  have hj : ((cfg0.win 7).blk t).view.emb (ix2 k l : S128x128.Idx) = (ix2 k l : S128x128.Idx) := by
    obtain ⟨e0, e1⟩ := idx7 t
    funext a
    apply Fin.ext
    match a with
    | ⟨0, _⟩ => show win0_7.index t 0 * 128 + 1 * k.val = _; rw [e0]; first | rfl | (simp only [ptB, ptS, ix2, ix3]; omega) | (simp [ptB, ptS, ix2, ix3])
    | ⟨1, _⟩ => show win0_7.index t 1 * 128 + 1 * l.val = _; rw [e1]; first | rfl | (simp only [ptB, ptS, ix2, ix3]; omega) | (simp [ptB, ptS, ix2, ix3])
  show V m c main_cst _ = _
  rw [hj]
  exact bd_at m c k l

theorem tab0 (c : Dev nD) (t : Fin cfg0.N) (r : Fin 512) (l : Fin 128) :
    (iblk m c 6 t : Vec Ideal S6x512x128 .f32) (ix3 0 r l) = (ck (ptS t r).val l.val : EReal) := by
  unfold iblk
  rw [View.read_apply]
  have hj : ((cfg0.win 6).blk t).view.emb (ix3 0 r l : S6x512x128.Idx) = (ix3 0 (ptS t r) l : S6x4096x128.Idx) := by
    obtain ⟨e0, e1, e2⟩ := idx6 t
    funext a
    apply Fin.ext
    match a with
    | ⟨0, _⟩ => show win0_6.index t 0 * 6 + 1 * (0 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t0_at m c (ptS t r) l

theorem tab1 (c : Dev nD) (t : Fin cfg0.N) (r : Fin 512) (l : Fin 128) :
    (iblk m c 6 t : Vec Ideal S6x512x128 .f32) (ix3 1 r l) = (sak (ptS t r).val l.val : EReal) := by
  unfold iblk
  rw [View.read_apply]
  have hj : ((cfg0.win 6).blk t).view.emb (ix3 1 r l : S6x512x128.Idx) = (ix3 1 (ptS t r) l : S6x4096x128.Idx) := by
    obtain ⟨e0, e1, e2⟩ := idx6 t
    funext a
    apply Fin.ext
    match a with
    | ⟨0, _⟩ => show win0_6.index t 0 * 6 + 1 * (1 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t1_at m c (ptS t r) l

theorem tab2 (c : Dev nD) (t : Fin cfg0.N) (r : Fin 512) (l : Fin 128) :
    (iblk m c 6 t : Vec Ideal S6x512x128 .f32) (ix3 2 r l) = (sbk (ptS t r).val l.val : EReal) := by
  unfold iblk
  rw [View.read_apply]
  have hj : ((cfg0.win 6).blk t).view.emb (ix3 2 r l : S6x512x128.Idx) = (ix3 2 (ptS t r) l : S6x4096x128.Idx) := by
    obtain ⟨e0, e1, e2⟩ := idx6 t
    funext a
    apply Fin.ext
    match a with
    | ⟨0, _⟩ => show win0_6.index t 0 * 6 + 1 * (2 : Fin 6).val = _; rw [e0]; first | rfl | (simp only [ptB, ptS, ix2, ix3]; omega) | (simp [ptB, ptS, ix2, ix3])
    | ⟨1, _⟩ => show win0_6.index t 1 * 512 + 1 * r.val = _; rw [e1]; first | rfl | (simp only [ptB, ptS, ix2, ix3]; omega) | (simp [ptB, ptS, ix2, ix3])
    | ⟨2, _⟩ => show win0_6.index t 2 * 128 + 1 * l.val = _; rw [e2]; first | rfl | (simp only [ptB, ptS, ix2, ix3]; omega) | (simp [ptB, ptS, ix2, ix3])
  show V m c main_v54 _ = _
  rw [hj]
  exact t2_at m c (ptS t r) l

end Cert.InQueryIdeal.Gen
end
-- ==== Proof.QueryStep.lean ====
/- One tile of the input projection at the ideal instance: what a grid point leaves in its query block, read entry by
   entry. The block is stored in four parts of 128 lanes. -/
module

public import proofs.«01_k».proof.Proof.IndexStep
public import proofs.«01_k».proof.Proof.Gen.InQueryIdeal.Value
public import Idealize.ShloMosaic.Lib.Pipeline.ValueKit
public import Idealize.ShloMosaic.Lib.Pointwise
public import Idealize.ShloMosaic.Lib.Tactic
public import Idealize.ShloMosaic.Lib.KernelVsHost

@[expose] public section

open Idealize.ShloMosaic

noncomputable section

namespace Cert.InQueryIdeal.Gen

open Cert.InQueryIdeal Cert.Proof.In

set_option maxRecDepth 16384
set_option maxHeartbeats 2000000

theorem zero2 : (![0, 0] : Fin 2 → Nat) = fun _ => 0 := funext fun a => by fin_cases a <;> rfl
theorem zero3 : (![0, 0, 0] : Fin 3 → Nat) = fun _ => 0 := funext fun a => by fin_cases a <;> rfl

/-- What four stores of 128 lanes leave, by lane. -/
theorem parts (p : Fin 4 → Vec Ideal S1x512x128 .bf16) (r : Fin 512) (q : Fin 4) (l : Fin 128) :
    View.canon (Val := Elt Ideal) (e := .bf16) [⟨r0_16, p 3⟩, ⟨r0_15, p 2⟩, ⟨r0_14, p 1⟩, ⟨r0_13, p 0⟩] (ix3 0 r (lane q l)) = p q (ix3 0 r l) := by
  refine View.canon_eq_of_allAt _ _ _ (cover0_8 (F := Ideal) (p 3) (p 2) (p 1) (p 0) _) ?_
  have hx : ∀ (n : Fin 4) (x : S1x512x128.Idx), 0 + 1 * (x 1).val = r.val → n.val * 128 + 1 * (x 2).val = q.val * 128 + l.val → p n x = p q (ix3 0 r l) := by
    intro n x h1 h2
    have e2 : (x 2).val < 128 := (x 2).isLt
    have e0 : (x 0).val < 1 := (x 0).isLt
    have hl := l.isLt
    have hn : n = q := Fin.ext (by omega)
    subst hn
    refine congrArg (p n) (funext fun a => Fin.ext ?_)
    match a with
    | ⟨0, _⟩ => show (x 0).val = 0; omega
    | ⟨1, _⟩ => show (x 1).val = r.val; omega
    | ⟨2, _⟩ => show (x 2).val = l.val; omega
  intro s hs x hxe
  have h1 := congrArg (fun i : S1x512x512.Idx => (i 1).val) hxe
  have h2 := congrArg (fun i : S1x512x512.Idx => (i 2).val) hxe
  simp only [List.mem_cons, List.not_mem_nil, or_false] at hs
  rcases hs with rfl | rfl | rfl | rfl
  · exact hx 3 x h1 h2
  · exact hx 2 x h1 h2
  · exact hx 1 x h1 h2
  · exact hx 0 x h1 h2

theorem parts_eq (p0 p1 p2 p3 : Vec Ideal S1x512x128 .bf16) (r : Fin 512) (l : Fin 128) (f : Fin 4 → EReal) (h0 : p0 (ix3 0 r l) = f 0)
    (h1 : p1 (ix3 0 r l) = f 1) (h2 : p2 (ix3 0 r l) = f 2) (h3 : p3 (ix3 0 r l) = f 3) (q : Fin 4) :
    View.canon (Val := Elt Ideal) (e := .bf16) [⟨r0_16, p3⟩, ⟨r0_15, p2⟩, ⟨r0_14, p1⟩, ⟨r0_13, p0⟩] (ix3 0 r (lane q l)) = f q := by
  refine (parts ![p0, p1, p2, p3] r q l).trans ?_
  match q with
  | ⟨0, _⟩ => exact h0
  | ⟨1, _⟩ => exact h1
  | ⟨2, _⟩ => exact h2
  | ⟨3, _⟩ => exact h3

theorem feat_apply (x0 : Vec Ideal S1x512x1024 .f32) (x3 : Vec Ideal S1x1024 .f32) (x2 x1 : Vec Ideal S1x1x1024 .f32) (r : Fin 512) (k : Fin 1024) :
    k0_pay2 (F := Ideal) x0 x3 x2 x1 (ix2 r k)
      = feat (fun j => x0 (ix3 0 r j)) (fun j => x3 (ix2 0 j)) (fun j => x2 (ix3 0 0 j)) (fun j => x1 (ix3 0 0 j)) k := by
  pointwise [k0_pay2, feat]

theorem h_apply (x0 : Vec Ideal S1x512x1024 .f32) (x1 x2 : Vec Ideal S1x1x1024 .f32) (x3 : Vec Ideal S1x1024 .f32) (x4 : Vec Ideal S1024x2432 .bf16)
    (x5 : Vec Ideal S2x128 .f32) (x6 : Vec Ideal S6x512x128 .f32) (x7 : Vec Ideal S128x128 .bf16) (r : Fin 512) (k : Fin 1024) :
    k0_pay43 (F := Ideal) x0 x1 x2 x3 x4 x5 x6 x7 (ix2 r k)
      = feat (fun j => x0 (ix3 0 r j)) (fun j => x3 (ix2 0 j)) (fun j => x2 (ix3 0 0 j)) (fun j => x1 (ix3 0 0 j)) k := by
  unfold k0_pay43
  rw [View.ld_unit_zero (S := S1x512x1024) zero3, View.ld_unit_zero (S := S1x1024) zero2, View.ld_unit_zero (S := S1x1x1024) zero3,
    View.ld_unit_zero (S := S1x1x1024) zero3]
  exact feat_apply x0 x3 x2 x1 r k

theorem prod_apply (h : Vec Ideal S512x1024 .bf16) (w : Vec Ideal S1024x512 .bf16) (r l : Fin 512) :
    k0_pay11 (F := Ideal) h w (ix2 r l) = ∑ k : Fin 1024, (h (ix2 r k) * w (ix2 k l) : EReal) := by
  pointwise [k0_pay11]

theorem lane0 (n : Fin 128) : lane 0 n = ⟨n.val, by have := n.isLt; omega⟩ := Fin.ext (by show 0 * 128 + n.val = n.val; omega)

theorem part0 (h : Vec Ideal S512x1024 .bf16) (w : Vec Ideal S1024x512 .bf16) (t0 t1 t2 : Vec Ideal S512x128 .f32) (bd : Vec Ideal S128x128 .bf16) (g : Vec Ideal S1x128 .f32) (r : Fin 512) (l : Fin 128) :
    k0_pay13 (F := Ideal) (k0_pay12 h t0 t1 t2 bd g w) (ix3 0 r l)
      = rowTurn (rowNorm (fun n => k0_pay11 (F := Ideal) h w (ix2 r (lane 0 n))) (fun k l => bd (ix2 k l)) fun l => g (ix2 0 l))
          (fun l => t0 (ix2 r l)) (fun l => t1 (ix2 r l)) (fun l => t2 (ix2 r l)) l * Ideal.ofBits .f32 0x3E000000#32 := by
  unfold k0_pay13 k0_pay12
  generalize k0_pay11 (F := Ideal) h w = z
  pointwise [rowTurn, rowNorm, k0_pay9]
  simp only [lane0]

theorem part1 (z : Vec Ideal S512x512 .f32) (t0 t1 t2 : Vec Ideal S512x128 .f32) (bd : Vec Ideal S128x128 .bf16) (g : Vec Ideal S1x128 .f32) (r : Fin 512) (l : Fin 128) :
    k0_pay14 (F := Ideal) t0 t1 t2 bd g z (ix3 0 r l)
      = rowTurn (rowNorm (fun n => z (ix2 r (lane 1 n))) (fun k l => bd (ix2 k l)) fun l => g (ix2 0 l))
          (fun l => t0 (ix2 r l)) (fun l => t1 (ix2 r l)) (fun l => t2 (ix2 r l)) l * Ideal.ofBits .f32 0x3E000000#32 := by
  pointwise [k0_pay14, rowTurn, rowNorm]
  rfl

theorem part2 (z : Vec Ideal S512x512 .f32) (t0 t1 t2 : Vec Ideal S512x128 .f32) (bd : Vec Ideal S128x128 .bf16) (g : Vec Ideal S1x128 .f32) (r : Fin 512) (l : Fin 128) :
    k0_pay20 (F := Ideal) t0 t1 t2 g (k0_pay15 z) (k0_pay18 bd z) (k0_pay19 bd z) (ix3 0 r l)
      = rowTurn (rowNorm (fun n => z (ix2 r (lane 2 n))) (fun k l => bd (ix2 k l)) fun l => g (ix2 0 l))
          (fun l => t0 (ix2 r l)) (fun l => t1 (ix2 r l)) (fun l => t2 (ix2 r l)) l * Ideal.ofBits .f32 0x3E000000#32 := by
  pointwise [k0_pay20, k0_pay15, k0_pay18, k0_pay19, k0_pay16, k0_pay17, rowTurn, rowNorm]
  rfl

theorem part3 (z : Vec Ideal S512x512 .f32) (t0 t1 t2 : Vec Ideal S512x128 .f32) (bd : Vec Ideal S128x128 .bf16) (g : Vec Ideal S1x128 .f32) (r : Fin 512) (l : Fin 128) :
    k0_pay22 (F := Ideal) (k0_pay21 t0 t1 t2 bd g z) (ix3 0 r l)
      = rowTurn (rowNorm (fun n => z (ix2 r (lane 3 n))) (fun k l => bd (ix2 k l)) fun l => g (ix2 0 l))
          (fun l => t0 (ix2 r l)) (fun l => t1 (ix2 r l)) (fun l => t2 (ix2 r l)) l * Ideal.ofBits .f32 0x3E000000#32 := by
  pointwise [k0_pay22, k0_pay21, rowTurn, rowNorm]
  rfl

/-- The call's query block: the first 512 columns, normalised by head, turned by the rotary tables 0, 1 and 2, and scaled by an
    eighth. -/
theorem q_apply (x0 : Vec Ideal S1x512x1024 .f32) (x1 x2 : Vec Ideal S1x1x1024 .f32) (x3 : Vec Ideal S1x1024 .f32) (x4 : Vec Ideal S1024x2432 .bf16)
    (x5 : Vec Ideal S2x128 .f32) (x6 : Vec Ideal S6x512x128 .f32) (x7 : Vec Ideal S128x128 .bf16) (r : Fin 512) (q : Fin 4) (l : Fin 128) :
    out0_8 (F := Ideal) x0 x1 x2 x3 x4 x5 x6 x7 (ix3 0 r (lane q l))
      = rowTurn (rowNorm (fun n => ∑ k, feat (fun j => x0 (ix3 0 r j)) (fun j => x3 (ix2 0 j)) (fun j => x2 (ix3 0 0 j)) (fun j => x1 (ix3 0 0 j)) k
              * x4 (ix2 k ⟨(lane q n).val, by have := (lane q n).isLt; omega⟩)) (fun k l => x7 (ix2 k l)) fun l => x5 (ix2 0 l))
          (fun l => x6 (ix3 0 r l)) (fun l => x6 (ix3 1 r l)) (fun l => x6 (ix3 2 r l)) l * Ideal.ofBits .f32 0x3E000000#32 := by
  have e : ∀ (g : Vec Ideal S1x128 .f32) (_ : ∀ l, g (ix2 0 l) = x5 (ix2 0 l)) (q : Fin 4),
      rowTurn (rowNorm (fun n => k0_pay11 (F := Ideal) (k0_pay43 x0 x1 x2 x3 x4 x5 x6 x7) (View.ld x4 r0_12) (ix2 r (lane q n))) (fun k l => x7 (ix2 k l)) fun l => g (ix2 0 l))
        (fun l => k0_pay44 (F := Ideal) x0 x1 x2 x3 x4 x5 x6 x7 (ix2 r l)) (fun l => k0_pay45 (F := Ideal) x0 x1 x2 x3 x4 x5 x6 x7 (ix2 r l))
        (fun l => k0_pay46 (F := Ideal) x0 x1 x2 x3 x4 x5 x6 x7 (ix2 r l)) l * Ideal.ofBits .f32 0x3E000000#32
      = rowTurn (rowNorm (fun n => ∑ k, feat (fun j => x0 (ix3 0 r j)) (fun j => x3 (ix2 0 j)) (fun j => x2 (ix3 0 0 j)) (fun j => x1 (ix3 0 0 j)) k
              * x4 (ix2 k ⟨(lane q n).val, by have := (lane q n).isLt; omega⟩)) (fun k l => x7 (ix2 k l)) fun l => x5 (ix2 0 l))
          (fun l => x6 (ix3 0 r l)) (fun l => x6 (ix3 1 r l)) (fun l => x6 (ix3 2 r l)) l * Ideal.ofBits .f32 0x3E000000#32 := by
    intro g hg q
    refine congrArg (fun z : EReal => z * Ideal.ofBits .f32 0x3E000000#32) ?_
    congr 1
    · congr 1
      · funext n
        rw [prod_apply]
        refine Finset.sum_congr rfl fun k _ => ?_
        rw [h_apply]
        congr 1
        pointwise []
      · funext l
        exact hg l
    · funext l
      pointwise [k0_pay44, k0_pay3]
    · funext l
      pointwise [k0_pay45, k0_pay4]
    · funext l
      pointwise [k0_pay46, k0_pay5]
  have hg : ∀ l, (View.ld x5 r0_10 : Vec Ideal S1x128 .f32) (ix2 0 l) = x5 (ix2 0 l) := fun l => by pointwise []
  have hg' : ∀ l, k0_pay50 (F := Ideal) x0 x1 x2 x3 x4 x5 x6 x7 (ix2 0 l) = x5 (ix2 0 l) := fun l => by pointwise [k0_pay50, k0_pay9]
  unfold out0_8
  rw [View.ld_unit_zero (S := S128x128) zero2]
  exact parts_eq _ _ _ _ r l (fun q => rowTurn (rowNorm (fun n => ∑ k, feat (fun j => x0 (ix3 0 r j)) (fun j => x3 (ix2 0 j)) (fun j => x2 (ix3 0 0 j)) (fun j => x1 (ix3 0 0 j)) k
              * x4 (ix2 k ⟨(lane q n).val, by have := (lane q n).isLt; omega⟩)) (fun k l => x7 (ix2 k l)) fun l => x5 (ix2 0 l))
          (fun l => x6 (ix3 0 r l)) (fun l => x6 (ix3 1 r l)) (fun l => x6 (ix3 2 r l)) l * Ideal.ofBits .f32 0x3E000000#32)
    ((part0 _ _ _ _ _ _ _ r l).trans (e _ hg 0)) ((part1 _ _ _ _ _ _ r l).trans (e _ hg' 1)) ((part2 _ _ _ _ _ _ r l).trans (e _ hg' 2))
    ((part3 _ _ _ _ _ _ r l).trans (e _ hg' 3)) q

end Cert.InQueryIdeal.Gen
end
-- ==== Proof.QueryRef.lean ====
/- The reference of the queries at the ideal instance, read entry by entry: the projection, its normalisation by head, and the turn. -/
module

public import proofs.«01_k».proof.Proof.KeyMath
public import proofs.«01_k».proof.Proof.InValue
public import proofs.«01_k».proof.Proof.IndexStep
public import proofs.«01_k».proof.Proof.Gen.InQueryRefIdeal.Run
public import Idealize.ShloMosaic.Lib.Pointwise
public import Idealize.ShloMosaic.Lib.Tactic
public import Idealize.ShloMosaic.Lib.KernelVsHost

@[expose] public section

open Idealize.ShloMosaic

noncomputable section

namespace Cert.InQueryRefIdeal.Value

open Cert.InQueryRefIdeal Cert.InQueryRefIdeal.Gen Cert.Proof.In

set_option maxRecDepth 16384
set_option maxHeartbeats 8000000

/-- The projected columns. -/
def projQ (a0 : Vec Ideal S4x4096x1024 .f32) (a1 : Vec Ideal S4x1x6144 .f32) (a2 : Vec Ideal S1024 .f32) (a3 : Vec Ideal S1024x2376 .f32) :
    Vec Ideal S4x4096x512 .f32 :=
  extractStridedSlice S4x4096x512 ![0, 0, 0] (Host.dotGeneral (F := Ideal) (φ₁ := .f32) (φ₂ := .f32) dot_S4x4096x1024_S1024x2376_S4x4096x2376_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 a2))) (broadcastInDim S4x4096x1024 ![0, 1, 2] bcast_S4x1x1024_S4x4096x1024_0_1_2 (addf (broadcastInDim S4x1x1024 ![] bcast_S_S4x1x1024 (constant (F := Ideal) S_ .f32 0x3F800000#32)) (extractStridedSlice S4x1x1024 ![0, 0, 1024] a1 slices_S4x1x6144_S4x1x1024_0_0_1024)))) (broadcastInDim S4x4096x1024 ![0, 1, 2] bcast_S4x1x1024_S4x4096x1024_0_1_2 (extractStridedSlice S4x1x1024 ![0, 0, 0] a1 slices_S4x1x6144_S4x1x1024_0_0_0))) a3) slices_S4x4096x2376_S4x4096x512_0_0_0

/-- The queries normalised by head. -/
def normQ (K : Vec Ideal S4x4096x512 .f32) (a4 : Vec Ideal S64 .f32) : Vec Ideal S4x4096x8x64 .f32 :=
  mulf (mulf (shapeCast S4x4096x8x64 K shapeCasts_S4x4096x512_S4x4096x8x64) (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf (shapeCast S4x4096x8x64 K shapeCasts_S4x4096x512_S4x4096x8x64) (shapeCast S4x4096x8x64 K shapeCasts_S4x4096x512_S4x4096x8x64)) (constant (F := Ideal) S_ .f32 0x00000000#32) reducesTo_S4x4096x8x64_S4x4096x8_d3 h_S_)) (broadcastInDim S4x4096x8x1 ![] bcast_S_S4x4096x8x1 (constant (F := Ideal) S_ .f32 0x42800000#32))) (broadcastInDim S4x4096x8x1 ![] bcast_S_S4x4096x8x1 (constant (F := Ideal) S_ .f32 0x358637BD#32)))))) (broadcastInDim S4x4096x8x64 ![0, 1, 2, 3] bcast_S1x1x1x64_S4x4096x8x64_0_1_2_3 (broadcastInDim S1x1x1x64 ![3] bcast_S64_S1x1x1x64_3 a4))

/-- The columns turned, by head. -/
def turnQ (N : Vec Ideal S4x4096x8x64 .f32) : Vec Ideal S4x4096x512 .f32 :=
  shapeCast S4x4096x512 ((concatenate S4x4096x8x64 3 [⟨S4x4096x8x8, ((subf (mulf (extractStridedSlice S4x4096x8x8 ![0, 0, 0, 0] N slices_S4x4096x8x64_S4x4096x8x8_0_0_0_0) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 (Host.cos (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S4x4096x8x8 ![0, 0, 0, 8] N slices_S4x4096x8x64_S4x4096x8x8_0_0_0_8) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 (Host.sin (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S4x4096x8x8 .f32)⟩, ⟨S4x4096x8x8, ((addf (mulf (extractStridedSlice S4x4096x8x8 ![0, 0, 0, 8] N slices_S4x4096x8x64_S4x4096x8x8_0_0_0_8) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 (Host.cos (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32)))))))))))) (mulf (extractStridedSlice S4x4096x8x8 ![0, 0, 0, 0] N slices_S4x4096x8x64_S4x4096x8x8_0_0_0_0) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 (Host.sin (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant (F := Ideal) S_ .f32 0x48F42400#32)) (Host.divf (Host.negf (sitofp .f32 (iotaInDim S8 32 0))) (broadcastInDim S8 ![] bcast_S_S8 (constant (F := Ideal) S_ .f32 0x41000000#32))))))))))))) : Vec Ideal S4x4096x8x8 .f32)⟩, ⟨S4x4096x8x48, ((extractStridedSlice S4x4096x8x48 ![0, 0, 0, 16] N slices_S4x4096x8x64_S4x4096x8x48_0_0_0_16) : Vec Ideal S4x4096x8x48 .f32)⟩] concatenates_S4x4096x8x8_S4x4096x8x8_S4x4096x8x48_S4x4096x8x64_d3 : Vec Ideal S4x4096x8x64 .f32)) shapeCasts_S4x4096x8x64_S4x4096x512

theorem projQ_apply (a0 : Vec Ideal S4x4096x1024 .f32) (a1 : Vec Ideal S4x1x6144 .f32) (a2 : Vec Ideal S1024 .f32) (a3 : Vec Ideal S1024x2376 .f32)
    (b : Fin 4) (s : Fin 4096) (l : Fin 512) :
    projQ a0 a1 a2 a3 (ix3 b s l)
      = proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨l.val, by have := l.isLt; omega⟩)) := by
  unfold projQ
  pointwise [proj, feat]

theorem normQ_apply (K : Vec Ideal S4x4096x512 .f32) (a4 : Vec Ideal S64 .f32) (b : Fin 4) (s : Fin 4096) (q : Fin 4) (l : Fin 128) :
    normQ K a4 (ix4 b s ⟨q.val * 2 + l.val / 64, by have := q.isLt; have := l.isLt; omega⟩ ⟨l.val % 64, by omega⟩)
      = headNorm (fun n => K (ix3 b s (lane q n))) (fun e => a4 (ix1 e)) l := by
  unfold normQ
  have e1 : (q.val * 2 + l.val / 64) * 64 + l.val % 64 = q.val * 128 + l.val := by omega
  have e2 : ∀ e : Nat, (q.val * 2 + l.val / 64) * 64 + e = q.val * 128 + (l.val / 64 * 64 + e) := by intro e; omega
  pointwise [headNorm]
  simp only [e1]
  simp only [e2]

theorem turnQ_apply (N : Vec Ideal S4x4096x8x64 .f32) (b : Fin 4) (s : Fin 4096) (q : Fin 4) (l : Fin 128) :
    turnQ N (ix3 b s (lane q l))
      = turned s.val (fun l => N (ix4 b s ⟨q.val * 2 + l.val / 64, by have := q.isLt; have := l.isLt; omega⟩ ⟨l.val % 64, by omega⟩)) l := by
  unfold turnQ
  have hl := l.isLt
  have d1 : (q.val * 128 + l.val) / 64 = q.val * 2 + l.val / 64 := by omega
  have d2 : (q.val * 128 + l.val) % 64 = l.val % 64 := by omega
  pointwise [turned, ang]
  simp only [d1, d2]
  by_cases h2 : l.val % 64 < 8
  · have e1 : (l.val + 8) / 64 = l.val / 64 := by omega
    have e2 : (l.val + 8) % 64 = 8 + l.val % 64 := by omega
    simp only [h2, ↓reduceDIte, e1, e2]
  · by_cases h3 : l.val % 64 - 8 < 8
    · have e0 : 8 + (l.val % 64 - 8) = l.val % 64 := by omega
      have e1 : (l.val - 8) / 64 = l.val / 64 := by omega
      have e2 : (l.val - 8) % 64 = l.val % 64 - 8 := by omega
      simp only [h2, h3, ↓reduceDIte, e0, e1, e2]
    · have e0 : 16 + (l.val % 64 - 8 - 8) = l.val % 64 := by omega
      simp only [h2, h3, ↓reduceDIte, e0]

end Cert.InQueryRefIdeal.Value
end
-- ==== Proof.QueryValue.lean ====
/- The input projection at the ideal instance: for finite inputs its query array, entry by entry, is the reference's. -/
module

public import proofs.«01_k».proof.Defs
public import proofs.«01_k».proof.Proof.QueryBlocks
public import proofs.«01_k».proof.Proof.QueryStep
public import proofs.«01_k».proof.Proof.KeyValue
public import proofs.«01_k».proof.Proof.QueryRef
public import Idealize.ShloMosaic.Lib.Claim

@[expose] public section

open Idealize.ShloMosaic Idealize.ShloMosaic.TcCoe Idealize.SL.Sem

noncomputable section

namespace Cert.InQueryIdeal.Gen

open Cert.InQueryIdeal Cert.Proof.In

set_option maxRecDepth 16384
set_option maxHeartbeats 8000000

variable (m : (ℓ : Loc nD τ sig) → Buf (Elt Ideal) ℓ)

theorem flush8 : ∀ t : Fin cfg0.N, (cfg0.win 8).flush t = true := (by decide +kernel : ∀ t : Fin grid0.N, _)

/-- Output window 8's array at the place of a grid point's block entry is what the point leaves there. -/
theorem arr8 (c : Dev nD) (t : Fin cfg0.N) (r l : Fin 512) :
    ((dats m 0 c).arrAt 8 cfg0.N : S4x4096x512.Idx → EReal) (ix3 (ptB t) (ptS t r) l)
      = out0_8 (iblk m c 0 t) (iblk m c 1 t) (iblk m c 2 t) (iblk m c 3 t) (iblk m c 4 t) (iblk m c 5 t) (iblk m c 6 t) (iblk m c 7 t) (ix3 0 r l) := by
  have e := congrFun (Value.blocks8 m c t (flush8 t)) (ix3 0 r l : S1x512x512.Idx)
  rw [View.read_apply, Value.flushed8] at e
  have hj : ((cfg0.win 8).blk t).view.emb (ix3 0 r l : S1x512x512.Idx) = (ix3 (ptB t) (ptS t r) l : S4x4096x512.Idx) := by
    obtain ⟨e0, e1, e2⟩ := idx8 t
    funext a
    apply Fin.ext
    match a with
    | ⟨0, _⟩ => show win0_8.index t 0 * 1 + 1 * (0 : Fin 1).val = _; rw [e0]; first | rfl | (simp only [ptB, ptS, ix3]; omega) | (simp [ptB, ptS, ix3])
    | ⟨1, _⟩ => show win0_8.index t 1 * 512 + 1 * r.val = _; rw [e1]; first | rfl | (simp only [ptB, ptS, ix3]; omega) | (simp [ptB, ptS, ix3])
    | ⟨2, _⟩ => show win0_8.index t 2 * 512 + 1 * l.val = _; rw [e2]; first | rfl | (simp only [ptB, ptS, ix3]; omega) | (simp [ptB, ptS, ix3])
  rw [hj] at e
  exact e

/-- One projected column of one token, from the call's argument arrays. -/
abbrev col (c : Dev nD) (b : Fin 4) (s : Fin 4096) (j : Fin 2376) : EReal :=
  proj (fun j => hX m c (ix3 b s j)) (fun j => hN m c (ix1 j)) (fun j => hM m c (ix3 b 0 ⟨1024 + j.val, by have := j.isLt; omega⟩))
    (fun j => hM m c (ix3 b 0 ⟨j.val, by have := j.isLt; omega⟩)) (fun k => hW m c (ix2 k j))

/-- A column of the padded weights before the padding, applied to a token's features. -/
theorem colLow (c : Dev nD) (t : Fin cfg0.N) (r : Fin 512) (j : Fin 2432) (hj : j.val < 1352) :
    (∑ k, feat (fun j => (iblk m c 0 t : Vec Ideal S1x512x1024 .f32) (ix3 0 r j)) (fun j => (iblk m c 3 t : Vec Ideal S1x1024 .f32) (ix2 0 j))
        (fun j => (iblk m c 2 t : Vec Ideal S1x1x1024 .f32) (ix3 0 0 j)) (fun j => (iblk m c 1 t : Vec Ideal S1x1x1024 .f32) (ix3 0 0 j)) k
        * (iblk m c 4 t : Vec Ideal S1024x2432 .bf16) (ix2 k j))
      = col m c (ptB t) (ptS t r) ⟨j.val, by omega⟩ := by
  unfold col proj
  refine Finset.sum_congr rfl fun k _ => ?_
  rw [blk4 m c t k j hj]
  simp only [blk0, blk1, blk2, blk3]

/-- The grid point and the row that hold a token. -/
theorem point_of (b : Fin 4) (s : Fin 4096) : ∃ (t : Fin cfg0.N) (r : Fin 512), ptB t = b ∧ ptS t r = s := by
  have hb := b.isLt; have hs := s.isLt
  refine ⟨⟨b.val * 8 + s.val / 512, by rw [show cfg0.N = 32 from N_0]; omega⟩, ⟨s.val % 512, by omega⟩, Fin.ext ?_, Fin.ext ?_⟩
  · show (b.val * 8 + s.val / 512) / 8 = b.val; omega
  · show (b.val * 8 + s.val / 512) % 8 * 512 + s.val % 512 = s.val; omega

/-- The call's query array, entry by entry, for finite inputs. -/
theorem q_eq (c : Dev nD) (hx : ∀ i, IsReal (hX m c i)) (hm : ∀ i, IsReal (hM m c i)) (hn : ∀ i, IsReal (hN m c i)) (hw : ∀ i, IsReal (hW m c i))
    (b : Fin 4) (s : Fin 4096) (q : Fin 4) (l : Fin 128) :
    ((dats m 0 c).arrAt 8 cfg0.N : S4x4096x512.Idx → EReal) (ix3 b s (lane q l))
      = turned s.val (headNorm (fun n : Fin 128 => col m c b s ⟨(lane q n).val, by have := (lane q n).isLt; omega⟩) fun e => hG m c (ix1 e)) l * Ideal.ofBits .f32 0x3E000000#32 := by
  obtain ⟨t, r, rfl, rfl⟩ := point_of b s
  rw [arr8, q_apply]
  have hY : (fun n : Fin 128 => ∑ k, feat (fun j => (iblk m c 0 t : Vec Ideal S1x512x1024 .f32) (ix3 0 r j)) (fun j => (iblk m c 3 t : Vec Ideal S1x1024 .f32) (ix2 0 j))
        (fun j => (iblk m c 2 t : Vec Ideal S1x1x1024 .f32) (ix3 0 0 j)) (fun j => (iblk m c 1 t : Vec Ideal S1x1x1024 .f32) (ix3 0 0 j)) k
        * (iblk m c 4 t : Vec Ideal S1024x2432 .bf16) (ix2 k ⟨(lane q n).val, by have := (lane q n).isLt; omega⟩))
      = fun n => col m c (ptB t) (ptS t r) ⟨(lane q n).val, by have := (lane q n).isLt; omega⟩ :=
    funext fun n => colLow m c t r ⟨(lane q n).val, by have := (lane q n).isLt; omega⟩ (by have := (lane q n).isLt; show (lane q n).val < 1352; omega)
  have hB : (fun k l : Fin 128 => ((iblk m c 7 t : Vec Ideal S128x128 .bf16) (ix2 k l) : EReal)) = blkOne := funext fun k => funext fun l => blk7 m c t k l
  have hg : (fun l : Fin 128 => ((iblk m c 5 t : Vec Ideal S2x128 .f32) (ix2 0 l) : EReal)) = fun l => hG m c (ix1 ⟨l.val % 64, by omega⟩) :=
    funext fun l => blk5 m c t l
  have h0 : (fun l : Fin 128 => ((iblk m c 6 t : Vec Ideal S6x512x128 .f32) (ix3 0 r l) : EReal)) = fun l => ck (ptS t r).val l.val := funext fun l => tab0 m c t r l
  have h1 : (fun l : Fin 128 => ((iblk m c 6 t : Vec Ideal S6x512x128 .f32) (ix3 1 r l) : EReal)) = fun l => sak (ptS t r).val l.val := funext fun l => tab1 m c t r l
  have h2 : (fun l : Fin 128 => ((iblk m c 6 t : Vec Ideal S6x512x128 .f32) (ix3 2 r l) : EReal)) = fun l => sbk (ptS t r).val l.val := funext fun l => tab2 m c t r l
  rw [hY, hB, hg, h0, h1, h2]
  exact congrArg (fun z : EReal => z * Ideal.ofBits .f32 0x3E000000#32)
    (rowTurn_eq (fun n => proj_real (fun k => hx _) (fun k => hn _) (fun k => hm _) (fun k => hm _) fun k => hw _) (fun e => hG m c (ix1 e)) _ l)

end Cert.InQueryIdeal.Gen

namespace Cert.InQueryRefIdeal.Value

open Cert.InQueryRefIdeal Cert.InQueryRefIdeal.Gen Cert.Proof.In

set_option maxRecDepth 16384
set_option maxHeartbeats 8000000

theorem scaled (z : Vec Ideal S4x4096x512 .f32) (i : S4x4096x512.Idx) :
    (truncf (F := Ideal) .bf16 (mulf z (broadcastInDim S4x4096x512 ![] bcast_S_S4x4096x512 (constant (F := Ideal) S_ .f32 0x3E000000#32))) bitsLt_bf16_f32 : Vec Ideal S4x4096x512 .bf16) i
      = z i * Ideal.ofBits .f32 0x3E000000#32 := by
  rfl

/-- The reference's queries, entry by entry. -/
theorem ref_q (a0 : Vec Ideal S4x4096x1024 .f32) (a1 : Vec Ideal S4x1x6144 .f32) (a2 : Vec Ideal S1024 .f32) (a3 : Vec Ideal S1024x2376 .f32)
    (a4 : Vec Ideal S64 .f32) (b : Fin 4) (s : Fin 4096) (q : Fin 4) (l : Fin 128) :
    (truncf (F := Ideal) .bf16 (mulf (turnQ (normQ (projQ a0 a1 a2 a3) a4)) (broadcastInDim S4x4096x512 ![] bcast_S_S4x4096x512 (constant (F := Ideal) S_ .f32 0x3E000000#32))) bitsLt_bf16_f32 : Vec Ideal S4x4096x512 .bf16) (ix3 b s (lane q l))
      = turned s.val (headNorm (fun n => proj (fun j => a0 (ix3 b s j)) (fun j => a2 (ix1 j)) (fun j => a1 (ix3 b 0 ⟨1024 + j.val, by have := j.isLt; omega⟩))
          (fun j => a1 (ix3 b 0 ⟨j.val, by have := j.isLt; omega⟩)) (fun k => a3 (ix2 k ⟨(lane q n).val, by have := (lane q n).isLt; omega⟩))) fun e => a4 (ix1 e)) l * Ideal.ofBits .f32 0x3E000000#32 := by
  refine (scaled _ _).trans (congrArg (fun z : EReal => z * Ideal.ofBits .f32 0x3E000000#32) ?_)
  rw [turnQ_apply]
  congr 1
  funext n
  rw [normQ_apply]
  congr 1
  funext n
  exact projQ_apply a0 a1 a2 a3 b s (lane q n)

end Cert.InQueryRefIdeal.Value

namespace Cert.Proof.InQuery

open Cert.Proof.In

set_option maxRecDepth 16384
set_option maxHeartbeats 8000000

/-- The value claim of the queries: over the extended reals, for finite inputs, the query array is the reference's. -/
theorem algebraic : Cert.algebraic_InQueryIdeal_InQueryRefIdeal_pre_finite_inputs (hInQueryIdeal := Cert.InQueryIdeal.Gen.facts)
    (hInQueryRefIdeal := Cert.InQueryRefIdeal.Gen.facts) (hPre_finite_inputs := preFacts) := by
  intro m g m' g' hpre hagree
  refine ⟨fun c => (Cert.InQueryIdeal.Gen.dats m 0 c).arrAt 8 Cert.InQueryIdeal.cfg0.N,
    θ_run_mono (Cert.InQueryIdeal.Value.run_blocks m g) fun r h c => ?_,
    θ_run_mono (Cert.InQueryRefIdeal.Value.run m' g') fun r h c => ⟨(h c).1.trans ?_, (h c).2⟩⟩
  · obtain ⟨h2, -, -, -, -, -, -, -, -, ha⟩ := h c
    exact ⟨h2, ha⟩
  obtain ⟨e0, e1, e2, e3, e4, e5⟩ := hagree c
  obtain ⟨p0, p1, p2, p3⟩ := hpre c
  unfold Cert.InQueryRefIdeal.Value.res_main_v79
  rw [e0, e1, e2, e3, e4]
  funext i
  obtain ⟨b, s, q, l, rfl⟩ : ∃ (b : Fin 4) (s : Fin 4096) (q : Fin 4) (l : Fin 128), i = (ix3 b s (lane q l) : Cert.InQueryIdeal.S4x4096x512.Idx) := by
    have h2 : (i 2).val < 512 := (i 2).isLt
    refine ⟨i 0, i 1, ⟨(i 2).val / 128, by omega⟩, ⟨(i 2).val % 128, by omega⟩, funext fun a => Fin.ext ?_⟩
    match a with
    | ⟨0, _⟩ => rfl
    | ⟨1, _⟩ => rfl
    | ⟨2, _⟩ => show (i 2).val = (i 2).val / 128 * 128 + (i 2).val % 128; omega
  exact (Cert.InQueryRefIdeal.Value.ref_q _ _ _ _ _ b s q l).trans (Cert.InQueryIdeal.Gen.q_eq m c (fun i => isReal_of_abs_lt (congrFun p0 i))
    (fun i => isReal_of_abs_lt (congrFun p1 i)) (fun i => isReal_of_abs_lt (congrFun p2 i)) (fun i => isReal_of_abs_lt (congrFun p3 i)) b s q l).symm

end Cert.Proof.InQuery

end
-- ==== Proof.lean ====
module

public import proofs.«01_k».proof.Defs
public import proofs.«01_k».proof.Proof.Gen.Attn
public import proofs.«01_k».proof.Proof.Gen.Attn.Frame
public import proofs.«01_k».proof.Proof.Gen.Attn.Skeleton
public import proofs.«01_k».proof.Proof.Gen.Moe
public import proofs.«01_k».proof.Proof.Gen.Moe.Frame
public import proofs.«01_k».proof.Proof.Gen.MoeIdeal
public import proofs.«01_k».proof.Proof.Gen.MoeIdeal.Frame
public import proofs.«01_k».proof.Proof.Gen.MoeIdeal.Value
public import proofs.«01_k».proof.Proof.Gen.MoeRefIdeal
public import proofs.«01_k».proof.Proof.Gen.MoeRefIdeal.Run
public import proofs.«01_k».proof.Proof.Gen.MoeSample
public import proofs.«01_k».proof.Proof.Gen.MoeSample.Frame
public import proofs.«01_k».proof.Proof.Gen.MoeSampleIdeal
public import proofs.«01_k».proof.Proof.Gen.MoeSampleIdeal.Frame
public import proofs.«01_k».proof.Proof.Gen.MoeSampleIdeal.Value
public import proofs.«01_k».proof.Proof.Gen.MoeSampleRefIdeal
public import proofs.«01_k».proof.Proof.Gen.MoeSampleRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjSample
public import proofs.«01_k».proof.Proof.Gen.InProjSample.Frame
public import proofs.«01_k».proof.Proof.Gen.InProjSampleIdeal
public import proofs.«01_k».proof.Proof.Gen.InProjSampleIdeal.Frame
public import proofs.«01_k».proof.Proof.Gen.InProjSampleIdeal.Value
public import proofs.«01_k».proof.Proof.Gen.InProjSampleRefIdeal
public import proofs.«01_k».proof.Proof.Gen.InProjSampleRefIdeal.Run
public import proofs.«01_k».proof.Proof.Gen.InKey
public import proofs.«01_k».proof.Proof.Gen.InKey.Frame
public import proofs.«01_k».proof.Proof.Gen.InKeyIdeal
public import proofs.«01_k».proof.Proof.Gen.InKeyIdeal.Frame
public import proofs.«01_k».proof.Proof.Gen.InKeyIdeal.Value
public import proofs.«01_k».proof.Proof.Gen.InKeyRefIdeal
public import proofs.«01_k».proof.Proof.Gen.InKeyRefIdeal.Run
public import proofs.«01_k».proof.Proof.Gen.InKeySample
public import proofs.«01_k».proof.Proof.Gen.InKeySample.Frame
public import proofs.«01_k».proof.Proof.Gen.InKeySampleIdeal
public import proofs.«01_k».proof.Proof.Gen.InKeySampleIdeal.Frame
public import proofs.«01_k».proof.Proof.Gen.InKeySampleIdeal.Value
public import proofs.«01_k».proof.Proof.Gen.InKeySampleRefIdeal
public import proofs.«01_k».proof.Proof.Gen.InKeySampleRefIdeal.Run
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostSample
public import proofs.«01_k».proof.Proof.Gen.PostSample.Frame
public import proofs.«01_k».proof.Proof.Gen.PostSampleIdeal
public import proofs.«01_k».proof.Proof.Gen.PostSampleIdeal.Frame
public import proofs.«01_k».proof.Proof.Gen.PostSampleIdeal.Value
public import proofs.«01_k».proof.Proof.Gen.PostSampleRefIdeal
public import proofs.«01_k».proof.Proof.Gen.PostSampleRefIdeal.Run
public import proofs.«01_k».proof.Proof.Gen.InQuery
public import proofs.«01_k».proof.Proof.Gen.InQuery.Frame
public import proofs.«01_k».proof.Proof.Gen.InQueryIdeal
public import proofs.«01_k».proof.Proof.Gen.InQueryIdeal.Frame
public import proofs.«01_k».proof.Proof.Gen.InQueryIdeal.Value
public import proofs.«01_k».proof.Proof.Gen.InQueryRefIdeal
public import proofs.«01_k».proof.Proof.Gen.InQueryRefIdeal.Run
public import proofs.«01_k».proof.Proof.Gen.InIndex
public import proofs.«01_k».proof.Proof.Gen.InIndex.Frame
public import proofs.«01_k».proof.Proof.Gen.InIndexIdeal
public import proofs.«01_k».proof.Proof.Gen.InIndexIdeal.Frame
public import proofs.«01_k».proof.Proof.Gen.InIndexIdeal.Value
public import proofs.«01_k».proof.Proof.Gen.InIndexRefIdeal
public import proofs.«01_k».proof.Proof.Gen.InIndexRefIdeal.Run
public import proofs.«01_k».proof.Proof.AttnFrame
public import proofs.«01_k».proof.Proof.MoeValue
public import proofs.«01_k».proof.Proof.MoeSampleValue
public import proofs.«01_k».proof.Proof.InValue
public import proofs.«01_k».proof.Proof.InSampleValue
public import proofs.«01_k».proof.Proof.KeyMath
public import proofs.«01_k».proof.Proof.KeyHost
public import proofs.«01_k».proof.Proof.KeyBlocks
public import proofs.«01_k».proof.Proof.KeyStep
public import proofs.«01_k».proof.Proof.KeyRef
public import proofs.«01_k».proof.Proof.KeyValue
public import proofs.«01_k».proof.Proof.KeySampleHost
public import proofs.«01_k».proof.Proof.KeySampleStep
public import proofs.«01_k».proof.Proof.KeySampleBlocks
public import proofs.«01_k».proof.Proof.KeySampleRef
public import proofs.«01_k».proof.Proof.KeySampleValue
public import proofs.«01_k».proof.Proof.PostStep
public import proofs.«01_k».proof.Proof.PostBlocks
public import proofs.«01_k».proof.Proof.PostValue
public import proofs.«01_k».proof.Proof.PostSampleStep
public import proofs.«01_k».proof.Proof.PostSampleBlocks
public import proofs.«01_k».proof.Proof.PostSampleValue
public import proofs.«01_k».proof.Proof.IndexHost
public import proofs.«01_k».proof.Proof.IndexBlocks
public import proofs.«01_k».proof.Proof.IndexStep
public import proofs.«01_k».proof.Proof.IndexRef
public import proofs.«01_k».proof.Proof.IndexValue
public import proofs.«01_k».proof.Proof.QueryHost
public import proofs.«01_k».proof.Proof.QueryBlocks
public import proofs.«01_k».proof.Proof.QueryStep
public import proofs.«01_k».proof.Proof.QueryRef
public import proofs.«01_k».proof.Proof.QueryValue

@[expose] public section

open Idealize.ShloMosaic Idealize.SL.Sem

namespace Cert.Proof

/-- The reference of the expert call computes on the host alone: it leaves its arguments as they are and declares no
    semaphore. -/
theorem frame_moe_ref : Cert.quiescent_MoeRefIdeal (hMoeRefIdeal := Cert.MoeRefIdeal.Gen.facts) := fun m ρ _ =>
  θ_run_mono (Cert.MoeRefIdeal.Value.run (F := Ideal) m ρ) fun r h =>
    ⟨fun c => (h c).2, sem_eq_zero_of_no_sems (by decide) r.2⟩

/-- The same of the reference at the sample batch's shapes. -/
theorem frame_moe_sample_ref : Cert.quiescent_MoeSampleRefIdeal (hMoeSampleRefIdeal := Cert.MoeSampleRefIdeal.Gen.facts) := fun m ρ _ =>
  θ_run_mono (Cert.MoeSampleRefIdeal.Value.run (F := Ideal) m ρ) fun r h =>
    ⟨fun c => (h c).2, sem_eq_zero_of_no_sems (by decide) r.2⟩

/-- The same of the input projection's reference. -/
theorem frame_in_ref : Cert.quiescent_InProjRefIdeal (hInProjRefIdeal := Cert.InProjRefIdeal.Gen.facts) := fun m ρ _ =>
  θ_run_mono (Cert.InProjRefIdeal.Value.run (F := Ideal) m ρ) fun r h =>
    ⟨fun c => (h c).2.2.2, sem_eq_zero_of_no_sems (by decide) r.2⟩

/-- The same of the reference at the sample batch's shapes. -/
theorem frame_in_sample_ref : Cert.quiescent_InProjSampleRefIdeal (hInProjSampleRefIdeal := Cert.InProjSampleRefIdeal.Gen.facts) := fun m ρ _ =>
  θ_run_mono (Cert.InProjSampleRefIdeal.Value.run (F := Ideal) m ρ) fun r h =>
    ⟨fun c => (h c).2.2.2, sem_eq_zero_of_no_sems (by decide) r.2⟩

/-- The same of the reference of the keys, and of the one at the sample batch's shapes. -/
theorem frame_in_key_ref : Cert.quiescent_InKeyRefIdeal (hInKeyRefIdeal := Cert.InKeyRefIdeal.Gen.facts) := fun m ρ _ =>
  θ_run_mono (Cert.InKeyRefIdeal.Value.run (F := Ideal) m ρ) fun r h =>
    ⟨fun c => (h c).2, sem_eq_zero_of_no_sems (by decide) r.2⟩

theorem frame_in_key_sample_ref : Cert.quiescent_InKeySampleRefIdeal (hInKeySampleRefIdeal := Cert.InKeySampleRefIdeal.Gen.facts) := fun m ρ _ =>
  θ_run_mono (Cert.InKeySampleRefIdeal.Value.run (F := Ideal) m ρ) fun r h =>
    ⟨fun c => (h c).2, sem_eq_zero_of_no_sems (by decide) r.2⟩

/-- The same of the output projection's reference. -/
theorem frame_post_ref : Cert.quiescent_PostRefIdeal (hPostRefIdeal := Cert.PostRefIdeal.Gen.facts) := fun m ρ _ =>
  θ_run_mono (Cert.PostRefIdeal.Value.run (F := Ideal) m ρ) fun r h =>
    ⟨fun c => (h c).2.2, sem_eq_zero_of_no_sems (by decide) r.2⟩

/-- The same of the reference at the sample batch's shapes. -/
theorem frame_post_sample_ref : Cert.quiescent_PostSampleRefIdeal (hPostSampleRefIdeal := Cert.PostSampleRefIdeal.Gen.facts) := fun m ρ _ =>
  θ_run_mono (Cert.PostSampleRefIdeal.Value.run (F := Ideal) m ρ) fun r h =>
    ⟨fun c => (h c).2.2, sem_eq_zero_of_no_sems (by decide) r.2⟩

/-- The same of the reference of the queries, and of the indexer's queries. -/
theorem frame_in_query_ref : Cert.quiescent_InQueryRefIdeal (hInQueryRefIdeal := Cert.InQueryRefIdeal.Gen.facts) := fun m ρ _ =>
  θ_run_mono (Cert.InQueryRefIdeal.Value.run (F := Ideal) m ρ) fun r h =>
    ⟨fun c => (h c).2, sem_eq_zero_of_no_sems (by decide) r.2⟩

theorem frame_in_index_ref : Cert.quiescent_InIndexRefIdeal (hInIndexRefIdeal := Cert.InIndexRefIdeal.Gen.facts) := fun m ρ _ =>
  θ_run_mono (Cert.InIndexRefIdeal.Value.run (F := Ideal) m ρ) fun r h =>
    ⟨fun c => (h c).2, sem_eq_zero_of_no_sems (by decide) r.2⟩

theorem claim : Cert.Claim := ⟨Cert.Attn.Gen.facts, Cert.Moe.Gen.facts, Cert.MoeIdeal.Gen.facts, Cert.MoeRefIdeal.Gen.facts,
  Cert.MoeSample.Gen.facts, Cert.MoeSampleIdeal.Gen.facts, Cert.MoeSampleRefIdeal.Gen.facts,
  Cert.InProj.Gen.facts, Cert.InProjIdeal.Gen.facts, Cert.InProjRefIdeal.Gen.facts,
  Cert.InProjSample.Gen.facts, Cert.InProjSampleIdeal.Gen.facts, Cert.InProjSampleRefIdeal.Gen.facts,
  Cert.InKey.Gen.facts, Cert.InKeyIdeal.Gen.facts, Cert.InKeyRefIdeal.Gen.facts,
  Cert.InKeySample.Gen.facts, Cert.InKeySampleIdeal.Gen.facts, Cert.InKeySampleRefIdeal.Gen.facts,
  Cert.Post.Gen.facts, Cert.PostIdeal.Gen.facts, Cert.PostRefIdeal.Gen.facts,
  Cert.PostSample.Gen.facts, Cert.PostSampleIdeal.Gen.facts, Cert.PostSampleRefIdeal.Gen.facts,
  Cert.InQuery.Gen.facts, Cert.InQueryIdeal.Gen.facts, Cert.InQueryRefIdeal.Gen.facts,
  Cert.InIndex.Gen.facts, Cert.InIndexIdeal.Gen.facts, Cert.InIndexRefIdeal.Gen.facts,
  Cert.Proof.In.preFacts, Cert.Proof.In.preSampleFacts,
  fun m ρ _ => Cert.Proof.Attn.frame m ρ,
  fun m ρ _ => Cert.Moe.Gen.frame m ρ,
  fun m ρ _ => Cert.MoeIdeal.Gen.frame m ρ,
  frame_moe_ref,
  fun m ρ _ => Cert.MoeSample.Gen.frame m ρ,
  fun m ρ _ => Cert.MoeSampleIdeal.Gen.frame m ρ,
  frame_moe_sample_ref,
  fun m ρ _ => Cert.InProj.Gen.frame m ρ,
  fun m ρ _ => Cert.InProjIdeal.Gen.frame m ρ,
  frame_in_ref,
  fun m ρ _ => Cert.InProjSample.Gen.frame m ρ,
  fun m ρ _ => Cert.InProjSampleIdeal.Gen.frame m ρ,
  frame_in_sample_ref,
  fun m ρ _ => Cert.InKey.Gen.frame m ρ,
  fun m ρ _ => Cert.InKeyIdeal.Gen.frame m ρ,
  fun m ρ _ => Cert.InKeyIdeal.Gen.frame m ρ,
  frame_in_key_ref,
  fun m ρ _ => frame_in_key_ref m ρ trivial,
  fun m ρ _ => Cert.InKeySample.Gen.frame m ρ,
  fun m ρ _ => Cert.InKeySampleIdeal.Gen.frame m ρ,
  fun m ρ _ => Cert.InKeySampleIdeal.Gen.frame m ρ,
  frame_in_key_sample_ref,
  fun m ρ _ => frame_in_key_sample_ref m ρ trivial,
  fun m ρ _ => Cert.Post.Gen.frame m ρ,
  fun m ρ _ => Cert.PostIdeal.Gen.frame m ρ,
  frame_post_ref,
  fun m ρ _ => Cert.PostSample.Gen.frame m ρ,
  fun m ρ _ => Cert.PostSampleIdeal.Gen.frame m ρ,
  frame_post_sample_ref,
  fun m ρ _ => Cert.InQuery.Gen.frame m ρ,
  fun m ρ _ => Cert.InQueryIdeal.Gen.frame m ρ,
  fun m ρ _ => Cert.InQueryIdeal.Gen.frame m ρ,
  frame_in_query_ref,
  fun m ρ _ => frame_in_query_ref m ρ trivial,
  fun m ρ _ => Cert.InIndex.Gen.frame m ρ,
  fun m ρ _ => Cert.InIndexIdeal.Gen.frame m ρ,
  frame_in_index_ref,
  trivial,
  Cert.Proof.Moe.algebraic,
  trivial,
  Cert.Proof.MoeSample.algebraic,
  trivial,
  Cert.Proof.In.algebraic,
  trivial,
  Cert.Proof.InSample.algebraic,
  trivial,
  Cert.Proof.InKey.algebraic,
  trivial,
  Cert.Proof.InKeySample.algebraic,
  trivial,
  Cert.Proof.Post.algebraic,
  trivial,
  Cert.Proof.Post.sample_algebraic,
  trivial,
  Cert.Proof.InQuery.algebraic,
  trivial,
  Cert.Proof.InIndex.algebraic⟩

end Cert.Proof
